-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelRelu (m : (ℓ : Loc Cert.KernelRelu.nD Cert.KernelRelu.τ Cert.KernelRelu.sig) → Buf (Elt Bits) ℓ) : Prop :=
  True

def Pre_KernelReluIdeal (m : (ℓ : Loc Cert.KernelReluIdeal.nD Cert.KernelReluIdeal.τ Cert.KernelReluIdeal.sig) → Buf (Elt Ideal) ℓ) : Prop :=
  True

def Pre_ReferenceReluIdeal (m : (ℓ : Loc Cert.ReferenceReluIdeal.nD Cert.ReferenceReluIdeal.τ Cert.ReferenceReluIdeal.sig) → Buf (Elt Ideal) ℓ) : Prop :=
  True

def Pre_KernelW2 (m : (ℓ : Loc Cert.KernelW2.nD Cert.KernelW2.τ Cert.KernelW2.sig) → Buf (Elt Bits) ℓ) : Prop :=
  True

def Pre_KernelW2Ideal (m : (ℓ : Loc Cert.KernelW2Ideal.nD Cert.KernelW2Ideal.τ Cert.KernelW2Ideal.sig) → Buf (Elt Ideal) ℓ) : Prop :=
  True

def Pre_ReferenceW2Ideal (m : (ℓ : Loc Cert.ReferenceW2Ideal.nD Cert.ReferenceW2Ideal.τ Cert.ReferenceW2Ideal.sig) → Buf (Elt Ideal) ℓ) : Prop :=
  True

def Pre_KernelW1 (m : (ℓ : Loc Cert.KernelW1.nD Cert.KernelW1.τ Cert.KernelW1.sig) → Buf (Elt Bits) ℓ) : Prop :=
  True

def Pre_KernelW1Ideal (m : (ℓ : Loc Cert.KernelW1Ideal.nD Cert.KernelW1Ideal.τ Cert.KernelW1Ideal.sig) → Buf (Elt Ideal) ℓ) : Prop :=
  True

def Pre_ReferenceW1Ideal (m : (ℓ : Loc Cert.ReferenceW1Ideal.nD Cert.ReferenceW1Ideal.τ Cert.ReferenceW1Ideal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_KernelNormIdeal_finite_norm [hPre_finite_norm : Cert.Pre_finite_norm.Facts] (m : (ℓ : Loc Cert.KernelNormIdeal.nD Cert.KernelNormIdeal.τ Cert.KernelNormIdeal.sig) → Buf (Elt Ideal) ℓ) : Prop :=
  ∀ c : Dev Cert.KernelNormIdeal.nD,
    (Cert.Pre_finite_norm.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4)) (m ((c.tc : Thread Cert.KernelNormIdeal.nD Cert.KernelNormIdeal.τ).loc Cert.KernelNormIdeal.main_arg5))) = (fun _ => 1#1)

def Pre_ReferenceNormIdeal (m : (ℓ : Loc Cert.ReferenceNormIdeal.nD Cert.ReferenceNormIdeal.τ Cert.ReferenceNormIdeal.sig) → Buf (Elt Ideal) ℓ) : Prop :=
  True

def Pre_ReferenceNormIdeal_finite_norm [hPre_finite_norm : Cert.Pre_finite_norm.Facts] (m : (ℓ : Loc Cert.ReferenceNormIdeal.nD Cert.ReferenceNormIdeal.τ Cert.ReferenceNormIdeal.sig) → Buf (Elt Ideal) ℓ) : Prop :=
  ∀ c : Dev Cert.ReferenceNormIdeal.nD,
    (Cert.Pre_finite_norm.fn (F := Ideal) (m ((c.tc : Thread Cert.ReferenceNormIdeal.nD Cert.ReferenceNormIdeal.τ).loc Cert.ReferenceNormIdeal.main_arg0)) (m ((c.tc : Thread Cert.ReferenceNormIdeal.nD Cert.ReferenceNormIdeal.τ).loc Cert.ReferenceNormIdeal.main_arg1)) (m ((c.tc : Thread Cert.ReferenceNormIdeal.nD Cert.ReferenceNormIdeal.τ).loc Cert.ReferenceNormIdeal.main_arg2)) (m ((c.tc : Thread Cert.ReferenceNormIdeal.nD Cert.ReferenceNormIdeal.τ).loc Cert.ReferenceNormIdeal.main_arg3)) (m ((c.tc : Thread Cert.ReferenceNormIdeal.nD Cert.ReferenceNormIdeal.τ).loc Cert.ReferenceNormIdeal.main_arg4)) (m ((c.tc : Thread Cert.ReferenceNormIdeal.nD Cert.ReferenceNormIdeal.τ).loc Cert.ReferenceNormIdeal.main_arg5))) = (fun _ => 1#1)

def Pre_KernelNormIn (m : (ℓ : Loc Cert.KernelNormIn.nD Cert.KernelNormIn.τ Cert.KernelNormIn.sig) → Buf (Elt Bits) ℓ) : Prop :=
  True

def Pre_KernelNormInIdeal (m : (ℓ : Loc Cert.KernelNormInIdeal.nD Cert.KernelNormInIdeal.τ Cert.KernelNormInIdeal.sig) → Buf (Elt Ideal) ℓ) : Prop :=
  True

def Pre_KernelNormInIdeal_finite_norm_in [hPre_finite_norm_in : Cert.Pre_finite_norm_in.Facts] (m : (ℓ : Loc Cert.KernelNormInIdeal.nD Cert.KernelNormInIdeal.τ Cert.KernelNormInIdeal.sig) → Buf (Elt Ideal) ℓ) : Prop :=
  ∀ c : Dev Cert.KernelNormInIdeal.nD,
    (Cert.Pre_finite_norm_in.fn (F := Ideal) (m ((c.tc : Thread Cert.KernelNormInIdeal.nD Cert.KernelNormInIdeal.τ).loc Cert.KernelNormInIdeal.main_arg0)) (m ((c.tc : Thread Cert.KernelNormInIdeal.nD Cert.KernelNormInIdeal.τ).loc Cert.KernelNormInIdeal.main_arg1)) (m ((c.tc : Thread Cert.KernelNormInIdeal.nD Cert.KernelNormInIdeal.τ).loc Cert.KernelNormInIdeal.main_arg2)) (m ((c.tc : Thread Cert.KernelNormInIdeal.nD Cert.KernelNormInIdeal.τ).loc Cert.KernelNormInIdeal.main_arg3)) (m ((c.tc : Thread Cert.KernelNormInIdeal.nD Cert.KernelNormInIdeal.τ).loc Cert.KernelNormInIdeal.main_arg4)) (m ((c.tc : Thread Cert.KernelNormInIdeal.nD Cert.KernelNormInIdeal.τ).loc Cert.KernelNormInIdeal.main_arg5))) = (fun _ => 1#1)

def Pre_ReferenceNormInIdeal (m : (ℓ : Loc Cert.ReferenceNormInIdeal.nD Cert.ReferenceNormInIdeal.τ Cert.ReferenceNormInIdeal.sig) → Buf (Elt Ideal) ℓ) : Prop :=
  True

def Pre_ReferenceNormInIdeal_finite_norm_in [hPre_finite_norm_in : Cert.Pre_finite_norm_in.Facts] (m : (ℓ : Loc Cert.ReferenceNormInIdeal.nD Cert.ReferenceNormInIdeal.τ Cert.ReferenceNormInIdeal.sig) → Buf (Elt Ideal) ℓ) : Prop :=
  ∀ c : Dev Cert.ReferenceNormInIdeal.nD,
    (Cert.Pre_finite_norm_in.fn (F := Ideal) (m ((c.tc : Thread Cert.ReferenceNormInIdeal.nD Cert.ReferenceNormInIdeal.τ).loc Cert.ReferenceNormInIdeal.main_arg0)) (m ((c.tc : Thread Cert.ReferenceNormInIdeal.nD Cert.ReferenceNormInIdeal.τ).loc Cert.ReferenceNormInIdeal.main_arg1)) (m ((c.tc : Thread Cert.ReferenceNormInIdeal.nD Cert.ReferenceNormInIdeal.τ).loc Cert.ReferenceNormInIdeal.main_arg2)) (m ((c.tc : Thread Cert.ReferenceNormInIdeal.nD Cert.ReferenceNormInIdeal.τ).loc Cert.ReferenceNormInIdeal.main_arg3)) (m ((c.tc : Thread Cert.ReferenceNormInIdeal.nD Cert.ReferenceNormInIdeal.τ).loc Cert.ReferenceNormInIdeal.main_arg4)) (m ((c.tc : Thread Cert.ReferenceNormInIdeal.nD Cert.ReferenceNormInIdeal.τ).loc Cert.ReferenceNormInIdeal.main_arg5))) = (fun _ => 1#1)

def Pre_KernelOutDx (m : (ℓ : Loc Cert.KernelOutDx.nD Cert.KernelOutDx.τ Cert.KernelOutDx.sig) → Buf (Elt Bits) ℓ) : Prop :=
  True

def Pre_KernelOutDxIdeal (m : (ℓ : Loc Cert.KernelOutDxIdeal.nD Cert.KernelOutDxIdeal.τ Cert.KernelOutDxIdeal.sig) → Buf (Elt Ideal) ℓ) : Prop :=
  True

def Pre_ReferenceOutDxIdeal (m : (ℓ : Loc Cert.ReferenceOutDxIdeal.nD Cert.ReferenceOutDxIdeal.τ Cert.ReferenceOutDxIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelKDw (m : (ℓ : Loc Cert.KernelKDw.nD Cert.KernelKDw.τ Cert.KernelKDw.sig) → Buf (Elt Bits) ℓ) : Prop :=
  True

def Pre_KernelKDwIdeal (m : (ℓ : Loc Cert.KernelKDwIdeal.nD Cert.KernelKDwIdeal.τ Cert.KernelKDwIdeal.sig) → Buf (Elt Ideal) ℓ) : Prop :=
  True

def Pre_ReferenceKDwIdeal (m : (ℓ : Loc Cert.ReferenceKDwIdeal.nD Cert.ReferenceKDwIdeal.τ Cert.ReferenceKDwIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelQDx (m : (ℓ : Loc Cert.KernelQDx.nD Cert.KernelQDx.τ Cert.KernelQDx.sig) → Buf (Elt Bits) ℓ) : Prop :=
  True

def Pre_KernelQDxIdeal (m : (ℓ : Loc Cert.KernelQDxIdeal.nD Cert.KernelQDxIdeal.τ Cert.KernelQDxIdeal.sig) → Buf (Elt Ideal) ℓ) : Prop :=
  True

def Pre_ReferenceQDxIdeal (m : (ℓ : Loc Cert.ReferenceQDxIdeal.nD Cert.ReferenceQDxIdeal.τ Cert.ReferenceQDxIdeal.sig) → Buf (Elt Ideal) ℓ) : Prop :=
  True

def Pre_KernelKDx (m : (ℓ : Loc Cert.KernelKDx.nD Cert.KernelKDx.τ Cert.KernelKDx.sig) → Buf (Elt Bits) ℓ) : Prop :=
  True

def Pre_KernelKDxIdeal (m : (ℓ : Loc Cert.KernelKDxIdeal.nD Cert.KernelKDxIdeal.τ Cert.KernelKDxIdeal.sig) → Buf (Elt Ideal) ℓ) : Prop :=
  True

def Pre_ReferenceKDxIdeal (m : (ℓ : Loc Cert.ReferenceKDxIdeal.nD Cert.ReferenceKDxIdeal.τ Cert.ReferenceKDxIdeal.sig) → Buf (Elt Ideal) ℓ) : Prop :=
  True

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_ReferenceInDxIdeal (m : (ℓ : Loc Cert.ReferenceInDxIdeal.nD Cert.ReferenceInDxIdeal.τ Cert.ReferenceInDxIdeal.sig) → Buf (Elt Ideal) ℓ) : Prop :=
  True

def Pre_KernelHidden (m : (ℓ : Loc Cert.KernelHidden.nD Cert.KernelHidden.τ Cert.KernelHidden.sig) → Buf (Elt Bits) ℓ) : Prop :=
  True

def Pre_KernelHiddenIdeal (m : (ℓ : Loc Cert.KernelHiddenIdeal.nD Cert.KernelHiddenIdeal.τ Cert.KernelHiddenIdeal.sig) → Buf (Elt Ideal) ℓ) : Prop :=
  True

def Pre_ReferenceHiddenIdeal (m : (ℓ : Loc Cert.ReferenceHiddenIdeal.nD Cert.ReferenceHiddenIdeal.τ Cert.ReferenceHiddenIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_KernelLnIdeal_finite_ln [hPre_finite_ln : Cert.Pre_finite_ln.Facts] (m : (ℓ : Loc Cert.KernelLnIdeal.nD Cert.KernelLnIdeal.τ Cert.KernelLnIdeal.sig) → Buf (Elt Ideal) ℓ) : Prop :=
  ∀ c : Dev Cert.KernelLnIdeal.nD,
    (Cert.Pre_finite_ln.fn (F := Ideal) (m ((c.tc : Thread Cert.KernelLnIdeal.nD Cert.KernelLnIdeal.τ).loc Cert.KernelLnIdeal.main_arg0)) (m ((c.tc : Thread Cert.KernelLnIdeal.nD Cert.KernelLnIdeal.τ).loc Cert.KernelLnIdeal.main_arg1)) (m ((c.tc : Thread Cert.KernelLnIdeal.nD Cert.KernelLnIdeal.τ).loc Cert.KernelLnIdeal.main_arg2)) (m ((c.tc : Thread Cert.KernelLnIdeal.nD Cert.KernelLnIdeal.τ).loc Cert.KernelLnIdeal.main_arg3))) = (fun _ => 1#1)

def Pre_ReferenceLnIdeal (m : (ℓ : Loc Cert.ReferenceLnIdeal.nD Cert.ReferenceLnIdeal.τ Cert.ReferenceLnIdeal.sig) → Buf (Elt Ideal) ℓ) : Prop :=
  True

def Pre_ReferenceLnIdeal_finite_ln [hPre_finite_ln : Cert.Pre_finite_ln.Facts] (m : (ℓ : Loc Cert.ReferenceLnIdeal.nD Cert.ReferenceLnIdeal.τ Cert.ReferenceLnIdeal.sig) → Buf (Elt Ideal) ℓ) : Prop :=
  ∀ c : Dev Cert.ReferenceLnIdeal.nD,
    (Cert.Pre_finite_ln.fn (F := Ideal) (m ((c.tc : Thread Cert.ReferenceLnIdeal.nD Cert.ReferenceLnIdeal.τ).loc Cert.ReferenceLnIdeal.main_arg0)) (m ((c.tc : Thread Cert.ReferenceLnIdeal.nD Cert.ReferenceLnIdeal.τ).loc Cert.ReferenceLnIdeal.main_arg1)) (m ((c.tc : Thread Cert.ReferenceLnIdeal.nD Cert.ReferenceLnIdeal.τ).loc Cert.ReferenceLnIdeal.main_arg2)) (m ((c.tc : Thread Cert.ReferenceLnIdeal.nD Cert.ReferenceLnIdeal.τ).loc Cert.ReferenceLnIdeal.main_arg3))) = (fun _ => 1#1)

def Pre_KernelHead (m : (ℓ : Loc Cert.KernelHead.nD Cert.KernelHead.τ Cert.KernelHead.sig) → Buf (Elt Bits) ℓ) : Prop :=
  True

def Pre_KernelHeadIdeal (m : (ℓ : Loc Cert.KernelHeadIdeal.nD Cert.KernelHeadIdeal.τ Cert.KernelHeadIdeal.sig) → Buf (Elt Ideal) ℓ) : Prop :=
  True

def Pre_KernelHeadIdeal_finite_head [hPre_finite_head : Cert.Pre_finite_head.Facts] (m : (ℓ : Loc Cert.KernelHeadIdeal.nD Cert.KernelHeadIdeal.τ Cert.KernelHeadIdeal.sig) → Buf (Elt Ideal) ℓ) : Prop :=
  ∀ c : Dev Cert.KernelHeadIdeal.nD,
    (Cert.Pre_finite_head.fn (F := Ideal) (m ((c.tc : Thread Cert.KernelHeadIdeal.nD Cert.KernelHeadIdeal.τ).loc Cert.KernelHeadIdeal.main_arg0)) (m ((c.tc : Thread Cert.KernelHeadIdeal.nD Cert.KernelHeadIdeal.τ).loc Cert.KernelHeadIdeal.main_arg1)) (m ((c.tc : Thread Cert.KernelHeadIdeal.nD Cert.KernelHeadIdeal.τ).loc Cert.KernelHeadIdeal.main_arg2)) (m ((c.tc : Thread Cert.KernelHeadIdeal.nD Cert.KernelHeadIdeal.τ).loc Cert.KernelHeadIdeal.main_arg3))) = (fun _ => 1#1)

def Pre_ReferenceHeadIdeal (m : (ℓ : Loc Cert.ReferenceHeadIdeal.nD Cert.ReferenceHeadIdeal.τ Cert.ReferenceHeadIdeal.sig) → Buf (Elt Ideal) ℓ) : Prop :=
  True

def Pre_ReferenceHeadIdeal_finite_head [hPre_finite_head : Cert.Pre_finite_head.Facts] (m : (ℓ : Loc Cert.ReferenceHeadIdeal.nD Cert.ReferenceHeadIdeal.τ Cert.ReferenceHeadIdeal.sig) → Buf (Elt Ideal) ℓ) : Prop :=
  ∀ c : Dev Cert.ReferenceHeadIdeal.nD,
    (Cert.Pre_finite_head.fn (F := Ideal) (m ((c.tc : Thread Cert.ReferenceHeadIdeal.nD Cert.ReferenceHeadIdeal.τ).loc Cert.ReferenceHeadIdeal.main_arg0)) (m ((c.tc : Thread Cert.ReferenceHeadIdeal.nD Cert.ReferenceHeadIdeal.τ).loc Cert.ReferenceHeadIdeal.main_arg1)) (m ((c.tc : Thread Cert.ReferenceHeadIdeal.nD Cert.ReferenceHeadIdeal.τ).loc Cert.ReferenceHeadIdeal.main_arg2)) (m ((c.tc : Thread Cert.ReferenceHeadIdeal.nD Cert.ReferenceHeadIdeal.τ).loc Cert.ReferenceHeadIdeal.main_arg3))) = (fun _ => 1#1)

def Pre_KernelGateNorm (m : (ℓ : Loc Cert.KernelGateNorm.nD Cert.KernelGateNorm.τ Cert.KernelGateNorm.sig) → Buf (Elt Bits) ℓ) : Prop :=
  True

def Pre_KernelGateNormIdeal (m : (ℓ : Loc Cert.KernelGateNormIdeal.nD Cert.KernelGateNormIdeal.τ Cert.KernelGateNormIdeal.sig) → Buf (Elt Ideal) ℓ) : Prop :=
  True

def Pre_ReferenceGateNormIdeal (m : (ℓ : Loc Cert.ReferenceGateNormIdeal.nD Cert.ReferenceGateNormIdeal.τ Cert.ReferenceGateNormIdeal.sig) → Buf (Elt Ideal) ℓ) : Prop :=
  True

def Pre_KernelPrev (m : (ℓ : Loc Cert.KernelPrev.nD Cert.KernelPrev.τ Cert.KernelPrev.sig) → Buf (Elt Bits) ℓ) : Prop :=
  True

def Pre_KernelPrevIdeal (m : (ℓ : Loc Cert.KernelPrevIdeal.nD Cert.KernelPrevIdeal.τ Cert.KernelPrevIdeal.sig) → Buf (Elt Ideal) ℓ) : Prop :=
  True

def Pre_KernelPrevIdeal_finite_prev [hPre_finite_prev : Cert.Pre_finite_prev.Facts] (m : (ℓ : Loc Cert.KernelPrevIdeal.nD Cert.KernelPrevIdeal.τ Cert.KernelPrevIdeal.sig) → Buf (Elt Ideal) ℓ) : Prop :=
  ∀ c : Dev Cert.KernelPrevIdeal.nD,
    (Cert.Pre_finite_prev.fn (F := Ideal) (m ((c.tc : Thread Cert.KernelPrevIdeal.nD Cert.KernelPrevIdeal.τ).loc Cert.KernelPrevIdeal.main_arg0)) (m ((c.tc : Thread Cert.KernelPrevIdeal.nD Cert.KernelPrevIdeal.τ).loc Cert.KernelPrevIdeal.main_arg1)) (m ((c.tc : Thread Cert.KernelPrevIdeal.nD Cert.KernelPrevIdeal.τ).loc Cert.KernelPrevIdeal.main_arg2)) (m ((c.tc : Thread Cert.KernelPrevIdeal.nD Cert.KernelPrevIdeal.τ).loc Cert.KernelPrevIdeal.main_arg3)) (m ((c.tc : Thread Cert.KernelPrevIdeal.nD Cert.KernelPrevIdeal.τ).loc Cert.KernelPrevIdeal.main_arg4)) (m ((c.tc : Thread Cert.KernelPrevIdeal.nD Cert.KernelPrevIdeal.τ).loc Cert.KernelPrevIdeal.main_arg5))) = (fun _ => 1#1)

def Pre_ReferencePrevIdeal (m : (ℓ : Loc Cert.ReferencePrevIdeal.nD Cert.ReferencePrevIdeal.τ Cert.ReferencePrevIdeal.sig) → Buf (Elt Ideal) ℓ) : Prop :=
  True

def Pre_ReferencePrevIdeal_finite_prev [hPre_finite_prev : Cert.Pre_finite_prev.Facts] (m : (ℓ : Loc Cert.ReferencePrevIdeal.nD Cert.ReferencePrevIdeal.τ Cert.ReferencePrevIdeal.sig) → Buf (Elt Ideal) ℓ) : Prop :=
  ∀ c : Dev Cert.ReferencePrevIdeal.nD,
    (Cert.Pre_finite_prev.fn (F := Ideal) (m ((c.tc : Thread Cert.ReferencePrevIdeal.nD Cert.ReferencePrevIdeal.τ).loc Cert.ReferencePrevIdeal.main_arg0)) (m ((c.tc : Thread Cert.ReferencePrevIdeal.nD Cert.ReferencePrevIdeal.τ).loc Cert.ReferencePrevIdeal.main_arg1)) (m ((c.tc : Thread Cert.ReferencePrevIdeal.nD Cert.ReferencePrevIdeal.τ).loc Cert.ReferencePrevIdeal.main_arg2)) (m ((c.tc : Thread Cert.ReferencePrevIdeal.nD Cert.ReferencePrevIdeal.τ).loc Cert.ReferencePrevIdeal.main_arg3)) (m ((c.tc : Thread Cert.ReferencePrevIdeal.nD Cert.ReferencePrevIdeal.τ).loc Cert.ReferencePrevIdeal.main_arg4)) (m ((c.tc : Thread Cert.ReferencePrevIdeal.nD Cert.ReferencePrevIdeal.τ).loc Cert.ReferencePrevIdeal.main_arg5))) = (fun _ => 1#1)

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelRelu [hKernelRelu : Cert.KernelRelu.Facts] : Prop :=
  ∀ (m : (ℓ : Loc Cert.KernelRelu.nD Cert.KernelRelu.τ Cert.KernelRelu.sig) → Buf (Elt Bits) ℓ) (g : Dev Cert.KernelRelu.nD → PrngReg), Pre_KernelRelu m →
    θ_run (Cert.KernelRelu.defs (F := Bits)) (onTc (τ := Cert.KernelRelu.τ) (Cert.KernelRelu.main (F := Bits))) ⟨m, fun _ => 0, g⟩ (fun r => (∀ c : Dev Cert.KernelRelu.nD,
      r.2.mem ((c.tc : Thread Cert.KernelRelu.nD Cert.KernelRelu.τ).loc Cert.KernelRelu.main_arg0) = m ((c.tc : Thread Cert.KernelRelu.nD Cert.KernelRelu.τ).loc Cert.KernelRelu.main_arg0)
      ∧ r.2.mem ((c.tc : Thread Cert.KernelRelu.nD Cert.KernelRelu.τ).loc Cert.KernelRelu.main_arg1) = m ((c.tc : Thread Cert.KernelRelu.nD Cert.KernelRelu.τ).loc Cert.KernelRelu.main_arg1)
      ∧ r.2.mem ((c.tc : Thread Cert.KernelRelu.nD Cert.KernelRelu.τ).loc Cert.KernelRelu.main_arg2) = m ((c.tc : Thread Cert.KernelRelu.nD Cert.KernelRelu.τ).loc Cert.KernelRelu.main_arg2))
      ∧ r.2.sem = fun _ => 0)

def quiescent_KernelReluIdeal [hKernelReluIdeal : Cert.KernelReluIdeal.Facts] : Prop :=
  ∀ (m : (ℓ : Loc Cert.KernelReluIdeal.nD Cert.KernelReluIdeal.τ Cert.KernelReluIdeal.sig) → Buf (Elt Ideal) ℓ) (g : Dev Cert.KernelReluIdeal.nD → PrngReg), Pre_KernelReluIdeal m →
    θ_run (Cert.KernelReluIdeal.defs (F := Ideal)) (onTc (τ := Cert.KernelReluIdeal.τ) (Cert.KernelReluIdeal.main (F := Ideal))) ⟨m, fun _ => 0, g⟩ (fun r => (∀ c : Dev Cert.KernelReluIdeal.nD,
      r.2.mem ((c.tc : Thread Cert.KernelReluIdeal.nD Cert.KernelReluIdeal.τ).loc Cert.KernelReluIdeal.main_arg0) = m ((c.tc : Thread Cert.KernelReluIdeal.nD Cert.KernelReluIdeal.τ).loc Cert.KernelReluIdeal.main_arg0)
      ∧ r.2.mem ((c.tc : Thread Cert.KernelReluIdeal.nD Cert.KernelReluIdeal.τ).loc Cert.KernelReluIdeal.main_arg1) = m ((c.tc : Thread Cert.KernelReluIdeal.nD Cert.KernelReluIdeal.τ).loc Cert.KernelReluIdeal.main_arg1)
      ∧ r.2.mem ((c.tc : Thread Cert.KernelReluIdeal.nD Cert.KernelReluIdeal.τ).loc Cert.KernelReluIdeal.main_arg2) = m ((c.tc : Thread Cert.KernelReluIdeal.nD Cert.KernelReluIdeal.τ).loc Cert.KernelReluIdeal.main_arg2))
      ∧ r.2.sem = fun _ => 0)

def quiescent_ReferenceReluIdeal [hReferenceReluIdeal : Cert.ReferenceReluIdeal.Facts] : Prop :=
  ∀ (m : (ℓ : Loc Cert.ReferenceReluIdeal.nD Cert.ReferenceReluIdeal.τ Cert.ReferenceReluIdeal.sig) → Buf (Elt Ideal) ℓ) (g : Dev Cert.ReferenceReluIdeal.nD → PrngReg), Pre_ReferenceReluIdeal m →
    θ_run (Cert.ReferenceReluIdeal.defs (F := Ideal)) (onTc (τ := Cert.ReferenceReluIdeal.τ) (Cert.ReferenceReluIdeal.main (F := Ideal))) ⟨m, fun _ => 0, g⟩ (fun r => (∀ c : Dev Cert.ReferenceReluIdeal.nD,
      r.2.mem ((c.tc : Thread Cert.ReferenceReluIdeal.nD Cert.ReferenceReluIdeal.τ).loc Cert.ReferenceReluIdeal.main_arg0) = m ((c.tc : Thread Cert.ReferenceReluIdeal.nD Cert.ReferenceReluIdeal.τ).loc Cert.ReferenceReluIdeal.main_arg0)
      ∧ r.2.mem ((c.tc : Thread Cert.ReferenceReluIdeal.nD Cert.ReferenceReluIdeal.τ).loc Cert.ReferenceReluIdeal.main_arg1) = m ((c.tc : Thread Cert.ReferenceReluIdeal.nD Cert.ReferenceReluIdeal.τ).loc Cert.ReferenceReluIdeal.main_arg1)
      ∧ r.2.mem ((c.tc : Thread Cert.ReferenceReluIdeal.nD Cert.ReferenceReluIdeal.τ).loc Cert.ReferenceReluIdeal.main_arg2) = m ((c.tc : Thread Cert.ReferenceReluIdeal.nD Cert.ReferenceReluIdeal.τ).loc Cert.ReferenceReluIdeal.main_arg2))
      ∧ r.2.sem = fun _ => 0)

def quiescent_KernelW2 [hKernelW2 : Cert.KernelW2.Facts] : Prop :=
  ∀ (m : (ℓ : Loc Cert.KernelW2.nD Cert.KernelW2.τ Cert.KernelW2.sig) → Buf (Elt Bits) ℓ) (g : Dev Cert.KernelW2.nD → PrngReg), Pre_KernelW2 m →
    θ_run (Cert.KernelW2.defs (F := Bits)) (onTc (τ := Cert.KernelW2.τ) (Cert.KernelW2.main (F := Bits))) ⟨m, fun _ => 0, g⟩ (fun r => (∀ c : Dev Cert.KernelW2.nD,
      r.2.mem ((c.tc : Thread Cert.KernelW2.nD Cert.KernelW2.τ).loc Cert.KernelW2.main_arg0) = m ((c.tc : Thread Cert.KernelW2.nD Cert.KernelW2.τ).loc Cert.KernelW2.main_arg0)
      ∧ r.2.mem ((c.tc : Thread Cert.KernelW2.nD Cert.KernelW2.τ).loc Cert.KernelW2.main_arg1) = m ((c.tc : Thread Cert.KernelW2.nD Cert.KernelW2.τ).loc Cert.KernelW2.main_arg1)
      ∧ r.2.mem ((c.tc : Thread Cert.KernelW2.nD Cert.KernelW2.τ).loc Cert.KernelW2.main_arg2) = m ((c.tc : Thread Cert.KernelW2.nD Cert.KernelW2.τ).loc Cert.KernelW2.main_arg2))
      ∧ r.2.sem = fun _ => 0)

def quiescent_KernelW2Ideal [hKernelW2Ideal : Cert.KernelW2Ideal.Facts] : Prop :=
  ∀ (m : (ℓ : Loc Cert.KernelW2Ideal.nD Cert.KernelW2Ideal.τ Cert.KernelW2Ideal.sig) → Buf (Elt Ideal) ℓ) (g : Dev Cert.KernelW2Ideal.nD → PrngReg), Pre_KernelW2Ideal m →
    θ_run (Cert.KernelW2Ideal.defs (F := Ideal)) (onTc (τ := Cert.KernelW2Ideal.τ) (Cert.KernelW2Ideal.main (F := Ideal))) ⟨m, fun _ => 0, g⟩ (fun r => (∀ c : Dev Cert.KernelW2Ideal.nD,
      r.2.mem ((c.tc : Thread Cert.KernelW2Ideal.nD Cert.KernelW2Ideal.τ).loc Cert.KernelW2Ideal.main_arg0) = m ((c.tc : Thread Cert.KernelW2Ideal.nD Cert.KernelW2Ideal.τ).loc Cert.KernelW2Ideal.main_arg0)
      ∧ r.2.mem ((c.tc : Thread Cert.KernelW2Ideal.nD Cert.KernelW2Ideal.τ).loc Cert.KernelW2Ideal.main_arg1) = m ((c.tc : Thread Cert.KernelW2Ideal.nD Cert.KernelW2Ideal.τ).loc Cert.KernelW2Ideal.main_arg1)
      ∧ r.2.mem ((c.tc : Thread Cert.KernelW2Ideal.nD Cert.KernelW2Ideal.τ).loc Cert.KernelW2Ideal.main_arg2) = m ((c.tc : Thread Cert.KernelW2Ideal.nD Cert.KernelW2Ideal.τ).loc Cert.KernelW2Ideal.main_arg2))
      ∧ r.2.sem = fun _ => 0)

def quiescent_ReferenceW2Ideal [hReferenceW2Ideal : Cert.ReferenceW2Ideal.Facts] : Prop :=
  ∀ (m : (ℓ : Loc Cert.ReferenceW2Ideal.nD Cert.ReferenceW2Ideal.τ Cert.ReferenceW2Ideal.sig) → Buf (Elt Ideal) ℓ) (g : Dev Cert.ReferenceW2Ideal.nD → PrngReg), Pre_ReferenceW2Ideal m →
    θ_run (Cert.ReferenceW2Ideal.defs (F := Ideal)) (onTc (τ := Cert.ReferenceW2Ideal.τ) (Cert.ReferenceW2Ideal.main (F := Ideal))) ⟨m, fun _ => 0, g⟩ (fun r => (∀ c : Dev Cert.ReferenceW2Ideal.nD,
      r.2.mem ((c.tc : Thread Cert.ReferenceW2Ideal.nD Cert.ReferenceW2Ideal.τ).loc Cert.ReferenceW2Ideal.main_arg0) = m ((c.tc : Thread Cert.ReferenceW2Ideal.nD Cert.ReferenceW2Ideal.τ).loc Cert.ReferenceW2Ideal.main_arg0)
      ∧ r.2.mem ((c.tc : Thread Cert.ReferenceW2Ideal.nD Cert.ReferenceW2Ideal.τ).loc Cert.ReferenceW2Ideal.main_arg1) = m ((c.tc : Thread Cert.ReferenceW2Ideal.nD Cert.ReferenceW2Ideal.τ).loc Cert.ReferenceW2Ideal.main_arg1)
      ∧ r.2.mem ((c.tc : Thread Cert.ReferenceW2Ideal.nD Cert.ReferenceW2Ideal.τ).loc Cert.ReferenceW2Ideal.main_arg2) = m ((c.tc : Thread Cert.ReferenceW2Ideal.nD Cert.ReferenceW2Ideal.τ).loc Cert.ReferenceW2Ideal.main_arg2))
      ∧ r.2.sem = fun _ => 0)

def quiescent_KernelW1 [hKernelW1 : Cert.KernelW1.Facts] : Prop :=
  ∀ (m : (ℓ : Loc Cert.KernelW1.nD Cert.KernelW1.τ Cert.KernelW1.sig) → Buf (Elt Bits) ℓ) (g : Dev Cert.KernelW1.nD → PrngReg), Pre_KernelW1 m →
    θ_run (Cert.KernelW1.defs (F := Bits)) (onTc (τ := Cert.KernelW1.τ) (Cert.KernelW1.main (F := Bits))) ⟨m, fun _ => 0, g⟩ (fun r => (∀ c : Dev Cert.KernelW1.nD,
      r.2.mem ((c.tc : Thread Cert.KernelW1.nD Cert.KernelW1.τ).loc Cert.KernelW1.main_arg0) = m ((c.tc : Thread Cert.KernelW1.nD Cert.KernelW1.τ).loc Cert.KernelW1.main_arg0)
      ∧ r.2.mem ((c.tc : Thread Cert.KernelW1.nD Cert.KernelW1.τ).loc Cert.KernelW1.main_arg1) = m ((c.tc : Thread Cert.KernelW1.nD Cert.KernelW1.τ).loc Cert.KernelW1.main_arg1)
      ∧ r.2.mem ((c.tc : Thread Cert.KernelW1.nD Cert.KernelW1.τ).loc Cert.KernelW1.main_arg2) = m ((c.tc : Thread Cert.KernelW1.nD Cert.KernelW1.τ).loc Cert.KernelW1.main_arg2))
      ∧ r.2.sem = fun _ => 0)

def quiescent_KernelW1Ideal [hKernelW1Ideal : Cert.KernelW1Ideal.Facts] : Prop :=
  ∀ (m : (ℓ : Loc Cert.KernelW1Ideal.nD Cert.KernelW1Ideal.τ Cert.KernelW1Ideal.sig) → Buf (Elt Ideal) ℓ) (g : Dev Cert.KernelW1Ideal.nD → PrngReg), Pre_KernelW1Ideal m →
    θ_run (Cert.KernelW1Ideal.defs (F := Ideal)) (onTc (τ := Cert.KernelW1Ideal.τ) (Cert.KernelW1Ideal.main (F := Ideal))) ⟨m, fun _ => 0, g⟩ (fun r => (∀ c : Dev Cert.KernelW1Ideal.nD,
      r.2.mem ((c.tc : Thread Cert.KernelW1Ideal.nD Cert.KernelW1Ideal.τ).loc Cert.KernelW1Ideal.main_arg0) = m ((c.tc : Thread Cert.KernelW1Ideal.nD Cert.KernelW1Ideal.τ).loc Cert.KernelW1Ideal.main_arg0)
      ∧ r.2.mem ((c.tc : Thread Cert.KernelW1Ideal.nD Cert.KernelW1Ideal.τ).loc Cert.KernelW1Ideal.main_arg1) = m ((c.tc : Thread Cert.KernelW1Ideal.nD Cert.KernelW1Ideal.τ).loc Cert.KernelW1Ideal.main_arg1)
      ∧ r.2.mem ((c.tc : Thread Cert.KernelW1Ideal.nD Cert.KernelW1Ideal.τ).loc Cert.KernelW1Ideal.main_arg2) = m ((c.tc : Thread Cert.KernelW1Ideal.nD Cert.KernelW1Ideal.τ).loc Cert.KernelW1Ideal.main_arg2))
      ∧ r.2.sem = fun _ => 0)

def quiescent_ReferenceW1Ideal [hReferenceW1Ideal : Cert.ReferenceW1Ideal.Facts] : Prop :=
  ∀ (m : (ℓ : Loc Cert.ReferenceW1Ideal.nD Cert.ReferenceW1Ideal.τ Cert.ReferenceW1Ideal.sig) → Buf (Elt Ideal) ℓ) (g : Dev Cert.ReferenceW1Ideal.nD → PrngReg), Pre_ReferenceW1Ideal m →
    θ_run (Cert.ReferenceW1Ideal.defs (F := Ideal)) (onTc (τ := Cert.ReferenceW1Ideal.τ) (Cert.ReferenceW1Ideal.main (F := Ideal))) ⟨m, fun _ => 0, g⟩ (fun r => (∀ c : Dev Cert.ReferenceW1Ideal.nD,
      r.2.mem ((c.tc : Thread Cert.ReferenceW1Ideal.nD Cert.ReferenceW1Ideal.τ).loc Cert.ReferenceW1Ideal.main_arg0) = m ((c.tc : Thread Cert.ReferenceW1Ideal.nD Cert.ReferenceW1Ideal.τ).loc Cert.ReferenceW1Ideal.main_arg0)
      ∧ r.2.mem ((c.tc : Thread Cert.ReferenceW1Ideal.nD Cert.ReferenceW1Ideal.τ).loc Cert.ReferenceW1Ideal.main_arg1) = m ((c.tc : Thread Cert.ReferenceW1Ideal.nD Cert.ReferenceW1Ideal.τ).loc Cert.ReferenceW1Ideal.main_arg1)
      ∧ r.2.mem ((c.tc : Thread Cert.ReferenceW1Ideal.nD Cert.ReferenceW1Ideal.τ).loc Cert.ReferenceW1Ideal.main_arg2) = m ((c.tc : Thread Cert.ReferenceW1Ideal.nD Cert.ReferenceW1Ideal.τ).loc Cert.ReferenceW1Ideal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4)
      ∧ r.2.mem ((c.tc : Thread Cert.KernelNorm.nD Cert.KernelNorm.τ).loc Cert.KernelNorm.main_arg5) = m ((c.tc : Thread Cert.KernelNorm.nD Cert.KernelNorm.τ).loc Cert.KernelNorm.main_arg5))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4)
      ∧ r.2.mem ((c.tc : Thread Cert.KernelNormIdeal.nD Cert.KernelNormIdeal.τ).loc Cert.KernelNormIdeal.main_arg5) = m ((c.tc : Thread Cert.KernelNormIdeal.nD Cert.KernelNormIdeal.τ).loc Cert.KernelNormIdeal.main_arg5))
      ∧ r.2.sem = fun _ => 0)

def quiescent_KernelNormIdeal_pre_finite_norm [hKernelNormIdeal : Cert.KernelNormIdeal.Facts] [hPre_finite_norm : Cert.Pre_finite_norm.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal_finite_norm m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4)
      ∧ r.2.mem ((c.tc : Thread Cert.KernelNormIdeal.nD Cert.KernelNormIdeal.τ).loc Cert.KernelNormIdeal.main_arg5) = m ((c.tc : Thread Cert.KernelNormIdeal.nD Cert.KernelNormIdeal.τ).loc Cert.KernelNormIdeal.main_arg5))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4)
      ∧ r.2.mem ((c.tc : Thread Cert.ReferenceNormIdeal.nD Cert.ReferenceNormIdeal.τ).loc Cert.ReferenceNormIdeal.main_arg5) = m ((c.tc : Thread Cert.ReferenceNormIdeal.nD Cert.ReferenceNormIdeal.τ).loc Cert.ReferenceNormIdeal.main_arg5))
      ∧ r.2.sem = fun _ => 0)

def quiescent_ReferenceNormIdeal_pre_finite_norm [hReferenceNormIdeal : Cert.ReferenceNormIdeal.Facts] [hPre_finite_norm : Cert.Pre_finite_norm.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal_finite_norm m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4)
      ∧ r.2.mem ((c.tc : Thread Cert.ReferenceNormIdeal.nD Cert.ReferenceNormIdeal.τ).loc Cert.ReferenceNormIdeal.main_arg5) = m ((c.tc : Thread Cert.ReferenceNormIdeal.nD Cert.ReferenceNormIdeal.τ).loc Cert.ReferenceNormIdeal.main_arg5))
      ∧ r.2.sem = fun _ => 0)

def quiescent_KernelNormIn [hKernelNormIn : Cert.KernelNormIn.Facts] : Prop :=
  ∀ (m : (ℓ : Loc Cert.KernelNormIn.nD Cert.KernelNormIn.τ Cert.KernelNormIn.sig) → Buf (Elt Bits) ℓ) (g : Dev Cert.KernelNormIn.nD → PrngReg), Pre_KernelNormIn m →
    θ_run (Cert.KernelNormIn.defs (F := Bits)) (onTc (τ := Cert.KernelNormIn.τ) (Cert.KernelNormIn.main (F := Bits))) ⟨m, fun _ => 0, g⟩ (fun r => (∀ c : Dev Cert.KernelNormIn.nD,
      r.2.mem ((c.tc : Thread Cert.KernelNormIn.nD Cert.KernelNormIn.τ).loc Cert.KernelNormIn.main_arg0) = m ((c.tc : Thread Cert.KernelNormIn.nD Cert.KernelNormIn.τ).loc Cert.KernelNormIn.main_arg0)
      ∧ r.2.mem ((c.tc : Thread Cert.KernelNormIn.nD Cert.KernelNormIn.τ).loc Cert.KernelNormIn.main_arg1) = m ((c.tc : Thread Cert.KernelNormIn.nD Cert.KernelNormIn.τ).loc Cert.KernelNormIn.main_arg1)
      ∧ r.2.mem ((c.tc : Thread Cert.KernelNormIn.nD Cert.KernelNormIn.τ).loc Cert.KernelNormIn.main_arg2) = m ((c.tc : Thread Cert.KernelNormIn.nD Cert.KernelNormIn.τ).loc Cert.KernelNormIn.main_arg2)
      ∧ r.2.mem ((c.tc : Thread Cert.KernelNormIn.nD Cert.KernelNormIn.τ).loc Cert.KernelNormIn.main_arg3) = m ((c.tc : Thread Cert.KernelNormIn.nD Cert.KernelNormIn.τ).loc Cert.KernelNormIn.main_arg3)
      ∧ r.2.mem ((c.tc : Thread Cert.KernelNormIn.nD Cert.KernelNormIn.τ).loc Cert.KernelNormIn.main_arg4) = m ((c.tc : Thread Cert.KernelNormIn.nD Cert.KernelNormIn.τ).loc Cert.KernelNormIn.main_arg4)
      ∧ r.2.mem ((c.tc : Thread Cert.KernelNormIn.nD Cert.KernelNormIn.τ).loc Cert.KernelNormIn.main_arg5) = m ((c.tc : Thread Cert.KernelNormIn.nD Cert.KernelNormIn.τ).loc Cert.KernelNormIn.main_arg5))
      ∧ r.2.sem = fun _ => 0)

def quiescent_KernelNormInIdeal [hKernelNormInIdeal : Cert.KernelNormInIdeal.Facts] : Prop :=
  ∀ (m : (ℓ : Loc Cert.KernelNormInIdeal.nD Cert.KernelNormInIdeal.τ Cert.KernelNormInIdeal.sig) → Buf (Elt Ideal) ℓ) (g : Dev Cert.KernelNormInIdeal.nD → PrngReg), Pre_KernelNormInIdeal m →
    θ_run (Cert.KernelNormInIdeal.defs (F := Ideal)) (onTc (τ := Cert.KernelNormInIdeal.τ) (Cert.KernelNormInIdeal.main (F := Ideal))) ⟨m, fun _ => 0, g⟩ (fun r => (∀ c : Dev Cert.KernelNormInIdeal.nD,
      r.2.mem ((c.tc : Thread Cert.KernelNormInIdeal.nD Cert.KernelNormInIdeal.τ).loc Cert.KernelNormInIdeal.main_arg0) = m ((c.tc : Thread Cert.KernelNormInIdeal.nD Cert.KernelNormInIdeal.τ).loc Cert.KernelNormInIdeal.main_arg0)
      ∧ r.2.mem ((c.tc : Thread Cert.KernelNormInIdeal.nD Cert.KernelNormInIdeal.τ).loc Cert.KernelNormInIdeal.main_arg1) = m ((c.tc : Thread Cert.KernelNormInIdeal.nD Cert.KernelNormInIdeal.τ).loc Cert.KernelNormInIdeal.main_arg1)
      ∧ r.2.mem ((c.tc : Thread Cert.KernelNormInIdeal.nD Cert.KernelNormInIdeal.τ).loc Cert.KernelNormInIdeal.main_arg2) = m ((c.tc : Thread Cert.KernelNormInIdeal.nD Cert.KernelNormInIdeal.τ).loc Cert.KernelNormInIdeal.main_arg2)
      ∧ r.2.mem ((c.tc : Thread Cert.KernelNormInIdeal.nD Cert.KernelNormInIdeal.τ).loc Cert.KernelNormInIdeal.main_arg3) = m ((c.tc : Thread Cert.KernelNormInIdeal.nD Cert.KernelNormInIdeal.τ).loc Cert.KernelNormInIdeal.main_arg3)
      ∧ r.2.mem ((c.tc : Thread Cert.KernelNormInIdeal.nD Cert.KernelNormInIdeal.τ).loc Cert.KernelNormInIdeal.main_arg4) = m ((c.tc : Thread Cert.KernelNormInIdeal.nD Cert.KernelNormInIdeal.τ).loc Cert.KernelNormInIdeal.main_arg4)
      ∧ r.2.mem ((c.tc : Thread Cert.KernelNormInIdeal.nD Cert.KernelNormInIdeal.τ).loc Cert.KernelNormInIdeal.main_arg5) = m ((c.tc : Thread Cert.KernelNormInIdeal.nD Cert.KernelNormInIdeal.τ).loc Cert.KernelNormInIdeal.main_arg5))
      ∧ r.2.sem = fun _ => 0)

def quiescent_KernelNormInIdeal_pre_finite_norm_in [hKernelNormInIdeal : Cert.KernelNormInIdeal.Facts] [hPre_finite_norm_in : Cert.Pre_finite_norm_in.Facts] : Prop :=
  ∀ (m : (ℓ : Loc Cert.KernelNormInIdeal.nD Cert.KernelNormInIdeal.τ Cert.KernelNormInIdeal.sig) → Buf (Elt Ideal) ℓ) (g : Dev Cert.KernelNormInIdeal.nD → PrngReg), Pre_KernelNormInIdeal_finite_norm_in m →
    θ_run (Cert.KernelNormInIdeal.defs (F := Ideal)) (onTc (τ := Cert.KernelNormInIdeal.τ) (Cert.KernelNormInIdeal.main (F := Ideal))) ⟨m, fun _ => 0, g⟩ (fun r => (∀ c : Dev Cert.KernelNormInIdeal.nD,
      r.2.mem ((c.tc : Thread Cert.KernelNormInIdeal.nD Cert.KernelNormInIdeal.τ).loc Cert.KernelNormInIdeal.main_arg0) = m ((c.tc : Thread Cert.KernelNormInIdeal.nD Cert.KernelNormInIdeal.τ).loc Cert.KernelNormInIdeal.main_arg0)
      ∧ r.2.mem ((c.tc : Thread Cert.KernelNormInIdeal.nD Cert.KernelNormInIdeal.τ).loc Cert.KernelNormInIdeal.main_arg1) = m ((c.tc : Thread Cert.KernelNormInIdeal.nD Cert.KernelNormInIdeal.τ).loc Cert.KernelNormInIdeal.main_arg1)
      ∧ r.2.mem ((c.tc : Thread Cert.KernelNormInIdeal.nD Cert.KernelNormInIdeal.τ).loc Cert.KernelNormInIdeal.main_arg2) = m ((c.tc : Thread Cert.KernelNormInIdeal.nD Cert.KernelNormInIdeal.τ).loc Cert.KernelNormInIdeal.main_arg2)
      ∧ r.2.mem ((c.tc : Thread Cert.KernelNormInIdeal.nD Cert.KernelNormInIdeal.τ).loc Cert.KernelNormInIdeal.main_arg3) = m ((c.tc : Thread Cert.KernelNormInIdeal.nD Cert.KernelNormInIdeal.τ).loc Cert.KernelNormInIdeal.main_arg3)
      ∧ r.2.mem ((c.tc : Thread Cert.KernelNormInIdeal.nD Cert.KernelNormInIdeal.τ).loc Cert.KernelNormInIdeal.main_arg4) = m ((c.tc : Thread Cert.KernelNormInIdeal.nD Cert.KernelNormInIdeal.τ).loc Cert.KernelNormInIdeal.main_arg4)
      ∧ r.2.mem ((c.tc : Thread Cert.KernelNormInIdeal.nD Cert.KernelNormInIdeal.τ).loc Cert.KernelNormInIdeal.main_arg5) = m ((c.tc : Thread Cert.KernelNormInIdeal.nD Cert.KernelNormInIdeal.τ).loc Cert.KernelNormInIdeal.main_arg5))
      ∧ r.2.sem = fun _ => 0)

def quiescent_ReferenceNormInIdeal [hReferenceNormInIdeal : Cert.ReferenceNormInIdeal.Facts] : Prop :=
  ∀ (m : (ℓ : Loc Cert.ReferenceNormInIdeal.nD Cert.ReferenceNormInIdeal.τ Cert.ReferenceNormInIdeal.sig) → Buf (Elt Ideal) ℓ) (g : Dev Cert.ReferenceNormInIdeal.nD → PrngReg), Pre_ReferenceNormInIdeal m →
    θ_run (Cert.ReferenceNormInIdeal.defs (F := Ideal)) (onTc (τ := Cert.ReferenceNormInIdeal.τ) (Cert.ReferenceNormInIdeal.main (F := Ideal))) ⟨m, fun _ => 0, g⟩ (fun r => (∀ c : Dev Cert.ReferenceNormInIdeal.nD,
      r.2.mem ((c.tc : Thread Cert.ReferenceNormInIdeal.nD Cert.ReferenceNormInIdeal.τ).loc Cert.ReferenceNormInIdeal.main_arg0) = m ((c.tc : Thread Cert.ReferenceNormInIdeal.nD Cert.ReferenceNormInIdeal.τ).loc Cert.ReferenceNormInIdeal.main_arg0)
      ∧ r.2.mem ((c.tc : Thread Cert.ReferenceNormInIdeal.nD Cert.ReferenceNormInIdeal.τ).loc Cert.ReferenceNormInIdeal.main_arg1) = m ((c.tc : Thread Cert.ReferenceNormInIdeal.nD Cert.ReferenceNormInIdeal.τ).loc Cert.ReferenceNormInIdeal.main_arg1)
      ∧ r.2.mem ((c.tc : Thread Cert.ReferenceNormInIdeal.nD Cert.ReferenceNormInIdeal.τ).loc Cert.ReferenceNormInIdeal.main_arg2) = m ((c.tc : Thread Cert.ReferenceNormInIdeal.nD Cert.ReferenceNormInIdeal.τ).loc Cert.ReferenceNormInIdeal.main_arg2)
      ∧ r.2.mem ((c.tc : Thread Cert.ReferenceNormInIdeal.nD Cert.ReferenceNormInIdeal.τ).loc Cert.ReferenceNormInIdeal.main_arg3) = m ((c.tc : Thread Cert.ReferenceNormInIdeal.nD Cert.ReferenceNormInIdeal.τ).loc Cert.ReferenceNormInIdeal.main_arg3)
      ∧ r.2.mem ((c.tc : Thread Cert.ReferenceNormInIdeal.nD Cert.ReferenceNormInIdeal.τ).loc Cert.ReferenceNormInIdeal.main_arg4) = m ((c.tc : Thread Cert.ReferenceNormInIdeal.nD Cert.ReferenceNormInIdeal.τ).loc Cert.ReferenceNormInIdeal.main_arg4)
      ∧ r.2.mem ((c.tc : Thread Cert.ReferenceNormInIdeal.nD Cert.ReferenceNormInIdeal.τ).loc Cert.ReferenceNormInIdeal.main_arg5) = m ((c.tc : Thread Cert.ReferenceNormInIdeal.nD Cert.ReferenceNormInIdeal.τ).loc Cert.ReferenceNormInIdeal.main_arg5))
      ∧ r.2.sem = fun _ => 0)

def quiescent_ReferenceNormInIdeal_pre_finite_norm_in [hReferenceNormInIdeal : Cert.ReferenceNormInIdeal.Facts] [hPre_finite_norm_in : Cert.Pre_finite_norm_in.Facts] : Prop :=
  ∀ (m : (ℓ : Loc Cert.ReferenceNormInIdeal.nD Cert.ReferenceNormInIdeal.τ Cert.ReferenceNormInIdeal.sig) → Buf (Elt Ideal) ℓ) (g : Dev Cert.ReferenceNormInIdeal.nD → PrngReg), Pre_ReferenceNormInIdeal_finite_norm_in m →
    θ_run (Cert.ReferenceNormInIdeal.defs (F := Ideal)) (onTc (τ := Cert.ReferenceNormInIdeal.τ) (Cert.ReferenceNormInIdeal.main (F := Ideal))) ⟨m, fun _ => 0, g⟩ (fun r => (∀ c : Dev Cert.ReferenceNormInIdeal.nD,
      r.2.mem ((c.tc : Thread Cert.ReferenceNormInIdeal.nD Cert.ReferenceNormInIdeal.τ).loc Cert.ReferenceNormInIdeal.main_arg0) = m ((c.tc : Thread Cert.ReferenceNormInIdeal.nD Cert.ReferenceNormInIdeal.τ).loc Cert.ReferenceNormInIdeal.main_arg0)
      ∧ r.2.mem ((c.tc : Thread Cert.ReferenceNormInIdeal.nD Cert.ReferenceNormInIdeal.τ).loc Cert.ReferenceNormInIdeal.main_arg1) = m ((c.tc : Thread Cert.ReferenceNormInIdeal.nD Cert.ReferenceNormInIdeal.τ).loc Cert.ReferenceNormInIdeal.main_arg1)
      ∧ r.2.mem ((c.tc : Thread Cert.ReferenceNormInIdeal.nD Cert.ReferenceNormInIdeal.τ).loc Cert.ReferenceNormInIdeal.main_arg2) = m ((c.tc : Thread Cert.ReferenceNormInIdeal.nD Cert.ReferenceNormInIdeal.τ).loc Cert.ReferenceNormInIdeal.main_arg2)
      ∧ r.2.mem ((c.tc : Thread Cert.ReferenceNormInIdeal.nD Cert.ReferenceNormInIdeal.τ).loc Cert.ReferenceNormInIdeal.main_arg3) = m ((c.tc : Thread Cert.ReferenceNormInIdeal.nD Cert.ReferenceNormInIdeal.τ).loc Cert.ReferenceNormInIdeal.main_arg3)
      ∧ r.2.mem ((c.tc : Thread Cert.ReferenceNormInIdeal.nD Cert.ReferenceNormInIdeal.τ).loc Cert.ReferenceNormInIdeal.main_arg4) = m ((c.tc : Thread Cert.ReferenceNormInIdeal.nD Cert.ReferenceNormInIdeal.τ).loc Cert.ReferenceNormInIdeal.main_arg4)
      ∧ r.2.mem ((c.tc : Thread Cert.ReferenceNormInIdeal.nD Cert.ReferenceNormInIdeal.τ).loc Cert.ReferenceNormInIdeal.main_arg5) = m ((c.tc : Thread Cert.ReferenceNormInIdeal.nD Cert.ReferenceNormInIdeal.τ).loc Cert.ReferenceNormInIdeal.main_arg5))
      ∧ r.2.sem = fun _ => 0)

def quiescent_KernelOutDx [hKernelOutDx : Cert.KernelOutDx.Facts] : Prop :=
  ∀ (m : (ℓ : Loc Cert.KernelOutDx.nD Cert.KernelOutDx.τ Cert.KernelOutDx.sig) → Buf (Elt Bits) ℓ) (g : Dev Cert.KernelOutDx.nD → PrngReg), Pre_KernelOutDx m →
    θ_run (Cert.KernelOutDx.defs (F := Bits)) (onTc (τ := Cert.KernelOutDx.τ) (Cert.KernelOutDx.main (F := Bits))) ⟨m, fun _ => 0, g⟩ (fun r => (∀ c : Dev Cert.KernelOutDx.nD,
      r.2.mem ((c.tc : Thread Cert.KernelOutDx.nD Cert.KernelOutDx.τ).loc Cert.KernelOutDx.main_arg0) = m ((c.tc : Thread Cert.KernelOutDx.nD Cert.KernelOutDx.τ).loc Cert.KernelOutDx.main_arg0)
      ∧ r.2.mem ((c.tc : Thread Cert.KernelOutDx.nD Cert.KernelOutDx.τ).loc Cert.KernelOutDx.main_arg1) = m ((c.tc : Thread Cert.KernelOutDx.nD Cert.KernelOutDx.τ).loc Cert.KernelOutDx.main_arg1)
      ∧ r.2.mem ((c.tc : Thread Cert.KernelOutDx.nD Cert.KernelOutDx.τ).loc Cert.KernelOutDx.main_arg2) = m ((c.tc : Thread Cert.KernelOutDx.nD Cert.KernelOutDx.τ).loc Cert.KernelOutDx.main_arg2))
      ∧ r.2.sem = fun _ => 0)

def quiescent_KernelOutDxIdeal [hKernelOutDxIdeal : Cert.KernelOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg), Pre_KernelOutDxIdeal m →
    θ_run (Cert.KernelOutDxIdeal.defs (F := Ideal)) (onTc (τ := Cert.KernelOutDxIdeal.τ) (Cert.KernelOutDxIdeal.main (F := Ideal))) ⟨m, fun _ => 0, g⟩ (fun r => (∀ c : Dev Cert.KernelOutDxIdeal.nD,
      r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
      ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1)
      ∧ r.2.mem ((c.tc : Thread Cert.KernelOutDxIdeal.nD Cert.KernelOutDxIdeal.τ).loc Cert.KernelOutDxIdeal.main_arg2) = m ((c.tc : Thread Cert.KernelOutDxIdeal.nD Cert.KernelOutDxIdeal.τ).loc Cert.KernelOutDxIdeal.main_arg2))
      ∧ r.2.sem = fun _ => 0)

def quiescent_ReferenceOutDxIdeal [hReferenceOutDxIdeal : Cert.ReferenceOutDxIdeal.Facts] : Prop :=
  ∀ (m : (ℓ : Loc Cert.ReferenceOutDxIdeal.nD Cert.ReferenceOutDxIdeal.τ Cert.ReferenceOutDxIdeal.sig) → Buf (Elt Ideal) ℓ) (g : Dev Cert.ReferenceOutDxIdeal.nD → PrngReg), Pre_ReferenceOutDxIdeal m →
    θ_run (Cert.ReferenceOutDxIdeal.defs (F := Ideal)) (onTc (τ := Cert.ReferenceOutDxIdeal.τ) (Cert.ReferenceOutDxIdeal.main (F := Ideal))) ⟨m, fun _ => 0, g⟩ (fun r => (∀ c : Dev Cert.ReferenceOutDxIdeal.nD,
      r.2.mem ((c.tc : Thread Cert.ReferenceOutDxIdeal.nD Cert.ReferenceOutDxIdeal.τ).loc Cert.ReferenceOutDxIdeal.main_arg0) = m ((c.tc : Thread Cert.ReferenceOutDxIdeal.nD Cert.ReferenceOutDxIdeal.τ).loc Cert.ReferenceOutDxIdeal.main_arg0)
      ∧ r.2.mem ((c.tc : Thread Cert.ReferenceOutDxIdeal.nD Cert.ReferenceOutDxIdeal.τ).loc Cert.ReferenceOutDxIdeal.main_arg1) = m ((c.tc : Thread Cert.ReferenceOutDxIdeal.nD Cert.ReferenceOutDxIdeal.τ).loc Cert.ReferenceOutDxIdeal.main_arg1)
      ∧ r.2.mem ((c.tc : Thread Cert.ReferenceOutDxIdeal.nD Cert.ReferenceOutDxIdeal.τ).loc Cert.ReferenceOutDxIdeal.main_arg2) = m ((c.tc : Thread Cert.ReferenceOutDxIdeal.nD Cert.ReferenceOutDxIdeal.τ).loc Cert.ReferenceOutDxIdeal.main_arg2))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1)
      ∧ r.2.mem ((c.tc : Thread Cert.KernelOutDw.nD Cert.KernelOutDw.τ).loc Cert.KernelOutDw.main_arg2) = m ((c.tc : Thread Cert.KernelOutDw.nD Cert.KernelOutDw.τ).loc Cert.KernelOutDw.main_arg2))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1)
      ∧ r.2.mem ((c.tc : Thread Cert.KernelOutDwIdeal.nD Cert.KernelOutDwIdeal.τ).loc Cert.KernelOutDwIdeal.main_arg2) = m ((c.tc : Thread Cert.KernelOutDwIdeal.nD Cert.KernelOutDwIdeal.τ).loc Cert.KernelOutDwIdeal.main_arg2))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1)
      ∧ r.2.mem ((c.tc : Thread Cert.ReferenceOutDwIdeal.nD Cert.ReferenceOutDwIdeal.τ).loc Cert.ReferenceOutDwIdeal.main_arg2) = m ((c.tc : Thread Cert.ReferenceOutDwIdeal.nD Cert.ReferenceOutDwIdeal.τ).loc Cert.ReferenceOutDwIdeal.main_arg2))
      ∧ r.2.sem = fun _ => 0)

def quiescent_KernelKDw [hKernelKDw : Cert.KernelKDw.Facts] : Prop :=
  ∀ (m : (ℓ : Loc Cert.KernelKDw.nD Cert.KernelKDw.τ Cert.KernelKDw.sig) → Buf (Elt Bits) ℓ) (g : Dev Cert.KernelKDw.nD → PrngReg), Pre_KernelKDw m →
    θ_run (Cert.KernelKDw.defs (F := Bits)) (onTc (τ := Cert.KernelKDw.τ) (Cert.KernelKDw.main (F := Bits))) ⟨m, fun _ => 0, g⟩ (fun r => (∀ c : Dev Cert.KernelKDw.nD,
      r.2.mem ((c.tc : Thread Cert.KernelKDw.nD Cert.KernelKDw.τ).loc Cert.KernelKDw.main_arg0) = m ((c.tc : Thread Cert.KernelKDw.nD Cert.KernelKDw.τ).loc Cert.KernelKDw.main_arg0)
      ∧ r.2.mem ((c.tc : Thread Cert.KernelKDw.nD Cert.KernelKDw.τ).loc Cert.KernelKDw.main_arg1) = m ((c.tc : Thread Cert.KernelKDw.nD Cert.KernelKDw.τ).loc Cert.KernelKDw.main_arg1)
      ∧ r.2.mem ((c.tc : Thread Cert.KernelKDw.nD Cert.KernelKDw.τ).loc Cert.KernelKDw.main_arg2) = m ((c.tc : Thread Cert.KernelKDw.nD Cert.KernelKDw.τ).loc Cert.KernelKDw.main_arg2))
      ∧ r.2.sem = fun _ => 0)

def quiescent_KernelKDwIdeal [hKernelKDwIdeal : Cert.KernelKDwIdeal.Facts] : Prop :=
  ∀ (m : (ℓ : Loc Cert.KernelKDwIdeal.nD Cert.KernelKDwIdeal.τ Cert.KernelKDwIdeal.sig) → Buf (Elt Ideal) ℓ) (g : Dev Cert.KernelKDwIdeal.nD → PrngReg), Pre_KernelKDwIdeal m →
    θ_run (Cert.KernelKDwIdeal.defs (F := Ideal)) (onTc (τ := Cert.KernelKDwIdeal.τ) (Cert.KernelKDwIdeal.main (F := Ideal))) ⟨m, fun _ => 0, g⟩ (fun r => (∀ c : Dev Cert.KernelKDwIdeal.nD,
      r.2.mem ((c.tc : Thread Cert.KernelKDwIdeal.nD Cert.KernelKDwIdeal.τ).loc Cert.KernelKDwIdeal.main_arg0) = m ((c.tc : Thread Cert.KernelKDwIdeal.nD Cert.KernelKDwIdeal.τ).loc Cert.KernelKDwIdeal.main_arg0)
      ∧ r.2.mem ((c.tc : Thread Cert.KernelKDwIdeal.nD Cert.KernelKDwIdeal.τ).loc Cert.KernelKDwIdeal.main_arg1) = m ((c.tc : Thread Cert.KernelKDwIdeal.nD Cert.KernelKDwIdeal.τ).loc Cert.KernelKDwIdeal.main_arg1)
      ∧ r.2.mem ((c.tc : Thread Cert.KernelKDwIdeal.nD Cert.KernelKDwIdeal.τ).loc Cert.KernelKDwIdeal.main_arg2) = m ((c.tc : Thread Cert.KernelKDwIdeal.nD Cert.KernelKDwIdeal.τ).loc Cert.KernelKDwIdeal.main_arg2))
      ∧ r.2.sem = fun _ => 0)

def quiescent_ReferenceKDwIdeal [hReferenceKDwIdeal : Cert.ReferenceKDwIdeal.Facts] : Prop :=
  ∀ (m : (ℓ : Loc Cert.ReferenceKDwIdeal.nD Cert.ReferenceKDwIdeal.τ Cert.ReferenceKDwIdeal.sig) → Buf (Elt Ideal) ℓ) (g : Dev Cert.ReferenceKDwIdeal.nD → PrngReg), Pre_ReferenceKDwIdeal m →
    θ_run (Cert.ReferenceKDwIdeal.defs (F := Ideal)) (onTc (τ := Cert.ReferenceKDwIdeal.τ) (Cert.ReferenceKDwIdeal.main (F := Ideal))) ⟨m, fun _ => 0, g⟩ (fun r => (∀ c : Dev Cert.ReferenceKDwIdeal.nD,
      r.2.mem ((c.tc : Thread Cert.ReferenceKDwIdeal.nD Cert.ReferenceKDwIdeal.τ).loc Cert.ReferenceKDwIdeal.main_arg0) = m ((c.tc : Thread Cert.ReferenceKDwIdeal.nD Cert.ReferenceKDwIdeal.τ).loc Cert.ReferenceKDwIdeal.main_arg0)
      ∧ r.2.mem ((c.tc : Thread Cert.ReferenceKDwIdeal.nD Cert.ReferenceKDwIdeal.τ).loc Cert.ReferenceKDwIdeal.main_arg1) = m ((c.tc : Thread Cert.ReferenceKDwIdeal.nD Cert.ReferenceKDwIdeal.τ).loc Cert.ReferenceKDwIdeal.main_arg1)
      ∧ r.2.mem ((c.tc : Thread Cert.ReferenceKDwIdeal.nD Cert.ReferenceKDwIdeal.τ).loc Cert.ReferenceKDwIdeal.main_arg2) = m ((c.tc : Thread Cert.ReferenceKDwIdeal.nD Cert.ReferenceKDwIdeal.τ).loc Cert.ReferenceKDwIdeal.main_arg2))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1)
      ∧ r.2.mem ((c.tc : Thread Cert.KernelInDw.nD Cert.KernelInDw.τ).loc Cert.KernelInDw.main_arg2) = m ((c.tc : Thread Cert.KernelInDw.nD Cert.KernelInDw.τ).loc Cert.KernelInDw.main_arg2))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1)
      ∧ r.2.mem ((c.tc : Thread Cert.KernelInDwIdeal.nD Cert.KernelInDwIdeal.τ).loc Cert.KernelInDwIdeal.main_arg2) = m ((c.tc : Thread Cert.KernelInDwIdeal.nD Cert.KernelInDwIdeal.τ).loc Cert.KernelInDwIdeal.main_arg2))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1)
      ∧ r.2.mem ((c.tc : Thread Cert.ReferenceInDwIdeal.nD Cert.ReferenceInDwIdeal.τ).loc Cert.ReferenceInDwIdeal.main_arg2) = m ((c.tc : Thread Cert.ReferenceInDwIdeal.nD Cert.ReferenceInDwIdeal.τ).loc Cert.ReferenceInDwIdeal.main_arg2))
      ∧ r.2.sem = fun _ => 0)

def quiescent_KernelQDx [hKernelQDx : Cert.KernelQDx.Facts] : Prop :=
  ∀ (m : (ℓ : Loc Cert.KernelQDx.nD Cert.KernelQDx.τ Cert.KernelQDx.sig) → Buf (Elt Bits) ℓ) (g : Dev Cert.KernelQDx.nD → PrngReg), Pre_KernelQDx m →
    θ_run (Cert.KernelQDx.defs (F := Bits)) (onTc (τ := Cert.KernelQDx.τ) (Cert.KernelQDx.main (F := Bits))) ⟨m, fun _ => 0, g⟩ (fun r => (∀ c : Dev Cert.KernelQDx.nD,
      r.2.mem ((c.tc : Thread Cert.KernelQDx.nD Cert.KernelQDx.τ).loc Cert.KernelQDx.main_arg0) = m ((c.tc : Thread Cert.KernelQDx.nD Cert.KernelQDx.τ).loc Cert.KernelQDx.main_arg0)
      ∧ r.2.mem ((c.tc : Thread Cert.KernelQDx.nD Cert.KernelQDx.τ).loc Cert.KernelQDx.main_arg1) = m ((c.tc : Thread Cert.KernelQDx.nD Cert.KernelQDx.τ).loc Cert.KernelQDx.main_arg1)
      ∧ r.2.mem ((c.tc : Thread Cert.KernelQDx.nD Cert.KernelQDx.τ).loc Cert.KernelQDx.main_arg2) = m ((c.tc : Thread Cert.KernelQDx.nD Cert.KernelQDx.τ).loc Cert.KernelQDx.main_arg2)
      ∧ r.2.mem ((c.tc : Thread Cert.KernelQDx.nD Cert.KernelQDx.τ).loc Cert.KernelQDx.main_arg3) = m ((c.tc : Thread Cert.KernelQDx.nD Cert.KernelQDx.τ).loc Cert.KernelQDx.main_arg3))
      ∧ r.2.sem = fun _ => 0)

def quiescent_KernelQDxIdeal [hKernelQDxIdeal : Cert.KernelQDxIdeal.Facts] : Prop :=
  ∀ (m : (ℓ : Loc Cert.KernelQDxIdeal.nD Cert.KernelQDxIdeal.τ Cert.KernelQDxIdeal.sig) → Buf (Elt Ideal) ℓ) (g : Dev Cert.KernelQDxIdeal.nD → PrngReg), Pre_KernelQDxIdeal m →
    θ_run (Cert.KernelQDxIdeal.defs (F := Ideal)) (onTc (τ := Cert.KernelQDxIdeal.τ) (Cert.KernelQDxIdeal.main (F := Ideal))) ⟨m, fun _ => 0, g⟩ (fun r => (∀ c : Dev Cert.KernelQDxIdeal.nD,
      r.2.mem ((c.tc : Thread Cert.KernelQDxIdeal.nD Cert.KernelQDxIdeal.τ).loc Cert.KernelQDxIdeal.main_arg0) = m ((c.tc : Thread Cert.KernelQDxIdeal.nD Cert.KernelQDxIdeal.τ).loc Cert.KernelQDxIdeal.main_arg0)
      ∧ r.2.mem ((c.tc : Thread Cert.KernelQDxIdeal.nD Cert.KernelQDxIdeal.τ).loc Cert.KernelQDxIdeal.main_arg1) = m ((c.tc : Thread Cert.KernelQDxIdeal.nD Cert.KernelQDxIdeal.τ).loc Cert.KernelQDxIdeal.main_arg1)
      ∧ r.2.mem ((c.tc : Thread Cert.KernelQDxIdeal.nD Cert.KernelQDxIdeal.τ).loc Cert.KernelQDxIdeal.main_arg2) = m ((c.tc : Thread Cert.KernelQDxIdeal.nD Cert.KernelQDxIdeal.τ).loc Cert.KernelQDxIdeal.main_arg2)
      ∧ r.2.mem ((c.tc : Thread Cert.KernelQDxIdeal.nD Cert.KernelQDxIdeal.τ).loc Cert.KernelQDxIdeal.main_arg3) = m ((c.tc : Thread Cert.KernelQDxIdeal.nD Cert.KernelQDxIdeal.τ).loc Cert.KernelQDxIdeal.main_arg3))
      ∧ r.2.sem = fun _ => 0)

def quiescent_ReferenceQDxIdeal [hReferenceQDxIdeal : Cert.ReferenceQDxIdeal.Facts] : Prop :=
  ∀ (m : (ℓ : Loc Cert.ReferenceQDxIdeal.nD Cert.ReferenceQDxIdeal.τ Cert.ReferenceQDxIdeal.sig) → Buf (Elt Ideal) ℓ) (g : Dev Cert.ReferenceQDxIdeal.nD → PrngReg), Pre_ReferenceQDxIdeal m →
    θ_run (Cert.ReferenceQDxIdeal.defs (F := Ideal)) (onTc (τ := Cert.ReferenceQDxIdeal.τ) (Cert.ReferenceQDxIdeal.main (F := Ideal))) ⟨m, fun _ => 0, g⟩ (fun r => (∀ c : Dev Cert.ReferenceQDxIdeal.nD,
      r.2.mem ((c.tc : Thread Cert.ReferenceQDxIdeal.nD Cert.ReferenceQDxIdeal.τ).loc Cert.ReferenceQDxIdeal.main_arg0) = m ((c.tc : Thread Cert.ReferenceQDxIdeal.nD Cert.ReferenceQDxIdeal.τ).loc Cert.ReferenceQDxIdeal.main_arg0)
      ∧ r.2.mem ((c.tc : Thread Cert.ReferenceQDxIdeal.nD Cert.ReferenceQDxIdeal.τ).loc Cert.ReferenceQDxIdeal.main_arg1) = m ((c.tc : Thread Cert.ReferenceQDxIdeal.nD Cert.ReferenceQDxIdeal.τ).loc Cert.ReferenceQDxIdeal.main_arg1)
      ∧ r.2.mem ((c.tc : Thread Cert.ReferenceQDxIdeal.nD Cert.ReferenceQDxIdeal.τ).loc Cert.ReferenceQDxIdeal.main_arg2) = m ((c.tc : Thread Cert.ReferenceQDxIdeal.nD Cert.ReferenceQDxIdeal.τ).loc Cert.ReferenceQDxIdeal.main_arg2)
      ∧ r.2.mem ((c.tc : Thread Cert.ReferenceQDxIdeal.nD Cert.ReferenceQDxIdeal.τ).loc Cert.ReferenceQDxIdeal.main_arg3) = m ((c.tc : Thread Cert.ReferenceQDxIdeal.nD Cert.ReferenceQDxIdeal.τ).loc Cert.ReferenceQDxIdeal.main_arg3))
      ∧ r.2.sem = fun _ => 0)

def quiescent_KernelKDx [hKernelKDx : Cert.KernelKDx.Facts] : Prop :=
  ∀ (m : (ℓ : Loc Cert.KernelKDx.nD Cert.KernelKDx.τ Cert.KernelKDx.sig) → Buf (Elt Bits) ℓ) (g : Dev Cert.KernelKDx.nD → PrngReg), Pre_KernelKDx m →
    θ_run (Cert.KernelKDx.defs (F := Bits)) (onTc (τ := Cert.KernelKDx.τ) (Cert.KernelKDx.main (F := Bits))) ⟨m, fun _ => 0, g⟩ (fun r => (∀ c : Dev Cert.KernelKDx.nD,
      r.2.mem ((c.tc : Thread Cert.KernelKDx.nD Cert.KernelKDx.τ).loc Cert.KernelKDx.main_arg0) = m ((c.tc : Thread Cert.KernelKDx.nD Cert.KernelKDx.τ).loc Cert.KernelKDx.main_arg0)
      ∧ r.2.mem ((c.tc : Thread Cert.KernelKDx.nD Cert.KernelKDx.τ).loc Cert.KernelKDx.main_arg1) = m ((c.tc : Thread Cert.KernelKDx.nD Cert.KernelKDx.τ).loc Cert.KernelKDx.main_arg1)
      ∧ r.2.mem ((c.tc : Thread Cert.KernelKDx.nD Cert.KernelKDx.τ).loc Cert.KernelKDx.main_arg2) = m ((c.tc : Thread Cert.KernelKDx.nD Cert.KernelKDx.τ).loc Cert.KernelKDx.main_arg2)
      ∧ r.2.mem ((c.tc : Thread Cert.KernelKDx.nD Cert.KernelKDx.τ).loc Cert.KernelKDx.main_arg3) = m ((c.tc : Thread Cert.KernelKDx.nD Cert.KernelKDx.τ).loc Cert.KernelKDx.main_arg3))
      ∧ r.2.sem = fun _ => 0)

def quiescent_KernelKDxIdeal [hKernelKDxIdeal : Cert.KernelKDxIdeal.Facts] : Prop :=
  ∀ (m : (ℓ : Loc Cert.KernelKDxIdeal.nD Cert.KernelKDxIdeal.τ Cert.KernelKDxIdeal.sig) → Buf (Elt Ideal) ℓ) (g : Dev Cert.KernelKDxIdeal.nD → PrngReg), Pre_KernelKDxIdeal m →
    θ_run (Cert.KernelKDxIdeal.defs (F := Ideal)) (onTc (τ := Cert.KernelKDxIdeal.τ) (Cert.KernelKDxIdeal.main (F := Ideal))) ⟨m, fun _ => 0, g⟩ (fun r => (∀ c : Dev Cert.KernelKDxIdeal.nD,
      r.2.mem ((c.tc : Thread Cert.KernelKDxIdeal.nD Cert.KernelKDxIdeal.τ).loc Cert.KernelKDxIdeal.main_arg0) = m ((c.tc : Thread Cert.KernelKDxIdeal.nD Cert.KernelKDxIdeal.τ).loc Cert.KernelKDxIdeal.main_arg0)
      ∧ r.2.mem ((c.tc : Thread Cert.KernelKDxIdeal.nD Cert.KernelKDxIdeal.τ).loc Cert.KernelKDxIdeal.main_arg1) = m ((c.tc : Thread Cert.KernelKDxIdeal.nD Cert.KernelKDxIdeal.τ).loc Cert.KernelKDxIdeal.main_arg1)
      ∧ r.2.mem ((c.tc : Thread Cert.KernelKDxIdeal.nD Cert.KernelKDxIdeal.τ).loc Cert.KernelKDxIdeal.main_arg2) = m ((c.tc : Thread Cert.KernelKDxIdeal.nD Cert.KernelKDxIdeal.τ).loc Cert.KernelKDxIdeal.main_arg2)
      ∧ r.2.mem ((c.tc : Thread Cert.KernelKDxIdeal.nD Cert.KernelKDxIdeal.τ).loc Cert.KernelKDxIdeal.main_arg3) = m ((c.tc : Thread Cert.KernelKDxIdeal.nD Cert.KernelKDxIdeal.τ).loc Cert.KernelKDxIdeal.main_arg3))
      ∧ r.2.sem = fun _ => 0)

def quiescent_ReferenceKDxIdeal [hReferenceKDxIdeal : Cert.ReferenceKDxIdeal.Facts] : Prop :=
  ∀ (m : (ℓ : Loc Cert.ReferenceKDxIdeal.nD Cert.ReferenceKDxIdeal.τ Cert.ReferenceKDxIdeal.sig) → Buf (Elt Ideal) ℓ) (g : Dev Cert.ReferenceKDxIdeal.nD → PrngReg), Pre_ReferenceKDxIdeal m →
    θ_run (Cert.ReferenceKDxIdeal.defs (F := Ideal)) (onTc (τ := Cert.ReferenceKDxIdeal.τ) (Cert.ReferenceKDxIdeal.main (F := Ideal))) ⟨m, fun _ => 0, g⟩ (fun r => (∀ c : Dev Cert.ReferenceKDxIdeal.nD,
      r.2.mem ((c.tc : Thread Cert.ReferenceKDxIdeal.nD Cert.ReferenceKDxIdeal.τ).loc Cert.ReferenceKDxIdeal.main_arg0) = m ((c.tc : Thread Cert.ReferenceKDxIdeal.nD Cert.ReferenceKDxIdeal.τ).loc Cert.ReferenceKDxIdeal.main_arg0)
      ∧ r.2.mem ((c.tc : Thread Cert.ReferenceKDxIdeal.nD Cert.ReferenceKDxIdeal.τ).loc Cert.ReferenceKDxIdeal.main_arg1) = m ((c.tc : Thread Cert.ReferenceKDxIdeal.nD Cert.ReferenceKDxIdeal.τ).loc Cert.ReferenceKDxIdeal.main_arg1)
      ∧ r.2.mem ((c.tc : Thread Cert.ReferenceKDxIdeal.nD Cert.ReferenceKDxIdeal.τ).loc Cert.ReferenceKDxIdeal.main_arg2) = m ((c.tc : Thread Cert.ReferenceKDxIdeal.nD Cert.ReferenceKDxIdeal.τ).loc Cert.ReferenceKDxIdeal.main_arg2)
      ∧ r.2.mem ((c.tc : Thread Cert.ReferenceKDxIdeal.nD Cert.ReferenceKDxIdeal.τ).loc Cert.ReferenceKDxIdeal.main_arg3) = m ((c.tc : Thread Cert.ReferenceKDxIdeal.nD Cert.ReferenceKDxIdeal.τ).loc Cert.ReferenceKDxIdeal.main_arg3))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1)
      ∧ r.2.mem ((c.tc : Thread Cert.KernelInDx.nD Cert.KernelInDx.τ).loc Cert.KernelInDx.main_arg2) = m ((c.tc : Thread Cert.KernelInDx.nD Cert.KernelInDx.τ).loc Cert.KernelInDx.main_arg2)
      ∧ r.2.mem ((c.tc : Thread Cert.KernelInDx.nD Cert.KernelInDx.τ).loc Cert.KernelInDx.main_arg3) = m ((c.tc : Thread Cert.KernelInDx.nD Cert.KernelInDx.τ).loc Cert.KernelInDx.main_arg3))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1)
      ∧ r.2.mem ((c.tc : Thread Cert.KernelInDxIdeal.nD Cert.KernelInDxIdeal.τ).loc Cert.KernelInDxIdeal.main_arg2) = m ((c.tc : Thread Cert.KernelInDxIdeal.nD Cert.KernelInDxIdeal.τ).loc Cert.KernelInDxIdeal.main_arg2)
      ∧ r.2.mem ((c.tc : Thread Cert.KernelInDxIdeal.nD Cert.KernelInDxIdeal.τ).loc Cert.KernelInDxIdeal.main_arg3) = m ((c.tc : Thread Cert.KernelInDxIdeal.nD Cert.KernelInDxIdeal.τ).loc Cert.KernelInDxIdeal.main_arg3))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1)
      ∧ r.2.mem ((c.tc : Thread Cert.ReferenceInDxIdeal.nD Cert.ReferenceInDxIdeal.τ).loc Cert.ReferenceInDxIdeal.main_arg2) = m ((c.tc : Thread Cert.ReferenceInDxIdeal.nD Cert.ReferenceInDxIdeal.τ).loc Cert.ReferenceInDxIdeal.main_arg2)
      ∧ r.2.mem ((c.tc : Thread Cert.ReferenceInDxIdeal.nD Cert.ReferenceInDxIdeal.τ).loc Cert.ReferenceInDxIdeal.main_arg3) = m ((c.tc : Thread Cert.ReferenceInDxIdeal.nD Cert.ReferenceInDxIdeal.τ).loc Cert.ReferenceInDxIdeal.main_arg3))
      ∧ r.2.sem = fun _ => 0)

def quiescent_KernelHidden [hKernelHidden : Cert.KernelHidden.Facts] : Prop :=
  ∀ (m : (ℓ : Loc Cert.KernelHidden.nD Cert.KernelHidden.τ Cert.KernelHidden.sig) → Buf (Elt Bits) ℓ) (g : Dev Cert.KernelHidden.nD → PrngReg), Pre_KernelHidden m →
    θ_run (Cert.KernelHidden.defs (F := Bits)) (onTc (τ := Cert.KernelHidden.τ) (Cert.KernelHidden.main (F := Bits))) ⟨m, fun _ => 0, g⟩ (fun r => (∀ c : Dev Cert.KernelHidden.nD,
      r.2.mem ((c.tc : Thread Cert.KernelHidden.nD Cert.KernelHidden.τ).loc Cert.KernelHidden.main_arg0) = m ((c.tc : Thread Cert.KernelHidden.nD Cert.KernelHidden.τ).loc Cert.KernelHidden.main_arg0)
      ∧ r.2.mem ((c.tc : Thread Cert.KernelHidden.nD Cert.KernelHidden.τ).loc Cert.KernelHidden.main_arg1) = m ((c.tc : Thread Cert.KernelHidden.nD Cert.KernelHidden.τ).loc Cert.KernelHidden.main_arg1))
      ∧ r.2.sem = fun _ => 0)

def quiescent_KernelHiddenIdeal [hKernelHiddenIdeal : Cert.KernelHiddenIdeal.Facts] : Prop :=
  ∀ (m : (ℓ : Loc Cert.KernelHiddenIdeal.nD Cert.KernelHiddenIdeal.τ Cert.KernelHiddenIdeal.sig) → Buf (Elt Ideal) ℓ) (g : Dev Cert.KernelHiddenIdeal.nD → PrngReg), Pre_KernelHiddenIdeal m →
    θ_run (Cert.KernelHiddenIdeal.defs (F := Ideal)) (onTc (τ := Cert.KernelHiddenIdeal.τ) (Cert.KernelHiddenIdeal.main (F := Ideal))) ⟨m, fun _ => 0, g⟩ (fun r => (∀ c : Dev Cert.KernelHiddenIdeal.nD,
      r.2.mem ((c.tc : Thread Cert.KernelHiddenIdeal.nD Cert.KernelHiddenIdeal.τ).loc Cert.KernelHiddenIdeal.main_arg0) = m ((c.tc : Thread Cert.KernelHiddenIdeal.nD Cert.KernelHiddenIdeal.τ).loc Cert.KernelHiddenIdeal.main_arg0)
      ∧ r.2.mem ((c.tc : Thread Cert.KernelHiddenIdeal.nD Cert.KernelHiddenIdeal.τ).loc Cert.KernelHiddenIdeal.main_arg1) = m ((c.tc : Thread Cert.KernelHiddenIdeal.nD Cert.KernelHiddenIdeal.τ).loc Cert.KernelHiddenIdeal.main_arg1))
      ∧ r.2.sem = fun _ => 0)

def quiescent_ReferenceHiddenIdeal [hReferenceHiddenIdeal : Cert.ReferenceHiddenIdeal.Facts] : Prop :=
  ∀ (m : (ℓ : Loc Cert.ReferenceHiddenIdeal.nD Cert.ReferenceHiddenIdeal.τ Cert.ReferenceHiddenIdeal.sig) → Buf (Elt Ideal) ℓ) (g : Dev Cert.ReferenceHiddenIdeal.nD → PrngReg), Pre_ReferenceHiddenIdeal m →
    θ_run (Cert.ReferenceHiddenIdeal.defs (F := Ideal)) (onTc (τ := Cert.ReferenceHiddenIdeal.τ) (Cert.ReferenceHiddenIdeal.main (F := Ideal))) ⟨m, fun _ => 0, g⟩ (fun r => (∀ c : Dev Cert.ReferenceHiddenIdeal.nD,
      r.2.mem ((c.tc : Thread Cert.ReferenceHiddenIdeal.nD Cert.ReferenceHiddenIdeal.τ).loc Cert.ReferenceHiddenIdeal.main_arg0) = m ((c.tc : Thread Cert.ReferenceHiddenIdeal.nD Cert.ReferenceHiddenIdeal.τ).loc Cert.ReferenceHiddenIdeal.main_arg0)
      ∧ r.2.mem ((c.tc : Thread Cert.ReferenceHiddenIdeal.nD Cert.ReferenceHiddenIdeal.τ).loc Cert.ReferenceHiddenIdeal.main_arg1) = m ((c.tc : Thread Cert.ReferenceHiddenIdeal.nD Cert.ReferenceHiddenIdeal.τ).loc Cert.ReferenceHiddenIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2)
      ∧ r.2.mem ((c.tc : Thread Cert.KernelLn.nD Cert.KernelLn.τ).loc Cert.KernelLn.main_arg3) = m ((c.tc : Thread Cert.KernelLn.nD Cert.KernelLn.τ).loc Cert.KernelLn.main_arg3))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
      ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ r.2.sem = fun _ => 0)

def quiescent_KernelLnIdeal_pre_finite_ln [hKernelLnIdeal : Cert.KernelLnIdeal.Facts] [hPre_finite_ln : Cert.Pre_finite_ln.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal_finite_ln m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
      ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3))
      ∧ r.2.sem = fun _ => 0)

def quiescent_ReferenceLnIdeal_pre_finite_ln [hReferenceLnIdeal : Cert.ReferenceLnIdeal.Facts] [hPre_finite_ln : Cert.Pre_finite_ln.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal_finite_ln m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3))
      ∧ r.2.sem = fun _ => 0)

def quiescent_KernelHead [hKernelHead : Cert.KernelHead.Facts] : Prop :=
  ∀ (m : (ℓ : Loc Cert.KernelHead.nD Cert.KernelHead.τ Cert.KernelHead.sig) → Buf (Elt Bits) ℓ) (g : Dev Cert.KernelHead.nD → PrngReg), Pre_KernelHead m →
    θ_run (Cert.KernelHead.defs (F := Bits)) (onTc (τ := Cert.KernelHead.τ) (Cert.KernelHead.main (F := Bits))) ⟨m, fun _ => 0, g⟩ (fun r => (∀ c : Dev Cert.KernelHead.nD,
      r.2.mem ((c.tc : Thread Cert.KernelHead.nD Cert.KernelHead.τ).loc Cert.KernelHead.main_arg0) = m ((c.tc : Thread Cert.KernelHead.nD Cert.KernelHead.τ).loc Cert.KernelHead.main_arg0)
      ∧ r.2.mem ((c.tc : Thread Cert.KernelHead.nD Cert.KernelHead.τ).loc Cert.KernelHead.main_arg1) = m ((c.tc : Thread Cert.KernelHead.nD Cert.KernelHead.τ).loc Cert.KernelHead.main_arg1)
      ∧ r.2.mem ((c.tc : Thread Cert.KernelHead.nD Cert.KernelHead.τ).loc Cert.KernelHead.main_arg2) = m ((c.tc : Thread Cert.KernelHead.nD Cert.KernelHead.τ).loc Cert.KernelHead.main_arg2)
      ∧ r.2.mem ((c.tc : Thread Cert.KernelHead.nD Cert.KernelHead.τ).loc Cert.KernelHead.main_arg3) = m ((c.tc : Thread Cert.KernelHead.nD Cert.KernelHead.τ).loc Cert.KernelHead.main_arg3))
      ∧ r.2.sem = fun _ => 0)

def quiescent_KernelHeadIdeal [hKernelHeadIdeal : Cert.KernelHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg), Pre_KernelHeadIdeal m →
    θ_run (Cert.KernelHeadIdeal.defs (F := Ideal)) (onTc (τ := Cert.KernelHeadIdeal.τ) (Cert.KernelHeadIdeal.main (F := Ideal))) ⟨m, fun _ => 0, g⟩ (fun r => (∀ c : Dev Cert.KernelHeadIdeal.nD,
      r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
      ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
      ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
      ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3))
      ∧ r.2.sem = fun _ => 0)

def quiescent_KernelHeadIdeal_pre_finite_head [hKernelHeadIdeal : Cert.KernelHeadIdeal.Facts] [hPre_finite_head : Cert.Pre_finite_head.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg), Pre_KernelHeadIdeal_finite_head m →
    θ_run (Cert.KernelHeadIdeal.defs (F := Ideal)) (onTc (τ := Cert.KernelHeadIdeal.τ) (Cert.KernelHeadIdeal.main (F := Ideal))) ⟨m, fun _ => 0, g⟩ (fun r => (∀ c : Dev Cert.KernelHeadIdeal.nD,
      r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
      ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
      ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
      ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3))
      ∧ r.2.sem = fun _ => 0)

def quiescent_ReferenceHeadIdeal [hReferenceHeadIdeal : Cert.ReferenceHeadIdeal.Facts] : Prop :=
  ∀ (m : (ℓ : Loc Cert.ReferenceHeadIdeal.nD Cert.ReferenceHeadIdeal.τ Cert.ReferenceHeadIdeal.sig) → Buf (Elt Ideal) ℓ) (g : Dev Cert.ReferenceHeadIdeal.nD → PrngReg), Pre_ReferenceHeadIdeal m →
    θ_run (Cert.ReferenceHeadIdeal.defs (F := Ideal)) (onTc (τ := Cert.ReferenceHeadIdeal.τ) (Cert.ReferenceHeadIdeal.main (F := Ideal))) ⟨m, fun _ => 0, g⟩ (fun r => (∀ c : Dev Cert.ReferenceHeadIdeal.nD,
      r.2.mem ((c.tc : Thread Cert.ReferenceHeadIdeal.nD Cert.ReferenceHeadIdeal.τ).loc Cert.ReferenceHeadIdeal.main_arg0) = m ((c.tc : Thread Cert.ReferenceHeadIdeal.nD Cert.ReferenceHeadIdeal.τ).loc Cert.ReferenceHeadIdeal.main_arg0)
      ∧ r.2.mem ((c.tc : Thread Cert.ReferenceHeadIdeal.nD Cert.ReferenceHeadIdeal.τ).loc Cert.ReferenceHeadIdeal.main_arg1) = m ((c.tc : Thread Cert.ReferenceHeadIdeal.nD Cert.ReferenceHeadIdeal.τ).loc Cert.ReferenceHeadIdeal.main_arg1)
      ∧ r.2.mem ((c.tc : Thread Cert.ReferenceHeadIdeal.nD Cert.ReferenceHeadIdeal.τ).loc Cert.ReferenceHeadIdeal.main_arg2) = m ((c.tc : Thread Cert.ReferenceHeadIdeal.nD Cert.ReferenceHeadIdeal.τ).loc Cert.ReferenceHeadIdeal.main_arg2)
      ∧ r.2.mem ((c.tc : Thread Cert.ReferenceHeadIdeal.nD Cert.ReferenceHeadIdeal.τ).loc Cert.ReferenceHeadIdeal.main_arg3) = m ((c.tc : Thread Cert.ReferenceHeadIdeal.nD Cert.ReferenceHeadIdeal.τ).loc Cert.ReferenceHeadIdeal.main_arg3))
      ∧ r.2.sem = fun _ => 0)

def quiescent_ReferenceHeadIdeal_pre_finite_head [hReferenceHeadIdeal : Cert.ReferenceHeadIdeal.Facts] [hPre_finite_head : Cert.Pre_finite_head.Facts] : Prop :=
  ∀ (m : (ℓ : Loc Cert.ReferenceHeadIdeal.nD Cert.ReferenceHeadIdeal.τ Cert.ReferenceHeadIdeal.sig) → Buf (Elt Ideal) ℓ) (g : Dev Cert.ReferenceHeadIdeal.nD → PrngReg), Pre_ReferenceHeadIdeal_finite_head m →
    θ_run (Cert.ReferenceHeadIdeal.defs (F := Ideal)) (onTc (τ := Cert.ReferenceHeadIdeal.τ) (Cert.ReferenceHeadIdeal.main (F := Ideal))) ⟨m, fun _ => 0, g⟩ (fun r => (∀ c : Dev Cert.ReferenceHeadIdeal.nD,
      r.2.mem ((c.tc : Thread Cert.ReferenceHeadIdeal.nD Cert.ReferenceHeadIdeal.τ).loc Cert.ReferenceHeadIdeal.main_arg0) = m ((c.tc : Thread Cert.ReferenceHeadIdeal.nD Cert.ReferenceHeadIdeal.τ).loc Cert.ReferenceHeadIdeal.main_arg0)
      ∧ r.2.mem ((c.tc : Thread Cert.ReferenceHeadIdeal.nD Cert.ReferenceHeadIdeal.τ).loc Cert.ReferenceHeadIdeal.main_arg1) = m ((c.tc : Thread Cert.ReferenceHeadIdeal.nD Cert.ReferenceHeadIdeal.τ).loc Cert.ReferenceHeadIdeal.main_arg1)
      ∧ r.2.mem ((c.tc : Thread Cert.ReferenceHeadIdeal.nD Cert.ReferenceHeadIdeal.τ).loc Cert.ReferenceHeadIdeal.main_arg2) = m ((c.tc : Thread Cert.ReferenceHeadIdeal.nD Cert.ReferenceHeadIdeal.τ).loc Cert.ReferenceHeadIdeal.main_arg2)
      ∧ r.2.mem ((c.tc : Thread Cert.ReferenceHeadIdeal.nD Cert.ReferenceHeadIdeal.τ).loc Cert.ReferenceHeadIdeal.main_arg3) = m ((c.tc : Thread Cert.ReferenceHeadIdeal.nD Cert.ReferenceHeadIdeal.τ).loc Cert.ReferenceHeadIdeal.main_arg3))
      ∧ r.2.sem = fun _ => 0)

def quiescent_KernelGateNorm [hKernelGateNorm : Cert.KernelGateNorm.Facts] : Prop :=
  ∀ (m : (ℓ : Loc Cert.KernelGateNorm.nD Cert.KernelGateNorm.τ Cert.KernelGateNorm.sig) → Buf (Elt Bits) ℓ) (g : Dev Cert.KernelGateNorm.nD → PrngReg), Pre_KernelGateNorm m →
    θ_run (Cert.KernelGateNorm.defs (F := Bits)) (onTc (τ := Cert.KernelGateNorm.τ) (Cert.KernelGateNorm.main (F := Bits))) ⟨m, fun _ => 0, g⟩ (fun r => (∀ c : Dev Cert.KernelGateNorm.nD,
      r.2.mem ((c.tc : Thread Cert.KernelGateNorm.nD Cert.KernelGateNorm.τ).loc Cert.KernelGateNorm.main_arg0) = m ((c.tc : Thread Cert.KernelGateNorm.nD Cert.KernelGateNorm.τ).loc Cert.KernelGateNorm.main_arg0)
      ∧ r.2.mem ((c.tc : Thread Cert.KernelGateNorm.nD Cert.KernelGateNorm.τ).loc Cert.KernelGateNorm.main_arg1) = m ((c.tc : Thread Cert.KernelGateNorm.nD Cert.KernelGateNorm.τ).loc Cert.KernelGateNorm.main_arg1)
      ∧ r.2.mem ((c.tc : Thread Cert.KernelGateNorm.nD Cert.KernelGateNorm.τ).loc Cert.KernelGateNorm.main_arg2) = m ((c.tc : Thread Cert.KernelGateNorm.nD Cert.KernelGateNorm.τ).loc Cert.KernelGateNorm.main_arg2))
      ∧ r.2.sem = fun _ => 0)

def quiescent_KernelGateNormIdeal [hKernelGateNormIdeal : Cert.KernelGateNormIdeal.Facts] : Prop :=
  ∀ (m : (ℓ : Loc Cert.KernelGateNormIdeal.nD Cert.KernelGateNormIdeal.τ Cert.KernelGateNormIdeal.sig) → Buf (Elt Ideal) ℓ) (g : Dev Cert.KernelGateNormIdeal.nD → PrngReg), Pre_KernelGateNormIdeal m →
    θ_run (Cert.KernelGateNormIdeal.defs (F := Ideal)) (onTc (τ := Cert.KernelGateNormIdeal.τ) (Cert.KernelGateNormIdeal.main (F := Ideal))) ⟨m, fun _ => 0, g⟩ (fun r => (∀ c : Dev Cert.KernelGateNormIdeal.nD,
      r.2.mem ((c.tc : Thread Cert.KernelGateNormIdeal.nD Cert.KernelGateNormIdeal.τ).loc Cert.KernelGateNormIdeal.main_arg0) = m ((c.tc : Thread Cert.KernelGateNormIdeal.nD Cert.KernelGateNormIdeal.τ).loc Cert.KernelGateNormIdeal.main_arg0)
      ∧ r.2.mem ((c.tc : Thread Cert.KernelGateNormIdeal.nD Cert.KernelGateNormIdeal.τ).loc Cert.KernelGateNormIdeal.main_arg1) = m ((c.tc : Thread Cert.KernelGateNormIdeal.nD Cert.KernelGateNormIdeal.τ).loc Cert.KernelGateNormIdeal.main_arg1)
      ∧ r.2.mem ((c.tc : Thread Cert.KernelGateNormIdeal.nD Cert.KernelGateNormIdeal.τ).loc Cert.KernelGateNormIdeal.main_arg2) = m ((c.tc : Thread Cert.KernelGateNormIdeal.nD Cert.KernelGateNormIdeal.τ).loc Cert.KernelGateNormIdeal.main_arg2))
      ∧ r.2.sem = fun _ => 0)

def quiescent_ReferenceGateNormIdeal [hReferenceGateNormIdeal : Cert.ReferenceGateNormIdeal.Facts] : Prop :=
  ∀ (m : (ℓ : Loc Cert.ReferenceGateNormIdeal.nD Cert.ReferenceGateNormIdeal.τ Cert.ReferenceGateNormIdeal.sig) → Buf (Elt Ideal) ℓ) (g : Dev Cert.ReferenceGateNormIdeal.nD → PrngReg), Pre_ReferenceGateNormIdeal m →
    θ_run (Cert.ReferenceGateNormIdeal.defs (F := Ideal)) (onTc (τ := Cert.ReferenceGateNormIdeal.τ) (Cert.ReferenceGateNormIdeal.main (F := Ideal))) ⟨m, fun _ => 0, g⟩ (fun r => (∀ c : Dev Cert.ReferenceGateNormIdeal.nD,
      r.2.mem ((c.tc : Thread Cert.ReferenceGateNormIdeal.nD Cert.ReferenceGateNormIdeal.τ).loc Cert.ReferenceGateNormIdeal.main_arg0) = m ((c.tc : Thread Cert.ReferenceGateNormIdeal.nD Cert.ReferenceGateNormIdeal.τ).loc Cert.ReferenceGateNormIdeal.main_arg0)
      ∧ r.2.mem ((c.tc : Thread Cert.ReferenceGateNormIdeal.nD Cert.ReferenceGateNormIdeal.τ).loc Cert.ReferenceGateNormIdeal.main_arg1) = m ((c.tc : Thread Cert.ReferenceGateNormIdeal.nD Cert.ReferenceGateNormIdeal.τ).loc Cert.ReferenceGateNormIdeal.main_arg1)
      ∧ r.2.mem ((c.tc : Thread Cert.ReferenceGateNormIdeal.nD Cert.ReferenceGateNormIdeal.τ).loc Cert.ReferenceGateNormIdeal.main_arg2) = m ((c.tc : Thread Cert.ReferenceGateNormIdeal.nD Cert.ReferenceGateNormIdeal.τ).loc Cert.ReferenceGateNormIdeal.main_arg2))
      ∧ r.2.sem = fun _ => 0)

def quiescent_KernelPrev [hKernelPrev : Cert.KernelPrev.Facts] : Prop :=
  ∀ (m : (ℓ : Loc Cert.KernelPrev.nD Cert.KernelPrev.τ Cert.KernelPrev.sig) → Buf (Elt Bits) ℓ) (g : Dev Cert.KernelPrev.nD → PrngReg), Pre_KernelPrev m →
    θ_run (Cert.KernelPrev.defs (F := Bits)) (onTc (τ := Cert.KernelPrev.τ) (Cert.KernelPrev.main (F := Bits))) ⟨m, fun _ => 0, g⟩ (fun r => (∀ c : Dev Cert.KernelPrev.nD,
      r.2.mem ((c.tc : Thread Cert.KernelPrev.nD Cert.KernelPrev.τ).loc Cert.KernelPrev.main_arg0) = m ((c.tc : Thread Cert.KernelPrev.nD Cert.KernelPrev.τ).loc Cert.KernelPrev.main_arg0)
      ∧ r.2.mem ((c.tc : Thread Cert.KernelPrev.nD Cert.KernelPrev.τ).loc Cert.KernelPrev.main_arg1) = m ((c.tc : Thread Cert.KernelPrev.nD Cert.KernelPrev.τ).loc Cert.KernelPrev.main_arg1)
      ∧ r.2.mem ((c.tc : Thread Cert.KernelPrev.nD Cert.KernelPrev.τ).loc Cert.KernelPrev.main_arg2) = m ((c.tc : Thread Cert.KernelPrev.nD Cert.KernelPrev.τ).loc Cert.KernelPrev.main_arg2)
      ∧ r.2.mem ((c.tc : Thread Cert.KernelPrev.nD Cert.KernelPrev.τ).loc Cert.KernelPrev.main_arg3) = m ((c.tc : Thread Cert.KernelPrev.nD Cert.KernelPrev.τ).loc Cert.KernelPrev.main_arg3)
      ∧ r.2.mem ((c.tc : Thread Cert.KernelPrev.nD Cert.KernelPrev.τ).loc Cert.KernelPrev.main_arg4) = m ((c.tc : Thread Cert.KernelPrev.nD Cert.KernelPrev.τ).loc Cert.KernelPrev.main_arg4)
      ∧ r.2.mem ((c.tc : Thread Cert.KernelPrev.nD Cert.KernelPrev.τ).loc Cert.KernelPrev.main_arg5) = m ((c.tc : Thread Cert.KernelPrev.nD Cert.KernelPrev.τ).loc Cert.KernelPrev.main_arg5))
      ∧ r.2.sem = fun _ => 0)

def quiescent_KernelPrevIdeal [hKernelPrevIdeal : Cert.KernelPrevIdeal.Facts] : Prop :=
  ∀ (m : (ℓ : Loc Cert.KernelPrevIdeal.nD Cert.KernelPrevIdeal.τ Cert.KernelPrevIdeal.sig) → Buf (Elt Ideal) ℓ) (g : Dev Cert.KernelPrevIdeal.nD → PrngReg), Pre_KernelPrevIdeal m →
    θ_run (Cert.KernelPrevIdeal.defs (F := Ideal)) (onTc (τ := Cert.KernelPrevIdeal.τ) (Cert.KernelPrevIdeal.main (F := Ideal))) ⟨m, fun _ => 0, g⟩ (fun r => (∀ c : Dev Cert.KernelPrevIdeal.nD,
      r.2.mem ((c.tc : Thread Cert.KernelPrevIdeal.nD Cert.KernelPrevIdeal.τ).loc Cert.KernelPrevIdeal.main_arg0) = m ((c.tc : Thread Cert.KernelPrevIdeal.nD Cert.KernelPrevIdeal.τ).loc Cert.KernelPrevIdeal.main_arg0)
      ∧ r.2.mem ((c.tc : Thread Cert.KernelPrevIdeal.nD Cert.KernelPrevIdeal.τ).loc Cert.KernelPrevIdeal.main_arg1) = m ((c.tc : Thread Cert.KernelPrevIdeal.nD Cert.KernelPrevIdeal.τ).loc Cert.KernelPrevIdeal.main_arg1)
      ∧ r.2.mem ((c.tc : Thread Cert.KernelPrevIdeal.nD Cert.KernelPrevIdeal.τ).loc Cert.KernelPrevIdeal.main_arg2) = m ((c.tc : Thread Cert.KernelPrevIdeal.nD Cert.KernelPrevIdeal.τ).loc Cert.KernelPrevIdeal.main_arg2)
      ∧ r.2.mem ((c.tc : Thread Cert.KernelPrevIdeal.nD Cert.KernelPrevIdeal.τ).loc Cert.KernelPrevIdeal.main_arg3) = m ((c.tc : Thread Cert.KernelPrevIdeal.nD Cert.KernelPrevIdeal.τ).loc Cert.KernelPrevIdeal.main_arg3)
      ∧ r.2.mem ((c.tc : Thread Cert.KernelPrevIdeal.nD Cert.KernelPrevIdeal.τ).loc Cert.KernelPrevIdeal.main_arg4) = m ((c.tc : Thread Cert.KernelPrevIdeal.nD Cert.KernelPrevIdeal.τ).loc Cert.KernelPrevIdeal.main_arg4)
      ∧ r.2.mem ((c.tc : Thread Cert.KernelPrevIdeal.nD Cert.KernelPrevIdeal.τ).loc Cert.KernelPrevIdeal.main_arg5) = m ((c.tc : Thread Cert.KernelPrevIdeal.nD Cert.KernelPrevIdeal.τ).loc Cert.KernelPrevIdeal.main_arg5))
      ∧ r.2.sem = fun _ => 0)

def quiescent_KernelPrevIdeal_pre_finite_prev [hKernelPrevIdeal : Cert.KernelPrevIdeal.Facts] [hPre_finite_prev : Cert.Pre_finite_prev.Facts] : Prop :=
  ∀ (m : (ℓ : Loc Cert.KernelPrevIdeal.nD Cert.KernelPrevIdeal.τ Cert.KernelPrevIdeal.sig) → Buf (Elt Ideal) ℓ) (g : Dev Cert.KernelPrevIdeal.nD → PrngReg), Pre_KernelPrevIdeal_finite_prev m →
    θ_run (Cert.KernelPrevIdeal.defs (F := Ideal)) (onTc (τ := Cert.KernelPrevIdeal.τ) (Cert.KernelPrevIdeal.main (F := Ideal))) ⟨m, fun _ => 0, g⟩ (fun r => (∀ c : Dev Cert.KernelPrevIdeal.nD,
      r.2.mem ((c.tc : Thread Cert.KernelPrevIdeal.nD Cert.KernelPrevIdeal.τ).loc Cert.KernelPrevIdeal.main_arg0) = m ((c.tc : Thread Cert.KernelPrevIdeal.nD Cert.KernelPrevIdeal.τ).loc Cert.KernelPrevIdeal.main_arg0)
      ∧ r.2.mem ((c.tc : Thread Cert.KernelPrevIdeal.nD Cert.KernelPrevIdeal.τ).loc Cert.KernelPrevIdeal.main_arg1) = m ((c.tc : Thread Cert.KernelPrevIdeal.nD Cert.KernelPrevIdeal.τ).loc Cert.KernelPrevIdeal.main_arg1)
      ∧ r.2.mem ((c.tc : Thread Cert.KernelPrevIdeal.nD Cert.KernelPrevIdeal.τ).loc Cert.KernelPrevIdeal.main_arg2) = m ((c.tc : Thread Cert.KernelPrevIdeal.nD Cert.KernelPrevIdeal.τ).loc Cert.KernelPrevIdeal.main_arg2)
      ∧ r.2.mem ((c.tc : Thread Cert.KernelPrevIdeal.nD Cert.KernelPrevIdeal.τ).loc Cert.KernelPrevIdeal.main_arg3) = m ((c.tc : Thread Cert.KernelPrevIdeal.nD Cert.KernelPrevIdeal.τ).loc Cert.KernelPrevIdeal.main_arg3)
      ∧ r.2.mem ((c.tc : Thread Cert.KernelPrevIdeal.nD Cert.KernelPrevIdeal.τ).loc Cert.KernelPrevIdeal.main_arg4) = m ((c.tc : Thread Cert.KernelPrevIdeal.nD Cert.KernelPrevIdeal.τ).loc Cert.KernelPrevIdeal.main_arg4)
      ∧ r.2.mem ((c.tc : Thread Cert.KernelPrevIdeal.nD Cert.KernelPrevIdeal.τ).loc Cert.KernelPrevIdeal.main_arg5) = m ((c.tc : Thread Cert.KernelPrevIdeal.nD Cert.KernelPrevIdeal.τ).loc Cert.KernelPrevIdeal.main_arg5))
      ∧ r.2.sem = fun _ => 0)

def quiescent_ReferencePrevIdeal [hReferencePrevIdeal : Cert.ReferencePrevIdeal.Facts] : Prop :=
  ∀ (m : (ℓ : Loc Cert.ReferencePrevIdeal.nD Cert.ReferencePrevIdeal.τ Cert.ReferencePrevIdeal.sig) → Buf (Elt Ideal) ℓ) (g : Dev Cert.ReferencePrevIdeal.nD → PrngReg), Pre_ReferencePrevIdeal m →
    θ_run (Cert.ReferencePrevIdeal.defs (F := Ideal)) (onTc (τ := Cert.ReferencePrevIdeal.τ) (Cert.ReferencePrevIdeal.main (F := Ideal))) ⟨m, fun _ => 0, g⟩ (fun r => (∀ c : Dev Cert.ReferencePrevIdeal.nD,
      r.2.mem ((c.tc : Thread Cert.ReferencePrevIdeal.nD Cert.ReferencePrevIdeal.τ).loc Cert.ReferencePrevIdeal.main_arg0) = m ((c.tc : Thread Cert.ReferencePrevIdeal.nD Cert.ReferencePrevIdeal.τ).loc Cert.ReferencePrevIdeal.main_arg0)
      ∧ r.2.mem ((c.tc : Thread Cert.ReferencePrevIdeal.nD Cert.ReferencePrevIdeal.τ).loc Cert.ReferencePrevIdeal.main_arg1) = m ((c.tc : Thread Cert.ReferencePrevIdeal.nD Cert.ReferencePrevIdeal.τ).loc Cert.ReferencePrevIdeal.main_arg1)
      ∧ r.2.mem ((c.tc : Thread Cert.ReferencePrevIdeal.nD Cert.ReferencePrevIdeal.τ).loc Cert.ReferencePrevIdeal.main_arg2) = m ((c.tc : Thread Cert.ReferencePrevIdeal.nD Cert.ReferencePrevIdeal.τ).loc Cert.ReferencePrevIdeal.main_arg2)
      ∧ r.2.mem ((c.tc : Thread Cert.ReferencePrevIdeal.nD Cert.ReferencePrevIdeal.τ).loc Cert.ReferencePrevIdeal.main_arg3) = m ((c.tc : Thread Cert.ReferencePrevIdeal.nD Cert.ReferencePrevIdeal.τ).loc Cert.ReferencePrevIdeal.main_arg3)
      ∧ r.2.mem ((c.tc : Thread Cert.ReferencePrevIdeal.nD Cert.ReferencePrevIdeal.τ).loc Cert.ReferencePrevIdeal.main_arg4) = m ((c.tc : Thread Cert.ReferencePrevIdeal.nD Cert.ReferencePrevIdeal.τ).loc Cert.ReferencePrevIdeal.main_arg4)
      ∧ r.2.mem ((c.tc : Thread Cert.ReferencePrevIdeal.nD Cert.ReferencePrevIdeal.τ).loc Cert.ReferencePrevIdeal.main_arg5) = m ((c.tc : Thread Cert.ReferencePrevIdeal.nD Cert.ReferencePrevIdeal.τ).loc Cert.ReferencePrevIdeal.main_arg5))
      ∧ r.2.sem = fun _ => 0)

def quiescent_ReferencePrevIdeal_pre_finite_prev [hReferencePrevIdeal : Cert.ReferencePrevIdeal.Facts] [hPre_finite_prev : Cert.Pre_finite_prev.Facts] : Prop :=
  ∀ (m : (ℓ : Loc Cert.ReferencePrevIdeal.nD Cert.ReferencePrevIdeal.τ Cert.ReferencePrevIdeal.sig) → Buf (Elt Ideal) ℓ) (g : Dev Cert.ReferencePrevIdeal.nD → PrngReg), Pre_ReferencePrevIdeal_finite_prev m →
    θ_run (Cert.ReferencePrevIdeal.defs (F := Ideal)) (onTc (τ := Cert.ReferencePrevIdeal.τ) (Cert.ReferencePrevIdeal.main (F := Ideal))) ⟨m, fun _ => 0, g⟩ (fun r => (∀ c : Dev Cert.ReferencePrevIdeal.nD,
      r.2.mem ((c.tc : Thread Cert.ReferencePrevIdeal.nD Cert.ReferencePrevIdeal.τ).loc Cert.ReferencePrevIdeal.main_arg0) = m ((c.tc : Thread Cert.ReferencePrevIdeal.nD Cert.ReferencePrevIdeal.τ).loc Cert.ReferencePrevIdeal.main_arg0)
      ∧ r.2.mem ((c.tc : Thread Cert.ReferencePrevIdeal.nD Cert.ReferencePrevIdeal.τ).loc Cert.ReferencePrevIdeal.main_arg1) = m ((c.tc : Thread Cert.ReferencePrevIdeal.nD Cert.ReferencePrevIdeal.τ).loc Cert.ReferencePrevIdeal.main_arg1)
      ∧ r.2.mem ((c.tc : Thread Cert.ReferencePrevIdeal.nD Cert.ReferencePrevIdeal.τ).loc Cert.ReferencePrevIdeal.main_arg2) = m ((c.tc : Thread Cert.ReferencePrevIdeal.nD Cert.ReferencePrevIdeal.τ).loc Cert.ReferencePrevIdeal.main_arg2)
      ∧ r.2.mem ((c.tc : Thread Cert.ReferencePrevIdeal.nD Cert.ReferencePrevIdeal.τ).loc Cert.ReferencePrevIdeal.main_arg3) = m ((c.tc : Thread Cert.ReferencePrevIdeal.nD Cert.ReferencePrevIdeal.τ).loc Cert.ReferencePrevIdeal.main_arg3)
      ∧ r.2.mem ((c.tc : Thread Cert.ReferencePrevIdeal.nD Cert.ReferencePrevIdeal.τ).loc Cert.ReferencePrevIdeal.main_arg4) = m ((c.tc : Thread Cert.ReferencePrevIdeal.nD Cert.ReferencePrevIdeal.τ).loc Cert.ReferencePrevIdeal.main_arg4)
      ∧ r.2.mem ((c.tc : Thread Cert.ReferencePrevIdeal.nD Cert.ReferencePrevIdeal.τ).loc Cert.ReferencePrevIdeal.main_arg5) = m ((c.tc : Thread Cert.ReferencePrevIdeal.nD Cert.ReferencePrevIdeal.τ).loc Cert.ReferencePrevIdeal.main_arg5))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelRelu_KernelReluIdeal : Prop :=
  True

def algebraic_KernelReluIdeal_ReferenceReluIdeal [hKernelReluIdeal : Cert.KernelReluIdeal.Facts] [hReferenceReluIdeal : Cert.ReferenceReluIdeal.Facts] : Prop :=
  ∀ (m : (ℓ : Loc Cert.KernelReluIdeal.nD Cert.KernelReluIdeal.τ Cert.KernelReluIdeal.sig) → Buf (Elt Ideal) ℓ) (g : Dev Cert.KernelReluIdeal.nD → PrngReg)
    (m' : (ℓ : Loc Cert.ReferenceReluIdeal.nD Cert.ReferenceReluIdeal.τ Cert.ReferenceReluIdeal.sig) → Buf (Elt Ideal) ℓ) (g' : Dev Cert.ReferenceReluIdeal.nD → PrngReg), Pre_KernelReluIdeal m →
    (∀ c : Dev Cert.KernelReluIdeal.nD,
      m' ((c.tc : Thread Cert.ReferenceReluIdeal.nD Cert.ReferenceReluIdeal.τ).loc Cert.ReferenceReluIdeal.main_arg0) = m ((c.tc : Thread Cert.KernelReluIdeal.nD Cert.KernelReluIdeal.τ).loc Cert.KernelReluIdeal.main_arg0)
      ∧ m' ((c.tc : Thread Cert.ReferenceReluIdeal.nD Cert.ReferenceReluIdeal.τ).loc Cert.ReferenceReluIdeal.main_arg1) = m ((c.tc : Thread Cert.KernelReluIdeal.nD Cert.KernelReluIdeal.τ).loc Cert.KernelReluIdeal.main_arg1)
      ∧ m' ((c.tc : Thread Cert.ReferenceReluIdeal.nD Cert.ReferenceReluIdeal.τ).loc Cert.ReferenceReluIdeal.main_arg2) = m ((c.tc : Thread Cert.KernelReluIdeal.nD Cert.KernelReluIdeal.τ).loc Cert.KernelReluIdeal.main_arg2)) →
    ∃ (v0 : (c : Dev Cert.KernelReluIdeal.nD) → Buf (Elt Ideal) ((c.tc : Thread Cert.KernelReluIdeal.nD Cert.KernelReluIdeal.τ).loc Cert.KernelReluIdeal.main_v6)),
      θ_run (Cert.KernelReluIdeal.defs (F := Ideal)) (onTc (τ := Cert.KernelReluIdeal.τ) (Cert.KernelReluIdeal.main (F := Ideal))) ⟨m, fun _ => 0, g⟩ (fun r => ∀ c : Dev Cert.KernelReluIdeal.nD,
          r.2.mem ((c.tc : Thread Cert.KernelReluIdeal.nD Cert.KernelReluIdeal.τ).loc Cert.KernelReluIdeal.main_v6) = v0 c
          ∧ r.2.mem ((c.tc : Thread Cert.KernelReluIdeal.nD Cert.KernelReluIdeal.τ).loc Cert.KernelReluIdeal.main_arg0) = m ((c.tc : Thread Cert.KernelReluIdeal.nD Cert.KernelReluIdeal.τ).loc Cert.KernelReluIdeal.main_arg0)
          ∧ r.2.mem ((c.tc : Thread Cert.KernelReluIdeal.nD Cert.KernelReluIdeal.τ).loc Cert.KernelReluIdeal.main_arg1) = m ((c.tc : Thread Cert.KernelReluIdeal.nD Cert.KernelReluIdeal.τ).loc Cert.KernelReluIdeal.main_arg1)
          ∧ r.2.mem ((c.tc : Thread Cert.KernelReluIdeal.nD Cert.KernelReluIdeal.τ).loc Cert.KernelReluIdeal.main_arg2) = m ((c.tc : Thread Cert.KernelReluIdeal.nD Cert.KernelReluIdeal.τ).loc Cert.KernelReluIdeal.main_arg2))
      ∧ θ_run (Cert.ReferenceReluIdeal.defs (F := Ideal)) (onTc (τ := Cert.ReferenceReluIdeal.τ) (Cert.ReferenceReluIdeal.main (F := Ideal))) ⟨m', fun _ => 0, g'⟩ (fun r => ∀ c : Dev Cert.ReferenceReluIdeal.nD,
          r.2.mem ((c.tc : Thread Cert.ReferenceReluIdeal.nD Cert.ReferenceReluIdeal.τ).loc Cert.ReferenceReluIdeal.main_v14) = v0 c
          ∧ r.2.mem ((c.tc : Thread Cert.ReferenceReluIdeal.nD Cert.ReferenceReluIdeal.τ).loc Cert.ReferenceReluIdeal.main_arg0) = m' ((c.tc : Thread Cert.ReferenceReluIdeal.nD Cert.ReferenceReluIdeal.τ).loc Cert.ReferenceReluIdeal.main_arg0)
          ∧ r.2.mem ((c.tc : Thread Cert.ReferenceReluIdeal.nD Cert.ReferenceReluIdeal.τ).loc Cert.ReferenceReluIdeal.main_arg1) = m' ((c.tc : Thread Cert.ReferenceReluIdeal.nD Cert.ReferenceReluIdeal.τ).loc Cert.ReferenceReluIdeal.main_arg1)
          ∧ r.2.mem ((c.tc : Thread Cert.ReferenceReluIdeal.nD Cert.ReferenceReluIdeal.τ).loc Cert.ReferenceReluIdeal.main_arg2) = m' ((c.tc : Thread Cert.ReferenceReluIdeal.nD Cert.ReferenceReluIdeal.τ).loc Cert.ReferenceReluIdeal.main_arg2))

def preserves_KernelW2_KernelW2Ideal : Prop :=
  True

def algebraic_KernelW2Ideal_ReferenceW2Ideal [hKernelW2Ideal : Cert.KernelW2Ideal.Facts] [hReferenceW2Ideal : Cert.ReferenceW2Ideal.Facts] : Prop :=
  ∀ (m : (ℓ : Loc Cert.KernelW2Ideal.nD Cert.KernelW2Ideal.τ Cert.KernelW2Ideal.sig) → Buf (Elt Ideal) ℓ) (g : Dev Cert.KernelW2Ideal.nD → PrngReg)
    (m' : (ℓ : Loc Cert.ReferenceW2Ideal.nD Cert.ReferenceW2Ideal.τ Cert.ReferenceW2Ideal.sig) → Buf (Elt Ideal) ℓ) (g' : Dev Cert.ReferenceW2Ideal.nD → PrngReg), Pre_KernelW2Ideal m →
    (∀ c : Dev Cert.KernelW2Ideal.nD,
      m' ((c.tc : Thread Cert.ReferenceW2Ideal.nD Cert.ReferenceW2Ideal.τ).loc Cert.ReferenceW2Ideal.main_arg0) = m ((c.tc : Thread Cert.KernelW2Ideal.nD Cert.KernelW2Ideal.τ).loc Cert.KernelW2Ideal.main_arg0)
      ∧ m' ((c.tc : Thread Cert.ReferenceW2Ideal.nD Cert.ReferenceW2Ideal.τ).loc Cert.ReferenceW2Ideal.main_arg1) = m ((c.tc : Thread Cert.KernelW2Ideal.nD Cert.KernelW2Ideal.τ).loc Cert.KernelW2Ideal.main_arg1)
      ∧ m' ((c.tc : Thread Cert.ReferenceW2Ideal.nD Cert.ReferenceW2Ideal.τ).loc Cert.ReferenceW2Ideal.main_arg2) = m ((c.tc : Thread Cert.KernelW2Ideal.nD Cert.KernelW2Ideal.τ).loc Cert.KernelW2Ideal.main_arg2)) →
    ∃ (v0 : (c : Dev Cert.KernelW2Ideal.nD) → Buf (Elt Ideal) ((c.tc : Thread Cert.KernelW2Ideal.nD Cert.KernelW2Ideal.τ).loc Cert.KernelW2Ideal.main_v5)),
      θ_run (Cert.KernelW2Ideal.defs (F := Ideal)) (onTc (τ := Cert.KernelW2Ideal.τ) (Cert.KernelW2Ideal.main (F := Ideal))) ⟨m, fun _ => 0, g⟩ (fun r => ∀ c : Dev Cert.KernelW2Ideal.nD,
          r.2.mem ((c.tc : Thread Cert.KernelW2Ideal.nD Cert.KernelW2Ideal.τ).loc Cert.KernelW2Ideal.main_v5) = v0 c
          ∧ r.2.mem ((c.tc : Thread Cert.KernelW2Ideal.nD Cert.KernelW2Ideal.τ).loc Cert.KernelW2Ideal.main_arg0) = m ((c.tc : Thread Cert.KernelW2Ideal.nD Cert.KernelW2Ideal.τ).loc Cert.KernelW2Ideal.main_arg0)
          ∧ r.2.mem ((c.tc : Thread Cert.KernelW2Ideal.nD Cert.KernelW2Ideal.τ).loc Cert.KernelW2Ideal.main_arg1) = m ((c.tc : Thread Cert.KernelW2Ideal.nD Cert.KernelW2Ideal.τ).loc Cert.KernelW2Ideal.main_arg1)
          ∧ r.2.mem ((c.tc : Thread Cert.KernelW2Ideal.nD Cert.KernelW2Ideal.τ).loc Cert.KernelW2Ideal.main_arg2) = m ((c.tc : Thread Cert.KernelW2Ideal.nD Cert.KernelW2Ideal.τ).loc Cert.KernelW2Ideal.main_arg2))
      ∧ θ_run (Cert.ReferenceW2Ideal.defs (F := Ideal)) (onTc (τ := Cert.ReferenceW2Ideal.τ) (Cert.ReferenceW2Ideal.main (F := Ideal))) ⟨m', fun _ => 0, g'⟩ (fun r => ∀ c : Dev Cert.ReferenceW2Ideal.nD,
          r.2.mem ((c.tc : Thread Cert.ReferenceW2Ideal.nD Cert.ReferenceW2Ideal.τ).loc Cert.ReferenceW2Ideal.main_v14) = v0 c
          ∧ r.2.mem ((c.tc : Thread Cert.ReferenceW2Ideal.nD Cert.ReferenceW2Ideal.τ).loc Cert.ReferenceW2Ideal.main_arg0) = m' ((c.tc : Thread Cert.ReferenceW2Ideal.nD Cert.ReferenceW2Ideal.τ).loc Cert.ReferenceW2Ideal.main_arg0)
          ∧ r.2.mem ((c.tc : Thread Cert.ReferenceW2Ideal.nD Cert.ReferenceW2Ideal.τ).loc Cert.ReferenceW2Ideal.main_arg1) = m' ((c.tc : Thread Cert.ReferenceW2Ideal.nD Cert.ReferenceW2Ideal.τ).loc Cert.ReferenceW2Ideal.main_arg1)
          ∧ r.2.mem ((c.tc : Thread Cert.ReferenceW2Ideal.nD Cert.ReferenceW2Ideal.τ).loc Cert.ReferenceW2Ideal.main_arg2) = m' ((c.tc : Thread Cert.ReferenceW2Ideal.nD Cert.ReferenceW2Ideal.τ).loc Cert.ReferenceW2Ideal.main_arg2))

def preserves_KernelW1_KernelW1Ideal : Prop :=
  True

def algebraic_KernelW1Ideal_ReferenceW1Ideal [hKernelW1Ideal : Cert.KernelW1Ideal.Facts] [hReferenceW1Ideal : Cert.ReferenceW1Ideal.Facts] : Prop :=
  ∀ (m : (ℓ : Loc Cert.KernelW1Ideal.nD Cert.KernelW1Ideal.τ Cert.KernelW1Ideal.sig) → Buf (Elt Ideal) ℓ) (g : Dev Cert.KernelW1Ideal.nD → PrngReg)
    (m' : (ℓ : Loc Cert.ReferenceW1Ideal.nD Cert.ReferenceW1Ideal.τ Cert.ReferenceW1Ideal.sig) → Buf (Elt Ideal) ℓ) (g' : Dev Cert.ReferenceW1Ideal.nD → PrngReg), Pre_KernelW1Ideal m →
    (∀ c : Dev Cert.KernelW1Ideal.nD,
      m' ((c.tc : Thread Cert.ReferenceW1Ideal.nD Cert.ReferenceW1Ideal.τ).loc Cert.ReferenceW1Ideal.main_arg0) = m ((c.tc : Thread Cert.KernelW1Ideal.nD Cert.KernelW1Ideal.τ).loc Cert.KernelW1Ideal.main_arg0)
      ∧ m' ((c.tc : Thread Cert.ReferenceW1Ideal.nD Cert.ReferenceW1Ideal.τ).loc Cert.ReferenceW1Ideal.main_arg1) = m ((c.tc : Thread Cert.KernelW1Ideal.nD Cert.KernelW1Ideal.τ).loc Cert.KernelW1Ideal.main_arg1)
      ∧ m' ((c.tc : Thread Cert.ReferenceW1Ideal.nD Cert.ReferenceW1Ideal.τ).loc Cert.ReferenceW1Ideal.main_arg2) = m ((c.tc : Thread Cert.KernelW1Ideal.nD Cert.KernelW1Ideal.τ).loc Cert.KernelW1Ideal.main_arg2)) →
    ∃ (v0 : (c : Dev Cert.KernelW1Ideal.nD) → Buf (Elt Ideal) ((c.tc : Thread Cert.KernelW1Ideal.nD Cert.KernelW1Ideal.τ).loc Cert.KernelW1Ideal.main_v4)),
      θ_run (Cert.KernelW1Ideal.defs (F := Ideal)) (onTc (τ := Cert.KernelW1Ideal.τ) (Cert.KernelW1Ideal.main (F := Ideal))) ⟨m, fun _ => 0, g⟩ (fun r => ∀ c : Dev Cert.KernelW1Ideal.nD,
          r.2.mem ((c.tc : Thread Cert.KernelW1Ideal.nD Cert.KernelW1Ideal.τ).loc Cert.KernelW1Ideal.main_v4) = v0 c
          ∧ r.2.mem ((c.tc : Thread Cert.KernelW1Ideal.nD Cert.KernelW1Ideal.τ).loc Cert.KernelW1Ideal.main_arg0) = m ((c.tc : Thread Cert.KernelW1Ideal.nD Cert.KernelW1Ideal.τ).loc Cert.KernelW1Ideal.main_arg0)
          ∧ r.2.mem ((c.tc : Thread Cert.KernelW1Ideal.nD Cert.KernelW1Ideal.τ).loc Cert.KernelW1Ideal.main_arg1) = m ((c.tc : Thread Cert.KernelW1Ideal.nD Cert.KernelW1Ideal.τ).loc Cert.KernelW1Ideal.main_arg1)
          ∧ r.2.mem ((c.tc : Thread Cert.KernelW1Ideal.nD Cert.KernelW1Ideal.τ).loc Cert.KernelW1Ideal.main_arg2) = m ((c.tc : Thread Cert.KernelW1Ideal.nD Cert.KernelW1Ideal.τ).loc Cert.KernelW1Ideal.main_arg2))
      ∧ θ_run (Cert.ReferenceW1Ideal.defs (F := Ideal)) (onTc (τ := Cert.ReferenceW1Ideal.τ) (Cert.ReferenceW1Ideal.main (F := Ideal))) ⟨m', fun _ => 0, g'⟩ (fun r => ∀ c : Dev Cert.ReferenceW1Ideal.nD,
          r.2.mem ((c.tc : Thread Cert.ReferenceW1Ideal.nD Cert.ReferenceW1Ideal.τ).loc Cert.ReferenceW1Ideal.main_v5) = v0 c
          ∧ r.2.mem ((c.tc : Thread Cert.ReferenceW1Ideal.nD Cert.ReferenceW1Ideal.τ).loc Cert.ReferenceW1Ideal.main_arg0) = m' ((c.tc : Thread Cert.ReferenceW1Ideal.nD Cert.ReferenceW1Ideal.τ).loc Cert.ReferenceW1Ideal.main_arg0)
          ∧ r.2.mem ((c.tc : Thread Cert.ReferenceW1Ideal.nD Cert.ReferenceW1Ideal.τ).loc Cert.ReferenceW1Ideal.main_arg1) = m' ((c.tc : Thread Cert.ReferenceW1Ideal.nD Cert.ReferenceW1Ideal.τ).loc Cert.ReferenceW1Ideal.main_arg1)
          ∧ r.2.mem ((c.tc : Thread Cert.ReferenceW1Ideal.nD Cert.ReferenceW1Ideal.τ).loc Cert.ReferenceW1Ideal.main_arg2) = m' ((c.tc : Thread Cert.ReferenceW1Ideal.nD Cert.ReferenceW1Ideal.τ).loc Cert.ReferenceW1Ideal.main_arg2))

def preserves_KernelNorm_KernelNormIdeal : Prop :=
  True

def algebraic_KernelNormIdeal_ReferenceNormIdeal_pre_finite_norm [hKernelNormIdeal : Cert.KernelNormIdeal.Facts] [hReferenceNormIdeal : Cert.ReferenceNormIdeal.Facts] [hPre_finite_norm : Cert.Pre_finite_norm.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal_finite_norm m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)
      ∧ m' ((c.tc : Thread Cert.ReferenceNormIdeal.nD Cert.ReferenceNormIdeal.τ).loc Cert.ReferenceNormIdeal.main_arg5) = m ((c.tc : Thread Cert.KernelNormIdeal.nD Cert.KernelNormIdeal.τ).loc Cert.KernelNormIdeal.main_arg5)) →
    ∃ (v0 : (c : Dev Cert.KernelNormIdeal.nD) → Buf (Elt Ideal) ((c.tc : Thread Cert.KernelNormIdeal.nD Cert.KernelNormIdeal.τ).loc Cert.KernelNormIdeal.main_v23_0)) (v1 : (c : Dev Cert.KernelNormIdeal.nD) → Buf (Elt Ideal) ((c.tc : Thread Cert.KernelNormIdeal.nD Cert.KernelNormIdeal.τ).loc Cert.KernelNormIdeal.main_v23_1)) (v2 : (c : Dev Cert.KernelNormIdeal.nD) → Buf (Elt Ideal) ((c.tc : Thread Cert.KernelNormIdeal.nD Cert.KernelNormIdeal.τ).loc Cert.KernelNormIdeal.main_v23_2)) (v3 : (c : Dev Cert.KernelNormIdeal.nD) → Buf (Elt Ideal) ((c.tc : Thread Cert.KernelNormIdeal.nD Cert.KernelNormIdeal.τ).loc Cert.KernelNormIdeal.main_v23_3)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v23_0) = v0 c
          ∧ r.2.mem ((c.tc : Thread Cert.KernelNormIdeal.nD Cert.KernelNormIdeal.τ).loc Cert.KernelNormIdeal.main_v23_1) = v1 c
          ∧ r.2.mem ((c.tc : Thread Cert.KernelNormIdeal.nD Cert.KernelNormIdeal.τ).loc Cert.KernelNormIdeal.main_v23_2) = v2 c
          ∧ r.2.mem ((c.tc : Thread Cert.KernelNormIdeal.nD Cert.KernelNormIdeal.τ).loc Cert.KernelNormIdeal.main_v23_3) = v3 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4)
          ∧ r.2.mem ((c.tc : Thread Cert.KernelNormIdeal.nD Cert.KernelNormIdeal.τ).loc Cert.KernelNormIdeal.main_arg5) = m ((c.tc : Thread Cert.KernelNormIdeal.nD Cert.KernelNormIdeal.τ).loc Cert.KernelNormIdeal.main_arg5))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v74) = v0 c
          ∧ r.2.mem ((c.tc : Thread Cert.ReferenceNormIdeal.nD Cert.ReferenceNormIdeal.τ).loc Cert.ReferenceNormIdeal.main_v75) = v1 c
          ∧ r.2.mem ((c.tc : Thread Cert.ReferenceNormIdeal.nD Cert.ReferenceNormIdeal.τ).loc Cert.ReferenceNormIdeal.main_v76) = v2 c
          ∧ r.2.mem ((c.tc : Thread Cert.ReferenceNormIdeal.nD Cert.ReferenceNormIdeal.τ).loc Cert.ReferenceNormIdeal.main_v77) = v3 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4)
          ∧ r.2.mem ((c.tc : Thread Cert.ReferenceNormIdeal.nD Cert.ReferenceNormIdeal.τ).loc Cert.ReferenceNormIdeal.main_arg5) = m' ((c.tc : Thread Cert.ReferenceNormIdeal.nD Cert.ReferenceNormIdeal.τ).loc Cert.ReferenceNormIdeal.main_arg5))

def preserves_KernelNormIn_KernelNormInIdeal : Prop :=
  True

def algebraic_KernelNormInIdeal_ReferenceNormInIdeal_pre_finite_norm_in [hKernelNormInIdeal : Cert.KernelNormInIdeal.Facts] [hReferenceNormInIdeal : Cert.ReferenceNormInIdeal.Facts] [hPre_finite_norm_in : Cert.Pre_finite_norm_in.Facts] : Prop :=
  ∀ (m : (ℓ : Loc Cert.KernelNormInIdeal.nD Cert.KernelNormInIdeal.τ Cert.KernelNormInIdeal.sig) → Buf (Elt Ideal) ℓ) (g : Dev Cert.KernelNormInIdeal.nD → PrngReg)
    (m' : (ℓ : Loc Cert.ReferenceNormInIdeal.nD Cert.ReferenceNormInIdeal.τ Cert.ReferenceNormInIdeal.sig) → Buf (Elt Ideal) ℓ) (g' : Dev Cert.ReferenceNormInIdeal.nD → PrngReg), Pre_KernelNormInIdeal_finite_norm_in m →
    (∀ c : Dev Cert.KernelNormInIdeal.nD,
      m' ((c.tc : Thread Cert.ReferenceNormInIdeal.nD Cert.ReferenceNormInIdeal.τ).loc Cert.ReferenceNormInIdeal.main_arg0) = m ((c.tc : Thread Cert.KernelNormInIdeal.nD Cert.KernelNormInIdeal.τ).loc Cert.KernelNormInIdeal.main_arg0)
      ∧ m' ((c.tc : Thread Cert.ReferenceNormInIdeal.nD Cert.ReferenceNormInIdeal.τ).loc Cert.ReferenceNormInIdeal.main_arg1) = m ((c.tc : Thread Cert.KernelNormInIdeal.nD Cert.KernelNormInIdeal.τ).loc Cert.KernelNormInIdeal.main_arg1)
      ∧ m' ((c.tc : Thread Cert.ReferenceNormInIdeal.nD Cert.ReferenceNormInIdeal.τ).loc Cert.ReferenceNormInIdeal.main_arg2) = m ((c.tc : Thread Cert.KernelNormInIdeal.nD Cert.KernelNormInIdeal.τ).loc Cert.KernelNormInIdeal.main_arg2)
      ∧ m' ((c.tc : Thread Cert.ReferenceNormInIdeal.nD Cert.ReferenceNormInIdeal.τ).loc Cert.ReferenceNormInIdeal.main_arg3) = m ((c.tc : Thread Cert.KernelNormInIdeal.nD Cert.KernelNormInIdeal.τ).loc Cert.KernelNormInIdeal.main_arg3)
      ∧ m' ((c.tc : Thread Cert.ReferenceNormInIdeal.nD Cert.ReferenceNormInIdeal.τ).loc Cert.ReferenceNormInIdeal.main_arg4) = m ((c.tc : Thread Cert.KernelNormInIdeal.nD Cert.KernelNormInIdeal.τ).loc Cert.KernelNormInIdeal.main_arg4)
      ∧ m' ((c.tc : Thread Cert.ReferenceNormInIdeal.nD Cert.ReferenceNormInIdeal.τ).loc Cert.ReferenceNormInIdeal.main_arg5) = m ((c.tc : Thread Cert.KernelNormInIdeal.nD Cert.KernelNormInIdeal.τ).loc Cert.KernelNormInIdeal.main_arg5)) →
    ∃ (v0 : (c : Dev Cert.KernelNormInIdeal.nD) → Buf (Elt Ideal) ((c.tc : Thread Cert.KernelNormInIdeal.nD Cert.KernelNormInIdeal.τ).loc Cert.KernelNormInIdeal.main_v23_0)) (v1 : (c : Dev Cert.KernelNormInIdeal.nD) → Buf (Elt Ideal) ((c.tc : Thread Cert.KernelNormInIdeal.nD Cert.KernelNormInIdeal.τ).loc Cert.KernelNormInIdeal.main_v23_1)) (v2 : (c : Dev Cert.KernelNormInIdeal.nD) → Buf (Elt Ideal) ((c.tc : Thread Cert.KernelNormInIdeal.nD Cert.KernelNormInIdeal.τ).loc Cert.KernelNormInIdeal.main_v23_2)) (v3 : (c : Dev Cert.KernelNormInIdeal.nD) → Buf (Elt Ideal) ((c.tc : Thread Cert.KernelNormInIdeal.nD Cert.KernelNormInIdeal.τ).loc Cert.KernelNormInIdeal.main_v23_3)),
      θ_run (Cert.KernelNormInIdeal.defs (F := Ideal)) (onTc (τ := Cert.KernelNormInIdeal.τ) (Cert.KernelNormInIdeal.main (F := Ideal))) ⟨m, fun _ => 0, g⟩ (fun r => ∀ c : Dev Cert.KernelNormInIdeal.nD,
          r.2.mem ((c.tc : Thread Cert.KernelNormInIdeal.nD Cert.KernelNormInIdeal.τ).loc Cert.KernelNormInIdeal.main_v23_0) = v0 c
          ∧ r.2.mem ((c.tc : Thread Cert.KernelNormInIdeal.nD Cert.KernelNormInIdeal.τ).loc Cert.KernelNormInIdeal.main_v23_1) = v1 c
          ∧ r.2.mem ((c.tc : Thread Cert.KernelNormInIdeal.nD Cert.KernelNormInIdeal.τ).loc Cert.KernelNormInIdeal.main_v23_2) = v2 c
          ∧ r.2.mem ((c.tc : Thread Cert.KernelNormInIdeal.nD Cert.KernelNormInIdeal.τ).loc Cert.KernelNormInIdeal.main_v23_3) = v3 c
          ∧ r.2.mem ((c.tc : Thread Cert.KernelNormInIdeal.nD Cert.KernelNormInIdeal.τ).loc Cert.KernelNormInIdeal.main_arg0) = m ((c.tc : Thread Cert.KernelNormInIdeal.nD Cert.KernelNormInIdeal.τ).loc Cert.KernelNormInIdeal.main_arg0)
          ∧ r.2.mem ((c.tc : Thread Cert.KernelNormInIdeal.nD Cert.KernelNormInIdeal.τ).loc Cert.KernelNormInIdeal.main_arg1) = m ((c.tc : Thread Cert.KernelNormInIdeal.nD Cert.KernelNormInIdeal.τ).loc Cert.KernelNormInIdeal.main_arg1)
          ∧ r.2.mem ((c.tc : Thread Cert.KernelNormInIdeal.nD Cert.KernelNormInIdeal.τ).loc Cert.KernelNormInIdeal.main_arg2) = m ((c.tc : Thread Cert.KernelNormInIdeal.nD Cert.KernelNormInIdeal.τ).loc Cert.KernelNormInIdeal.main_arg2)
          ∧ r.2.mem ((c.tc : Thread Cert.KernelNormInIdeal.nD Cert.KernelNormInIdeal.τ).loc Cert.KernelNormInIdeal.main_arg3) = m ((c.tc : Thread Cert.KernelNormInIdeal.nD Cert.KernelNormInIdeal.τ).loc Cert.KernelNormInIdeal.main_arg3)
          ∧ r.2.mem ((c.tc : Thread Cert.KernelNormInIdeal.nD Cert.KernelNormInIdeal.τ).loc Cert.KernelNormInIdeal.main_arg4) = m ((c.tc : Thread Cert.KernelNormInIdeal.nD Cert.KernelNormInIdeal.τ).loc Cert.KernelNormInIdeal.main_arg4)
          ∧ r.2.mem ((c.tc : Thread Cert.KernelNormInIdeal.nD Cert.KernelNormInIdeal.τ).loc Cert.KernelNormInIdeal.main_arg5) = m ((c.tc : Thread Cert.KernelNormInIdeal.nD Cert.KernelNormInIdeal.τ).loc Cert.KernelNormInIdeal.main_arg5))
      ∧ θ_run (Cert.ReferenceNormInIdeal.defs (F := Ideal)) (onTc (τ := Cert.ReferenceNormInIdeal.τ) (Cert.ReferenceNormInIdeal.main (F := Ideal))) ⟨m', fun _ => 0, g'⟩ (fun r => ∀ c : Dev Cert.ReferenceNormInIdeal.nD,
          r.2.mem ((c.tc : Thread Cert.ReferenceNormInIdeal.nD Cert.ReferenceNormInIdeal.τ).loc Cert.ReferenceNormInIdeal.main_v74) = v0 c
          ∧ r.2.mem ((c.tc : Thread Cert.ReferenceNormInIdeal.nD Cert.ReferenceNormInIdeal.τ).loc Cert.ReferenceNormInIdeal.main_v75) = v1 c
          ∧ r.2.mem ((c.tc : Thread Cert.ReferenceNormInIdeal.nD Cert.ReferenceNormInIdeal.τ).loc Cert.ReferenceNormInIdeal.main_v76) = v2 c
          ∧ r.2.mem ((c.tc : Thread Cert.ReferenceNormInIdeal.nD Cert.ReferenceNormInIdeal.τ).loc Cert.ReferenceNormInIdeal.main_v77) = v3 c
          ∧ r.2.mem ((c.tc : Thread Cert.ReferenceNormInIdeal.nD Cert.ReferenceNormInIdeal.τ).loc Cert.ReferenceNormInIdeal.main_arg0) = m' ((c.tc : Thread Cert.ReferenceNormInIdeal.nD Cert.ReferenceNormInIdeal.τ).loc Cert.ReferenceNormInIdeal.main_arg0)
          ∧ r.2.mem ((c.tc : Thread Cert.ReferenceNormInIdeal.nD Cert.ReferenceNormInIdeal.τ).loc Cert.ReferenceNormInIdeal.main_arg1) = m' ((c.tc : Thread Cert.ReferenceNormInIdeal.nD Cert.ReferenceNormInIdeal.τ).loc Cert.ReferenceNormInIdeal.main_arg1)
          ∧ r.2.mem ((c.tc : Thread Cert.ReferenceNormInIdeal.nD Cert.ReferenceNormInIdeal.τ).loc Cert.ReferenceNormInIdeal.main_arg2) = m' ((c.tc : Thread Cert.ReferenceNormInIdeal.nD Cert.ReferenceNormInIdeal.τ).loc Cert.ReferenceNormInIdeal.main_arg2)
          ∧ r.2.mem ((c.tc : Thread Cert.ReferenceNormInIdeal.nD Cert.ReferenceNormInIdeal.τ).loc Cert.ReferenceNormInIdeal.main_arg3) = m' ((c.tc : Thread Cert.ReferenceNormInIdeal.nD Cert.ReferenceNormInIdeal.τ).loc Cert.ReferenceNormInIdeal.main_arg3)
          ∧ r.2.mem ((c.tc : Thread Cert.ReferenceNormInIdeal.nD Cert.ReferenceNormInIdeal.τ).loc Cert.ReferenceNormInIdeal.main_arg4) = m' ((c.tc : Thread Cert.ReferenceNormInIdeal.nD Cert.ReferenceNormInIdeal.τ).loc Cert.ReferenceNormInIdeal.main_arg4)
          ∧ r.2.mem ((c.tc : Thread Cert.ReferenceNormInIdeal.nD Cert.ReferenceNormInIdeal.τ).loc Cert.ReferenceNormInIdeal.main_arg5) = m' ((c.tc : Thread Cert.ReferenceNormInIdeal.nD Cert.ReferenceNormInIdeal.τ).loc Cert.ReferenceNormInIdeal.main_arg5))

def preserves_KernelOutDx_KernelOutDxIdeal : Prop :=
  True

def algebraic_KernelOutDxIdeal_ReferenceOutDxIdeal [hKernelOutDxIdeal : Cert.KernelOutDxIdeal.Facts] [hReferenceOutDxIdeal : Cert.ReferenceOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg)
    (m' : (ℓ : Loc Cert.ReferenceOutDxIdeal.nD Cert.ReferenceOutDxIdeal.τ Cert.ReferenceOutDxIdeal.sig) → Buf (Elt Ideal) ℓ) (g' : Dev Cert.ReferenceOutDxIdeal.nD → PrngReg), Pre_KernelOutDxIdeal m →
    (∀ c : Dev Cert.KernelOutDxIdeal.nD,
      m' ((c.tc : Thread Cert.ReferenceOutDxIdeal.nD Cert.ReferenceOutDxIdeal.τ).loc Cert.ReferenceOutDxIdeal.main_arg0) = m ((c.tc : Thread Cert.KernelOutDxIdeal.nD Cert.KernelOutDxIdeal.τ).loc Cert.KernelOutDxIdeal.main_arg0)
      ∧ m' ((c.tc : Thread Cert.ReferenceOutDxIdeal.nD Cert.ReferenceOutDxIdeal.τ).loc Cert.ReferenceOutDxIdeal.main_arg1) = m ((c.tc : Thread Cert.KernelOutDxIdeal.nD Cert.KernelOutDxIdeal.τ).loc Cert.KernelOutDxIdeal.main_arg1)
      ∧ m' ((c.tc : Thread Cert.ReferenceOutDxIdeal.nD Cert.ReferenceOutDxIdeal.τ).loc Cert.ReferenceOutDxIdeal.main_arg2) = m ((c.tc : Thread Cert.KernelOutDxIdeal.nD Cert.KernelOutDxIdeal.τ).loc Cert.KernelOutDxIdeal.main_arg2)) →
    ∃ (v0 : (c : Dev Cert.KernelOutDxIdeal.nD) → Buf (Elt Ideal) ((c.tc : Thread Cert.KernelOutDxIdeal.nD Cert.KernelOutDxIdeal.τ).loc Cert.KernelOutDxIdeal.main_v3)),
      θ_run (Cert.KernelOutDxIdeal.defs (F := Ideal)) (onTc (τ := Cert.KernelOutDxIdeal.τ) (Cert.KernelOutDxIdeal.main (F := Ideal))) ⟨m, fun _ => 0, g⟩ (fun r => ∀ c : Dev Cert.KernelOutDxIdeal.nD,
          r.2.mem ((c.tc : Thread Cert.KernelOutDxIdeal.nD Cert.KernelOutDxIdeal.τ).loc Cert.KernelOutDxIdeal.main_v3) = v0 c
          ∧ r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
          ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1)
          ∧ r.2.mem ((c.tc : Thread Cert.KernelOutDxIdeal.nD Cert.KernelOutDxIdeal.τ).loc Cert.KernelOutDxIdeal.main_arg2) = m ((c.tc : Thread Cert.KernelOutDxIdeal.nD Cert.KernelOutDxIdeal.τ).loc Cert.KernelOutDxIdeal.main_arg2))
      ∧ θ_run (Cert.ReferenceOutDxIdeal.defs (F := Ideal)) (onTc (τ := Cert.ReferenceOutDxIdeal.τ) (Cert.ReferenceOutDxIdeal.main (F := Ideal))) ⟨m', fun _ => 0, g'⟩ (fun r => ∀ c : Dev Cert.ReferenceOutDxIdeal.nD,
          r.2.mem ((c.tc : Thread Cert.ReferenceOutDxIdeal.nD Cert.ReferenceOutDxIdeal.τ).loc Cert.ReferenceOutDxIdeal.main_v3) = v0 c
          ∧ r.2.mem ((c.tc : Thread Cert.ReferenceOutDxIdeal.nD Cert.ReferenceOutDxIdeal.τ).loc Cert.ReferenceOutDxIdeal.main_arg0) = m' ((c.tc : Thread Cert.ReferenceOutDxIdeal.nD Cert.ReferenceOutDxIdeal.τ).loc Cert.ReferenceOutDxIdeal.main_arg0)
          ∧ r.2.mem ((c.tc : Thread Cert.ReferenceOutDxIdeal.nD Cert.ReferenceOutDxIdeal.τ).loc Cert.ReferenceOutDxIdeal.main_arg1) = m' ((c.tc : Thread Cert.ReferenceOutDxIdeal.nD Cert.ReferenceOutDxIdeal.τ).loc Cert.ReferenceOutDxIdeal.main_arg1)
          ∧ r.2.mem ((c.tc : Thread Cert.ReferenceOutDxIdeal.nD Cert.ReferenceOutDxIdeal.τ).loc Cert.ReferenceOutDxIdeal.main_arg2) = m' ((c.tc : Thread Cert.ReferenceOutDxIdeal.nD Cert.ReferenceOutDxIdeal.τ).loc Cert.ReferenceOutDxIdeal.main_arg2))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)
      ∧ m' ((c.tc : Thread Cert.ReferenceOutDwIdeal.nD Cert.ReferenceOutDwIdeal.τ).loc Cert.ReferenceOutDwIdeal.main_arg2) = m ((c.tc : Thread Cert.KernelOutDwIdeal.nD Cert.KernelOutDwIdeal.τ).loc Cert.KernelOutDwIdeal.main_arg2)) →
    ∃ (v0 : (c : Dev Cert.KernelOutDwIdeal.nD) → Buf (Elt Ideal) ((c.tc : Thread Cert.KernelOutDwIdeal.nD Cert.KernelOutDwIdeal.τ).loc Cert.KernelOutDwIdeal.main_v3)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v3) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1)
          ∧ r.2.mem ((c.tc : Thread Cert.KernelOutDwIdeal.nD Cert.KernelOutDwIdeal.τ).loc Cert.KernelOutDwIdeal.main_arg2) = m ((c.tc : Thread Cert.KernelOutDwIdeal.nD Cert.KernelOutDwIdeal.τ).loc Cert.KernelOutDwIdeal.main_arg2))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v4) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1)
          ∧ r.2.mem ((c.tc : Thread Cert.ReferenceOutDwIdeal.nD Cert.ReferenceOutDwIdeal.τ).loc Cert.ReferenceOutDwIdeal.main_arg2) = m' ((c.tc : Thread Cert.ReferenceOutDwIdeal.nD Cert.ReferenceOutDwIdeal.τ).loc Cert.ReferenceOutDwIdeal.main_arg2))

def preserves_KernelKDw_KernelKDwIdeal : Prop :=
  True

def algebraic_KernelKDwIdeal_ReferenceKDwIdeal [hKernelKDwIdeal : Cert.KernelKDwIdeal.Facts] [hReferenceKDwIdeal : Cert.ReferenceKDwIdeal.Facts] : Prop :=
  ∀ (m : (ℓ : Loc Cert.KernelKDwIdeal.nD Cert.KernelKDwIdeal.τ Cert.KernelKDwIdeal.sig) → Buf (Elt Ideal) ℓ) (g : Dev Cert.KernelKDwIdeal.nD → PrngReg)
    (m' : (ℓ : Loc Cert.ReferenceKDwIdeal.nD Cert.ReferenceKDwIdeal.τ Cert.ReferenceKDwIdeal.sig) → Buf (Elt Ideal) ℓ) (g' : Dev Cert.ReferenceKDwIdeal.nD → PrngReg), Pre_KernelKDwIdeal m →
    (∀ c : Dev Cert.KernelKDwIdeal.nD,
      m' ((c.tc : Thread Cert.ReferenceKDwIdeal.nD Cert.ReferenceKDwIdeal.τ).loc Cert.ReferenceKDwIdeal.main_arg0) = m ((c.tc : Thread Cert.KernelKDwIdeal.nD Cert.KernelKDwIdeal.τ).loc Cert.KernelKDwIdeal.main_arg0)
      ∧ m' ((c.tc : Thread Cert.ReferenceKDwIdeal.nD Cert.ReferenceKDwIdeal.τ).loc Cert.ReferenceKDwIdeal.main_arg1) = m ((c.tc : Thread Cert.KernelKDwIdeal.nD Cert.KernelKDwIdeal.τ).loc Cert.KernelKDwIdeal.main_arg1)
      ∧ m' ((c.tc : Thread Cert.ReferenceKDwIdeal.nD Cert.ReferenceKDwIdeal.τ).loc Cert.ReferenceKDwIdeal.main_arg2) = m ((c.tc : Thread Cert.KernelKDwIdeal.nD Cert.KernelKDwIdeal.τ).loc Cert.KernelKDwIdeal.main_arg2)) →
    ∃ (v0 : (c : Dev Cert.KernelKDwIdeal.nD) → Buf (Elt Ideal) ((c.tc : Thread Cert.KernelKDwIdeal.nD Cert.KernelKDwIdeal.τ).loc Cert.KernelKDwIdeal.main_v2)),
      θ_run (Cert.KernelKDwIdeal.defs (F := Ideal)) (onTc (τ := Cert.KernelKDwIdeal.τ) (Cert.KernelKDwIdeal.main (F := Ideal))) ⟨m, fun _ => 0, g⟩ (fun r => ∀ c : Dev Cert.KernelKDwIdeal.nD,
          r.2.mem ((c.tc : Thread Cert.KernelKDwIdeal.nD Cert.KernelKDwIdeal.τ).loc Cert.KernelKDwIdeal.main_v2) = v0 c
          ∧ r.2.mem ((c.tc : Thread Cert.KernelKDwIdeal.nD Cert.KernelKDwIdeal.τ).loc Cert.KernelKDwIdeal.main_arg0) = m ((c.tc : Thread Cert.KernelKDwIdeal.nD Cert.KernelKDwIdeal.τ).loc Cert.KernelKDwIdeal.main_arg0)
          ∧ r.2.mem ((c.tc : Thread Cert.KernelKDwIdeal.nD Cert.KernelKDwIdeal.τ).loc Cert.KernelKDwIdeal.main_arg1) = m ((c.tc : Thread Cert.KernelKDwIdeal.nD Cert.KernelKDwIdeal.τ).loc Cert.KernelKDwIdeal.main_arg1)
          ∧ r.2.mem ((c.tc : Thread Cert.KernelKDwIdeal.nD Cert.KernelKDwIdeal.τ).loc Cert.KernelKDwIdeal.main_arg2) = m ((c.tc : Thread Cert.KernelKDwIdeal.nD Cert.KernelKDwIdeal.τ).loc Cert.KernelKDwIdeal.main_arg2))
      ∧ θ_run (Cert.ReferenceKDwIdeal.defs (F := Ideal)) (onTc (τ := Cert.ReferenceKDwIdeal.τ) (Cert.ReferenceKDwIdeal.main (F := Ideal))) ⟨m', fun _ => 0, g'⟩ (fun r => ∀ c : Dev Cert.ReferenceKDwIdeal.nD,
          r.2.mem ((c.tc : Thread Cert.ReferenceKDwIdeal.nD Cert.ReferenceKDwIdeal.τ).loc Cert.ReferenceKDwIdeal.main_v4) = v0 c
          ∧ r.2.mem ((c.tc : Thread Cert.ReferenceKDwIdeal.nD Cert.ReferenceKDwIdeal.τ).loc Cert.ReferenceKDwIdeal.main_arg0) = m' ((c.tc : Thread Cert.ReferenceKDwIdeal.nD Cert.ReferenceKDwIdeal.τ).loc Cert.ReferenceKDwIdeal.main_arg0)
          ∧ r.2.mem ((c.tc : Thread Cert.ReferenceKDwIdeal.nD Cert.ReferenceKDwIdeal.τ).loc Cert.ReferenceKDwIdeal.main_arg1) = m' ((c.tc : Thread Cert.ReferenceKDwIdeal.nD Cert.ReferenceKDwIdeal.τ).loc Cert.ReferenceKDwIdeal.main_arg1)
          ∧ r.2.mem ((c.tc : Thread Cert.ReferenceKDwIdeal.nD Cert.ReferenceKDwIdeal.τ).loc Cert.ReferenceKDwIdeal.main_arg2) = m' ((c.tc : Thread Cert.ReferenceKDwIdeal.nD Cert.ReferenceKDwIdeal.τ).loc Cert.ReferenceKDwIdeal.main_arg2))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)
      ∧ m' ((c.tc : Thread Cert.ReferenceInDwIdeal.nD Cert.ReferenceInDwIdeal.τ).loc Cert.ReferenceInDwIdeal.main_arg2) = m ((c.tc : Thread Cert.KernelInDwIdeal.nD Cert.KernelInDwIdeal.τ).loc Cert.KernelInDwIdeal.main_arg2)) →
    ∃ (v0 : (c : Dev Cert.KernelInDwIdeal.nD) → Buf (Elt Ideal) ((c.tc : Thread Cert.KernelInDwIdeal.nD Cert.KernelInDwIdeal.τ).loc Cert.KernelInDwIdeal.main_v4)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v4) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1)
          ∧ r.2.mem ((c.tc : Thread Cert.KernelInDwIdeal.nD Cert.KernelInDwIdeal.τ).loc Cert.KernelInDwIdeal.main_arg2) = m ((c.tc : Thread Cert.KernelInDwIdeal.nD Cert.KernelInDwIdeal.τ).loc Cert.KernelInDwIdeal.main_arg2))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v5) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1)
          ∧ r.2.mem ((c.tc : Thread Cert.ReferenceInDwIdeal.nD Cert.ReferenceInDwIdeal.τ).loc Cert.ReferenceInDwIdeal.main_arg2) = m' ((c.tc : Thread Cert.ReferenceInDwIdeal.nD Cert.ReferenceInDwIdeal.τ).loc Cert.ReferenceInDwIdeal.main_arg2))

def preserves_KernelQDx_KernelQDxIdeal : Prop :=
  True

def algebraic_KernelQDxIdeal_ReferenceQDxIdeal [hKernelQDxIdeal : Cert.KernelQDxIdeal.Facts] [hReferenceQDxIdeal : Cert.ReferenceQDxIdeal.Facts] : Prop :=
  ∀ (m : (ℓ : Loc Cert.KernelQDxIdeal.nD Cert.KernelQDxIdeal.τ Cert.KernelQDxIdeal.sig) → Buf (Elt Ideal) ℓ) (g : Dev Cert.KernelQDxIdeal.nD → PrngReg)
    (m' : (ℓ : Loc Cert.ReferenceQDxIdeal.nD Cert.ReferenceQDxIdeal.τ Cert.ReferenceQDxIdeal.sig) → Buf (Elt Ideal) ℓ) (g' : Dev Cert.ReferenceQDxIdeal.nD → PrngReg), Pre_KernelQDxIdeal m →
    (∀ c : Dev Cert.KernelQDxIdeal.nD,
      m' ((c.tc : Thread Cert.ReferenceQDxIdeal.nD Cert.ReferenceQDxIdeal.τ).loc Cert.ReferenceQDxIdeal.main_arg0) = m ((c.tc : Thread Cert.KernelQDxIdeal.nD Cert.KernelQDxIdeal.τ).loc Cert.KernelQDxIdeal.main_arg0)
      ∧ m' ((c.tc : Thread Cert.ReferenceQDxIdeal.nD Cert.ReferenceQDxIdeal.τ).loc Cert.ReferenceQDxIdeal.main_arg1) = m ((c.tc : Thread Cert.KernelQDxIdeal.nD Cert.KernelQDxIdeal.τ).loc Cert.KernelQDxIdeal.main_arg1)
      ∧ m' ((c.tc : Thread Cert.ReferenceQDxIdeal.nD Cert.ReferenceQDxIdeal.τ).loc Cert.ReferenceQDxIdeal.main_arg2) = m ((c.tc : Thread Cert.KernelQDxIdeal.nD Cert.KernelQDxIdeal.τ).loc Cert.KernelQDxIdeal.main_arg2)
      ∧ m' ((c.tc : Thread Cert.ReferenceQDxIdeal.nD Cert.ReferenceQDxIdeal.τ).loc Cert.ReferenceQDxIdeal.main_arg3) = m ((c.tc : Thread Cert.KernelQDxIdeal.nD Cert.KernelQDxIdeal.τ).loc Cert.KernelQDxIdeal.main_arg3)) →
    ∃ (v0 : (c : Dev Cert.KernelQDxIdeal.nD) → Buf (Elt Ideal) ((c.tc : Thread Cert.KernelQDxIdeal.nD Cert.KernelQDxIdeal.τ).loc Cert.KernelQDxIdeal.main_v3)),
      θ_run (Cert.KernelQDxIdeal.defs (F := Ideal)) (onTc (τ := Cert.KernelQDxIdeal.τ) (Cert.KernelQDxIdeal.main (F := Ideal))) ⟨m, fun _ => 0, g⟩ (fun r => ∀ c : Dev Cert.KernelQDxIdeal.nD,
          r.2.mem ((c.tc : Thread Cert.KernelQDxIdeal.nD Cert.KernelQDxIdeal.τ).loc Cert.KernelQDxIdeal.main_v3) = v0 c
          ∧ r.2.mem ((c.tc : Thread Cert.KernelQDxIdeal.nD Cert.KernelQDxIdeal.τ).loc Cert.KernelQDxIdeal.main_arg0) = m ((c.tc : Thread Cert.KernelQDxIdeal.nD Cert.KernelQDxIdeal.τ).loc Cert.KernelQDxIdeal.main_arg0)
          ∧ r.2.mem ((c.tc : Thread Cert.KernelQDxIdeal.nD Cert.KernelQDxIdeal.τ).loc Cert.KernelQDxIdeal.main_arg1) = m ((c.tc : Thread Cert.KernelQDxIdeal.nD Cert.KernelQDxIdeal.τ).loc Cert.KernelQDxIdeal.main_arg1)
          ∧ r.2.mem ((c.tc : Thread Cert.KernelQDxIdeal.nD Cert.KernelQDxIdeal.τ).loc Cert.KernelQDxIdeal.main_arg2) = m ((c.tc : Thread Cert.KernelQDxIdeal.nD Cert.KernelQDxIdeal.τ).loc Cert.KernelQDxIdeal.main_arg2)
          ∧ r.2.mem ((c.tc : Thread Cert.KernelQDxIdeal.nD Cert.KernelQDxIdeal.τ).loc Cert.KernelQDxIdeal.main_arg3) = m ((c.tc : Thread Cert.KernelQDxIdeal.nD Cert.KernelQDxIdeal.τ).loc Cert.KernelQDxIdeal.main_arg3))
      ∧ θ_run (Cert.ReferenceQDxIdeal.defs (F := Ideal)) (onTc (τ := Cert.ReferenceQDxIdeal.τ) (Cert.ReferenceQDxIdeal.main (F := Ideal))) ⟨m', fun _ => 0, g'⟩ (fun r => ∀ c : Dev Cert.ReferenceQDxIdeal.nD,
          r.2.mem ((c.tc : Thread Cert.ReferenceQDxIdeal.nD Cert.ReferenceQDxIdeal.τ).loc Cert.ReferenceQDxIdeal.main_v8) = v0 c
          ∧ r.2.mem ((c.tc : Thread Cert.ReferenceQDxIdeal.nD Cert.ReferenceQDxIdeal.τ).loc Cert.ReferenceQDxIdeal.main_arg0) = m' ((c.tc : Thread Cert.ReferenceQDxIdeal.nD Cert.ReferenceQDxIdeal.τ).loc Cert.ReferenceQDxIdeal.main_arg0)
          ∧ r.2.mem ((c.tc : Thread Cert.ReferenceQDxIdeal.nD Cert.ReferenceQDxIdeal.τ).loc Cert.ReferenceQDxIdeal.main_arg1) = m' ((c.tc : Thread Cert.ReferenceQDxIdeal.nD Cert.ReferenceQDxIdeal.τ).loc Cert.ReferenceQDxIdeal.main_arg1)
          ∧ r.2.mem ((c.tc : Thread Cert.ReferenceQDxIdeal.nD Cert.ReferenceQDxIdeal.τ).loc Cert.ReferenceQDxIdeal.main_arg2) = m' ((c.tc : Thread Cert.ReferenceQDxIdeal.nD Cert.ReferenceQDxIdeal.τ).loc Cert.ReferenceQDxIdeal.main_arg2)
          ∧ r.2.mem ((c.tc : Thread Cert.ReferenceQDxIdeal.nD Cert.ReferenceQDxIdeal.τ).loc Cert.ReferenceQDxIdeal.main_arg3) = m' ((c.tc : Thread Cert.ReferenceQDxIdeal.nD Cert.ReferenceQDxIdeal.τ).loc Cert.ReferenceQDxIdeal.main_arg3))

def preserves_KernelKDx_KernelKDxIdeal : Prop :=
  True

def algebraic_KernelKDxIdeal_ReferenceKDxIdeal [hKernelKDxIdeal : Cert.KernelKDxIdeal.Facts] [hReferenceKDxIdeal : Cert.ReferenceKDxIdeal.Facts] : Prop :=
  ∀ (m : (ℓ : Loc Cert.KernelKDxIdeal.nD Cert.KernelKDxIdeal.τ Cert.KernelKDxIdeal.sig) → Buf (Elt Ideal) ℓ) (g : Dev Cert.KernelKDxIdeal.nD → PrngReg)
    (m' : (ℓ : Loc Cert.ReferenceKDxIdeal.nD Cert.ReferenceKDxIdeal.τ Cert.ReferenceKDxIdeal.sig) → Buf (Elt Ideal) ℓ) (g' : Dev Cert.ReferenceKDxIdeal.nD → PrngReg), Pre_KernelKDxIdeal m →
    (∀ c : Dev Cert.KernelKDxIdeal.nD,
      m' ((c.tc : Thread Cert.ReferenceKDxIdeal.nD Cert.ReferenceKDxIdeal.τ).loc Cert.ReferenceKDxIdeal.main_arg0) = m ((c.tc : Thread Cert.KernelKDxIdeal.nD Cert.KernelKDxIdeal.τ).loc Cert.KernelKDxIdeal.main_arg0)
      ∧ m' ((c.tc : Thread Cert.ReferenceKDxIdeal.nD Cert.ReferenceKDxIdeal.τ).loc Cert.ReferenceKDxIdeal.main_arg1) = m ((c.tc : Thread Cert.KernelKDxIdeal.nD Cert.KernelKDxIdeal.τ).loc Cert.KernelKDxIdeal.main_arg1)
      ∧ m' ((c.tc : Thread Cert.ReferenceKDxIdeal.nD Cert.ReferenceKDxIdeal.τ).loc Cert.ReferenceKDxIdeal.main_arg2) = m ((c.tc : Thread Cert.KernelKDxIdeal.nD Cert.KernelKDxIdeal.τ).loc Cert.KernelKDxIdeal.main_arg2)
      ∧ m' ((c.tc : Thread Cert.ReferenceKDxIdeal.nD Cert.ReferenceKDxIdeal.τ).loc Cert.ReferenceKDxIdeal.main_arg3) = m ((c.tc : Thread Cert.KernelKDxIdeal.nD Cert.KernelKDxIdeal.τ).loc Cert.KernelKDxIdeal.main_arg3)) →
    ∃ (v0 : (c : Dev Cert.KernelKDxIdeal.nD) → Buf (Elt Ideal) ((c.tc : Thread Cert.KernelKDxIdeal.nD Cert.KernelKDxIdeal.τ).loc Cert.KernelKDxIdeal.main_v2)),
      θ_run (Cert.KernelKDxIdeal.defs (F := Ideal)) (onTc (τ := Cert.KernelKDxIdeal.τ) (Cert.KernelKDxIdeal.main (F := Ideal))) ⟨m, fun _ => 0, g⟩ (fun r => ∀ c : Dev Cert.KernelKDxIdeal.nD,
          r.2.mem ((c.tc : Thread Cert.KernelKDxIdeal.nD Cert.KernelKDxIdeal.τ).loc Cert.KernelKDxIdeal.main_v2) = v0 c
          ∧ r.2.mem ((c.tc : Thread Cert.KernelKDxIdeal.nD Cert.KernelKDxIdeal.τ).loc Cert.KernelKDxIdeal.main_arg0) = m ((c.tc : Thread Cert.KernelKDxIdeal.nD Cert.KernelKDxIdeal.τ).loc Cert.KernelKDxIdeal.main_arg0)
          ∧ r.2.mem ((c.tc : Thread Cert.KernelKDxIdeal.nD Cert.KernelKDxIdeal.τ).loc Cert.KernelKDxIdeal.main_arg1) = m ((c.tc : Thread Cert.KernelKDxIdeal.nD Cert.KernelKDxIdeal.τ).loc Cert.KernelKDxIdeal.main_arg1)
          ∧ r.2.mem ((c.tc : Thread Cert.KernelKDxIdeal.nD Cert.KernelKDxIdeal.τ).loc Cert.KernelKDxIdeal.main_arg2) = m ((c.tc : Thread Cert.KernelKDxIdeal.nD Cert.KernelKDxIdeal.τ).loc Cert.KernelKDxIdeal.main_arg2)
          ∧ r.2.mem ((c.tc : Thread Cert.KernelKDxIdeal.nD Cert.KernelKDxIdeal.τ).loc Cert.KernelKDxIdeal.main_arg3) = m ((c.tc : Thread Cert.KernelKDxIdeal.nD Cert.KernelKDxIdeal.τ).loc Cert.KernelKDxIdeal.main_arg3))
      ∧ θ_run (Cert.ReferenceKDxIdeal.defs (F := Ideal)) (onTc (τ := Cert.ReferenceKDxIdeal.τ) (Cert.ReferenceKDxIdeal.main (F := Ideal))) ⟨m', fun _ => 0, g'⟩ (fun r => ∀ c : Dev Cert.ReferenceKDxIdeal.nD,
          r.2.mem ((c.tc : Thread Cert.ReferenceKDxIdeal.nD Cert.ReferenceKDxIdeal.τ).loc Cert.ReferenceKDxIdeal.main_v4) = v0 c
          ∧ r.2.mem ((c.tc : Thread Cert.ReferenceKDxIdeal.nD Cert.ReferenceKDxIdeal.τ).loc Cert.ReferenceKDxIdeal.main_arg0) = m' ((c.tc : Thread Cert.ReferenceKDxIdeal.nD Cert.ReferenceKDxIdeal.τ).loc Cert.ReferenceKDxIdeal.main_arg0)
          ∧ r.2.mem ((c.tc : Thread Cert.ReferenceKDxIdeal.nD Cert.ReferenceKDxIdeal.τ).loc Cert.ReferenceKDxIdeal.main_arg1) = m' ((c.tc : Thread Cert.ReferenceKDxIdeal.nD Cert.ReferenceKDxIdeal.τ).loc Cert.ReferenceKDxIdeal.main_arg1)
          ∧ r.2.mem ((c.tc : Thread Cert.ReferenceKDxIdeal.nD Cert.ReferenceKDxIdeal.τ).loc Cert.ReferenceKDxIdeal.main_arg2) = m' ((c.tc : Thread Cert.ReferenceKDxIdeal.nD Cert.ReferenceKDxIdeal.τ).loc Cert.ReferenceKDxIdeal.main_arg2)
          ∧ r.2.mem ((c.tc : Thread Cert.ReferenceKDxIdeal.nD Cert.ReferenceKDxIdeal.τ).loc Cert.ReferenceKDxIdeal.main_arg3) = m' ((c.tc : Thread Cert.ReferenceKDxIdeal.nD Cert.ReferenceKDxIdeal.τ).loc Cert.ReferenceKDxIdeal.main_arg3))

def preserves_KernelInDx_KernelInDxIdeal : Prop :=
  True

def algebraic_KernelInDxIdeal_ReferenceInDxIdeal [hKernelInDxIdeal : Cert.KernelInDxIdeal.Facts] [hReferenceInDxIdeal : Cert.ReferenceInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)
      ∧ m' ((c.tc : Thread Cert.ReferenceInDxIdeal.nD Cert.ReferenceInDxIdeal.τ).loc Cert.ReferenceInDxIdeal.main_arg2) = m ((c.tc : Thread Cert.KernelInDxIdeal.nD Cert.KernelInDxIdeal.τ).loc Cert.KernelInDxIdeal.main_arg2)
      ∧ m' ((c.tc : Thread Cert.ReferenceInDxIdeal.nD Cert.ReferenceInDxIdeal.τ).loc Cert.ReferenceInDxIdeal.main_arg3) = m ((c.tc : Thread Cert.KernelInDxIdeal.nD Cert.KernelInDxIdeal.τ).loc Cert.KernelInDxIdeal.main_arg3)) →
    ∃ (v0 : (c : Dev Cert.KernelInDxIdeal.nD) → Buf (Elt Ideal) ((c.tc : Thread Cert.KernelInDxIdeal.nD Cert.KernelInDxIdeal.τ).loc Cert.KernelInDxIdeal.main_v4)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v4) = v0 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1)
          ∧ r.2.mem ((c.tc : Thread Cert.KernelInDxIdeal.nD Cert.KernelInDxIdeal.τ).loc Cert.KernelInDxIdeal.main_arg2) = m ((c.tc : Thread Cert.KernelInDxIdeal.nD Cert.KernelInDxIdeal.τ).loc Cert.KernelInDxIdeal.main_arg2)
          ∧ r.2.mem ((c.tc : Thread Cert.KernelInDxIdeal.nD Cert.KernelInDxIdeal.τ).loc Cert.KernelInDxIdeal.main_arg3) = m ((c.tc : Thread Cert.KernelInDxIdeal.nD Cert.KernelInDxIdeal.τ).loc Cert.KernelInDxIdeal.main_arg3))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v8) = v0 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1)
          ∧ r.2.mem ((c.tc : Thread Cert.ReferenceInDxIdeal.nD Cert.ReferenceInDxIdeal.τ).loc Cert.ReferenceInDxIdeal.main_arg2) = m' ((c.tc : Thread Cert.ReferenceInDxIdeal.nD Cert.ReferenceInDxIdeal.τ).loc Cert.ReferenceInDxIdeal.main_arg2)
          ∧ r.2.mem ((c.tc : Thread Cert.ReferenceInDxIdeal.nD Cert.ReferenceInDxIdeal.τ).loc Cert.ReferenceInDxIdeal.main_arg3) = m' ((c.tc : Thread Cert.ReferenceInDxIdeal.nD Cert.ReferenceInDxIdeal.τ).loc Cert.ReferenceInDxIdeal.main_arg3))

def preserves_KernelHidden_KernelHiddenIdeal : Prop :=
  True

def algebraic_KernelHiddenIdeal_ReferenceHiddenIdeal [hKernelHiddenIdeal : Cert.KernelHiddenIdeal.Facts] [hReferenceHiddenIdeal : Cert.ReferenceHiddenIdeal.Facts] : Prop :=
  ∀ (m : (ℓ : Loc Cert.KernelHiddenIdeal.nD Cert.KernelHiddenIdeal.τ Cert.KernelHiddenIdeal.sig) → Buf (Elt Ideal) ℓ) (g : Dev Cert.KernelHiddenIdeal.nD → PrngReg)
    (m' : (ℓ : Loc Cert.ReferenceHiddenIdeal.nD Cert.ReferenceHiddenIdeal.τ Cert.ReferenceHiddenIdeal.sig) → Buf (Elt Ideal) ℓ) (g' : Dev Cert.ReferenceHiddenIdeal.nD → PrngReg), Pre_KernelHiddenIdeal m →
    (∀ c : Dev Cert.KernelHiddenIdeal.nD,
      m' ((c.tc : Thread Cert.ReferenceHiddenIdeal.nD Cert.ReferenceHiddenIdeal.τ).loc Cert.ReferenceHiddenIdeal.main_arg0) = m ((c.tc : Thread Cert.KernelHiddenIdeal.nD Cert.KernelHiddenIdeal.τ).loc Cert.KernelHiddenIdeal.main_arg0)
      ∧ m' ((c.tc : Thread Cert.ReferenceHiddenIdeal.nD Cert.ReferenceHiddenIdeal.τ).loc Cert.ReferenceHiddenIdeal.main_arg1) = m ((c.tc : Thread Cert.KernelHiddenIdeal.nD Cert.KernelHiddenIdeal.τ).loc Cert.KernelHiddenIdeal.main_arg1)) →
    ∃ (v0 : (c : Dev Cert.KernelHiddenIdeal.nD) → Buf (Elt Ideal) ((c.tc : Thread Cert.KernelHiddenIdeal.nD Cert.KernelHiddenIdeal.τ).loc Cert.KernelHiddenIdeal.main_v4)),
      θ_run (Cert.KernelHiddenIdeal.defs (F := Ideal)) (onTc (τ := Cert.KernelHiddenIdeal.τ) (Cert.KernelHiddenIdeal.main (F := Ideal))) ⟨m, fun _ => 0, g⟩ (fun r => ∀ c : Dev Cert.KernelHiddenIdeal.nD,
          r.2.mem ((c.tc : Thread Cert.KernelHiddenIdeal.nD Cert.KernelHiddenIdeal.τ).loc Cert.KernelHiddenIdeal.main_v4) = v0 c
          ∧ r.2.mem ((c.tc : Thread Cert.KernelHiddenIdeal.nD Cert.KernelHiddenIdeal.τ).loc Cert.KernelHiddenIdeal.main_arg0) = m ((c.tc : Thread Cert.KernelHiddenIdeal.nD Cert.KernelHiddenIdeal.τ).loc Cert.KernelHiddenIdeal.main_arg0)
          ∧ r.2.mem ((c.tc : Thread Cert.KernelHiddenIdeal.nD Cert.KernelHiddenIdeal.τ).loc Cert.KernelHiddenIdeal.main_arg1) = m ((c.tc : Thread Cert.KernelHiddenIdeal.nD Cert.KernelHiddenIdeal.τ).loc Cert.KernelHiddenIdeal.main_arg1))
      ∧ θ_run (Cert.ReferenceHiddenIdeal.defs (F := Ideal)) (onTc (τ := Cert.ReferenceHiddenIdeal.τ) (Cert.ReferenceHiddenIdeal.main (F := Ideal))) ⟨m', fun _ => 0, g'⟩ (fun r => ∀ c : Dev Cert.ReferenceHiddenIdeal.nD,
          r.2.mem ((c.tc : Thread Cert.ReferenceHiddenIdeal.nD Cert.ReferenceHiddenIdeal.τ).loc Cert.ReferenceHiddenIdeal.main_v2) = v0 c
          ∧ r.2.mem ((c.tc : Thread Cert.ReferenceHiddenIdeal.nD Cert.ReferenceHiddenIdeal.τ).loc Cert.ReferenceHiddenIdeal.main_arg0) = m' ((c.tc : Thread Cert.ReferenceHiddenIdeal.nD Cert.ReferenceHiddenIdeal.τ).loc Cert.ReferenceHiddenIdeal.main_arg0)
          ∧ r.2.mem ((c.tc : Thread Cert.ReferenceHiddenIdeal.nD Cert.ReferenceHiddenIdeal.τ).loc Cert.ReferenceHiddenIdeal.main_arg1) = m' ((c.tc : Thread Cert.ReferenceHiddenIdeal.nD Cert.ReferenceHiddenIdeal.τ).loc Cert.ReferenceHiddenIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v4)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v4) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v0) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)) →
    ∃ (v0 : (c : Dev Cert.KernelQIdeal.nD) → Buf (Elt Ideal) ((c.tc : Thread Cert.KernelQIdeal.nD Cert.KernelQIdeal.τ).loc Cert.KernelQIdeal.main_v3)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v3) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v3) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1))

def preserves_KernelV_KernelVIdeal : Prop :=
  True

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)) →
    ∃ (v0 : (c : Dev Cert.KernelVIdeal.nD) → Buf (Elt Ideal) ((c.tc : Thread Cert.KernelVIdeal.nD Cert.KernelVIdeal.τ).loc Cert.KernelVIdeal.main_v3)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v3) = v0 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v1) = v0 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v7_0)) (v1 : (c : Dev Cert.KernelFfnIdeal.nD) → Buf (Elt Ideal) ((c.tc : Thread Cert.KernelFfnIdeal.nD Cert.KernelFfnIdeal.τ).loc Cert.KernelFfnIdeal.main_v7_1)) (v2 : (c : Dev Cert.KernelFfnIdeal.nD) → Buf (Elt Ideal) ((c.tc : Thread Cert.KernelFfnIdeal.nD Cert.KernelFfnIdeal.τ).loc Cert.KernelFfnIdeal.main_v7_2)) (v3 : (c : Dev Cert.KernelFfnIdeal.nD) → Buf (Elt Ideal) ((c.tc : Thread Cert.KernelFfnIdeal.nD Cert.KernelFfnIdeal.τ).loc Cert.KernelFfnIdeal.main_v7_3)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v7_0) = v0 c
          ∧ r.2.mem ((c.tc : Thread Cert.KernelFfnIdeal.nD Cert.KernelFfnIdeal.τ).loc Cert.KernelFfnIdeal.main_v7_1) = v1 c
          ∧ r.2.mem ((c.tc : Thread Cert.KernelFfnIdeal.nD Cert.KernelFfnIdeal.τ).loc Cert.KernelFfnIdeal.main_v7_2) = v2 c
          ∧ r.2.mem ((c.tc : Thread Cert.KernelFfnIdeal.nD Cert.KernelFfnIdeal.τ).loc Cert.KernelFfnIdeal.main_v7_3) = v3 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v33) = v0 c
          ∧ r.2.mem ((c.tc : Thread Cert.ReferenceFfnIdeal.nD Cert.ReferenceFfnIdeal.τ).loc Cert.ReferenceFfnIdeal.main_v34) = v1 c
          ∧ r.2.mem ((c.tc : Thread Cert.ReferenceFfnIdeal.nD Cert.ReferenceFfnIdeal.τ).loc Cert.ReferenceFfnIdeal.main_v27) = v2 c
          ∧ r.2.mem ((c.tc : Thread Cert.ReferenceFfnIdeal.nD Cert.ReferenceFfnIdeal.τ).loc Cert.ReferenceFfnIdeal.main_v23) = v3 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v5_0)) (v1 : (c : Dev Cert.KernelOutIdeal.nD) → Buf (Elt Ideal) ((c.tc : Thread Cert.KernelOutIdeal.nD Cert.KernelOutIdeal.τ).loc Cert.KernelOutIdeal.main_v5_1)) (v2 : (c : Dev Cert.KernelOutIdeal.nD) → Buf (Elt Ideal) ((c.tc : Thread Cert.KernelOutIdeal.nD Cert.KernelOutIdeal.τ).loc Cert.KernelOutIdeal.main_v5_2)) (v3 : (c : Dev Cert.KernelOutIdeal.nD) → Buf (Elt Ideal) ((c.tc : Thread Cert.KernelOutIdeal.nD Cert.KernelOutIdeal.τ).loc Cert.KernelOutIdeal.main_v5_3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v5_0) = v0 c
          ∧ r.2.mem ((c.tc : Thread Cert.KernelOutIdeal.nD Cert.KernelOutIdeal.τ).loc Cert.KernelOutIdeal.main_v5_1) = v1 c
          ∧ r.2.mem ((c.tc : Thread Cert.KernelOutIdeal.nD Cert.KernelOutIdeal.τ).loc Cert.KernelOutIdeal.main_v5_2) = v2 c
          ∧ r.2.mem ((c.tc : Thread Cert.KernelOutIdeal.nD Cert.KernelOutIdeal.τ).loc Cert.KernelOutIdeal.main_v5_3) = v3 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v31) = v0 c
          ∧ r.2.mem ((c.tc : Thread Cert.ReferenceOutIdeal.nD Cert.ReferenceOutIdeal.τ).loc Cert.ReferenceOutIdeal.main_v32) = v1 c
          ∧ r.2.mem ((c.tc : Thread Cert.ReferenceOutIdeal.nD Cert.ReferenceOutIdeal.τ).loc Cert.ReferenceOutIdeal.main_v25) = v2 c
          ∧ r.2.mem ((c.tc : Thread Cert.ReferenceOutIdeal.nD Cert.ReferenceOutIdeal.τ).loc Cert.ReferenceOutIdeal.main_v21) = v3 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelLn_KernelLnIdeal : Prop :=
  True

def algebraic_KernelLnIdeal_ReferenceLnIdeal_pre_finite_ln [hKernelLnIdeal : Cert.KernelLnIdeal.Facts] [hReferenceLnIdeal : Cert.ReferenceLnIdeal.Facts] [hPre_finite_ln : Cert.Pre_finite_ln.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal_finite_ln m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)
      ∧ m' ((c.tc : Thread Cert.ReferenceLnIdeal.nD Cert.ReferenceLnIdeal.τ).loc Cert.ReferenceLnIdeal.main_arg3) = m ((c.tc : Thread Cert.KernelLnIdeal.nD Cert.KernelLnIdeal.τ).loc Cert.KernelLnIdeal.main_arg3)) →
    ∃ (v0 : (c : Dev Cert.KernelLnIdeal.nD) → Buf (Elt Ideal) ((c.tc : Thread Cert.KernelLnIdeal.nD Cert.KernelLnIdeal.τ).loc Cert.KernelLnIdeal.main_v19_0)) (v1 : (c : Dev Cert.KernelLnIdeal.nD) → Buf (Elt Ideal) ((c.tc : Thread Cert.KernelLnIdeal.nD Cert.KernelLnIdeal.τ).loc Cert.KernelLnIdeal.main_v19_1)) (v2 : (c : Dev Cert.KernelLnIdeal.nD) → Buf (Elt Ideal) ((c.tc : Thread Cert.KernelLnIdeal.nD Cert.KernelLnIdeal.τ).loc Cert.KernelLnIdeal.main_v19_2)) (v3 : (c : Dev Cert.KernelLnIdeal.nD) → Buf (Elt Ideal) ((c.tc : Thread Cert.KernelLnIdeal.nD Cert.KernelLnIdeal.τ).loc Cert.KernelLnIdeal.main_v19_3)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v19_0) = v0 c
          ∧ r.2.mem ((c.tc : Thread Cert.KernelLnIdeal.nD Cert.KernelLnIdeal.τ).loc Cert.KernelLnIdeal.main_v19_1) = v1 c
          ∧ r.2.mem ((c.tc : Thread Cert.KernelLnIdeal.nD Cert.KernelLnIdeal.τ).loc Cert.KernelLnIdeal.main_v19_2) = v2 c
          ∧ r.2.mem ((c.tc : Thread Cert.KernelLnIdeal.nD Cert.KernelLnIdeal.τ).loc Cert.KernelLnIdeal.main_v19_3) = v3 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
          ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v66) = v0 c
          ∧ r.2.mem ((c.tc : Thread Cert.ReferenceLnIdeal.nD Cert.ReferenceLnIdeal.τ).loc Cert.ReferenceLnIdeal.main_v67) = v1 c
          ∧ r.2.mem ((c.tc : Thread Cert.ReferenceLnIdeal.nD Cert.ReferenceLnIdeal.τ).loc Cert.ReferenceLnIdeal.main_v68) = v2 c
          ∧ r.2.mem ((c.tc : Thread Cert.ReferenceLnIdeal.nD Cert.ReferenceLnIdeal.τ).loc Cert.ReferenceLnIdeal.main_v69) = v3 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2)
          ∧ r.2.mem ((c.tc : Thread Cert.ReferenceLnIdeal.nD Cert.ReferenceLnIdeal.τ).loc Cert.ReferenceLnIdeal.main_arg3) = m' ((c.tc : Thread Cert.ReferenceLnIdeal.nD Cert.ReferenceLnIdeal.τ).loc Cert.ReferenceLnIdeal.main_arg3))

def preserves_KernelHead_KernelHeadIdeal : Prop :=
  True

def algebraic_KernelHeadIdeal_ReferenceHeadIdeal_pre_finite_head [hKernelHeadIdeal : Cert.KernelHeadIdeal.Facts] [hReferenceHeadIdeal : Cert.ReferenceHeadIdeal.Facts] [hPre_finite_head : Cert.Pre_finite_head.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg)
    (m' : (ℓ : Loc Cert.ReferenceHeadIdeal.nD Cert.ReferenceHeadIdeal.τ Cert.ReferenceHeadIdeal.sig) → Buf (Elt Ideal) ℓ) (g' : Dev Cert.ReferenceHeadIdeal.nD → PrngReg), Pre_KernelHeadIdeal_finite_head m →
    (∀ c : Dev Cert.KernelHeadIdeal.nD,
      m' ((c.tc : Thread Cert.ReferenceHeadIdeal.nD Cert.ReferenceHeadIdeal.τ).loc Cert.ReferenceHeadIdeal.main_arg0) = m ((c.tc : Thread Cert.KernelHeadIdeal.nD Cert.KernelHeadIdeal.τ).loc Cert.KernelHeadIdeal.main_arg0)
      ∧ m' ((c.tc : Thread Cert.ReferenceHeadIdeal.nD Cert.ReferenceHeadIdeal.τ).loc Cert.ReferenceHeadIdeal.main_arg1) = m ((c.tc : Thread Cert.KernelHeadIdeal.nD Cert.KernelHeadIdeal.τ).loc Cert.KernelHeadIdeal.main_arg1)
      ∧ m' ((c.tc : Thread Cert.ReferenceHeadIdeal.nD Cert.ReferenceHeadIdeal.τ).loc Cert.ReferenceHeadIdeal.main_arg2) = m ((c.tc : Thread Cert.KernelHeadIdeal.nD Cert.KernelHeadIdeal.τ).loc Cert.KernelHeadIdeal.main_arg2)
      ∧ m' ((c.tc : Thread Cert.ReferenceHeadIdeal.nD Cert.ReferenceHeadIdeal.τ).loc Cert.ReferenceHeadIdeal.main_arg3) = m ((c.tc : Thread Cert.KernelHeadIdeal.nD Cert.KernelHeadIdeal.τ).loc Cert.KernelHeadIdeal.main_arg3)) →
    ∃ (v0 : (c : Dev Cert.KernelHeadIdeal.nD) → Buf (Elt Ideal) ((c.tc : Thread Cert.KernelHeadIdeal.nD Cert.KernelHeadIdeal.τ).loc Cert.KernelHeadIdeal.main_v29_0)) (v1 : (c : Dev Cert.KernelHeadIdeal.nD) → Buf (Elt Ideal) ((c.tc : Thread Cert.KernelHeadIdeal.nD Cert.KernelHeadIdeal.τ).loc Cert.KernelHeadIdeal.main_v29_1)) (v2 : (c : Dev Cert.KernelHeadIdeal.nD) → Buf (Elt Ideal) ((c.tc : Thread Cert.KernelHeadIdeal.nD Cert.KernelHeadIdeal.τ).loc Cert.KernelHeadIdeal.main_v29_2)) (v3 : (c : Dev Cert.KernelHeadIdeal.nD) → Buf (Elt Ideal) ((c.tc : Thread Cert.KernelHeadIdeal.nD Cert.KernelHeadIdeal.τ).loc Cert.KernelHeadIdeal.main_v29_3)) (v4 : (c : Dev Cert.KernelHeadIdeal.nD) → Buf (Elt Ideal) ((c.tc : Thread Cert.KernelHeadIdeal.nD Cert.KernelHeadIdeal.τ).loc Cert.KernelHeadIdeal.main_v29_4)),
      θ_run (Cert.KernelHeadIdeal.defs (F := Ideal)) (onTc (τ := Cert.KernelHeadIdeal.τ) (Cert.KernelHeadIdeal.main (F := Ideal))) ⟨m, fun _ => 0, g⟩ (fun r => ∀ c : Dev Cert.KernelHeadIdeal.nD,
          r.2.mem ((c.tc : Thread Cert.KernelHeadIdeal.nD Cert.KernelHeadIdeal.τ).loc Cert.KernelHeadIdeal.main_v29_0) = v0 c
          ∧ r.2.mem ((c.tc : Thread Cert.KernelHeadIdeal.nD Cert.KernelHeadIdeal.τ).loc Cert.KernelHeadIdeal.main_v29_1) = v1 c
          ∧ r.2.mem ((c.tc : Thread Cert.KernelHeadIdeal.nD Cert.KernelHeadIdeal.τ).loc Cert.KernelHeadIdeal.main_v29_2) = v2 c
          ∧ r.2.mem ((c.tc : Thread Cert.KernelHeadIdeal.nD Cert.KernelHeadIdeal.τ).loc Cert.KernelHeadIdeal.main_v29_3) = v3 c
          ∧ r.2.mem ((c.tc : Thread Cert.KernelHeadIdeal.nD Cert.KernelHeadIdeal.τ).loc Cert.KernelHeadIdeal.main_v29_4) = v4 c
          ∧ r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
          ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
          ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
          ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3))
      ∧ θ_run (Cert.ReferenceHeadIdeal.defs (F := Ideal)) (onTc (τ := Cert.ReferenceHeadIdeal.τ) (Cert.ReferenceHeadIdeal.main (F := Ideal))) ⟨m', fun _ => 0, g'⟩ (fun r => ∀ c : Dev Cert.ReferenceHeadIdeal.nD,
          r.2.mem ((c.tc : Thread Cert.ReferenceHeadIdeal.nD Cert.ReferenceHeadIdeal.τ).loc Cert.ReferenceHeadIdeal.main_v80) = v0 c
          ∧ r.2.mem ((c.tc : Thread Cert.ReferenceHeadIdeal.nD Cert.ReferenceHeadIdeal.τ).loc Cert.ReferenceHeadIdeal.main_v81) = v1 c
          ∧ r.2.mem ((c.tc : Thread Cert.ReferenceHeadIdeal.nD Cert.ReferenceHeadIdeal.τ).loc Cert.ReferenceHeadIdeal.main_v82) = v2 c
          ∧ r.2.mem ((c.tc : Thread Cert.ReferenceHeadIdeal.nD Cert.ReferenceHeadIdeal.τ).loc Cert.ReferenceHeadIdeal.main_v83) = v3 c
          ∧ r.2.mem ((c.tc : Thread Cert.ReferenceHeadIdeal.nD Cert.ReferenceHeadIdeal.τ).loc Cert.ReferenceHeadIdeal.main_v115) = v4 c
          ∧ r.2.mem ((c.tc : Thread Cert.ReferenceHeadIdeal.nD Cert.ReferenceHeadIdeal.τ).loc Cert.ReferenceHeadIdeal.main_arg0) = m' ((c.tc : Thread Cert.ReferenceHeadIdeal.nD Cert.ReferenceHeadIdeal.τ).loc Cert.ReferenceHeadIdeal.main_arg0)
          ∧ r.2.mem ((c.tc : Thread Cert.ReferenceHeadIdeal.nD Cert.ReferenceHeadIdeal.τ).loc Cert.ReferenceHeadIdeal.main_arg1) = m' ((c.tc : Thread Cert.ReferenceHeadIdeal.nD Cert.ReferenceHeadIdeal.τ).loc Cert.ReferenceHeadIdeal.main_arg1)
          ∧ r.2.mem ((c.tc : Thread Cert.ReferenceHeadIdeal.nD Cert.ReferenceHeadIdeal.τ).loc Cert.ReferenceHeadIdeal.main_arg2) = m' ((c.tc : Thread Cert.ReferenceHeadIdeal.nD Cert.ReferenceHeadIdeal.τ).loc Cert.ReferenceHeadIdeal.main_arg2)
          ∧ r.2.mem ((c.tc : Thread Cert.ReferenceHeadIdeal.nD Cert.ReferenceHeadIdeal.τ).loc Cert.ReferenceHeadIdeal.main_arg3) = m' ((c.tc : Thread Cert.ReferenceHeadIdeal.nD Cert.ReferenceHeadIdeal.τ).loc Cert.ReferenceHeadIdeal.main_arg3))

def preserves_KernelGateNorm_KernelGateNormIdeal : Prop :=
  True

def algebraic_KernelGateNormIdeal_ReferenceGateNormIdeal [hKernelGateNormIdeal : Cert.KernelGateNormIdeal.Facts] [hReferenceGateNormIdeal : Cert.ReferenceGateNormIdeal.Facts] : Prop :=
  ∀ (m : (ℓ : Loc Cert.KernelGateNormIdeal.nD Cert.KernelGateNormIdeal.τ Cert.KernelGateNormIdeal.sig) → Buf (Elt Ideal) ℓ) (g : Dev Cert.KernelGateNormIdeal.nD → PrngReg)
    (m' : (ℓ : Loc Cert.ReferenceGateNormIdeal.nD Cert.ReferenceGateNormIdeal.τ Cert.ReferenceGateNormIdeal.sig) → Buf (Elt Ideal) ℓ) (g' : Dev Cert.ReferenceGateNormIdeal.nD → PrngReg), Pre_KernelGateNormIdeal m →
    (∀ c : Dev Cert.KernelGateNormIdeal.nD,
      m' ((c.tc : Thread Cert.ReferenceGateNormIdeal.nD Cert.ReferenceGateNormIdeal.τ).loc Cert.ReferenceGateNormIdeal.main_arg0) = m ((c.tc : Thread Cert.KernelGateNormIdeal.nD Cert.KernelGateNormIdeal.τ).loc Cert.KernelGateNormIdeal.main_arg0)
      ∧ m' ((c.tc : Thread Cert.ReferenceGateNormIdeal.nD Cert.ReferenceGateNormIdeal.τ).loc Cert.ReferenceGateNormIdeal.main_arg1) = m ((c.tc : Thread Cert.KernelGateNormIdeal.nD Cert.KernelGateNormIdeal.τ).loc Cert.KernelGateNormIdeal.main_arg1)
      ∧ m' ((c.tc : Thread Cert.ReferenceGateNormIdeal.nD Cert.ReferenceGateNormIdeal.τ).loc Cert.ReferenceGateNormIdeal.main_arg2) = m ((c.tc : Thread Cert.KernelGateNormIdeal.nD Cert.KernelGateNormIdeal.τ).loc Cert.KernelGateNormIdeal.main_arg2)) →
    ∃ (v0 : (c : Dev Cert.KernelGateNormIdeal.nD) → Buf (Elt Ideal) ((c.tc : Thread Cert.KernelGateNormIdeal.nD Cert.KernelGateNormIdeal.τ).loc Cert.KernelGateNormIdeal.main_v2)),
      θ_run (Cert.KernelGateNormIdeal.defs (F := Ideal)) (onTc (τ := Cert.KernelGateNormIdeal.τ) (Cert.KernelGateNormIdeal.main (F := Ideal))) ⟨m, fun _ => 0, g⟩ (fun r => ∀ c : Dev Cert.KernelGateNormIdeal.nD,
          r.2.mem ((c.tc : Thread Cert.KernelGateNormIdeal.nD Cert.KernelGateNormIdeal.τ).loc Cert.KernelGateNormIdeal.main_v2) = v0 c
          ∧ r.2.mem ((c.tc : Thread Cert.KernelGateNormIdeal.nD Cert.KernelGateNormIdeal.τ).loc Cert.KernelGateNormIdeal.main_arg0) = m ((c.tc : Thread Cert.KernelGateNormIdeal.nD Cert.KernelGateNormIdeal.τ).loc Cert.KernelGateNormIdeal.main_arg0)
          ∧ r.2.mem ((c.tc : Thread Cert.KernelGateNormIdeal.nD Cert.KernelGateNormIdeal.τ).loc Cert.KernelGateNormIdeal.main_arg1) = m ((c.tc : Thread Cert.KernelGateNormIdeal.nD Cert.KernelGateNormIdeal.τ).loc Cert.KernelGateNormIdeal.main_arg1)
          ∧ r.2.mem ((c.tc : Thread Cert.KernelGateNormIdeal.nD Cert.KernelGateNormIdeal.τ).loc Cert.KernelGateNormIdeal.main_arg2) = m ((c.tc : Thread Cert.KernelGateNormIdeal.nD Cert.KernelGateNormIdeal.τ).loc Cert.KernelGateNormIdeal.main_arg2))
      ∧ θ_run (Cert.ReferenceGateNormIdeal.defs (F := Ideal)) (onTc (τ := Cert.ReferenceGateNormIdeal.τ) (Cert.ReferenceGateNormIdeal.main (F := Ideal))) ⟨m', fun _ => 0, g'⟩ (fun r => ∀ c : Dev Cert.ReferenceGateNormIdeal.nD,
          r.2.mem ((c.tc : Thread Cert.ReferenceGateNormIdeal.nD Cert.ReferenceGateNormIdeal.τ).loc Cert.ReferenceGateNormIdeal.main_v42) = v0 c
          ∧ r.2.mem ((c.tc : Thread Cert.ReferenceGateNormIdeal.nD Cert.ReferenceGateNormIdeal.τ).loc Cert.ReferenceGateNormIdeal.main_arg0) = m' ((c.tc : Thread Cert.ReferenceGateNormIdeal.nD Cert.ReferenceGateNormIdeal.τ).loc Cert.ReferenceGateNormIdeal.main_arg0)
          ∧ r.2.mem ((c.tc : Thread Cert.ReferenceGateNormIdeal.nD Cert.ReferenceGateNormIdeal.τ).loc Cert.ReferenceGateNormIdeal.main_arg1) = m' ((c.tc : Thread Cert.ReferenceGateNormIdeal.nD Cert.ReferenceGateNormIdeal.τ).loc Cert.ReferenceGateNormIdeal.main_arg1)
          ∧ r.2.mem ((c.tc : Thread Cert.ReferenceGateNormIdeal.nD Cert.ReferenceGateNormIdeal.τ).loc Cert.ReferenceGateNormIdeal.main_arg2) = m' ((c.tc : Thread Cert.ReferenceGateNormIdeal.nD Cert.ReferenceGateNormIdeal.τ).loc Cert.ReferenceGateNormIdeal.main_arg2))

def preserves_KernelPrev_KernelPrevIdeal : Prop :=
  IdealRules.named_const.Statement Cert.KernelPrevIdeal.κ "log2e" .f32 0x3FB8AA3B#32 (((Real.log 2)⁻¹ : ℝ) : EReal)

def algebraic_KernelPrevIdeal_ReferencePrevIdeal_pre_finite_prev [hKernelPrevIdeal : Cert.KernelPrevIdeal.Facts] [hReferencePrevIdeal : Cert.ReferencePrevIdeal.Facts] [hPre_finite_prev : Cert.Pre_finite_prev.Facts] : Prop :=
  ∀ (m : (ℓ : Loc Cert.KernelPrevIdeal.nD Cert.KernelPrevIdeal.τ Cert.KernelPrevIdeal.sig) → Buf (Elt Ideal) ℓ) (g : Dev Cert.KernelPrevIdeal.nD → PrngReg)
    (m' : (ℓ : Loc Cert.ReferencePrevIdeal.nD Cert.ReferencePrevIdeal.τ Cert.ReferencePrevIdeal.sig) → Buf (Elt Ideal) ℓ) (g' : Dev Cert.ReferencePrevIdeal.nD → PrngReg), Pre_KernelPrevIdeal_finite_prev m →
    (∀ c : Dev Cert.KernelPrevIdeal.nD,
      m' ((c.tc : Thread Cert.ReferencePrevIdeal.nD Cert.ReferencePrevIdeal.τ).loc Cert.ReferencePrevIdeal.main_arg0) = m ((c.tc : Thread Cert.KernelPrevIdeal.nD Cert.KernelPrevIdeal.τ).loc Cert.KernelPrevIdeal.main_arg0)
      ∧ m' ((c.tc : Thread Cert.ReferencePrevIdeal.nD Cert.ReferencePrevIdeal.τ).loc Cert.ReferencePrevIdeal.main_arg1) = m ((c.tc : Thread Cert.KernelPrevIdeal.nD Cert.KernelPrevIdeal.τ).loc Cert.KernelPrevIdeal.main_arg1)
      ∧ m' ((c.tc : Thread Cert.ReferencePrevIdeal.nD Cert.ReferencePrevIdeal.τ).loc Cert.ReferencePrevIdeal.main_arg2) = m ((c.tc : Thread Cert.KernelPrevIdeal.nD Cert.KernelPrevIdeal.τ).loc Cert.KernelPrevIdeal.main_arg2)
      ∧ m' ((c.tc : Thread Cert.ReferencePrevIdeal.nD Cert.ReferencePrevIdeal.τ).loc Cert.ReferencePrevIdeal.main_arg3) = m ((c.tc : Thread Cert.KernelPrevIdeal.nD Cert.KernelPrevIdeal.τ).loc Cert.KernelPrevIdeal.main_arg3)
      ∧ m' ((c.tc : Thread Cert.ReferencePrevIdeal.nD Cert.ReferencePrevIdeal.τ).loc Cert.ReferencePrevIdeal.main_arg4) = m ((c.tc : Thread Cert.KernelPrevIdeal.nD Cert.KernelPrevIdeal.τ).loc Cert.KernelPrevIdeal.main_arg4)
      ∧ m' ((c.tc : Thread Cert.ReferencePrevIdeal.nD Cert.ReferencePrevIdeal.τ).loc Cert.ReferencePrevIdeal.main_arg5) = m ((c.tc : Thread Cert.KernelPrevIdeal.nD Cert.KernelPrevIdeal.τ).loc Cert.KernelPrevIdeal.main_arg5)) →
    ∃ (v0 : (c : Dev Cert.KernelPrevIdeal.nD) → Buf (Elt Ideal) ((c.tc : Thread Cert.KernelPrevIdeal.nD Cert.KernelPrevIdeal.τ).loc Cert.KernelPrevIdeal.main_v41_0)) (v1 : (c : Dev Cert.KernelPrevIdeal.nD) → Buf (Elt Ideal) ((c.tc : Thread Cert.KernelPrevIdeal.nD Cert.KernelPrevIdeal.τ).loc Cert.KernelPrevIdeal.main_v41_1)) (v2 : (c : Dev Cert.KernelPrevIdeal.nD) → Buf (Elt Ideal) ((c.tc : Thread Cert.KernelPrevIdeal.nD Cert.KernelPrevIdeal.τ).loc Cert.KernelPrevIdeal.main_v41_2)),
      θ_run (Cert.KernelPrevIdeal.defs (F := Ideal)) (onTc (τ := Cert.KernelPrevIdeal.τ) (Cert.KernelPrevIdeal.main (F := Ideal))) ⟨m, fun _ => 0, g⟩ (fun r => ∀ c : Dev Cert.KernelPrevIdeal.nD,
          r.2.mem ((c.tc : Thread Cert.KernelPrevIdeal.nD Cert.KernelPrevIdeal.τ).loc Cert.KernelPrevIdeal.main_v41_0) = v0 c
          ∧ r.2.mem ((c.tc : Thread Cert.KernelPrevIdeal.nD Cert.KernelPrevIdeal.τ).loc Cert.KernelPrevIdeal.main_v41_1) = v1 c
          ∧ r.2.mem ((c.tc : Thread Cert.KernelPrevIdeal.nD Cert.KernelPrevIdeal.τ).loc Cert.KernelPrevIdeal.main_v41_2) = v2 c
          ∧ r.2.mem ((c.tc : Thread Cert.KernelPrevIdeal.nD Cert.KernelPrevIdeal.τ).loc Cert.KernelPrevIdeal.main_arg0) = m ((c.tc : Thread Cert.KernelPrevIdeal.nD Cert.KernelPrevIdeal.τ).loc Cert.KernelPrevIdeal.main_arg0)
          ∧ r.2.mem ((c.tc : Thread Cert.KernelPrevIdeal.nD Cert.KernelPrevIdeal.τ).loc Cert.KernelPrevIdeal.main_arg1) = m ((c.tc : Thread Cert.KernelPrevIdeal.nD Cert.KernelPrevIdeal.τ).loc Cert.KernelPrevIdeal.main_arg1)
          ∧ r.2.mem ((c.tc : Thread Cert.KernelPrevIdeal.nD Cert.KernelPrevIdeal.τ).loc Cert.KernelPrevIdeal.main_arg2) = m ((c.tc : Thread Cert.KernelPrevIdeal.nD Cert.KernelPrevIdeal.τ).loc Cert.KernelPrevIdeal.main_arg2)
          ∧ r.2.mem ((c.tc : Thread Cert.KernelPrevIdeal.nD Cert.KernelPrevIdeal.τ).loc Cert.KernelPrevIdeal.main_arg3) = m ((c.tc : Thread Cert.KernelPrevIdeal.nD Cert.KernelPrevIdeal.τ).loc Cert.KernelPrevIdeal.main_arg3)
          ∧ r.2.mem ((c.tc : Thread Cert.KernelPrevIdeal.nD Cert.KernelPrevIdeal.τ).loc Cert.KernelPrevIdeal.main_arg4) = m ((c.tc : Thread Cert.KernelPrevIdeal.nD Cert.KernelPrevIdeal.τ).loc Cert.KernelPrevIdeal.main_arg4)
          ∧ r.2.mem ((c.tc : Thread Cert.KernelPrevIdeal.nD Cert.KernelPrevIdeal.τ).loc Cert.KernelPrevIdeal.main_arg5) = m ((c.tc : Thread Cert.KernelPrevIdeal.nD Cert.KernelPrevIdeal.τ).loc Cert.KernelPrevIdeal.main_arg5))
      ∧ θ_run (Cert.ReferencePrevIdeal.defs (F := Ideal)) (onTc (τ := Cert.ReferencePrevIdeal.τ) (Cert.ReferencePrevIdeal.main (F := Ideal))) ⟨m', fun _ => 0, g'⟩ (fun r => ∀ c : Dev Cert.ReferencePrevIdeal.nD,
          r.2.mem ((c.tc : Thread Cert.ReferencePrevIdeal.nD Cert.ReferencePrevIdeal.τ).loc Cert.ReferencePrevIdeal.main_v55) = v0 c
          ∧ r.2.mem ((c.tc : Thread Cert.ReferencePrevIdeal.nD Cert.ReferencePrevIdeal.τ).loc Cert.ReferencePrevIdeal.main_v52) = v1 c
          ∧ r.2.mem ((c.tc : Thread Cert.ReferencePrevIdeal.nD Cert.ReferencePrevIdeal.τ).loc Cert.ReferencePrevIdeal.main_v49) = v2 c
          ∧ r.2.mem ((c.tc : Thread Cert.ReferencePrevIdeal.nD Cert.ReferencePrevIdeal.τ).loc Cert.ReferencePrevIdeal.main_arg0) = m' ((c.tc : Thread Cert.ReferencePrevIdeal.nD Cert.ReferencePrevIdeal.τ).loc Cert.ReferencePrevIdeal.main_arg0)
          ∧ r.2.mem ((c.tc : Thread Cert.ReferencePrevIdeal.nD Cert.ReferencePrevIdeal.τ).loc Cert.ReferencePrevIdeal.main_arg1) = m' ((c.tc : Thread Cert.ReferencePrevIdeal.nD Cert.ReferencePrevIdeal.τ).loc Cert.ReferencePrevIdeal.main_arg1)
          ∧ r.2.mem ((c.tc : Thread Cert.ReferencePrevIdeal.nD Cert.ReferencePrevIdeal.τ).loc Cert.ReferencePrevIdeal.main_arg2) = m' ((c.tc : Thread Cert.ReferencePrevIdeal.nD Cert.ReferencePrevIdeal.τ).loc Cert.ReferencePrevIdeal.main_arg2)
          ∧ r.2.mem ((c.tc : Thread Cert.ReferencePrevIdeal.nD Cert.ReferencePrevIdeal.τ).loc Cert.ReferencePrevIdeal.main_arg3) = m' ((c.tc : Thread Cert.ReferencePrevIdeal.nD Cert.ReferencePrevIdeal.τ).loc Cert.ReferencePrevIdeal.main_arg3)
          ∧ r.2.mem ((c.tc : Thread Cert.ReferencePrevIdeal.nD Cert.ReferencePrevIdeal.τ).loc Cert.ReferencePrevIdeal.main_arg4) = m' ((c.tc : Thread Cert.ReferencePrevIdeal.nD Cert.ReferencePrevIdeal.τ).loc Cert.ReferencePrevIdeal.main_arg4)
          ∧ r.2.mem ((c.tc : Thread Cert.ReferencePrevIdeal.nD Cert.ReferencePrevIdeal.τ).loc Cert.ReferencePrevIdeal.main_arg5) = m' ((c.tc : Thread Cert.ReferencePrevIdeal.nD Cert.ReferencePrevIdeal.τ).loc Cert.ReferencePrevIdeal.main_arg5))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)) (v3 : (c : Dev Cert.KernelAdamIdeal.nD) → Buf (Elt Ideal) ((c.tc : Thread Cert.KernelAdamIdeal.nD Cert.KernelAdamIdeal.τ).loc Cert.KernelAdamIdeal.main_v0_3)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_v0_3) = v3 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v23) = v0 c
          ∧ r.2.mem ((c.tc : Thread Cert.ReferenceAdamIdeal.nD Cert.ReferenceAdamIdeal.τ).loc Cert.ReferenceAdamIdeal.main_v4) = v1 c
          ∧ r.2.mem ((c.tc : Thread Cert.ReferenceAdamIdeal.nD Cert.ReferenceAdamIdeal.τ).loc Cert.ReferenceAdamIdeal.main_v10) = v2 c
          ∧ r.2.mem ((c.tc : Thread Cert.ReferenceAdamIdeal.nD Cert.ReferenceAdamIdeal.τ).loc Cert.ReferenceAdamIdeal.main_arg1) = v3 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)) →
    ∃ (v0 : (c : Dev Cert.KernelGateIdeal.nD) → Buf (Elt Ideal) ((c.tc : Thread Cert.KernelGateIdeal.nD Cert.KernelGateIdeal.τ).loc Cert.KernelGateIdeal.main_v2)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v2) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v33) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)) →
    ∃ (v0 : (c : Dev Cert.KernelMixIdeal.nD) → Buf (Elt Ideal) ((c.tc : Thread Cert.KernelMixIdeal.nD Cert.KernelMixIdeal.τ).loc Cert.KernelMixIdeal.main_v3_1)) (v1 : (c : Dev Cert.KernelMixIdeal.nD) → Buf (Elt Ideal) ((c.tc : Thread Cert.KernelMixIdeal.nD Cert.KernelMixIdeal.τ).loc Cert.KernelMixIdeal.main_v3_2)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v3_1) = v0 c
          ∧ r.2.mem ((c.tc : Thread Cert.KernelMixIdeal.nD Cert.KernelMixIdeal.τ).loc Cert.KernelMixIdeal.main_v3_2) = v1 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v41) = v0 c
          ∧ r.2.mem ((c.tc : Thread Cert.ReferenceMixIdeal.nD Cert.ReferenceMixIdeal.τ).loc Cert.ReferenceMixIdeal.main_v43) = v1 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5))

def Claim : Prop :=
  ∃ (hKernel : Cert.Kernel.Facts) (hKernelIdeal : Cert.KernelIdeal.Facts) (hReferenceIdeal : Cert.ReferenceIdeal.Facts) (hKernelRelu : Cert.KernelRelu.Facts) (hKernelReluIdeal : Cert.KernelReluIdeal.Facts) (hReferenceReluIdeal : Cert.ReferenceReluIdeal.Facts) (hKernelW2 : Cert.KernelW2.Facts) (hKernelW2Ideal : Cert.KernelW2Ideal.Facts) (hReferenceW2Ideal : Cert.ReferenceW2Ideal.Facts) (hKernelW1 : Cert.KernelW1.Facts) (hKernelW1Ideal : Cert.KernelW1Ideal.Facts) (hReferenceW1Ideal : Cert.ReferenceW1Ideal.Facts) (hKernelNorm : Cert.KernelNorm.Facts) (hKernelNormIdeal : Cert.KernelNormIdeal.Facts) (hReferenceNormIdeal : Cert.ReferenceNormIdeal.Facts) (hKernelNormIn : Cert.KernelNormIn.Facts) (hKernelNormInIdeal : Cert.KernelNormInIdeal.Facts) (hReferenceNormInIdeal : Cert.ReferenceNormInIdeal.Facts) (hKernelOutDx : Cert.KernelOutDx.Facts) (hKernelOutDxIdeal : Cert.KernelOutDxIdeal.Facts) (hReferenceOutDxIdeal : Cert.ReferenceOutDxIdeal.Facts) (hKernelOutDw : Cert.KernelOutDw.Facts) (hKernelOutDwIdeal : Cert.KernelOutDwIdeal.Facts) (hReferenceOutDwIdeal : Cert.ReferenceOutDwIdeal.Facts) (hKernelKDw : Cert.KernelKDw.Facts) (hKernelKDwIdeal : Cert.KernelKDwIdeal.Facts) (hReferenceKDwIdeal : Cert.ReferenceKDwIdeal.Facts) (hKernelInDw : Cert.KernelInDw.Facts) (hKernelInDwIdeal : Cert.KernelInDwIdeal.Facts) (hReferenceInDwIdeal : Cert.ReferenceInDwIdeal.Facts) (hKernelQDx : Cert.KernelQDx.Facts) (hKernelQDxIdeal : Cert.KernelQDxIdeal.Facts) (hReferenceQDxIdeal : Cert.ReferenceQDxIdeal.Facts) (hKernelKDx : Cert.KernelKDx.Facts) (hKernelKDxIdeal : Cert.KernelKDxIdeal.Facts) (hReferenceKDxIdeal : Cert.ReferenceKDxIdeal.Facts) (hKernelInDx : Cert.KernelInDx.Facts) (hKernelInDxIdeal : Cert.KernelInDxIdeal.Facts) (hReferenceInDxIdeal : Cert.ReferenceInDxIdeal.Facts) (hKernelHidden : Cert.KernelHidden.Facts) (hKernelHiddenIdeal : Cert.KernelHiddenIdeal.Facts) (hReferenceHiddenIdeal : Cert.ReferenceHiddenIdeal.Facts) (hKernelIn : Cert.KernelIn.Facts) (hKernelInIdeal : Cert.KernelInIdeal.Facts) (hReferenceInIdeal : Cert.ReferenceInIdeal.Facts) (hKernelQ : Cert.KernelQ.Facts) (hKernelQIdeal : Cert.KernelQIdeal.Facts) (hReferenceQIdeal : Cert.ReferenceQIdeal.Facts) (hKernelV : Cert.KernelV.Facts) (hKernelVIdeal : Cert.KernelVIdeal.Facts) (hReferenceVIdeal : Cert.ReferenceVIdeal.Facts) (hKernelFfn : Cert.KernelFfn.Facts) (hKernelFfnIdeal : Cert.KernelFfnIdeal.Facts) (hReferenceFfnIdeal : Cert.ReferenceFfnIdeal.Facts) (hKernelOut : Cert.KernelOut.Facts) (hKernelOutIdeal : Cert.KernelOutIdeal.Facts) (hReferenceOutIdeal : Cert.ReferenceOutIdeal.Facts) (hKernelLn : Cert.KernelLn.Facts) (hKernelLnIdeal : Cert.KernelLnIdeal.Facts) (hReferenceLnIdeal : Cert.ReferenceLnIdeal.Facts) (hKernelHead : Cert.KernelHead.Facts) (hKernelHeadIdeal : Cert.KernelHeadIdeal.Facts) (hReferenceHeadIdeal : Cert.ReferenceHeadIdeal.Facts) (hKernelGateNorm : Cert.KernelGateNorm.Facts) (hKernelGateNormIdeal : Cert.KernelGateNormIdeal.Facts) (hReferenceGateNormIdeal : Cert.ReferenceGateNormIdeal.Facts) (hKernelPrev : Cert.KernelPrev.Facts) (hKernelPrevIdeal : Cert.KernelPrevIdeal.Facts) (hReferencePrevIdeal : Cert.ReferencePrevIdeal.Facts) (hKernelAdam : Cert.KernelAdam.Facts) (hKernelAdamIdeal : Cert.KernelAdamIdeal.Facts) (hReferenceAdamIdeal : Cert.ReferenceAdamIdeal.Facts) (hKernelGate : Cert.KernelGate.Facts) (hKernelGateIdeal : Cert.KernelGateIdeal.Facts) (hReferenceGateIdeal : Cert.ReferenceGateIdeal.Facts) (hKernelMix : Cert.KernelMix.Facts) (hKernelMixIdeal : Cert.KernelMixIdeal.Facts) (hReferenceMixIdeal : Cert.ReferenceMixIdeal.Facts) (hPre_finite : Cert.Pre_finite.Facts) (hPre_finite_norm : Cert.Pre_finite_norm.Facts) (hPre_finite_norm_in : Cert.Pre_finite_norm_in.Facts) (hPre_finite_ln : Cert.Pre_finite_ln.Facts) (hPre_finite_head : Cert.Pre_finite_head.Facts) (hPre_finite_prev : Cert.Pre_finite_prev.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelRelu (hKernelRelu := hKernelRelu)
    ∧ quiescent_KernelReluIdeal (hKernelReluIdeal := hKernelReluIdeal)
    ∧ quiescent_ReferenceReluIdeal (hReferenceReluIdeal := hReferenceReluIdeal)
    ∧ quiescent_KernelW2 (hKernelW2 := hKernelW2)
    ∧ quiescent_KernelW2Ideal (hKernelW2Ideal := hKernelW2Ideal)
    ∧ quiescent_ReferenceW2Ideal (hReferenceW2Ideal := hReferenceW2Ideal)
    ∧ quiescent_KernelW1 (hKernelW1 := hKernelW1)
    ∧ quiescent_KernelW1Ideal (hKernelW1Ideal := hKernelW1Ideal)
    ∧ quiescent_ReferenceW1Ideal (hReferenceW1Ideal := hReferenceW1Ideal)
    ∧ quiescent_KernelNorm (hKernelNorm := hKernelNorm)
    ∧ quiescent_KernelNormIdeal (hKernelNormIdeal := hKernelNormIdeal)
    ∧ quiescent_KernelNormIdeal_pre_finite_norm (hKernelNormIdeal := hKernelNormIdeal) (hPre_finite_norm := hPre_finite_norm)
    ∧ quiescent_ReferenceNormIdeal (hReferenceNormIdeal := hReferenceNormIdeal)
    ∧ quiescent_ReferenceNormIdeal_pre_finite_norm (hReferenceNormIdeal := hReferenceNormIdeal) (hPre_finite_norm := hPre_finite_norm)
    ∧ quiescent_KernelNormIn (hKernelNormIn := hKernelNormIn)
    ∧ quiescent_KernelNormInIdeal (hKernelNormInIdeal := hKernelNormInIdeal)
    ∧ quiescent_KernelNormInIdeal_pre_finite_norm_in (hKernelNormInIdeal := hKernelNormInIdeal) (hPre_finite_norm_in := hPre_finite_norm_in)
    ∧ quiescent_ReferenceNormInIdeal (hReferenceNormInIdeal := hReferenceNormInIdeal)
    ∧ quiescent_ReferenceNormInIdeal_pre_finite_norm_in (hReferenceNormInIdeal := hReferenceNormInIdeal) (hPre_finite_norm_in := hPre_finite_norm_in)
    ∧ quiescent_KernelOutDx (hKernelOutDx := hKernelOutDx)
    ∧ quiescent_KernelOutDxIdeal (hKernelOutDxIdeal := hKernelOutDxIdeal)
    ∧ quiescent_ReferenceOutDxIdeal (hReferenceOutDxIdeal := hReferenceOutDxIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelKDw (hKernelKDw := hKernelKDw)
    ∧ quiescent_KernelKDwIdeal (hKernelKDwIdeal := hKernelKDwIdeal)
    ∧ quiescent_ReferenceKDwIdeal (hReferenceKDwIdeal := hReferenceKDwIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelQDx (hKernelQDx := hKernelQDx)
    ∧ quiescent_KernelQDxIdeal (hKernelQDxIdeal := hKernelQDxIdeal)
    ∧ quiescent_ReferenceQDxIdeal (hReferenceQDxIdeal := hReferenceQDxIdeal)
    ∧ quiescent_KernelKDx (hKernelKDx := hKernelKDx)
    ∧ quiescent_KernelKDxIdeal (hKernelKDxIdeal := hKernelKDxIdeal)
    ∧ quiescent_ReferenceKDxIdeal (hReferenceKDxIdeal := hReferenceKDxIdeal)
    ∧ quiescent_KernelInDx (hKernelInDx := hKernelInDx)
    ∧ quiescent_KernelInDxIdeal (hKernelInDxIdeal := hKernelInDxIdeal)
    ∧ quiescent_ReferenceInDxIdeal (hReferenceInDxIdeal := hReferenceInDxIdeal)
    ∧ quiescent_KernelHidden (hKernelHidden := hKernelHidden)
    ∧ quiescent_KernelHiddenIdeal (hKernelHiddenIdeal := hKernelHiddenIdeal)
    ∧ quiescent_ReferenceHiddenIdeal (hReferenceHiddenIdeal := hReferenceHiddenIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelV (hKernelV := hKernelV)
    ∧ quiescent_KernelVIdeal (hKernelVIdeal := hKernelVIdeal)
    ∧ quiescent_ReferenceVIdeal (hReferenceVIdeal := hReferenceVIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelLn (hKernelLn := hKernelLn)
    ∧ quiescent_KernelLnIdeal (hKernelLnIdeal := hKernelLnIdeal)
    ∧ quiescent_KernelLnIdeal_pre_finite_ln (hKernelLnIdeal := hKernelLnIdeal) (hPre_finite_ln := hPre_finite_ln)
    ∧ quiescent_ReferenceLnIdeal (hReferenceLnIdeal := hReferenceLnIdeal)
    ∧ quiescent_ReferenceLnIdeal_pre_finite_ln (hReferenceLnIdeal := hReferenceLnIdeal) (hPre_finite_ln := hPre_finite_ln)
    ∧ quiescent_KernelHead (hKernelHead := hKernelHead)
    ∧ quiescent_KernelHeadIdeal (hKernelHeadIdeal := hKernelHeadIdeal)
    ∧ quiescent_KernelHeadIdeal_pre_finite_head (hKernelHeadIdeal := hKernelHeadIdeal) (hPre_finite_head := hPre_finite_head)
    ∧ quiescent_ReferenceHeadIdeal (hReferenceHeadIdeal := hReferenceHeadIdeal)
    ∧ quiescent_ReferenceHeadIdeal_pre_finite_head (hReferenceHeadIdeal := hReferenceHeadIdeal) (hPre_finite_head := hPre_finite_head)
    ∧ quiescent_KernelGateNorm (hKernelGateNorm := hKernelGateNorm)
    ∧ quiescent_KernelGateNormIdeal (hKernelGateNormIdeal := hKernelGateNormIdeal)
    ∧ quiescent_ReferenceGateNormIdeal (hReferenceGateNormIdeal := hReferenceGateNormIdeal)
    ∧ quiescent_KernelPrev (hKernelPrev := hKernelPrev)
    ∧ quiescent_KernelPrevIdeal (hKernelPrevIdeal := hKernelPrevIdeal)
    ∧ quiescent_KernelPrevIdeal_pre_finite_prev (hKernelPrevIdeal := hKernelPrevIdeal) (hPre_finite_prev := hPre_finite_prev)
    ∧ quiescent_ReferencePrevIdeal (hReferencePrevIdeal := hReferencePrevIdeal)
    ∧ quiescent_ReferencePrevIdeal_pre_finite_prev (hReferencePrevIdeal := hReferencePrevIdeal) (hPre_finite_prev := hPre_finite_prev)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelRelu_KernelReluIdeal
    ∧ algebraic_KernelReluIdeal_ReferenceReluIdeal (hKernelReluIdeal := hKernelReluIdeal) (hReferenceReluIdeal := hReferenceReluIdeal)
    ∧ preserves_KernelW2_KernelW2Ideal
    ∧ algebraic_KernelW2Ideal_ReferenceW2Ideal (hKernelW2Ideal := hKernelW2Ideal) (hReferenceW2Ideal := hReferenceW2Ideal)
    ∧ preserves_KernelW1_KernelW1Ideal
    ∧ algebraic_KernelW1Ideal_ReferenceW1Ideal (hKernelW1Ideal := hKernelW1Ideal) (hReferenceW1Ideal := hReferenceW1Ideal)
    ∧ preserves_KernelNorm_KernelNormIdeal
    ∧ algebraic_KernelNormIdeal_ReferenceNormIdeal_pre_finite_norm (hKernelNormIdeal := hKernelNormIdeal) (hReferenceNormIdeal := hReferenceNormIdeal) (hPre_finite_norm := hPre_finite_norm)
    ∧ preserves_KernelNormIn_KernelNormInIdeal
    ∧ algebraic_KernelNormInIdeal_ReferenceNormInIdeal_pre_finite_norm_in (hKernelNormInIdeal := hKernelNormInIdeal) (hReferenceNormInIdeal := hReferenceNormInIdeal) (hPre_finite_norm_in := hPre_finite_norm_in)
    ∧ preserves_KernelOutDx_KernelOutDxIdeal
    ∧ algebraic_KernelOutDxIdeal_ReferenceOutDxIdeal (hKernelOutDxIdeal := hKernelOutDxIdeal) (hReferenceOutDxIdeal := hReferenceOutDxIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelKDw_KernelKDwIdeal
    ∧ algebraic_KernelKDwIdeal_ReferenceKDwIdeal (hKernelKDwIdeal := hKernelKDwIdeal) (hReferenceKDwIdeal := hReferenceKDwIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelQDx_KernelQDxIdeal
    ∧ algebraic_KernelQDxIdeal_ReferenceQDxIdeal (hKernelQDxIdeal := hKernelQDxIdeal) (hReferenceQDxIdeal := hReferenceQDxIdeal)
    ∧ preserves_KernelKDx_KernelKDxIdeal
    ∧ algebraic_KernelKDxIdeal_ReferenceKDxIdeal (hKernelKDxIdeal := hKernelKDxIdeal) (hReferenceKDxIdeal := hReferenceKDxIdeal)
    ∧ preserves_KernelInDx_KernelInDxIdeal
    ∧ algebraic_KernelInDxIdeal_ReferenceInDxIdeal (hKernelInDxIdeal := hKernelInDxIdeal) (hReferenceInDxIdeal := hReferenceInDxIdeal)
    ∧ preserves_KernelHidden_KernelHiddenIdeal
    ∧ algebraic_KernelHiddenIdeal_ReferenceHiddenIdeal (hKernelHiddenIdeal := hKernelHiddenIdeal) (hReferenceHiddenIdeal := hReferenceHiddenIdeal)
    ∧ preserves_KernelIn_KernelInIdeal
    ∧ algebraic_KernelInIdeal_ReferenceInIdeal (hKernelInIdeal := hKernelInIdeal) (hReferenceInIdeal := hReferenceInIdeal)
    ∧ preserves_KernelQ_KernelQIdeal
    ∧ algebraic_KernelQIdeal_ReferenceQIdeal (hKernelQIdeal := hKernelQIdeal) (hReferenceQIdeal := hReferenceQIdeal)
    ∧ preserves_KernelV_KernelVIdeal
    ∧ algebraic_KernelVIdeal_ReferenceVIdeal (hKernelVIdeal := hKernelVIdeal) (hReferenceVIdeal := hReferenceVIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelOut_KernelOutIdeal
    ∧ algebraic_KernelOutIdeal_ReferenceOutIdeal (hKernelOutIdeal := hKernelOutIdeal) (hReferenceOutIdeal := hReferenceOutIdeal)
    ∧ preserves_KernelLn_KernelLnIdeal
    ∧ algebraic_KernelLnIdeal_ReferenceLnIdeal_pre_finite_ln (hKernelLnIdeal := hKernelLnIdeal) (hReferenceLnIdeal := hReferenceLnIdeal) (hPre_finite_ln := hPre_finite_ln)
    ∧ preserves_KernelHead_KernelHeadIdeal
    ∧ algebraic_KernelHeadIdeal_ReferenceHeadIdeal_pre_finite_head (hKernelHeadIdeal := hKernelHeadIdeal) (hReferenceHeadIdeal := hReferenceHeadIdeal) (hPre_finite_head := hPre_finite_head)
    ∧ preserves_KernelGateNorm_KernelGateNormIdeal
    ∧ algebraic_KernelGateNormIdeal_ReferenceGateNormIdeal (hKernelGateNormIdeal := hKernelGateNormIdeal) (hReferenceGateNormIdeal := hReferenceGateNormIdeal)
    ∧ preserves_KernelPrev_KernelPrevIdeal
    ∧ algebraic_KernelPrevIdeal_ReferencePrevIdeal_pre_finite_prev (hKernelPrevIdeal := hKernelPrevIdeal) (hReferencePrevIdeal := hReferencePrevIdeal) (hPre_finite_prev := hPre_finite_prev)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelGate_KernelGateIdeal
    ∧ algebraic_KernelGateIdeal_ReferenceGateIdeal (hKernelGateIdeal := hKernelGateIdeal) (hReferenceGateIdeal := hReferenceGateIdeal)
    ∧ preserves_KernelMix_KernelMixIdeal
    ∧ algebraic_KernelMixIdeal_ReferenceMixIdeal (hKernelMixIdeal := hKernelMixIdeal) (hReferenceMixIdeal := hReferenceMixIdeal)
-- ==== Pre_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_head.lean ====
abbrev S4096x1024 : Shape := ⟨2, ![4096, 1024]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S4x1024 .f32) (main_arg2 : FVec F S4x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_ln.lean ====
abbrev S4096x1024 : Shape := ⟨2, ![4096, 1024]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S4096x1024 .f32) (main_arg1 : FVec F S4x1024 .f32) (main_arg2 : FVec F S4x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite_norm.lean ====
abbrev S4096x1024 : Shape := ⟨2, ![4096, 1024]⟩
abbrev S4x1024 : Shape := ⟨2, ![4, 1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg5 : FVec F S4096x4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x4096 .f32 := Host.absf main_arg5
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S4096x1024 .f32) (main_arg1 : FVec F S4x1024 .f32) (main_arg2 : FVec F S4x1024 .f32) (main_arg3 : FVec F S1024x4096 .f32) (main_arg4 : FVec F S4096x1024 .f32) (main_arg5 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg5 main_v13 main_v16
-- ==== Pre_finite_norm_in.lean ====
abbrev S4096x1024 : Shape := ⟨2, ![4096, 1024]⟩
abbrev S4x1024 : Shape := ⟨2, ![4, 1024]⟩
abbrev S1024x2048 : Shape := ⟨2, ![1024, 2048]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg5 : FVec F S4096x2048 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x2048 .f32 := Host.absf main_arg5
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x1024 .f32) (main_arg1 : FVec F S4x1024 .f32) (main_arg2 : FVec F S4x1024 .f32) (main_arg3 : FVec F S1024x2048 .f32) (main_arg4 : FVec F S4096x1024 .f32) (main_arg5 : FVec F S4096x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg5 main_v13 main_v16
-- ==== Pre_finite_prev.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S4096x1024 : Shape := ⟨2, ![4096, 1024]⟩
abbrev S_ : Shape := ⟨0, ![]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S4096x16 : Shape := ⟨2, ![4096, 16]⟩
abbrev S4096x16x1 : Shape := ⟨3, ![4096, 16, 1]⟩
abbrev S4096x8x128 : Shape := ⟨3, ![4096, 8, 128]⟩
abbrev S128 : Shape := ⟨1, ![128]⟩
abbrev S512x256 : Shape := ⟨2, ![512, 256]⟩
abbrev S256x128 : Shape := ⟨2, ![256, 128]⟩
abbrev S4096x128 : Shape := ⟨2, ![4096, 128]⟩
abbrev S256x1 : Shape := ⟨2, ![256, 1]⟩
abbrev S128x4096 : Shape := ⟨2, ![128, 4096]⟩
abbrev S256x256 : Shape := ⟨2, ![256, 256]⟩
abbrev S1x128 : Shape := ⟨2, ![1, 128]⟩
abbrev S128x1 : Shape := ⟨2, ![128, 1]⟩
abbrev S128x256 : Shape := ⟨2, ![128, 256]⟩
abbrev S1x256x1 : Shape := ⟨3, ![1, 256, 1]⟩
abbrev S1 : Shape := ⟨1, ![1]⟩
abbrev S1x1x1 : Shape := ⟨3, ![1, 1, 1]⟩
abbrev S256x512 : Shape := ⟨2, ![256, 512]⟩

abbrev nBuf : Space → Nat
  | .hbm => 101
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x16x64, .f32⟩
  | .hbm, ⟨8, _⟩ => ⟨S16x4096x64, .f32⟩
  | .hbm, ⟨9, _⟩ => ⟨S4096x16x64, .f32⟩
  | .hbm, ⟨10, _⟩ => ⟨S16x4096x64, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S4096, .i32⟩
  | .hbm, ⟨16, _⟩ => ⟨S1x4096, .i32⟩
  | .hbm, ⟨17, _⟩ => ⟨S4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S16x4096x4096, .f32⟩
  | .hbm, ⟨23, _⟩ => ⟨S16x4096x4096, .f32⟩
  | .hbm, ⟨24, _⟩ => ⟨S_, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S16x4096x4096, .i1⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S_, .f32⟩
  | .hbm, ⟨41, _⟩ => ⟨S16x4096x4096, .i1⟩
  | .hbm, ⟨42, _⟩ => ⟨S16x4096x4096, .f32⟩
  | .hbm, ⟨43, _⟩ => ⟨S16x4096x4096, .f32⟩
  | .hbm, ⟨44, _⟩ => ⟨S_, .f32⟩
  | .hbm, ⟨45, _⟩ => ⟨S16x4096, .f32⟩
  | .hbm, ⟨46, _⟩ => ⟨S_, .f32⟩
  | .hbm, ⟨47, _⟩ => ⟨S_, .f32⟩
  | .hbm, ⟨48, _⟩ => ⟨S16x4096, .f32⟩
  | .hbm, ⟨49, _⟩ => ⟨S16x4096, .f32⟩
  | .hbm, ⟨50, _⟩ => ⟨S4096x16, .f32⟩
  | .hbm, ⟨51, _⟩ => ⟨S4096x16x1, .f32⟩
  | .hbm, ⟨52, _⟩ => ⟨S4096x16x64, .f32⟩
  | .hbm, ⟨53, _⟩ => ⟨S4096x8x128, .f32⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S_, .f32⟩
  | .hbm, ⟨59, _⟩ => ⟨S_, .f32⟩
  | .hbm, ⟨60, _⟩ => ⟨S4096x8x128, .i1⟩
  | .hbm, ⟨61, _⟩ => ⟨S4096x8x128, .f32⟩
  | .hbm, ⟨62, _⟩ => ⟨S4096x8x128, .f32⟩
  | .hbm, ⟨63, _⟩ => ⟨S4096x1024, .f32⟩
  | .hbm, ⟨64, _⟩ => ⟨S4096x1024, .bf16⟩
  | .hbm, ⟨65, _⟩ => ⟨S4096x1024, .bf16⟩
  | .hbm, ⟨66, _⟩ => ⟨S4096x1024, .bf16⟩
  | .hbm, ⟨67, _⟩ => ⟨S512x256, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S512x256, .i32⟩
  | .hbm, ⟨75, _⟩ => ⟨S512x256, .i32⟩
  | .hbm, ⟨76, _⟩ => ⟨S_, .i32⟩
  | .hbm, ⟨77, _⟩ => ⟨S512x256, .i32⟩
  | .hbm, ⟨78, _⟩ => ⟨S512x256, .i1⟩
  | .hbm, ⟨79, _⟩ => ⟨S_, .i32⟩
  | .hbm, ⟨80, _⟩ => ⟨S512x256, .i32⟩
  | .hbm, ⟨81, _⟩ => ⟨S512x256, .i1⟩
  | .hbm, ⟨82, _⟩ => ⟨S_, .i32⟩
  | .hbm, ⟨83, _⟩ => ⟨S_, .i1⟩
  | .hbm, ⟨84, _⟩ => ⟨S512x256, .i1⟩
  | .hbm, ⟨85, _⟩ => ⟨S512x256, .i1⟩
  | .hbm, ⟨86, _⟩ => ⟨S512x256, .i1⟩
  | .hbm, ⟨87, _⟩ => ⟨S512x256, .i32⟩
  | .hbm, ⟨88, _⟩ => ⟨S512x256, .i32⟩
  | .hbm, ⟨89, _⟩ => ⟨S512x256, .i32⟩
  | .hbm, ⟨90, _⟩ => ⟨S512x256, .i32⟩
  | .hbm, ⟨91, _⟩ => ⟨S512x256, .i1⟩
  | .hbm, ⟨92, _⟩ => ⟨S_, .f32⟩
  | .hbm, ⟨93, _⟩ => ⟨S_, .f32⟩
  | .hbm, ⟨94, _⟩ => ⟨S512x256, .f32⟩
  | .hbm, ⟨95, _⟩ => ⟨S512x256, .f32⟩
  | .hbm, ⟨96, _⟩ => ⟨S512x256, .f32⟩
  | .hbm, ⟨97, _⟩ => ⟨S512x256, .bf16⟩
  | .hbm, ⟨98, _⟩ => ⟨S4096x1024, .bf16⟩
  | .hbm, ⟨99, _⟩ => ⟨S4096x1024, .f32⟩
  | .hbm, ⟨100, _⟩ => ⟨S4096x1024, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S512x256, .bf16⟩
  | .local _ .vmem, ⟨11, _⟩ => ⟨S256x128, .bf16⟩
  | .local _ .vmem, ⟨12, _⟩ => ⟨S256x128, .bf16⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S256x128, .f32⟩
  | .local _ .vmem, ⟨18, _⟩ => ⟨S256x128, .f32⟩
  | .local _ .vmem, ⟨19, _⟩ => ⟨S256x1, .f32⟩
  | .local _ .vmem, ⟨20, _⟩ => ⟨S256x1, .f32⟩
  | .local _ .vmem, ⟨21, _⟩ => ⟨S256x1, .f32⟩
  | .local _ .vmem, ⟨22, _⟩ => ⟨S256x1, .f32⟩
  | .local _ .vmem, ⟨23, _⟩ => ⟨S128x4096, .f32⟩
  | .local _ .vmem, ⟨24, _⟩ => ⟨S128x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v17 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c : Ref sig .tc := ⟨.hbm, 55, rfl⟩
abbrev main_v28 : Ref sig .tc := ⟨.hbm, 56, rfl⟩
abbrev main_v29 : Ref sig .tc := ⟨.hbm, 57, rfl⟩
abbrev main_cst_4 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_5 : Ref sig .tc := ⟨.hbm, 68, rfl⟩
abbrev main_call3_v0 : Ref sig .tc := ⟨.hbm, 69, rfl⟩
abbrev main_call3_c : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_c_1 : Ref sig .tc := ⟨.hbm, 76, rfl⟩
abbrev main_call3_v5 : Ref sig .tc := ⟨.hbm, 77, rfl⟩
abbrev main_call3_v6 : Ref sig .tc := ⟨.hbm, 78, rfl⟩
abbrev main_call3_c_2 : Ref sig .tc := ⟨.hbm, 79, rfl⟩
abbrev main_call3_v7 : Ref sig .tc := ⟨.hbm, 80, rfl⟩
abbrev main_call3_v8 : Ref sig .tc := ⟨.hbm, 81, rfl⟩
abbrev main_call3_c_3 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_cst_6 : Ref sig .tc := ⟨.hbm, 92, rfl⟩
abbrev main_cst_7 : Ref sig .tc := ⟨.hbm, 93, rfl⟩
abbrev main_call4_v0 : Ref sig .tc := ⟨.hbm, 94, rfl⟩
abbrev main_call4_v1 : Ref sig .tc := ⟨.hbm, 95, rfl⟩
abbrev main_v39 : Ref sig .tc := ⟨.hbm, 96, rfl⟩
abbrev main_v40 : Ref sig .tc := ⟨.hbm, 97, rfl⟩
abbrev main_v41_0 : Ref sig .tc := ⟨.hbm, 98, rfl⟩
abbrev main_v41_1 : Ref sig .tc := ⟨.hbm, 99, rfl⟩
abbrev main_v41_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

@[reducible] def k0_t1_loop (i : grid0.Coords) (v88 : BitVec 32) : Scf.Loop 32 :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let v91 : BitVec 32 := Scalar.subi arg1 v90
  let c1_i32 : BitVec 32 := 1#32
  let v93 : BitVec 32 := Scalar.divsi v91 c1_i32
  let v94 : BitVec 32 := Scalar.muli v93 c1_i32
  let v95 : BitVec 32 := Scalar.addi v90 v94
  let c1_i32_34 : BitVec 32 := 1#32
  ⟨v90, v95, c1_i32_34⟩

def k0_mult1 (i : grid0.Coords) (v88 : BitVec 32) (k0_t1 : Fin (k0_t1_loop i v88).trips) : BitVec 32 :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let c1_i32_34 : BitVec 32 := 1#32
  let arg19 : BitVec 32 := Scf.iv v90 c1_i32_34 k0_t1
  let c256_i32_121 : BitVec 32 := 256#32
  let v288 : BitVec 32 := Scalar.muli arg19 c256_i32_121
  v288
def k0_off1 (i : grid0.Coords) (v88 : BitVec 32) (k0_t1 : Fin (k0_t1_loop i v88).trips) : Fin 2 → Nat :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let c1_i32_34 : BitVec 32 := 1#32
  let arg19 : BitVec 32 := Scf.iv v90 c1_i32_34 k0_t1
  let c256_i32_121 : BitVec 32 := 256#32
  let v288 : BitVec 32 := Scalar.muli arg19 c256_i32_121
  let v289 : BitVec 32 := v288
  let v290 : Index := Scalar.indexCast v289
  let c0_122 : Index := 0#32
  ![v290.toNat, 0]
def k0_mult2 (i : grid0.Coords) (v88 : BitVec 32) (k0_t1 : Fin (k0_t1_loop i v88).trips) : BitVec 32 :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let c1_i32_34 : BitVec 32 := 1#32
  let arg19 : BitVec 32 := Scf.iv v90 c1_i32_34 k0_t1
  let c256_i32_188 : BitVec 32 := 256#32
  let v440 : BitVec 32 := Scalar.muli arg19 c256_i32_188
  v440
def k0_off2 (i : grid0.Coords) (v88 : BitVec 32) (k0_t1 : Fin (k0_t1_loop i v88).trips) : Fin 2 → Nat :=
  let c0_189 : Index := 0#32
  let arg1 : BitVec 32 := BitVec.ofNat 32 (i 1).val
  let c0_i32_32 : BitVec 32 := 0#32
  let v89 : BitVec 32 := Scalar.maxsi c0_i32_32 v88
  let v90 : BitVec 32 := Scalar.minsi arg1 v89
  let c1_i32_34 : BitVec 32 := 1#32
  let arg19 : BitVec 32 := Scf.iv v90 c1_i32_34 k0_t1
  let c256_i32_188 : BitVec 32 := 256#32
  let v440 : BitVec 32 := Scalar.muli arg19 c256_i32_188
  let v441 : BitVec 32 := v440
  let v442 : Index := Scalar.indexCast v441
  ![0, v442.toNat]
@[reducible] def k0_t2_loop (i : grid0.Coords) (v88 : BitVec 32) : Scf.Loop 32 :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let v91 : BitVec 32 := Scalar.subi arg1 v90
  let c1_i32 : BitVec 32 := 1#32
  let v93 : BitVec 32 := Scalar.divsi v91 c1_i32
  let v94 : BitVec 32 := Scalar.muli v93 c1_i32
  let v95 : BitVec 32 := Scalar.addi v90 v94
  let v92 : BitVec 32 := Scalar.addi v90 v91
  let c1_i32_35 : BitVec 32 := 1#32
  ⟨v95, v92, c1_i32_35⟩
def k0_mult3 (i : grid0.Coords) (v88 : BitVec 32) (k0_t2 : Fin (k0_t2_loop i v88).trips) : BitVec 32 :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let v91 : BitVec 32 := Scalar.subi arg1 v90
  let c1_i32 : BitVec 32 := 1#32
  let v93 : BitVec 32 := Scalar.divsi v91 c1_i32
  let v94 : BitVec 32 := Scalar.muli v93 c1_i32
  let v95 : BitVec 32 := Scalar.addi v90 v94
  let c1_i32_35 : BitVec 32 := 1#32
  let arg19 : BitVec 32 := Scf.iv v95 c1_i32_35 k0_t2
  let c256_i32_121 : BitVec 32 := 256#32
  let v288 : BitVec 32 := Scalar.muli arg19 c256_i32_121
  v288
def k0_off3 (i : grid0.Coords) (v88 : BitVec 32) (k0_t2 : Fin (k0_t2_loop i v88).trips) : Fin 2 → Nat :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let v91 : BitVec 32 := Scalar.subi arg1 v90
  let c1_i32 : BitVec 32 := 1#32
  let v93 : BitVec 32 := Scalar.divsi v91 c1_i32
  let v94 : BitVec 32 := Scalar.muli v93 c1_i32
  let v95 : BitVec 32 := Scalar.addi v90 v94
  let c1_i32_35 : BitVec 32 := 1#32
  let arg19 : BitVec 32 := Scf.iv v95 c1_i32_35 k0_t2
  let c256_i32_121 : BitVec 32 := 256#32
  let v288 : BitVec 32 := Scalar.muli arg19 c256_i32_121
  let v289 : BitVec 32 := v288
  let v290 : Index := Scalar.indexCast v289
  let c0_122 : Index := 0#32
  ![v290.toNat, 0]
def k0_mult4 (i : grid0.Coords) (v88 : BitVec 32) (k0_t2 : Fin (k0_t2_loop i v88).trips) : BitVec 32 :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let v91 : BitVec 32 := Scalar.subi arg1 v90
  let c1_i32 : BitVec 32 := 1#32
  let v93 : BitVec 32 := Scalar.divsi v91 c1_i32
  let v94 : BitVec 32 := Scalar.muli v93 c1_i32
  let v95 : BitVec 32 := Scalar.addi v90 v94
  let c1_i32_35 : BitVec 32 := 1#32
  let arg19 : BitVec 32 := Scf.iv v95 c1_i32_35 k0_t2
  let c256_i32_188 : BitVec 32 := 256#32
  let v440 : BitVec 32 := Scalar.muli arg19 c256_i32_188
  v440
def k0_off4 (i : grid0.Coords) (v88 : BitVec 32) (k0_t2 : Fin (k0_t2_loop i v88).trips) : Fin 2 → Nat :=
  let c0_189 : Index := 0#32
  let arg1 : BitVec 32 := BitVec.ofNat 32 (i 1).val
  let c0_i32_32 : BitVec 32 := 0#32
  let v89 : BitVec 32 := Scalar.maxsi c0_i32_32 v88
  let v90 : BitVec 32 := Scalar.minsi arg1 v89
  let v91 : BitVec 32 := Scalar.subi arg1 v90
  let c1_i32 : BitVec 32 := 1#32
  let v93 : BitVec 32 := Scalar.divsi v91 c1_i32
  let v94 : BitVec 32 := Scalar.muli v93 c1_i32
  let v95 : BitVec 32 := Scalar.addi v90 v94
  let c1_i32_35 : BitVec 32 := 1#32
  let arg19 : BitVec 32 := Scf.iv v95 c1_i32_35 k0_t2
  let c256_i32_188 : BitVec 32 := 256#32
  let v440 : BitVec 32 := Scalar.muli arg19 c256_i32_188
  let v441 : BitVec 32 := v440
  let v442 : Index := Scalar.indexCast v441
  ![0, v442.toNat]

def k0_chk1 (i : grid0.Coords) (v88 : BitVec 32) : Prop :=
  ((k0_t1_loop i v88).OK) ∧
  (∀ k0_t1 : Fin (k0_t1_loop i v88).trips, 256 ∣ (k0_mult1 i v88 k0_t1).toNat) ∧
  (∀ k0_t1 : Fin (k0_t1_loop i v88).trips, ∀ a, (k0_off1 i v88 k0_t1) a + S256x128.size a ≤ S4096x128.size a) ∧
  (∀ k0_t1 : Fin (k0_t1_loop i v88).trips, 256 ∣ (k0_mult2 i v88 k0_t1).toNat) ∧
  (∀ k0_t1 : Fin (k0_t1_loop i v88).trips, ∀ a, (k0_off2 i v88 k0_t1) a + S128x256.size a ≤ S128x4096.size a) ∧
  ((k0_t2_loop i v88).OK) ∧
  (∀ k0_t2 : Fin (k0_t2_loop i v88).trips, 256 ∣ (k0_mult3 i v88 k0_t2).toNat) ∧
  (∀ k0_t2 : Fin (k0_t2_loop i v88).trips, ∀ a, (k0_off3 i v88 k0_t2) a + S256x128.size a ≤ S4096x128.size a) ∧
  (∀ k0_t2 : Fin (k0_t2_loop i v88).trips, 256 ∣ (k0_mult4 i v88 k0_t2).toNat) ∧
  (∀ k0_t2 : Fin (k0_t2_loop i v88).trips, ∀ a, (k0_off4 i v88 k0_t2) a + S128x256.size a ≤ S128x4096.size a)
theorem k0_t1_ok : ∀ (i : grid0.Coords) (v88 : BitVec 32) (k0_hw1 : k0_chk1 i v88), (k0_t1_loop i v88).OK := fun i v88 k0_hw1 => k0_hw1.1
theorem k0_mult1_dvd : ∀ (i : grid0.Coords) (v88 : BitVec 32) (k0_hw1 : k0_chk1 i v88) (k0_t1 : Fin (k0_t1_loop i v88).trips), 256 ∣ (k0_mult1 i v88 k0_t1).toNat := fun i v88 k0_hw1 k0_t1 => k0_hw1.2.1 k0_t1
theorem k0_off1_inb : ∀ (i : grid0.Coords) (v88 : BitVec 32) (k0_hw1 : k0_chk1 i v88) (k0_t1 : Fin (k0_t1_loop i v88).trips), ∀ a, (k0_off1 i v88 k0_t1) a + S256x128.size a ≤ S4096x128.size a := fun i v88 k0_hw1 k0_t1 => k0_hw1.2.2.1 k0_t1
theorem k0_mult2_dvd : ∀ (i : grid0.Coords) (v88 : BitVec 32) (k0_hw1 : k0_chk1 i v88) (k0_t1 : Fin (k0_t1_loop i v88).trips), 256 ∣ (k0_mult2 i v88 k0_t1).toNat := fun i v88 k0_hw1 k0_t1 => k0_hw1.2.2.2.1 k0_t1
theorem k0_off2_inb : ∀ (i : grid0.Coords) (v88 : BitVec 32) (k0_hw1 : k0_chk1 i v88) (k0_t1 : Fin (k0_t1_loop i v88).trips), ∀ a, (k0_off2 i v88 k0_t1) a + S128x256.size a ≤ S128x4096.size a := fun i v88 k0_hw1 k0_t1 => k0_hw1.2.2.2.2.1 k0_t1
theorem k0_t2_ok : ∀ (i : grid0.Coords) (v88 : BitVec 32) (k0_hw1 : k0_chk1 i v88), (k0_t2_loop i v88).OK := fun i v88 k0_hw1 => k0_hw1.2.2.2.2.2.1
theorem k0_mult3_dvd : ∀ (i : grid0.Coords) (v88 : BitVec 32) (k0_hw1 : k0_chk1 i v88) (k0_t2 : Fin (k0_t2_loop i v88).trips), 256 ∣ (k0_mult3 i v88 k0_t2).toNat := fun i v88 k0_hw1 k0_t2 => k0_hw1.2.2.2.2.2.2.1 k0_t2
theorem k0_off3_inb : ∀ (i : grid0.Coords) (v88 : BitVec 32) (k0_hw1 : k0_chk1 i v88) (k0_t2 : Fin (k0_t2_loop i v88).trips), ∀ a, (k0_off3 i v88 k0_t2) a + S256x128.size a ≤ S4096x128.size a := fun i v88 k0_hw1 k0_t2 => k0_hw1.2.2.2.2.2.2.2.1 k0_t2
theorem k0_mult4_dvd : ∀ (i : grid0.Coords) (v88 : BitVec 32) (k0_hw1 : k0_chk1 i v88) (k0_t2 : Fin (k0_t2_loop i v88).trips), 256 ∣ (k0_mult4 i v88 k0_t2).toNat := fun i v88 k0_hw1 k0_t2 => k0_hw1.2.2.2.2.2.2.2.2.1 k0_t2
theorem k0_off4_inb : ∀ (i : grid0.Coords) (v88 : BitVec 32) (k0_hw1 : k0_chk1 i v88) (k0_t2 : Fin (k0_t2_loop i v88).trips), ∀ a, (k0_off4 i v88 k0_t2) a + S128x256.size a ≤ S128x4096.size a := fun i v88 k0_hw1 k0_t2 => k0_hw1.2.2.2.2.2.2.2.2.2 k0_t2

def k0_mult5 (i : grid0.Coords) : BitVec 32 :=
  let arg1 : BitVec 32 := BitVec.ofNat 32 (i 1).val
  let c256_i32 : BitVec 32 := 256#32
  let v96 : BitVec 32 := Scalar.muli arg1 c256_i32
  v96
def k0_off5 (i : grid0.Coords) : Fin 2 → Nat :=
  let arg1 : BitVec 32 := BitVec.ofNat 32 (i 1).val
  let c256_i32 : BitVec 32 := 256#32
  let v96 : BitVec 32 := Scalar.muli arg1 c256_i32
  let v97 : BitVec 32 := v96
  let v98 : Index := Scalar.indexCast v97
  let c0_36 : Index := 0#32
  ![v98.toNat, 0]
def k0_mult6 (i : grid0.Coords) : BitVec 32 :=
  let arg1 : BitVec 32 := BitVec.ofNat 32 (i 1).val
  let c256_i32_108 : BitVec 32 := 256#32
  let v260 : BitVec 32 := Scalar.muli arg1 c256_i32_108
  v260
def k0_off6 (i : grid0.Coords) : Fin 2 → Nat :=
  let c0_109 : Index := 0#32
  let arg1 : BitVec 32 := BitVec.ofNat 32 (i 1).val
  let c256_i32_108 : BitVec 32 := 256#32
  let v260 : BitVec 32 := Scalar.muli arg1 c256_i32_108
  let v261 : BitVec 32 := v260
  let v262 : Index := Scalar.indexCast v261
  ![0, v262.toNat]
def k0_cond2 (i : grid0.Coords) : BitVec 1 :=
  let arg1 : BitVec 32 := BitVec.ofNat 32 (i 1).val
  let c15_i32 : BitVec 32 := 15#32
  let v285 : BitVec 1 := Scalar.cmpi .eq arg1 c15_i32
  let v286 : BitVec 32 := Scalar.extui v285
  let c0_i32_120 : BitVec 32 := 0#32
  let v287 : BitVec 1 := Scalar.cmpi .ne v286 c0_i32_120
  v287

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 178
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x16x64, .f32⟩
  | 5 => ⟨S16x4096x64, .f32⟩
  | 6 => ⟨S4096x16x64, .f32⟩
  | 7 => ⟨S16x4096x64, .f32⟩
  | 8 => ⟨S4096x16x64, .f32⟩
  | 9 => ⟨S16x4096x64, .f32⟩
  | 10 => ⟨S16x4096x4096, .f32⟩
  | 11 => ⟨S_, .f32⟩
  | 12 => ⟨S16x4096x4096, .f32⟩
  | 13 => ⟨S16x4096x4096, .f32⟩
  | 14 => ⟨S4096, .i32⟩
  | 15 => ⟨S1x4096, .i32⟩
  | 16 => ⟨S4096, .i32⟩
  | 17 => ⟨S4096x1, .i32⟩
  | 18 => ⟨S4096x4096, .i32⟩
  | 19 => ⟨S4096x4096, .i32⟩
  | 20 => ⟨S4096x4096, .i1⟩
  | 21 => ⟨S16x4096x4096, .f32⟩
  | 22 => ⟨S16x4096x4096, .f32⟩
  | 23 => ⟨S_, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .i1⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S_, .f32⟩
  | 38 => ⟨S16x4096x4096, .f32⟩
  | 39 => ⟨S16x4096x4096, .i1⟩
  | 40 => ⟨S_, .f32⟩
  | 41 => ⟨S16x4096x4096, .f32⟩
  | 42 => ⟨S16x4096x4096, .f32⟩
  | 43 => ⟨S_, .f32⟩
  | 44 => ⟨S16x4096x4096, .f32⟩
  | 45 => ⟨S16x4096x4096, .i1⟩
  | 46 => ⟨S_, .f32⟩
  | 47 => ⟨S16x4096x4096, .f32⟩
  | 48 => ⟨S16x4096x4096, .f32⟩
  | 49 => ⟨S16x4096x4096, .f32⟩
  | 50 => ⟨S16x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S16x4096x4096, .f32⟩
  | 59 => ⟨S16x4096x4096, .i1⟩
  | 60 => ⟨S_, .f32⟩
  | 61 => ⟨S16x4096x4096, .f32⟩
  | 62 => ⟨S16x4096x4096, .f32⟩
  | 63 => ⟨S16x4096x4096, .f32⟩
  | 64 => ⟨S16x4096x4096, .f32⟩
  | 65 => ⟨S16x4096x4096, .f32⟩
  | 66 => ⟨S_, .f32⟩
  | 67 => ⟨S16x4096x4096, .f32⟩
  | 68 => ⟨S16x4096x4096, .f32⟩
  | 69 => ⟨S16x4096x4096, .f32⟩
  | 70 => ⟨S_, .f32⟩
  | 71 => ⟨S_, .f32⟩
  | 72 => ⟨S16x4096x4096, .i1⟩
  | 73 => ⟨S16x4096x4096, .f32⟩
  | 74 => ⟨S16x4096x4096, .f32⟩
  | 75 => ⟨S_, .f32⟩
  | 76 => ⟨S16x4096x4096, .f32⟩
  | 77 => ⟨S_, .f32⟩
  | 78 => ⟨S_, .f32⟩
  | 79 => ⟨S16x4096x4096, .f32⟩
  | 80 => ⟨S16x4096x4096, .f32⟩
  | 81 => ⟨S16x4096x4096, .f32⟩
  | 82 => ⟨S_, .f32⟩
  | 83 => ⟨S16x4096x4096, .f32⟩
  | 84 => ⟨S16x4096x4096, .f32⟩
  | 85 => ⟨S16x4096x4096, .f32⟩
  | 86 => ⟨S16x4096x4096, .f32⟩
  | 87 => ⟨S16x4096x4096, .i1⟩
  | 88 => ⟨S16x4096x4096, .f32⟩
  | 89 => ⟨S16x4096x4096, .f32⟩
  | 90 => ⟨S16x4096x4096, .f32⟩
  | 91 => ⟨S16x4096x4096, .f32⟩
  | 92 => ⟨S16x4096x4096, .f32⟩
  | 93 => ⟨S16x4096x4096, .f32⟩
  | 94 => ⟨S16x4096x4096, .f32⟩
  | 95 => ⟨S16x4096x4096, .f32⟩
  | 96 => ⟨S_, .f32⟩
  | 97 => ⟨S16x4096x4096, .f32⟩
  | 98 => ⟨S16x4096x4096, .i1⟩
  | 99 => ⟨S_, .f32⟩
  | 100 => ⟨S16x4096x4096, .f32⟩
  | 101 => ⟨S16x4096x4096, .f32⟩
  | 102 => ⟨S_, .f32⟩
  | 103 => ⟨S16x4096x4096, .f32⟩
  | 104 => ⟨S16x4096x4096, .i1⟩
  | 105 => ⟨S_, .f32⟩
  | 106 => ⟨S16x4096x4096, .f32⟩
  | 107 => ⟨S16x4096x4096, .f32⟩
  | 108 => ⟨S16x4096x4096, .f32⟩
  | 109 => ⟨S16x4096x4096, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S16x4096x4096, .f32⟩
  | 118 => ⟨S16x4096x4096, .i1⟩
  | 119 => ⟨S_, .f32⟩
  | 120 => ⟨S16x4096x4096, .f32⟩
  | 121 => ⟨S16x4096x4096, .f32⟩
  | 122 => ⟨S16x4096x4096, .f32⟩
  | 123 => ⟨S16x4096x4096, .f32⟩
  | 124 => ⟨S16x4096x4096, .f32⟩
  | 125 => ⟨S_, .f32⟩
  | 126 => ⟨S16x4096x4096, .f32⟩
  | 127 => ⟨S16x4096x4096, .f32⟩
  | _ => ⟨S4096x1024, .f32⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S_, .f32⟩
  | 4 => ⟨S_, .f32⟩
  | 5 => ⟨S16x4096x4096, .i1⟩
  | 6 => ⟨S16x4096x4096, .f32⟩
  | 7 => ⟨S16x4096x4096, .f32⟩
  | 8 => ⟨S_, .f32⟩
  | 9 => ⟨S16x4096x4096, .f32⟩
  | 10 => ⟨S16x4096x64, .f32⟩
  | 11 => ⟨S4096x16x64, .f32⟩
  | 12 => ⟨S4096x1024, .f32⟩
  | 13 => ⟨S4096x16x64, .f32⟩
  | 14 => ⟨S16x4096x64, .f32⟩
  | 15 => ⟨S16x64x4096, .f32⟩
  | 16 => ⟨S16x4096x64, .f32⟩
  | 17 => ⟨S16x4096x4096, .f32⟩
  | 18 => ⟨S_, .f32⟩
  | 19 => ⟨S16x4096x4096, .f32⟩
  | 20 => ⟨S16x4096x4096, .f32⟩
  | 21 => ⟨S16x4096x4096, .f32⟩
  | 22 => ⟨S16x4096x4096, .f32⟩
  | 23 => ⟨S16x4096x4096, .f32⟩
  | 24 => ⟨S16x4096x4096, .f32⟩
  | 25 => ⟨S16x4096x4096, .f32⟩
  | 26 => ⟨S_, .f32⟩
  | 27 => ⟨S_, .f32⟩
  | 28 => ⟨S16x4096x4096, .f32⟩
  | 29 => ⟨S16x4096x4096, .f32⟩
  | 30 => ⟨S_, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S_, .f32⟩
  | 39 => ⟨S16x4096x4096, .f32⟩
  | 40 => ⟨S16x4096x4096, .f32⟩
  | 41 => ⟨S16x4096x64, .f32⟩
  | 42 => ⟨S16x4096x64, .f32⟩
  | 43 => ⟨S4096x16x64, .f32⟩
  | 44 => ⟨S4096x1024, .f32⟩
  | 45 => ⟨S4096x16x64, .f32⟩
  | 46 => ⟨S4096x1024, .f32⟩
  | 47 => ⟨S4096x16x64, .f32⟩
  | 48 => ⟨S4096x1024, .f32⟩
  | 49 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v17_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v17_2 : Ref sig .tc := ⟨.hbm, 68, rfl⟩
abbrev main_v17_0 : Ref sig .tc := ⟨.hbm, 69, rfl⟩
abbrev main_cst_0 : Ref sig .tc := ⟨.hbm, 70, rfl⟩
abbrev main_call1_v0 : Ref sig .tc := ⟨.hbm, 71, rfl⟩
abbrev main_v18_1 : Ref sig .tc := ⟨.hbm, 72, rfl⟩
abbrev main_call1_v2 : Ref sig .tc := ⟨.hbm, 73, rfl⟩
abbrev main_v18_0 : Ref sig .tc := ⟨.hbm, 74, rfl⟩
abbrev main_call1_cst : Ref sig .tc := ⟨.hbm, 75, rfl⟩
abbrev main_v18_2 : Ref sig .tc := ⟨.hbm, 76, rfl⟩
abbrev main_call2_cst : Ref sig .tc := ⟨.hbm, 77, rfl⟩
abbrev main_call2_v0 : Ref sig .tc := ⟨.hbm, 78, rfl⟩
abbrev main_v19 : Ref sig .tc := ⟨.hbm, 79, rfl⟩
abbrev main_v20 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v21_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v21_2 : Ref sig .tc := ⟨.hbm, 127, rfl⟩
abbrev main_v21_0 : Ref sig .tc := ⟨.hbm, 128, rfl⟩
abbrev main_v22 : Ref sig .tc := ⟨.hbm, 129, rfl⟩
abbrev main_v23 : Ref sig .tc := ⟨.hbm, 130, rfl⟩
abbrev main_cst_1 : Ref sig .tc := ⟨.hbm, 131, rfl⟩
abbrev main_call4_v0 : Ref sig .tc := ⟨.hbm, 132, rfl⟩
abbrev main_v24_1 : Ref sig .tc := ⟨.hbm, 133, rfl⟩
abbrev main_call4_v2 : Ref sig .tc := ⟨.hbm, 134, rfl⟩
abbrev main_v24_0 : Ref sig .tc := ⟨.hbm, 135, rfl⟩
abbrev main_call4_cst : Ref sig .tc := ⟨.hbm, 136, rfl⟩
abbrev main_v24_2 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_call5_cst : Ref sig .tc := ⟨.hbm, 146, rfl⟩
abbrev main_call5_v0 : Ref sig .tc := ⟨.hbm, 147, rfl⟩
abbrev main_v33 : Ref sig .tc := ⟨.hbm, 148, rfl⟩
abbrev main_v34 : Ref sig .tc := ⟨.hbm, 149, rfl⟩
abbrev main_call6_v0 : Ref sig .tc := ⟨.hbm, 150, rfl⟩
abbrev main_call6_v1 : Ref sig .tc := ⟨.hbm, 151, rfl⟩
abbrev main_v35 : Ref sig .tc := ⟨.hbm, 152, rfl⟩
abbrev main_v36 : Ref sig .tc := ⟨.hbm, 153, rfl⟩
abbrev main_call7_cst : Ref sig .tc := ⟨.hbm, 154, rfl⟩
abbrev main_call7_v0 : Ref sig .tc := ⟨.hbm, 155, rfl⟩
abbrev main_v37 : Ref sig .tc := ⟨.hbm, 156, rfl⟩
abbrev main_v38 : Ref sig .tc := ⟨.hbm, 157, rfl⟩
abbrev main_call8_cst : Ref sig .tc := ⟨.hbm, 158, rfl⟩
abbrev main_call8_v0 : Ref sig .tc := ⟨.hbm, 159, rfl⟩
abbrev main_v39 : Ref sig .tc := ⟨.hbm, 160, rfl⟩
abbrev main_call9_v0 : Ref sig .tc := ⟨.hbm, 161, rfl⟩
abbrev main_call9_v1 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_cst_2 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩

abbrev nD : Nat := 1
abbrev τ : Topo := Topo.v7x

variable {F : FTy → Type} [FloatOps F]
-- ==== KernelRelu.lean ====
abbrev S4096x4096 : Shape := ⟨2, ![4096, 4096]⟩
abbrev S4096x1024 : Shape := ⟨2, ![4096, 1024]⟩
abbrev S_ : Shape := ⟨0, ![]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4x1024x1024, .bf16⟩
  | .hbm, ⟨9, _⟩ => ⟨S4096x1024, .bf16⟩
  | .hbm, ⟨10, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S4x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 1], ![false, false, false]⟩

def k0_off1 (i : grid0.Coords) : Fin 3 → Nat :=
  let arg1 : BitVec 32 := BitVec.ofNat 32 (i 1).val
  let v0 : Index := Scalar.indexCast arg1
  let c0 : Index := 0#32
  let c0_0 : Index := 0#32
  ![v0.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceReluIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S1024x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelW2.lean ====
abbrev S4096x4096 : Shape := ⟨2, ![4096, 4096]⟩
abbrev S4096x1024 : Shape := ⟨2, ![4096, 1024]⟩
abbrev S_ : Shape := ⟨0, ![]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4x1024x1024, .f32⟩
  | .hbm, ⟨9, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v14 : BitVec 1 := Scalar.cmpi .eq arg2 c1_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceW2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S1024x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4x1024x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelW1.lean ====
abbrev S4096x1024 : Shape := ⟨2, ![4096, 1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S1024x4x1024, .f32⟩
  | .hbm, ⟨4, _⟩ => ⟨S4x1024x1024, .f32⟩
  | .hbm, ⟨5, _⟩ => ⟨S4096x1024, .bf16⟩
  | .hbm, ⟨6, _⟩ => ⟨S4096x4096, .bf16⟩
  | .hbm, ⟨7, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceW1Ideal.lean ====
abbrev S4096x1024 : Shape := ⟨2, ![4096, 1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S1024x4x1024, .f32⟩
  | .hbm, ⟨8, _⟩ => ⟨S4x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelNorm.lean ====
abbrev S4096x1024 : Shape := ⟨2, ![4096, 1024]⟩
abbrev S4x1024 : Shape := ⟨2, ![4, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024x4x1024 : Shape := ⟨3, ![1024, 4, 1024]⟩
abbrev S4x1024x1024 : Shape := ⟨3, ![4, 1024, 1024]⟩
abbrev S4x1x1024 : Shape := ⟨3, ![4, 1, 1024]⟩
abbrev S1x1024 : Shape := ⟨2, ![1, 1024]⟩
abbrev S512x4096 : Shape := ⟨2, ![512, 4096]⟩
abbrev S512x1024 : Shape := ⟨2, ![512, 1024]⟩
abbrev S512x1 : Shape := ⟨2, ![512, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1024 : Shape := ⟨1, ![1024]⟩
abbrev S512 : Shape := ⟨1, ![512]⟩

abbrev nBuf : Space → Nat
  | .hbm => 38
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S4x1024, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1024x4096, .bf16⟩
  | .hbm, ⟨30, _⟩ => ⟨S1024x4x1024, .bf16⟩
  | .hbm, ⟨31, _⟩ => ⟨S4x1024x1024, .bf16⟩
  | .hbm, ⟨32, _⟩ => ⟨S4096x4096, .bf16⟩
  | .hbm, ⟨33, _⟩ => ⟨S4x1x1024, .f32⟩
  | .hbm, ⟨34, _⟩ => ⟨S4096x1024, .f32⟩
  | .hbm, ⟨35, _⟩ => ⟨S4096x1024, .bf16⟩
  | .hbm, ⟨36, _⟩ => ⟨S1x1024, .f32⟩
  | .hbm, ⟨37, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== ReferenceNormIdeal.lean ====
abbrev S4096x1024 : Shape := ⟨2, ![4096, 1024]⟩
abbrev S4x1024 : Shape := ⟨2, ![4, 1024]⟩
abbrev S1024x4096 : Shape := ⟨2, ![1024, 4096]⟩
abbrev S4096x4096 : Shape := ⟨2, ![4096, 4096]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 104
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S4x1024, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x4096, .f32⟩
  | .hbm, ⟨50, _⟩ => ⟨S4096x1024, .f32⟩
  | .hbm, ⟨51, _⟩ => ⟨S1024x4096, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .bf16⟩
  | .hbm, ⟨102, _⟩ => ⟨S1x1024, .f32⟩
  | .hbm, ⟨103, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== KernelNormIn.lean ====
abbrev S4096x1024 : Shape := ⟨2, ![4096, 1024]⟩
abbrev S4x1024 : Shape := ⟨2, ![4, 1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024x4x512 : Shape := ⟨3, ![1024, 4, 512]⟩
abbrev S4x1024x512 : Shape := ⟨3, ![4, 1024, 512]⟩
abbrev S4x1x1024 : Shape := ⟨3, ![4, 1, 1024]⟩
abbrev S1x1024 : Shape := ⟨2, ![1, 1024]⟩
abbrev S512x2048 : Shape := ⟨2, ![512, 2048]⟩
abbrev S512x1024 : Shape := ⟨2, ![512, 1024]⟩
abbrev S512x1 : Shape := ⟨2, ![512, 1]⟩
abbrev S1x1x1024 : Shape := ⟨3, ![1, 1, 1024]⟩
abbrev S512x512 : Shape := ⟨2, ![512, 512]⟩
abbrev S1x1024x512 : Shape := ⟨3, ![1, 1024, 512]⟩
abbrev S1024x512 : Shape := ⟨2, ![1024, 512]⟩
abbrev S1024 : Shape := ⟨1, ![1024]⟩
abbrev S512 : Shape := ⟨1, ![512]⟩

abbrev nBuf : Space → Nat
  | .hbm => 38
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S4x1024, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1024x2048, .bf16⟩
  | .hbm, ⟨30, _⟩ => ⟨S1024x4x512, .bf16⟩
  | .hbm, ⟨31, _⟩ => ⟨S4x1024x512, .bf16⟩
  | .hbm, ⟨32, _⟩ => ⟨S4096x2048, .bf16⟩
  | .hbm, ⟨33, _⟩ => ⟨S4x1x1024, .f32⟩
  | .hbm, ⟨34, _⟩ => ⟨S4096x1024, .f32⟩
  | .hbm, ⟨35, _⟩ => ⟨S4096x1024, .bf16⟩
  | .hbm, ⟨36, _⟩ => ⟨S1x1024, .f32⟩
  | .hbm, ⟨37, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== ReferenceNormInIdeal.lean ====
abbrev S4096x1024 : Shape := ⟨2, ![4096, 1024]⟩
abbrev S4x1024 : Shape := ⟨2, ![4, 1024]⟩
abbrev S1024x2048 : Shape := ⟨2, ![1024, 2048]⟩
abbrev S4096x2048 : Shape := ⟨2, ![4096, 2048]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S2048x1024 : Shape := ⟨2, ![2048, 1024]⟩

abbrev nBuf : Space → Nat
  | .hbm => 104
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S4x1024, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x2048, .f32⟩
  | .hbm, ⟨50, _⟩ => ⟨S2048x1024, .f32⟩
  | .hbm, ⟨51, _⟩ => ⟨S1024x2048, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .bf16⟩
  | .hbm, ⟨102, _⟩ => ⟨S1x1024, .f32⟩
  | .hbm, ⟨103, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== KernelOutDx.lean ====
abbrev S4096x1024 : Shape := ⟨2, ![4096, 1024]⟩
abbrev S1024x1024 : Shape := ⟨2, ![1024, 1024]⟩
abbrev S4x256x1024 : Shape := ⟨3, ![4, 256, 1024]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4x256x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x256, .f32⟩
  | .local _ .vmem, ⟨4, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 4, 1], ![false, false, false]⟩

def k0_off1 (i : grid0.Coords) : Fin 3 → Nat :=
  let arg1 : BitVec 32 := BitVec.ofNat 32 (i 1).val
  let v0 : Index := Scalar.indexCast arg1
  let c0 : Index := 0#32
  let c0_0 : Index := 0#32
  ![v0.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDxIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOutDw.lean ====
abbrev S4096x1024 : Shape := ⟨2, ![4096, 1024]⟩
abbrev S1024x1024 : Shape := ⟨2, ![1024, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4x256x1024, .f32⟩
  | .hbm, ⟨6, _⟩ => ⟨S4x256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceOutDwIdeal.lean ====
abbrev S4096x1024 : Shape := ⟨2, ![4096, 1024]⟩
abbrev S1024x1024 : Shape := ⟨2, ![1024, 1024]⟩
abbrev S4x256x1024 : Shape := ⟨3, ![4, 256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4x256x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelKDw.lean ====
abbrev S4096x1024 : Shape := ⟨2, ![4096, 1024]⟩
abbrev S1024x1024 : Shape := ⟨2, ![1024, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4x256x1024, .f32⟩
  | .hbm, ⟨5, _⟩ => ⟨S4x256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceKDwIdeal.lean ====
abbrev S4096x1024 : Shape := ⟨2, ![4096, 1024]⟩
abbrev S1024x1024 : Shape := ⟨2, ![1024, 1024]⟩
abbrev S4x256x1024 : Shape := ⟨3, ![4, 256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4x256x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelInDw.lean ====
abbrev S4096x1024 : Shape := ⟨2, ![4096, 1024]⟩
abbrev S1024x2048 : Shape := ⟨2, ![1024, 2048]⟩
abbrev S4096x2048 : Shape := ⟨2, ![4096, 2048]⟩
abbrev S1024x4x512 : Shape := ⟨3, ![1024, 4, 512]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x1024, .bf16⟩
  | .hbm, ⟨4, _⟩ => ⟨S4096x2048, .bf16⟩
  | .hbm, ⟨5, _⟩ => ⟨S1024x4x512, .f32⟩
  | .hbm, ⟨6, _⟩ => ⟨S4x1024x512, .f32⟩
  | .hbm, ⟨7, _⟩ => ⟨S4x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceInDwIdeal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S1024x2048, .f32⟩
  | .hbm, ⟨6, _⟩ => ⟨S4096x1024, .f32⟩
  | .hbm, ⟨7, _⟩ => ⟨S1024x4x512, .f32⟩
  | .hbm, ⟨8, _⟩ => ⟨S4x1024x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelQDx.lean ====
abbrev S4096x1024 : Shape := ⟨2, ![4096, 1024]⟩
abbrev S1024x1024 : Shape := ⟨2, ![1024, 1024]⟩
abbrev S4x256x1024 : Shape := ⟨3, ![4, 256, 1024]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4x256x1024, .bf16⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 1], ![false, false, false]⟩

def k0_off1 (i : grid0.Coords) : Fin 3 → Nat :=
  let arg1 : BitVec 32 := BitVec.ofNat 32 (i 1).val
  let v0 : Index := Scalar.indexCast arg1
  let c0 : Index := 0#32
  let c0_0 : Index := 0#32
  ![v0.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceQDxIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== KernelKDx.lean ====
abbrev S4096x1024 : Shape := ⟨2, ![4096, 1024]⟩
abbrev S1024x1024 : Shape := ⟨2, ![1024, 1024]⟩
abbrev S4x256x1024 : Shape := ⟨3, ![4, 256, 1024]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .bf16⟩
  | .hbm, ⟨5, _⟩ => ⟨S4x256x1024, .bf16⟩
  | .hbm, ⟨6, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S4x256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 1], ![false, false, false]⟩

def k0_off1 (i : grid0.Coords) : Fin 3 → Nat :=
  let arg1 : BitVec 32 := BitVec.ofNat 32 (i 1).val
  let v0 : Index := Scalar.indexCast arg1
  let c0 : Index := 0#32
  let c0_0 : Index := 0#32
  ![v0.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceKDxIdeal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelInDx.lean ====
abbrev S4096x1024 : Shape := ⟨2, ![4096, 1024]⟩
abbrev S1024x2048 : Shape := ⟨2, ![1024, 2048]⟩
abbrev S4096x2048 : Shape := ⟨2, ![4096, 2048]⟩
abbrev S1024x4x512 : Shape := ⟨3, ![1024, 4, 512]⟩
abbrev S4x1024x512 : Shape := ⟨3, ![4, 1024, 512]⟩
abbrev S512x2048 : Shape := ⟨2, ![512, 2048]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .f32⟩
  | .hbm, ⟨3, _⟩ => ⟨S4096x2048, .f32⟩
  | .hbm, ⟨4, _⟩ => ⟨S1024x2048, .bf16⟩
  | .hbm, ⟨5, _⟩ => ⟨S1024x4x512, .bf16⟩
  | .hbm, ⟨6, _⟩ => ⟨S4x1024x512, .bf16⟩
  | .hbm, ⟨7, _⟩ => ⟨S4096x2048, .bf16⟩
  | .hbm, ⟨8, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceInDxIdeal.lean ====
abbrev S4096x1024 : Shape := ⟨2, ![4096, 1024]⟩
abbrev S1024x2048 : Shape := ⟨2, ![1024, 2048]⟩
abbrev S4096x2048 : Shape := ⟨2, ![4096, 2048]⟩
abbrev S_ : Shape := ⟨0, ![]⟩
abbrev S2048x1024 : Shape := ⟨2, ![2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== KernelHidden.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4096, .bf16⟩
  | .hbm, ⟨3, _⟩ => ⟨S1024x4x1024, .bf16⟩
  | .hbm, ⟨4, _⟩ => ⟨S4x1024x1024, .bf16⟩
  | .hbm, ⟨5, _⟩ => ⟨S4096x1024, .bf16⟩
  | .hbm, ⟨6, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S4x1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 4, 1], ![false, false, false]⟩

def k0_off1 (i : grid0.Coords) : Fin 3 → Nat :=
  let arg1 : BitVec 32 := BitVec.ofNat 32 (i 1).val
  let v0 : Index := Scalar.indexCast arg1
  let c0 : Index := 0#32
  let c0_0 : Index := 0#32
  ![v0.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceHiddenIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== KernelIn.lean ====
abbrev S4096x1024 : Shape := ⟨2, ![4096, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S4096x2048 : Shape := ⟨2, ![4096, 2048]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1024x2048, .bf16⟩
  | .hbm, ⟨3, _⟩ => ⟨S1024x4x512, .bf16⟩
  | .hbm, ⟨4, _⟩ => ⟨S4x1024x512, .bf16⟩
  | .hbm, ⟨5, _⟩ => ⟨S4096x1024, .bf16⟩
  | .hbm, ⟨6, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S4x1024x512, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 4, 1], ![false, false, false]⟩

def k0_off1 (i : grid0.Coords) : Fin 3 → Nat :=
  let arg1 : BitVec 32 := BitVec.ofNat 32 (i 1).val
  let v0 : Index := Scalar.indexCast arg1
  let c0 : Index := 0#32
  let c0_0 : Index := 0#32
  ![v0.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelQ.lean ====
abbrev S4096x1024 : Shape := ⟨2, ![4096, 1024]⟩
abbrev S1024x1024 : Shape := ⟨2, ![1024, 1024]⟩
abbrev S4x256x1024 : Shape := ⟨3, ![4, 256, 1024]⟩
abbrev S512x1024 : Shape := ⟨2, ![512, 1024]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4x256x1024, .bf16⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S4x256x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelV.lean ====
abbrev S4096x1024 : Shape := ⟨2, ![4096, 1024]⟩
abbrev S1024x1024 : Shape := ⟨2, ![1024, 1024]⟩
abbrev S4x256x1024 : Shape := ⟨3, ![4, 256, 1024]⟩
abbrev S512x1024 : Shape := ⟨2, ![512, 1024]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4x256x1024, .bf16⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S4x256x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceVIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelFfn.lean ====
abbrev S4096x4096 : Shape := ⟨2, ![4096, 4096]⟩
abbrev S4096x1024 : Shape := ⟨2, ![4096, 1024]⟩
abbrev S4x1024 : Shape := ⟨2, ![4, 1024]⟩
abbrev S_ : Shape := ⟨0, ![]⟩
abbrev S4x1024x1024 : Shape := ⟨3, ![4, 1024, 1024]⟩
abbrev S4x1x1024 : Shape := ⟨3, ![4, 1, 1024]⟩
abbrev S4096x1 : Shape := ⟨2, ![4096, 1]⟩
abbrev S512x4096 : Shape := ⟨2, ![512, 4096]⟩
abbrev S512x1024 : Shape := ⟨2, ![512, 1024]⟩
abbrev S1x1x1024 : Shape := ⟨3, ![1, 1, 1024]⟩
abbrev S512x1 : Shape := ⟨2, ![512, 1]⟩
abbrev S1x1024x1024 : Shape := ⟨3, ![1, 1024, 1024]⟩
abbrev S1024x1024 : Shape := ⟨2, ![1024, 1024]⟩
abbrev S512 : Shape := ⟨1, ![512]⟩
abbrev S1x1024 : Shape := ⟨2, ![1, 1024]⟩

abbrev nBuf : Space → Nat
  | .hbm => 17
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S4x1024x1024, .bf16⟩
  | .hbm, ⟨11, _⟩ => ⟨S4x1x1024, .f32⟩
  | .hbm, ⟨12, _⟩ => ⟨S4x1x1024, .f32⟩
  | .hbm, ⟨13, _⟩ => ⟨S4096x1024, .f32⟩
  | .hbm, ⟨14, _⟩ => ⟨S4096x1024, .bf16⟩
  | .hbm, ⟨15, _⟩ => ⟨S4096x1024, .f32⟩
  | .hbm, ⟨16, _⟩ => ⟨S4096x1, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceFfnIdeal.lean ====
abbrev S4096x4096 : Shape := ⟨2, ![4096, 4096]⟩
abbrev S4096x1024 : Shape := ⟨2, ![4096, 1024]⟩
abbrev S4x1024 : Shape := ⟨2, ![4, 1024]⟩
abbrev S_ : Shape := ⟨0, ![]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== KernelOut.lean ====
abbrev S4096x1024 : Shape := ⟨2, ![4096, 1024]⟩
abbrev S1024x1024 : Shape := ⟨2, ![1024, 1024]⟩
abbrev S4x1024 : Shape := ⟨2, ![4, 1024]⟩
abbrev S4x256x1024 : Shape := ⟨3, ![4, 256, 1024]⟩
abbrev S4x1x1024 : Shape := ⟨3, ![4, 1, 1024]⟩
abbrev S4096x1 : Shape := ⟨2, ![4096, 1]⟩
abbrev S512x1024 : Shape := ⟨2, ![512, 1024]⟩
abbrev S1x1x1024 : Shape := ⟨3, ![1, 1, 1024]⟩
abbrev S512x1 : Shape := ⟨2, ![512, 1]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S1x1024 : Shape := ⟨2, ![1, 1024]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4x1024, .f32⟩
  | .hbm, ⟨4, _⟩ => ⟨S4x1024, .f32⟩
  | .hbm, ⟨5, _⟩ => ⟨S4096x1024, .bf16⟩
  | .hbm, ⟨6, _⟩ => ⟨S1024x1024, .bf16⟩
  | .hbm, ⟨7, _⟩ => ⟨S4x256x1024, .bf16⟩
  | .hbm, ⟨8, _⟩ => ⟨S4x1x1024, .f32⟩
  | .hbm, ⟨9, _⟩ => ⟨S4x1x1024, .f32⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S4096x1, .f32⟩
  | .local _ .vmem, ⟨0, _⟩ => ⟨S512x1024, .bf16⟩
  | .local _ .vmem, ⟨1, _⟩ => ⟨S512x1024, .bf16⟩
  | .local _ .vmem, ⟨2, _⟩ => ⟨S4x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceOutIdeal.lean ====
abbrev S4096x1024 : Shape := ⟨2, ![4096, 1024]⟩
abbrev S1024x1024 : Shape := ⟨2, ![1024, 1024]⟩
abbrev S4x1024 : Shape := ⟨2, ![4, 1024]⟩
abbrev S_ : Shape := ⟨0, ![]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== KernelLn.lean ====
abbrev S4096x1024 : Shape := ⟨2, ![4096, 1024]⟩
abbrev S4x1024 : Shape := ⟨2, ![4, 1024]⟩
abbrev S_ : Shape := ⟨0, ![]⟩
abbrev S4096 : Shape := ⟨1, ![4096]⟩
abbrev S4096x1 : Shape := ⟨2, ![4096, 1]⟩
abbrev S4x1x1024 : Shape := ⟨3, ![4, 1, 1024]⟩
abbrev S1x1024 : Shape := ⟨2, ![1, 1024]⟩
abbrev S512x1024 : Shape := ⟨2, ![512, 1024]⟩
abbrev S512x1 : Shape := ⟨2, ![512, 1]⟩
abbrev S1x1x1024 : Shape := ⟨3, ![1, 1, 1024]⟩
abbrev S1024 : Shape := ⟨1, ![1024]⟩
abbrev S512 : Shape := ⟨1, ![512]⟩

abbrev nBuf : Space → Nat
  | .hbm => 32
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S4x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4x1x1024, .f32⟩
  | .hbm, ⟨28, _⟩ => ⟨S4096x1024, .f32⟩
  | .hbm, ⟨29, _⟩ => ⟨S4096x1024, .bf16⟩
  | .hbm, ⟨30, _⟩ => ⟨S1x1024, .f32⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceLnIdeal.lean ====
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S4x1024, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .bf16⟩
  | .hbm, ⟨90, _⟩ => ⟨S1x1024, .f32⟩
  | .hbm, ⟨91, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_15 : Ref sig .tc := ⟨.hbm, 82, rfl⟩
abbrev main_v62 : Ref sig .tc := ⟨.hbm, 83, rfl⟩
abbrev main_v63 : Ref sig .tc := ⟨.hbm, 84, rfl⟩
abbrev main_cst_16 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== KernelHead.lean ====
abbrev S4096x1024 : Shape := ⟨2, ![4096, 1024]⟩
abbrev S4x1024 : Shape := ⟨2, ![4, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024 : Shape := ⟨1, ![1024]⟩
abbrev S4x1x1024 : Shape := ⟨3, ![4, 1, 1024]⟩
abbrev S1x1 : Shape := ⟨2, ![1, 1]⟩
abbrev S512x1024 : Shape := ⟨2, ![512, 1024]⟩
abbrev S512x1 : Shape := ⟨2, ![512, 1]⟩
abbrev S1x1x1024 : Shape := ⟨3, ![1, 1, 1024]⟩
abbrev S512 : Shape := ⟨1, ![512]⟩
abbrev S1 : Shape := ⟨1, ![1]⟩

abbrev nBuf : Space → Nat
  | .hbm => 43
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S4x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4x1x1024, .f32⟩
  | .hbm, ⟨38, _⟩ => ⟨S4096x1024, .f32⟩
  | .hbm, ⟨39, _⟩ => ⟨S4096x1024, .bf16⟩
  | .hbm, ⟨40, _⟩ => ⟨S1x1024, .f32⟩
  | .hbm, ⟨41, _⟩ => ⟨S1x1024, .f32⟩
  | .hbm, ⟨42, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev main_v29_3 : Ref sig .tc := ⟨.hbm, 41, rfl⟩
abbrev main_v29_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceHeadIdeal.lean ====
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S4096x1024, .f32⟩
  | 1 => ⟨S4x1024, .f32⟩
  | 2 => ⟨S4x1024, .f32⟩
  | 3 => ⟨S4096x1024, .f32⟩
  | 4 => ⟨S1x1024, .f32⟩
  | 5 => ⟨S1024, .f32⟩
  | 6 => ⟨S1x1024, .f32⟩
  | 7 => ⟨S1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S4096x1024, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S_, .f32⟩
  | 29 => ⟨S4096x1, .f32⟩
  | 30 => ⟨S4096x1, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1024, .f32⟩
  | 37 => ⟨S4096x1024, .f32⟩
  | 38 => ⟨S1x1024, .f32⟩
  | 39 => ⟨S4096x1024, .f32⟩
  | 40 => ⟨S4096x1024, .f32⟩
  | 41 => ⟨S1x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096, .f32⟩
  | 51 => ⟨S_, .f32⟩
  | 52 => ⟨S4096, .f32⟩
  | 53 => ⟨S4096, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S4096, .f32⟩
  | 62 => ⟨S_, .f32⟩
  | 63 => ⟨S4096, .f32⟩
  | 64 => ⟨S4096, .f32⟩
  | 65 => ⟨S4096x1024, .f32⟩
  | 66 => ⟨S4096x1024, .f32⟩
  | 67 => ⟨S_, .f32⟩
  | 68 => ⟨S1024, .f32⟩
  | 69 => ⟨S1x1024, .f32⟩
  | 70 => ⟨S_, .f32⟩
  | 71 => ⟨S1024, .f32⟩
  | 72 => ⟨S4096x1024, .f32⟩
  | 73 => ⟨S_, .f32⟩
  | 74 => ⟨S1024, .f32⟩
  | 75 => ⟨S1x1024, .f32⟩
  | 76 => ⟨S4096x1024, .f32⟩
  | 77 => ⟨S4096x1024, .f32⟩
  | 78 => ⟨S_, .f32⟩
  | 79 => ⟨S1024, .f32⟩
  | 80 => ⟨S4096x1024, .f32⟩
  | 81 => ⟨S_, .f32⟩
  | 82 => ⟨S4096, .f32⟩
  | 83 => ⟨S4096x1, .f32⟩
  | 84 => ⟨S4096x1024, .f32⟩
  | 85 => ⟨S4096x1024, .f32⟩
  | 86 => ⟨S4096x1, .f32⟩
  | 87 => ⟨S4096x1024, .f32⟩
  | 88 => ⟨S_, .f32⟩
  | 89 => ⟨S4096, .f32⟩
  | 90 => ⟨S4096x1, .f32⟩
  | 91 => ⟨S_, .f32⟩
  | 92 => ⟨S4096x1, .f32⟩
  | 93 => ⟨S4096x1, .f32⟩
  | 94 => ⟨S_, .f32⟩
  | 95 => ⟨S4096, .f32⟩
  | 96 => ⟨S4096x1024, .f32⟩
  | 97 => ⟨S4096x1024, .f32⟩
  | 98 => ⟨S4096x1024, .f32⟩
  | 99 => ⟨S_, .f32⟩
  | 100 => ⟨S4096, .f32⟩
  | 101 => ⟨S4096x1, .f32⟩
  | 102 => ⟨S4096x1024, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096, .f32⟩
  | 109 => ⟨S4096x1024, .f32⟩
  | 110 => ⟨S4096x1024, .f32⟩
  | 111 => ⟨S4096x1024, .bf16⟩
  | 112 => ⟨S1x1024, .f32⟩
  | 113 => ⟨S1x1024, .f32⟩
  | 114 => ⟨S1x1024, .f32⟩
  | 115 => ⟨S1024, .f32⟩
  | 116 => ⟨S1x1024, .f32⟩
  | 117 => ⟨S1024, .f32⟩
  | 118 => ⟨S_, .f32⟩
  | 119 => ⟨S4096, .f32⟩
  | 120 => ⟨S4096x1, .f32⟩
  | 121 => ⟨S_, .f32⟩
  | 122 => ⟨S4096x1, .f32⟩
  | 123 => ⟨S4096x1, .f32⟩
  | 124 => ⟨S4096x1024, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096, .f32⟩
  | 1 => ⟨S4096x1, .f32⟩
  | 2 => ⟨S_, .f32⟩
  | 3 => ⟨S4096x1, .f32⟩
  | 4 => ⟨S4096x1, .f32⟩
  | 5 => ⟨S4096x1024, .f32⟩
  | 6 => ⟨S4096x1024, .f32⟩
  | 7 => ⟨S_, .f32⟩
  | 8 => ⟨S4096x1, .f32⟩
  | 9 => ⟨S4096x1, .f32⟩
  | 10 => ⟨S4096x1, .f32⟩
  | 11 => ⟨S4096x1024, .f32⟩
  | 12 => ⟨S4096x1024, .f32⟩
  | 13 => ⟨S1x1024, .f32⟩
  | 14 => ⟨S4096x1024, .f32⟩
  | 15 => ⟨S4096x1024, .f32⟩
  | 16 => ⟨S1x1024, .f32⟩
  | 17 => ⟨S4096x1024, .f32⟩
  | 18 => ⟨S4096x1024, .f32⟩
  | 19 => ⟨S4096x1024, .f32⟩
  | 20 => ⟨S4096x1024, .f32⟩
  | 21 => ⟨S_, .f32⟩
  | 22 => ⟨S_, .f32⟩
  | 23 => ⟨S1x1, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_cst_11 : Ref sig .tc := ⟨.hbm, 58, rfl⟩
abbrev main_cst_12 : Ref sig .tc := ⟨.hbm, 59, rfl⟩
abbrev main_v42 : Ref sig .tc := ⟨.hbm, 60, rfl⟩
abbrev main_v43 : Ref sig .tc := ⟨.hbm, 61, rfl⟩
abbrev main_cst_13 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_14 : Ref sig .tc := ⟨.hbm, 67, rfl⟩
abbrev main_v48 : Ref sig .tc := ⟨.hbm, 68, rfl⟩
abbrev main_v49 : Ref sig .tc := ⟨.hbm, 69, rfl⟩
abbrev main_cst_15 : Ref sig .tc := ⟨.hbm, 70, rfl⟩
abbrev main_v50 : Ref sig .tc := ⟨.hbm, 71, rfl⟩
abbrev main_v51 : Ref sig .tc := ⟨.hbm, 72, rfl⟩
abbrev main_cst_16 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_17 : Ref sig .tc := ⟨.hbm, 78, rfl⟩
abbrev main_v56 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_19 : Ref sig .tc := ⟨.hbm, 88, rfl⟩
abbrev main_v64 : Ref sig .tc := ⟨.hbm, 89, rfl⟩
abbrev main_v65 : Ref sig .tc := ⟨.hbm, 90, rfl⟩
abbrev main_cst_20 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_22 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_23 : Ref sig .tc := ⟨.hbm, 104, rfl⟩
abbrev main_v76 : Ref sig .tc := ⟨.hbm, 105, rfl⟩
abbrev main_v77 : Ref sig .tc := ⟨.hbm, 106, rfl⟩
abbrev main_cst_24 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_25 : Ref sig .tc := ⟨.hbm, 118, rfl⟩
abbrev main_v88 : Ref sig .tc := ⟨.hbm, 119, rfl⟩
abbrev main_v89 : Ref sig .tc := ⟨.hbm, 120, rfl⟩
abbrev main_cst_26 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_27 : Ref sig .tc := ⟨.hbm, 127, rfl⟩
abbrev main_v95 : Ref sig .tc := ⟨.hbm, 128, rfl⟩
abbrev main_v96 : Ref sig .tc := ⟨.hbm, 129, rfl⟩
abbrev main_cst_28 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_29 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_30 : Ref sig .tc := ⟨.hbm, 149, rfl⟩
abbrev main_v114 : Ref sig .tc := ⟨.hbm, 150, rfl⟩
abbrev main_v115 : Ref sig .tc := ⟨.hbm, 151, rfl⟩

abbrev nD : Nat := 1
abbrev τ : Topo := Topo.v7x

variable {F : FTy → Type} [FloatOps F]
-- ==== KernelGateNorm.lean ====
abbrev S4096x2048 : Shape := ⟨2, ![4096, 2048]⟩
abbrev S2x1024 : Shape := ⟨2, ![2, 1024]⟩
abbrev S2x1x1024 : Shape := ⟨3, ![2, 1, 1024]⟩
abbrev S4096x1024 : Shape := ⟨2, ![4096, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2x1024, .f32⟩
  | .hbm, ⟨2, _⟩ => ⟨S2x1024, .f32⟩
  | .hbm, ⟨3, _⟩ => ⟨S2x1x1024, .f32⟩
  | .hbm, ⟨4, _⟩ => ⟨S2x1x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x1024, .bf16⟩
  | .local _ .vmem, ⟨5, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceGateNormIdeal.lean ====
abbrev S4096x2048 : Shape := ⟨2, ![4096, 2048]⟩
abbrev S2x1024 : Shape := ⟨2, ![2, 1024]⟩
abbrev S4096x1024 : Shape := ⟨2, ![4096, 1024]⟩
abbrev S_ : Shape := ⟨0, ![]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x1024, .f32⟩
  | .hbm, ⟨2, _⟩ => ⟨S2x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== KernelPrev.lean ====
abbrev S4096x1024 : Shape := ⟨2, ![4096, 1024]⟩
abbrev S_ : Shape := ⟨0, ![]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S4096x16 : Shape := ⟨2, ![4096, 16]⟩
abbrev S4096x16x1 : Shape := ⟨3, ![4096, 16, 1]⟩
abbrev S4096x8x128 : Shape := ⟨3, ![4096, 8, 128]⟩
abbrev S128 : Shape := ⟨1, ![128]⟩
abbrev S512x256 : Shape := ⟨2, ![512, 256]⟩
abbrev S256x128 : Shape := ⟨2, ![256, 128]⟩
abbrev S4096x128 : Shape := ⟨2, ![4096, 128]⟩
abbrev S256x1 : Shape := ⟨2, ![256, 1]⟩
abbrev S128x4096 : Shape := ⟨2, ![128, 4096]⟩
abbrev S256x256 : Shape := ⟨2, ![256, 256]⟩
abbrev S1x128 : Shape := ⟨2, ![1, 128]⟩
abbrev S128x1 : Shape := ⟨2, ![128, 1]⟩
abbrev S128x256 : Shape := ⟨2, ![128, 256]⟩
abbrev S1x256x1 : Shape := ⟨3, ![1, 256, 1]⟩
abbrev S1 : Shape := ⟨1, ![1]⟩
abbrev S1x1x1 : Shape := ⟨3, ![1, 1, 1]⟩
abbrev S256x512 : Shape := ⟨2, ![256, 512]⟩

abbrev nBuf : Space → Nat
  | .hbm => 103
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x16x64, .f32⟩
  | .hbm, ⟨10, _⟩ => ⟨S16x4096x64, .f32⟩
  | .hbm, ⟨11, _⟩ => ⟨S4096x16x64, .f32⟩
  | .hbm, ⟨12, _⟩ => ⟨S16x4096x64, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S4096, .i32⟩
  | .hbm, ⟨18, _⟩ => ⟨S1x4096, .i32⟩
  | .hbm, ⟨19, _⟩ => ⟨S4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S16x4096x4096, .f32⟩
  | .hbm, ⟨25, _⟩ => ⟨S16x4096x4096, .f32⟩
  | .hbm, ⟨26, _⟩ => ⟨S_, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .i1⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S16x4096x4096, .f32⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S_, .f32⟩
  | .hbm, ⟨43, _⟩ => ⟨S16x4096x4096, .i1⟩
  | .hbm, ⟨44, _⟩ => ⟨S16x4096x4096, .f32⟩
  | .hbm, ⟨45, _⟩ => ⟨S16x4096x4096, .f32⟩
  | .hbm, ⟨46, _⟩ => ⟨S_, .f32⟩
  | .hbm, ⟨47, _⟩ => ⟨S16x4096, .f32⟩
  | .hbm, ⟨48, _⟩ => ⟨S_, .f32⟩
  | .hbm, ⟨49, _⟩ => ⟨S_, .f32⟩
  | .hbm, ⟨50, _⟩ => ⟨S16x4096, .f32⟩
  | .hbm, ⟨51, _⟩ => ⟨S16x4096, .f32⟩
  | .hbm, ⟨52, _⟩ => ⟨S4096x16, .f32⟩
  | .hbm, ⟨53, _⟩ => ⟨S4096x16x1, .f32⟩
  | .hbm, ⟨54, _⟩ => ⟨S4096x16x64, .f32⟩
  | .hbm, ⟨55, _⟩ => ⟨S4096x8x128, .f32⟩
  | .hbm, ⟨56, _⟩ => ⟨S128, .i32⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S_, .f32⟩
  | .hbm, ⟨61, _⟩ => ⟨S_, .f32⟩
  | .hbm, ⟨62, _⟩ => ⟨S4096x8x128, .i1⟩
  | .hbm, ⟨63, _⟩ => ⟨S4096x8x128, .f32⟩
  | .hbm, ⟨64, _⟩ => ⟨S4096x8x128, .f32⟩
  | .hbm, ⟨65, _⟩ => ⟨S4096x1024, .f32⟩
  | .hbm, ⟨66, _⟩ => ⟨S4096x1024, .bf16⟩
  | .hbm, ⟨67, _⟩ => ⟨S4096x1024, .bf16⟩
  | .hbm, ⟨68, _⟩ => ⟨S4096x1024, .bf16⟩
  | .hbm, ⟨69, _⟩ => ⟨S512x256, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S512x256, .i32⟩
  | .hbm, ⟨77, _⟩ => ⟨S512x256, .i32⟩
  | .hbm, ⟨78, _⟩ => ⟨S_, .i32⟩
  | .hbm, ⟨79, _⟩ => ⟨S512x256, .i32⟩
  | .hbm, ⟨80, _⟩ => ⟨S512x256, .i1⟩
  | .hbm, ⟨81, _⟩ => ⟨S_, .i32⟩
  | .hbm, ⟨82, _⟩ => ⟨S512x256, .i32⟩
  | .hbm, ⟨83, _⟩ => ⟨S512x256, .i1⟩
  | .hbm, ⟨84, _⟩ => ⟨S_, .i32⟩
  | .hbm, ⟨85, _⟩ => ⟨S_, .i1⟩
  | .hbm, ⟨86, _⟩ => ⟨S512x256, .i1⟩
  | .hbm, ⟨87, _⟩ => ⟨S512x256, .i1⟩
  | .hbm, ⟨88, _⟩ => ⟨S512x256, .i1⟩
  | .hbm, ⟨89, _⟩ => ⟨S512x256, .i32⟩
  | .hbm, ⟨90, _⟩ => ⟨S512x256, .i32⟩
  | .hbm, ⟨91, _⟩ => ⟨S512x256, .i32⟩
  | .hbm, ⟨92, _⟩ => ⟨S512x256, .i32⟩
  | .hbm, ⟨93, _⟩ => ⟨S512x256, .i1⟩
  | .hbm, ⟨94, _⟩ => ⟨S_, .f32⟩
  | .hbm, ⟨95, _⟩ => ⟨S_, .f32⟩
  | .hbm, ⟨96, _⟩ => ⟨S512x256, .f32⟩
  | .hbm, ⟨97, _⟩ => ⟨S512x256, .f32⟩
  | .hbm, ⟨98, _⟩ => ⟨S512x256, .f32⟩
  | .hbm, ⟨99, _⟩ => ⟨S512x256, .bf16⟩
  | .hbm, ⟨100, _⟩ => ⟨S4096x1024, .bf16⟩
  | .hbm, ⟨101, _⟩ => ⟨S4096x1024, .f32⟩
  | .hbm, ⟨102, _⟩ => ⟨S4096x1024, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S512x256, .bf16⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S256x128, .bf16⟩
  | .local _ .vmem, ⟨16, _⟩ => ⟨S256x128, .bf16⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S256x128, .f32⟩
  | .local _ .vmem, ⟨22, _⟩ => ⟨S256x128, .f32⟩
  | .local _ .vmem, ⟨23, _⟩ => ⟨S256x1, .f32⟩
  | .local _ .vmem, ⟨24, _⟩ => ⟨S256x1, .f32⟩
  | .local _ .vmem, ⟨25, _⟩ => ⟨S256x1, .f32⟩
  | .local _ .vmem, ⟨26, _⟩ => ⟨S256x1, .f32⟩
  | .local _ .vmem, ⟨27, _⟩ => ⟨S128x4096, .f32⟩
  | .local _ .vmem, ⟨28, _⟩ => ⟨S128x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v17 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c : Ref sig .tc := ⟨.hbm, 57, rfl⟩
abbrev main_v28 : Ref sig .tc := ⟨.hbm, 58, rfl⟩
abbrev main_v29 : Ref sig .tc := ⟨.hbm, 59, rfl⟩
abbrev main_cst_4 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_5 : Ref sig .tc := ⟨.hbm, 70, rfl⟩
abbrev main_call3_v0 : Ref sig .tc := ⟨.hbm, 71, rfl⟩
abbrev main_call3_c : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_c_1 : Ref sig .tc := ⟨.hbm, 78, rfl⟩
abbrev main_call3_v5 : Ref sig .tc := ⟨.hbm, 79, rfl⟩
abbrev main_call3_v6 : Ref sig .tc := ⟨.hbm, 80, rfl⟩
abbrev main_call3_c_2 : Ref sig .tc := ⟨.hbm, 81, rfl⟩
abbrev main_call3_v7 : Ref sig .tc := ⟨.hbm, 82, rfl⟩
abbrev main_call3_v8 : Ref sig .tc := ⟨.hbm, 83, rfl⟩
abbrev main_call3_c_3 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_cst_6 : Ref sig .tc := ⟨.hbm, 94, rfl⟩
abbrev main_cst_7 : Ref sig .tc := ⟨.hbm, 95, rfl⟩
abbrev main_call4_v0 : Ref sig .tc := ⟨.hbm, 96, rfl⟩
abbrev main_call4_v1 : Ref sig .tc := ⟨.hbm, 97, rfl⟩
abbrev main_v39 : Ref sig .tc := ⟨.hbm, 98, rfl⟩
abbrev main_v40 : Ref sig .tc := ⟨.hbm, 99, rfl⟩
abbrev main_v41_0 : Ref sig .tc := ⟨.hbm, 100, rfl⟩
abbrev main_v41_1 : Ref sig .tc := ⟨.hbm, 101, rfl⟩
abbrev main_v41_2 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 16], ![false, false]⟩

@[reducible] def k0_t1_loop (i : grid0.Coords) (v88 : BitVec 32) : Scf.Loop 32 :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let v91 : BitVec 32 := Scalar.subi arg1 v90
  let c1_i32 : BitVec 32 := 1#32
  let v93 : BitVec 32 := Scalar.divsi v91 c1_i32
  let v94 : BitVec 32 := Scalar.muli v93 c1_i32
  let v95 : BitVec 32 := Scalar.addi v90 v94
  let c1_i32_34 : BitVec 32 := 1#32
  ⟨v90, v95, c1_i32_34⟩

def k0_mult1 (i : grid0.Coords) (v88 : BitVec 32) (k0_t1 : Fin (k0_t1_loop i v88).trips) : BitVec 32 :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let c1_i32_34 : BitVec 32 := 1#32
  let arg21 : BitVec 32 := Scf.iv v90 c1_i32_34 k0_t1
  let c256_i32_121 : BitVec 32 := 256#32
  let v288 : BitVec 32 := Scalar.muli arg21 c256_i32_121
  v288
def k0_off1 (i : grid0.Coords) (v88 : BitVec 32) (k0_t1 : Fin (k0_t1_loop i v88).trips) : Fin 2 → Nat :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let c1_i32_34 : BitVec 32 := 1#32
  let arg21 : BitVec 32 := Scf.iv v90 c1_i32_34 k0_t1
  let c256_i32_121 : BitVec 32 := 256#32
  let v288 : BitVec 32 := Scalar.muli arg21 c256_i32_121
  let v289 : BitVec 32 := v288
  let v290 : Index := Scalar.indexCast v289
  let c0_122 : Index := 0#32
  ![v290.toNat, 0]
def k0_mult2 (i : grid0.Coords) (v88 : BitVec 32) (k0_t1 : Fin (k0_t1_loop i v88).trips) : BitVec 32 :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let c1_i32_34 : BitVec 32 := 1#32
  let arg21 : BitVec 32 := Scf.iv v90 c1_i32_34 k0_t1
  let c256_i32_188 : BitVec 32 := 256#32
  let v440 : BitVec 32 := Scalar.muli arg21 c256_i32_188
  v440
def k0_off2 (i : grid0.Coords) (v88 : BitVec 32) (k0_t1 : Fin (k0_t1_loop i v88).trips) : Fin 2 → Nat :=
  let c0_189 : Index := 0#32
  let arg1 : BitVec 32 := BitVec.ofNat 32 (i 1).val
  let c0_i32_32 : BitVec 32 := 0#32
  let v89 : BitVec 32 := Scalar.maxsi c0_i32_32 v88
  let v90 : BitVec 32 := Scalar.minsi arg1 v89
  let c1_i32_34 : BitVec 32 := 1#32
  let arg21 : BitVec 32 := Scf.iv v90 c1_i32_34 k0_t1
  let c256_i32_188 : BitVec 32 := 256#32
  let v440 : BitVec 32 := Scalar.muli arg21 c256_i32_188
  let v441 : BitVec 32 := v440
  let v442 : Index := Scalar.indexCast v441
  ![0, v442.toNat]
@[reducible] def k0_t2_loop (i : grid0.Coords) (v88 : BitVec 32) : Scf.Loop 32 :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let v91 : BitVec 32 := Scalar.subi arg1 v90
  let c1_i32 : BitVec 32 := 1#32
  let v93 : BitVec 32 := Scalar.divsi v91 c1_i32
  let v94 : BitVec 32 := Scalar.muli v93 c1_i32
  let v95 : BitVec 32 := Scalar.addi v90 v94
  let v92 : BitVec 32 := Scalar.addi v90 v91
  let c1_i32_35 : BitVec 32 := 1#32
  ⟨v95, v92, c1_i32_35⟩
def k0_mult3 (i : grid0.Coords) (v88 : BitVec 32) (k0_t2 : Fin (k0_t2_loop i v88).trips) : BitVec 32 :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let v91 : BitVec 32 := Scalar.subi arg1 v90
  let c1_i32 : BitVec 32 := 1#32
  let v93 : BitVec 32 := Scalar.divsi v91 c1_i32
  let v94 : BitVec 32 := Scalar.muli v93 c1_i32
  let v95 : BitVec 32 := Scalar.addi v90 v94
  let c1_i32_35 : BitVec 32 := 1#32
  let arg21 : BitVec 32 := Scf.iv v95 c1_i32_35 k0_t2
  let c256_i32_121 : BitVec 32 := 256#32
  let v288 : BitVec 32 := Scalar.muli arg21 c256_i32_121
  v288
def k0_off3 (i : grid0.Coords) (v88 : BitVec 32) (k0_t2 : Fin (k0_t2_loop i v88).trips) : Fin 2 → Nat :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let v91 : BitVec 32 := Scalar.subi arg1 v90
  let c1_i32 : BitVec 32 := 1#32
  let v93 : BitVec 32 := Scalar.divsi v91 c1_i32
  let v94 : BitVec 32 := Scalar.muli v93 c1_i32
  let v95 : BitVec 32 := Scalar.addi v90 v94
  let c1_i32_35 : BitVec 32 := 1#32
  let arg21 : BitVec 32 := Scf.iv v95 c1_i32_35 k0_t2
  let c256_i32_121 : BitVec 32 := 256#32
  let v288 : BitVec 32 := Scalar.muli arg21 c256_i32_121
  let v289 : BitVec 32 := v288
  let v290 : Index := Scalar.indexCast v289
  let c0_122 : Index := 0#32
  ![v290.toNat, 0]
def k0_mult4 (i : grid0.Coords) (v88 : BitVec 32) (k0_t2 : Fin (k0_t2_loop i v88).trips) : BitVec 32 :=
  let arg1 : BitVec 32 := BitVec.ofNat 32 (i 1).val
  let c0_i32_32 : BitVec 32 := 0#32
  let v89 : BitVec 32 := Scalar.maxsi c0_i32_32 v88
  let v90 : BitVec 32 := Scalar.minsi arg1 v89
  let v91 : BitVec 32 := Scalar.subi arg1 v90
  let c1_i32 : BitVec 32 := 1#32
  let v93 : BitVec 32 := Scalar.divsi v91 c1_i32
  let v94 : BitVec 32 := Scalar.muli v93 c1_i32
  let v95 : BitVec 32 := Scalar.addi v90 v94
  let c1_i32_35 : BitVec 32 := 1#32
  let arg21 : BitVec 32 := Scf.iv v95 c1_i32_35 k0_t2
  let c256_i32_188 : BitVec 32 := 256#32
  let v440 : BitVec 32 := Scalar.muli arg21 c256_i32_188
  v440
def k0_off4 (i : grid0.Coords) (v88 : BitVec 32) (k0_t2 : Fin (k0_t2_loop i v88).trips) : Fin 2 → Nat :=
  let c0_189 : Index := 0#32
  let arg1 : BitVec 32 := BitVec.ofNat 32 (i 1).val
  let c0_i32_32 : BitVec 32 := 0#32
  let v89 : BitVec 32 := Scalar.maxsi c0_i32_32 v88
  let v90 : BitVec 32 := Scalar.minsi arg1 v89
  let v91 : BitVec 32 := Scalar.subi arg1 v90
  let c1_i32 : BitVec 32 := 1#32
  let v93 : BitVec 32 := Scalar.divsi v91 c1_i32
  let v94 : BitVec 32 := Scalar.muli v93 c1_i32
  let v95 : BitVec 32 := Scalar.addi v90 v94
  let c1_i32_35 : BitVec 32 := 1#32
  let arg21 : BitVec 32 := Scf.iv v95 c1_i32_35 k0_t2
  let c256_i32_188 : BitVec 32 := 256#32
  let v440 : BitVec 32 := Scalar.muli arg21 c256_i32_188
  let v441 : BitVec 32 := v440
  let v442 : Index := Scalar.indexCast v441
  ![0, v442.toNat]

def k0_chk1 (i : grid0.Coords) (v88 : BitVec 32) : Prop :=
  ((k0_t1_loop i v88).OK) ∧
  (∀ k0_t1 : Fin (k0_t1_loop i v88).trips, 256 ∣ (k0_mult1 i v88 k0_t1).toNat) ∧
  (∀ k0_t1 : Fin (k0_t1_loop i v88).trips, ∀ a, (k0_off1 i v88 k0_t1) a + S256x128.size a ≤ S4096x128.size a) ∧
  (∀ k0_t1 : Fin (k0_t1_loop i v88).trips, 256 ∣ (k0_mult2 i v88 k0_t1).toNat) ∧
  (∀ k0_t1 : Fin (k0_t1_loop i v88).trips, ∀ a, (k0_off2 i v88 k0_t1) a + S128x256.size a ≤ S128x4096.size a) ∧
  ((k0_t2_loop i v88).OK) ∧
  (∀ k0_t2 : Fin (k0_t2_loop i v88).trips, 256 ∣ (k0_mult3 i v88 k0_t2).toNat) ∧
  (∀ k0_t2 : Fin (k0_t2_loop i v88).trips, ∀ a, (k0_off3 i v88 k0_t2) a + S256x128.size a ≤ S4096x128.size a) ∧
  (∀ k0_t2 : Fin (k0_t2_loop i v88).trips, 256 ∣ (k0_mult4 i v88 k0_t2).toNat) ∧
  (∀ k0_t2 : Fin (k0_t2_loop i v88).trips, ∀ a, (k0_off4 i v88 k0_t2) a + S128x256.size a ≤ S128x4096.size a)
theorem k0_t1_ok : ∀ (i : grid0.Coords) (v88 : BitVec 32) (k0_hw1 : k0_chk1 i v88), (k0_t1_loop i v88).OK := fun i v88 k0_hw1 => k0_hw1.1
theorem k0_mult1_dvd : ∀ (i : grid0.Coords) (v88 : BitVec 32) (k0_hw1 : k0_chk1 i v88) (k0_t1 : Fin (k0_t1_loop i v88).trips), 256 ∣ (k0_mult1 i v88 k0_t1).toNat := fun i v88 k0_hw1 k0_t1 => k0_hw1.2.1 k0_t1
theorem k0_off1_inb : ∀ (i : grid0.Coords) (v88 : BitVec 32) (k0_hw1 : k0_chk1 i v88) (k0_t1 : Fin (k0_t1_loop i v88).trips), ∀ a, (k0_off1 i v88 k0_t1) a + S256x128.size a ≤ S4096x128.size a := fun i v88 k0_hw1 k0_t1 => k0_hw1.2.2.1 k0_t1
theorem k0_mult2_dvd : ∀ (i : grid0.Coords) (v88 : BitVec 32) (k0_hw1 : k0_chk1 i v88) (k0_t1 : Fin (k0_t1_loop i v88).trips), 256 ∣ (k0_mult2 i v88 k0_t1).toNat := fun i v88 k0_hw1 k0_t1 => k0_hw1.2.2.2.1 k0_t1
theorem k0_off2_inb : ∀ (i : grid0.Coords) (v88 : BitVec 32) (k0_hw1 : k0_chk1 i v88) (k0_t1 : Fin (k0_t1_loop i v88).trips), ∀ a, (k0_off2 i v88 k0_t1) a + S128x256.size a ≤ S128x4096.size a := fun i v88 k0_hw1 k0_t1 => k0_hw1.2.2.2.2.1 k0_t1
theorem k0_t2_ok : ∀ (i : grid0.Coords) (v88 : BitVec 32) (k0_hw1 : k0_chk1 i v88), (k0_t2_loop i v88).OK := fun i v88 k0_hw1 => k0_hw1.2.2.2.2.2.1
theorem k0_mult3_dvd : ∀ (i : grid0.Coords) (v88 : BitVec 32) (k0_hw1 : k0_chk1 i v88) (k0_t2 : Fin (k0_t2_loop i v88).trips), 256 ∣ (k0_mult3 i v88 k0_t2).toNat := fun i v88 k0_hw1 k0_t2 => k0_hw1.2.2.2.2.2.2.1 k0_t2
theorem k0_off3_inb : ∀ (i : grid0.Coords) (v88 : BitVec 32) (k0_hw1 : k0_chk1 i v88) (k0_t2 : Fin (k0_t2_loop i v88).trips), ∀ a, (k0_off3 i v88 k0_t2) a + S256x128.size a ≤ S4096x128.size a := fun i v88 k0_hw1 k0_t2 => k0_hw1.2.2.2.2.2.2.2.1 k0_t2
theorem k0_mult4_dvd : ∀ (i : grid0.Coords) (v88 : BitVec 32) (k0_hw1 : k0_chk1 i v88) (k0_t2 : Fin (k0_t2_loop i v88).trips), 256 ∣ (k0_mult4 i v88 k0_t2).toNat := fun i v88 k0_hw1 k0_t2 => k0_hw1.2.2.2.2.2.2.2.2.1 k0_t2
theorem k0_off4_inb : ∀ (i : grid0.Coords) (v88 : BitVec 32) (k0_hw1 : k0_chk1 i v88) (k0_t2 : Fin (k0_t2_loop i v88).trips), ∀ a, (k0_off4 i v88 k0_t2) a + S128x256.size a ≤ S128x4096.size a := fun i v88 k0_hw1 k0_t2 => k0_hw1.2.2.2.2.2.2.2.2.2 k0_t2

def k0_mult5 (i : grid0.Coords) : BitVec 32 :=
  let arg1 : BitVec 32 := BitVec.ofNat 32 (i 1).val
  let c256_i32 : BitVec 32 := 256#32
  let v96 : BitVec 32 := Scalar.muli arg1 c256_i32
  v96
def k0_off5 (i : grid0.Coords) : Fin 2 → Nat :=
  let arg1 : BitVec 32 := BitVec.ofNat 32 (i 1).val
  let c256_i32 : BitVec 32 := 256#32
  let v96 : BitVec 32 := Scalar.muli arg1 c256_i32
  let v97 : BitVec 32 := v96
  let v98 : Index := Scalar.indexCast v97
  let c0_36 : Index := 0#32
  ![v98.toNat, 0]
def k0_mult6 (i : grid0.Coords) : BitVec 32 :=
  let arg1 : BitVec 32 := BitVec.ofNat 32 (i 1).val
  let c256_i32_108 : BitVec 32 := 256#32
  let v260 : BitVec 32 := Scalar.muli arg1 c256_i32_108
  v260
def k0_off6 (i : grid0.Coords) : Fin 2 → Nat :=
  let c0_109 : Index := 0#32
  let arg1 : BitVec 32 := BitVec.ofNat 32 (i 1).val
  let c256_i32_108 : BitVec 32 := 256#32
  let v260 : BitVec 32 := Scalar.muli arg1 c256_i32_108
  let v261 : BitVec 32 := v260
  let v262 : Index := Scalar.indexCast v261
  ![0, v262.toNat]
def k0_cond2 (i : grid0.Coords) : BitVec 1 :=
  let arg1 : BitVec 32 := BitVec.ofNat 32 (i 1).val
  let c15_i32 : BitVec 32 := 15#32
  let v285 : BitVec 1 := Scalar.cmpi .eq arg1 c15_i32
  let v286 : BitVec 32 := Scalar.extui v285
  let c0_i32_120 : BitVec 32 := 0#32
  let v287 : BitVec 1 := Scalar.cmpi .ne v286 c0_i32_120
  v287

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelPrevIdeal.lean ====
variable {F : FTy → Type} [FloatOps F] [Named F]
def κ : String → Option EReal := fun
  | "log2e" => some (((Real.log 2)⁻¹ : ℝ) : EReal)
  | _ => none
-- ==== ReferencePrevIdeal.lean ====
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 182
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x16x64, .f32⟩
  | 7 => ⟨S16x4096x64, .f32⟩
  | 8 => ⟨S4096x16x64, .f32⟩
  | 9 => ⟨S16x4096x64, .f32⟩
  | 10 => ⟨S4096x16x64, .f32⟩
  | 11 => ⟨S16x4096x64, .f32⟩
  | 12 => ⟨S16x4096x4096, .f32⟩
  | 13 => ⟨S_, .f32⟩
  | 14 => ⟨S16x4096x4096, .f32⟩
  | 15 => ⟨S16x4096x4096, .f32⟩
  | 16 => ⟨S4096, .i32⟩
  | 17 => ⟨S1x4096, .i32⟩
  | 18 => ⟨S4096, .i32⟩
  | 19 => ⟨S4096x1, .i32⟩
  | 20 => ⟨S4096x4096, .i32⟩
  | 21 => ⟨S4096x4096, .i32⟩
  | 22 => ⟨S4096x4096, .i1⟩
  | 23 => ⟨S16x4096x4096, .f32⟩
  | 24 => ⟨S16x4096x4096, .f32⟩
  | 25 => ⟨S_, .f32⟩
  | 26 => ⟨S16x4096x4096, .f32⟩
  | 27 => ⟨S16x4096x4096, .f32⟩
  | 28 => ⟨S16x4096x4096, .f32⟩
  | 29 => ⟨S16x4096x4096, .f32⟩
  | 30 => ⟨S16x4096x4096, .i1⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S16x4096x4096, .f32⟩
  | 39 => ⟨S_, .f32⟩
  | 40 => ⟨S16x4096x4096, .f32⟩
  | 41 => ⟨S16x4096x4096, .i1⟩
  | 42 => ⟨S_, .f32⟩
  | 43 => ⟨S16x4096x4096, .f32⟩
  | 44 => ⟨S16x4096x4096, .f32⟩
  | 45 => ⟨S_, .f32⟩
  | 46 => ⟨S16x4096x4096, .f32⟩
  | 47 => ⟨S16x4096x4096, .i1⟩
  | 48 => ⟨S_, .f32⟩
  | 49 => ⟨S16x4096x4096, .f32⟩
  | 50 => ⟨S16x4096x4096, .f32⟩
  | 51 => ⟨S16x4096x4096, .f32⟩
  | 52 => ⟨S16x4096x4096, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S16x4096x4096, .f32⟩
  | 61 => ⟨S16x4096x4096, .i1⟩
  | 62 => ⟨S_, .f32⟩
  | 63 => ⟨S16x4096x4096, .f32⟩
  | 64 => ⟨S16x4096x4096, .f32⟩
  | 65 => ⟨S16x4096x4096, .f32⟩
  | 66 => ⟨S16x4096x4096, .f32⟩
  | 67 => ⟨S16x4096x4096, .f32⟩
  | 68 => ⟨S_, .f32⟩
  | 69 => ⟨S16x4096x4096, .f32⟩
  | 70 => ⟨S16x4096x4096, .f32⟩
  | 71 => ⟨S16x4096x4096, .f32⟩
  | 72 => ⟨S_, .f32⟩
  | 73 => ⟨S_, .f32⟩
  | 74 => ⟨S16x4096x4096, .i1⟩
  | 75 => ⟨S16x4096x4096, .f32⟩
  | 76 => ⟨S16x4096x4096, .f32⟩
  | 77 => ⟨S_, .f32⟩
  | 78 => ⟨S16x4096x4096, .f32⟩
  | 79 => ⟨S_, .f32⟩
  | 80 => ⟨S_, .f32⟩
  | 81 => ⟨S16x4096x4096, .f32⟩
  | 82 => ⟨S16x4096x4096, .f32⟩
  | 83 => ⟨S16x4096x4096, .f32⟩
  | 84 => ⟨S_, .f32⟩
  | 85 => ⟨S16x4096x4096, .f32⟩
  | 86 => ⟨S16x4096x4096, .f32⟩
  | 87 => ⟨S16x4096x4096, .f32⟩
  | 88 => ⟨S16x4096x4096, .f32⟩
  | 89 => ⟨S16x4096x4096, .i1⟩
  | 90 => ⟨S16x4096x4096, .f32⟩
  | 91 => ⟨S16x4096x4096, .f32⟩
  | 92 => ⟨S16x4096x4096, .f32⟩
  | 93 => ⟨S16x4096x4096, .f32⟩
  | 94 => ⟨S16x4096x4096, .f32⟩
  | 95 => ⟨S16x4096x4096, .f32⟩
  | 96 => ⟨S16x4096x4096, .f32⟩
  | 97 => ⟨S16x4096x4096, .f32⟩
  | 98 => ⟨S_, .f32⟩
  | 99 => ⟨S16x4096x4096, .f32⟩
  | 100 => ⟨S16x4096x4096, .i1⟩
  | 101 => ⟨S_, .f32⟩
  | 102 => ⟨S16x4096x4096, .f32⟩
  | 103 => ⟨S16x4096x4096, .f32⟩
  | 104 => ⟨S_, .f32⟩
  | 105 => ⟨S16x4096x4096, .f32⟩
  | 106 => ⟨S16x4096x4096, .i1⟩
  | 107 => ⟨S_, .f32⟩
  | 108 => ⟨S16x4096x4096, .f32⟩
  | 109 => ⟨S16x4096x4096, .f32⟩
  | 110 => ⟨S16x4096x4096, .f32⟩
  | 111 => ⟨S16x4096x4096, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S16x4096x4096, .f32⟩
  | 120 => ⟨S16x4096x4096, .i1⟩
  | 121 => ⟨S_, .f32⟩
  | 122 => ⟨S16x4096x4096, .f32⟩
  | 123 => ⟨S16x4096x4096, .f32⟩
  | 124 => ⟨S16x4096x4096, .f32⟩
  | 125 => ⟨S16x4096x4096, .f32⟩
  | 126 => ⟨S16x4096x4096, .f32⟩
  | 127 => ⟨S_, .f32⟩
  | _ => ⟨S4096x1024, .f32⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S16x4096x4096, .f32⟩
  | 4 => ⟨S16x4096x4096, .f32⟩
  | 5 => ⟨S_, .f32⟩
  | 6 => ⟨S_, .f32⟩
  | 7 => ⟨S16x4096x4096, .i1⟩
  | 8 => ⟨S16x4096x4096, .f32⟩
  | 9 => ⟨S16x4096x4096, .f32⟩
  | 10 => ⟨S_, .f32⟩
  | 11 => ⟨S16x4096x4096, .f32⟩
  | 12 => ⟨S16x4096x64, .f32⟩
  | 13 => ⟨S4096x16x64, .f32⟩
  | 14 => ⟨S4096x1024, .f32⟩
  | 15 => ⟨S4096x16x64, .f32⟩
  | 16 => ⟨S16x4096x64, .f32⟩
  | 17 => ⟨S16x64x4096, .f32⟩
  | 18 => ⟨S16x4096x64, .f32⟩
  | 19 => ⟨S16x4096x4096, .f32⟩
  | 20 => ⟨S_, .f32⟩
  | 21 => ⟨S16x4096x4096, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .f32⟩
  | 27 => ⟨S16x4096x4096, .f32⟩
  | 28 => ⟨S_, .f32⟩
  | 29 => ⟨S_, .f32⟩
  | 30 => ⟨S16x4096x4096, .f32⟩
  | 31 => ⟨S16x4096x4096, .f32⟩
  | 32 => ⟨S_, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S16x4096x4096, .f32⟩
  | 39 => ⟨S16x4096x4096, .f32⟩
  | 40 => ⟨S_, .f32⟩
  | 41 => ⟨S16x4096x4096, .f32⟩
  | 42 => ⟨S16x4096x4096, .f32⟩
  | 43 => ⟨S16x4096x64, .f32⟩
  | 44 => ⟨S16x4096x64, .f32⟩
  | 45 => ⟨S4096x16x64, .f32⟩
  | 46 => ⟨S4096x1024, .f32⟩
  | 47 => ⟨S4096x1024, .f32⟩
  | 48 => ⟨S4096x16x64, .f32⟩
  | 49 => ⟨S4096x1024, .f32⟩
  | 50 => ⟨S4096x1024, .f32⟩
  | 51 => ⟨S4096x16x64, .f32⟩
  | 52 => ⟨S4096x1024, .f32⟩
  | 53 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v17_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v17_2 : Ref sig .tc := ⟨.hbm, 70, rfl⟩
abbrev main_v17_0 : Ref sig .tc := ⟨.hbm, 71, rfl⟩
abbrev main_cst_0 : Ref sig .tc := ⟨.hbm, 72, rfl⟩
abbrev main_call1_v0 : Ref sig .tc := ⟨.hbm, 73, rfl⟩
abbrev main_v18_1 : Ref sig .tc := ⟨.hbm, 74, rfl⟩
abbrev main_call1_v2 : Ref sig .tc := ⟨.hbm, 75, rfl⟩
abbrev main_v18_0 : Ref sig .tc := ⟨.hbm, 76, rfl⟩
abbrev main_call1_cst : Ref sig .tc := ⟨.hbm, 77, rfl⟩
abbrev main_v18_2 : Ref sig .tc := ⟨.hbm, 78, rfl⟩
abbrev main_call2_cst : Ref sig .tc := ⟨.hbm, 79, rfl⟩
abbrev main_call2_v0 : Ref sig .tc := ⟨.hbm, 80, rfl⟩
abbrev main_v19 : Ref sig .tc := ⟨.hbm, 81, rfl⟩
abbrev main_v20 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v21_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v21_2 : Ref sig .tc := ⟨.hbm, 129, rfl⟩
abbrev main_v21_0 : Ref sig .tc := ⟨.hbm, 130, rfl⟩
abbrev main_v22 : Ref sig .tc := ⟨.hbm, 131, rfl⟩
abbrev main_v23 : Ref sig .tc := ⟨.hbm, 132, rfl⟩
abbrev main_cst_1 : Ref sig .tc := ⟨.hbm, 133, rfl⟩
abbrev main_call4_v0 : Ref sig .tc := ⟨.hbm, 134, rfl⟩
abbrev main_v24_1 : Ref sig .tc := ⟨.hbm, 135, rfl⟩
abbrev main_call4_v2 : Ref sig .tc := ⟨.hbm, 136, rfl⟩
abbrev main_v24_0 : Ref sig .tc := ⟨.hbm, 137, rfl⟩
abbrev main_call4_cst : Ref sig .tc := ⟨.hbm, 138, rfl⟩
abbrev main_v24_2 : Ref sig .tc := ⟨.hbm, 139, rfl⟩
abbrev main_v25 : Ref sig .tc := ⟨.hbm, 140, rfl⟩
abbrev main_v26 : Ref sig .tc := ⟨.hbm, 141, rfl⟩
abbrev main_v27 : Ref sig .tc := ⟨.hbm, 142, rfl⟩
abbrev main_v28 : Ref sig .tc := ⟨.hbm, 143, rfl⟩
abbrev main_v29 : Ref sig .tc := ⟨.hbm, 144, rfl⟩
abbrev main_v30 : Ref sig .tc := ⟨.hbm, 145, rfl⟩
abbrev main_v31 : Ref sig .tc := ⟨.hbm, 146, rfl⟩
abbrev main_v32 : Ref sig .tc := ⟨.hbm, 147, rfl⟩
abbrev main_call5_cst : Ref sig .tc := ⟨.hbm, 148, rfl⟩
abbrev main_call5_v0 : Ref sig .tc := ⟨.hbm, 149, rfl⟩
abbrev main_v33 : Ref sig .tc := ⟨.hbm, 150, rfl⟩
abbrev main_v34 : Ref sig .tc := ⟨.hbm, 151, rfl⟩
abbrev main_call6_v0 : Ref sig .tc := ⟨.hbm, 152, rfl⟩
abbrev main_call6_v1 : Ref sig .tc := ⟨.hbm, 153, rfl⟩
abbrev main_v35 : Ref sig .tc := ⟨.hbm, 154, rfl⟩
abbrev main_v36 : Ref sig .tc := ⟨.hbm, 155, rfl⟩
abbrev main_call7_cst : Ref sig .tc := ⟨.hbm, 156, rfl⟩
abbrev main_call7_v0 : Ref sig .tc := ⟨.hbm, 157, rfl⟩
abbrev main_v37 : Ref sig .tc := ⟨.hbm, 158, rfl⟩
abbrev main_v38 : Ref sig .tc := ⟨.hbm, 159, rfl⟩
abbrev main_call8_cst : Ref sig .tc := ⟨.hbm, 160, rfl⟩
abbrev main_call8_v0 : Ref sig .tc := ⟨.hbm, 161, rfl⟩
abbrev main_v39 : Ref sig .tc := ⟨.hbm, 162, rfl⟩
abbrev main_call9_v0 : Ref sig .tc := ⟨.hbm, 163, rfl⟩
abbrev main_call9_v1 : Ref sig .tc := ⟨.hbm, 164, rfl⟩
abbrev main_v40 : Ref sig .tc := ⟨.hbm, 165, rfl⟩
abbrev main_v41 : Ref sig .tc := ⟨.hbm, 166, rfl⟩
abbrev main_v42 : Ref sig .tc := ⟨.hbm, 167, rfl⟩
abbrev main_cst_2 : Ref sig .tc := ⟨.hbm, 168, rfl⟩
abbrev main_v43 : Ref sig .tc := ⟨.hbm, 169, rfl⟩
abbrev main_v44 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_v48 : Ref sig .tc := ⟨.hbm, 174, rfl⟩
abbrev main_v49 : Ref sig .tc := ⟨.hbm, 175, rfl⟩
abbrev main_v50 : Ref sig .tc := ⟨.hbm, 176, rfl⟩
abbrev main_v51 : Ref sig .tc := ⟨.hbm, 177, rfl⟩
abbrev main_v52 : Ref sig .tc := ⟨.hbm, 178, rfl⟩
abbrev main_v53 : Ref sig .tc := ⟨.hbm, 179, rfl⟩
abbrev main_v54 : Ref sig .tc := ⟨.hbm, 180, rfl⟩
abbrev main_v55 : Ref sig .tc := ⟨.hbm, 181, rfl⟩

abbrev nD : Nat := 1
abbrev τ : Topo := Topo.v7x

variable {F : FTy → Type} [FloatOps F]
-- ==== KernelAdam.lean ====
abbrev S4096x1024 : Shape := ⟨2, ![4096, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamIdeal.lean ====
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelGate.lean ====
abbrev S4096x2048 : Shape := ⟨2, ![4096, 2048]⟩
abbrev S4096x1024 : Shape := ⟨2, ![4096, 1024]⟩
abbrev S8x128x128 : Shape := ⟨3, ![8, 128, 128]⟩
abbrev S8x128 : Shape := ⟨2, ![8, 128]⟩
abbrev S128x8 : Shape := ⟨2, ![128, 8]⟩
abbrev S512x1024 : Shape := ⟨2, ![512, 1024]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S8x128x128, .f32⟩
  | .hbm, ⟨3, _⟩ => ⟨S8x128, .f32⟩
  | .hbm, ⟨4, _⟩ => ⟨S4096x1024, .bf16⟩
  | .hbm, ⟨5, _⟩ => ⟨S128x8, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S8x128x128, .f32⟩
  | .local _ .vmem, ⟨5, _⟩ => ⟨S128x8, .f32⟩
  | .local _ .vmem, ⟨6, _⟩ => ⟨S512x1024, .bf16⟩
  | .local _ .vmem, ⟨7, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceGateIdeal.lean ====
abbrev S4096x2048 : Shape := ⟨2, ![4096, 2048]⟩
abbrev S4096x1024 : Shape := ⟨2, ![4096, 1024]⟩
abbrev S8x128x128 : Shape := ⟨3, ![8, 128, 128]⟩
abbrev S8x128 : Shape := ⟨2, ![8, 128]⟩
abbrev S1x32x128x8x128 : Shape := ⟨5, ![1, 32, 128, 8, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩

abbrev nBuf : Space → Nat
  | .hbm => 79
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S8x128x128, .f32⟩
  | .hbm, ⟨3, _⟩ => ⟨S8x128, .f32⟩
  | .hbm, ⟨4, _⟩ => ⟨S1x32x128x8x128, .f32⟩
  | .hbm, ⟨5, _⟩ => ⟨S128, .i32⟩
  | .hbm, ⟨6, _⟩ => ⟨S1x128, .i32⟩
  | .hbm, ⟨7, _⟩ => ⟨S_, .i32⟩
  | .hbm, ⟨8, _⟩ => ⟨S_, .i32⟩
  | .hbm, ⟨9, _⟩ => ⟨S1x128, .i32⟩
  | .hbm, ⟨10, _⟩ => ⟨S1x128, .i32⟩
  | .hbm, ⟨11, _⟩ => ⟨S1x128, .i32⟩
  | .hbm, ⟨12, _⟩ => ⟨S_, .i32⟩
  | .hbm, ⟨13, _⟩ => ⟨S1x128, .i32⟩
  | .hbm, ⟨14, _⟩ => ⟨S1x128, .i1⟩
  | .hbm, ⟨15, _⟩ => ⟨S1x128, .i32⟩
  | .hbm, ⟨16, _⟩ => ⟨S1x128, .i32⟩
  | .hbm, ⟨17, _⟩ => ⟨S_, .i32⟩
  | .hbm, ⟨18, _⟩ => ⟨S1x128, .i32⟩
  | .hbm, ⟨19, _⟩ => ⟨S1x128, .i1⟩
  | .hbm, ⟨20, _⟩ => ⟨S1x128, .i1⟩
  | .hbm, ⟨21, _⟩ => ⟨S_, .i32⟩
  | .hbm, ⟨22, _⟩ => ⟨S1x128, .i32⟩
  | .hbm, ⟨23, _⟩ => ⟨S1x128, .i32⟩
  | .hbm, ⟨24, _⟩ => ⟨S1x128, .i32⟩
  | .hbm, ⟨25, _⟩ => ⟨S128x1, .i32⟩
  | .hbm, ⟨26, _⟩ => ⟨S_, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S128x1, .i32⟩
  | .hbm, ⟨31, _⟩ => ⟨S_, .i32⟩
  | .hbm, ⟨32, _⟩ => ⟨S128x1, .i32⟩
  | .hbm, ⟨33, _⟩ => ⟨S128x1, .i1⟩
  | .hbm, ⟨34, _⟩ => ⟨S128x1, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i1⟩
  | .hbm, ⟨39, _⟩ => ⟨S128x1, .i1⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x1, .i32⟩
  | .hbm, ⟨44, _⟩ => ⟨S128x128, .i32⟩
  | .hbm, ⟨45, _⟩ => ⟨S128x128, .i32⟩
  | .hbm, ⟨46, _⟩ => ⟨S128x128, .i1⟩
  | .hbm, ⟨47, _⟩ => ⟨S1x128x128, .i1⟩
  | .hbm, ⟨48, _⟩ => ⟨S_, .f32⟩
  | .hbm, ⟨49, _⟩ => ⟨S8x128x128, .i1⟩
  | .hbm, ⟨50, _⟩ => ⟨S8x128x128, .f32⟩
  | .hbm, ⟨51, _⟩ => ⟨S8x128x128, .f32⟩
  | .hbm, ⟨52, _⟩ => ⟨S8x1x32x128x128, .f32⟩
  | .hbm, ⟨53, _⟩ => ⟨S1x32x128x8x128, .f32⟩
  | .hbm, ⟨54, _⟩ => ⟨S128x8, .f32⟩
  | .hbm, ⟨55, _⟩ => ⟨S1x1x128x8x1, .f32⟩
  | .hbm, ⟨56, _⟩ => ⟨S1x32x128x8x128, .f32⟩
  | .hbm, ⟨57, _⟩ => ⟨S1x32x128x8x128, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_cst : Ref sig .tc := ⟨.hbm, 48, rfl⟩
abbrev main_call2_v0 : Ref sig .tc := ⟨.hbm, 49, rfl⟩
abbrev main_call2_v1 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_cst_2 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_3 : Ref sig .tc := ⟨.hbm, 69, rfl⟩
abbrev main_v26 : Ref sig .tc := ⟨.hbm, 70, rfl⟩
abbrev main_v27 : Ref sig .tc := ⟨.hbm, 71, rfl⟩
abbrev main_cst_4 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩

abbrev nD : Nat := 1
abbrev τ : Topo := Topo.v7x

variable {F : FTy → Type} [FloatOps F]
-- ==== KernelMix.lean ====
abbrev S4096x1024 : Shape := ⟨2, ![4096, 1024]⟩
abbrev S4096x2048 : Shape := ⟨2, ![4096, 2048]⟩
abbrev S8x128x128 : Shape := ⟨3, ![8, 128, 128]⟩
abbrev S8x128 : Shape := ⟨2, ![8, 128]⟩
abbrev S2x1024 : Shape := ⟨2, ![2, 1024]⟩
abbrev S128x8 : Shape := ⟨2, ![128, 8]⟩
abbrev S2x1x1024 : Shape := ⟨3, ![2, 1, 1024]⟩
abbrev S1x1024 : Shape := ⟨2, ![1, 1024]⟩
abbrev S512x1024 : Shape := ⟨2, ![512, 1024]⟩
abbrev S512x2048 : Shape := ⟨2, ![512, 2048]⟩
abbrev S1x1x1024 : Shape := ⟨3, ![1, 1, 1024]⟩
abbrev S128x1024 : Shape := ⟨2, ![128, 1024]⟩
abbrev S128x128 : Shape := ⟨2, ![128, 128]⟩
abbrev S1x128x128 : Shape := ⟨3, ![1, 128, 128]⟩
abbrev S128x1 : Shape := ⟨2, ![128, 1]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S128 : Shape := ⟨1, ![128]⟩

abbrev nBuf : Space → Nat
  | .hbm => 14
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S8x128x128, .f32⟩
  | .hbm, ⟨4, _⟩ => ⟨S8x128, .f32⟩
  | .hbm, ⟨5, _⟩ => ⟨S2x1024, .f32⟩
  | .hbm, ⟨6, _⟩ => ⟨S4096x1024, .bf16⟩
  | .hbm, ⟨7, _⟩ => ⟨S128x8, .f32⟩
  | .hbm, ⟨8, _⟩ => ⟨S2x1x1024, .f32⟩
  | .hbm, ⟨9, _⟩ => ⟨S4096x2048, .bf16⟩
  | .hbm, ⟨10, _⟩ => ⟨S8x128x128, .f32⟩
  | .hbm, ⟨11, _⟩ => ⟨S8x128x128, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x1024, .bf16⟩
  | .local _ .vmem, ⟨5, _⟩ => ⟨S512x1024, .bf16⟩
  | .local _ .vmem, ⟨6, _⟩ => ⟨S8x128x128, .f32⟩
  | .local _ .vmem, ⟨7, _⟩ => ⟨S128x8, .f32⟩
  | .local _ .vmem, ⟨8, _⟩ => ⟨S1x1x1024, .f32⟩
  | .local _ .vmem, ⟨9, _⟩ => ⟨S512x2048, .bf16⟩
  | .local _ .vmem, ⟨10, _⟩ => ⟨S512x2048, .bf16⟩
  | .local _ .vmem, ⟨11, _⟩ => ⟨S8x128x128, .f32⟩
  | .local _ .vmem, ⟨12, _⟩ => ⟨S8x128x128, .f32⟩
  | .local _ .vmem, ⟨13, _⟩ => ⟨S1x1024, .f32⟩
  | .local _ .vmem, ⟨14, _⟩ => ⟨S1x1024, .f32⟩
  | .local _ .vmem, ⟨15, _⟩ => ⟨S128x1024, .f32⟩
  | .local _ .vmem, ⟨16, _⟩ => ⟨S512x1024, .f32⟩
  | .local _ .vmem, ⟨17, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v1522 : BitVec 1 := Scalar.cmpi .eq arg0 c7_i32
  let v1523 : BitVec 32 := Scalar.extui v1522
  let c0_i32_796 : BitVec 32 := 0#32
  let v1524 : BitVec 1 := Scalar.cmpi .ne v1523 c0_i32_796
  v1524

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceMixIdeal.lean ====
abbrev S4096x1024 : Shape := ⟨2, ![4096, 1024]⟩
abbrev S4096x2048 : Shape := ⟨2, ![4096, 2048]⟩
abbrev S8x128x128 : Shape := ⟨3, ![8, 128, 128]⟩
abbrev S8x128 : Shape := ⟨2, ![8, 128]⟩
abbrev S2x1024 : Shape := ⟨2, ![2, 1024]⟩
abbrev S1x32x128x8x128 : Shape := ⟨5, ![1, 32, 128, 8, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S8x128x1 : Shape := ⟨3, ![8, 128, 1]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S8x128x128, .f32⟩
  | .hbm, ⟨4, _⟩ => ⟨S8x128, .f32⟩
  | .hbm, ⟨5, _⟩ => ⟨S2x1024, .f32⟩
  | .hbm, ⟨6, _⟩ => ⟨S1x32x128x8x128, .f32⟩
  | .hbm, ⟨7, _⟩ => ⟨S128, .i32⟩
  | .hbm, ⟨8, _⟩ => ⟨S1x128, .i32⟩
  | .hbm, ⟨9, _⟩ => ⟨S_, .i32⟩
  | .hbm, ⟨10, _⟩ => ⟨S_, .i32⟩
  | .hbm, ⟨11, _⟩ => ⟨S1x128, .i32⟩
  | .hbm, ⟨12, _⟩ => ⟨S1x128, .i32⟩
  | .hbm, ⟨13, _⟩ => ⟨S1x128, .i32⟩
  | .hbm, ⟨14, _⟩ => ⟨S_, .i32⟩
  | .hbm, ⟨15, _⟩ => ⟨S1x128, .i32⟩
  | .hbm, ⟨16, _⟩ => ⟨S1x128, .i1⟩
  | .hbm, ⟨17, _⟩ => ⟨S1x128, .i32⟩
  | .hbm, ⟨18, _⟩ => ⟨S1x128, .i32⟩
  | .hbm, ⟨19, _⟩ => ⟨S_, .i32⟩
  | .hbm, ⟨20, _⟩ => ⟨S1x128, .i32⟩
  | .hbm, ⟨21, _⟩ => ⟨S1x128, .i1⟩
  | .hbm, ⟨22, _⟩ => ⟨S1x128, .i1⟩
  | .hbm, ⟨23, _⟩ => ⟨S_, .i32⟩
  | .hbm, ⟨24, _⟩ => ⟨S1x128, .i32⟩
  | .hbm, ⟨25, _⟩ => ⟨S1x128, .i32⟩
  | .hbm, ⟨26, _⟩ => ⟨S1x128, .i32⟩
  | .hbm, ⟨27, _⟩ => ⟨S128x1, .i32⟩
  | .hbm, ⟨28, _⟩ => ⟨S_, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i1⟩
  | .hbm, ⟨36, _⟩ => ⟨S128x1, .i32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i1⟩
  | .hbm, ⟨41, _⟩ => ⟨S128x1, .i1⟩
  | .hbm, ⟨42, _⟩ => ⟨S_, .i32⟩
  | .hbm, ⟨43, _⟩ => ⟨S128x1, .i32⟩
  | .hbm, ⟨44, _⟩ => ⟨S128x1, .i32⟩
  | .hbm, ⟨45, _⟩ => ⟨S128x1, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S1x128x128, .i1⟩
  | .hbm, ⟨50, _⟩ => ⟨S_, .f32⟩
  | .hbm, ⟨51, _⟩ => ⟨S8x128x128, .i1⟩
  | .hbm, ⟨52, _⟩ => ⟨S8x128x128, .f32⟩
  | .hbm, ⟨53, _⟩ => ⟨S8x128x128, .f32⟩
  | .hbm, ⟨54, _⟩ => ⟨S_, .f32⟩
  | .hbm, ⟨55, _⟩ => ⟨S8x128x128, .f32⟩
  | .hbm, ⟨56, _⟩ => ⟨S8x1x32x128x128, .f32⟩
  | .hbm, ⟨57, _⟩ => ⟨S1x32x128x8x128, .f32⟩
  | .hbm, ⟨58, _⟩ => ⟨S128x8, .f32⟩
  | .hbm, ⟨59, _⟩ => ⟨S1x1x128x8x1, .f32⟩
  | .hbm, ⟨60, _⟩ => ⟨S1x32x128x8x128, .f32⟩
  | .hbm, ⟨61, _⟩ => ⟨S1x32x128x8x128, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S1x32x128x8x128, .f32⟩
  | .hbm, ⟨84, _⟩ => ⟨S_, .f32⟩
  | .hbm, ⟨85, _⟩ => ⟨S1x128x8, .f32⟩
  | .hbm, ⟨86, _⟩ => ⟨S1x1x128x8x1, .f32⟩
  | .hbm, ⟨87, _⟩ => ⟨S_, .f32⟩
  | .hbm, ⟨88, _⟩ => ⟨S128x8, .f32⟩
  | .hbm, ⟨89, _⟩ => ⟨S8x128, .f32⟩
  | .hbm, ⟨90, _⟩ => ⟨S8x1x32x128x128, .f32⟩
  | .hbm, ⟨91, _⟩ => ⟨S8x128x128, .f32⟩
  | .hbm, ⟨92, _⟩ => ⟨S_, .f32⟩
  | .hbm, ⟨93, _⟩ => ⟨S8x128x128, .f32⟩
  | .hbm, ⟨94, _⟩ => ⟨S8x128x128, .f32⟩
  | .hbm, ⟨95, _⟩ => ⟨S8x128x1, .f32⟩
  | .hbm, ⟨96, _⟩ => ⟨S8x128x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_cst : Ref sig .tc := ⟨.hbm, 50, rfl⟩
abbrev main_v10_1 : Ref sig .tc := ⟨.hbm, 51, rfl⟩
abbrev main_call2_v1 : Ref sig .tc := ⟨.hbm, 52, rfl⟩
abbrev main_v10_0 : Ref sig .tc := ⟨.hbm, 53, rfl⟩
abbrev main_call2_cst : Ref sig .tc := ⟨.hbm, 54, rfl⟩
abbrev main_v10_2 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_cst_1 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_2 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_cst_3 : Ref sig .tc := ⟨.hbm, 73, rfl⟩
abbrev main_v26 : Ref sig .tc := ⟨.hbm, 74, rfl⟩
abbrev main_v27 : Ref sig .tc := ⟨.hbm, 75, rfl⟩
abbrev main_cst_4 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_5 : Ref sig .tc := ⟨.hbm, 84, rfl⟩
abbrev main_v35 : Ref sig .tc := ⟨.hbm, 85, rfl⟩
abbrev main_v36 : Ref sig .tc := ⟨.hbm, 86, rfl⟩
abbrev main_cst_6 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_call3_cst : Ref sig .tc := ⟨.hbm, 92, rfl⟩
abbrev main_call3_v0 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩

abbrev nD : Nat := 1
abbrev τ : Topo := Topo.v7x

variable {F : FTy → Type} [FloatOps F]
-- ==== Proof.Ideal.Words.lean ====
/- The words of the attention gradient's key loop. A grid point (p, i) works on query block i; its loop goes from the first key block, a word
   read from memory and clipped to [0, i], up to block i − 1, and a remainder loop that never runs follows it. Here those words are read as
   integers: how many trips each loop makes, and where in the keys and in the two accumulators a trip looks. -/
module

public import proofs.«01_k».proof.Proof.Gen.KernelIdeal.Loops
public import Idealize.ShloMosaic.Lib.Affine
public import Idealize.ShloMosaic.PureOps.Ideal

@[expose] public section

namespace Cert.KernelIdeal.Own

open Cert.KernelIdeal Cert.KernelIdeal.Gen
open Idealize.ShloMosaic

/-- The query block of a grid point is one of sixteen. -/
theorem row_lt (i : grid0.Coords) : (i 1).val < 16 := (i 1).isLt

/-- The key block at which point `i`'s loop starts: the word `w`, clipped to [0, i]. -/
def start (i : grid0.Coords) (w : BitVec 32) : ℕ := min (i 1).val (max 0 w.toInt).toNat

theorem start_le (i : grid0.Coords) (w : BitVec 32) : start i w ≤ (i 1).val := Nat.min_le_left _ _

theorem start_zero (i : grid0.Coords) : start i 0#32 = 0 := by
  simp [start]

/-- The word the loop starts at is `start`. -/
theorem start_word (i : grid0.Coords) (w : BitVec 32) :
    Affine.IsInt (Scalar.minsi (BitVec.ofNat 32 (i 1).val) (Scalar.maxsi 0#32 w)) (start i w) := by
  have hr := row_lt i
  have h0 : Affine.IsInt 0#32 0 := Affine.ofNat _ (by omega)
  have hw := Affine.word w
  have hi : Affine.IsInt (BitVec.ofNat 32 (i 1).val) ((i 1).val : Int) := Affine.ofNat _ (by omega)
  have hm : Affine.IsInt _ (max 0 w.toInt) := Affine.maxsi h0 hw rfl
  exact Affine.minsi hi hm (by unfold start; omega)

/-- The word it stops at is the query block. -/
theorem stop_word (i : grid0.Coords) (w : BitVec 32) : Affine.IsInt (k0_t1_loop i w).ub ((i 1).val : Int) := by
  have hr := row_lt i
  have hs := start_le i w
  have h1 : Affine.IsInt 1#32 1 := Affine.ofNat _ (by omega)
  have hi : Affine.IsInt (BitVec.ofNat 32 (i 1).val) ((i 1).val : Int) := Affine.ofNat _ (by omega)
  have hd : Affine.IsInt _ (((i 1).val : Int) - start i w) := Affine.subi hi (start_word i w) (by omega)
  have hq : Affine.IsInt _ (((i 1).val : Int) - start i w) := Affine.divsi_one hd h1 (by omega)
  have hm : Affine.IsInt _ (((i 1).val : Int) - start i w) := Affine.muli hq h1 (by omega)
  exact Affine.addi (start_word i w) hm (by omega)

/-- The remainder loop stops there too. -/
theorem stop_word2 (i : grid0.Coords) (w : BitVec 32) : Affine.IsInt (k0_t2_loop i w).ub ((i 1).val : Int) := by
  have hr := row_lt i
  have hs := start_le i w
  have hi : Affine.IsInt (BitVec.ofNat 32 (i 1).val) ((i 1).val : Int) := Affine.ofNat _ (by omega)
  have hd : Affine.IsInt _ (((i 1).val : Int) - start i w) := Affine.subi hi (start_word i w) (by omega)
  exact Affine.addi (start_word i w) hd (by omega)

theorem one_word : Affine.IsInt 1#32 1 := Affine.ofNat _ (by omega)

/-- The loop's bounds have a meaning. -/
theorem loop1_ok (i : grid0.Coords) (w : BitVec 32) : (k0_t1_loop i w).OK := by
  have hr := row_lt i
  have hs := start_le i w
  exact Affine.ok (start_word i w) (stop_word i w) one_word (by omega)

/-- It makes one trip for every block from `start` to before the query's own. -/
theorem loop1_trips (i : grid0.Coords) (w : BitVec 32) : (k0_t1_loop i w).trips = (i 1).val - start i w := by
  have hs := start_le i w
  exact Affine.trips_eq (start_word i w) (stop_word i w) one_word _ (by omega)

/-- The remainder loop's bounds have a meaning. -/
theorem loop2_ok (i : grid0.Coords) (w : BitVec 32) : (k0_t2_loop i w).OK := by
  have hr := row_lt i
  exact Affine.ok (stop_word i w) (stop_word2 i w) one_word (by omega)

/-- It makes no trip. -/
theorem loop2_trips (i : grid0.Coords) (w : BitVec 32) : (k0_t2_loop i w).trips = 0 :=
  Affine.trips_eq (stop_word i w) (stop_word2 i w) one_word _ (by omega)

/-- Trip `k` works on key block `start + k`. -/
theorem block_word (i : grid0.Coords) (w : BitVec 32) (k : Fin (k0_t1_loop i w).trips) :
    Affine.IsInt (Scalar.muli (Scf.iv (Scalar.minsi (BitVec.ofNat 32 (i 1).val) (Scalar.maxsi 0#32 w)) 1#32 k) 256#32)
      (256 * (start i w + k.val : ℕ)) := by
  have hr := row_lt i
  have hs := start_le i w
  have hk : k.val < (i 1).val - start i w := by rw [← loop1_trips]; exact k.isLt
  have h256 : Affine.IsInt 256#32 256 := Affine.ofNat _ (by omega)
  have hv : Affine.IsInt (Scf.iv (Scalar.minsi (BitVec.ofNat 32 (i 1).val) (Scalar.maxsi 0#32 w)) 1#32 k) ((start i w + k.val : ℕ) : Int) :=
    Affine.iv (start_word i w) one_word _ (by omega)
  exact Affine.muli hv h256 (by omega)

/-- The block of a trip is before the query's own. -/
theorem block_lt (i : grid0.Coords) (w : BitVec 32) (k : Fin (k0_t1_loop i w).trips) : start i w + k.val < (i 1).val := by
  have hk : k.val < (i 1).val - start i w := by rw [← loop1_trips]; exact k.isLt
  omega

/-- Where a trip reads the keys and values. -/
theorem off1_eq (i : grid0.Coords) (w : BitVec 32) (k : Fin (k0_t1_loop i w).trips) :
    k0_off1 i w k = ![256 * (start i w + k.val), 0] :=
  Affine.vec_cons (Affine.indexCast (block_word i w k)) (by push_cast; ring) rfl

/-- Where a trip updates the gradients of the keys and values. -/
theorem off2_eq (i : grid0.Coords) (w : BitVec 32) (k : Fin (k0_t1_loop i w).trips) :
    k0_off2 i w k = ![0, 256 * (start i w + k.val)] :=
  congrArg (Matrix.vecCons 0) (Affine.vec_cons (Affine.indexCast (block_word i w k)) (by push_cast; ring) rfl)

/-- Everything the body asks of the word it reads holds of every word. -/
theorem chk1 (i : grid0.Coords) (w : BitVec 32) : k0_chk1 i w := by
  have hr := row_lt i
  have none2 : ∀ k : Fin (k0_t2_loop i w).trips, False := fun k => by
    exact Nat.not_lt_zero _ (Nat.lt_of_lt_of_le k.isLt (loop2_trips i w).le)
  unfold k0_chk1
  refine ⟨loop1_ok i w, fun k => ?_, fun k => ?_, fun k => ?_, fun k => ?_, loop2_ok i w, fun k => (none2 k).elim, fun k => (none2 k).elim,
    fun k => (none2 k).elim, fun k => (none2 k).elim⟩
  · exact Affine.dvd_of (block_word i w k) 256 ⟨⟨_, rfl⟩, by positivity⟩
  · have hk := block_lt i w k
    rw [off1_eq]; intro a; fin_cases a <;> simp <;> omega
  · exact Affine.dvd_of (block_word i w k) 256 ⟨⟨_, rfl⟩, by positivity⟩
  · have hk := block_lt i w k
    rw [off2_eq]; intro a; fin_cases a <;> simp <;> omega

/-- The diagonal block's place in the keys and values. -/
theorem off5_eq (i : grid0.Coords) : k0_off5 i = ![256 * (i 1).val, 0] := by
  have hr := row_lt i
  have hi : Affine.IsInt (BitVec.ofNat 32 (i 1).val) ((i 1).val : Int) := Affine.ofNat _ (by omega)
  have h256 : Affine.IsInt 256#32 256 := Affine.ofNat _ (by omega)
  have hm : Affine.IsInt (Scalar.muli (BitVec.ofNat 32 (i 1).val) 256#32) (256 * (i 1).val) := Affine.muli hi h256 (by omega)
  exact Affine.vec_cons (Affine.indexCast hm) (by push_cast; ring) rfl

/-- The diagonal block's place in the two gradients. -/
theorem off6_eq (i : grid0.Coords) : k0_off6 i = ![0, 256 * (i 1).val] := by
  have hr := row_lt i
  have hi : Affine.IsInt (BitVec.ofNat 32 (i 1).val) ((i 1).val : Int) := Affine.ofNat _ (by omega)
  have h256 : Affine.IsInt 256#32 256 := Affine.ofNat _ (by omega)
  have hm : Affine.IsInt (Scalar.muli (BitVec.ofNat 32 (i 1).val) 256#32) (256 * (i 1).val) := Affine.muli hi h256 (by omega)
  exact congrArg (Matrix.vecCons 0) (Affine.vec_cons (Affine.indexCast hm) (by push_cast; ring) rfl)

end Cert.KernelIdeal.Own
-- ==== Proof.Ideal.Trip.lean ====
/- One trip of the attention gradient's key loop, as a function of what the buffers hold. A grid point keeps, for each of its two heads, a
   query-gradient accumulator, the sum of the log-remainders still to come, and the running sum of the weighted gradients; and, shared, the
   gradients of the keys and of the values. A trip reads one block of keys and values and updates all eight. -/
module

public import proofs.«01_k».proof.Proof.Ideal.Words
public import proofs.«01_k».proof.Proof.Gen.KernelIdeal.Frame
public import Idealize.ShloMosaic.Lib.VecWindow

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What a grid point keeps fixed: the triangle of ones, and each head's queries and output gradients, as they are and transposed. -/
structure Fixed (F : FTy → Type) where
  tri : FVec F S512x256 .bf16
  qa : FVec F S256x128 .bf16
  qb : FVec F S256x128 .bf16
  da : FVec F S256x128 .bf16
  db : FVec F S256x128 .bf16
  qta : FVec F S128x256 .bf16
  qtb : FVec F S128x256 .bf16
  dta : FVec F S128x256 .bf16
  dtb : FVec F S128x256 .bf16

/-- What it updates: per head the query gradient, the remaining log-sum and the running weighted sum; the gradients of keys and values,
    transposed, one column per key. -/
structure St (F : FTy → Type) where
  accA : FVec F S256x128 .f32
  accB : FVec F S256x128 .f32
  preA : FVec F S256x1 .f32
  preB : FVec F S256x1 .f32
  gpA : FVec F S256x1 .f32
  gpB : FVec F S256x1 .f32
  dkt : FVec F S128x4096 .f32
  dvt : FVec F S128x4096 .f32

/-- Zero, as the printed text writes it. -/
abbrev zeroF : F .f32 := Scalar.ofBits .f32 0x00000000#32

/-- Head A's gradient of the logits at one key block. -/
def dzA (p : Fixed F) (k v : FVec F S256x128 .bf16) (s : St F) : FVec F S256x256 .bf16 :=
  k0_pay35 (k0_pay8 p.qa k) (k0_pay13 p.qa k)
    (k0_pay24 p.tri (k0_pay10 p.da v) (k0_pay14 p.qa k) (k0_pay15 p.qa k) s.preA)
    (k0_pay30 p.tri (k0_pay10 p.da v) (k0_pay14 p.qa k) (k0_pay15 p.qa k) s.preA) (k0_pay31 p.tri) s.gpA

/-- Head B's weighted output gradients at one key block. -/
def gB (p : Fixed F) (k v : FVec F S256x128 .bf16) (s : St F) : FVec F S256x256 .f32 :=
  k0_pay28 p.tri (k0_pay11 p.db v) (k0_pay16 p.qb k) (k0_pay18 p.qb k) zeroF s.preB

/-- What a trip adds to the keys' gradient, over what it finds there. -/
def dkNew (p : Fixed F) (k v : FVec F S256x128 .bf16) (s : St F) (old : FVec F S128x256 .f32) : FVec F S128x256 .f32 :=
  k0_pay44 p.qta p.qtb k0_pay6 (k0_pay9 p.qb k) (k0_pay17 p.qb k) (gB p k v s) (dzA p k v s)
    (k0_pay36 p.tri (gB p k v s) s.gpB) (k0_pay38 (k0_pay17 p.qb k)) k0_pay39 old

/-- What it adds to the values' gradient, over what it finds there. -/
def dvNew (p : Fixed F) (k v : FVec F S256x128 .bf16) (s : St F) (old : FVec F S128x256 .f32) : FVec F S128x256 .f32 :=
  k0_pay143 (k0_pay42 p.dta p.dtb k0_pay7 (k0_pay25 p.tri (k0_pay14 p.qa k) (k0_pay15 p.qa k) s.preA)
    (k0_pay29 p.tri (k0_pay16 p.qb k) (k0_pay18 p.qb k) zeroF s.preB)) old

/-- Block `n`'s rows of the keys (or values). -/
def rows (x : FVec F S4096x128 .bf16) (n : ℕ) (h : n < 16) : FVec F S256x128 .bf16 :=
  VecWindow.window x ![256 * n, 0] S256x128.size (by intro a; fin_cases a <;> simp <;> omega)

/-- Block `n`'s columns of a transposed gradient. -/
def cols (x : FVec F S128x4096 .f32) (n : ℕ) (h : n < 16) : FVec F S128x256 .f32 :=
  VecWindow.window x ![0, 256 * n] S128x256.size (by intro a; fin_cases a <;> simp <;> omega)

/-- The same with those columns replaced. -/
def setCols (x : FVec F S128x4096 .f32) (n : ℕ) (w : FVec F S128x256 .f32) : FVec F S128x4096 .f32 :=
  VecWindow.put x ![0, 256 * n] S128x256.size w

/-- One trip at key block `n`. -/
def trip (p : Fixed F) (ks vs : FVec F S4096x128 .bf16) (n : ℕ) (h : n < 16) (s : St F) : St F where
  accA := k0_pay41 (k0_pay4 (rows ks n h)) (dzA p (rows ks n h) (rows vs n h) s) s.accA
  accB := k0_pay43 (k0_pay4 (rows ks n h)) (k0_pay9 p.qb (rows ks n h)) (k0_pay17 p.qb (rows ks n h)) (gB p (rows ks n h) (rows vs n h) s)
    (k0_pay36 p.tri (gB p (rows ks n h) (rows vs n h) s) s.gpB) (k0_pay38 (k0_pay17 p.qb (rows ks n h))) k0_pay39 s.accB
  preA := k0_pay23 p.tri (k0_pay15 p.qa (rows ks n h)) s.preA
  preB := k0_pay27 p.tri (k0_pay16 p.qb (rows ks n h)) (k0_pay18 p.qb (rows ks n h)) zeroF s.preB
  gpA := k0_pay34 (k0_pay30 p.tri (k0_pay10 p.da (rows vs n h)) (k0_pay14 p.qa (rows ks n h)) (k0_pay15 p.qa (rows ks n h)) s.preA)
    (k0_pay31 p.tri) s.gpA
  gpB := k0_pay37 p.tri (gB p (rows ks n h) (rows vs n h) s) s.gpB
  dkt := setCols s.dkt n (dkNew p (rows ks n h) (rows vs n h) s (cols s.dkt n h))
  dvt := setCols s.dvt n (dvNew p (rows ks n h) (rows vs n h) s (cols s.dvt n h))

/-- The trips from block `b` on, `n` of them. -/
def trips (p : Fixed F) (ks vs : FVec F S4096x128 .bf16) (b : ℕ) (s : St F) : ℕ → St F
  | 0 => s
  | n + 1 => if h : b + n < 16 then trip p ks vs (b + n) h (trips p ks vs b s n) else trips p ks vs b s n

theorem trips_succ (p : Fixed F) (ks vs : FVec F S4096x128 .bf16) (b : ℕ) (s : St F) (n : ℕ) (h : b + n < 16) :
    trips p ks vs b s (n + 1) = trip p ks vs (b + n) h (trips p ks vs b s n) := by
  rw [trips]; exact dif_pos h

section Loop

variable (c : Dev nD) (i : grid0.Coords)
  (arg2 : Memref sig .tc .vmem S256x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S256x128 .f32) (harg5 : arg5.IsWhole)
  (arg6 : Memref sig .tc .vmem S256x128 .f32) (harg6 : arg6.IsWhole) (arg7 : Memref sig .tc .vmem S512x256 .bf16) (harg7 : arg7.IsWhole)
  (arg8 : Memref sig .tc .vmem S256x128 .bf16) (harg8 : arg8.IsWhole) (arg9 : Memref sig .tc .vmem S4096x128 .f32) (harg9 : arg9.IsWhole)
  (arg10 : Memref sig .tc .vmem S4096x128 .f32) (harg10 : arg10.IsWhole) (arg11 : Memref sig .tc .vmem S256x128 .f32) (harg11 : arg11.IsWhole)
  (arg12 : Memref sig .tc .vmem S256x128 .f32) (harg12 : arg12.IsWhole) (arg13 : Memref sig .tc .vmem S256x1 .f32) (harg13 : arg13.IsWhole)
  (arg14 : Memref sig .tc .vmem S256x1 .f32) (harg14 : arg14.IsWhole) (arg15 : Memref sig .tc .vmem S256x1 .f32) (harg15 : arg15.IsWhole)
  (arg16 : Memref sig .tc .vmem S256x1 .f32) (harg16 : arg16.IsWhole) (arg17 : Memref sig .tc .vmem S128x4096 .f32) (harg17 : arg17.IsWhole)
  (arg18 : Memref sig .tc .vmem S128x4096 .f32) (harg18 : arg18.IsWhole)

/-- The buffers a trip touches, the keys and values and the eight it updates, at their contents. -/
def Held (ks vs : FVec F S4096x128 .bf16) (s : St F) : sProp 𝕄 :=
  iprop(owns (c : Thread nD τ) arg3 fullShare ks ∗ owns (c : Thread nD τ) arg4 fullShare vs
    ∗ owns (c : Thread nD τ) arg11 fullShare s.accA ∗ owns (c : Thread nD τ) arg12 fullShare s.accB
    ∗ owns (c : Thread nD τ) arg13 fullShare s.preA ∗ owns (c : Thread nD τ) arg14 fullShare s.preB
    ∗ owns (c : Thread nD τ) arg15 fullShare s.gpA ∗ owns (c : Thread nD τ) arg16 fullShare s.gpB
    ∗ owns (c : Thread nD τ) arg17 fullShare s.dkt ∗ owns (c : Thread nD τ) arg18 fullShare s.dvt)

set_option maxHeartbeats 4000000 in
/-- ONE TRIP of the printed loop is `trip`. -/
theorem wp_trip (p : Fixed F) (ks vs : FVec F S4096x128 .bf16) (s : St F) (arg1 : BitVec 32) (v58 : FVec F S256x128 .f32)
    (v60 v79 : FVec F S256x1 .f32) (v88 : BitVec 32) (hw : k0_chk1 i v88) (v90 : BitVec 32) (k : Fin (k0_t1_loop i v88).trips) (acc : Unit)
    (h : start i v88 + k.val < 16) :
    Held c arg3 arg4 arg11 arg12 arg13 arg14 arg15 arg16 arg17 arg18 ks vs s
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18 arg1
            p.tri p.qa p.qb p.da p.db p.qta p.qtb p.dta p.dtb v58 v60 v79 v88 hw v90 k acc)
          (fun _ => Held c arg3 arg4 arg11 arg12 arg13 arg14 arg15 arg16 arg17 arg18 ks vs (trip p ks vs (start i v88 + k.val) h s)) := by
  have e3 (f : arg3.view.ty.Contents (Elt F)) (hf : arg3.view.read (Elt F) f = ks) :
      arg3.view.readAt (Elt F) (Rect.unit (s := S4096x128) (k0_off1 i v88 k) S256x128.size (k0_off1_inb i v88 hw k)).toLoadRect f
        = rows ks (start i v88 + k.val) h := by
    rw [View.readAt_unit _ _ _ (off1_eq i v88 k), hf]; rfl
  have e4 (f : arg4.view.ty.Contents (Elt F)) (hf : arg4.view.read (Elt F) f = vs) :
      arg4.view.readAt (Elt F) (Rect.unit (s := S4096x128) (k0_off1 i v88 k) S256x128.size (k0_off1_inb i v88 hw k)).toLoadRect f
        = rows vs (start i v88 + k.val) h := by
    rw [View.readAt_unit _ _ _ (off1_eq i v88 k), hf]; rfl
  have e17 (f : arg17.view.ty.Contents (Elt F)) (hf : arg17.view.read (Elt F) f = s.dkt) :
      arg17.view.readAt (Elt F) (Rect.unit (s := S128x4096) (k0_off2 i v88 k) S128x256.size (k0_off2_inb i v88 hw k)).toLoadRect f
        = cols s.dkt (start i v88 + k.val) h := by
    rw [View.readAt_unit _ _ _ (off2_eq i v88 k), hf]; rfl
  have e18 (f : arg18.view.ty.Contents (Elt F)) (hf : arg18.view.read (Elt F) f = s.dvt) :
      arg18.view.readAt (Elt F) (Rect.unit (s := S128x4096) (k0_off2 i v88 k) S128x256.size (k0_off2_inb i v88 hw k)).toLoadRect f
        = cols s.dvt (start i v88 + k.val) h := by
    rw [View.readAt_unit _ _ _ (off2_eq i v88 k), hf]; rfl
  have e11 (f : arg11.view.ty.Contents (Elt F)) (hf : arg11.view.read (Elt F) f = s.accA) :
      arg11.view.readAt (Elt F) (Rect.unit (s := S256x128) ![0, 0] S256x128.size inb_S256x128_S256x128_0_0).toLoadRect f = s.accA := by
    rw [View.readAt_full, hf]
  have e12 (f : arg12.view.ty.Contents (Elt F)) (hf : arg12.view.read (Elt F) f = s.accB) :
      arg12.view.readAt (Elt F) (Rect.unit (s := S256x128) ![0, 0] S256x128.size inb_S256x128_S256x128_0_0).toLoadRect f = s.accB := by
    rw [View.readAt_full, hf]
  have e13 (f : arg13.view.ty.Contents (Elt F)) (hf : arg13.view.read (Elt F) f = s.preA) :
      arg13.view.readAt (Elt F) (Rect.unit (s := S256x1) ![0, 0] S256x1.size inb_S256x1_S256x1_0_0).toLoadRect f = s.preA := by
    rw [View.readAt_full, hf]
  have e14 (f : arg14.view.ty.Contents (Elt F)) (hf : arg14.view.read (Elt F) f = s.preB) :
      arg14.view.readAt (Elt F) (Rect.unit (s := S256x1) ![0, 0] S256x1.size inb_S256x1_S256x1_0_0).toLoadRect f = s.preB := by
    rw [View.readAt_full, hf]
  have e15 (f : arg15.view.ty.Contents (Elt F)) (hf : arg15.view.read (Elt F) f = s.gpA) :
      arg15.view.readAt (Elt F) (Rect.unit (s := S256x1) ![0, 0] S256x1.size inb_S256x1_S256x1_0_0).toLoadRect f = s.gpA := by
    rw [View.readAt_full, hf]
  have e16 (f : arg16.view.ty.Contents (Elt F)) (hf : arg16.view.read (Elt F) f = s.gpB) :
      arg16.view.readAt (Elt F) (Rect.unit (s := S256x1) ![0, 0] S256x1.size inb_S256x1_S256x1_0_0).toLoadRect f = s.gpB := by
    rw [View.readAt_full, hf]
  unfold k0_t1_body Held owns
  simp only [k0_part1_eq_skeleton, k0_part2_eq_skeleton, k0_part3_eq_skeleton, k0_part4_eq_skeleton]
  unfold k0_part1_skel k0_part2_skel k0_part3_skel k0_part4_skel
  iintro ⟨⟨%f3, %h3, H3⟩, ⟨%f4, %h4, H4⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩
  sl_exec
  sl_step
  isplitl [H3]
  · iexists _; isplitr; swap; (iexact H3); ipureintro; exact h3
  isplitl [H4]
  · iexists _; isplitr; swap; (iexact H4); ipureintro; exact h4
  isplitl [H11]
  · iexists _; isplitr; swap; (iexact H11); ipureintro
    refine (View.read_writes_full _ _ _ _ _).trans ?_
    simp only [e3 _ h3, e4 _ h4, e11 _ h11, e12 _ h12, e13 _ h13, e14 _ h14, e15 _ h15, e16 _ h16]
    rfl
  isplitl [H12]
  · iexists _; isplitr; swap; (iexact H12); ipureintro
    refine (View.read_writes_full _ _ _ _ _).trans ?_
    simp only [e3 _ h3, e4 _ h4, e11 _ h11, e12 _ h12, e13 _ h13, e14 _ h14, e15 _ h15, e16 _ h16]
    rfl
  isplitl [H13]
  · iexists _; isplitr; swap; (iexact H13); ipureintro
    refine (View.read_writes_full _ _ _ _ _).trans ?_
    simp only [e3 _ h3, e4 _ h4, e11 _ h11, e12 _ h12, e13 _ h13, e14 _ h14, e15 _ h15, e16 _ h16]
    rfl
  isplitl [H14]
  · iexists _; isplitr; swap; (iexact H14); ipureintro
    refine (View.read_writes_full _ _ _ _ _).trans ?_
    simp only [e3 _ h3, e4 _ h4, e11 _ h11, e12 _ h12, e13 _ h13, e14 _ h14, e15 _ h15, e16 _ h16]
    rfl
  isplitl [H15]
  · iexists _; isplitr; swap; (iexact H15); ipureintro
    refine (View.read_writes_full _ _ _ _ _).trans ?_
    simp only [e3 _ h3, e4 _ h4, e11 _ h11, e12 _ h12, e13 _ h13, e14 _ h14, e15 _ h15, e16 _ h16]
    rfl
  isplitl [H16]
  · iexists _; isplitr; swap; (iexact H16); ipureintro
    refine (View.read_writes_full _ _ _ _ _).trans ?_
    simp only [e3 _ h3, e4 _ h4, e11 _ h11, e12 _ h12, e13 _ h13, e14 _ h14, e15 _ h15, e16 _ h16]
    rfl
  isplitl [H17]
  · iexists _; isplitr; swap; (iexact H17); ipureintro
    refine (View.read_writes_cons_put _ _ _ _ _ (off2_eq i v88 k)).trans ?_
    rw [View.writes_nil, h17]
    simp only [e3 _ h3, e4 _ h4, e13 _ h13, e14 _ h14, e15 _ h15, e16 _ h16, e17 _ h17]
    rfl
  · iexists _; isplitr; swap; (iexact H18); ipureintro
    refine (View.read_writes_cons_put _ _ _ _ _ (off2_eq i v88 k)).trans ?_
    rw [View.writes_nil, h18]
    simp only [e3 _ h3, e4 _ h4, e13 _ h13, e14 _ h14, e18 _ h18]
    rfl

/-- The printed loop's invariant: before trip `k` the buffers hold what `k` trips leave. -/
@[instance_reducible] def loopInv (p : Fixed F) (ks vs : FVec F S4096x128 .bf16) (s : St F) (arg1 : BitVec 32) (v58 : FVec F S256x128 .f32)
    (v60 v79 : FVec F S256x1 .f32) (v88 : BitVec 32) (hw : k0_chk1 i v88) (v90 : BitVec 32) :
    LoopInvTy_k0_t1 (F := F) Unit ℕ (UR sig nD τ) ℕ Variants.none c none Set.univ i arg2 harg2 arg3 harg3 arg4 harg4 arg5 harg5 arg6 harg6
      arg7 harg7 arg8 harg8 arg9 harg9 arg10 harg10 arg11 harg11 arg12 harg12 arg13 harg13 arg14 harg14 arg15 harg15 arg16 harg16 arg17 harg17
      arg18 harg18 arg1 p.tri p.qa p.qb p.da p.db p.qta p.qtb p.dta p.dtb v58 v60 v79 v88 hw v90 where
  inv k _ := Held c arg3 arg4 arg11 arg12 arg13 arg14 arg15 arg16 arg17 arg18 ks vs (trips p ks vs (start i v88) s k)
  step k acc := by
    have h : start i v88 + k.val < 16 := (block_lt i v88 k).trans (row_lt i)
    rw [trips_succ p ks vs (start i v88) s k.val h]
    exact wp_trip c i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 p ks vs _ arg1 v58 v60 v79 v88 hw v90 k acc h

end Loop

end Cert.KernelIdeal.Own

end
-- ==== Proof.Ideal.Body.lean ====
/- The body of the attention gradient at one grid point, as a function of what its buffers hold. The printed body is cut at its calls: the first
   part clears the gradients of keys and values at a row's first point and prepares the heads' operands, the second clears the accumulators,
   the third runs the key loop over the blocks before the query's own, the next four treat that block under the causal mask, and the last
   writes the query gradient and, at a row's last point, the gradients of the keys and values. -/
module

public import proofs.«01_k».proof.Proof.Ideal.Trip
public import Idealize.ShloMosaic.Lib.LoopRemainder

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A grid point is the first of its row: the condition of the printed text. -/
abbrev First (i : grid0.Coords) : Prop :=
  Scalar.cmpi .ne (Scalar.extui (Scalar.cmpi .eq (BitVec.ofNat 32 (i 1).val) 0#32) : BitVec 32) 0#32 = 1#1

/-- It is the last of its row. -/
abbrev Last (i : grid0.Coords) : Prop := k0_cond2 i = 1#1

/-- What a grid point keeps fixed, from its blocks of queries and output gradients and the triangle. -/
def fixedOf (q : FVec F S256x128 .bf16) (dO : FVec F S256x128 .f32) (tri : FVec F S512x256 .bf16) : Fixed F where
  tri := k0_pay118 tri
  qa := k0_pay123 q
  qb := k0_pay124 q
  da := k0_pay125 dO
  db := k0_pay126 dO
  qta := k0_pay130 q
  qtb := k0_pay131 k0_pay127 (k0_pay128 q) zeroF
  dta := k0_pay132 k0_pay127 (k0_pay129 dO)
  dtb := k0_pay133 k0_pay127 (k0_pay129 dO)

/-- What it starts from: nothing accumulated, each head's log-sum of its row, and the gradients of keys and values so far. -/
def init (ls : FVec F S256x128 .f32) (dkt dvt : FVec F S128x4096 .f32) : St F where
  accA := k0_pay136
  accB := k0_pay137
  preA := k0_pay140 ls
  preB := k0_pay141 (k0_pay135 ls)
  gpA := k0_pay138
  gpB := k0_pay139
  dkt := dkt
  dvt := dvt

/-- The word the key loop starts at, before it is clipped. -/
def word (ls : FVec F S256x128 .f32) : BitVec 32 := Scalar.fptosi 32 (k0_pay142 (k0_pay134 ls))

/-- Head A's masked log-remainder sums within the query's own block. -/
def diagSumA (p : Fixed F) (k : FVec F S256x128 .bf16) : FVec F S256x256 .f32 := k0_pay159 p.tri k0_pay119 (k0_pay153 p.qa k) (k0_pay154 p.qa k)

/-- Head A's exponents there. -/
def diagExpA (p : Fixed F) (k : FVec F S256x128 .bf16) (s : St F) : FVec F S256x256 .f32 :=
  k0_pay161 p.tri k0_pay119 (k0_pay153 p.qa k) (k0_pay154 p.qa k) s.preA

/-- Head B's masked log-remainder sums within the query's own block. -/
def diagSumB (p : Fixed F) (k : FVec F S256x128 .bf16) : FVec F S256x256 .f32 := k0_pay160 p.tri k0_pay119 (k0_pay150 p.qb k)

/-- Head B's gradient of the attention weights times those, summed along the block. -/
def diagGB (p : Fixed F) (k v : FVec F S256x128 .bf16) (s : St F) : FVec F S256x256 .f32 :=
  k0_pay171 p.tri k0_pay119 (k0_pay152 p.db v) (k0_pay158 (k0_pay150 p.qb k)) (diagSumB p k) s.preB

/-- Head A's gradient of the logits there. -/
def diagDzA (p : Fixed F) (k v : FVec F S256x128 .bf16) (s : St F) : FVec F S256x256 .bf16 :=
  k0_pay175 k0_pay119 (k0_pay149 p.qa k) (k0_pay154 p.qa k) (k0_pay164 k0_pay119 (k0_pay151 p.da v) (diagExpA p k s) zeroF)
    (k0_pay172 p.tri k0_pay119 (k0_pay151 p.da v) (diagExpA p k s) zeroF s.gpA)

/-- Head B's gradient of the logits there. -/
def diagDzB (p : Fixed F) (k v : FVec F S256x128 .bf16) (s : St F) : FVec F S256x256 .bf16 :=
  k0_pay177 k0_pay119 (k0_pay150 p.qb k) (k0_pay157 (k0_pay150 p.qb k))
    (k0_pay168 k0_pay119 (k0_pay152 p.db v) (k0_pay158 (k0_pay150 p.qb k)) (diagSumB p k) s.preB) (diagGB p k v s) s.gpB

/-- The query's own block, `n`, under the causal mask. -/
def diag (p : Fixed F) (k v : FVec F S256x128 .bf16) (n : ℕ) (h : n < 16) (s : St F) : St F where
  accA := k0_pay179 (k0_pay145 k) (diagDzA p k v s) s.accA
  accB := k0_pay180 (k0_pay145 k) (diagDzB p k v s) s.accB
  preA := k0_pay163 (diagSumA p k) s.preA
  preB := k0_pay167 (diagSumB p k) s.preB
  gpA := k0_pay174 (k0_pay173 p.tri k0_pay119 (k0_pay151 p.da v) (diagExpA p k s) zeroF s.gpA)
  gpB := k0_pay176 (diagGB p k v s) s.gpB
  dkt := setCols s.dkt n (k0_pay181 p.qta p.qtb k0_pay147 (diagDzA p k v s) (diagDzB p k v s) (constant S128x256 .f32 0x00000000#32)
    (cols s.dkt n h))
  dvt := setCols s.dvt n (k0_pay182 p.dtb (k0_pay169 k0_pay119 (k0_pay158 (k0_pay150 p.qb k)) (diagSumB p k) s.preB)
    (k0_pay178 p.dta k0_pay148 (k0_pay165 k0_pay119 (diagExpA p k s) zeroF)) (cols s.dvt n h))

/-- What the key loop leaves at a grid point. -/
def looped (i : grid0.Coords) (q : FVec F S256x128 .bf16) (ks vs : FVec F S4096x128 .bf16) (dO ls : FVec F S256x128 .f32)
    (tri : FVec F S512x256 .bf16) (dkt dvt : FVec F S128x4096 .f32) : St F :=
  trips (fixedOf q dO tri) ks vs (start i (word ls)) (init ls dkt dvt) ((i 1).val - start i (word ls))

/-- What the whole grid point leaves. -/
def point (i : grid0.Coords) (q : FVec F S256x128 .bf16) (ks vs : FVec F S4096x128 .bf16) (dO ls : FVec F S256x128 .f32)
    (tri : FVec F S512x256 .bf16) (dkt dvt : FVec F S128x4096 .f32) : St F :=
  diag (fixedOf q dO tri) (rows ks (i 1).val (row_lt i)) (rows vs (i 1).val (row_lt i)) (i 1).val (row_lt i)
    (looped i q ks vs dO ls tri dkt dvt)

/-- The query gradient it writes. -/
def outQ (s : St F) : FVec F S256x128 .bf16 := k0_pay1 k0_pay120 s.accA s.accB

/-- The gradient of the keys (or values), one row per key. -/
def upright (x : FVec F S128x4096 .f32) : FVec F S4096x128 .f32 := transpose S4096x128 [1, 0] x

/-- A load of a whole buffer reads the buffer. -/
theorem load_row {e : EltTy} (a : Memref sig .tc .vmem S256x128 e) (f : a.view.ty.Contents (Elt F)) :
    a.view.readAt (Elt F) (Rect.unit (s := S256x128) ![0, 0] S256x128.size inb_S256x128_S256x128_0_0).toLoadRect f = a.view.read (Elt F) f := by
  rw [View.readAt_full]

theorem load_col {e : EltTy} (a : Memref sig .tc .vmem S256x1 e) (f : a.view.ty.Contents (Elt F)) :
    a.view.readAt (Elt F) (Rect.unit (s := S256x1) ![0, 0] S256x1.size inb_S256x1_S256x1_0_0).toLoadRect f = a.view.read (Elt F) f := by
  rw [View.readAt_full]

theorem load_tri {e : EltTy} (a : Memref sig .tc .vmem S512x256 e) (f : a.view.ty.Contents (Elt F)) :
    a.view.readAt (Elt F) (Rect.unit (s := S512x256) ![0, 0] S512x256.size inb_S512x256_S512x256_0_0).toLoadRect f = a.view.read (Elt F) f := by
  rw [View.readAt_full]

section Body

variable (c : Dev nD) (i : grid0.Coords)
  (arg2 : Memref sig .tc .vmem S256x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S256x128 .f32) (harg5 : arg5.IsWhole)
  (arg6 : Memref sig .tc .vmem S256x128 .f32) (harg6 : arg6.IsWhole) (arg7 : Memref sig .tc .vmem S512x256 .bf16) (harg7 : arg7.IsWhole)
  (arg8 : Memref sig .tc .vmem S256x128 .bf16) (harg8 : arg8.IsWhole) (arg9 : Memref sig .tc .vmem S4096x128 .f32) (harg9 : arg9.IsWhole)
  (arg10 : Memref sig .tc .vmem S4096x128 .f32) (harg10 : arg10.IsWhole) (arg11 : Memref sig .tc .vmem S256x128 .f32) (harg11 : arg11.IsWhole)
  (arg12 : Memref sig .tc .vmem S256x128 .f32) (harg12 : arg12.IsWhole) (arg13 : Memref sig .tc .vmem S256x1 .f32) (harg13 : arg13.IsWhole)
  (arg14 : Memref sig .tc .vmem S256x1 .f32) (harg14 : arg14.IsWhole) (arg15 : Memref sig .tc .vmem S256x1 .f32) (harg15 : arg15.IsWhole)
  (arg16 : Memref sig .tc .vmem S256x1 .f32) (harg16 : arg16.IsWhole) (arg17 : Memref sig .tc .vmem S128x4096 .f32) (harg17 : arg17.IsWhole)
  (arg18 : Memref sig .tc .vmem S128x4096 .f32) (harg18 : arg18.IsWhole)

set_option maxHeartbeats 4000000 in
/-- The first part at a row's first point. -/
theorem wp_part13_first (q : FVec F S256x128 .bf16) (dO : FVec F S256x128 .f32) (tri : FVec F S512x256 .bf16) (dkt dvt : FVec F S128x4096 .f32) (hi : First i) :
    (iprop(owns (c : Thread nD τ) arg2 fullShare q
      ∗ owns (c : Thread nD τ) arg5 fullShare dO
      ∗ owns (c : Thread nD τ) arg7 fullShare tri
      ∗ owns (c : Thread nD τ) arg17 fullShare dkt
      ∗ owns (c : Thread nD τ) arg18 fullShare dvt) : sProp 𝕄)
      ⊢ wp frame (wpE (defs₀ (F := F)) Variants.none (c : Thread nD τ) none) Set.univ
          (k0_part13 (F := F) i arg2 harg2 arg3 harg3 arg4 harg4 arg5 harg5 arg6 harg6 arg7 harg7 arg8 harg8 arg9 harg9 arg10 harg10 arg11
            harg11 arg12 harg12 arg13 harg13 arg14 harg14 arg15 harg15 arg16 harg16 arg17 harg17 arg18 harg18)
          (fun r => iprop(⌜r = ⟨BitVec.ofNat 32 (i 1).val, k0_pay118 tri, k0_pay119, k0_pay120, k0_pay123 q, k0_pay124 q, k0_pay125 dO,
              k0_pay126 dO, k0_pay127, k0_pay128 q, k0_pay129 dO, k0_pay130 q, zeroF⟩⌝
            ∗ owns (c : Thread nD τ) arg2 fullShare q
            ∗ owns (c : Thread nD τ) arg5 fullShare dO
            ∗ owns (c : Thread nD τ) arg7 fullShare tri
            ∗ owns (c : Thread nD τ) arg17 fullShare k0_pay116
            ∗ owns (c : Thread nD τ) arg18 fullShare k0_pay117)) := by
  rw [k0_part13_eq_skeleton]
  unfold k0_part13_skel owns
  iintro ⟨⟨%f2, %h2, H2⟩, ⟨%f5, %h5, H5⟩, ⟨%f7, %h7, H7⟩, ⟨%f17, %h17, H17⟩, ⟨%f18, %h18, H18⟩⟩
  sl_exec
  sl_step
  isplitr
  · ipureintro
    simp only [↓load_row, ↓load_col, ↓load_tri, h2, h5, h7, h17, h18] <;> rfl
  isplitl [H2]
  · iexists _; isplitr; swap; (iexact H2); ipureintro; exact h2
  isplitl [H5]
  · iexists _; isplitr; swap; (iexact H5); ipureintro; exact h5
  isplitl [H7]
  · iexists _; isplitr; swap; (iexact H7); ipureintro; exact h7
  isplitl [H17]
  · iexists _; isplitr; swap; (iexact H17); ipureintro
    refine (View.read_writes_full _ _ _ _ _).trans ?_
    first | rfl | rw [load_row, h17] | rw [load_col, h17]
  · iexists _; isplitr; swap; (iexact H18); ipureintro
    refine (View.read_writes_full _ _ _ _ _).trans ?_
    first | rfl | rw [load_row, h18] | rw [load_col, h18]

set_option maxHeartbeats 4000000 in
/-- The first part at another point. -/
theorem wp_part13_other (q : FVec F S256x128 .bf16) (dO : FVec F S256x128 .f32) (tri : FVec F S512x256 .bf16) (dkt dvt : FVec F S128x4096 .f32) (hi : ¬ First i) :
    (iprop(owns (c : Thread nD τ) arg2 fullShare q
      ∗ owns (c : Thread nD τ) arg5 fullShare dO
      ∗ owns (c : Thread nD τ) arg7 fullShare tri
      ∗ owns (c : Thread nD τ) arg17 fullShare dkt
      ∗ owns (c : Thread nD τ) arg18 fullShare dvt) : sProp 𝕄)
      ⊢ wp frame (wpE (defs₀ (F := F)) Variants.none (c : Thread nD τ) none) Set.univ
          (k0_part13 (F := F) i arg2 harg2 arg3 harg3 arg4 harg4 arg5 harg5 arg6 harg6 arg7 harg7 arg8 harg8 arg9 harg9 arg10 harg10 arg11
            harg11 arg12 harg12 arg13 harg13 arg14 harg14 arg15 harg15 arg16 harg16 arg17 harg17 arg18 harg18)
          (fun r => iprop(⌜r = ⟨BitVec.ofNat 32 (i 1).val, k0_pay118 tri, k0_pay119, k0_pay120, k0_pay123 q, k0_pay124 q, k0_pay125 dO,
              k0_pay126 dO, k0_pay127, k0_pay128 q, k0_pay129 dO, k0_pay130 q, zeroF⟩⌝
            ∗ owns (c : Thread nD τ) arg2 fullShare q
            ∗ owns (c : Thread nD τ) arg5 fullShare dO
            ∗ owns (c : Thread nD τ) arg7 fullShare tri
            ∗ owns (c : Thread nD τ) arg17 fullShare dkt
            ∗ owns (c : Thread nD τ) arg18 fullShare dvt)) := by
  rw [k0_part13_eq_skeleton]
  unfold k0_part13_skel owns
  iintro ⟨⟨%f2, %h2, H2⟩, ⟨%f5, %h5, H5⟩, ⟨%f7, %h7, H7⟩, ⟨%f17, %h17, H17⟩, ⟨%f18, %h18, H18⟩⟩
  sl_exec
  sl_step
  isplitr
  · ipureintro
    simp only [↓load_row, ↓load_col, ↓load_tri, h2, h5, h7, h17, h18] <;> rfl
  isplitl [H2]
  · iexists _; isplitr; swap; (iexact H2); ipureintro; exact h2
  isplitl [H5]
  · iexists _; isplitr; swap; (iexact H5); ipureintro; exact h5
  isplitl [H7]
  · iexists _; isplitr; swap; (iexact H7); ipureintro; exact h7
  isplitl [H17]
  · iexists _; isplitr; swap; (iexact H17); ipureintro; exact h17
  · iexists _; isplitr; swap; (iexact H18); ipureintro; exact h18

/-- The first part: the gradients of keys and values start from nothing at a row's first point. -/
theorem wp_part13 (q : FVec F S256x128 .bf16) (dO : FVec F S256x128 .f32) (tri : FVec F S512x256 .bf16) (dkt dvt : FVec F S128x4096 .f32) :
    (iprop(owns (c : Thread nD τ) arg2 fullShare q
      ∗ owns (c : Thread nD τ) arg5 fullShare dO
      ∗ owns (c : Thread nD τ) arg7 fullShare tri
      ∗ owns (c : Thread nD τ) arg17 fullShare dkt
      ∗ owns (c : Thread nD τ) arg18 fullShare dvt) : sProp 𝕄)
      ⊢ wp frame (wpE (defs₀ (F := F)) Variants.none (c : Thread nD τ) none) Set.univ
          (k0_part13 (F := F) i arg2 harg2 arg3 harg3 arg4 harg4 arg5 harg5 arg6 harg6 arg7 harg7 arg8 harg8 arg9 harg9 arg10 harg10 arg11
            harg11 arg12 harg12 arg13 harg13 arg14 harg14 arg15 harg15 arg16 harg16 arg17 harg17 arg18 harg18)
          (fun r => iprop(⌜r = ⟨BitVec.ofNat 32 (i 1).val, k0_pay118 tri, k0_pay119, k0_pay120, k0_pay123 q, k0_pay124 q, k0_pay125 dO,
              k0_pay126 dO, k0_pay127, k0_pay128 q, k0_pay129 dO, k0_pay130 q, zeroF⟩⌝
            ∗ owns (c : Thread nD τ) arg2 fullShare q
            ∗ owns (c : Thread nD τ) arg5 fullShare dO
            ∗ owns (c : Thread nD τ) arg7 fullShare tri
            ∗ owns (c : Thread nD τ) arg17 fullShare (if First i then k0_pay116 else dkt)
            ∗ owns (c : Thread nD τ) arg18 fullShare (if First i then k0_pay117 else dvt))) := by
  by_cases hi : First i
  · rw [if_pos hi, if_pos hi]
    exact wp_part13_first c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 q dO tri dkt dvt hi
  · rw [if_neg hi, if_neg hi]
    exact wp_part13_other c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 q dO tri dkt dvt hi

set_option maxHeartbeats 4000000 in
/-- The second part clears the accumulators. -/
theorem wp_part14 (v33 : IVec S128x1 1) (v35 v36 : FVec F S128x256 .f32) (cst_10 : F .f32) (ls x11 x12 : FVec F S256x128 .f32)
    (x13 x15 x16 : FVec F S256x1 .f32) :
    (iprop(owns (c : Thread nD τ) arg6 fullShare ls
      ∗ owns (c : Thread nD τ) arg11 fullShare x11
      ∗ owns (c : Thread nD τ) arg12 fullShare x12
      ∗ owns (c : Thread nD τ) arg13 fullShare x13
      ∗ owns (c : Thread nD τ) arg15 fullShare x15
      ∗ owns (c : Thread nD τ) arg16 fullShare x16) : sProp 𝕄)
      ⊢ wp frame (wpE (defs₀ (F := F)) Variants.none (c : Thread nD τ) none) Set.univ
          (k0_part14 (F := F) i arg2 harg2 arg3 harg3 arg4 harg4 arg5 harg5 arg6 harg6 arg7 harg7 arg8 harg8 arg9 harg9 arg10 harg10 arg11
            harg11 arg12 harg12 arg13 harg13 arg14 harg14 arg15 harg15 arg16 harg16 arg17 harg17 arg18 harg18 v33 v35 v36 cst_10)
          (fun r => iprop(⌜r = ⟨k0_pay131 v33 v35 cst_10, k0_pay132 v33 v36, k0_pay133 v33 v36, k0_pay134 ls, k0_pay135 ls, k0_pay140 ls⟩⌝
            ∗ owns (c : Thread nD τ) arg6 fullShare ls
            ∗ owns (c : Thread nD τ) arg11 fullShare k0_pay136
            ∗ owns (c : Thread nD τ) arg12 fullShare k0_pay137
            ∗ owns (c : Thread nD τ) arg13 fullShare x13
            ∗ owns (c : Thread nD τ) arg15 fullShare k0_pay138
            ∗ owns (c : Thread nD τ) arg16 fullShare k0_pay139)) := by
  rw [k0_part14_eq_skeleton]
  unfold k0_part14_skel owns
  iintro ⟨⟨%f6, %h6, H6⟩, ⟨%f11, %h11, H11⟩, ⟨%f12, %h12, H12⟩, ⟨%f13, %h13, H13⟩, ⟨%f15, %h15, H15⟩, ⟨%f16, %h16, H16⟩⟩
  sl_exec
  sl_step
  isplitr
  · ipureintro
    simp only [↓load_row, ↓load_col, ↓load_tri, h6, h11, h12, h13, h15, h16] <;> rfl
  isplitl [H6]
  · iexists _; isplitr; swap; (iexact H6); ipureintro; exact h6
  isplitl [H11]
  · iexists _; isplitr; swap; (iexact H11); ipureintro
    refine (View.read_writes_full _ _ _ _ _).trans ?_
    first | rfl | rw [load_row, h11] | rw [load_col, h11]
  isplitl [H12]
  · iexists _; isplitr; swap; (iexact H12); ipureintro
    refine (View.read_writes_full _ _ _ _ _).trans ?_
    first | rfl | rw [load_row, h12] | rw [load_col, h12]
  isplitl [H13]
  · iexists _; isplitr; swap; (iexact H13); ipureintro; exact h13
  isplitl [H15]
  · iexists _; isplitr; swap; (iexact H15); ipureintro
    refine (View.read_writes_full _ _ _ _ _).trans ?_
    first | rfl | rw [load_row, h15] | rw [load_col, h15]
  · iexists _; isplitr; swap; (iexact H16); ipureintro
    refine (View.read_writes_full _ _ _ _ _).trans ?_
    first | rfl | rw [load_row, h16] | rw [load_col, h16]

/-- What the third part finds when it has set the log-sums. -/
def Ready (accA accB : FVec F S256x128 .f32) (v60 v79 gpA gpB : FVec F S256x1 .f32) (dkt dvt : FVec F S128x4096 .f32) : St F where
  accA := accA
  accB := accB
  preA := v79
  preB := k0_pay141 v60
  gpA := gpA
  gpB := gpB
  dkt := dkt
  dvt := dvt

/-- The printed key loop, from any contents: it leaves what its trips leave. -/
theorem wp_loop (p : Fixed F) (ks vs : FVec F S4096x128 .bf16) (s : St F) (arg1 : BitVec 32) (v58 : FVec F S256x128 .f32)
    (v60 v79 : FVec F S256x1 .f32) (v88 : BitVec 32) (hw : k0_chk1 i v88) (v90 : BitVec 32) {β : Type}
    (kk : Unit → Prog (TpuEff nD τ sig (Elt F) Λ₀ .tc) β) (Q : β → sProp 𝕄) :
    Held c arg3 arg4 arg11 arg12 arg13 arg14 arg15 arg16 arg17 arg18 ks vs s
      ⊢ iprop((∀ acc, Held c arg3 arg4 arg11 arg12 arg13 arg14 arg15 arg16 arg17 arg18 ks vs
              (trips p ks vs (start i v88) s ((i 1).val - start i v88))
            -∗ wp frame (wpE (defs₀ (F := F)) Variants.none (c : Thread nD τ) none) Set.univ (kk acc) Q)
          -∗ wp frame (wpE (defs₀ (F := F)) Variants.none (c : Thread nD τ) none) Set.univ
              (Scf.Loop.for (k0_t1_loop i v88) (k0_t1_ok i v88 hw) ()
                (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
                  arg1 p.tri p.qa p.qb p.da p.db p.qta p.qtb p.dta p.dtb v58 v60 v79 v88 hw v90) >>= kk) Q) := by
  rw [← loop1_trips i v88]
  exact exec_loop frame (wpE (defs₀ (F := F)) Variants.none (c : Thread nD τ) none) Set.univ _ _ _ _ _ _
    (loopInv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      p ks vs s arg1 v58 v60 v79 v88 hw v90)

set_option maxHeartbeats 4000000 in
/-- The third part: the key loop over the blocks before the query's own, then that block's logits. -/
theorem wp_part15 (p : Fixed F) (ks vs : FVec F S4096x128 .bf16) (v58 : FVec F S256x128 .f32) (v60 v79 : FVec F S256x1 .f32)
    (accA accB : FVec F S256x128 .f32) (x13 x14 gpA gpB : FVec F S256x1 .f32) (dkt dvt : FVec F S128x4096 .f32) :
    (iprop(owns (c : Thread nD τ) arg3 fullShare ks ∗ owns (c : Thread nD τ) arg4 fullShare vs
      ∗ owns (c : Thread nD τ) arg11 fullShare accA ∗ owns (c : Thread nD τ) arg12 fullShare accB
      ∗ owns (c : Thread nD τ) arg13 fullShare x13 ∗ owns (c : Thread nD τ) arg14 fullShare x14
      ∗ owns (c : Thread nD τ) arg15 fullShare gpA ∗ owns (c : Thread nD τ) arg16 fullShare gpB
      ∗ owns (c : Thread nD τ) arg17 fullShare dkt ∗ owns (c : Thread nD τ) arg18 fullShare dvt) : sProp 𝕄)
      ⊢ wp frame (wpE (defs₀ (F := F)) Variants.none (c : Thread nD τ) none) Set.univ
          (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
            (BitVec.ofNat 32 (i 1).val) p.tri p.qa p.qb p.da p.db p.qta p.qtb p.dta p.dtb v58 v60 v79)
          (fun r => iprop(⌜r = ⟨k0_pay145 (rows ks (i 1).val (row_lt i)), k0_pay147, k0_pay148, k0_pay149 p.qa (rows ks (i 1).val (row_lt i)),
              k0_pay150 p.qb (rows ks (i 1).val (row_lt i)), k0_pay151 p.da (rows vs (i 1).val (row_lt i)),
              k0_pay152 p.db (rows vs (i 1).val (row_lt i)), k0_pay153 p.qa (rows ks (i 1).val (row_lt i)),
              k0_pay154 p.qa (rows ks (i 1).val (row_lt i))⟩⌝
            ∗ Held c arg3 arg4 arg11 arg12 arg13 arg14 arg15 arg16 arg17 arg18 ks vs
                (trips p ks vs (start i (Scalar.fptosi 32 (k0_pay142 v58))) (Ready accA accB v60 v79 gpA gpB dkt dvt)
                  ((i 1).val - start i (Scalar.fptosi 32 (k0_pay142 v58)))))) := by
  have e3 (f : arg3.view.ty.Contents (Elt F)) (hf : arg3.view.read (Elt F) f = ks) :
      arg3.view.readAt (Elt F) (Rect.unit (s := S4096x128) (k0_off5 i) S256x128.size (k0_off5_inb i)).toLoadRect f
        = rows ks (i 1).val (row_lt i) := by
    rw [View.readAt_unit _ _ _ (off5_eq i), hf]; rfl
  have e4 (f : arg4.view.ty.Contents (Elt F)) (hf : arg4.view.read (Elt F) f = vs) :
      arg4.view.readAt (Elt F) (Rect.unit (s := S4096x128) (k0_off5 i) S256x128.size (k0_off5_inb i)).toLoadRect f
        = rows vs (i 1).val (row_lt i) := by
    rw [View.readAt_unit _ _ _ (off5_eq i), hf]; rfl
  have hck := chk1 i (Scalar.fptosi 32 (k0_pay142 v58))
  have htr := loop2_trips i (Scalar.fptosi 32 (k0_pay142 v58))
  have hn := loop1_trips i (Scalar.fptosi 32 (k0_pay142 v58))
  rw [k0_part15_eq_skeleton]
  unfold k0_part15_skel
  unfold owns
  iintro ⟨H3, H4, H11, H12, ⟨%f13, %h13, H13⟩, ⟨%f14, %h14, H14⟩, H15, H16, H17, H18⟩
  sl_exec
  ihave HL : (Held c arg3 arg4 arg11 arg12 arg13 arg14 arg15 arg16 arg17 arg18 ks vs (Ready accA accB v60 v79 gpA gpB dkt dvt)) $$ [H3 H4 H11 H12 H13 H14 H15 H16 H17 H18]
  · unfold Held owns
    isplitl [H3]; · iexact H3
    isplitl [H4]; · iexact H4
    isplitl [H11]; · iexact H11
    isplitl [H12]; · iexact H12
    isplitl [H13]
    · iexists _; isplitr; swap; (iexact H13); ipureintro
      exact View.read_writes_full _ _ _ _ _
    isplitl [H14]
    · iexists _; isplitr; swap; (iexact H14); ipureintro
      exact View.read_writes_full _ _ _ _ _
    isplitl [H15]; · iexact H15
    isplitl [H16]; · iexact H16
    isplitl [H17]; · iexact H17
    iexact H18
  iapply (wp_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    p ks vs (Ready accA accB v60 v79 gpA gpB dkt dvt) (BitVec.ofNat 32 (i 1).val) v58 v60 v79 (Scalar.fptosi 32 (k0_pay142 v58)) hck
    (Scalar.minsi (BitVec.ofNat 32 (i 1).val) (Scalar.maxsi 0#32 (Scalar.fptosi 32 (k0_pay142 v58))))) $$ [HL]
  · iexact HL
  iintro %acc HH
  unfold Held owns
  icases HH with ⟨⟨%f3, %h3, H3⟩, ⟨%f4, %h4, H4⟩, H11, H12, H13, H14, H15, H16, H17, H18⟩
  sl_exec
  sl_step
  isplitr
  · ipureintro
    rw [e3 _ h3, e4 _ h4]
  isplitl [H3]; · iexists _; isplitr; swap; (iexact H3); ipureintro; exact h3
  isplitl [H4]; · iexists _; isplitr; swap; (iexact H4); ipureintro; exact h4
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

set_option maxHeartbeats 4000000 in
/-- The fourth part: the logits of the query's own block. -/
theorem wp_part16 (v4 : FVec F S512x256 .bf16) (v7 : IVec S256x256 1) (v107 v111 v115 : FVec F S256x256 .f32) (preA : FVec F S256x1 .f32) :
    (iprop(owns (c : Thread nD τ) arg13 fullShare preA) : sProp 𝕄)
      ⊢ wp frame (wpE (defs₀ (F := F)) Variants.none (c : Thread nD τ) none) Set.univ
          (k0_part16 (F := F) i arg2 harg2 arg3 harg3 arg4 harg4 arg5 harg5 arg6 harg6 arg7 harg7 arg8 harg8 arg9 harg9 arg10 harg10 arg11
            harg11 arg12 harg12 arg13 harg13 arg14 harg14 arg15 harg15 arg16 harg16 arg17 harg17 arg18 harg18 v4 v7 v107 v111 v115)
          (fun r => iprop(⌜r = ⟨k0_pay157 v107, k0_pay158 v107, k0_pay159 v4 v7 v111 v115, k0_pay160 v4 v7 v107, k0_pay161 v4 v7 v111 v115 preA, zeroF⟩⌝
            ∗ owns (c : Thread nD τ) arg13 fullShare preA)) := by
  rw [k0_part16_eq_skeleton]
  unfold k0_part16_skel owns
  iintro ⟨⟨%f13, %h13, H13⟩⟩
  sl_exec
  sl_step
  isplitr
  · ipureintro
    simp only [↓load_row, ↓load_col, ↓load_tri, h13] <;> rfl
  · iexists _; isplitr; swap; (iexact H13); ipureintro; exact h13

set_option maxHeartbeats 4000000 in
/-- The fifth part: the attention weights and what they carry. -/
theorem wp_part17 (v4 : FVec F S512x256 .bf16) (v7 : IVec S256x256 1) (v108 v109 v140 v149 v155 v160 : FVec F S256x256 .f32) (cst : F .f32)
    (preA preB gpA : FVec F S256x1 .f32) :
    (iprop(owns (c : Thread nD τ) arg13 fullShare preA
      ∗ owns (c : Thread nD τ) arg14 fullShare preB
      ∗ owns (c : Thread nD τ) arg15 fullShare gpA) : sProp 𝕄)
      ⊢ wp frame (wpE (defs₀ (F := F)) Variants.none (c : Thread nD τ) none) Set.univ
          (k0_part17 (F := F) i arg2 harg2 arg3 harg3 arg4 harg4 arg5 harg5 arg6 harg6 arg7 harg7 arg8 harg8 arg9 harg9 arg10 harg10 arg11
            harg11 arg12 harg12 arg13 harg13 arg14 harg14 arg15 harg15 arg16 harg16 arg17 harg17 arg18 harg18 v4 v7 v108 v109 v140 v149 v155
            v160 cst)
          (fun r => iprop(⌜r = ⟨k0_pay164 v7 v108 v160 cst, k0_pay165 v7 v160 cst, k0_pay168 v7 v109 v140 v155 preB, k0_pay169 v7 v140 v155 preB,
              k0_pay171 v4 v7 v109 v140 v155 preB, k0_pay172 v4 v7 v108 v160 cst gpA, k0_pay173 v4 v7 v108 v160 cst gpA, gpA⟩⌝
            ∗ owns (c : Thread nD τ) arg13 fullShare (k0_pay163 v149 preA)
            ∗ owns (c : Thread nD τ) arg14 fullShare (k0_pay167 v155 preB)
            ∗ owns (c : Thread nD τ) arg15 fullShare gpA)) := by
  rw [k0_part17_eq_skeleton]
  unfold k0_part17_skel owns
  iintro ⟨⟨%f13, %h13, H13⟩, ⟨%f14, %h14, H14⟩, ⟨%f15, %h15, H15⟩⟩
  sl_exec
  sl_step
  isplitr
  · ipureintro
    simp only [↓load_row, ↓load_col, ↓load_tri, h13, h14, h15] <;> rfl
  isplitl [H13]
  · iexists _; isplitr; swap; (iexact H13); ipureintro
    refine (View.read_writes_full _ _ _ _ _).trans ?_
    first | rfl | rw [load_row, h13] | rw [load_col, h13]
  isplitl [H14]
  · iexists _; isplitr; swap; (iexact H14); ipureintro
    refine (View.read_writes_full _ _ _ _ _).trans ?_
    first | rfl | rw [load_row, h14] | rw [load_col, h14]
  · iexists _; isplitr; swap; (iexact H15); ipureintro; exact h15

set_option maxHeartbeats 4000000 in
/-- The sixth part: the gradients of the logits. -/
theorem wp_part18 (v7 : IVec S256x256 1) (v51 : FVec F S128x256 .bf16) (v105 : FVec F S128x256 .f32) (v106 v107 v115 v132 v169 : FVec F S256x256 .f32)
    (v170 : FVec F S256x256 .bf16) (v184 v191 v195 : FVec F S256x256 .f32) (v198 v199 : FVec F S256x1 .f32) (x15 gpB : FVec F S256x1 .f32) :
    (iprop(owns (c : Thread nD τ) arg15 fullShare x15
      ∗ owns (c : Thread nD τ) arg16 fullShare gpB) : sProp 𝕄)
      ⊢ wp frame (wpE (defs₀ (F := F)) Variants.none (c : Thread nD τ) none) Set.univ
          (k0_part18 (F := F) i arg2 harg2 arg3 harg3 arg4 harg4 arg5 harg5 arg6 harg6 arg7 harg7 arg8 harg8 arg9 harg9 arg10 harg10 arg11
            harg11 arg12 harg12 arg13 harg13 arg14 harg14 arg15 harg15 arg16 harg16 arg17 harg17 arg18 harg18 v7 v51 v105 v106 v107 v115
            v132 v169 v170 v184 v191 v195 v198 v199)
          (fun r => iprop(⌜r = ⟨k0_pay175 v7 v106 v115 v169 v195, k0_pay177 v7 v107 v132 v184 v191 gpB, k0_pay178 v51 v105 v170, constant S128x256 .f32 0x00000000#32⟩⌝
            ∗ owns (c : Thread nD τ) arg15 fullShare (k0_pay174 v198)
            ∗ owns (c : Thread nD τ) arg16 fullShare (k0_pay176 v191 gpB))) := by
  rw [k0_part18_eq_skeleton]
  unfold k0_part18_skel owns
  iintro ⟨⟨%f15, %h15, H15⟩, ⟨%f16, %h16, H16⟩⟩
  sl_exec
  sl_step
  isplitr
  · ipureintro
    simp only [↓load_row, ↓load_col, ↓load_tri, h15, h16] <;> rfl
  isplitl [H15]
  · iexists _; isplitr; swap; (iexact H15); ipureintro
    refine (View.read_writes_full _ _ _ _ _).trans ?_
    first | rfl | rw [load_row, h15] | rw [load_col, h15]
  · iexists _; isplitr; swap; (iexact H16); ipureintro
    refine (View.read_writes_full _ _ _ _ _).trans ?_
    first | rfl | rw [load_row, h16] | rw [load_col, h16]

set_option maxHeartbeats 4000000 in
/-- The seventh part: what that block adds to the four gradients. -/
theorem wp_part19 (arg1 : BitVec 32) (v41 v46 v56 : FVec F S128x256 .bf16) (v100 : FVec F S256x128 .bf16) (v104 : FVec F S128x256 .f32)
    (v185 v215 v239 : FVec F S256x256 .bf16) (v241 cst : FVec F S128x256 .f32) (accA accB : FVec F S256x128 .f32) (dkt dvt : FVec F S128x4096 .f32) :
    (iprop(owns (c : Thread nD τ) arg11 fullShare accA
      ∗ owns (c : Thread nD τ) arg12 fullShare accB
      ∗ owns (c : Thread nD τ) arg17 fullShare dkt
      ∗ owns (c : Thread nD τ) arg18 fullShare dvt) : sProp 𝕄)
      ⊢ wp frame (wpE (defs₀ (F := F)) Variants.none (c : Thread nD τ) none) Set.univ
          (k0_part19 (F := F) i arg2 harg2 arg3 harg3 arg4 harg4 arg5 harg5 arg6 harg6 arg7 harg7 arg8 harg8 arg9 harg9 arg10 harg10 arg11
            harg11 arg12 harg12 arg13 harg13 arg14 harg14 arg15 harg15 arg16 harg16 arg17 harg17 arg18 harg18 arg1 v41 v46 v56 v100 v104
            v185 v215 v239 v241 cst)
          (fun r => iprop(⌜r = k0_pay179 v100 v215 accA⌝
            ∗ owns (c : Thread nD τ) arg11 fullShare (k0_pay179 v100 v215 accA)
            ∗ owns (c : Thread nD τ) arg12 fullShare (k0_pay180 v100 v239 accB)
            ∗ owns (c : Thread nD τ) arg17 fullShare (setCols dkt (i 1).val (k0_pay181 v41 v46 v104 v215 v239 cst (cols dkt (i 1).val (row_lt i))))
            ∗ owns (c : Thread nD τ) arg18 fullShare (setCols dvt (i 1).val (k0_pay182 v56 v185 v241 (cols dvt (i 1).val (row_lt i)))))) := by
  have e17 (f : arg17.view.ty.Contents (Elt F)) (hf : arg17.view.read (Elt F) f = dkt) :
      arg17.view.readAt (Elt F) (Rect.unit (s := S128x4096) (k0_off6 i) S128x256.size (k0_off6_inb i)).toLoadRect f
        = cols dkt (i 1).val (row_lt i) := by
    rw [View.readAt_unit _ _ _ (off6_eq i), hf]; rfl
  have e18 (f : arg18.view.ty.Contents (Elt F)) (hf : arg18.view.read (Elt F) f = dvt) :
      arg18.view.readAt (Elt F) (Rect.unit (s := S128x4096) (k0_off6 i) S128x256.size (k0_off6_inb i)).toLoadRect f
        = cols dvt (i 1).val (row_lt i) := by
    rw [View.readAt_unit _ _ _ (off6_eq i), hf]; rfl
  rw [k0_part19_eq_skeleton]
  unfold k0_part19_skel owns
  iintro ⟨⟨%f11, %h11, H11⟩, ⟨%f12, %h12, H12⟩, ⟨%f17, %h17, H17⟩, ⟨%f18, %h18, H18⟩⟩
  sl_exec
  sl_step
  isplitr
  · ipureintro
    exact (View.readCov_full _ _ _ _ _).trans (by rw [load_row, h11])
  isplitl [H11]
  · iexists _; isplitr; swap; (iexact H11); ipureintro
    refine (View.read_writes_full _ _ _ _ _).trans ?_
    first | rfl | rw [load_row, h11] | rw [load_col, h11]
  isplitl [H12]
  · iexists _; isplitr; swap; (iexact H12); ipureintro
    refine (View.read_writes_full _ _ _ _ _).trans ?_
    first | rfl | rw [load_row, h12] | rw [load_col, h12]
  isplitl [H17]
  · iexists _; isplitr; swap; (iexact H17); ipureintro
    refine (View.read_writes_cons_put _ _ _ _ _ (off6_eq i)).trans ?_
    rw [View.writes_nil, h17]
    simp only [↓load_row, ↓load_col, ↓load_tri, h11, h12, h17, h18, e17 _ h17, e18 _ h18]
    rfl
  · iexists _; isplitr; swap; (iexact H18); ipureintro
    refine (View.read_writes_cons_put _ _ _ _ _ (off6_eq i)).trans ?_
    rw [View.writes_nil, h18]
    simp only [↓load_row, ↓load_col, ↓load_tri, h11, h12, h17, h18, e17 _ h17, e18 _ h18]
    rfl

/-- A block of the upright gradient is the transpose of the same block of the other. -/
theorem upright_block (a : Memref sig .tc .vmem S128x4096 .f32) (f : a.view.ty.Contents (Elt F)) (n : ℕ)
    (inb : ∀ b, (![0, n] : Fin 2 → ℕ) b + S128x256.size b ≤ S128x4096.size b)
    (inb' : ∀ b, (![n, 0] : Fin 2 → ℕ) b + S256x128.size b ≤ S4096x128.size b) (x : S256x128.Idx) :
    transpose S256x128 [1, 0] (a.view.readAt (Elt F) (Rect.unit (s := S128x4096) ![0, n] S128x256.size inb).toLoadRect f) transposes_S128x256_p1_0_S256x128 x
      = upright (a.view.read (Elt F) f) ((Rect.unit (s := S4096x128) ![n, 0] S256x128.size inb').emb x) := by
  unfold upright
  rw [View.readAt_unit _ _ _ (rfl : ![0, n] = ![0, n])]
  · refine congrArg (a.view.read (Elt F) f) ?_
    funext b
    fin_cases b <;> rfl
  · exact inb

/-- What a grid point leaves, from what it finds: a row's first point starts the gradients of keys and values afresh. -/
def pointOf (i : grid0.Coords) (q : FVec F S256x128 .bf16) (ks vs : FVec F S4096x128 .bf16) (dO ls : FVec F S256x128 .f32)
    (tri : FVec F S512x256 .bf16) (dkt dvt : FVec F S128x4096 .f32) : St F :=
  point i q ks vs dO ls tri (if First i then k0_pay116 else dkt) (if First i then k0_pay117 else dvt)

/-- What one grid point does, all its buffers at their contents: the query gradient is written, the gradients of keys and values are carried on, and
    at a row's last point they are written out. -/
def PointPre (q : FVec F S256x128 .bf16) (ks vs : FVec F S4096x128 .bf16) (dO ls : FVec F S256x128 .f32) (tri : FVec F S512x256 .bf16)
    (x8 : FVec F S256x128 .bf16) (x9 x10 : FVec F S4096x128 .f32) (x11 x12 : FVec F S256x128 .f32) (x13 x14 x15 x16 : FVec F S256x1 .f32)
    (dkt dvt : FVec F S128x4096 .f32) : sProp 𝕄 :=
  iprop(owns (c : Thread nD τ) arg2 fullShare q ∗ owns (c : Thread nD τ) arg3 fullShare ks ∗ owns (c : Thread nD τ) arg4 fullShare vs
    ∗ owns (c : Thread nD τ) arg5 fullShare dO ∗ owns (c : Thread nD τ) arg6 fullShare ls ∗ owns (c : Thread nD τ) arg7 fullShare tri
    ∗ owns (c : Thread nD τ) arg8 fullShare x8 ∗ owns (c : Thread nD τ) arg9 fullShare x9 ∗ owns (c : Thread nD τ) arg10 fullShare x10
    ∗ owns (c : Thread nD τ) arg11 fullShare x11 ∗ owns (c : Thread nD τ) arg12 fullShare x12
    ∗ owns (c : Thread nD τ) arg13 fullShare x13 ∗ owns (c : Thread nD τ) arg14 fullShare x14
    ∗ owns (c : Thread nD τ) arg15 fullShare x15 ∗ owns (c : Thread nD τ) arg16 fullShare x16
    ∗ owns (c : Thread nD τ) arg17 fullShare dkt ∗ owns (c : Thread nD τ) arg18 fullShare dvt)

set_option maxHeartbeats 16000000 in
/-- THE BODY at one grid point is `point`. -/
theorem wp_body (q : FVec F S256x128 .bf16) (ks vs : FVec F S4096x128 .bf16) (dO ls : FVec F S256x128 .f32)
    (tri : FVec F S512x256 .bf16) (x8 : FVec F S256x128 .bf16) (x9 x10 : FVec F S4096x128 .f32) (x11 x12 : FVec F S256x128 .f32)
    (x13 x14 x15 x16 : FVec F S256x1 .f32) (dkt dvt : FVec F S128x4096 .f32) :
    PointPre c arg2 arg3 arg4 arg5 arg6 arg7 arg8 arg9 arg10 arg11 arg12 arg13 arg14 arg15 arg16 arg17 arg18
        q ks vs dO ls tri x8 x9 x10 x11 x12 x13 x14 x15 x16 dkt dvt
      ⊢ wp frame (wpE (defs₀ (F := F)) Variants.none (c : Thread nD τ) none) Set.univ
          (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => PointPre c arg2 arg3 arg4 arg5 arg6 arg7 arg8 arg9 arg10 arg11 arg12 arg13 arg14 arg15 arg16 arg17 arg18
            q ks vs dO ls tri (outQ (pointOf i q ks vs dO ls tri dkt dvt))
            (if Last i then upright (pointOf i q ks vs dO ls tri dkt dvt).dkt else x9)
            (if Last i then upright (pointOf i q ks vs dO ls tri dkt dvt).dvt else x10)
            (pointOf i q ks vs dO ls tri dkt dvt).accA (pointOf i q ks vs dO ls tri dkt dvt).accB
            (pointOf i q ks vs dO ls tri dkt dvt).preA (pointOf i q ks vs dO ls tri dkt dvt).preB
            (pointOf i q ks vs dO ls tri dkt dvt).gpA (pointOf i q ks vs dO ls tri dkt dvt).gpB
            (pointOf i q ks vs dO ls tri dkt dvt).dkt (pointOf i q ks vs dO ls tri dkt dvt).dvt) := by
  have hloop : Held c arg3 arg4 arg11 arg12 arg13 arg14 arg15 arg16 arg17 arg18 ks vs
        (trips (fixedOf q dO tri) ks vs (start i (Scalar.fptosi 32 (k0_pay142 (k0_pay134 ls))))
          (Ready k0_pay136 k0_pay137 (k0_pay135 ls) (k0_pay140 ls) k0_pay138 k0_pay139 (if First i then k0_pay116 else dkt)
            (if First i then k0_pay117 else dvt)) ((i 1).val - start i (Scalar.fptosi 32 (k0_pay142 (k0_pay134 ls)))))
      ⊢ Held c arg3 arg4 arg11 arg12 arg13 arg14 arg15 arg16 arg17 arg18 ks vs
        (looped i q ks vs dO ls tri (if First i then k0_pay116 else dkt) (if First i then k0_pay117 else dvt)) := .rfl
  rw [cc0_attn_bwd_eq_skeleton]
  unfold cc0_attn_bwd_skel PointPre
  iintro ⟨H2, H3, H4, H5, H6, H7, H8, H9, H10, H11, H12, H13, H14, H15, H16, H17, H18⟩
  iapply (exec_cut _ _ _ (wp_part13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    q dO tri dkt dvt)) $$ [H2 H5 H7 H17 H18]
  · isplitl [H2]; · iexact H2
    isplitl [H5]; · iexact H5
    isplitl [H7]; · iexact H7
    isplitl [H17]; · iexact H17
    iexact H18
  iintro %r ⟨%hr, H2, H5, H7, H17, H18⟩
  subst hr
  dsimp only
  iapply (exec_cut _ _ _ (wp_part14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    k0_pay127 (k0_pay128 q) (k0_pay129 dO) zeroF ls x11 x12 x13 x15 x16)) $$ [H6 H11 H12 H13 H15 H16]
  · isplitl [H6]; · iexact H6
    isplitl [H11]; · iexact H11
    isplitl [H12]; · iexact H12
    isplitl [H13]; · iexact H13
    isplitl [H15]; · iexact H15
    iexact H16
  iintro %r ⟨%hr, H6, H11, H12, H13, H15, H16⟩
  subst hr
  dsimp only
  iapply (exec_cut _ _ _ (wp_part15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    (fixedOf q dO tri) ks vs (k0_pay134 ls) (k0_pay135 ls) (k0_pay140 ls) k0_pay136 k0_pay137 x13 x14 k0_pay138 k0_pay139
    (if First i then k0_pay116 else dkt) (if First i then k0_pay117 else dvt))) $$ [H3 H4 H11 H12 H13 H14 H15 H16 H17 H18]
  · isplitl [H3]; · iexact H3
    isplitl [H4]; · iexact H4
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iintro %r ⟨%hr, HH⟩
  subst hr
  dsimp only
  ihave HL := hloop $$ HH
  generalize hL : (looped i q ks vs dO ls tri (if First i then k0_pay116 else dkt) (if First i then k0_pay117 else dvt)) = L
  unfold Held
  icases HL with ⟨H3, H4, H11, H12, H13, H14, H15, H16, H17, H18⟩
  iapply (exec_cut _ _ _ (wp_part16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    (k0_pay118 tri) k0_pay119 (k0_pay150 (fixedOf q dO tri).qb (rows ks (i 1).val (row_lt i))) (k0_pay153 (fixedOf q dO tri).qa (rows ks (i 1).val (row_lt i)))
    (k0_pay154 (fixedOf q dO tri).qa (rows ks (i 1).val (row_lt i))) L.preA)) $$ [H13]
  · iexact H13
  iintro %r ⟨%hr, H13⟩
  subst hr
  dsimp only
  iapply (exec_cut _ _ _ (wp_part17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    (k0_pay118 tri) k0_pay119 (k0_pay151 (fixedOf q dO tri).da (rows vs (i 1).val (row_lt i))) (k0_pay152 (fixedOf q dO tri).db (rows vs (i 1).val (row_lt i)))
    (k0_pay158 (k0_pay150 (fixedOf q dO tri).qb (rows ks (i 1).val (row_lt i)))) (diagSumA (fixedOf q dO tri) (rows ks (i 1).val (row_lt i))) (diagSumB (fixedOf q dO tri) (rows ks (i 1).val (row_lt i)))
    (diagExpA (fixedOf q dO tri) (rows ks (i 1).val (row_lt i)) L) zeroF L.preA L.preB L.gpA)) $$ [H13 H14 H15]
  · isplitl [H13]; · iexact H13
    isplitl [H14]; · iexact H14
    iexact H15
  iintro %r ⟨%hr, H13, H14, H15⟩
  subst hr
  dsimp only
  iapply (exec_cut _ _ _ (wp_part18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    k0_pay119 (fixedOf q dO tri).dta k0_pay148 (k0_pay149 (fixedOf q dO tri).qa (rows ks (i 1).val (row_lt i))) (k0_pay150 (fixedOf q dO tri).qb (rows ks (i 1).val (row_lt i))) (k0_pay154 (fixedOf q dO tri).qa (rows ks (i 1).val (row_lt i)))
    (k0_pay157 (k0_pay150 (fixedOf q dO tri).qb (rows ks (i 1).val (row_lt i))))
    (k0_pay164 k0_pay119 (k0_pay151 (fixedOf q dO tri).da (rows vs (i 1).val (row_lt i))) (diagExpA (fixedOf q dO tri) (rows ks (i 1).val (row_lt i)) L) zeroF)
    (k0_pay165 k0_pay119 (diagExpA (fixedOf q dO tri) (rows ks (i 1).val (row_lt i)) L) zeroF)
    (k0_pay168 k0_pay119 (k0_pay152 (fixedOf q dO tri).db (rows vs (i 1).val (row_lt i))) (k0_pay158 (k0_pay150 (fixedOf q dO tri).qb (rows ks (i 1).val (row_lt i)))) (diagSumB (fixedOf q dO tri) (rows ks (i 1).val (row_lt i))) L.preB)
    (diagGB (fixedOf q dO tri) (rows ks (i 1).val (row_lt i)) (rows vs (i 1).val (row_lt i)) L)
    (k0_pay172 (k0_pay118 tri) k0_pay119 (k0_pay151 (fixedOf q dO tri).da (rows vs (i 1).val (row_lt i))) (diagExpA (fixedOf q dO tri) (rows ks (i 1).val (row_lt i)) L) zeroF L.gpA)
    (k0_pay173 (k0_pay118 tri) k0_pay119 (k0_pay151 (fixedOf q dO tri).da (rows vs (i 1).val (row_lt i))) (diagExpA (fixedOf q dO tri) (rows ks (i 1).val (row_lt i)) L) zeroF L.gpA) L.gpA L.gpA L.gpB)) $$ [H15 H16]
  · isplitl [H15]; · iexact H15
    iexact H16
  iintro %r ⟨%hr, H15, H16⟩
  subst hr
  dsimp only
  iapply (exec_cut _ _ _ (wp_part19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    (BitVec.ofNat 32 (i 1).val) (fixedOf q dO tri).qta (fixedOf q dO tri).qtb (fixedOf q dO tri).dtb (k0_pay145 (rows ks (i 1).val (row_lt i))) k0_pay147
    (k0_pay169 k0_pay119 (k0_pay158 (k0_pay150 (fixedOf q dO tri).qb (rows ks (i 1).val (row_lt i)))) (diagSumB (fixedOf q dO tri) (rows ks (i 1).val (row_lt i))) L.preB)
    (diagDzA (fixedOf q dO tri) (rows ks (i 1).val (row_lt i)) (rows vs (i 1).val (row_lt i)) L) (diagDzB (fixedOf q dO tri) (rows ks (i 1).val (row_lt i)) (rows vs (i 1).val (row_lt i)) L)
    (k0_pay178 (fixedOf q dO tri).dta k0_pay148 (k0_pay165 k0_pay119 (diagExpA (fixedOf q dO tri) (rows ks (i 1).val (row_lt i)) L) zeroF)) (constant S128x256 .f32 0x00000000#32)
    L.accA L.accB L.dkt L.dvt)) $$ [H11 H12 H17 H18]
  · isplitl [H11]; · iexact H11
    isplitl [H12]; · iexact H12
    isplitl [H17]; · iexact H17
    iexact H18
  iintro %r ⟨%hr, H11, H12, H17, H18⟩
  subst hr
  dsimp only
  have hS : pointOf i q ks vs dO ls tri dkt dvt
      = diag (fixedOf q dO tri) (rows ks (i 1).val (row_lt i)) (rows vs (i 1).val (row_lt i)) (i 1).val (row_lt i) L := by
    rw [← hL]; rfl
  rw [hS]
  unfold owns
  icases H8 with ⟨%f8, %h8, H8⟩
  icases H12 with ⟨%f12, %h12, H12⟩
  by_cases hl : Last i
  · rw [if_pos hl, if_pos hl]
    icases H9 with ⟨%f9, %h9, H9⟩
    icases H10 with ⟨%f10, %h10, H10⟩
    icases H17 with ⟨%f17, %h17, H17⟩
    icases H18 with ⟨%f18, %h18, H18⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]
    · iexists _; isplitr; swap; (iexact H8); ipureintro
      refine (View.read_writes_full _ _ _ _ _).trans ?_
      exact congrArg (k0_pay1 k0_pay120 _) ((View.readAt_full _ _ _).trans h12)
    isplitl [H9]
    · iexists _; isplitr; swap; (iexact H9); ipureintro
      funext y
      refine (View.read_writes_apply_of_pieces _ _ (upright (arg17.view.read (Elt F) f17)) _ ?_ y
        (View.cover_of_tiledL (s := S4096x128) _ ![256, 128] (by sl_kernel_rfl) y)).trans (congrFun (congrArg upright h17) y)
      exact List.forall_mem_cons.mpr ⟨fun x => upright_block arg17 f17 3840 _ inb_S4096x128_S256x128_3840_0 x,
        List.forall_mem_cons.mpr ⟨fun x => upright_block arg17 f17 3584 _ inb_S4096x128_S256x128_3584_0 x,
        List.forall_mem_cons.mpr ⟨fun x => upright_block arg17 f17 3328 _ inb_S4096x128_S256x128_3328_0 x,
        List.forall_mem_cons.mpr ⟨fun x => upright_block arg17 f17 3072 _ inb_S4096x128_S256x128_3072_0 x,
        List.forall_mem_cons.mpr ⟨fun x => upright_block arg17 f17 2816 _ inb_S4096x128_S256x128_2816_0 x,
        List.forall_mem_cons.mpr ⟨fun x => upright_block arg17 f17 2560 _ inb_S4096x128_S256x128_2560_0 x,
        List.forall_mem_cons.mpr ⟨fun x => upright_block arg17 f17 2304 _ inb_S4096x128_S256x128_2304_0 x,
        List.forall_mem_cons.mpr ⟨fun x => upright_block arg17 f17 2048 _ inb_S4096x128_S256x128_2048_0 x,
        List.forall_mem_cons.mpr ⟨fun x => upright_block arg17 f17 1792 _ inb_S4096x128_S256x128_1792_0 x,
        List.forall_mem_cons.mpr ⟨fun x => upright_block arg17 f17 1536 _ inb_S4096x128_S256x128_1536_0 x,
        List.forall_mem_cons.mpr ⟨fun x => upright_block arg17 f17 1280 _ inb_S4096x128_S256x128_1280_0 x,
        List.forall_mem_cons.mpr ⟨fun x => upright_block arg17 f17 1024 _ inb_S4096x128_S256x128_1024_0 x,
        List.forall_mem_cons.mpr ⟨fun x => upright_block arg17 f17 768 _ inb_S4096x128_S256x128_768_0 x,
        List.forall_mem_cons.mpr ⟨fun x => upright_block arg17 f17 512 _ inb_S4096x128_S256x128_512_0 x,
        List.forall_mem_cons.mpr ⟨fun x => upright_block arg17 f17 256 _ inb_S4096x128_S256x128_256_0 x,
        List.forall_mem_cons.mpr ⟨fun x => upright_block arg17 f17 0 _ inb_S4096x128_S256x128_0_0 x,
        fun _ h => absurd h List.not_mem_nil⟩⟩⟩⟩⟩⟩⟩⟩⟩⟩⟩⟩⟩⟩⟩⟩
    isplitl [H10]
    · iexists _; isplitr; swap; (iexact H10); ipureintro
      funext y
      refine (View.read_writes_apply_of_pieces _ _ (upright (arg18.view.read (Elt F) f18)) _ ?_ y
        (View.cover_of_tiledL (s := S4096x128) _ ![256, 128] (by sl_kernel_rfl) y)).trans (congrFun (congrArg upright h18) y)
      exact List.forall_mem_cons.mpr ⟨fun x => upright_block arg18 f18 3840 _ inb_S4096x128_S256x128_3840_0 x,
        List.forall_mem_cons.mpr ⟨fun x => upright_block arg18 f18 3584 _ inb_S4096x128_S256x128_3584_0 x,
        List.forall_mem_cons.mpr ⟨fun x => upright_block arg18 f18 3328 _ inb_S4096x128_S256x128_3328_0 x,
        List.forall_mem_cons.mpr ⟨fun x => upright_block arg18 f18 3072 _ inb_S4096x128_S256x128_3072_0 x,
        List.forall_mem_cons.mpr ⟨fun x => upright_block arg18 f18 2816 _ inb_S4096x128_S256x128_2816_0 x,
        List.forall_mem_cons.mpr ⟨fun x => upright_block arg18 f18 2560 _ inb_S4096x128_S256x128_2560_0 x,
        List.forall_mem_cons.mpr ⟨fun x => upright_block arg18 f18 2304 _ inb_S4096x128_S256x128_2304_0 x,
        List.forall_mem_cons.mpr ⟨fun x => upright_block arg18 f18 2048 _ inb_S4096x128_S256x128_2048_0 x,
        List.forall_mem_cons.mpr ⟨fun x => upright_block arg18 f18 1792 _ inb_S4096x128_S256x128_1792_0 x,
        List.forall_mem_cons.mpr ⟨fun x => upright_block arg18 f18 1536 _ inb_S4096x128_S256x128_1536_0 x,
        List.forall_mem_cons.mpr ⟨fun x => upright_block arg18 f18 1280 _ inb_S4096x128_S256x128_1280_0 x,
        List.forall_mem_cons.mpr ⟨fun x => upright_block arg18 f18 1024 _ inb_S4096x128_S256x128_1024_0 x,
        List.forall_mem_cons.mpr ⟨fun x => upright_block arg18 f18 768 _ inb_S4096x128_S256x128_768_0 x,
        List.forall_mem_cons.mpr ⟨fun x => upright_block arg18 f18 512 _ inb_S4096x128_S256x128_512_0 x,
        List.forall_mem_cons.mpr ⟨fun x => upright_block arg18 f18 256 _ inb_S4096x128_S256x128_256_0 x,
        List.forall_mem_cons.mpr ⟨fun x => upright_block arg18 f18 0 _ inb_S4096x128_S256x128_0_0 x,
        fun _ h => absurd h List.not_mem_nil⟩⟩⟩⟩⟩⟩⟩⟩⟩⟩⟩⟩⟩⟩⟩⟩
    isplitl [H11]; · iexact H11
    isplitl [H12]
    · iexists _; isplitr; swap; (iexact H12); ipureintro; exact h12
    isplitl [H13]; · iexact H13
    isplitl [H14]; · iexact H14
    isplitl [H15]; · iexact H15
    isplitl [H16]; · iexact H16
    isplitl [H17]
    · iexists _; isplitr; swap; (iexact H17); ipureintro; exact h17
    iexists _; isplitr; swap; (iexact H18); ipureintro; exact h18
  · rw [if_neg hl, if_neg hl]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]
    · iexists _; isplitr; swap; (iexact H8); ipureintro
      refine (View.read_writes_full _ _ _ _ _).trans ?_
      exact congrArg (k0_pay1 k0_pay120 _) ((View.readAt_full _ _ _).trans h12)
    isplitl [H9]; · iexact H9
    isplitl [H10]; · iexact H10
    isplitl [H11]; · iexact H11
    isplitl [H12]
    · iexists _; isplitr; swap; (iexact H12); ipureintro; exact h12
    isplitl [H13]; · iexact H13
    isplitl [H14]; · iexact H14
    isplitl [H15]; · iexact H15
    isplitl [H16]; · iexact H16
    isplitl [H17]; · iexact H17
    iexact H18
end Body

end Cert.KernelIdeal.Own

end
-- ==== Proof.Ideal.Frame.lean ====
/- The launch: what every buffer holds after each grid point, the body's obligation at any point, the run of the whole program, and its
   frame. A grid point is entered with the gradients of keys and values that the point before left (`carry`); a row's first point starts
   them afresh, so what lies there before it does not matter. -/
module

public import proofs.«01_k».proof.Proof.Ideal.Body
public import proofs.«01_k».proof.Proof.Gen.KernelIdeal.Frame
public import proofs.«01_k».proof.Proof.Gen.KernelIdeal.Points
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points -/

/-- The first point of a row, in closed form. -/
theorem first_iff : ∀ t : Fin cfg0.N, First (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [First, e0, e1]
    word_cmp
   : ∀ t : Fin grid0.N, First (grid0.coords t) ↔ t.val % 16 = 0)

/-- The last point of a row. -/
theorem last_iff : ∀ t : Fin cfg0.N, Last (grid0.coords t) ↔ t.val % 16 = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [Last, k0_cond2, e0, e1]
    word_cmp
   : ∀ t : Fin grid0.N, Last (grid0.coords t) ↔ t.val % 16 = 15)

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
/-- The window of result 1 is idle away from a row's last point, where it is not written back, -/
theorem idle_7 (t : Fin cfg0.N) (h : ¬Last (grid0.coords t)) : cfg0.idle 7 (grid0.coords t) = true := by
  change (!(k0_cond2 (grid0.coords t) == 1#1)) = true
  simpa using h
theorem noFlush_7 (t : Fin cfg0.N) (h : ¬Last (grid0.coords t)) : (cfg0.win 7).flush t = false :=
  Bool.eq_false_iff.mpr fun hf => h ((last_iff t).mpr ((flush0_7 t).mp hf))
/-- and live at it. -/
theorem live_7 (t : Fin cfg0.N) (h : Last (grid0.coords t)) : cfg0.idle 7 (grid0.coords t) = false := by
  change (!(k0_cond2 (grid0.coords t) == 1#1)) = false
  simpa using h
/-- The window of result 2 is idle away from a row's last point, where it is not written back, -/
theorem idle_8 (t : Fin cfg0.N) (h : ¬Last (grid0.coords t)) : cfg0.idle 8 (grid0.coords t) = true := by
  change (!(k0_cond2 (grid0.coords t) == 1#1)) = true
  simpa using h
theorem noFlush_8 (t : Fin cfg0.N) (h : ¬Last (grid0.coords t)) : (cfg0.win 8).flush t = false :=
  Bool.eq_false_iff.mpr fun hf => h ((last_iff t).mpr ((flush0_8 t).mp hf))
/-- and live at it. -/
theorem live_8 (t : Fin cfg0.N) (h : Last (grid0.coords t)) : cfg0.idle 8 (grid0.coords t) = false := by
  change (!(k0_cond2 (grid0.coords t) == 1#1)) = false
  simpa using h

/-! ## The memrefs -/

abbrev ms0 (t : Fin cfg0.N) : Memref sig .tc .vmem S256x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4096x128 .f32 := win0_8.stage (cfg0.slots t 8)
abbrev hs8 (t : Fin cfg0.N) : (ms8 t).IsWhole := hstage0_8 ((cfg0.slots t 8).cast nbuf0_8)
abbrev sc0 : Memref sig .tc .vmem S256x128 .f32 := Memref.whole cc0_scratch0
abbrev sc1 : Memref sig .tc .vmem S256x128 .f32 := Memref.whole cc0_scratch1
abbrev sc2 : Memref sig .tc .vmem S256x1 .f32 := Memref.whole cc0_scratch2
abbrev sc3 : Memref sig .tc .vmem S256x1 .f32 := Memref.whole cc0_scratch3
abbrev sc4 : Memref sig .tc .vmem S256x1 .f32 := Memref.whole cc0_scratch4
abbrev sc5 : Memref sig .tc .vmem S256x1 .f32 := Memref.whole cc0_scratch5
abbrev sc6 : Memref sig .tc .vmem S128x4096 .f32 := Memref.whole cc0_scratch6
abbrev sc7 : Memref sig .tc .vmem S128x4096 .f32 := Memref.whole cc0_scratch7

/-- The scratch buffers that no point hands to the next, each at some contents. -/
def Scratch (c : Dev nD) : sProp 𝕄 :=
  iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d))

/-- The launch's invariant, the scratch buffers as memrefs. -/
theorem scratch_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)
          ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

/-! ## What the buffers hold after each point -/

/-- What point `t` leaves when it finds the gradients `dkt` and `dvt`. -/
def stepAt (c : Dev nD) (t : Fin cfg0.N) (dkt dvt : FVec F S128x4096 .f32) : St F :=
  pointOf (grid0.coords t) (iblk m c 0 t) (iblk m c 1 t) (iblk m c 2 t) (iblk m c 3 t) (iblk m c 4 t) (iblk m c 5 t) dkt dvt

/-- A row's first point does not look at what it finds. -/
theorem stepAt_first (c : Dev nD) (t : Fin cfg0.N) (h : First (grid0.coords t)) (a b a' b' : FVec F S128x4096 .f32) :
    stepAt m c t a b = stepAt m c t a' b' := by
  unfold stepAt pointOf
  rw [if_pos h, if_pos h, if_pos h, if_pos h]

/-- What the point at position `n` leaves. -/
def carry (c : Dev nD) : (n : ℕ) → n < cfg0.N → St F
  | 0, h => stepAt m c ⟨0, h⟩ k0_pay116 k0_pay117
  | n + 1, h => stepAt m c ⟨n + 1, h⟩ (carry c n (Nat.lt_of_succ_lt h)).dkt (carry c n (Nat.lt_of_succ_lt h)).dvt

/-- The region's invariant before position `n`: the scratch, and the gradients of keys and values where the point before left them. -/
def PhiS (c : Dev nD) : (n : ℕ) → n ≤ cfg0.N → sProp 𝕄
  | 0, _ => Pipeline.ΦA spec0 c
  | n + 1, hn => iprop(Scratch c ∗ owns (c : Thread nD τ) sc6 fullShare (carry m c n hn).dkt
      ∗ owns (c : Thread nD τ) sc7 fullShare (carry m c n hn).dvt ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (carry m c t.val t.isLt)
    | ⟨7, _⟩ => upright (carry m c t.val t.isLt).dkt
    | ⟨8, _⟩ => upright (carry m c t.val t.isLt).dvt
  Φ t := PhiS m c t.val (Nat.le_of_lt_succ t.isLt)
  q _ := fullShare
  owed _ := 0

/-- The arrays are those that the region finds. -/
theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outQ (carry m c t.val t.isLt) := by dsimp only [dats]
theorem after_7 (c : Dev nD) (t : Fin cfg0.N) : (dats m 0 c).after 7 t = upright (carry m c t.val t.isLt).dkt := by dsimp only [dats]
theorem after_8 (c : Dev nD) (t : Fin cfg0.N) : (dats m 0 c).after 8 t = upright (carry m c t.val t.isLt).dvt := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body's obligation -/

/-- Before any point: the scratch, and gradients `a` and `b` from which the point makes what `carry` says. -/
theorem Phi_open (c : Dev nD) (t : Fin cfg0.N) :
    PhiS m c t.val (Nat.le_of_lt t.isLt) ⊢ iprop(∃ a b, ⌜stepAt m c t a b = carry m c t.val t.isLt⌝ ∗ Scratch c
      ∗ owns (c : Thread nD τ) sc6 fullShare a ∗ owns (c : Thread nD τ) sc7 fullShare b ∗ (∃ r, prngReg c r)) := by
  obtain ⟨n, hn⟩ := t
  cases n with
  | zero =>
    rw [show PhiS m c (⟨0, hn⟩ : Fin cfg0.N).val (Nat.le_of_lt hn) = Pipeline.ΦA spec0 c from rfl, scratch_eq]
    unfold Scratch
    iintro ⟨⟨H0, H1, H2, H3, H4, H5, ⟨%a, H6⟩, ⟨%b, H7⟩⟩, Hg⟩
    iexists a, b
    isplitr
    · ipureintro
      exact stepAt_first m c _ ((first_iff _).mpr rfl) _ _ _ _
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    iexact Hg
  | succ n =>
    rw [show PhiS m c (⟨n + 1, hn⟩ : Fin cfg0.N).val (Nat.le_of_lt hn) = iprop(Scratch c
      ∗ owns (c : Thread nD τ) sc6 fullShare (carry m c n (Nat.lt_of_succ_lt hn)).dkt
      ∗ owns (c : Thread nD τ) sc7 fullShare (carry m c n (Nat.lt_of_succ_lt hn)).dvt ∗ (∃ r, prngReg c r)) from rfl]
    iintro ⟨HS, H6, H7, Hg⟩
    iexists _, _
    isplitr
    · ipureintro; rfl
    isplitl [HS]; · iexact HS
    isplitl [H6]; · iexact H6
    isplitl [H7]; · iexact H7
    iexact Hg

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = iprop(Scratch c ∗ owns (c : Thread nD τ) sc6 fullShare (carry m c t.val t.isLt).dkt
      ∗ owns (c : Thread nD τ) sc7 fullShare (carry m c t.val t.isLt).dvt ∗ (∃ r, prngReg c r)) from rfl, PhiS_castSucc m c t]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ' := Phi_open m c t $$ HΦ
  icases HΦ' with ⟨%a, %b, %hab, HS, K6, K7, Hg⟩
  unfold Scratch
  icases HS with ⟨⟨%x0, K0⟩, ⟨%x1, K1⟩, ⟨%x2, K2⟩, ⟨%x3, K3⟩, ⟨%x4, K4⟩, ⟨%x5, K5⟩⟩
  unfold stepAt at hab
  have hb := wp_body c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _)
    (iblk m c 0 t) (iblk m c 1 t) (iblk m c 2 t) (iblk m c 3 t) (iblk m c 4 t) (iblk m c 5 t)
    ((dats m 0 c).before 6 t d6) ((dats m 0 c).before 7 t d7) ((dats m 0 c).before 8 t d8) x0 x1 x2 x3 x4 x5 a b
  rw [hab] at hb
  unfold PointPre at hb
  iapply (exec_cut_last _ _ _ hb) $$ [H0 H1 H2 H3 H4 H5 H6 H7 H8 K0 K1 K2 K3 K4 K5 K6 K7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  iintro %_ ⟨H0, H1, H2, H3, H4, H5, H6, H7, H8, K0, K1, K2, K3, K4, K5, K6, K7⟩
  isplitl [K0 K1 K2 K3 K4 K5 K6 K7 Hg]
  · isplitl [K0 K1 K2 K3 K4 K5]
    · isplitl [K0]; · iexists _; iexact K0
      isplitl [K1]; · iexists _; iexact K1
      isplitl [K2]; · iexists _; iexact K2
      isplitl [K3]; · iexists _; iexact K3
      isplitl [K4]; · iexists _; iexact K4
      iexists _; iexact K5
    isplitl [K6]; · iexact K6
    isplitl [K7]; · iexact K7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h : Last (grid0.coords t)
  · rw [if_pos h, if_pos h]
    rw [show (dats m 0 c).leavesExact 7 t = owns (c : Thread nD τ) (ms7 t) fullShare ((dats m 0 c).after 7 t) from by
      unfold Dat.leavesExact; rw [live_7 t h], after_7]
    rw [show (dats m 0 c).leavesExact 8 t = owns (c : Thread nD τ) (ms8 t) fullShare ((dats m 0 c).after 8 t) from by
      unfold Dat.leavesExact; rw [live_8 t h], after_8]
    isplitl [H7]; · iexact H7
    iexact H8
  · rw [if_neg h, if_neg h]
    rw [Dat.leavesExact_idle (dats m 0 c) 7 t (idle_7 t h) (noFlush_7 t h), Dat.leavesExact_idle (dats m 0 c) 8 t (idle_8 t h) (noFlush_8 t h)]
    isplitl [H7]; · iexists _; iexact H7
    iexists _; iexact H8

/-- The body table's row at point `t`'s slots. -/
theorem defs₀_row (t : Fin cfg0.N) : defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = Pipeline.ΦA spec0 c from rfl]

/-- After the last point the invariant gives it back. -/
theorem hout (c : Dev nD) : (dats m 0 c).Φ (Fin.last cfg0.N) ⊢ Pipeline.ΦA spec0 c := by
  have hN : cfg0.N = 127 + 1 := N_0
  have key : ∀ (n : ℕ) (h : n ≤ cfg0.N) (h0 : n ≠ 0), PhiS m c n h ⊢ Pipeline.ΦA spec0 c := by
    intro n h h0
    cases n with
    | zero => exact absurd rfl h0
    | succ n =>
      rw [show PhiS m c (n + 1) h = iprop(Scratch c ∗ owns (c : Thread nD τ) sc6 fullShare (carry m c n h).dkt
        ∗ owns (c : Thread nD τ) sc7 fullShare (carry m c n h).dvt ∗ (∃ r, prngReg c r)) from rfl, scratch_eq]
      unfold Scratch
      iintro ⟨⟨H0, H1, H2, H3, H4, H5⟩, H6, H7, Hg⟩
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      iexact Hg
  exact key (Fin.last cfg0.N).val (Nat.le_of_lt_succ (Fin.last cfg0.N).isLt) (by rw [Fin.val_last, hN]; exact Nat.succ_ne_zero _)

/-! ## The run and the frame -/

set_option backward.isDefEq.respectTransparency.types false in
/-- THE RUN: every execution ends with each array at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Own

end
-- ==== Proof.Bits.Frame.lean ====
/- The frame of the program over its own constants. -/
module

public import proofs.«01_k».proof.Defs
public import proofs.«01_k».proof.Proof.Ideal.Frame
public import proofs.«01_k».proof.Proof.Gen.Kernel

@[expose] public section

set_option maxRecDepth 65536
set_option maxHeartbeats 4000000

noncomputable section

namespace Cert.Kernel.Own

open Idealize.ShloMosaic

/-- The named constants, each the number that its bits denote. -/
@[reducible] def plain : Named Bits := ⟨fun _ _ φ b => Scalar.ofBits φ b⟩

local instance : Named Bits := plain

/-- The two texts differ in the named constant alone, and that is the number its bits denote. -/
theorem body_eq : Cert.Kernel.cc0_attn_bwd (F := Bits) = Cert.KernelIdeal.cc0_attn_bwd (F := Bits) := rfl

theorem defs0_eq : Cert.Kernel.defs₀ (F := Bits) = Cert.KernelIdeal.defs₀ (F := Bits) := by
  unfold Cert.Kernel.defs₀ Cert.KernelIdeal.defs₀
  rw [body_eq]
  refine congrArg Defs.onTc (funext fun l => funext fun x => ?_)
  obtain ⟨n, h⟩ := l
  cases n with
  | zero => rfl
  | succ n => exact absurd h (Nat.not_lt.2 (Nat.le_add_left _ _))
theorem defs_eq : Cert.Kernel.defs (F := Bits) = Cert.KernelIdeal.defs (F := Bits) :=
  congrArg (Pipeline.defs (Cert.KernelIdeal.pcfgs (F := Bits))) defs0_eq

theorem main_eq : Cert.Kernel.main (F := Bits) = Cert.KernelIdeal.main (F := Bits) := rfl

variable (m : (ℓ : Loc nD τ sig) → Buf (Elt Bits) ℓ) (ρ : Dev nD → PrngReg)

theorem frame : θ_run (Cert.Kernel.defs (F := Bits)) (onTc (τ := τ) (Cert.Kernel.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq, main_eq]
  exact Cert.KernelIdeal.Own.frame m ρ

end Cert.Kernel.Own

end
-- ==== Proof.Value.Real.lean ====
/- The stick-breaking attention's gradient over the real numbers, entry by entry, and the same sums taken block by block. -/
module

public import Mathlib.Analysis.SpecialFunctions.Pow.Real
public import Mathlib.Algebra.BigOperators.Intervals

@[expose] public section

noncomputable section

namespace Cert.Real

open Finset

/-- The logarithm of the logistic function. -/
def lsig (z : ℝ) : ℝ := -Real.log (1 + Real.exp (-z))

/-- The logistic function. -/
def sg (z : ℝ) : ℝ := 1 / (1 + Real.exp (-z))

theorem one_add_exp_pos (z : ℝ) : 0 < 1 + Real.exp z := by positivity

theorem exp_lsig (z : ℝ) : Real.exp (lsig z) = sg z := by
  rw [lsig, Real.exp_neg, Real.exp_log (one_add_exp_pos _), sg, one_div]

/-- The two log-logistics differ by the logit. -/
theorem lsig_sub (z : ℝ) : lsig z - z = lsig (-z) := by
  unfold lsig
  have h : 1 + Real.exp (- -z) = Real.exp z * (1 + Real.exp (-z)) := by
    rw [mul_add, ← Real.exp_add]; simp [add_comm]
  rw [h, Real.log_mul (Real.exp_ne_zero _) (one_add_exp_pos _).ne', Real.log_exp]
  ring

/-- The log-logistic, written so that no exponential grows. -/
theorem lsig_eq (z : ℝ) : lsig z = min z 0 - Real.log (1 + Real.exp (-|z|)) := by
  rcases le_total 0 z with h | h
  · rw [abs_of_nonneg h, min_eq_right h, lsig]; ring
  · rw [abs_of_nonpos h, min_eq_left h, ← sub_add_cancel (lsig z) z, lsig_sub, lsig]; ring

theorem sg_add (z : ℝ) : sg z + sg (-z) = 1 := by
  unfold sg
  have h := Real.exp_pos z
  rw [Real.exp_neg, neg_neg]
  field_simp
  ring

/-- The logistic function, written so that no exponential grows. -/
theorem sg_eq (z : ℝ) :
    sg z = if 0 ≤ z then 1 / (1 + Real.exp (-|z|)) else Real.exp (-|z|) * (1 / (1 + Real.exp (-|z|))) := by
  split_ifs with h
  · rw [abs_of_nonneg h, sg]
  · rw [abs_of_nonpos (le_of_not_ge h), neg_neg, sg, Real.exp_neg]
    have h := Real.exp_pos z
    field_simp
    ring

/-! ## One block of keys -/

section Block

variable (M : ℕ → ℕ → Prop) [∀ r c, Decidable (M r c)] (z da : ℕ → ℕ → ℝ) (P G : ℕ → ℝ)

/-- The logarithm of the part of the stick a key leaves, where the mask lets it. -/
def lmB (r c : ℕ) : ℝ := if M r c then lsig (-z r c) else 0

/-- A key's attention weight, `P` being the log-remainder from the block's start on. -/
def aB (r c : ℕ) : ℝ := if M r c then Real.exp (lsig (z r c) + (P r - ∑ j ∈ range (c + 1), lmB M z r j)) else 0

/-- The weight times its gradient. -/
def gB (r c : ℕ) : ℝ := aB M z P r c * da r c

/-- The logit's gradient, `G` being the weighted gradients before the block. -/
def dzB (r c : ℕ) : ℝ :=
  if M r c then gB M z da P r c - sg (z r c) * (gB M z da P r c + (G r + (∑ j ∈ range (c + 1), gB M z da P r j - gB M z da P r c))) else 0

end Block

/-! ## The whole row -/

section Whole

variable (X K V D : ℕ → ℕ → ℝ)

/-- Head `h`'s logit of key `s` at query `t`; the queries come scaled. -/
def z (h t s : ℕ) : ℝ := ∑ d ∈ range 64, X t (64 * h + d) * K s (64 * h + d)

/-- The gradient of its attention weight. -/
def da (h t s : ℕ) : ℝ := ∑ d ∈ range 64, D t (64 * h + d) * V s (64 * h + d)

/-- The logarithm of the part of the stick it leaves. -/
def lm (h t s : ℕ) : ℝ := if s < t then lsig (-z X K h t s) else 0

/-- Those summed over the first `n` keys. -/
def P (h t n : ℕ) : ℝ := ∑ j ∈ range n, lm X K h t j

/-- The attention weight. -/
def a (h t s : ℕ) : ℝ := if s < t then Real.exp (lsig (z X K h t s) + (P X K h t 4096 - P X K h t (s + 1))) else 0

/-- The weight times its gradient. -/
def g (h t s : ℕ) : ℝ := a X K h t s * da V D h t s

/-- Those summed over the first `n` keys. -/
def G (h t n : ℕ) : ℝ := ∑ j ∈ range n, g X K V D h t j

/-- The logit's gradient. -/
def dz (h t s : ℕ) : ℝ :=
  if s < t then g X K V D h t s - sg (z X K h t s) * (g X K V D h t s + G X K V D h t s) else 0

/-! ### Its blocks -/

section

variable (h i n : ℕ)

/-- Whether key `c` of block `n` comes before query `r` of block `i`. -/
abbrev Before (r c : ℕ) : Prop := 256 * n + c < 256 * i + r

/-- Block `n` of the logits of the rows of block `i`. -/
def zAt (r c : ℕ) : ℝ := z X K h (256 * i + r) (256 * n + c)
/-- Block `n` of the gradients of their weights. -/
def daAt (r c : ℕ) : ℝ := da V D h (256 * i + r) (256 * n + c)
/-- The log-remainder from block `n` on. -/
def PAt (r : ℕ) : ℝ := P X K h (256 * i + r) 4096 - P X K h (256 * i + r) (256 * n)
/-- The weighted gradients before block `n`. -/
def GAt (r : ℕ) : ℝ := G X K V D h (256 * i + r) (256 * n)

theorem lm_block (r c : ℕ) : lmB (Before i n) (zAt X K h i n) r c = lm X K h (256 * i + r) (256 * n + c) := rfl

theorem P_block (r c : ℕ) :
    ∑ j ∈ range c, lmB (Before i n) (zAt X K h i n) r j = P X K h (256 * i + r) (256 * n + c) - P X K h (256 * i + r) (256 * n) := by
  unfold P; rw [sum_range_add]; simp only [lm_block]; ring

theorem P_next (r : ℕ) : PAt X K h i n r - ∑ j ∈ range 256, lmB (Before i n) (zAt X K h i n) r j = PAt X K h i (n + 1) r := by
  rw [P_block]; unfold PAt; rw [mul_add]; ring

theorem a_block (r c : ℕ) : aB (Before i n) (zAt X K h i n) (PAt X K h i n) r c = a X K h (256 * i + r) (256 * n + c) := by
  unfold aB a
  rw [P_block]; unfold PAt zAt
  refine if_congr Iff.rfl ?_ rfl
  congr 2; rw [← add_assoc]; ring

theorem g_block (r c : ℕ) :
    gB (Before i n) (zAt X K h i n) (daAt V D h i n) (PAt X K h i n) r c = g X K V D h (256 * i + r) (256 * n + c) := by
  unfold gB g; rw [a_block]; rfl

theorem G_block (r c : ℕ) :
    ∑ j ∈ range c, gB (Before i n) (zAt X K h i n) (daAt V D h i n) (PAt X K h i n) r j
      = G X K V D h (256 * i + r) (256 * n + c) - G X K V D h (256 * i + r) (256 * n) := by
  unfold G; rw [sum_range_add]; simp only [g_block]; ring

theorem G_next (r : ℕ) :
    GAt X K V D h i n r + ∑ j ∈ range 256, gB (Before i n) (zAt X K h i n) (daAt V D h i n) (PAt X K h i n) r j
      = GAt X K V D h i (n + 1) r := by
  rw [G_block]; unfold GAt; rw [mul_add]; ring

theorem dz_block (r c : ℕ) :
    dzB (Before i n) (zAt X K h i n) (daAt V D h i n) (PAt X K h i n) (GAt X K V D h i n) r c
      = dz X K V D h (256 * i + r) (256 * n + c) := by
  unfold dzB dz
  rw [G_block, g_block]; unfold GAt zAt
  refine if_congr Iff.rfl ?_ rfl
  have e : G X K V D h (256 * i + r) (256 * n + (c + 1))
      = G X K V D h (256 * i + r) (256 * n + c) + g X K V D h (256 * i + r) (256 * n + c) := sum_range_succ _ _
  rw [e]; ring

end

theorem dz_zero {h t s : ℕ} (hs : t ≤ s) : dz X K V D h t s = 0 := if_neg (by omega)

theorem a_zero {h t s : ℕ} (hs : t ≤ s) : a X K h t s = 0 := if_neg (by omega)

/-! ### The gradients -/

/-- The query gradient. -/
def DQ (t j : ℕ) : ℝ := (∑ s ∈ range 4096, dz X K V D (j / 64) t s * K s j) * (1 / 8)
/-- The key gradient. -/
def DK (s j : ℕ) : ℝ := ∑ t ∈ range 4096, X t j * dz X K V D (j / 64) t s
/-- The value gradient. -/
def DV (s j : ℕ) : ℝ := ∑ t ∈ range 4096, D t j * a X K (j / 64) t s

end Whole

/-- The queries, scaled. -/
def scaled (Q : ℕ → ℕ → ℝ) (t j : ℕ) : ℝ := Q t j * (1 / 8)

end Cert.Real

end
-- ==== Proof.Value.Mat.lean ====
/- Arrays of extended reals whose entries are all real, and the scalar expressions of the attention gradient at real arguments. -/
module

public import proofs.«01_k».proof.Proof.Value.Real
public import Idealize.ShloMosaic.Lib.Pointwise
public import Idealize.ShloMosaic.PureOps.IdealRules

@[expose] public section

set_option maxRecDepth 16384

noncomputable section

namespace Cert.Mat

open Idealize.ShloMosaic Cert.Real

/-- The array whose entry at row `r` and column `c` is the real `f r c`. -/
def mat (φ : FTy) (a b : ℕ) (f : ℕ → ℕ → ℝ) : FVec Ideal ⟨2, ![a, b]⟩ φ := fun j => ((f (j 0).val (j 1).val : ℝ) : EReal)

@[simp] theorem mat_ix2 {a b : ℕ} {φ : FTy} (f : ℕ → ℕ → ℝ) (r : Fin a) (c : Fin b) :
    mat φ a b f (ix2 r c) = ((f r.val c.val : ℝ) : EReal) := rfl

theorem mat_congr {a b : ℕ} {φ : FTy} {f f' : ℕ → ℕ → ℝ} (h : ∀ r < a, ∀ c < b, f r c = f' r c) :
    mat φ a b f = mat φ a b f' := by
  funext j; exact congrArg _ (h _ (j 0).isLt _ (j 1).isLt)

/-- An array is `mat f` if each entry is. -/
theorem eq_mat {a b : ℕ} {φ : FTy} {x : FVec Ideal ⟨2, ![a, b]⟩ φ} {f : ℕ → ℕ → ℝ}
    (h : ∀ (r : Fin a) (c : Fin b), x (ix2 r c) = ((f r.val c.val : ℝ) : EReal)) : x = mat φ a b f := by
  funext j; rw [eq_ix2 j]; exact h _ _

theorem sum_coe {n : ℕ} (f : ℕ → ℝ) : ∑ k : Fin n, ((f k.val : ℝ) : EReal) = ((∑ k ∈ Finset.range n, f k : ℝ) : EReal) := by
  rw [← Fin.sum_univ_eq_sum_range]
  induction (Finset.univ : Finset (Fin n)) using Finset.cons_induction with
  | empty => simp
  | cons a s ha ih => rw [Finset.sum_cons, Finset.sum_cons, EReal.coe_add, ih]

theorem sum_mul_coe {n : ℕ} (f g : ℕ → ℝ) :
    ∑ k : Fin n, ((f k.val : ℝ) : EReal) * ((g k.val : ℝ) : EReal) = ((∑ k ∈ Finset.range n, f k * g k : ℝ) : EReal) := by
  rw [← sum_coe]; exact Finset.sum_congr rfl fun k _ => (EReal.coe_mul _ _).symm

theorem coe_min (x y : ℝ) : min (x : EReal) (y : EReal) = ((min x y : ℝ) : EReal) := (EReal.coe_strictMono.monotone.map_min).symm
theorem coe_max (x y : ℝ) : max (x : EReal) (y : EReal) = ((max x y : ℝ) : EReal) := (EReal.coe_strictMono.monotone.map_max).symm

/-- The base-2 logarithm of `e`. -/
abbrev L : ℝ := (Real.log 2)⁻¹

theorem log2_pos : 0 < Real.log 2 := Real.log_pos (by norm_num)

theorem L_pos : 0 < L := inv_pos.2 log2_pos

/-- A power of two of a base-2 logarithm's multiple is an exponential. -/
theorem rpow_two (x : ℝ) : Real.rpow 2 (x * L) = Real.exp x := by
  change (2 : ℝ) ^ (x * L) = _
  rw [Real.rpow_def_of_pos (by norm_num)]
  congr 1
  unfold L
  have := log2_pos.ne'
  field_simp

theorem exp2_real (x : ℝ) : Ideal.exp2 (x : EReal) = ((Real.rpow 2 x : ℝ) : EReal) := Ideal.exp2_coe x

/-- The exponential of minus the logit's size, as a power of two. -/
theorem e_scalar (x : ℝ) :
    (FloatOps.exp2 (F := Ideal) (φ := .f32) (0 - FloatOps.absf (F := Ideal) (φ := .f32) ((x : EReal) * (L : ℝ)) : EReal) : EReal)
      = ((Real.exp (-|x|) : ℝ) : EReal) := by
  change Ideal.exp2 (0 - max ((x : EReal) * (L : ℝ)) (-((x : EReal) * (L : ℝ)))) = _
  rw [← EReal.coe_mul, ← EReal.coe_neg, coe_max, ← EReal.coe_zero, ← EReal.coe_sub, exp2_real]
  congr 1
  rw [← rpow_two]
  congr 1
  rw [zero_sub, neg_mul]
  congr 1
  change |x * L| = _; rw [abs_mul, abs_of_pos L_pos]

theorem log_real {x : ℝ} (h : 0 < x) : Ideal.log (x : EReal) = ((Real.log x : ℝ) : EReal) := by
  rw [Ideal.log_coe, if_neg (not_le.2 h)]

/-- The log-logistic in base 2. -/
theorem lb_scalar (x : ℝ) :
    (min ((x : EReal) * (L : ℝ)) 0 - Ideal.log (1 + ((Real.exp (-|x|) : ℝ) : EReal)) * (L : ℝ) : EReal) = ((lsig x * L : ℝ) : EReal) := by
  rw [← EReal.coe_one, ← EReal.coe_add, log_real (one_add_exp_pos _), ← EReal.coe_mul, ← EReal.coe_mul, ← EReal.coe_zero, coe_min,
    ← EReal.coe_sub, lsig_eq, sub_mul, min_mul_of_nonneg _ _ L_pos.le, zero_mul]

theorem div_real (x : ℝ) {y : ℝ} (h : y ≠ 0) : Ideal.div (x : EReal) (y : EReal) = ((x / y : ℝ) : EReal) := by
  rw [Ideal.div_coe h, ← EReal.coe_mul]; congr 1; ring

/-- The logistic function, from the exponential of minus the logit's size. -/
theorem sg_scalar (x : ℝ) :
    (if (0 : EReal) ≤ (x : EReal) then Ideal.div 1 (1 + ((Real.exp (-|x|) : ℝ) : EReal))
      else ((Real.exp (-|x|) : ℝ) : EReal) * Ideal.div 1 (1 + ((Real.exp (-|x|) : ℝ) : EReal))) = ((sg x : ℝ) : EReal) := by
  have e : Ideal.div (1 : EReal) (1 + ((Real.exp (-|x|) : ℝ) : EReal)) = ((1 / (1 + Real.exp (-|x|)) : ℝ) : EReal) := by
    rw [← EReal.coe_one, ← EReal.coe_add, div_real _ (one_add_exp_pos _).ne']
  rw [e, sg_eq, ← EReal.coe_mul]
  simp only [EReal.coe_nonneg]
  split_ifs <;> rfl

/-- The triangle of ones, twice over. -/
def triR (r c : ℕ) : ℝ := if r % 256 ≤ c then 1 else 0

/-- A row against the triangle sums its entries up to the column. -/
theorem sum_tri (f : ℕ → ℝ) {c : ℕ} (hc : c < 256) :
    ∑ j ∈ Finset.range 256, f j * triR j c = ∑ j ∈ Finset.range (c + 1), f j := by
  have e : ∀ j ∈ Finset.range 256, f j * triR j c = if j ∈ Finset.range (c + 1) then f j else 0 := by
    intro j hj
    have := Finset.mem_range.1 hj
    rw [triR, Nat.mod_eq_of_lt this, mul_ite, mul_one, mul_zero]
    refine if_congr ?_ rfl rfl
    rw [Finset.mem_range]; omega
  rw [Finset.sum_congr rfl e, ← Finset.sum_filter]
  refine Finset.sum_congr ?_ fun _ _ => rfl
  ext j; simp only [Finset.mem_filter, Finset.mem_range]; omega

end Cert.Mat

end
-- ==== Proof.Value.Finite.lean ====
/- The precondition: arguments whose entries are all real. -/
module

public import proofs.«01_k».proof.Pre_finite
public import proofs.«01_k».proof.Proof.Value.Mat
public import Idealize.ShloMosaic.Lib.ReduceAll

@[expose] public section

set_option maxRecDepth 16384

noncomputable section

namespace Cert.Pre_finite

open Idealize.ShloMosaic Cert.Mat

instance facts : Cert.Pre_finite.Facts where
  bcast_S_S4096x1024 := by decide
  reducesTo_S4096x1024_S_d0_1 := by decide
  h_S_ := by decide

open Facts

theorem and_one : ∀ x y : BitVec 1, IntOp.andi x y = 1#1 → x = 1#1 ∧ y = 1#1 := by decide

/-- Each entry of an array of this kind is below infinity in absolute value. -/
def allReal (x : FVec Ideal S4096x1024 .f32) : IVec S_ 1 :=
  Host.reduce IntOp.andi (cmpf .olt (Host.absf x) (broadcastInDim S4096x1024 ![] bcast_S_S4096x1024 (constant S_ .f32 0x7F800000#32)))
    (constantI S_ 1 1#1) reducesTo_S4096x1024_S_d0_1 h_S_

theorem real_of_abs (x : EReal) (h : max x (-x) < ⊤) : x = ((x.toReal : ℝ) : EReal) := by
  refine (EReal.coe_toReal ?_ ?_).symm
  · rintro rfl; simp at h
  · rintro rfl; simp at h

theorem real_of_all {x : FVec Ideal S4096x1024 .f32} {j : S_.Idx} (h : allReal x j = 1#1) : ∃ f, x = mat .f32 4096 1024 f := by
  refine ⟨fun r c => if e : r < 4096 ∧ c < 1024 then (x (ix2 ⟨r, e.1⟩ ⟨c, e.2⟩)).toReal else 0, eq_mat fun r c => ?_⟩
  rw [dif_pos ⟨r.isLt, c.isLt⟩]
  have e := Host.reduce_andi_all _ _ _ _ j h (ix2 r c)
  have b : Ideal.ofBits .f32 0x7F800000#32 = (⊤ : EReal) := by simp [Ideal.ofBits, Ideal.ieee]
  refine real_of_abs _ ?_
  change BitVec.ofBool (decide (max (x (ix2 r c)) (-x (ix2 r c)) < Ideal.ofBits .f32 0x7F800000#32)) = 1#1 at e
  rw [b] at e
  by_contra hn
  rw [decide_eq_false hn] at e
  exact absurd e (by decide)

theorem real_of_finite {x0 x1 x2 x3 : FVec Ideal S4096x1024 .f32} (h : fn (F := Ideal) x0 x1 x2 x3 = fun _ => 1#1) :
    (∃ f, x0 = mat .f32 4096 1024 f) ∧ (∃ f, x1 = mat .f32 4096 1024 f) ∧ (∃ f, x2 = mat .f32 4096 1024 f) ∧ ∃ f, x3 = mat .f32 4096 1024 f := by
  have e : IntOp.andi (IntOp.andi (IntOp.andi (allReal x0 ix0) (allReal x1 ix0)) (allReal x2 ix0)) (allReal x3 ix0) = 1#1 := congrFun h ix0
  obtain ⟨e, e3⟩ := and_one _ _ e
  obtain ⟨e, e2⟩ := and_one _ _ e
  obtain ⟨e0, e1⟩ := and_one _ _ e
  exact ⟨real_of_all e0, real_of_all e1, real_of_all e2, real_of_all e3⟩

end Cert.Pre_finite

end
-- ==== Proof.Value.Pay.lean ====
/- What the printed operations of one key block compute on real arguments: the real formulas of the block. -/
module

public import proofs.«01_k».proof.Proof.Value.Mat
public import proofs.«01_k».proof.Proof.Gen.KernelIdeal.Skeleton
public import Idealize.ShloMosaic.Lib.WordCmp

@[expose] public section

set_option maxRecDepth 16384

noncomputable section

namespace Cert.KernelIdeal.Own

open Cert.KernelIdeal Cert.KernelIdeal.Gen Cert.Mat Cert.Real
open Idealize.ShloMosaic Idealize.ShloMosaic.TcCoe

theorem log2e : Named.named (F := Ideal) κ "log2e" (φ := .f32) 0x3FB8AA3B#32 = ((L : ℝ) : EReal) :=
  IdealRules.named_const.ideal_named_scalar _ _ _ _ rfl

/-! ## Products -/

theorem pay8_mat (q k : ℕ → ℕ → ℝ) : k0_pay8 (F := Ideal) (mat .bf16 256 128 q) (mat .bf16 256 128 k)
    = mat .f32 256 256 fun r c => ∑ d ∈ Finset.range 128, q r d * k c d := by
  refine eq_mat fun r c => ?_
  pointwise [k0_pay8, k0_pay4, mat_ix2, sum_mul_coe]

theorem pay10_mat (q k : ℕ → ℕ → ℝ) : k0_pay10 (F := Ideal) (mat .bf16 256 128 q) (mat .bf16 256 128 k)
    = mat .f32 256 256 fun r c => ∑ d ∈ Finset.range 128, q r d * k c d := by
  refine eq_mat fun r c => ?_
  pointwise [k0_pay10, k0_pay5, mat_ix2, sum_mul_coe]

/-- A head's query-gradient accumulator. -/
theorem pay41_mat (k dz acc : ℕ → ℕ → ℝ) :
    k0_pay41 (F := Ideal) (k0_pay4 (mat .bf16 256 128 k)) (mat .bf16 256 256 dz) (mat .f32 256 128 acc)
      = mat .f32 256 128 fun r d => acc r d + ∑ c ∈ Finset.range 256, dz r c * k c d := by
  refine eq_mat fun r c => ?_
  pointwise [k0_pay41, k0_pay4, mat_ix2]
  rw [sum_mul_coe (fun x => dz r x) (fun x => k x c), ← EReal.coe_add]

/-- The keys' gradient of one block. -/
theorem pay181_mat (qa qb da db old : ℕ → ℕ → ℝ) :
    k0_pay181 (F := Ideal) (mat .bf16 128 256 qa) (mat .bf16 128 256 qb) k0_pay147 (mat .bf16 256 256 da) (mat .bf16 256 256 db)
        (constant S128x256 .f32 0x00000000#32) (mat .f32 128 256 old)
      = mat .f32 128 256 fun l c => old l c + (∑ r ∈ Finset.range 256, qa l r * da r c + ∑ r ∈ Finset.range 256, qb l r * db r c) := by
  refine eq_mat fun r c => ?_
  pointwise [k0_pay181, k0_pay147, mat_ix2]
  rw [sum_mul_coe (fun x => qa r x) (fun x => da x c), sum_mul_coe (fun x => qb r x) (fun x => db x c), ← EReal.coe_add, ← EReal.coe_add]

/-- The values' gradient of one block. -/
theorem pay182_mat (qa qb da db old : ℕ → ℕ → ℝ) :
    k0_pay182 (F := Ideal) (mat .bf16 128 256 qb) (mat .bf16 256 256 db)
        (k0_pay178 (mat .bf16 128 256 qa) k0_pay148 (mat .bf16 256 256 da)) (mat .f32 128 256 old)
      = mat .f32 128 256 fun l c => old l c + (∑ r ∈ Finset.range 256, qa l r * da r c + ∑ r ∈ Finset.range 256, qb l r * db r c) := by
  refine eq_mat fun r c => ?_
  pointwise [k0_pay182, k0_pay178, k0_pay148, mat_ix2]
  rw [sum_mul_coe (fun x => qa r x) (fun x => da x c), sum_mul_coe (fun x => qb r x) (fun x => db x c), ← EReal.coe_add, ← EReal.coe_add]

/-! ## One block, every key before every query -/

section Free

variable (M : ℕ → ℕ → Prop) [∀ r c, Decidable (M r c)] (hM : ∀ r < 256, ∀ c < 256, M r c)
  {q k dO v : FVec Ideal S256x128 .bf16} {z da : ℕ → ℕ → ℝ} (P G : ℕ → ℝ)
  (hz : k0_pay8 (F := Ideal) q k = mat .f32 256 256 z) (hd : k0_pay10 (F := Ideal) dO v = mat .f32 256 256 da)

include hz in
theorem pay13_mat : k0_pay13 (F := Ideal) q k = mat .f32 256 256 fun r c => Real.exp (-|z r c|) := by
  refine eq_mat fun r c => ?_
  pointwise [k0_pay13, k0_pay12, hz, mat_ix2, log2e, e_scalar]

include hz in
theorem pay14_mat : k0_pay14 (F := Ideal) q k = mat .f32 256 256 fun r c => lsig (z r c) * L := by
  refine eq_mat fun r c => ?_
  pointwise [k0_pay14, k0_pay12, pay13_mat hz, hz, mat_ix2, log2e, lb_scalar]

include hz hM in
theorem pay15_mat : k0_pay15 (F := Ideal) q k = mat .f32 256 256 fun r c => lmB M z r c * L := by
  refine eq_mat fun r c => ?_
  pointwise [k0_pay15, k0_pay12, pay14_mat hz, hz, mat_ix2, log2e]
  rw [lmB, if_pos (hM _ r.isLt _ c.isLt), ← EReal.coe_mul, ← EReal.coe_sub, ← sub_mul, lsig_sub]

theorem sub_self_real (x : ℝ) : (x : EReal) - (x : EReal) = 0 := by rw [← EReal.coe_sub, sub_self, EReal.coe_zero]

/-- The sums along a block, of the sum of its leading part and of what that leaves. -/
theorem pay20_mat (x : ℕ → ℕ → ℝ) : k0_pay20 (F := Ideal) (mat .bf16 512 256 triR) (mat .f32 256 256 x)
    = mat .f32 256 256 fun r c => ∑ j ∈ Finset.range (c + 1), x r j := by
  refine eq_mat fun r c => ?_
  pointwise [k0_pay20, mat_ix2, sub_self_real]
  simp only [zero_mul, Finset.sum_const_zero, add_zero]
  rw [sum_mul_coe (fun j => x r j) (fun j => triR j c), sum_tri _ c.isLt]

/-- The attention weights of a block. -/
theorem a_scalar (x p s : ℝ) : Ideal.exp2 ((x * L : ℝ) + (((p * L : ℝ) : EReal) - ((s * L : ℝ) : EReal)))
    = ((Real.exp (x + (p - s)) : ℝ) : EReal) := by
  rw [← EReal.coe_sub, ← EReal.coe_add, exp2_real, ← sub_mul, ← add_mul, rpow_two]

include hz hM in
theorem pay22_mat :
    k0_pay22 (F := Ideal) (mat .bf16 512 256 triR) (k0_pay14 q k) (k0_pay15 q k) (mat .f32 256 1 fun r _ => P r * L)
      = mat .f32 256 256 (aB M z P) := by
  refine eq_mat fun r c => ?_
  pointwise [k0_pay22, pay14_mat hz, pay15_mat M hM hz, pay20_mat, mat_ix2]
  rw [← Finset.sum_mul, aB, if_pos (hM _ r.isLt _ c.isLt)]
  exact a_scalar _ _ _

include hz hM in
theorem pay23_mat :
    k0_pay23 (F := Ideal) (mat .bf16 512 256 triR) (k0_pay15 q k) (mat .f32 256 1 fun r _ => P r * L)
      = mat .f32 256 1 fun r _ => (P r - ∑ j ∈ Finset.range 256, lmB M z r j) * L := by
  refine eq_mat fun r c => ?_
  have hc : c = 0 := Subsingleton.elim _ _
  subst hc
  pointwise [k0_pay23, pay15_mat M hM hz, pay20_mat, mat_ix2]
  rw [← Finset.sum_mul, sub_mul, EReal.coe_sub]

include hz hd hM in
theorem pay24_mat :
    k0_pay24 (F := Ideal) (mat .bf16 512 256 triR) (k0_pay10 dO v) (k0_pay14 q k) (k0_pay15 q k) (mat .f32 256 1 fun r _ => P r * L)
      = mat .f32 256 256 (gB M z da P) := by
  refine eq_mat fun r c => ?_
  pointwise [k0_pay24, pay22_mat M hM P hz, hd, mat_ix2]
  rw [← EReal.coe_mul, gB]

include hz hM in
theorem pay25_mat :
    k0_pay25 (F := Ideal) (mat .bf16 512 256 triR) (k0_pay14 q k) (k0_pay15 q k) (mat .f32 256 1 fun r _ => P r * L)
      = mat .bf16 256 256 (aB M z P) := by
  refine eq_mat fun r c => ?_
  pointwise [k0_pay25, pay22_mat M hM P hz, mat_ix2]

include hz hd hM in
theorem pay30_mat :
    k0_pay30 (F := Ideal) (mat .bf16 512 256 triR) (k0_pay10 dO v) (k0_pay14 q k) (k0_pay15 q k) (mat .f32 256 1 fun r _ => P r * L)
      = mat .bf16 256 256 (gB M z da P) := by
  refine eq_mat fun r c => ?_
  pointwise [k0_pay30, pay24_mat M hM P hz hd, mat_ix2]

theorem pay31_mat : k0_pay31 (F := Ideal) (mat .bf16 512 256 triR) = mat .bf16 256 256 triR := by
  refine eq_mat fun r c => ?_
  pointwise [k0_pay31, mat_ix2]

theorem pay32_mat (x : ℕ → ℕ → ℝ) : k0_pay32 (F := Ideal) (mat .bf16 256 256 x) (mat .bf16 256 256 triR)
    = mat .f32 256 256 fun r c => ∑ j ∈ Finset.range (c + 1), x r j := by
  refine eq_mat fun r c => ?_
  pointwise [k0_pay32, mat_ix2]
  rw [sum_mul_coe (fun j => x r j) (fun j => triR j c), sum_tri _ c.isLt]

theorem pay34_mat (x : ℕ → ℕ → ℝ) :
    k0_pay34 (F := Ideal) (mat .bf16 256 256 x) (mat .bf16 256 256 triR) (mat .f32 256 1 fun r _ => G r)
      = mat .f32 256 1 fun r _ => G r + ∑ j ∈ Finset.range 256, x r j := by
  refine eq_mat fun r c => ?_
  have hc : c = 0 := Subsingleton.elim _ _
  subst hc
  pointwise [k0_pay34, pay32_mat, mat_ix2]
  rw [EReal.coe_add]

theorem dz_scalar (g s G p : ℝ) : (g : EReal) - (s : EReal) * ((g : EReal) + ((G : EReal) + ((p : EReal) - (g : EReal))))
    = ((g - s * (g + (G + (p - g))) : ℝ) : EReal) := by push_cast; rfl

include hz hM in
theorem pay35_mat :
    k0_pay35 (F := Ideal) (k0_pay8 q k) (k0_pay13 q k) (mat .f32 256 256 (gB M z da P)) (mat .bf16 256 256 (gB M z da P))
        (mat .bf16 256 256 triR) (mat .f32 256 1 fun r _ => G r)
      = mat .bf16 256 256 (dzB M z da P G) := by
  refine eq_mat fun r c => ?_
  pointwise [k0_pay35, pay32_mat, pay13_mat hz, hz, mat_ix2, sg_scalar]
  rw [dz_scalar, dzB, if_pos (hM _ r.isLt _ c.isLt)]

end Free

/-! ## The block of the query itself, under the mask -/

/-- The mask on a block: the key's column before the query's row. -/
theorem select_mask (r c : Fin 256) (x y : EReal) :
    Scalar.select (k0_pay119 (ix2 r c)) x y = if c.val < r.val then x else y := by
  pointwise [k0_pay119]
  have hr := r.isLt; have hc := c.isLt
  word_cmp

/-- The lanes of the first head. -/
theorem select_lane (l : Fin 128) (x y : EReal) : Scalar.select (k0_pay120 (ix2 0 l)) x y = if l.val < 64 then x else y := by
  pointwise [k0_pay120]
  have hr := l.isLt
  word_cmp

theorem select_row (l : Fin 128) (x y : EReal) : Scalar.select (k0_pay127 (ix2 l 0)) x y = if l.val < 64 then x else y := by
  pointwise [k0_pay127]
  have hr := l.isLt
  word_cmp

section Masked

variable (M : ℕ → ℕ → Prop) [∀ r c, Decidable (M r c)] (hM : ∀ r < 256, ∀ c < 256, M r c ↔ c < r)
  {q k dO v : FVec Ideal S256x128 .bf16} {z da : ℕ → ℕ → ℝ} (P G : ℕ → ℝ)
  (hz : k0_pay8 (F := Ideal) q k = mat .f32 256 256 z) (hd : k0_pay10 (F := Ideal) dO v = mat .f32 256 256 da)
  (o : Ideal .f32) (ho : o = (0 : EReal))

include hz in
theorem pay155_mat : k0_pay155 (F := Ideal) (k0_pay153 q k) (k0_pay154 q k) = mat .f32 256 256 fun r c => lsig (z r c) * L := pay14_mat hz

include hz hM in
theorem masked_mat :
    select k0_pay119 (subf (k0_pay155 (F := Ideal) (k0_pay153 q k) (k0_pay154 q k)) (k0_pay153 q k))
        (broadcast S256x256 (Scalar.ofBits .f32 0x00000000#32))
      = mat .f32 256 256 fun r c => lmB M z r c * L := by
  refine eq_mat fun r c => ?_
  rw [pay155_mat hz, show k0_pay153 (F := Ideal) q k = k0_pay12 q k from rfl]
  pointwise [k0_pay12, hz, mat_ix2, log2e]
  rw [select_mask, lmB]
  by_cases h : c.val < r.val
  · rw [if_pos h, if_pos ((hM _ r.isLt _ c.isLt).2 h), ← EReal.coe_mul, ← EReal.coe_sub, ← sub_mul, lsig_sub]
  · rw [if_neg h, if_neg fun h' => h ((hM _ r.isLt _ c.isLt).1 h'), zero_mul, EReal.coe_zero]

include hz hM in
theorem pay159_mat : k0_pay159 (F := Ideal) (mat .bf16 512 256 triR) k0_pay119 (k0_pay153 q k) (k0_pay154 q k)
    = mat .f32 256 256 fun r c => (∑ j ∈ Finset.range (c + 1), lmB M z r j) * L := by
  refine (congrArg (k0_pay20 (mat .bf16 512 256 triR)) (masked_mat M hM hz)).trans ((pay20_mat _).trans ?_)
  exact mat_congr fun r _ c _ => (Finset.sum_mul ..).symm

include hz hM ho in
theorem pay162_mat :
    k0_pay162 (F := Ideal) k0_pay119 (k0_pay161 (mat .bf16 512 256 triR) k0_pay119 (k0_pay153 q k) (k0_pay154 q k)
        (mat .f32 256 1 fun r _ => P r * L)) o
      = mat .f32 256 256 (aB M z P) := by
  refine eq_mat fun r c => ?_
  pointwise [k0_pay162, k0_pay161, ho, pay155_mat hz, pay159_mat M hM hz, mat_ix2]
  rw [select_mask, aB]
  by_cases h : c.val < r.val
  · rw [if_pos h, if_pos ((hM _ r.isLt _ c.isLt).2 h)]; exact a_scalar _ _ _
  · rw [if_neg h, if_neg fun h' => h ((hM _ r.isLt _ c.isLt).1 h')]; exact EReal.coe_zero.symm

include hz hM in
theorem pay163_mat :
    k0_pay163 (F := Ideal) (k0_pay159 (mat .bf16 512 256 triR) k0_pay119 (k0_pay153 q k) (k0_pay154 q k)) (mat .f32 256 1 fun r _ => P r * L)
      = mat .f32 256 1 fun r _ => (P r - ∑ j ∈ Finset.range 256, lmB M z r j) * L := by
  refine eq_mat fun r c => ?_
  have hc : c = 0 := Subsingleton.elim _ _
  subst hc
  pointwise [k0_pay163, pay159_mat M hM hz, mat_ix2]
  rw [sub_mul, EReal.coe_sub]

include hz hd hM ho in
theorem pay164_mat :
    k0_pay164 (F := Ideal) k0_pay119 (k0_pay10 dO v) (k0_pay161 (mat .bf16 512 256 triR) k0_pay119 (k0_pay153 q k) (k0_pay154 q k)
        (mat .f32 256 1 fun r _ => P r * L)) o
      = mat .f32 256 256 (gB M z da P) := by
  refine eq_mat fun r c => ?_
  pointwise [k0_pay164, pay162_mat M hM P hz o ho, hd, mat_ix2]
  rw [← EReal.coe_mul, gB]

include hz hM ho in
theorem pay165_mat :
    k0_pay165 (F := Ideal) k0_pay119 (k0_pay161 (mat .bf16 512 256 triR) k0_pay119 (k0_pay153 q k) (k0_pay154 q k)
        (mat .f32 256 1 fun r _ => P r * L)) o
      = mat .bf16 256 256 (aB M z P) := by
  refine eq_mat fun r c => ?_
  pointwise [k0_pay165, pay162_mat M hM P hz o ho, mat_ix2]

include hz hd hM ho in
theorem pay170_mat :
    k0_pay170 (F := Ideal) (mat .bf16 512 256 triR) k0_pay119 (k0_pay10 dO v) (k0_pay161 (mat .bf16 512 256 triR) k0_pay119
        (k0_pay153 q k) (k0_pay154 q k) (mat .f32 256 1 fun r _ => P r * L)) o
      = mat .f32 256 256 fun r c => ∑ j ∈ Finset.range (c + 1), gB M z da P r j := by
  refine eq_mat fun r c => ?_
  pointwise [k0_pay170, pay164_mat M hM P hz hd o ho, mat_ix2]
  rw [sum_mul_coe (fun j => gB M z da P r j) (fun j => triR j c), sum_tri _ c.isLt]

include hz hd hM ho in
theorem pay174_mat :
    k0_pay174 (F := Ideal) (k0_pay173 (mat .bf16 512 256 triR) k0_pay119 (k0_pay10 dO v) (k0_pay161 (mat .bf16 512 256 triR) k0_pay119
        (k0_pay153 q k) (k0_pay154 q k) (mat .f32 256 1 fun r _ => P r * L)) o (mat .f32 256 1 fun r _ => G r))
      = mat .f32 256 1 fun r _ => G r + ∑ j ∈ Finset.range 256, gB M z da P r j := by
  refine eq_mat fun r c => ?_
  have hc : c = 0 := Subsingleton.elim _ _
  subst hc
  pointwise [k0_pay174, k0_pay173, pay170_mat M hM P hz hd o ho, mat_ix2]
  rw [EReal.coe_add]

include hz hd hM ho in
theorem pay172_mat :
    k0_pay172 (F := Ideal) (mat .bf16 512 256 triR) k0_pay119 (k0_pay10 dO v) (k0_pay161 (mat .bf16 512 256 triR) k0_pay119
          (k0_pay153 q k) (k0_pay154 q k) (mat .f32 256 1 fun r _ => P r * L)) o (mat .f32 256 1 fun r _ => G r)
      = mat .f32 256 256 fun r c => G r + (∑ j ∈ Finset.range (c + 1), gB M z da P r j - gB M z da P r c) := by
  refine eq_mat fun r c => ?_
  pointwise [k0_pay172, pay170_mat M hM P hz hd o ho, pay164_mat M hM P hz hd o ho, mat_ix2]
  rw [← EReal.coe_sub, ← EReal.coe_add]

include hz hd hM ho in
theorem pay175_mat :
    k0_pay175 (F := Ideal) k0_pay119 (k0_pay8 q k) (k0_pay154 q k) (mat .f32 256 256 (gB M z da P))
        (k0_pay172 (mat .bf16 512 256 triR) k0_pay119 (k0_pay10 dO v) (k0_pay161 (mat .bf16 512 256 triR) k0_pay119
          (k0_pay153 q k) (k0_pay154 q k) (mat .f32 256 1 fun r _ => P r * L)) o (mat .f32 256 1 fun r _ => G r))
      = mat .bf16 256 256 (dzB M z da P G) := by
  refine eq_mat fun r c => ?_
  rw [pay172_mat M hM P G hz hd o ho, show k0_pay154 (F := Ideal) q k = k0_pay13 q k from rfl, pay13_mat hz, hz]
  pointwise [k0_pay175, mat_ix2, sg_scalar]
  rw [select_mask, dzB]
  by_cases h : c.val < r.val
  · rw [if_pos h, if_pos ((hM _ r.isLt _ c.isLt).2 h)]; exact dz_scalar _ _ _ _
  · rw [if_neg h, if_neg fun h' => h ((hM _ r.isLt _ c.isLt).1 h')]; exact EReal.coe_zero.symm

end Masked

/-! ## What a grid point starts from -/

theorem lanes_real (l : ℕ) (x y : ℝ) : (if l < 64 then (x : EReal) else (y : EReal)) = ((if l < 64 then x else y : ℝ) : EReal) := by
  split_ifs <;> rfl

theorem pay123_mat (x : ℕ → ℕ → ℝ) : k0_pay123 (F := Ideal) (mat .bf16 256 128 x) = mat .bf16 256 128 fun r l => if l < 64 then x r l else 0 := by
  refine eq_mat fun r c => ?_
  pointwise [k0_pay123, k0_pay121, k0_pay122, mat_ix2]
  rw [select_lane, ← lanes_real]; rfl

theorem pay124_mat (x : ℕ → ℕ → ℝ) : k0_pay124 (F := Ideal) (mat .bf16 256 128 x) = mat .bf16 256 128 fun r l => if l < 64 then 0 else x r l := by
  refine eq_mat fun r c => ?_
  pointwise [k0_pay124, k0_pay121, k0_pay122, mat_ix2]
  rw [select_lane, ← lanes_real]; rfl

theorem pay125_mat (x : ℕ → ℕ → ℝ) : k0_pay125 (F := Ideal) (mat .f32 256 128 x) = mat .bf16 256 128 fun r l => if l < 64 then x r l else 0 := by
  refine eq_mat fun r c => ?_
  pointwise [k0_pay125, mat_ix2]
  rw [select_lane, ← lanes_real]; rfl

theorem pay126_mat (x : ℕ → ℕ → ℝ) : k0_pay126 (F := Ideal) (mat .f32 256 128 x) = mat .bf16 256 128 fun r l => if l < 64 then 0 else x r l := by
  refine eq_mat fun r c => ?_
  pointwise [k0_pay126, mat_ix2]
  rw [select_lane, ← lanes_real]; rfl

theorem pay130_mat (x : ℕ → ℕ → ℝ) : k0_pay130 (F := Ideal) (mat .bf16 256 128 x) = mat .bf16 128 256 fun l r => if l < 64 then x r l else 0 := by
  refine eq_mat fun r c => ?_
  pointwise [k0_pay130, k0_pay128, k0_pay121, mat_ix2]
  rw [select_row, ← lanes_real]; rfl

theorem pay131_mat (x : ℕ → ℕ → ℝ) : k0_pay131 (F := Ideal) k0_pay127 (k0_pay128 (mat .bf16 256 128 x)) (Scalar.ofBits .f32 0x00000000#32)
    = mat .bf16 128 256 fun l r => if l < 64 then 0 else x r l := by
  refine eq_mat fun r c => ?_
  pointwise [k0_pay131, k0_pay128, k0_pay121, mat_ix2]
  rw [select_row, ← lanes_real]; rfl

theorem pay132_mat (x : ℕ → ℕ → ℝ) : k0_pay132 (F := Ideal) k0_pay127 (k0_pay129 (mat .f32 256 128 x))
    = mat .bf16 128 256 fun l r => if l < 64 then x r l else 0 := by
  refine eq_mat fun r c => ?_
  pointwise [k0_pay132, k0_pay129, mat_ix2]
  rw [select_row, ← lanes_real]; rfl

theorem pay133_mat (x : ℕ → ℕ → ℝ) : k0_pay133 (F := Ideal) k0_pay127 (k0_pay129 (mat .f32 256 128 x))
    = mat .bf16 128 256 fun l r => if l < 64 then 0 else x r l := by
  refine eq_mat fun r c => ?_
  pointwise [k0_pay133, k0_pay129, mat_ix2]
  rw [select_row, ← lanes_real]; rfl

theorem eighth : Ideal.ofBits .f32 0x3E000000#32 = (((1 : ℝ) / 8 : ℝ) : EReal) := by
  simp only [Ideal.ofBits, Ideal.ieee]
  simp
  rw [← EReal.coe_mul]
  norm_num

/-- The query gradient a grid point writes. -/
theorem pay1_mat (x y : ℕ → ℕ → ℝ) : k0_pay1 (F := Ideal) k0_pay120 (mat .f32 256 128 x) (mat .f32 256 128 y)
    = mat .bf16 256 128 fun r l => (if l < 64 then x r l else y r l) * (1 / 8) := by
  refine eq_mat fun r c => ?_
  pointwise [k0_pay1, mat_ix2, eighth]
  rw [select_lane, lanes_real, ← EReal.coe_mul]

end Cert.KernelIdeal.Own

end
-- ==== Proof.Value.Step.lean ====
/- The kernel's passage over a block of keys, taken by real matrices to real matrices. -/
module

public import proofs.«01_k».proof.Proof.Value.Pay
public import proofs.«01_k».proof.Proof.Ideal.Body

@[expose] public section

set_option maxRecDepth 16384

noncomputable section

namespace Cert.KernelIdeal.Own

open Cert.KernelIdeal Cert.KernelIdeal.Gen Cert.Mat Cert.Real Finset
open Idealize.ShloMosaic Idealize.ShloMosaic.TcCoe

/-! ## Blocks of a matrix -/

theorem rows_mat (f : ℕ → ℕ → ℝ) (n : ℕ) (h : n < 16) :
    rows (mat .bf16 4096 128 f) n h = mat .bf16 256 128 fun c l => f (256 * n + c) l := by
  funext y
  change ((f (256 * n + 1 * (y 0).val) (0 + 1 * (y 1).val) : ℝ) : EReal) = ((f (256 * n + (y 0).val) (y 1).val : ℝ) : EReal)
  rw [one_mul, one_mul, zero_add]

theorem cols_mat (f : ℕ → ℕ → ℝ) (n : ℕ) (h : n < 16) :
    cols (mat .f32 128 4096 f) n h = mat .f32 128 256 fun l c => f l (256 * n + c) := by
  funext y
  change ((f (0 + 1 * (y 0).val) (256 * n + 1 * (y 1).val) : ℝ) : EReal) = ((f (y 0).val (256 * n + (y 1).val) : ℝ) : EReal)
  rw [one_mul, one_mul, zero_add]

theorem setCols_mat (f w : ℕ → ℕ → ℝ) (n : ℕ) :
    setCols (mat .f32 128 4096 f) n (mat .f32 128 256 w)
      = mat .f32 128 4096 fun l s => if 256 * n ≤ s ∧ s < 256 * n + 256 then w l (s - 256 * n) else f l s := by
  funext y
  by_cases h : 256 * n ≤ (y 1).val ∧ (y 1).val < 256 * n + 256
  · have h' : ∀ a, (![0, 256 * n] : Fin 2 → ℕ) a ≤ (y a).val ∧ (y a).val < (![0, 256 * n] : Fin 2 → ℕ) a + S128x256.size a := by
      intro a
      fin_cases a
      · have h0 : (y 0).val < 128 := (y 0).isLt
        exact ⟨Nat.zero_le _, by change (y 0).val < 0 + 128; omega⟩
      · exact h
    have e : setCols (mat .f32 128 4096 f) n (mat .f32 128 256 w) y = ((w ((y 0).val - 0) ((y 1).val - 256 * n) : ℝ) : EReal) := dif_pos h'
    rw [e, Nat.sub_zero]
    exact congrArg _ (if_pos h).symm
  · have h' : ¬ ∀ a, (![0, 256 * n] : Fin 2 → ℕ) a ≤ (y a).val ∧ (y a).val < (![0, 256 * n] : Fin 2 → ℕ) a + S128x256.size a := fun hh => h (hh 1)
    have e : setCols (mat .f32 128 4096 f) n (mat .f32 128 256 w) y = ((f (y 0).val (y 1).val : ℝ) : EReal) := dif_neg h'
    rw [e]
    exact congrArg _ (if_neg h).symm

/-! ## The two heads of a column block -/

/-- The columns of the first head, the others zero. -/
def lo (x : ℕ → ℕ → ℝ) (p t l : ℕ) : ℝ := if l < 64 then x t (128 * p + l) else 0

/-- The columns of the second head, the others zero. -/
def hi (x : ℕ → ℕ → ℝ) (p t l : ℕ) : ℝ := if l < 64 then 0 else x t (128 * p + l)

theorem sum_lo (X K : ℕ → ℕ → ℝ) (p t s : ℕ) :
    ∑ d ∈ range 128, lo X p t d * K s (128 * p + d) = ∑ d ∈ range 64, X t (64 * (2 * p) + d) * K s (64 * (2 * p) + d) := by
  rw [show 128 = 64 + 64 from rfl, sum_range_add]
  have h : ∑ d ∈ range 64, lo X p t (64 + d) * K s (128 * p + (64 + d)) = 0 := sum_eq_zero fun d _ => by
    rw [lo, if_neg (by omega), zero_mul]
  rw [show 64 + 64 = 128 from rfl, h, add_zero]
  refine sum_congr rfl fun d hd => ?_
  rw [lo, if_pos (mem_range.1 hd), show 64 * (2 * p) = 128 * p by omega]

theorem sum_hi (X K : ℕ → ℕ → ℝ) (p t s : ℕ) :
    ∑ d ∈ range 128, hi X p t d * K s (128 * p + d) = ∑ d ∈ range 64, X t (64 * (2 * p + 1) + d) * K s (64 * (2 * p + 1) + d) := by
  rw [show 128 = 64 + 64 from rfl, sum_range_add]
  have h : ∑ d ∈ range 64, hi X p t d * K s (128 * p + d) = 0 := sum_eq_zero fun d hd => by
    rw [hi, if_pos (mem_range.1 hd), zero_mul]
  rw [show 64 + 64 = 128 from rfl, h, zero_add]
  refine sum_congr rfl fun d hd => ?_
  rw [hi, if_neg (by omega), show 64 * (2 * p + 1) + d = 128 * p + (64 + d) by omega]

section

variable (X K V D : ℕ → ℕ → ℝ) (p i : ℕ)

/-- What a grid point's passage holds fixed. -/
def fixR : Fixed Ideal where
  tri := mat .bf16 512 256 triR
  qa := mat .bf16 256 128 fun r l => lo X p (256 * i + r) l
  qb := mat .bf16 256 128 fun r l => hi X p (256 * i + r) l
  da := mat .bf16 256 128 fun r l => lo D p (256 * i + r) l
  db := mat .bf16 256 128 fun r l => hi D p (256 * i + r) l
  qta := mat .bf16 128 256 fun l r => lo X p (256 * i + r) l
  qtb := mat .bf16 128 256 fun l r => hi X p (256 * i + r) l
  dta := mat .bf16 128 256 fun l r => lo D p (256 * i + r) l
  dtb := mat .bf16 128 256 fun l r => hi D p (256 * i + r) l

/-- The column block of the keys (or values). -/
def keysR (x : ℕ → ℕ → ℝ) (p : ℕ) : FVec Ideal S4096x128 .bf16 := mat .bf16 4096 128 fun s l => x s (128 * p + l)

/-- Head `h`'s query gradient over the first `n` blocks of keys. -/
def accR (h n r l : ℕ) : ℝ := ∑ s ∈ range (256 * n), dz X K V D h (256 * i + r) s * K s (128 * p + l)

/-- One query's share of a key's gradient. -/
def wk (l t s : ℕ) : ℝ := lo X p t l * dz X K V D (2 * p) t s + hi X p t l * dz X K V D (2 * p + 1) t s

/-- One query's share of a value's gradient. -/
def wv (l t s : ℕ) : ℝ := lo D p t l * a X K (2 * p) t s + hi D p t l * a X K (2 * p + 1) t s

/-- The shares of the queries before block `i`, and those of block `i` for the first `n` blocks of keys. -/
def part (w : ℕ → ℕ → ℕ → ℝ) (n l s : ℕ) : ℝ :=
  ∑ t ∈ range (256 * i), w l t s + if s < 256 * n then ∑ r ∈ range 256, w l (256 * i + r) s else 0

/-- The state before block `n` of the keys. -/
def stR (n : ℕ) : St Ideal where
  accA := mat .f32 256 128 (accR X K V D p i (2 * p) n)
  accB := mat .f32 256 128 (accR X K V D p i (2 * p + 1) n)
  preA := mat .f32 256 1 fun r _ => PAt X K (2 * p) i n r * L
  preB := mat .f32 256 1 fun r _ => PAt X K (2 * p + 1) i n r * L
  gpA := mat .f32 256 1 fun r _ => GAt X K V D (2 * p) i n r
  gpB := mat .f32 256 1 fun r _ => GAt X K V D (2 * p + 1) i n r
  dkt := mat .f32 128 4096 (part i (wk X K V D p) n)
  dvt := mat .f32 128 4096 (part i (wv X K D p) n)

/-! ### The next block of each part -/

theorem acc_next (h n r l : ℕ) :
    accR X K V D p i h n r l + ∑ c ∈ range 256, dzB (Before i n) (zAt X K h i n) (daAt V D h i n) (PAt X K h i n) (GAt X K V D h i n) r c
        * K (256 * n + c) (128 * p + l) = accR X K V D p i h (n + 1) r l := by
  unfold accR
  rw [mul_add, mul_one, sum_range_add]
  simp only [dz_block]

theorem setCols_part (w : ℕ → ℕ → ℕ → ℝ) (f : ℕ → ℕ → ℝ) (n : ℕ)
    (hf : ∀ l < 128, ∀ c < 256, f l c = part i w n l (256 * n + c) + ∑ r ∈ range 256, w l (256 * i + r) (256 * n + c)) :
    setCols (mat .f32 128 4096 (part i w n)) n (mat .f32 128 256 f) = mat .f32 128 4096 (part i w (n + 1)) := by
  rw [setCols_mat]
  refine mat_congr fun l hl s _ => ?_
  unfold part
  split_ifs with h1 h2 h3 h3 h4 <;> try omega
  · rw [hf l hl _ (by omega), part, if_neg (by omega), show 256 * n + (s - 256 * n) = s by omega, add_zero]
  · rfl
  · rfl

theorem dk_step (n : ℕ) (hp : n < 16) :
    setCols (stR X K V D p i n).dkt n (k0_pay181 (fixR X D p i).qta (fixR X D p i).qtb k0_pay147
      (mat .bf16 256 256 fun r c => dz X K V D (2 * p) (256 * i + r) (256 * n + c))
      (mat .bf16 256 256 fun r c => dz X K V D (2 * p + 1) (256 * i + r) (256 * n + c))
      (constant S128x256 .f32 0x00000000#32) (cols (stR X K V D p i n).dkt n hp))
    = (stR X K V D p i (n + 1)).dkt := by
  simp only [fixR, stR]
  rw [cols_mat, pay181_mat]
  refine setCols_part i _ _ n fun l _ c _ => ?_
  rw [← sum_add_distrib]; rfl

theorem dv_step (n : ℕ) (hp : n < 16) :
    setCols (stR X K V D p i n).dvt n (k0_pay182 (fixR X D p i).dtb
      (mat .bf16 256 256 fun r c => a X K (2 * p + 1) (256 * i + r) (256 * n + c))
      (k0_pay178 (fixR X D p i).dta k0_pay148 (mat .bf16 256 256 fun r c => a X K (2 * p) (256 * i + r) (256 * n + c)))
      (cols (stR X K V D p i n).dvt n hp))
    = (stR X K V D p i (n + 1)).dvt := by
  simp only [fixR, stR]
  rw [cols_mat, pay182_mat]
  refine setCols_part i _ _ n fun l _ c _ => ?_
  rw [← sum_add_distrib]; rfl

theorem acc_step (hd' n : ℕ) (hp : n < 16) :
    k0_pay41 (k0_pay4 (rows (keysR K p) n hp)) (mat .bf16 256 256 fun r c => dz X K V D hd' (256 * i + r) (256 * n + c))
        (mat .f32 256 128 (accR X K V D p i hd' n))
      = mat .f32 256 128 (accR X K V D p i hd' (n + 1)) := by
  rw [keysR, rows_mat, pay41_mat]
  refine mat_congr fun r _ l _ => ?_
  rw [← acc_next]; simp only [dz_block]

theorem hzA (n : ℕ) (h : n < 16) : k0_pay8 (fixR X D p i).qa (rows (keysR K p) n h) = mat .f32 256 256 (zAt X K (2 * p) i n) := by
  simp only [fixR, keysR, rows_mat, pay8_mat]
  refine mat_congr fun r _ c _ => ?_
  exact sum_lo X K p _ _

theorem hzB (n : ℕ) (h : n < 16) : k0_pay8 (fixR X D p i).qb (rows (keysR K p) n h) = mat .f32 256 256 (zAt X K (2 * p + 1) i n) := by
  simp only [fixR, keysR, rows_mat, pay8_mat]
  refine mat_congr fun r _ c _ => ?_
  exact sum_hi X K p _ _

theorem hdA (n : ℕ) (h : n < 16) : k0_pay10 (fixR X D p i).da (rows (keysR V p) n h) = mat .f32 256 256 (daAt V D (2 * p) i n) := by
  simp only [fixR, keysR, rows_mat, pay10_mat]
  refine mat_congr fun r _ c _ => ?_
  exact sum_lo D V p _ _

theorem hdB (n : ℕ) (h : n < 16) : k0_pay10 (fixR X D p i).db (rows (keysR V p) n h) = mat .f32 256 256 (daAt V D (2 * p + 1) i n) := by
  simp only [fixR, keysR, rows_mat, pay10_mat]
  refine mat_congr fun r _ c _ => ?_
  exact sum_hi D V p _ _

/-! ### An earlier block of keys -/

/-- States with the same parts are the same. -/
theorem St.ext' {s s' : St Ideal} (h1 : s.accA = s'.accA) (h2 : s.accB = s'.accB) (h3 : s.preA = s'.preA) (h4 : s.preB = s'.preB)
    (h5 : s.gpA = s'.gpA) (h6 : s.gpB = s'.gpB) (h7 : s.dkt = s'.dkt) (h8 : s.dvt = s'.dvt) : s = s' := by
  cases s; cases s'; cases h1; cases h2; cases h3; cases h4; cases h5; cases h6; cases h7; cases h8; rfl

section Head

variable (M : ℕ → ℕ → Prop) [∀ r c, Decidable (M r c)] (hM : ∀ r < 256, ∀ c < 256, M r c) (P G : ℕ → ℝ) {z da : ℕ → ℕ → ℝ}
  {q k d v : FVec Ideal S256x128 .bf16} (hz : k0_pay8 q k = mat .f32 256 256 z) (hd : k0_pay10 d v = mat .f32 256 256 da)

include hM hz hd

/-- One head's gradient of the logits at an earlier block. -/
theorem dz_any : k0_pay35 (k0_pay8 q k) (k0_pay13 q k)
    (k0_pay24 (mat .bf16 512 256 triR) (k0_pay10 d v) (k0_pay14 q k) (k0_pay15 q k) (mat .f32 256 1 fun r _ => P r * L))
    (k0_pay30 (mat .bf16 512 256 triR) (k0_pay10 d v) (k0_pay14 q k) (k0_pay15 q k) (mat .f32 256 1 fun r _ => P r * L))
    (k0_pay31 (mat .bf16 512 256 triR)) (mat .f32 256 1 fun r _ => G r) = mat .bf16 256 256 (dzB M z da P G) := by
  rw [pay24_mat M hM P hz hd, pay30_mat M hM P hz hd, pay31_mat, pay35_mat M hM P G hz]

/-- Its weighted gradients up to the next block. -/
theorem gp_any : k0_pay34
    (k0_pay30 (mat .bf16 512 256 triR) (k0_pay10 d v) (k0_pay14 q k) (k0_pay15 q k) (mat .f32 256 1 fun r _ => P r * L))
    (k0_pay31 (mat .bf16 512 256 triR)) (mat .f32 256 1 fun r _ => G r)
      = mat .f32 256 1 fun r _ => G r + ∑ j ∈ range 256, Cert.Real.gB M z da P r j := by
  rw [pay30_mat M hM P hz hd, pay31_mat, pay34_mat]

end Head

/-- One head's gradient of the logits at the query's own block. -/
def maskDz (tri : FVec Ideal S512x256 .bf16) (q k d v : FVec Ideal S256x128 .bf16) (pre gp : FVec Ideal S256x1 .f32) : FVec Ideal S256x256 .bf16 :=
  k0_pay175 k0_pay119 (k0_pay8 q k) (k0_pay154 q k)
    (k0_pay164 k0_pay119 (k0_pay10 d v) (k0_pay161 tri k0_pay119 (k0_pay153 q k) (k0_pay154 q k) pre) zeroF)
    (k0_pay172 tri k0_pay119 (k0_pay10 d v) (k0_pay161 tri k0_pay119 (k0_pay153 q k) (k0_pay154 q k) pre) zeroF gp)

theorem zero_word : (zeroF : Ideal .f32) = (0 : EReal) := by
  pointwise []

theorem maskDz_any (M : ℕ → ℕ → Prop) [∀ r c, Decidable (M r c)] (hM : ∀ r < 256, ∀ c < 256, M r c ↔ c < r) (P G : ℕ → ℝ) {z da : ℕ → ℕ → ℝ}
    {q k d v : FVec Ideal S256x128 .bf16} (hz : k0_pay8 q k = mat .f32 256 256 z) (hd : k0_pay10 d v = mat .f32 256 256 da) :
    maskDz (mat .bf16 512 256 triR) q k d v (mat .f32 256 1 fun r _ => P r * L) (mat .f32 256 1 fun r _ => G r)
      = mat .bf16 256 256 (dzB M z da P G) := by
  unfold maskDz
  rw [pay164_mat M hM P hz hd zeroF zero_word]
  exact pay175_mat M hM P G hz hd zeroF zero_word

section Earlier

variable (n : ℕ) (h : n < 16)

/-- Head B's gradient of the logits, in the order head A's is written. -/
def dzB' (p : Fixed Ideal) (k v : FVec Ideal S256x128 .bf16) (s : St Ideal) : FVec Ideal S256x256 .bf16 :=
  k0_pay35 (k0_pay8 p.qb k) (k0_pay13 p.qb k)
    (k0_pay24 p.tri (k0_pay10 p.db v) (k0_pay14 p.qb k) (k0_pay15 p.qb k) s.preB)
    (k0_pay30 p.tri (k0_pay10 p.db v) (k0_pay14 p.qb k) (k0_pay15 p.qb k) s.preB) (k0_pay31 p.tri) s.gpB

theorem dkNew_eq (p : Fixed Ideal) (k v : FVec Ideal S256x128 .bf16) (s : St Ideal) (old : FVec Ideal S128x256 .f32) :
    dkNew p k v s old = k0_pay181 p.qta p.qtb k0_pay147 (dzA p k v s) (dzB' p k v s) (constant S128x256 .f32 0x00000000#32) old := rfl

theorem dvNew_eq (p : Fixed Ideal) (k v : FVec Ideal S256x128 .bf16) (s : St Ideal) (old : FVec Ideal S128x256 .f32) :
    dvNew p k v s old = k0_pay182 p.dtb (k0_pay25 p.tri (k0_pay14 p.qb k) (k0_pay15 p.qb k) s.preB)
      (k0_pay178 p.dta k0_pay148 (k0_pay25 p.tri (k0_pay14 p.qa k) (k0_pay15 p.qa k) s.preA)) old := rfl

theorem trip_eq (p : Fixed Ideal) (ks vs : FVec Ideal S4096x128 .bf16) (s : St Ideal) : trip p ks vs n h s =
    { accA := k0_pay41 (k0_pay4 (rows ks n h)) (dzA p (rows ks n h) (rows vs n h) s) s.accA
      accB := k0_pay41 (k0_pay4 (rows ks n h)) (dzB' p (rows ks n h) (rows vs n h) s) s.accB
      preA := k0_pay23 p.tri (k0_pay15 p.qa (rows ks n h)) s.preA
      preB := k0_pay23 p.tri (k0_pay15 p.qb (rows ks n h)) s.preB
      gpA := k0_pay34 (k0_pay30 p.tri (k0_pay10 p.da (rows vs n h)) (k0_pay14 p.qa (rows ks n h)) (k0_pay15 p.qa (rows ks n h)) s.preA)
        (k0_pay31 p.tri) s.gpA
      gpB := k0_pay34 (k0_pay30 p.tri (k0_pay10 p.db (rows vs n h)) (k0_pay14 p.qb (rows ks n h)) (k0_pay15 p.qb (rows ks n h)) s.preB)
        (k0_pay31 p.tri) s.gpB
      dkt := setCols s.dkt n (dkNew p (rows ks n h) (rows vs n h) s (cols s.dkt n h))
      dvt := setCols s.dvt n (dvNew p (rows ks n h) (rows vs n h) s (cols s.dvt n h)) } := rfl

variable (hn : n < i)

include hn

theorem before_all : ∀ r < 256, ∀ c < 256, Before i n r c := by intro r _ c hc; unfold Before; omega

theorem dzA_real : dzA (fixR X D p i) (rows (keysR K p) n h) (rows (keysR V p) n h) (stR X K V D p i n)
    = mat .bf16 256 256 fun r c => dz X K V D (2 * p) (256 * i + r) (256 * n + c) :=
  (dz_any _ (before_all i n hn) (PAt X K (2 * p) i n) (GAt X K V D (2 * p) i n) (hzA X K D p i n h) (hdA X V D p i n h)).trans
    (mat_congr fun r _ c _ => dz_block X K V D (2 * p) i n r c)

theorem dzB_real : dzB' (fixR X D p i) (rows (keysR K p) n h) (rows (keysR V p) n h) (stR X K V D p i n)
    = mat .bf16 256 256 fun r c => dz X K V D (2 * p + 1) (256 * i + r) (256 * n + c) :=
  (dz_any _ (before_all i n hn) (PAt X K (2 * p + 1) i n) (GAt X K V D (2 * p + 1) i n) (hzB X K D p i n h) (hdB X V D p i n h)).trans
    (mat_congr fun r _ c _ => dz_block X K V D (2 * p + 1) i n r c)

/-- ONE TRIP: the state before block `n` of the keys is taken to the state before the next. -/
theorem trip_real : trip (fixR X D p i) (keysR K p) (keysR V p) n h (stR X K V D p i n) = stR X K V D p i (n + 1) := by
  have hM := before_all i n hn
  have hzA := hzA X K D p i n h
  have hzB := hzB X K D p i n h
  have hdA := hdA X V D p i n h
  have hdB := hdB X V D p i n h
  rw [trip_eq, dkNew_eq, dvNew_eq, dzA_real X K V D p i n h hn, dzB_real X K V D p i n h hn]
  have eA : k0_pay25 (fixR X D p i).tri (k0_pay14 (fixR X D p i).qa (rows (keysR K p) n h)) (k0_pay15 (fixR X D p i).qa (rows (keysR K p) n h))
      (stR X K V D p i n).preA = mat .bf16 256 256 fun r c => a X K (2 * p) (256 * i + r) (256 * n + c) :=
    (pay25_mat _ hM (PAt X K (2 * p) i n) hzA).trans (mat_congr fun r _ c _ => a_block X K (2 * p) i n r c)
  have eB : k0_pay25 (fixR X D p i).tri (k0_pay14 (fixR X D p i).qb (rows (keysR K p) n h)) (k0_pay15 (fixR X D p i).qb (rows (keysR K p) n h))
      (stR X K V D p i n).preB = mat .bf16 256 256 fun r c => a X K (2 * p + 1) (256 * i + r) (256 * n + c) :=
    (pay25_mat _ hM (PAt X K (2 * p + 1) i n) hzB).trans (mat_congr fun r _ c _ => a_block X K (2 * p + 1) i n r c)
  rw [eA, eB, dk_step X K V D p i n h, dv_step X K V D p i n h]
  refine St.ext' (acc_step X K V D p i (2 * p) n h) (acc_step X K V D p i (2 * p + 1) n h) ?_ ?_ ?_ ?_ rfl rfl
  · exact (pay23_mat _ hM (PAt X K (2 * p) i n) hzA).trans (mat_congr fun r _ _ _ => congrArg (· * L) (P_next X K (2 * p) i n r))
  · exact (pay23_mat _ hM (PAt X K (2 * p + 1) i n) hzB).trans (mat_congr fun r _ _ _ => congrArg (· * L) (P_next X K (2 * p + 1) i n r))
  · exact (gp_any _ hM (PAt X K (2 * p) i n) (GAt X K V D (2 * p) i n) hzA hdA).trans (mat_congr fun r _ _ _ => G_next X K V D (2 * p) i n r)
  · exact (gp_any _ hM (PAt X K (2 * p + 1) i n) (GAt X K V D (2 * p + 1) i n) hzB hdB).trans
      (mat_congr fun r _ _ _ => G_next X K V D (2 * p + 1) i n r)

end Earlier

/-! ### The query's own block -/

section Own

theorem before_own : ∀ r < 256, ∀ c < 256, Before i i r c ↔ c < r := by intro r _ c _; unfold Before; omega

/-- The own block's step, head B in the order head A's is written. -/
theorem diag_eq (p : Fixed Ideal) (k v : FVec Ideal S256x128 .bf16) (n : ℕ) (h : n < 16) (s : St Ideal) : diag p k v n h s =
    { accA := k0_pay41 (k0_pay4 k) (maskDz p.tri p.qa k p.da v s.preA s.gpA) s.accA
      accB := k0_pay41 (k0_pay4 k) (maskDz p.tri p.qb k p.db v s.preB s.gpB) s.accB
      preA := k0_pay163 (k0_pay159 p.tri k0_pay119 (k0_pay153 p.qa k) (k0_pay154 p.qa k)) s.preA
      preB := k0_pay163 (k0_pay159 p.tri k0_pay119 (k0_pay153 p.qb k) (k0_pay154 p.qb k)) s.preB
      gpA := k0_pay174 (k0_pay173 p.tri k0_pay119 (k0_pay10 p.da v) (k0_pay161 p.tri k0_pay119 (k0_pay153 p.qa k) (k0_pay154 p.qa k) s.preA) zeroF s.gpA)
      gpB := k0_pay174 (k0_pay173 p.tri k0_pay119 (k0_pay10 p.db v) (k0_pay161 p.tri k0_pay119 (k0_pay153 p.qb k) (k0_pay154 p.qb k) s.preB) zeroF s.gpB)
      dkt := setCols s.dkt n (k0_pay181 p.qta p.qtb k0_pay147 (maskDz p.tri p.qa k p.da v s.preA s.gpA) (maskDz p.tri p.qb k p.db v s.preB s.gpB)
        (constant S128x256 .f32 0x00000000#32) (cols s.dkt n h))
      dvt := setCols s.dvt n (k0_pay182 p.dtb
        (k0_pay165 k0_pay119 (k0_pay161 p.tri k0_pay119 (k0_pay153 p.qb k) (k0_pay154 p.qb k) s.preB) zeroF)
        (k0_pay178 p.dta k0_pay148 (k0_pay165 k0_pay119 (k0_pay161 p.tri k0_pay119 (k0_pay153 p.qa k) (k0_pay154 p.qa k) s.preA) zeroF))
        (cols s.dvt n h)) } := rfl

/-- THE OWN BLOCK: the state before it is taken to the state after it. -/
theorem diag_real (h : i < 16) : diag (fixR X D p i) (rows (keysR K p) i h) (rows (keysR V p) i h) i h (stR X K V D p i i) = stR X K V D p i (i + 1) := by
  have hM := before_own i
  have hzA := hzA X K D p i i h
  have hzB := hzB X K D p i i h
  have hdA := hdA X V D p i i h
  have hdB := hdB X V D p i i h
  have zA : maskDz (fixR X D p i).tri (fixR X D p i).qa (rows (keysR K p) i h) (fixR X D p i).da (rows (keysR V p) i h)
      (stR X K V D p i i).preA (stR X K V D p i i).gpA = mat .bf16 256 256 fun r c => dz X K V D (2 * p) (256 * i + r) (256 * i + c) :=
    (maskDz_any _ hM (PAt X K (2 * p) i i) (GAt X K V D (2 * p) i i) hzA hdA).trans (mat_congr fun r _ c _ => dz_block X K V D (2 * p) i i r c)
  have zB : maskDz (fixR X D p i).tri (fixR X D p i).qb (rows (keysR K p) i h) (fixR X D p i).db (rows (keysR V p) i h)
      (stR X K V D p i i).preB (stR X K V D p i i).gpB = mat .bf16 256 256 fun r c => dz X K V D (2 * p + 1) (256 * i + r) (256 * i + c) :=
    (maskDz_any _ hM (PAt X K (2 * p + 1) i i) (GAt X K V D (2 * p + 1) i i) hzB hdB).trans
      (mat_congr fun r _ c _ => dz_block X K V D (2 * p + 1) i i r c)
  have eA : k0_pay165 k0_pay119 (k0_pay161 (fixR X D p i).tri k0_pay119 (k0_pay153 (fixR X D p i).qa (rows (keysR K p) i h))
      (k0_pay154 (fixR X D p i).qa (rows (keysR K p) i h)) (stR X K V D p i i).preA) zeroF
      = mat .bf16 256 256 fun r c => a X K (2 * p) (256 * i + r) (256 * i + c) :=
    (pay165_mat _ hM (PAt X K (2 * p) i i) hzA zeroF zero_word).trans (mat_congr fun r _ c _ => a_block X K (2 * p) i i r c)
  have eB : k0_pay165 k0_pay119 (k0_pay161 (fixR X D p i).tri k0_pay119 (k0_pay153 (fixR X D p i).qb (rows (keysR K p) i h))
      (k0_pay154 (fixR X D p i).qb (rows (keysR K p) i h)) (stR X K V D p i i).preB) zeroF
      = mat .bf16 256 256 fun r c => a X K (2 * p + 1) (256 * i + r) (256 * i + c) :=
    (pay165_mat _ hM (PAt X K (2 * p + 1) i i) hzB zeroF zero_word).trans (mat_congr fun r _ c _ => a_block X K (2 * p + 1) i i r c)
  rw [diag_eq, zA, zB, eA, eB, dk_step X K V D p i i h, dv_step X K V D p i i h]
  refine St.ext' (acc_step X K V D p i (2 * p) i h) (acc_step X K V D p i (2 * p + 1) i h) ?_ ?_ ?_ ?_ rfl rfl
  · exact (pay163_mat _ hM (PAt X K (2 * p) i i) hzA).trans (mat_congr fun r _ _ _ => congrArg (· * L) (P_next X K (2 * p) i i r))
  · exact (pay163_mat _ hM (PAt X K (2 * p + 1) i i) hzB).trans (mat_congr fun r _ _ _ => congrArg (· * L) (P_next X K (2 * p + 1) i i r))
  · exact (pay174_mat _ hM (PAt X K (2 * p) i i) (GAt X K V D (2 * p) i i) hzA hdA zeroF zero_word).trans
      (mat_congr fun r _ _ _ => G_next X K V D (2 * p) i i r)
  · exact (pay174_mat _ hM (PAt X K (2 * p + 1) i i) (GAt X K V D (2 * p + 1) i i) hzB hdB zeroF zero_word).trans
      (mat_congr fun r _ _ _ => G_next X K V D (2 * p + 1) i i r)

end Own

end

end Cert.KernelIdeal.Own
-- ==== Proof.Value.Point.lean ====
/- One grid point of the kernel, taken by real matrices to real matrices. -/
module

public import proofs.«01_k».proof.Proof.Value.Step

@[expose] public section

set_option maxRecDepth 16384

noncomputable section

namespace Cert.KernelIdeal.Own

open Cert.KernelIdeal Cert.KernelIdeal.Gen Cert.Mat Cert.Real Finset
open Idealize.ShloMosaic Idealize.ShloMosaic.TcCoe

/-- The word that clips the key loop is zero where its column is. -/
theorem word_real (ls : ℕ → ℕ → ℝ) (h : ∀ r, ls r 1 = 0) : word (mat .f32 256 128 ls) = 0#32 := by
  have e : k0_pay142 (F := Ideal) (k0_pay134 (mat .f32 256 128 ls)) = (0 : EReal) := by
    pointwise [k0_pay142, k0_pay134, mat_ix2]
    simp only [h, EReal.coe_zero]
    apply le_antisymm
    · rw [Finset.fold_max_le]
      refine ⟨?_, fun _ _ => le_refl _⟩
      have b : Ideal.ofBits .f32 4286578688#32 = (⊥ : EReal) := by simp [Ideal.ofBits, Ideal.ieee]
      rw [b]; exact bot_le
    · rw [Finset.le_fold_max]
      exact Or.inr ⟨((0 : Fin 256), (0 : Fin 1)), mem_univ _, le_refl _⟩
  unfold word
  rw [e]
  change Ideal.fptosi 32 0 = 0#32
  have t : Ideal.toIntClamped (-(2 ^ (32 - 1) : Nat)) ((2 ^ (32 - 1) : Nat) - 1) (0 : EReal) = 0 := by
    change max _ (min _ (if (0 : ℝ) ≤ 0 then ⌊(0 : ℝ)⌋ else ⌈(0 : ℝ)⌉)) = 0
    simp
  unfold Ideal.fptosi
  rw [t]; rfl

variable (X K V D : ℕ → ℕ → ℝ) (p : ℕ)

/-- What the forward pass saved: each row's log-remainder in the base 2, the second lane of each column block zero. -/
def LS (t j : ℕ) : ℝ := if j % 128 = 1 then 0 else P X K (j / 64) t 4096 * L

/-- Rows of a block of rows, in a block of columns. -/
def blkR (φ : FTy) (x : ℕ → ℕ → ℝ) (p i : ℕ) : FVec Ideal S256x128 φ := mat φ 256 128 fun r l => x (256 * i + r) (128 * p + l)

theorem fixed_real (i : ℕ) : fixedOf (blkR .bf16 X p i) (blkR .f32 D p i) (mat .bf16 512 256 triR) = fixR X D p i := by
  unfold fixedOf fixR blkR
  rw [pay123_mat, pay124_mat, pay125_mat, pay126_mat, pay130_mat, pay131_mat, pay132_mat, pay133_mat]
  congr 1
  refine eq_mat fun r c => ?_
  pointwise [k0_pay118, mat_ix2]

theorem zeros_real (φ : FTy) (a b : ℕ) (x : FVec Ideal ⟨2, ![a, b]⟩ φ) (h : ∀ r c, x (ix2 r c) = (0 : EReal)) : x = mat φ a b fun _ _ => 0 :=
  eq_mat fun r c => (h r c).trans EReal.coe_zero.symm

theorem init_real (i : ℕ) : init (blkR .f32 (LS X K) p i) (mat .f32 128 4096 (part i (wk X K V D p) 0)) (mat .f32 128 4096 (part i (wv X K D p) 0))
    = stR X K V D p i 0 := by
  have z6 : k0_pay136 (F := Ideal) = mat .f32 256 128 fun _ _ => 0 := zeros_real _ _ _ _ fun r c => by pointwise [k0_pay136]
  have z7 : k0_pay137 (F := Ideal) = mat .f32 256 128 fun _ _ => 0 := zeros_real _ _ _ _ fun r c => by pointwise [k0_pay137]
  have z8 : k0_pay138 (F := Ideal) = mat .f32 256 1 fun _ _ => 0 := zeros_real _ _ _ _ fun r c => by pointwise [k0_pay138]
  have z9 : k0_pay139 (F := Ideal) = mat .f32 256 1 fun _ _ => 0 := zeros_real _ _ _ _ fun r c => by pointwise [k0_pay139]
  refine St.ext' ?_ ?_ ?_ ?_ ?_ ?_ rfl rfl
  · exact z6.trans (mat_congr fun r _ l _ => by simp [accR])
  · exact z7.trans (mat_congr fun r _ l _ => by simp [accR])
  · refine (eq_mat fun r c => ?_ : _ = mat .f32 256 1 fun r _ => PAt X K (2 * p) i 0 r * L)
    have hc : c = 0 := Subsingleton.elim _ _
    subst hc
    change k0_pay140 (F := Ideal) (blkR .f32 (LS X K) p i) _ = _
    unfold blkR
    pointwise [k0_pay140, k0_pay134, mat_ix2]
    rw [LS, if_neg (by omega), PAt, show 128 * p / 64 = 2 * p by omega]
    simp [P]
  · refine (eq_mat fun r c => ?_ : _ = mat .f32 256 1 fun r _ => PAt X K (2 * p + 1) i 0 r * L)
    have hc : c = 0 := Subsingleton.elim _ _
    subst hc
    change k0_pay141 (k0_pay135 (F := Ideal) (blkR .f32 (LS X K) p i)) _ = _
    unfold blkR
    pointwise [k0_pay141, k0_pay135, k0_pay134, mat_ix2]
    rw [LS, if_neg (by omega), PAt, show (128 * p + 64) / 64 = 2 * p + 1 by omega]
    simp [P]
  · exact z8.trans (mat_congr (f' := fun r _ => GAt X K V D (2 * p) i 0 r) fun r _ l _ => by simp [GAt, G])
  · exact z9.trans (mat_congr (f' := fun r _ => GAt X K V D (2 * p + 1) i 0 r) fun r _ l _ => by simp [GAt, G])

/-- The key loop from the first block on: after `n` trips, the state before block `n`. -/
theorem trips_real (i : ℕ) (hi : i < 16) (n : ℕ) (hn : n ≤ i) :
    trips (fixR X D p i) (keysR K p) (keysR V p) 0 (stR X K V D p i 0) n = stR X K V D p i n := by
  induction n with
  | zero => rfl
  | succ n ih =>
    rw [trips_succ _ _ _ _ _ _ (by omega), ih (by omega)]
    simp only [Nat.zero_add]
    exact trip_real X K V D p i n (by omega) (by omega)

/-- A GRID POINT: the state after the query's own block. -/
theorem point_real (i : grid0.Coords) :
    point i (blkR .bf16 X p (i 1).val) (keysR K p) (keysR V p) (blkR .f32 D p (i 1).val) (blkR .f32 (LS X K) p (i 1).val) (mat .bf16 512 256 triR)
        (mat .f32 128 4096 (part (i 1).val (wk X K V D p) 0)) (mat .f32 128 4096 (part (i 1).val (wv X K D p) 0))
      = stR X K V D p (i 1).val ((i 1).val + 1) := by
  have hw : word (blkR .f32 (LS X K) p (i 1).val) = 0#32 := word_real _ fun r => if_pos (by omega)
  unfold point looped
  rw [hw, start_zero, fixed_real, init_real, Nat.sub_zero, trips_real X K V D p _ (row_lt i) _ (le_refl _)]
  exact diag_real X K V D p _ _

/-- The query gradient that a grid point writes. -/
theorem outQ_real (i : ℕ) (hi : i < 16) : outQ (stR X K V D p i (i + 1))
    = mat .bf16 256 128 fun r l => (∑ s ∈ range 4096, dz X K V D ((128 * p + l) / 64) (256 * i + r) s * K s (128 * p + l)) * (1 / 8) := by
  unfold outQ stR
  rw [pay1_mat]
  refine mat_congr fun r hr l hl => ?_
  have all : ∀ h, accR X K V D p i h (i + 1) r l = ∑ s ∈ range 4096, dz X K V D h (256 * i + r) s * K s (128 * p + l) := by
    intro h
    unfold accR
    refine sum_subset (range_mono (by omega)) fun s _ hs => ?_
    rw [mem_range, not_lt] at hs
    rw [dz_zero X K V D (by omega), zero_mul]
  rw [all, all]
  split_ifs with h
  · rw [show (128 * p + l) / 64 = 2 * p by omega]
  · rw [show (128 * p + l) / 64 = 2 * p + 1 by omega]

/-- After a row's last block, or before the next, the same shares are in. -/
theorem part_next (w : ℕ → ℕ → ℕ → ℝ) (i : ℕ) (hw : ∀ l t s, t ≤ s → w l t s = 0) : part i w (i + 1) = part (i + 1) w 0 := by
  funext l s
  unfold part
  rw [if_neg (by omega : ¬ s < 256 * 0), add_zero, show 256 * (i + 1) = 256 * i + 256 by ring, sum_range_add]
  split_ifs with h
  · rfl
  · have e : ∑ r ∈ range 256, w l (256 * i + r) s = 0 := sum_eq_zero fun r hr => hw l _ _ (by have := mem_range.1 hr; omega)
    rw [e]

theorem wk_zero (l t s : ℕ) (h : t ≤ s) : wk X K V D p l t s = 0 := by
  unfold wk; rw [dz_zero X K V D h, dz_zero X K V D h]; ring

theorem wv_zero (l t s : ℕ) (h : t ≤ s) : wv X K D p l t s = 0 := by
  unfold wv; rw [a_zero X K h, a_zero X K h]; ring

end Cert.KernelIdeal.Own
-- ==== Proof.Value.Grid.lean ====
/- The kernel's result arrays after the whole grid, on real arrays: the real gradients. -/
module

public import proofs.«01_k».proof.Proof.Value.Point
public import proofs.«01_k».proof.Proof.Ideal.Frame
public import Idealize.ShloMosaic.Lib.Pipeline.ValueKit

@[expose] public section

set_option maxRecDepth 16384

noncomputable section

namespace Cert.KernelIdeal.Own

open Cert.KernelIdeal Cert.KernelIdeal.Gen Cert.Mat Cert.Real Finset
open Idealize.ShloMosaic Idealize.ShloMosaic.TcCoe
open Idealize.ShloMosaic.Pipeline (Dat)

variable (m : (ℓ : Loc nD τ sig) → Buf (Elt Ideal) ℓ) (c : Dev nD) (X K W D : ℕ → ℕ → ℝ)

theorem idx : ∀ t : Fin cfg0.N, win0_0.index t = ![t.val % 16, t.val / 16] ∧ win0_1.index t = ![0, t.val / 16] ∧ win0_2.index t = ![0, t.val / 16]
    ∧ win0_3.index t = ![t.val % 16, t.val / 16] ∧ win0_4.index t = ![t.val % 16, t.val / 16] ∧ win0_5.index t = ![0, 0]
    ∧ win0_6.index t = ![t.val % 16, t.val / 16] ∧ win0_7.index t = ![0, t.val / 16] ∧ win0_8.index t = ![0, t.val / 16] :=
  (by decide +kernel : ∀ t : Fin grid0.N, _)

theorem coord1 : ∀ t : Fin cfg0.N, (grid0.coords t 1).val = t.val % 16 := (by decide +kernel : ∀ t : Fin grid0.N, _)

/-- What the region finds, all real. -/
structure Entry : Prop where
  q : V m c main_v32 = mat .bf16 4096 1024 X
  k : V m c main_v33 = mat .bf16 4096 1024 K
  v : V m c main_v34 = mat .bf16 4096 1024 W
  o : V m c main_arg3 = mat .f32 4096 1024 D
  l : V m c main_v31 = mat .f32 4096 1024 (LS X K)
  t : V m c main_v40 = mat .bf16 512 256 triR

variable {m c X K W D} (E : Entry m c X K W D)

/-! ## The blocks -/

section

include E

theorem blk0 (t : Fin cfg0.N) : iblk m c 0 t = blkR .bf16 X (t.val / 16) (t.val % 16) := by
  funext y
  blk_simp [iblk]
  refine (congrFun E.q _).trans ?_
  refine congrArg _ (congrArg₂ X ?_ ?_) <;> blk_simp [idx t] <;> ring

theorem blk1 (t : Fin cfg0.N) : iblk m c 1 t = keysR K (t.val / 16) := by
  funext y
  blk_simp [iblk]
  refine (congrFun E.k _).trans ?_
  refine congrArg _ (congrArg₂ K ?_ ?_) <;> blk_simp [idx t] <;> ring

theorem blk2 (t : Fin cfg0.N) : iblk m c 2 t = keysR W (t.val / 16) := by
  funext y
  blk_simp [iblk]
  refine (congrFun E.v _).trans ?_
  refine congrArg _ (congrArg₂ W ?_ ?_) <;> blk_simp [idx t] <;> ring

theorem blk3 (t : Fin cfg0.N) : iblk m c 3 t = blkR .f32 D (t.val / 16) (t.val % 16) := by
  funext y
  blk_simp [iblk]
  refine (congrFun E.o _).trans ?_
  refine congrArg _ (congrArg₂ D ?_ ?_) <;> blk_simp [idx t] <;> ring

theorem blk4 (t : Fin cfg0.N) : iblk m c 4 t = blkR .f32 (LS X K) (t.val / 16) (t.val % 16) := by
  funext y
  blk_simp [iblk]
  refine (congrFun E.l _).trans ?_
  refine congrArg _ (congrArg₂ (LS X K) ?_ ?_) <;> blk_simp [idx t] <;> ring

theorem blk5 (t : Fin cfg0.N) : iblk m c 5 t = mat .bf16 512 256 triR := by
  funext y
  blk_simp [iblk]
  refine (congrFun E.t _).trans ?_
  refine congrArg (mat .bf16 512 256 triR) ?_
  blk_ext [idx t]

/-- A point that finds the shares of the queries before its block leaves those of its block too. -/
theorem stepAt_real (t : Fin cfg0.N) (dkt dvt : FVec Ideal S128x4096 .f32)
    (h : t.val % 16 ≠ 0 → dkt = mat .f32 128 4096 (part (t.val % 16) (wk X K W D (t.val / 16)) 0)
      ∧ dvt = mat .f32 128 4096 (part (t.val % 16) (wv X K D (t.val / 16)) 0)) :
    stepAt m c t dkt dvt = stR X K W D (t.val / 16) (t.val % 16) (t.val % 16 + 1) := by
  have e1 : (if First (grid0.coords t) then k0_pay116 else dkt) = mat .f32 128 4096 (part (t.val % 16) (wk X K W D (t.val / 16)) 0) := by
    by_cases hf : t.val % 16 = 0
    · rw [if_pos ((first_iff t).mpr hf), hf]
      refine eq_mat fun r c => ?_
      pointwise [k0_pay116]
      simp [part]
    · rw [if_neg fun h' => hf ((first_iff t).mp h'), (h hf).1]
  have e2 : (if First (grid0.coords t) then k0_pay117 else dvt) = mat .f32 128 4096 (part (t.val % 16) (wv X K D (t.val / 16)) 0) := by
    by_cases hf : t.val % 16 = 0
    · rw [if_pos ((first_iff t).mpr hf), hf]
      refine eq_mat fun r c => ?_
      pointwise [k0_pay117]
      simp [part]
    · rw [if_neg fun h' => hf ((first_iff t).mp h'), (h hf).2]
  have P := point_real X K W D (t.val / 16) (grid0.coords t)
  rw [coord1 t] at P
  unfold stepAt pointOf
  rw [blk0 E, blk1 E, blk2 E, blk3 E, blk4 E, blk5 E, e1, e2, P]

/-- THE GRID: what each point leaves. -/
theorem carry_real (n : ℕ) (h : n < cfg0.N) : carry m c n h = stR X K W D (n / 16) (n % 16) (n % 16 + 1) := by
  induction n with
  | zero => exact stepAt_real E ⟨0, h⟩ _ _ fun h0 => absurd rfl h0
  | succ n ih =>
    refine stepAt_real E ⟨n + 1, h⟩ _ _ fun hn => ?_
    rw [ih (Nat.lt_of_succ_lt h)]
    have hq : (n + 1) / 16 = n / 16 := by simp only at hn; omega
    have hr : (n + 1) % 16 = n % 16 + 1 := by simp only at hn; omega
    simp only [stR]
    rw [hq, hr, part_next _ _ (wk_zero X K W D _), part_next _ _ (wv_zero X K D _)]
    exact ⟨rfl, rfl⟩

end

/-! ## The results -/

section

variable (X K W D)

theorem outQ_DQ (p i : ℕ) (hi : i < 16) : outQ (stR X K W D p i (i + 1)) = mat .bf16 256 128 fun r l => DQ X K W D (256 * i + r) (128 * p + l) :=
  outQ_real X K W D p i hi

theorem dk_lane (p l s : ℕ) (hl : l < 128) : part 15 (wk X K W D p) 16 l s = DK X K W D s (128 * p + l) := by
  rw [part_next _ _ (wk_zero X K W D p)]
  unfold part DK
  rw [if_neg (by omega), add_zero]
  refine sum_congr rfl fun t _ => ?_
  unfold wk lo hi
  split_ifs with h
  · rw [show (128 * p + l) / 64 = 2 * p by omega]; ring
  · rw [show (128 * p + l) / 64 = 2 * p + 1 by omega]; ring

theorem dv_lane (p l s : ℕ) (hl : l < 128) : part 15 (wv X K D p) 16 l s = DV X K D s (128 * p + l) := by
  rw [part_next _ _ (wv_zero X K D p)]
  unfold part DV
  rw [if_neg (by omega), add_zero]
  refine sum_congr rfl fun t _ => ?_
  unfold wv lo hi
  split_ifs with h
  · rw [show (128 * p + l) / 64 = 2 * p by omega]; ring
  · rw [show (128 * p + l) / 64 = 2 * p + 1 by omega]; ring

theorem upright_mat (f : ℕ → ℕ → ℝ) : upright (mat .f32 128 4096 f) = mat .f32 4096 128 fun s l => f l s := by
  refine eq_mat fun r c => ?_
  pointwise [upright, mat_ix2]

end

include E

theorem final6 : (dats m 0 c).arrAt 6 cfg0.N = mat .bf16 4096 1024 (DQ X K W D) := by
  refine (dats m 0 c).arrAt_eq_of_covers 6 _ (by decide +kernel) fun t _ y => ?_
  blk_simp
  rw [after_6]
  rw [carry_real E, outQ_DQ X K W D _ _ (Nat.mod_lt _ (by norm_num))]
  have e0 : 256 * (t.val % 16) + (y 0).val = (((win0_6.blk t).view.emb y) 0).val := by blk_simp [idx t]; ring
  have e1 : 128 * (t.val / 16) + (y 1).val = (((win0_6.blk t).view.emb y) 1).val := by blk_simp [idx t]; ring
  exact congrArg (fun x : ℝ => (x : EReal)) (congrArg₂ (DQ X K W D) e0 e1)

theorem final7 : (dats m 0 c).arrAt 7 cfg0.N = mat .f32 4096 1024 (DK X K W D) := by
  refine (dats m 0 c).arrAt_eq_of_covers 7 _ (by decide +kernel) fun t ht y => ?_
  blk_simp
  have h15 := (flush0_7 t).mp ht
  rw [after_7, carry_real E, h15]
  simp only [stR]
  rw [upright_mat]
  refine congrArg _ ((dk_lane X K W D _ _ _ (y 1).isLt).trans (congrArg₂ (DK X K W D) ?_ ?_)) <;> blk_simp [idx t] <;> ring

theorem final8 : (dats m 0 c).arrAt 8 cfg0.N = mat .f32 4096 1024 (DV X K D) := by
  refine (dats m 0 c).arrAt_eq_of_covers 8 _ (by decide +kernel) fun t ht y => ?_
  blk_simp
  have h15 := (flush0_8 t).mp ht
  rw [after_8, carry_real E, h15]
  simp only [stR]
  rw [upright_mat]
  refine congrArg _ ((dv_lane X K D _ _ _ (y 1).isLt).trans (congrArg₂ (DV X K D) ?_ ?_)) <;> blk_simp [idx t] <;> ring

end Cert.KernelIdeal.Own
-- ==== Proof.Value.Scalar.lean ====
/- The scalar expressions that the operations around the kernel and the reference share, at real arguments. -/
module

public import proofs.«01_k».proof.Proof.Value.Pay

@[expose] public section

set_option maxRecDepth 16384

noncomputable section

namespace Cert.Mat

open Cert.KernelIdeal.Own Idealize.ShloMosaic Cert.Real Finset

theorem two_bits : Ideal.ofBits .f32 0x40000000#32 = ((2 : ℝ) : EReal) := by
  simp only [Ideal.ofBits, Ideal.ieee]; simp; rw [← EReal.coe_mul]; norm_num

theorem coe_ne_self (x : ℝ) : ¬ ((x : EReal) ≠ (x : EReal)) := fun h => h rfl

theorem exp_real (x : ℝ) : Ideal.exp (x : EReal) = ((Real.exp x : ℝ) : EReal) := Ideal.exp_coe x

/-- The soft maximum of a number and zero is minus the log-logistic of its opposite. -/
theorem soft_scalar (x : ℝ) :
    (max (x : EReal) 0 + Ideal.log1p (Ideal.exp (-FloatOps.absf (F := Ideal) (φ := .f32) (x : EReal) : EReal)) : EReal)
      = ((-lsig (-x) : ℝ) : EReal) := by
  have e : (FloatOps.absf (F := Ideal) (φ := .f32) (x : EReal) : EReal) = ((|x| : ℝ) : EReal) := by
    change max (x : EReal) (-(x : EReal)) = _
    rw [← EReal.coe_neg, coe_max]; rfl
  have l : Ideal.log1p ((Real.exp (-|x|) : ℝ) : EReal) = ((Real.log (1 + Real.exp (-|x|)) : ℝ) : EReal) := by
    change Ideal.log (1 + ((Real.exp (-|x|) : ℝ) : EReal)) = _
    rw [← EReal.coe_one, ← EReal.coe_add, log_real (one_add_exp_pos _)]
  rw [e, ← EReal.coe_neg, exp_real, l, ← EReal.coe_zero, coe_max, ← EReal.coe_add, lsig_eq, abs_neg]
  congr 1
  rcases le_total 0 x with h | h
  · rw [max_eq_left h, min_eq_left (by linarith)]; ring
  · rw [max_eq_right h, min_eq_right (by linarith)]; ring

/-- A position before another one. -/
theorem select_before (s t : Fin 4096) (x y : EReal) :
    Scalar.select (IntOp.cmpi .slt (BitVec.ofNat 32 s.val) (BitVec.ofNat 32 t.val)) x y = if s.val < t.val then x else y := by
  have := s.isLt; have := t.isLt
  pointwise []
  word_cmp

/-- A head's logit, its query scaled after the sum. -/
theorem z_scalar (Q K : ℕ → ℕ → ℝ) (h : ℕ) (t s : Fin 4096) (hh : ∀ d : Fin 64, h * 64 + d.val < 1024) :
    (∑ d : Fin 64, mat .f32 4096 1024 Q (ix2 t ⟨h * 64 + d.val, hh d⟩) * mat .f32 4096 1024 K (ix2 s ⟨h * 64 + d.val, hh d⟩))
        * Ideal.ofBits .f32 0x3E000000#32
      = ((z (fun t j => Q t j * (1 / 8)) K h t.val s.val : ℝ) : EReal) := by
  simp only [mat_ix2]
  rw [sum_mul_coe (fun d => Q t.val (h * 64 + d)) (fun d => K s.val (h * 64 + d)), eighth, ← EReal.coe_mul]
  unfold z
  rw [Finset.sum_mul]
  congr 1
  refine Finset.sum_congr rfl fun d _ => ?_
  rw [mul_comm 64 h]; ring

end Cert.Mat

end
-- ==== Proof.Value.Host.lean ====
/- What the operations before the kernel leave for it, on real arguments. -/
module

public import proofs.«01_k».proof.Proof.Value.Grid
public import proofs.«01_k».proof.Proof.Value.Scalar
public import Idealize.ShloMosaic.Lib.Claim

@[expose] public section

set_option maxRecDepth 16384

noncomputable section

namespace Cert.KernelIdeal.Own

open Cert.KernelIdeal Cert.KernelIdeal.Gen Cert.Mat Cert.Real Finset
open Idealize.ShloMosaic Idealize.ShloMosaic.TcCoe

/-- A row's number within its triangle, as the operations before the kernel compute it: the remainder by 256, moved up by 256 where its sign
    is not the divisor's. -/
def rowWord (r : ℕ) : BitVec 32 :=
  Scalar.select
    (IntOp.andi
      (IntOp.cmpi .ne
        (IntOp.cmpi .slt (IntOp.remsi .host (BitVec.ofNat 32 r) (Scalar.select (IntOp.cmpi .eq 256#32 0#32) 1#32 256#32)) 0#32)
        (IntOp.cmpi .slt (Scalar.select (IntOp.cmpi .eq 256#32 0#32) 1#32 256#32) 0#32))
      (IntOp.cmpi .ne (IntOp.remsi .host (BitVec.ofNat 32 r) (Scalar.select (IntOp.cmpi .eq 256#32 0#32) 1#32 256#32)) 0#32))
    (IntOp.addi (IntOp.remsi .host (BitVec.ofNat 32 r) (Scalar.select (IntOp.cmpi .eq 256#32 0#32) 1#32 256#32))
      (Scalar.select (IntOp.cmpi .eq 256#32 0#32) 1#32 256#32))
    (IntOp.remsi .host (BitVec.ofNat 32 r) (Scalar.select (IntOp.cmpi .eq 256#32 0#32) 1#32 256#32))

theorem row_word : ∀ r : Fin 512, rowWord r.val = BitVec.ofNat 32 (r.val % 256) := by decide +kernel

variable (m : (ℓ : Loc nD τ sig) → Buf (Elt Ideal) ℓ) (c : Dev nD) (Q K W D : ℕ → ℕ → ℝ)

/-- The arguments, all real. -/
structure Args : Prop where
  q : m ((c : Thread nD τ).loc main_arg0) = mat .f32 4096 1024 Q
  k : m ((c : Thread nD τ).loc main_arg1) = mat .f32 4096 1024 K
  v : m ((c : Thread nD τ).loc main_arg2) = mat .f32 4096 1024 W
  o : m ((c : Thread nD τ).loc main_arg3) = mat .f32 4096 1024 D

variable {m c Q K W D} (A : Args m c Q K W D)

include A

theorem entry_q : V m c main_v32 = mat .bf16 4096 1024 (scaled Q) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  refine eq_mat fun r c => ?_
  pointwise [A.q]
  rw [mat_ix2, eighth, ← EReal.coe_mul]; rfl

theorem entry_k : V m c main_v33 = mat .bf16 4096 1024 K := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  refine eq_mat fun r c => ?_
  pointwise [A.k, mat_ix2]

theorem entry_v : V m c main_v34 = mat .bf16 4096 1024 W := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  refine eq_mat fun r c => ?_
  pointwise [A.v, mat_ix2]

theorem entry_t : V m c main_v40 = mat .bf16 512 256 triR := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.ofBuf_toBuf, StableHlo.TRef.ofBuf, StableHlo.TRef.toBuf, id_eq, cast_cast, cast_eq]
  refine eq_mat fun r c => ?_
  pointwise []
  have hw := row_word r
  unfold rowWord at hw
  rw [hw]
  have hr := r.isLt; have hc := c.isLt
  unfold triR
  rw [apply_ite (fun x : ℝ => (x : EReal)), EReal.coe_one, EReal.coe_zero]
  word_cmp

theorem entry_l : V m c main_v31 = mat .f32 4096 1024 (LS (scaled Q) K) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.ofBuf_toBuf, StableHlo.TRef.ofBuf, StableHlo.TRef.toBuf, id_eq, cast_cast, cast_eq]
  refine eq_mat fun r c => ?_
  pointwise [A.q, A.k]
  simp only [z_scalar, neg_neg, coe_ne_self, if_false, soft_scalar, select_before, ← EReal.coe_neg]
  have e : ∀ x : Fin 4096, (if x.val < r.val then ((lsig (-z (fun t j => Q t j * (1 / 8)) K (c.val / 128 * 2 + c.val % 128 / 64) r.val x.val) : ℝ) : EReal) else 0)
      = ((lm (scaled Q) K (c.val / 64) r.val x.val : ℝ) : EReal) := by
    intro x
    rw [show c.val / 128 * 2 + c.val % 128 / 64 = c.val / 64 by omega, lm, apply_ite (fun x : ℝ => (x : EReal)), EReal.coe_zero]
    rfl
  simp only [e]
  rw [sum_coe (fun s => lm (scaled Q) K (c.val / 64) r.val s), two_bits, log_real (by norm_num), div_real _ log2_pos.ne', LS,
    apply_ite (fun x : ℝ => (x : EReal)), EReal.coe_zero, div_eq_mul_inv]
  have hc := c.isLt
  change Scalar.select _ 0 (((P (scaled Q) K (c.val / 64) r.val 4096 * L : ℝ) : EReal)) = _
  word_cmp

theorem entry : Entry m c (scaled Q) K W D where
  q := entry_q A
  k := entry_k A
  v := entry_v A
  o := (V_main_arg3 m c).trans A.o
  l := entry_l A
  t := entry_t A

end Cert.KernelIdeal.Own
-- ==== Proof.Value.Window.lean ====
/- Arrays of three axes whose entries are all real, and their running sums along the last axis. -/
module

public import proofs.«01_k».proof.Proof.Value.Mat

@[expose] public section

set_option maxRecDepth 16384

noncomputable section

namespace Cert.Mat

open Idealize.ShloMosaic Finset

/-- The array whose entry at the indices `h`, `t`, `s` is the real `f h t s`. -/
def ten (φ : FTy) (a b c : ℕ) (f : ℕ → ℕ → ℕ → ℝ) : FVec Ideal ⟨3, ![a, b, c]⟩ φ :=
  fun j => ((f (j 0).val (j 1).val (j 2).val : ℝ) : EReal)

theorem ten_ix3 {a b c : ℕ} {φ : FTy} (f : ℕ → ℕ → ℕ → ℝ) (h : Fin a) (t : Fin b) (s : Fin c) :
    ten φ a b c f (ix3 h t s) = ((f h.val t.val s.val : ℝ) : EReal) := rfl

/-- An array is `ten f` if each entry is. -/
theorem eq_ten {a b c : ℕ} {φ : FTy} {x : FVec Ideal ⟨3, ![a, b, c]⟩ φ} {f : ℕ → ℕ → ℕ → ℝ}
    (e : ∀ (h : Fin a) (t : Fin b) (s : Fin c), x (ix3 h t s) = ((f h.val t.val s.val : ℝ) : EReal)) : x = ten φ a b c f := by
  funext j; rw [eq_ix3 j]; exact e _ _ _

/-- A left fold of additions is a sum. -/
theorem foldl_add_sum {n : ℕ} (f : Fin n → EReal) (v : EReal) :
    (List.finRange n).foldl (fun r k => r + f k) v = v + ∑ k, f k := by
  have gen : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [gen, Fin.sum_univ_def]

/-- The shape of a window over the last axis. -/
abbrev lastWindow (n : ℕ) : Shape := ⟨3, ![1, 1, n]⟩

theorem lastWindow_numel (n : ℕ) : (lastWindow n).numel = n := by
  change ∏ a : Fin 3, (![1, 1, n] : Fin 3 → ℕ) a = n
  rw [Fin.prod_univ_three]
  change 1 * 1 * n = n
  omega

theorem lastWindow_symm {n : ℕ} (k : Fin (lastWindow n).numel) :
    (lastWindow n).rowMajor.symm k = ix3 (0 : Fin 1) (0 : Fin 1) (k.cast (lastWindow_numel n)) :=
  ((lastWindow n).rowMajor.symm_apply_eq).2 (Fin.ext (by
    rw [Shape.rowMajor_val_three]
    change k.val = (0 * 1 + 0) * n + k.val
    omega))

theorem sum_lastWindow {n : ℕ} (f : ℕ → ℝ) :
    ∑ k : Fin (lastWindow n).numel, ((f k.val : ℝ) : EReal) = ((∑ k ∈ range n, f k : ℝ) : EReal) := by
  rw [sum_coe f, lastWindow_numel]

/-- The tail of a sum, as the sum of a window that starts within the terms and runs past them. -/
theorem sum_tail (f : ℕ → ℝ) {n s : ℕ} (h : s ≤ n) :
    ∑ k ∈ range n, (if s + k < n then f (s + k) else 0) = ∑ j ∈ range n, f j - ∑ j ∈ range s, f j := by
  obtain ⟨d, rfl⟩ := Nat.exists_eq_add_of_le h
  rw [sum_range_add f s d, Nat.add_comm s d, sum_range_add _ d s]
  have e0 : ∑ k ∈ range d, (if s + k < d + s then f (s + k) else 0) = ∑ k ∈ range d, f (s + k) :=
    sum_congr rfl fun k hk => if_pos (by have := mem_range.1 hk; omega)
  have e1 : ∑ k ∈ range s, (if s + (d + k) < d + s then f (s + (d + k)) else 0) = 0 :=
    sum_eq_zero fun k _ => if_neg (by omega)
  rw [e0, e1]; ring

/-- The head of a sum, as the sum of a window that starts before the terms. -/
theorem sum_head (f : ℕ → ℝ) {n s : ℕ} (h : s ≤ n) :
    ∑ k ∈ range (n + 1), (if n ≤ s + k then f (s + k - n) else 0) = ∑ j ∈ range (s + 1), f j := by
  obtain ⟨d, rfl⟩ := Nat.exists_eq_add_of_le h
  rw [show s + d + 1 = d + (s + 1) by omega, sum_range_add _ d (s + 1)]
  have e0 : ∑ k ∈ range d, (if s + d ≤ s + k then f (s + k - (s + d)) else 0) = 0 :=
    sum_eq_zero fun k hk => if_neg (by have := mem_range.1 hk; omega)
  rw [e0, zero_add]
  refine sum_congr rfl fun k _ => ?_
  rw [if_pos (by omega), show s + (d + k) - (s + d) = k by omega]

/-- The running sum from the end. -/
theorem window_tail {a b n : ℕ} (f : ℕ → ℕ → ℕ → ℝ) (hi : ℕ) (v : FVec Ideal ⟨0, ![]⟩ .f32) (hv : ∀ i, v i = 0)
    (hw : (⟨3, ![a, b, n]⟩ : Shape).ReduceWindows (![1, 1, n] : Fin 3 → ℕ) ![1, 1, 1] ![0, 0, 0] ![0, 0, hi] ⟨3, ![a, b, n]⟩)
    (hu : 0 < (⟨0, ![]⟩ : Shape).numel) :
    Host.reduceWindowAdd (F := Ideal) (![1, 1, n] : Fin 3 → ℕ) ![1, 1, 1] ![0, 0, 0] ![0, 0, hi] (ten .f32 a b n f) v hw hu
      = ten .f32 a b n fun h t s => ∑ j ∈ range n, f h t j - ∑ j ∈ range s, f h t j := by
  refine eq_ten fun h t s => ?_
  change Host.reduceWindow (· + ·) (![1, 1, n] : Fin 3 → ℕ) ![1, 1, 1] ![0, 0, 0] ![0, 0, hi] (ten .f32 a b n f)
    (fun _ : (⟨0, ![]⟩ : Shape).Idx => v (Shape.Idx.first hu)) hw hu (ix3 h t s) = _
  unfold Host.reduceWindow
  refine (foldl_add_sum _ _).trans ?_
  rw [hv, zero_add, ← sum_tail (f h.val t.val) (le_of_lt s.isLt), ← sum_lastWindow]
  refine sum_congr rfl fun k _ => ?_
  have w0 : ((lastWindow n).rowMajor.symm k 0).val = 0 := by rw [lastWindow_symm]; rfl
  have w1 : ((lastWindow n).rowMajor.symm k 1).val = 0 := by rw [lastWindow_symm]; rfl
  have w2 : ((lastWindow n).rowMajor.symm k 2).val = k.val := by rw [lastWindow_symm]; rfl
  by_cases hs : s.val + k.val < n
  · rw [dif_pos, if_pos hs]
    · change ((f _ _ _ : ℝ) : EReal) = _
      change ((f (h.val * 1 + ((lastWindow n).rowMajor.symm k 0).val - 0) (t.val * 1 + ((lastWindow n).rowMajor.symm k 1).val - 0)
        (s.val * 1 + ((lastWindow n).rowMajor.symm k 2).val - 0) : ℝ) : EReal) = _
      rw [w0, w1, w2]
      simp only [Nat.mul_one, Nat.add_zero, Nat.sub_zero]
    · intro i
      match i with
      | ⟨0, _⟩ =>
        change 0 ≤ _ ∧ h.val * 1 + ((lastWindow n).rowMajor.symm k 0).val - 0 < a
        rw [w0]; have := h.isLt; omega
      | ⟨1, _⟩ =>
        change 0 ≤ _ ∧ t.val * 1 + ((lastWindow n).rowMajor.symm k 1).val - 0 < b
        rw [w1]; have := t.isLt; omega
      | ⟨2, _⟩ =>
        change 0 ≤ _ ∧ s.val * 1 + ((lastWindow n).rowMajor.symm k 2).val - 0 < n
        rw [w2]; omega
  · rw [dif_neg, if_neg hs, EReal.coe_zero]
    intro hin
    have h2 := (hin 2).2
    change s.val * 1 + ((lastWindow n).rowMajor.symm k 2).val - 0 < n at h2
    rw [w2] at h2; omega

/-- The running sum from the start. -/
theorem window_head {a b l : ℕ} (f : ℕ → ℕ → ℕ → ℝ) (v : FVec Ideal ⟨0, ![]⟩ .f32) (hv : ∀ i, v i = 0)
    (hw : (⟨3, ![a, b, l + 1]⟩ : Shape).ReduceWindows (![1, 1, l + 1] : Fin 3 → ℕ) ![1, 1, 1] ![0, 0, l] ![0, 0, 0] ⟨3, ![a, b, l + 1]⟩)
    (hu : 0 < (⟨0, ![]⟩ : Shape).numel) :
    Host.reduceWindowAdd (F := Ideal) (![1, 1, l + 1] : Fin 3 → ℕ) ![1, 1, 1] ![0, 0, l] ![0, 0, 0] (ten .f32 a b (l + 1) f) v hw hu
      = ten .f32 a b (l + 1) fun h t s => ∑ j ∈ range (s + 1), f h t j := by
  refine eq_ten fun h t s => ?_
  change Host.reduceWindow (· + ·) (![1, 1, l + 1] : Fin 3 → ℕ) ![1, 1, 1] ![0, 0, l] ![0, 0, 0] (ten .f32 a b (l + 1) f)
    (fun _ : (⟨0, ![]⟩ : Shape).Idx => v (Shape.Idx.first hu)) hw hu (ix3 h t s) = _
  unfold Host.reduceWindow
  refine (foldl_add_sum _ _).trans ?_
  have hs := s.isLt
  rw [hv, zero_add, ← sum_head (f h.val t.val) (Nat.le_of_lt_succ hs), ← sum_lastWindow]
  refine sum_congr rfl fun k _ => ?_
  have hk : k.val < l + 1 := (Fin.cast (lastWindow_numel (l + 1)) k).isLt
  have w0 : ((lastWindow (l + 1)).rowMajor.symm k 0).val = 0 := by rw [lastWindow_symm]; rfl
  have w1 : ((lastWindow (l + 1)).rowMajor.symm k 1).val = 0 := by rw [lastWindow_symm]; rfl
  have w2 : ((lastWindow (l + 1)).rowMajor.symm k 2).val = k.val := by rw [lastWindow_symm]; rfl
  by_cases hc : l ≤ s.val + k.val
  · rw [dif_pos, if_pos hc]
    · change ((f (h.val * 1 + ((lastWindow (l + 1)).rowMajor.symm k 0).val - 0) (t.val * 1 + ((lastWindow (l + 1)).rowMajor.symm k 1).val - 0)
        (s.val * 1 + ((lastWindow (l + 1)).rowMajor.symm k 2).val - l) : ℝ) : EReal) = _
      rw [w0, w1, w2]
      simp only [Nat.mul_one, Nat.add_zero, Nat.sub_zero]
    · intro i
      match i with
      | ⟨0, _⟩ =>
        change 0 ≤ _ ∧ h.val * 1 + ((lastWindow (l + 1)).rowMajor.symm k 0).val - 0 < a
        rw [w0]; have := h.isLt; omega
      | ⟨1, _⟩ =>
        change 0 ≤ _ ∧ t.val * 1 + ((lastWindow (l + 1)).rowMajor.symm k 1).val - 0 < b
        rw [w1]; have := t.isLt; omega
      | ⟨2, _⟩ =>
        change l ≤ s.val * 1 + ((lastWindow (l + 1)).rowMajor.symm k 2).val ∧ s.val * 1 + ((lastWindow (l + 1)).rowMajor.symm k 2).val - l < l + 1
        rw [w2]; omega
  · rw [dif_neg, if_neg hc, EReal.coe_zero]
    intro hin
    have h2 := (hin 2).1
    change l ≤ s.val * 1 + ((lastWindow (l + 1)).rowMajor.symm k 2).val at h2
    rw [w2] at h2; omega

end Cert.Mat

end
-- ==== Proof.Value.Ref.lean ====
/- What the reference computes, on real arguments. -/
module

public import proofs.«01_k».proof.Proof.Value.Scalar
public import proofs.«01_k».proof.Proof.Value.Window
public import proofs.«01_k».proof.Proof.Gen.ReferenceIdeal.Run

@[expose] public section

set_option maxRecDepth 16384

noncomputable section

namespace Cert.ReferenceIdeal.Own

open Cert.ReferenceIdeal Cert.ReferenceIdeal.Gen Cert.Mat Cert.Real Finset
open Idealize.ShloMosaic Idealize.ShloMosaic.TcCoe

/-! ### Its operations on real arrays -/

/-- The heads of a matrix of rows. -/
def heads (X : ℕ → ℕ → ℝ) (h t d : ℕ) : ℝ := X t (64 * h + d)

theorem heads_eq (X : ℕ → ℕ → ℝ) :
    transpose S16x4096x64 [1, 0, 2] (shapeCast S4096x16x64 (mat .f32 4096 1024 X) shapeCasts_S4096x1024_S4096x16x64)
      transposes_S4096x16x64_S16x4096x64_1_0_2 = ten .f32 16 4096 64 (heads X) := by
  refine eq_ten fun h t d => ?_
  pointwise [mat_ix2]
  unfold heads; rw [mul_comm h.val]

theorem rows_eq (f : ℕ → ℕ → ℕ → ℝ) :
    shapeCast S4096x1024 (transpose S4096x16x64 [1, 0, 2] (ten .f32 16 4096 64 f) transposes_S16x4096x64_S4096x16x64_1_0_2)
      shapeCasts_S4096x16x64_S4096x1024 = mat .f32 4096 1024 fun t j => f (j / 64) t (j % 64) := by
  refine eq_mat fun t j => ?_
  pointwise [ten_ix3]

theorem swap_eq (f : ℕ → ℕ → ℕ → ℝ) :
    transpose S16x4096x64 [0, 2, 1] (ten .f32 16 64 4096 f) transposes_S16x64x4096_S16x4096x64_0_2_1
      = ten .f32 16 4096 64 fun h s d => f h d s := by
  refine eq_ten fun h t d => ?_
  pointwise [ten_ix3]

theorem dot_heads (f g : ℕ → ℕ → ℕ → ℝ) :
    Host.dotGeneral (F := Ideal) dot_S16x4096x64_S16x4096x64_S16x4096x4096_2_2_1_1_0_0 none (ten .f32 16 4096 64 f) (ten .f32 16 4096 64 g)
      = ten .f32 16 4096 4096 fun h t s => ∑ d ∈ range 64, f h t d * g h s d := by
  refine eq_ten fun h t s => ?_
  pointwise [ten_ix3]
  exact sum_mul_coe (fun d => f h t d) (fun d => g h s d)

theorem dot_queries (f g : ℕ → ℕ → ℕ → ℝ) :
    Host.dotGeneral (F := Ideal) dot_S16x4096x64_S16x4096x4096_S16x64x4096_1_1_2_2_0_0 none (ten .f32 16 4096 64 f) (ten .f32 16 4096 4096 g)
      = ten .f32 16 64 4096 fun h d s => ∑ t ∈ range 4096, f h t d * g h t s := by
  refine eq_ten fun h d s => ?_
  pointwise [ten_ix3]
  exact sum_mul_coe (fun t => f h t d) (fun t => g h t s)

theorem dot_queries' (f g : ℕ → ℕ → ℕ → ℝ) :
    Host.dotGeneral (F := Ideal) dot_S16x4096x4096_S16x4096x64_S16x4096x64_1_1_2_2_0_0 none (ten .f32 16 4096 4096 f) (ten .f32 16 4096 64 g)
      = ten .f32 16 4096 64 fun h s d => ∑ t ∈ range 4096, f h t s * g h t d := by
  refine eq_ten fun h s d => ?_
  pointwise [ten_ix3]
  exact sum_mul_coe (fun t => f h t s) (fun t => g h t d)

theorem dot_keys (f g : ℕ → ℕ → ℕ → ℝ) :
    Host.dotGeneral (F := Ideal) dot_S16x4096x4096_S16x4096x64_S16x4096x64_2_1_1_2_0_0 none (ten .f32 16 4096 4096 f) (ten .f32 16 4096 64 g)
      = ten .f32 16 4096 64 fun h t d => ∑ s ∈ range 4096, f h t s * g h s d := by
  refine eq_ten fun h t d => ?_
  pointwise [ten_ix3]
  exact sum_mul_coe (fun s => f h t s) (fun s => g h s d)

theorem add_eq (f g : ℕ → ℕ → ℕ → ℝ) : addf (F := Ideal) (ten .f32 16 4096 4096 f) (ten .f32 16 4096 4096 g)
    = ten .f32 16 4096 4096 fun h t s => f h t s + g h t s :=
  eq_ten fun h t s => by pointwise [ten_ix3]; exact (EReal.coe_add _ _).symm

theorem sub_eq (f g : ℕ → ℕ → ℕ → ℝ) : subf (F := Ideal) (ten .f32 16 4096 4096 f) (ten .f32 16 4096 4096 g)
    = ten .f32 16 4096 4096 fun h t s => f h t s - g h t s :=
  eq_ten fun h t s => by pointwise [ten_ix3]; exact (EReal.coe_sub _ _).symm

theorem mul_eq (f g : ℕ → ℕ → ℕ → ℝ) : mulf (F := Ideal) (ten .f32 16 4096 4096 f) (ten .f32 16 4096 4096 g)
    = ten .f32 16 4096 4096 fun h t s => f h t s * g h t s :=
  eq_ten fun h t s => by pointwise [ten_ix3]; exact (EReal.coe_mul _ _).symm

theorem neg_eq (f : ℕ → ℕ → ℕ → ℝ) : Host.negf (F := Ideal) (ten .f32 16 4096 4096 f)
    = ten .f32 16 4096 4096 fun h t s => -f h t s :=
  eq_ten fun h t s => by pointwise [ten_ix3]; exact (EReal.coe_neg _).symm

theorem exp_eq (f : ℕ → ℕ → ℕ → ℝ) : Host.exp (F := Ideal) (ten .f32 16 4096 4096 f)
    = ten .f32 16 4096 4096 fun h t s => Real.exp (f h t s) :=
  eq_ten fun h t s => by pointwise [ten_ix3]; exact exp_real _

/-- Zeros. -/
def zeros : FVec Ideal S16x4096x4096 .f32 := broadcastInDim S16x4096x4096 ![] bcast_S_S16x4096x4096 (constant S_ .f32 0x00000000#32)

theorem zeros_eq : broadcastInDim S16x4096x4096 ![] bcast_S_S16x4096x4096 (constant (F := Ideal) S_ .f32 0x00000000#32) = zeros := rfl

/-- Eighths. -/
def eighths : FVec Ideal S16x4096x4096 .f32 := broadcastInDim S16x4096x4096 ![] bcast_S_S16x4096x4096 (constant S_ .f32 0x3E000000#32)

theorem eighths_eq : broadcastInDim S16x4096x4096 ![] bcast_S_S16x4096x4096 (constant (F := Ideal) S_ .f32 0x3E000000#32) = eighths := rfl

/-- Infinities. -/
def infs : FVec Ideal S16x4096x4096 .f32 := broadcastInDim S16x4096x4096 ![] bcast_S_S16x4096x4096 (constant S_ .f32 0x7F800000#32)

theorem infs_eq : broadcastInDim S16x4096x4096 ![] bcast_S_S16x4096x4096 (constant (F := Ideal) S_ .f32 0x7F800000#32) = infs := rfl

/-- Where a running sum starts. -/
def start : FVec Ideal S_ .f32 := broadcastInDim S_ ![] bcast_S_S_ (constant S_ .f32 0x00000000#32)

theorem start_eq : broadcastInDim S_ ![] bcast_S_S_ (constant (F := Ideal) S_ .f32 0x00000000#32) = start := rfl

/-- The keys before each query. -/
def earlier : IVec S16x4096x4096 1 :=
  broadcastInDim S16x4096x4096 ![1, 2] bcast_S4096x4096_S16x4096x4096_1_2 (cmpi .slt
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

theorem earlier_eq : broadcastInDim S16x4096x4096 ![1, 2] bcast_S4096x4096_S16x4096x4096_1_2 (cmpi .slt
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))) = earlier := rfl

theorem eighth_eq (f : ℕ → ℕ → ℕ → ℝ) : mulf (F := Ideal) (ten .f32 16 4096 4096 f) eighths
    = ten .f32 16 4096 4096 fun h t s => f h t s * (1 / 8) :=
  eq_ten fun h t s => by pointwise [ten_ix3, eighths, Cert.KernelIdeal.Own.eighth]; exact (EReal.coe_mul _ _).symm

theorem mask_eq (f : ℕ → ℕ → ℕ → ℝ) :
    select earlier (ten .f32 16 4096 4096 f) zeros
    = ten .f32 16 4096 4096 fun h t s => if s < t then f h t s else 0 :=
  eq_ten fun h t s => by
    pointwise [ten_ix3, earlier, zeros]
    rw [select_before, apply_ite (fun x : ℝ => (x : EReal)), EReal.coe_zero]

theorem soft_eq (f : ℕ → ℕ → ℕ → ℝ) :
    select (cmpf .une (subf (ten .f32 16 4096 4096 f) zeros) (subf (ten .f32 16 4096 4096 f) zeros)) (addf (ten .f32 16 4096 4096 f) zeros)
      (addf (maximumf (ten .f32 16 4096 4096 f) zeros) (Host.log1p (Host.exp (Host.negf (Host.absf (subf (ten .f32 16 4096 4096 f) zeros))))))
    = ten .f32 16 4096 4096 fun h t s => -lsig (-f h t s) :=
  eq_ten fun h t s => by
    pointwise [ten_ix3, zeros]
    simp only [coe_ne_self, if_false, soft_scalar]

/-- A real array has no infinite entry to replace. -/
theorem finite_eq (f : ℕ → ℕ → ℕ → ℝ) :
    select (cmpf (F := Ideal) .oeq (ten .f32 16 4096 4096 f) infs) zeros
      (ten .f32 16 4096 4096 f) = ten .f32 16 4096 4096 f :=
  eq_ten fun h t s => by
    have b : Ideal.ofBits .f32 0x7F800000#32 = (⊤ : EReal) := by simp [Ideal.ofBits, Ideal.ieee]
    pointwise [ten_ix3, infs, zeros, b]
    simp

theorem tail_eq (f : ℕ → ℕ → ℕ → ℝ) :
    Host.reduceWindowAdd (F := Ideal) ![1, 1, 4096] ![1, 1, 1] ![0, 0, 0] ![0, 0, 4095] (ten .f32 16 4096 4096 f)
      start reduceWindows_S16x4096x4096_S16x4096x4096_w1s1p0_0_w1s1p0_0_w4096s1p0_4095 h_S_
    = ten .f32 16 4096 4096 fun h t s => ∑ j ∈ range 4096, f h t j - ∑ j ∈ range s, f h t j :=
  window_tail f 4095 _ (fun i => by unfold start; pointwise []) _ _

theorem head_eq (f : ℕ → ℕ → ℕ → ℝ) :
    Host.reduceWindowAdd (F := Ideal) ![1, 1, 4096] ![1, 1, 1] ![0, 0, 4095] ![0, 0, 0] (ten .f32 16 4096 4096 f)
      start reduceWindows_S16x4096x4096_S16x4096x4096_w1s1p0_0_w1s1p0_0_w4096s1p4095_0 h_S_
    = ten .f32 16 4096 4096 fun h t s => ∑ j ∈ range (s + 1), f h t j :=
  window_head f _ (fun i => by unfold start; pointwise []) _ _

/-! ### Its expressions, as the kernel's -/

section

variable (Q K W D : ℕ → ℕ → ℝ) (h t s : ℕ)

theorem da_fold : ∑ d ∈ range 64, heads D h t d * heads W h s d = da W D h t s := rfl

theorem z_fold : da K Q h t s * (1 / 8) = z (scaled Q) K h t s := by
  unfold da z scaled
  rw [Finset.sum_mul]
  exact sum_congr rfl fun d _ => by ring

theorem lm_fold : (if s < t then lsig (-z Q K h t s) else 0) = lm Q K h t s := rfl

theorem P_fold (n : ℕ) : ∑ j ∈ range n, lm Q K h t j = P Q K h t n := rfl

theorem P_succ (x : ℝ) : x - P Q K h t s - lm Q K h t s = x - P Q K h t (s + 1) := by
  unfold P; rw [sum_range_succ]; ring

theorem a_fold : (if s < t then Real.exp (lsig (z Q K h t s) + (P Q K h t 4096 - P Q K h t (s + 1))) else 0) = a Q K h t s := rfl

theorem g_fold : (if s < t then da W D h t s else 0) * Real.exp (lsig (z Q K h t s) + (P Q K h t 4096 - P Q K h t (s + 1)))
    = g Q K W D h t s := by
  unfold g a
  split_ifs <;> ring

theorem G_fold (n : ℕ) : ∑ j ∈ range n, g Q K W D h t j = G Q K W D h t n := rfl

theorem sg_fold (x : ℝ) : Real.exp (x - -lsig (-x)) = sg x := by
  rw [← exp_lsig, ← lsig_sub x, show x - -(lsig x - x) = lsig x by ring]

theorem sg_fold' (x : ℝ) : Real.exp (-x - -lsig x) = sg (-x) := by
  have e := sg_fold (-x); rwa [neg_neg] at e

/-- The two ways of the logit's gradient: the logistic function of the opposite logit times the weight's own part, less the logistic function
    times the part of the weights before; and the own part less the logistic function times both. -/
theorem dz_fold : -(-g Q K W D h t s * sg (-z Q K h t s)) + -(if s < t then -g Q K W D h t s + G Q K W D h t (s + 1) else 0) * sg (z Q K h t s)
    = dz Q K W D h t s := by
  unfold dz
  have e : G Q K W D h t (s + 1) = G Q K W D h t s + g Q K W D h t s := sum_range_succ _ _
  have b : sg (-z Q K h t s) = 1 - sg (z Q K h t s) := by have := sg_add (z Q K h t s); linarith
  split_ifs with c
  · rw [e, b]; ring
  · have g0 : g Q K W D h t s = 0 := by unfold g; rw [a_zero _ _ (Nat.le_of_not_lt c), zero_mul]
    rw [g0]; ring

end

/-! ### Its results -/

variable (m : (ℓ : Loc nD τ sig) → Buf (Elt Ideal) ℓ) (c : Dev nD) (Q K W D : ℕ → ℕ → ℝ)

/-- The arguments, all real. -/
structure Args : Prop where
  q : m ((c.tc : Thread nD τ).loc main_arg0) = mat .f32 4096 1024 Q
  k : m ((c.tc : Thread nD τ).loc main_arg1) = mat .f32 4096 1024 K
  v : m ((c.tc : Thread nD τ).loc main_arg2) = mat .f32 4096 1024 W
  o : m ((c.tc : Thread nD τ).loc main_arg3) = mat .f32 4096 1024 D

variable {m c Q K W D} (A : Args m c Q K W D)

include A

theorem heads_q : transpose S16x4096x64 [1, 0, 2] (shapeCast _ (m ((c.tc : Thread nD τ).loc main_arg0)) shapeCasts_S4096x1024_S4096x16x64)
    transposes_S4096x16x64_S16x4096x64_1_0_2 = ten .f32 16 4096 64 (heads Q) := by
  rw [A.q]; exact heads_eq Q

theorem heads_k : transpose S16x4096x64 [1, 0, 2] (shapeCast _ (m ((c.tc : Thread nD τ).loc main_arg1)) shapeCasts_S4096x1024_S4096x16x64)
    transposes_S4096x16x64_S16x4096x64_1_0_2 = ten .f32 16 4096 64 (heads K) := by
  rw [A.k]; exact heads_eq K

theorem heads_v : transpose S16x4096x64 [1, 0, 2] (shapeCast _ (m ((c.tc : Thread nD τ).loc main_arg2)) shapeCasts_S4096x1024_S4096x16x64)
    transposes_S4096x16x64_S16x4096x64_1_0_2 = ten .f32 16 4096 64 (heads W) := by
  rw [A.v]; exact heads_eq W

theorem heads_o : transpose S16x4096x64 [1, 0, 2] (shapeCast _ (m ((c.tc : Thread nD τ).loc main_arg3)) shapeCasts_S4096x1024_S4096x16x64)
    transposes_S4096x16x64_S16x4096x64_1_0_2 = ten .f32 16 4096 64 (heads D) := by
  rw [A.o]; exact heads_eq D

/-- The value gradient. -/
theorem out2 : Value.res_main_v48 (F := Ideal) m c = mat .f32 4096 1024 (DV (scaled Q) K D) := by
  unfold Value.res_main_v48
  simp only [id_eq, heads_q A, heads_k A, heads_o A]
  rw [zeros_eq, eighths_eq, start_eq, earlier_eq]
  simp only [dot_heads, eighth_eq, neg_eq, neg_neg, soft_eq, mask_eq, tail_eq, sub_eq, add_eq, exp_eq, da_fold, z_fold, lm_fold, P_fold, P_succ,
    a_fold, dot_queries]
  rw [swap_eq]
  refine (rows_eq _).trans (mat_congr fun s _ j _ => ?_)
  unfold DV heads
  rw [show 64 * (j / 64) + j % 64 = j by omega]

/-- The key gradient. -/
theorem out1 : Value.res_main_v50 (F := Ideal) m c = mat .f32 4096 1024 (DK (scaled Q) K W D) := by
  unfold Value.res_main_v50
  simp only [id_eq, heads_q A, heads_k A, heads_v A, heads_o A]
  rw [zeros_eq, eighths_eq, start_eq, earlier_eq, infs_eq]
  simp only [dot_heads, eighth_eq, neg_eq, neg_neg, soft_eq, mask_eq, tail_eq, head_eq, sub_eq, mul_eq, add_eq, exp_eq, finite_eq, da_fold, z_fold,
    lm_fold, P_fold, P_succ, g_fold, G_fold, sg_fold, sg_fold', dz_fold, dot_queries']
  refine (rows_eq _).trans (mat_congr fun s _ j _ => ?_)
  unfold DK heads scaled
  rw [show 64 * (j / 64) + j % 64 = j by omega]
  exact sum_congr rfl fun t _ => by ring

/-- The query gradient. -/
theorem out0 : Value.res_main_v53 (F := Ideal) m c = mat .bf16 4096 1024 (DQ (scaled Q) K W D) := by
  unfold Value.res_main_v53
  simp only [id_eq, heads_q A, heads_k A, heads_v A, heads_o A]
  rw [zeros_eq, eighths_eq, start_eq, earlier_eq, infs_eq]
  simp only [dot_heads, eighth_eq, neg_eq, neg_neg, soft_eq, mask_eq, tail_eq, head_eq, sub_eq, mul_eq, add_eq, exp_eq, finite_eq, da_fold, z_fold,
    lm_fold, P_fold, P_succ, g_fold, G_fold, sg_fold, sg_fold', dz_fold, dot_keys]
  refine (congrArg (fun x => truncf .bf16 x bitsLt_bf16_f32) (rows_eq _)).trans (eq_mat fun t j => ?_)
  pointwise [mat_ix2]
  unfold DQ heads
  rw [show 64 * (j.val / 64) + j.val % 64 = j.val by omega, Finset.sum_mul]
  exact congrArg (fun x : ℝ => (x : EReal)) (sum_congr rfl fun s _ => by ring)

end Cert.ReferenceIdeal.Own

end
-- ==== Proof.Lin.Array.lean ====
/- Arrays of extended reals written as functions of the numbers of a row, a column and a slab. -/
module

public import Idealize.ShloMosaic.Lib.Pointwise
public import Idealize.ShloMosaic.PureOps.IdealRules
public import Idealize.ShloMosaic.Lib.Pipeline.ValueKit

@[expose] public section

set_option maxRecDepth 16384

noncomputable section

namespace Cert.Lin

open Idealize.ShloMosaic

/-- The array whose entry at row `r` and column `c` is `f r c`. -/
def grid (φ : FTy) (a b : ℕ) (f : ℕ → ℕ → EReal) : FVec Ideal ⟨2, ![a, b]⟩ φ := fun j => f (j 0).val (j 1).val

theorem grid_ix2 {a b : ℕ} {φ : FTy} (f : ℕ → ℕ → EReal) (r : Fin a) (c : Fin b) : grid φ a b f (ix2 r c) = f r.val c.val := rfl

theorem eq_grid {a b : ℕ} {φ : FTy} {x : FVec Ideal ⟨2, ![a, b]⟩ φ} {f : ℕ → ℕ → EReal}
    (h : ∀ (r : Fin a) (c : Fin b), x (ix2 r c) = f r.val c.val) : x = grid φ a b f := by
  funext j; rw [eq_ix2 j]; exact h _ _

/-- Every array is one. -/
theorem exists_grid {a b : ℕ} {φ : FTy} (x : FVec Ideal ⟨2, ![a, b]⟩ φ) : ∃ f, x = grid φ a b f := by
  refine ⟨fun r c => if h : r < a ∧ c < b then x (ix2 ⟨r, h.1⟩ ⟨c, h.2⟩) else 0, eq_grid fun r c => ?_⟩
  rw [dif_pos ⟨r.isLt, c.isLt⟩]

/-- The array whose entry at the slab `h`, row `r` and column `c` is `f h r c`. -/
def slabs (φ : FTy) (a b c : ℕ) (f : ℕ → ℕ → ℕ → EReal) : FVec Ideal ⟨3, ![a, b, c]⟩ φ :=
  fun j => f (j 0).val (j 1).val (j 2).val

theorem slabs_ix3 {a b c : ℕ} {φ : FTy} (f : ℕ → ℕ → ℕ → EReal) (h : Fin a) (r : Fin b) (s : Fin c) :
    slabs φ a b c f (ix3 h r s) = f h.val r.val s.val := rfl

theorem eq_slabs {a b c : ℕ} {φ : FTy} {x : FVec Ideal ⟨3, ![a, b, c]⟩ φ} {f : ℕ → ℕ → ℕ → EReal}
    (e : ∀ (h : Fin a) (r : Fin b) (s : Fin c), x (ix3 h r s) = f h.val r.val s.val) : x = slabs φ a b c f := by
  funext j; rw [eq_ix3 j]; exact e _ _ _

/-- A sum over the indices below `n`. -/
theorem sum_below {n : ℕ} (f : ℕ → EReal) : ∑ k : Fin n, f k.val = ∑ k ∈ Finset.range n, f k := Fin.sum_univ_eq_sum_range f n

/-- A sum in two halves. -/
theorem sum_halves (n : ℕ) (f : ℕ → EReal) :
    (∑ k ∈ Finset.range n, f k) + (∑ k ∈ Finset.range n, f (n + k)) = ∑ k ∈ Finset.range (n + n), f k :=
  (Finset.sum_range_add f n n).symm

/-- A sum in four quarters. -/
theorem sum_quarters (n : ℕ) (f : ℕ → EReal) :
    (∑ k ∈ Finset.range n, f k) + (∑ k ∈ Finset.range n, f (n + k)) + (∑ k ∈ Finset.range n, f (n + n + k)) + (∑ k ∈ Finset.range n, f (n + n + n + k))
      = ∑ k ∈ Finset.range (n + n + n + n), f k := by
  rw [Finset.sum_range_add f (n + n + n) n, Finset.sum_range_add f (n + n) n, Finset.sum_range_add f n n]

/-- A part of an array. -/
theorem ld_grid {a b a' b' : ℕ} (f : ℕ → ℕ → EReal) (o : Fin 2 → ℕ) (h) :
    (View.ld (Val := Elt Ideal) (e' := .bf16) (grid .bf16 a b f) (Rect.unit (s := ⟨2, ![a, b]⟩) o ![a', b'] h) : FVec Ideal ⟨2, ![a', b']⟩ .bf16)
      = grid .bf16 a' b' fun r c => f (o 0 + r) (o 1 + c) := by
  refine eq_grid fun r c => ?_
  refine congrArg₂ f ?_ ?_ <;> simp only [Rect.idx_unit_val] <;> simp

theorem ld_slabs {a b c a' b' c' : ℕ} (f : ℕ → ℕ → ℕ → EReal) (o : Fin 3 → ℕ) (h) :
    (View.ld (Val := Elt Ideal) (e' := .bf16) (slabs .bf16 a b c f) (Rect.unit (s := ⟨3, ![a, b, c]⟩) o ![a', b', c'] h) : FVec Ideal ⟨3, ![a', b', c']⟩ .bf16)
      = slabs .bf16 a' b' c' fun s r k => f (o 0 + s) (o 1 + r) (o 2 + k) := by
  refine eq_slabs fun s r k => ?_
  refine congr (congrArg₂ f ?_ ?_) ?_ <;> simp only [Rect.idx_unit_val] <;> simp

end Cert.Lin

end
-- ==== Proof.Relu.Value.lean ====
/- The gradient through the squared rectifier: what the kernel leaves and what the reference computes. -/
module

public import proofs.«01_k».proof.Proof.Lin.Array
public import proofs.«01_k».proof.Proof.Gen.KernelReluIdeal.Value
public import proofs.«01_k».proof.Proof.Gen.ReferenceReluIdeal.Run
public import Idealize.ShloMosaic.Lib.Pipeline.ValueKit

@[expose] public section

set_option maxRecDepth 16384

noncomputable section

namespace Cert.KernelReluIdeal.Own

open Cert.KernelReluIdeal Cert.KernelReluIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (H W D : ℕ → ℕ → EReal)

theorem idx : ∀ t : Fin cfg0.N, win0_0.index t = ![t.val / 4, 0] ∧ win0_1.index t = ![0, 0, 0]
    ∧ win0_2.index t = ![t.val / 4, t.val % 4] ∧ win0_3.index t = ![t.val / 4, t.val % 4] :=
  (by decide +kernel : ∀ t : Fin grid0.N, _)

theorem off : ∀ t : Fin cfg0.N, k0_off1 (grid0.coords t) = ![t.val % 4, 0, 0] := (by decide +kernel : ∀ t : Fin grid0.N, _)

/-- The arguments. -/
structure Args : Prop where
  h : m ((c : Thread nD τ).loc main_arg0) = grid .f32 4096 4096 H
  w : m ((c : Thread nD τ).loc main_arg1) = grid .f32 4096 1024 W
  d : m ((c : Thread nD τ).loc main_arg2) = grid .f32 4096 1024 D

/-- The gradient at row `i` and column `j`. -/
def dh (i j : ℕ) : EReal := (∑ k ∈ range 1024, D i k * W j k) * (Ideal.ofBits .f32 0x40000000#32 * max (H i j) 0)

theorem off_val (t : Fin cfg0.N) (a : Fin 3) : k0_off1 (grid0.coords t) a = (![t.val % 4, 0, 0] : Fin 3 → ℕ) a := congrFun (off t) a

/-- What a grid point leaves in its block of the result: its tile of the product, times twice its tile of the rectified rows. -/
theorem out_eq (t : Fin cfg0.N) (f : ℕ → ℕ → ℕ → EReal) (x0 x2 : Vec Ideal S1024x1024 .bf16) :
    out0_A_3 c (grid0.coords t) (ms0_0 t) (hs0_0 t) (ms0_1 t) (hs0_1 t) (ms0_2 t) (hs0_2 t) (ms0_3 t) (hs0_3 t) x0 (slabs .bf16 4 1024 1024 f) x2
      = k0_pay1 (slabs .bf16 1 1024 1024 fun _ => f (t.val % 4)) x0 x2 := by
  have e : (View.ld (Val := Elt Ideal) (e' := .bf16) (slabs .bf16 4 1024 1024 f) (Rect.unit (s := S4x1024x1024) (k0_off1 (grid0.coords t)) S1x1024x1024.size (k0_off1_inb _)) : FVec Ideal S1x1024x1024 .bf16)
      = slabs .bf16 1 1024 1024 fun _ => f (t.val % 4) := by
    refine eq_slabs fun s r k => ?_
    have := s.isLt
    refine congr (congr (congrArg f ?_) ?_) ?_ <;>
      simp only [Rect.idx_unit_val, off_val] <;> simp
  frame_out
  exact congrArg (fun v => k0_pay1 v x0 x2) e

variable {m c H W D} (A : Args m c H W D)

include A

theorem entry_p : V m c main_v2 = grid .bf16 4096 4096 fun i j => max (H i j) 0 := by
  unfold V
  simp only [hostOps0]
  after_results
  refine eq_grid fun r c => ?_
  pointwise [A.h, grid_ix2]

theorem entry_w : V m c main_v4 = slabs .bf16 4 1024 1024 fun s r k => W (s * 1024 + r) k := by
  unfold V
  simp only [hostOps0]
  after_results
  refine eq_slabs fun s r k => ?_
  pointwise [A.w, grid_ix2]

theorem entry_d : V m c main_v5 = grid .bf16 4096 1024 D := by
  unfold V
  simp only [hostOps0]
  after_results
  refine eq_grid fun r c => ?_
  pointwise [A.d, grid_ix2]

theorem blk0 (t : Fin cfg0.N) : iblk m c 0 t = grid .bf16 1024 1024 fun r k => D (1024 * (t.val / 4) + r) k := by
  funext y
  blk_simp [iblk]
  refine (congrFun (entry_d A) _).trans ?_
  refine congrArg₂ D ?_ ?_ <;> blk_simp [idx t] <;> ring

theorem blk1 (t : Fin cfg0.N) : iblk m c 1 t = slabs .bf16 4 1024 1024 fun s r k => W (s * 1024 + r) k := by
  funext y
  blk_simp [iblk]
  refine (congrFun (entry_w A) _).trans ?_
  refine congrArg₂ W ?_ ?_ <;> blk_simp [idx t] <;> ring

theorem blk2 (t : Fin cfg0.N) : iblk m c 2 t = grid .bf16 1024 1024 fun r k => max (H (1024 * (t.val / 4) + r) (t.val % 4 * 1024 + k)) 0 := by
  funext y
  blk_simp [iblk]
  refine (congrFun (entry_p A) _).trans ?_
  refine congrArg (fun x : EReal => max x 0) (congrArg₂ H ?_ ?_) <;> blk_simp [idx t] <;> ring

theorem final : (dats m 0 c).arrAt 3 cfg0.N = grid .bf16 4096 4096 (dh H W D) := by
  refine (dats m 0 c).arrAt_eq_of_covers 3 _ (by decide +kernel) fun t _ y => ?_
  blk_simp
  rw [after0_3]
  unfold outsAt0
  rw [blk0 A, blk1 A, blk2 A, out_eq]
  obtain ⟨r, k, rfl⟩ : ∃ (r k : Fin 1024), y = ix2 r k := ⟨_, _, eq_ix2 y⟩
  unfold k0_pay1
  pointwise [grid_ix2, slabs_ix3]
  rw [sum_below fun k' => D (1024 * (t.val / 4) + r.val) k' * W (t.val % 4 * 1024 + k.val) k']
  change dh H W D (1024 * (t.val / 4) + r.val) (t.val % 4 * 1024 + k.val) = _
  refine congrArg₂ (dh H W D) ?_ ?_ <;> blk_simp [idx t] <;> ring

end Cert.KernelReluIdeal.Own

namespace Cert.ReferenceReluIdeal.Own

open Cert.ReferenceReluIdeal Cert.ReferenceReluIdeal.Gen Cert.Lin Finset
open Idealize.ShloMosaic Idealize.ShloMosaic.TcCoe

variable (H W D : ℕ → ℕ → EReal)

/-- Where a row is not positive its rectified value is zero, and so is the product. -/
theorem out :
    (truncf .bf16 (select (cmpf .ogt (grid .f32 4096 4096 H : FVec Ideal S4096x4096 .f32) (broadcastInDim S4096x4096 ![] bcast_S_S4096x4096 (constant S_ .f32 0x00000000#32)))
      (mulf (Host.dotGeneral (F := Ideal) dot_S4096x1024_S4096x1024_S4096x4096_1_1_0_0_n_n none (grid .f32 4096 1024 D : FVec Ideal S4096x1024 .f32) (grid .f32 4096 1024 W))
        (mulf (broadcastInDim S4096x4096 ![] bcast_S_S4096x4096 (constant S_ .f32 0x40000000#32))
          (maximumf (grid .f32 4096 4096 H) (broadcastInDim S4096x4096 ![] bcast_S_S4096x4096 (constant S_ .f32 0x00000000#32)))))
      (broadcastInDim S4096x4096 ![] bcast_S_S4096x4096 (constant S_ .f32 0x00000000#32))) bitsLt_bf16_f32 : FVec Ideal S4096x4096 .bf16)
      = grid .bf16 4096 4096 (Cert.KernelReluIdeal.Own.dh H W D) := by
  refine eq_grid fun i j => ?_
  pointwise [grid_ix2]
  rw [sum_below fun k => D i.val k * W j.val k]
  unfold Cert.KernelReluIdeal.Own.dh
  split_ifs with h
  · rfl
  · rw [max_eq_right (not_lt.1 h), mul_zero, mul_zero]

end Cert.ReferenceReluIdeal.Own

end
-- ==== Proof.Relu.Claims.lean ====
/- The claims about the gradient through the squared rectifier. -/
module

public import proofs.«01_k».proof.Defs
public import proofs.«01_k».proof.Proof.Relu.Value
public import proofs.«01_k».proof.Proof.Gen.KernelRelu.Frame
public import Idealize.ShloMosaic.Lib.Quiescent

@[expose] public section

noncomputable section

namespace Cert.Relu

open Idealize.ShloMosaic Idealize.SL.Sem

theorem frame : Cert.quiescent_KernelRelu := fun m ρ _ => KernelRelu.Gen.frame m ρ

theorem frame_ideal : Cert.quiescent_KernelReluIdeal := fun m ρ _ => KernelReluIdeal.Gen.frame m ρ

theorem reference_frame : Cert.quiescent_ReferenceReluIdeal := fun m ρ _ =>
  (θ_run ReferenceReluIdeal.defs _ _).mono (fun r h => ⟨fun c => (h c).2, sem_eq_zero_of_no_sems (by decide) r.2⟩)
    (ReferenceReluIdeal.Value.run (F := Ideal) m ρ)

theorem equal : Cert.algebraic_KernelReluIdeal_ReferenceReluIdeal := by
  intro m g m' g' _ hagree
  refine ⟨fun c => (KernelReluIdeal.Gen.dats m 0 c).arrAt 3 KernelReluIdeal.cfg0.N,
    KernelReluIdeal.Value.run_blocks m g, ?_⟩
  refine (θ_run ReferenceReluIdeal.defs _ _).mono (fun r h c => ⟨(h c).1.trans ?_, (h c).2⟩)
    (ReferenceReluIdeal.Value.run (F := Ideal) m' g')
  obtain ⟨a0, a1, a2⟩ := hagree c
  obtain ⟨H, hH⟩ := Cert.Lin.exists_grid (φ := .f32) (m ((c.tc : Thread KernelReluIdeal.nD KernelReluIdeal.τ).loc KernelReluIdeal.main_arg0))
  obtain ⟨W, hW⟩ := Cert.Lin.exists_grid (φ := .f32) (m ((c.tc : Thread KernelReluIdeal.nD KernelReluIdeal.τ).loc KernelReluIdeal.main_arg1))
  obtain ⟨D, hD⟩ := Cert.Lin.exists_grid (φ := .f32) (m ((c.tc : Thread KernelReluIdeal.nD KernelReluIdeal.τ).loc KernelReluIdeal.main_arg2))
  have k := KernelReluIdeal.Own.final (m := m) (c := c) ⟨hH, hW, hD⟩
  rw [a0.trans hH, a1.trans hW, a2.trans hD]
  exact (ReferenceReluIdeal.Own.out H W D).trans k.symm

end Cert.Relu

end
-- ==== Proof.W2.Value.lean ====
/- The gradient of the second product's weights: what the kernel leaves and what the reference computes. -/
module

public import proofs.«01_k».proof.Proof.Lin.Array
public import proofs.«01_k».proof.Proof.Gen.KernelW2Ideal.Value
public import proofs.«01_k».proof.Proof.Gen.ReferenceW2Ideal.Run
public import Idealize.ShloMosaic.Lib.Pipeline.ValueKit

@[expose] public section

set_option maxRecDepth 16384

noncomputable section

namespace Cert.KernelW2Ideal.Own

open Cert.KernelW2Ideal Cert.KernelW2Ideal.Gen Cert.Lin Finset
open Idealize.ShloMosaic Idealize.ShloMosaic.TcCoe
open Idealize.ShloMosaic.Pipeline (Dat)

variable (m : (ℓ : Loc nD τ sig) → Buf (Elt Ideal) ℓ) (c : Dev nD) (H D : ℕ → ℕ → EReal)

theorem idx : ∀ t : Fin cfg0.N, win0_0.index t = ![t.val % 2, t.val / 2] ∧ win0_1.index t = ![t.val % 2, 0] ∧ win0_2.index t = ![t.val / 2, 0, 0] :=
  (by decide +kernel : ∀ t : Fin grid0.N, _)

/-- The arguments that the gradient depends on. -/
structure Args : Prop where
  h : m ((c : Thread nD τ).loc main_arg0) = grid .f32 4096 4096 H
  d : m ((c : Thread nD τ).loc main_arg2) = grid .f32 4096 1024 D

/-- The gradient's entry at row `j` and column `k`. -/
def dw (j k : ℕ) : EReal := ∑ t ∈ range 4096, max (H t j) 0 * max (H t j) 0 * D t k

/-- What a grid point adds: the product over its half of the rows. -/
theorem part_eq (p d : ℕ → ℕ → EReal) : k0_pay1 (F := Ideal) (grid .bf16 2048 1024 d) (grid .bf16 2048 1024 p)
    = grid .f32 1024 1024 fun r k => ∑ t ∈ range 2048, p t r * p t r * d t k := by
  refine eq_grid fun r k => ?_
  unfold k0_pay1
  pointwise [grid_ix2]
  exact sum_below fun t => p t r * p t r * d t k

theorem out_A (t : Fin cfg0.N) (h0 h1 h2) (x0 x1 : Vec Ideal S2048x1024 .bf16) :
    sout0_A_0 c (grid0.coords t) (ms0_0 t) (hs0_0 t) (ms0_1 t) (hs0_1 t) (ms0_2 t) (hs0_2 t) scM0_0 (Memref.isWhole_whole _) h0 h1 h2 x0 x1
      = k0_pay2 x1 x0 := by
  frame_out

theorem out_B (t : Fin cfg0.N) (h0 h1 h2) (x0 x1 : Vec Ideal S2048x1024 .bf16) (s : Vec Ideal S1024x1024 .f32) :
    out0_B_2 c (grid0.coords t) (ms0_0 t) (hs0_0 t) (ms0_1 t) (hs0_1 t) (ms0_2 t) (hs0_2 t) scM0_0 (Memref.isWhole_whole _) h0 h1 h2 x0 x1 s
      = k0_pay4 x1 x0 s := by
  frame_out
  exact congrArg (k0_pay4 x1 x0) ((Memref.isWhole_whole cc0_scratch0).read_unread s)

variable {m c H D} (A : Args m c H D)

include A

theorem entry_p : V m c main_v2 = grid .bf16 4096 4096 fun i j => max (H i j) 0 := by
  unfold V
  simp only [hostOps0]
  after_results
  refine eq_grid fun r c => ?_
  pointwise [A.h, grid_ix2]

theorem entry_d : V m c main_v3 = grid .bf16 4096 1024 D := by
  unfold V
  simp only [hostOps0]
  after_results
  refine eq_grid fun r c => ?_
  pointwise [A.d, grid_ix2]

theorem blk0 (t : Fin cfg0.N) : iblk m c 0 t = grid .bf16 2048 1024 fun r k => max (H (2048 * (t.val % 2) + r) (t.val / 2 * 1024 + k)) 0 := by
  funext y
  blk_simp [iblk]
  refine (congrFun (entry_p A) _).trans ?_
  refine congrArg (fun x : EReal => max x 0) (congrArg₂ H ?_ ?_) <;> blk_simp [idx t] <;> ring

theorem blk1 (t : Fin cfg0.N) : iblk m c 1 t = grid .bf16 2048 1024 fun r k => D (2048 * (t.val % 2) + r) k := by
  funext y
  blk_simp [iblk]
  refine (congrFun (entry_d A) _).trans ?_
  refine congrArg₂ D ?_ ?_ <;> blk_simp [idx t] <;> ring

/-- After an odd point the block holds the sum over both halves of the rows. -/
theorem after_odd (t : Fin cfg0.N) (o : t.val % 2 = 1) :
    (outsAt0 m c t.val t.isLt).1 = slabs .f32 1 1024 1024 fun _ r k => dw H D (t.val / 2 * 1024 + r) k := by
  have e := outsAt0_A m c ⟨t.val - 1, Nat.lt_of_le_of_lt (Nat.sub_le _ _) t.isLt⟩ (by dsimp only; omega) (by dsimp only; omega)
  rw [outsAt0_B m c t (by omega) o]
  dsimp only at e ⊢
  rw [e]
  dsimp only
  rw [out_A, out_B, blk0 A, blk1 A, blk0 A, blk1 A]
  unfold k0_pay4 k0_pay2
  rw [part_eq, part_eq]
  dsimp only
  rw [show (t.val - 1) % 2 = 0 by omega, show (t.val - 1) / 2 = t.val / 2 by omega, o]
  refine eq_slabs fun s r k => ?_
  pointwise [grid_ix2]
  unfold dw
  exact sum_halves 2048 fun x => max (H x (t.val / 2 * 1024 + r)) 0 * max (H x (t.val / 2 * 1024 + r)) 0 * D x k

theorem final : (dats m 0 c).arrAt 2 cfg0.N = slabs .f32 4 1024 1024 fun s r k => dw H D (s * 1024 + r) k := by
  refine (dats m 0 c).arrAt_eq_of_covers 2 _ (by decide +kernel) fun t ht y => ?_
  blk_simp
  rw [after0_2, after_odd A t ((flush0_2 t).mp ht)]
  obtain ⟨s, r, k, rfl⟩ : ∃ (s : Fin 1) (r k : Fin 1024), y = ix3 s r k := ⟨_, _, _, eq_ix3 y⟩
  refine congrArg₂ (dw H D) ?_ ?_ <;> blk_simp [idx t] <;> simp

end Cert.KernelW2Ideal.Own

namespace Cert.ReferenceW2Ideal.Own

open Cert.ReferenceW2Ideal Cert.ReferenceW2Ideal.Gen Cert.Lin Finset
open Idealize.ShloMosaic Idealize.ShloMosaic.TcCoe

variable (H D : ℕ → ℕ → EReal)

theorem out :
    (shapeCast S4x1024x1024 (transpose S4096x1024 [1, 0] (Host.dotGeneral (F := Ideal) dot_S4096x1024_S4096x4096_S1024x4096_0_0_1_1_n_n none
      (grid .f32 4096 1024 D : FVec Ideal S4096x1024 .f32)
      (mulf (maximumf (grid .f32 4096 4096 H : FVec Ideal S4096x4096 .f32) (broadcastInDim S4096x4096 ![] bcast_S_S4096x4096 (constant S_ .f32 0x00000000#32)))
        (maximumf (grid .f32 4096 4096 H : FVec Ideal S4096x4096 .f32) (broadcastInDim S4096x4096 ![] bcast_S_S4096x4096 (constant S_ .f32 0x00000000#32)))))
      transposes_S1024x4096_S4096x1024_1_0) shapeCasts_S4096x1024_S4x1024x1024 : FVec Ideal S4x1024x1024 .f32)
      = slabs .f32 4 1024 1024 fun s r k => Cert.KernelW2Ideal.Own.dw H D (s * 1024 + r) k := by
  refine eq_slabs fun s r k => ?_
  pointwise [grid_ix2]
  unfold Cert.KernelW2Ideal.Own.dw
  rw [← sum_below]
  exact Finset.sum_congr rfl fun x _ => mul_comm _ _

end Cert.ReferenceW2Ideal.Own

end
-- ==== Proof.W2.Claims.lean ====
/- The claims about the gradient of the second product's weights. -/
module

public import proofs.«01_k».proof.Defs
public import proofs.«01_k».proof.Proof.W2.Value
public import proofs.«01_k».proof.Proof.Gen.KernelW2.Frame
public import Idealize.ShloMosaic.Lib.Quiescent

@[expose] public section

noncomputable section

namespace Cert.W2

open Idealize.ShloMosaic Idealize.SL.Sem

theorem frame : Cert.quiescent_KernelW2 := fun m ρ _ => KernelW2.Gen.frame m ρ

theorem frame_ideal : Cert.quiescent_KernelW2Ideal := fun m ρ _ => KernelW2Ideal.Gen.frame m ρ

theorem reference_frame : Cert.quiescent_ReferenceW2Ideal := fun m ρ _ =>
  (θ_run ReferenceW2Ideal.defs _ _).mono (fun r h => ⟨fun c => (h c).2, sem_eq_zero_of_no_sems (by decide) r.2⟩)
    (ReferenceW2Ideal.Value.run (F := Ideal) m ρ)

theorem equal : Cert.algebraic_KernelW2Ideal_ReferenceW2Ideal := by
  intro m g m' g' _ hagree
  refine ⟨fun c => (KernelW2Ideal.Gen.dats m 0 c).arrAt 2 KernelW2Ideal.cfg0.N,
    KernelW2Ideal.Value.run_blocks m g, ?_⟩
  refine (θ_run ReferenceW2Ideal.defs _ _).mono (fun r h c => ⟨(h c).1.trans ?_, (h c).2⟩)
    (ReferenceW2Ideal.Value.run (F := Ideal) m' g')
  obtain ⟨a0, a1, a2⟩ := hagree c
  obtain ⟨H, hH⟩ := Cert.Lin.exists_grid (φ := .f32) (m ((c.tc : Thread KernelW2Ideal.nD KernelW2Ideal.τ).loc KernelW2Ideal.main_arg0))
  obtain ⟨D, hD⟩ := Cert.Lin.exists_grid (φ := .f32) (m ((c.tc : Thread KernelW2Ideal.nD KernelW2Ideal.τ).loc KernelW2Ideal.main_arg2))
  have k := KernelW2Ideal.Own.final (m := m) (c := c) ⟨hH, hD⟩
  rw [a0.trans hH, a2.trans hD]
  exact (ReferenceW2Ideal.Own.out H D).trans k.symm

end Cert.W2

end
-- ==== Proof.W1.Value.lean ====
/- The gradient of the first product's weights: what the kernel leaves and what the reference computes. -/
module

public import proofs.«01_k».proof.Proof.Lin.Array
public import proofs.«01_k».proof.Proof.Gen.KernelW1Ideal.Value
public import proofs.«01_k».proof.Proof.Gen.ReferenceW1Ideal.Run
public import Idealize.ShloMosaic.Lib.Pipeline.ValueKit

@[expose] public section

set_option maxRecDepth 16384

noncomputable section

namespace Cert.KernelW1Ideal.Own

open Cert.KernelW1Ideal Cert.KernelW1Ideal.Gen Cert.Lin Finset
open Idealize.ShloMosaic Idealize.ShloMosaic.TcCoe
open Idealize.ShloMosaic.Pipeline (Dat)

variable (m : (ℓ : Loc nD τ sig) → Buf (Elt Ideal) ℓ) (c : Dev nD) (X D : ℕ → ℕ → EReal)

theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The arguments that the gradient depends on. -/
structure Args : Prop where
  x : m ((c : Thread nD τ).loc main_arg0) = grid .f32 4096 1024 X
  d : m ((c : Thread nD τ).loc main_arg2) = grid .f32 4096 4096 D

/-- The gradient's entry at row `j` and column `k`. -/
def dw (j k : ℕ) : EReal := ∑ t ∈ range 4096, X t j * D t k

/-- What a grid point adds: the product over its half of the rows. -/
theorem part_eq (p d : ℕ → ℕ → EReal) : k0_pay1 (F := Ideal) (grid .bf16 2048 1024 d) (grid .bf16 2048 1024 p)
    = grid .f32 1024 1024 fun r k => ∑ t ∈ range 2048, p t r * d t k := by
  refine eq_grid fun r k => ?_
  unfold k0_pay1
  pointwise [grid_ix2]
  exact sum_below fun t => p t r * d t k

theorem out_A (t : Fin cfg0.N) (h0 h1 h2) (x0 x1 : Vec Ideal S2048x1024 .bf16) :
    sout0_A_0 c (grid0.coords t) (ms0_0 t) (hs0_0 t) (ms0_1 t) (hs0_1 t) (ms0_2 t) (hs0_2 t) scM0_0 (Memref.isWhole_whole _) h0 h1 h2 x0 x1
      = k0_pay2 x1 x0 := by
  frame_out

theorem out_B (t : Fin cfg0.N) (h0 h1 h2) (x0 x1 : Vec Ideal S2048x1024 .bf16) (s : Vec Ideal S1024x1024 .f32) :
    out0_B_2 c (grid0.coords t) (ms0_0 t) (hs0_0 t) (ms0_1 t) (hs0_1 t) (ms0_2 t) (hs0_2 t) scM0_0 (Memref.isWhole_whole _) h0 h1 h2 x0 x1 s
      = k0_pay4 x1 x0 s := by
  frame_out
  exact congrArg (k0_pay4 x1 x0) ((Memref.isWhole_whole cc0_scratch0).read_unread s)

variable {m c X D} (A : Args m c X D)

include A

theorem entry_x : V m c main_v2 = grid .bf16 4096 1024 X := by
  unfold V
  simp only [hostOps0]
  after_results
  refine eq_grid fun r c => ?_
  pointwise [A.x, grid_ix2]

theorem entry_d : V m c main_v3 = grid .bf16 4096 4096 D := by
  unfold V
  simp only [hostOps0]
  after_results
  refine eq_grid fun r c => ?_
  pointwise [A.d, grid_ix2]

theorem blk0 (t : Fin cfg0.N) : iblk m c 0 t = grid .bf16 2048 1024 fun r k => X (2048 * (t.val % 2) + r) k := by
  funext y
  blk_simp [iblk]
  refine (congrFun (entry_x A) _).trans ?_
  refine congrArg₂ X ?_ ?_ <;> blk_simp [idx t] <;> ring

theorem blk1 (t : Fin cfg0.N) : iblk m c 1 t = grid .bf16 2048 1024 fun r k => D (2048 * (t.val % 2) + r) (t.val / 2 * 1024 + k) := by
  funext y
  blk_simp [iblk]
  refine (congrFun (entry_d A) _).trans ?_
  refine congrArg₂ D ?_ ?_ <;> blk_simp [idx t] <;> ring

/-- After an odd point the block holds the sum over both halves of the rows. -/
theorem after_odd (t : Fin cfg0.N) (o : t.val % 2 = 1) :
    (outsAt0 m c t.val t.isLt).1 = slabs .f32 1 1024 1024 fun _ r k => dw X D r (t.val / 2 * 1024 + k) := by
  have e := outsAt0_A m c ⟨t.val - 1, Nat.lt_of_le_of_lt (Nat.sub_le _ _) t.isLt⟩ (by dsimp only; omega) (by dsimp only; omega)
  rw [outsAt0_B m c t (by omega) o]
  dsimp only at e ⊢
  rw [e]
  dsimp only
  rw [out_A, out_B, blk0 A, blk1 A, blk0 A, blk1 A]
  unfold k0_pay4 k0_pay2
  rw [part_eq, part_eq]
  dsimp only
  rw [show (t.val - 1) % 2 = 0 by omega, show (t.val - 1) / 2 = t.val / 2 by omega, o]
  refine eq_slabs fun s r k => ?_
  pointwise [grid_ix2]
  unfold dw
  exact sum_halves 2048 fun x => X x r * D x (t.val / 2 * 1024 + k)

theorem final : (dats m 0 c).arrAt 2 cfg0.N = slabs .f32 4 1024 1024 fun s r k => dw X D r (s * 1024 + k) := by
  refine (dats m 0 c).arrAt_eq_of_covers 2 _ (by decide +kernel) fun t ht y => ?_
  blk_simp
  rw [after0_2, after_odd A t ((flush0_2 t).mp ht)]
  obtain ⟨s, r, k, rfl⟩ : ∃ (s : Fin 1) (r k : Fin 1024), y = ix3 s r k := ⟨_, _, _, eq_ix3 y⟩
  refine congrArg₂ (dw X D) ?_ ?_ <;> blk_simp [idx t] <;> simp

end Cert.KernelW1Ideal.Own

namespace Cert.ReferenceW1Ideal.Own

open Cert.ReferenceW1Ideal Cert.ReferenceW1Ideal.Gen Cert.Lin Finset
open Idealize.ShloMosaic Idealize.ShloMosaic.TcCoe

variable (X D : ℕ → ℕ → EReal)

theorem out :
    (transpose S4x1024x1024 [1, 0, 2] (shapeCast S1024x4x1024 (transpose S1024x4096 [1, 0] (Host.dotGeneral (F := Ideal) dot_S4096x4096_S4096x1024_S4096x1024_0_0_1_1_n_n none
      (grid .f32 4096 4096 D : FVec Ideal S4096x4096 .f32) (grid .f32 4096 1024 X : FVec Ideal S4096x1024 .f32))
      transposes_S4096x1024_S1024x4096_1_0) shapeCasts_S1024x4096_S1024x4x1024) transposes_S1024x4x1024_S4x1024x1024_1_0_2 : FVec Ideal S4x1024x1024 .f32)
      = slabs .f32 4 1024 1024 fun s r k => Cert.KernelW1Ideal.Own.dw X D r (s * 1024 + k) := by
  refine eq_slabs fun s r k => ?_
  pointwise [grid_ix2]
  unfold Cert.KernelW1Ideal.Own.dw
  rw [← sum_below]
  exact Finset.sum_congr rfl fun x _ => mul_comm _ _

end Cert.ReferenceW1Ideal.Own

end
-- ==== Proof.W1.Claims.lean ====
/- The claims about the gradient of the first product's weights. -/
module

public import proofs.«01_k».proof.Defs
public import proofs.«01_k».proof.Proof.W1.Value
public import proofs.«01_k».proof.Proof.Gen.KernelW1.Frame
public import Idealize.ShloMosaic.Lib.Quiescent

@[expose] public section

noncomputable section

namespace Cert.W1

open Idealize.ShloMosaic Idealize.SL.Sem

theorem frame : Cert.quiescent_KernelW1 := fun m ρ _ => KernelW1.Gen.frame m ρ

theorem frame_ideal : Cert.quiescent_KernelW1Ideal := fun m ρ _ => KernelW1Ideal.Gen.frame m ρ

theorem reference_frame : Cert.quiescent_ReferenceW1Ideal := fun m ρ _ =>
  (θ_run ReferenceW1Ideal.defs _ _).mono (fun r h => ⟨fun c => (h c).2, sem_eq_zero_of_no_sems (by decide) r.2⟩)
    (ReferenceW1Ideal.Value.run (F := Ideal) m ρ)

theorem equal : Cert.algebraic_KernelW1Ideal_ReferenceW1Ideal := by
  intro m g m' g' _ hagree
  refine ⟨fun c => (KernelW1Ideal.Gen.dats m 0 c).arrAt 2 KernelW1Ideal.cfg0.N,
    KernelW1Ideal.Value.run_blocks m g, ?_⟩
  refine (θ_run ReferenceW1Ideal.defs _ _).mono (fun r h c => ⟨(h c).1.trans ?_, (h c).2⟩)
    (ReferenceW1Ideal.Value.run (F := Ideal) m' g')
  obtain ⟨a0, a1, a2⟩ := hagree c
  obtain ⟨X, hX⟩ := Cert.Lin.exists_grid (φ := .f32) (m ((c.tc : Thread KernelW1Ideal.nD KernelW1Ideal.τ).loc KernelW1Ideal.main_arg0))
  obtain ⟨D, hD⟩ := Cert.Lin.exists_grid (φ := .f32) (m ((c.tc : Thread KernelW1Ideal.nD KernelW1Ideal.τ).loc KernelW1Ideal.main_arg2))
  have k := KernelW1Ideal.Own.final (m := m) (c := c) ⟨hX, hD⟩
  rw [a0.trans hX, a2.trans hD]
  exact (ReferenceW1Ideal.Own.out X D).trans k.symm

end Cert.W1

end
-- ==== Proof.Lin.Norm.lean ====
/- The normalization of a row of 1024 entries. -/
module

public import Idealize.ShloMosaic.Lib.Pipeline.ValueKit
public import proofs.«01_k».proof.Proof.Lin.Array

@[expose] public section

noncomputable section

namespace Cert.Lin

open Idealize.ShloMosaic

/-- The mean of row `i`. -/
def mean (p : ℕ → ℕ → EReal) (i : ℕ) : EReal := Ideal.div (∑ k : Fin 1024, p i k.val) (Ideal.ofBits .f32 0x44800000#32)

/-- The entries less their row's mean. -/
def cen (p : ℕ → ℕ → EReal) (i j : ℕ) : EReal := p i j - mean p i

/-- One over the deviation of row `i`. -/
def rstd (p : ℕ → ℕ → EReal) (i : ℕ) : EReal :=
  Ideal.rsqrt (mean (fun i j => cen p i j * cen p i j) i + Ideal.ofBits .f32 0x3727C5AC#32)

/-- The normalized entries. -/
def normed (p : ℕ → ℕ → EReal) (i j : ℕ) : EReal := cen p i j * rstd p i

/-- The normalized entries times the gains, plus the shifts. -/
def scaled (p : ℕ → ℕ → EReal) (g b : ℕ → EReal) (i j : ℕ) : EReal := normed p i j * g j + b j

end Cert.Lin

end
-- ==== Proof.Lin.NormGrad.lean ====
/- The gradient of the normalization of a row, in two forms, and why they agree where the entries are real. -/
module

public import proofs.«01_k».proof.Proof.Lin.Norm
public import proofs.«01_k».proof.Proof.Value.Mat

@[expose] public section

noncomputable section

namespace Cert.Lin

open Idealize.ShloMosaic Cert.Mat Finset

/-- The mean of the squares of row `i`'s entries less their mean, plus a small constant. -/
def spread (p : ℕ → ℕ → EReal) (i : ℕ) : EReal := mean (fun i j => cen p i j * cen p i j) i + Ideal.ofBits .f32 0x3727C5AC#32

/-- The gradient from the normalized entries `x` and the reciprocal deviations `s`, given the gradient `d` of the normalized entries. -/
def rowGrad (d x : ℕ → ℕ → EReal) (s : ℕ → EReal) (i j : ℕ) : EReal :=
  s i * ((d i j - mean d i) - x i j * mean (fun i j => d i j * x i j) i)

/-- What the gradient through the deviation adds at row `i` and column `j`. -/
def through (p d : ℕ → ℕ → EReal) (i j : ℕ) : EReal :=
  Ideal.div ((∑ k : Fin 1024, cen p i k.val * d i k.val) * (Ideal.ofBits .f32 0xBF000000#32 * Ideal.div (rstd p i) (spread p i))) (Ideal.ofBits .f32 0x44800000#32)
    * (Ideal.ofBits .f32 0x40000000#32 * cen p i j)

/-- The gradient by the rules of differentiation. -/
def ruleGrad (p d : ℕ → ℕ → EReal) (i j : ℕ) : EReal :=
  d i j * rstd p i + through p d i j
    + Ideal.div ((∑ k : Fin 1024, -(d i k.val * rstd p i)) + ∑ k : Fin 1024, -through p d i k.val) (Ideal.ofBits .f32 0x44800000#32)

theorem bits_width : Ideal.ofBits .f32 0x44800000#32 = ((1024 : ℝ) : EReal) := by
  simp [Ideal.ofBits, Ideal.ieee]; rw [← EReal.coe_mul]; norm_num
theorem bits_half : Ideal.ofBits .f32 0xBF000000#32 = ((-1 / 2 : ℝ) : EReal) := by
  simp [Ideal.ofBits, Ideal.ieee]; rw [← EReal.coe_mul]; norm_num
theorem bits_two : Ideal.ofBits .f32 0x40000000#32 = ((2 : ℝ) : EReal) := by
  simp [Ideal.ofBits, Ideal.ieee]; rw [← EReal.coe_mul]; norm_num
/-- The small constant is a positive real. -/
theorem bits_small : ∃ e : ℝ, 0 < e ∧ Ideal.ofBits .f32 0x3727C5AC#32 = (e : EReal) := by
  refine ⟨10995116 / 1099511627776, by norm_num, ?_⟩
  simp [Ideal.ofBits, Ideal.ieee]; rw [← EReal.coe_mul]; norm_num

section real

variable (p d : ℕ → ℕ → ℝ) (i j : ℕ)

def meanR (p : ℕ → ℕ → ℝ) (i : ℕ) : ℝ := (∑ k ∈ range 1024, p i k) / 1024
def cenR (p : ℕ → ℕ → ℝ) (i j : ℕ) : ℝ := p i j - meanR p i

theorem mean_real : mean (fun i j => ((p i j : ℝ) : EReal)) i = ((meanR p i : ℝ) : EReal) := by
  unfold mean meanR
  rw [sum_coe fun k => p i k, bits_width, div_real _ (by norm_num)]

theorem cen_real : cen (fun i j => ((p i j : ℝ) : EReal)) i j = ((cenR p i j : ℝ) : EReal) := by
  unfold cen cenR
  rw [mean_real, EReal.coe_sub]

theorem sum_cen : ∑ k ∈ range 1024, cenR p i k = 0 := by
  unfold cenR
  rw [sum_sub_distrib, sum_const, card_range]
  unfold meanR
  simp only [nsmul_eq_mul]
  push_cast
  ring

/-- The spread is a positive real, and one over its root is a real whose square is one over it. -/
theorem spread_real : ∃ v s : ℝ, 0 < v ∧ s * s * v = 1 ∧ spread (fun i j => ((p i j : ℝ) : EReal)) i = (v : EReal) ∧ rstd (fun i j => ((p i j : ℝ) : EReal)) i = (s : EReal) := by
  obtain ⟨e, he, hb⟩ := bits_small
  have hv : spread (fun i j => ((p i j : ℝ) : EReal)) i = ((meanR (fun i j => cenR p i j * cenR p i j) i + e : ℝ) : EReal) := by
    unfold spread
    rw [hb]
    simp only [cen_real, ← EReal.coe_mul]
    rw [mean_real (fun i j => cenR p i j * cenR p i j), EReal.coe_add]
  have pos : 0 < meanR (fun i j => cenR p i j * cenR p i j) i + e := by
    refine add_pos_of_nonneg_of_pos (div_nonneg (sum_nonneg fun k _ => mul_self_nonneg _) (by norm_num)) he
  generalize meanR (fun i j => cenR p i j * cenR p i j) i + e = v at hv pos
  refine ⟨v, (Real.sqrt v)⁻¹, pos, ?_, hv, ?_⟩
  · have h := Real.mul_self_sqrt pos.le
    have h0 : Real.sqrt v ≠ 0 := (Real.sqrt_pos.2 pos).ne'
    field_simp
    rw [sq, h]
  · change Ideal.rsqrt (spread _ i) = _
    rw [hv, Ideal.rsqrt_coe, if_neg (not_lt.2 pos.le), if_neg pos.ne']

theorem grad_eq : ruleGrad (fun i j => ((p i j : ℝ) : EReal)) (fun i j => ((d i j : ℝ) : EReal)) i j
    = rowGrad (fun i j => ((d i j : ℝ) : EReal)) (normed fun i j => ((p i j : ℝ) : EReal)) (rstd fun i j => ((p i j : ℝ) : EReal)) i j := by
  obtain ⟨v, s, hv, hs, ev, es⟩ := spread_real p i
  have hth : ∀ j, through (fun i j => ((p i j : ℝ) : EReal)) (fun i j => ((d i j : ℝ) : EReal)) i j
      = (((∑ k ∈ range 1024, cenR p i k * d i k) * (-1 / 2 * (s / v)) / 1024 * (2 * cenR p i j) : ℝ) : EReal) := by
    intro j
    unfold through
    rw [ev, es, bits_half, bits_two, bits_width, div_real _ hv.ne']
    simp only [cen_real, ← EReal.coe_mul]
    rw [sum_coe fun k => cenR p i k * d i k, ← EReal.coe_mul, div_real _ (by norm_num), ← EReal.coe_mul]
  unfold ruleGrad rowGrad normed
  rw [mean_real d]
  have hm : mean (fun i j => ((d i j : ℝ) : EReal) * (cen (fun i j => ((p i j : ℝ) : EReal)) i j * rstd (fun i j => ((p i j : ℝ) : EReal)) i)) i
      = (((∑ k ∈ range 1024, d i k * (cenR p i k * s)) / 1024 : ℝ) : EReal) := by
    unfold mean
    simp only [es, cen_real, ← EReal.coe_mul]
    rw [sum_coe fun k => d i k * (cenR p i k * s), bits_width, div_real _ (by norm_num)]
  rw [hm, es, cen_real, bits_width, hth]
  simp only [hth, ← EReal.coe_mul, ← EReal.coe_neg, ← EReal.coe_sub, ← EReal.coe_add]
  rw [sum_coe fun k => -(d i k * s), sum_coe fun k => -((∑ k ∈ range 1024, cenR p i k * d i k) * (-1 / 2 * (s / v)) / 1024 * (2 * cenR p i k)),
    ← EReal.coe_add, div_real _ (by norm_num), ← EReal.coe_add]
  refine congrArg _ ?_
  have hsv : s / v = s * s * s := by
    rw [div_eq_iff hv.ne']
    linear_combination -s * hs
  have h1 : ∑ k ∈ range 1024, d i k * (cenR p i k * s) = (∑ k ∈ range 1024, cenR p i k * d i k) * s := by
    rw [sum_mul]
    exact sum_congr rfl fun k _ => by ring
  have h2 : ∑ k ∈ range 1024, -((∑ k ∈ range 1024, cenR p i k * d i k) * (-1 / 2 * (s / v)) / 1024 * (2 * cenR p i k)) = 0 := by
    rw [show (fun k => -((∑ k ∈ range 1024, cenR p i k * d i k) * (-1 / 2 * (s / v)) / 1024 * (2 * cenR p i k)))
      = fun k => -((∑ k ∈ range 1024, cenR p i k * d i k) * (-1 / 2 * (s / v)) / 1024 * 2) * cenR p i k from funext fun k => by ring, ← mul_sum, sum_cen, mul_zero]
  have h3 : ∑ k ∈ range 1024, -(d i k * s) = -((∑ k ∈ range 1024, d i k) * s) := by
    rw [sum_neg_distrib, sum_mul]
  rw [h1, h2, h3, hsv]
  unfold meanR
  ring

end real

end Cert.Lin

end
-- ==== Proof.Norm.Value.lean ====
/- The gradient of the first product and of the normalization before it: what the kernel leaves and what the reference computes. -/
module

public import proofs.«01_k».proof.Proof.Lin.NormGrad
public import proofs.«01_k».proof.Proof.Gen.KernelNormIdeal.Value
public import proofs.«01_k».proof.Proof.Gen.ReferenceNormIdeal.Run
public import Idealize.ShloMosaic.Lib.Pipeline.ValueKit

@[expose] public section

set_option maxRecDepth 16384

noncomputable section

namespace Cert.KernelNormIdeal.Own

open Cert.KernelNormIdeal Cert.KernelNormIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (P G W R D : ℕ → ℕ → EReal)

theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0] ∧ win0_5.index t = ![3, 0, 0] ∧ win0_6.index t = ![t.val, 0]
    ∧ win0_7.index t = ![t.val, 0] ∧ win0_8.index t = ![0, 0] ∧ win0_9.index t = ![0, 0] :=
  (by decide +kernel : ∀ t : Fin grid0.N, _)

/-- The arguments that the results depend on. -/
structure Args : Prop where
  p : m ((c : Thread nD τ).loc main_arg0) = grid .f32 4096 1024 P
  g : m ((c : Thread nD τ).loc main_arg1) = grid .f32 4 1024 G
  w : m ((c : Thread nD τ).loc main_arg3) = grid .f32 1024 4096 W
  r : m ((c : Thread nD τ).loc main_arg4) = grid .f32 4096 1024 R
  d : m ((c : Thread nD τ).loc main_arg5) = grid .f32 4096 4096 D

/-- The gradient of the scaled rows. -/
def dy (i j : ℕ) : EReal := Ideal.ofBits .f32 0x3FD744FD#32 * R i j + ∑ k ∈ range 4096, D i k * W j k

/-- The gradient of the normalized rows. -/
def dn (i j : ℕ) : EReal := dy W R D i j * G 3 j

/-- The gradient of the gains. -/
def dg (j : ℕ) : EReal := ∑ i ∈ range 4096, dy W R D i j * normed P i j

/-- The gradient of the shifts. -/
def db (j : ℕ) : EReal := ∑ i ∈ range 4096, dy W R D i j

section point

variable (f : ℕ → ℕ → EReal) (g : ℕ → ℕ → ℕ → EReal) (h : ℕ → ℕ → EReal) (u : ℕ → ℕ → ℕ → EReal)

/-- The gradient of a block's scaled rows, from its parts. -/
def dyV (x0 : Vec Ideal S512x4096 .bf16) (x1 : Vec Ideal S4x1024x1024 .bf16) (x2 : Vec Ideal S512x1024 .f32) : FVec Ideal S512x1024 .f32 :=
  k0_pay3 (View.ld x0 (Rect.unit ![0, 0] ![512, 1024] inb_S512x4096_S512x1024_0_0))
    (View.ld x1 (Rect.unit ![0, 0, 0] ![1, 1024, 1024] inb_S4x1024x1024_S1x1024x1024_0_0_0))
    (View.ld x0 (Rect.unit ![0, 1024] ![512, 1024] inb_S512x4096_S512x1024_0_1024))
    (View.ld x1 (Rect.unit ![1, 0, 0] ![1, 1024, 1024] inb_S4x1024x1024_S1x1024x1024_1_0_0))
    (View.ld x0 (Rect.unit ![0, 2048] ![512, 1024] inb_S512x4096_S512x1024_0_2048))
    (View.ld x1 (Rect.unit ![2, 0, 0] ![1, 1024, 1024] inb_S4x1024x1024_S1x1024x1024_2_0_0))
    (View.ld x0 (Rect.unit ![0, 3072] ![512, 1024] inb_S512x4096_S512x1024_0_3072))
    (View.ld x1 (Rect.unit ![3, 0, 0] ![1, 1024, 1024] inb_S4x1024x1024_S1x1024x1024_3_0_0)) x2

/-- The gradient of a block's rows before the normalization. -/
def drV (y : FVec Ideal S512x1024 .f32) (x3 : Vec Ideal S512x1024 .f32) (x4 : Vec Ideal S512x1 .f32) (x5 : Vec Ideal S1x1x1024 .f32) : FVec Ideal S512x1024 .f32 :=
  k0_pay1 (k0_pay10 x4) (k0_pay11 y x5) (k0_pay12 y x3 x5)

/-- What a grid point takes for the gradient of its scaled rows. -/
def row (r c : ℕ) : EReal := Ideal.ofBits .f32 0x3FD744FD#32 * h r c + ((∑ k ∈ range 1024, f r k * g 0 c k) + (∑ k ∈ range 1024, f r (1024 + k) * g 1 c k) + (∑ k ∈ range 1024, f r (2048 + k) * g 2 c k) + (∑ k ∈ range 1024, f r (3072 + k) * g 3 c k))

theorem dyV_grid : dyV (grid .bf16 512 4096 f) (slabs .bf16 4 1024 1024 g) (grid .f32 512 1024 h) = grid .f32 512 1024 (row f g h) := by
  unfold dyV
  have p0 : (View.ld (Val := Elt Ideal) (e' := .bf16) (grid .bf16 512 4096 f) (Rect.unit ![0, 0] ![512, 1024] inb_S512x4096_S512x1024_0_0) : FVec Ideal S512x1024 .bf16) = grid .bf16 512 1024 fun r k => f (0 + r) (0 + k) := ld_grid f _ _
  have w0 : (View.ld (Val := Elt Ideal) (e' := .bf16) (slabs .bf16 4 1024 1024 g) (Rect.unit ![0, 0, 0] ![1, 1024, 1024] inb_S4x1024x1024_S1x1024x1024_0_0_0) : FVec Ideal S1x1024x1024 .bf16) = slabs .bf16 1 1024 1024 fun s r k => g (0 + s) (0 + r) (0 + k) := ld_slabs g _ _
  have p1 : (View.ld (Val := Elt Ideal) (e' := .bf16) (grid .bf16 512 4096 f) (Rect.unit ![0, 1024] ![512, 1024] inb_S512x4096_S512x1024_0_1024) : FVec Ideal S512x1024 .bf16) = grid .bf16 512 1024 fun r k => f (0 + r) (1024 + k) := ld_grid f _ _
  have w1 : (View.ld (Val := Elt Ideal) (e' := .bf16) (slabs .bf16 4 1024 1024 g) (Rect.unit ![1, 0, 0] ![1, 1024, 1024] inb_S4x1024x1024_S1x1024x1024_1_0_0) : FVec Ideal S1x1024x1024 .bf16) = slabs .bf16 1 1024 1024 fun s r k => g (1 + s) (0 + r) (0 + k) := ld_slabs g _ _
  have p2 : (View.ld (Val := Elt Ideal) (e' := .bf16) (grid .bf16 512 4096 f) (Rect.unit ![0, 2048] ![512, 1024] inb_S512x4096_S512x1024_0_2048) : FVec Ideal S512x1024 .bf16) = grid .bf16 512 1024 fun r k => f (0 + r) (2048 + k) := ld_grid f _ _
  have w2 : (View.ld (Val := Elt Ideal) (e' := .bf16) (slabs .bf16 4 1024 1024 g) (Rect.unit ![2, 0, 0] ![1, 1024, 1024] inb_S4x1024x1024_S1x1024x1024_2_0_0) : FVec Ideal S1x1024x1024 .bf16) = slabs .bf16 1 1024 1024 fun s r k => g (2 + s) (0 + r) (0 + k) := ld_slabs g _ _
  have p3 : (View.ld (Val := Elt Ideal) (e' := .bf16) (grid .bf16 512 4096 f) (Rect.unit ![0, 3072] ![512, 1024] inb_S512x4096_S512x1024_0_3072) : FVec Ideal S512x1024 .bf16) = grid .bf16 512 1024 fun r k => f (0 + r) (3072 + k) := ld_grid f _ _
  have w3 : (View.ld (Val := Elt Ideal) (e' := .bf16) (slabs .bf16 4 1024 1024 g) (Rect.unit ![3, 0, 0] ![1, 1024, 1024] inb_S4x1024x1024_S1x1024x1024_3_0_0) : FVec Ideal S1x1024x1024 .bf16) = slabs .bf16 1 1024 1024 fun s r k => g (3 + s) (0 + r) (0 + k) := ld_slabs g _ _
  rw [p0, p1, p2, p3, w0, w1, w2, w3]
  refine eq_grid fun r c => ?_
  unfold k0_pay3
  pointwise [grid_ix2, slabs_ix3]
  rw [sum_below fun k => f r.val k * g 0 c.val k]
  rw [sum_below fun k => f r.val (1024 + k) * g 1 c.val k]
  rw [sum_below fun k => f r.val (2048 + k) * g 2 c.val k]
  rw [sum_below fun k => f r.val (3072 + k) * g 3 c.val k]
  rfl

theorem scaled_grid (y : ℕ → ℕ → EReal) : k0_pay9 (F := Ideal) (grid .f32 512 1024 y) (slabs .f32 1 1 1024 u) = grid .f32 512 1024 fun r c => y r c * u 0 0 c := by
  refine eq_grid fun r c => ?_
  unfold k0_pay9
  pointwise [grid_ix2, slabs_ix3]

theorem drV_grid (y x s : ℕ → ℕ → EReal) : drV (grid .f32 512 1024 y) (grid .f32 512 1024 x) (grid .f32 512 1 s) (slabs .f32 1 1 1024 u)
    = grid .f32 512 1024 (rowGrad (fun r c => y r c * u 0 0 c) x (fun r => s r 0)) := by
  have e10 : k0_pay10 (F := Ideal) (grid .f32 512 1 s) = grid .f32 512 1 fun r _ => s r 0 := by
    refine eq_grid fun r c => ?_
    unfold k0_pay10
    pointwise [grid_ix2]
  have e11 : k0_pay11 (F := Ideal) (grid .f32 512 1024 y) (slabs .f32 1 1 1024 u) = grid .f32 512 1024 fun r c => y r c * u 0 0 c - mean (fun r c => y r c * u 0 0 c) r := by
    refine eq_grid fun r c => ?_
    unfold k0_pay11
    rw [scaled_grid]
    pointwise [grid_ix2]
    rfl
  have e12 : k0_pay12 (F := Ideal) (grid .f32 512 1024 y) (grid .f32 512 1024 x) (slabs .f32 1 1 1024 u)
      = grid .f32 512 1024 fun r c => x r c * mean (fun r c => y r c * u 0 0 c * x r c) r := by
    refine eq_grid fun r c => ?_
    unfold k0_pay12 k0_pay6
    rw [scaled_grid]
    pointwise [grid_ix2]
    rfl
  unfold drV
  rw [e10, e11, e12]
  refine eq_grid fun r c => ?_
  unfold k0_pay1
  pointwise [grid_ix2]
  rfl

theorem shift_grid (y a : ℕ → ℕ → EReal) : k0_pay7 (F := Ideal) (grid .f32 512 1024 y) (grid .f32 1 1024 a) = grid .f32 1 1024 fun r c => a r c + ∑ k ∈ range 512, y k c := by
  refine eq_grid fun r c => ?_
  unfold k0_pay7
  pointwise [grid_ix2]
  rw [sum_below fun k => y k c.val]

theorem gain_grid (y x a : ℕ → ℕ → EReal) : k0_pay8 (F := Ideal) (grid .f32 512 1024 y) (grid .f32 512 1024 x) (grid .f32 1 1024 a)
    = grid .f32 1 1024 fun r c => a r c + ∑ k ∈ range 512, y k c * x k c := by
  refine eq_grid fun r c => ?_
  unfold k0_pay8 k0_pay6
  pointwise [grid_ix2]
  rw [sum_below fun k => y k c.val * x k c.val]

theorem zero4_grid : k0_pay4 (F := Ideal) = grid .f32 1 1024 fun _ _ => 0 := by
  refine eq_grid fun r c => ?_
  unfold k0_pay4
  pointwise [grid_ix2]

theorem zero5_grid : k0_pay5 (F := Ideal) = grid .f32 1 1024 fun _ _ => 0 := by
  refine eq_grid fun r c => ?_
  unfold k0_pay5
  pointwise [grid_ix2]

end point

section cases

variable (t : Fin cfg0.N) (x0 : Vec Ideal S512x4096 .bf16) (x1 : Vec Ideal S4x1024x1024 .bf16) (x2 x3 : Vec Ideal S512x1024 .f32) (x4 : Vec Ideal S512x1 .f32) (x5 : Vec Ideal S1x1x1024 .f32)
  (x8 x9 : Vec Ideal S1x1024 .f32)

theorem out_A6 (h0) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5
      = drV (dyV x0 x1 x2) x3 x4 x5 := by
  frame_out
  rfl

theorem out_A7 (h0) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5
      = truncf .bf16 (drV (dyV x0 x1 x2) x3 x4 x5) bitsLt_bf16_f32 := by
  frame_out
  rfl

theorem out_A8 (h0) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5
      = k0_pay8 (dyV x0 x1 x2) x3 (k0_pay4 : FVec Ideal S1x1024 .f32) := by
  frame_out
  rfl

theorem out_A9 (h0) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5
      = k0_pay7 (dyV x0 x1 x2) (k0_pay5 : FVec Ideal S1x1024 .f32) := by
  frame_out
  rfl

theorem out_B6 (h0) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5 x8 x9
      = drV (dyV x0 x1 x2) x3 x4 x5 := by
  frame_out
  rfl

theorem out_B7 (h0) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5 x8 x9
      = truncf .bf16 (drV (dyV x0 x1 x2) x3 x4 x5) bitsLt_bf16_f32 := by
  frame_out
  rfl

theorem out_B8 (h0) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5 x8 x9
      = k0_pay8 (dyV x0 x1 x2) x3 x8 := by
  frame_out
  rfl

theorem out_B9 (h0) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5 x8 x9
      = k0_pay7 (dyV x0 x1 x2) x9 := by
  frame_out
  rfl

end cases

variable {m c P G W R D} (A : Args m c P G W R D)

/-- The means of the rows of an array. -/
def meanV (p : FVec Ideal S4096x1024 .f32) : FVec Ideal S4096x1 .f32 :=
  Host.divf (broadcastInDim S4096x1 ![0] bcast_S4096_S4096x1_0 (Host.reduceAdd p (constant S_ .f32 0x00000000#32) reducesTo_S4096x1024_S4096_d1 h_S_))
    (broadcastInDim S4096x1 ![] bcast_S_S4096x1 (constant S_ .f32 0x44800000#32))

def cenV (p : FVec Ideal S4096x1024 .f32) : FVec Ideal S4096x1024 .f32 :=
  subf p (broadcastInDim S4096x1024 ![0, 1] bcast_S4096x1_S4096x1024_0_1 (meanV p))

def rstdV (p : FVec Ideal S4096x1024 .f32) : FVec Ideal S4096x1 .f32 :=
  Host.rsqrt (addf (meanV (mulf (cenV p) (cenV p))) (broadcastInDim S4096x1 ![] bcast_S_S4096x1 (constant S_ .f32 0x3727C5AC#32)))

def normedV (p : FVec Ideal S4096x1024 .f32) : FVec Ideal S4096x1024 .f32 :=
  mulf (cenV p) (broadcastInDim S4096x1024 ![0, 1] bcast_S4096x1_S4096x1024_0_1 (rstdV p))

theorem meanV_grid (p : ℕ → ℕ → EReal) : meanV (grid .f32 4096 1024 p) = grid .f32 4096 1 fun i _ => mean p i := by
  refine eq_grid fun i j => ?_
  unfold meanV
  pointwise [grid_ix2]
  rfl

theorem cenV_grid (p : ℕ → ℕ → EReal) : cenV (grid .f32 4096 1024 p) = grid .f32 4096 1024 (cen p) := by
  refine eq_grid fun i j => ?_
  unfold cenV
  rw [meanV_grid]
  pointwise [grid_ix2]
  rfl

theorem rstdV_grid (p : ℕ → ℕ → EReal) : rstdV (grid .f32 4096 1024 p) = grid .f32 4096 1 fun i _ => rstd p i := by
  have e : mulf (grid .f32 4096 1024 (cen p) : FVec Ideal S4096x1024 .f32) (grid .f32 4096 1024 (cen p)) = grid .f32 4096 1024 fun i j => cen p i j * cen p i j :=
    eq_grid fun i j => by pointwise [grid_ix2]
  refine eq_grid fun i j => ?_
  unfold rstdV
  rw [cenV_grid, e, meanV_grid]
  pointwise [grid_ix2]
  rfl

theorem normedV_grid (p : ℕ → ℕ → EReal) : normedV (grid .f32 4096 1024 p) = grid .f32 4096 1024 (normed p) := by
  refine eq_grid fun i j => ?_
  unfold normedV
  rw [cenV_grid, rstdV_grid]
  pointwise [grid_ix2]
  rfl

include A

theorem entry_n : V m c main_v17 = grid .f32 4096 1024 (normed P) := by
  unfold V
  simp only [hostOps0]
  after_results
  rw [A.p]
  exact normedV_grid P

theorem entry_s : V m c main_v13 = grid .f32 4096 1 fun i _ => rstd P i := by
  unfold V
  simp only [hostOps0]
  after_results
  rw [A.p]
  exact rstdV_grid P

theorem entry_d : V m c main_v21 = grid .bf16 4096 4096 D := by
  unfold V
  simp only [hostOps0]
  after_results
  refine eq_grid fun r c => ?_
  pointwise [A.d, grid_ix2]

theorem entry_w : V m c main_v20 = slabs .bf16 4 1024 1024 fun s r k => W r (s * 1024 + k) := by
  unfold V
  simp only [hostOps0]
  after_results
  refine eq_slabs fun s r k => ?_
  pointwise [A.w, grid_ix2]

theorem entry_g : V m c main_v22 = slabs .f32 4 1 1024 fun l _ k => G l k := by
  unfold V
  simp only [hostOps0]
  after_results
  refine eq_slabs fun s r k => ?_
  pointwise [A.g, grid_ix2]

theorem blk0 (t : Fin cfg0.N) : iblk m c 0 t = grid .bf16 512 4096 fun r k => D (512 * t.val + r) k := by
  funext y
  blk_simp [iblk]
  refine (congrFun (entry_d A) _).trans ?_
  refine congrArg₂ D ?_ ?_ <;> blk_simp [idx t] <;> ring

theorem blk1 (t : Fin cfg0.N) : iblk m c 1 t = slabs .bf16 4 1024 1024 fun s r k => W r (s * 1024 + k) := by
  funext y
  blk_simp [iblk]
  refine (congrFun (entry_w A) _).trans ?_
  refine congrArg₂ W ?_ ?_ <;> blk_simp [idx t] <;> ring

theorem blk2 (t : Fin cfg0.N) : iblk m c 2 t = grid .f32 512 1024 fun r k => R (512 * t.val + r) k := by
  funext y
  blk_simp [iblk]
  refine (congrFun ((V_main_arg4 m c).trans A.r) _).trans ?_
  refine congrArg₂ R ?_ ?_ <;> blk_simp [idx t] <;> ring

theorem blk3 (t : Fin cfg0.N) : iblk m c 3 t = grid .f32 512 1024 fun r k => normed P (512 * t.val + r) k := by
  funext y
  blk_simp [iblk]
  refine (congrFun (entry_n A) _).trans ?_
  refine congrArg₂ (normed P) ?_ ?_ <;> blk_simp [idx t] <;> ring

theorem blk4 (t : Fin cfg0.N) : iblk m c 4 t = grid .f32 512 1 fun r _ => rstd P (512 * t.val + r) := by
  funext y
  blk_simp [iblk]
  refine (congrFun (entry_s A) _).trans ?_
  refine congrArg (rstd P) ?_
  blk_simp [idx t]
  ring

theorem blk5 (t : Fin cfg0.N) : iblk m c 5 t = slabs .f32 1 1 1024 fun _ _ k => G 3 k := by
  funext y
  blk_simp [iblk]
  refine (congrFun (entry_g A) _).trans ?_
  have := (y 0).isLt
  refine congrArg₂ G ?_ ?_ <;> blk_simp [idx t] <;> simp

omit A in
/-- The rows of a grid point are rows of the whole. -/
theorem row_eq (t : ℕ) : (row (fun r k => D (512 * t + r) k) (fun s r k => W r (s * 1024 + k)) fun r k => R (512 * t + r) k) = fun r j => dy W R D (512 * t + r) j := by
  funext r j
  unfold row
  simp only [Nat.zero_add, Nat.zero_mul, Nat.one_mul]
  exact congrArg (fun x : EReal => Ideal.ofBits .f32 0x3FD744FD#32 * R (512 * t + r) j + x) (sum_quarters 1024 fun k => D (512 * t + r) k * W j k)

/-- The gradient of a grid point's scaled rows. -/
theorem dy_blk (t : Fin cfg0.N) : dyV (iblk m c 0 t) (iblk m c 1 t) (iblk m c 2 t) = grid .f32 512 1024 fun r j => dy W R D (512 * t.val + r) j := by
  rw [blk0 A, blk1 A, blk2 A]
  exact (dyV_grid ..).trans (congrArg _ (row_eq t.val))

/-- The gradient that a grid point leaves of its rows. -/
theorem dr_blk (t : Fin cfg0.N) : drV (dyV (iblk m c 0 t) (iblk m c 1 t) (iblk m c 2 t)) (iblk m c 3 t) (iblk m c 4 t) (iblk m c 5 t)
    = grid .f32 512 1024 fun r j => rowGrad (dn G W R D) (normed P) (rstd P) (512 * t.val + r) j := by
  rw [dy_blk A, blk3 A, blk4 A, blk5 A]
  exact drV_grid ..

theorem after6 (t : Fin cfg0.N) : (outsAt0 m c t.val t.isLt).1 = grid .f32 512 1024 fun r j => rowGrad (dn G W R D) (normed P) (rstd P) (512 * t.val + r) j := by
  by_cases h : t.val % 8 = 0
  · rw [outsAt0_A m c t h]
    dsimp only
    rw [out_A6]
    exact dr_blk A t
  · rw [outsAt0_B m c t h]
    dsimp only
    rw [out_B6]
    exact dr_blk A t

theorem after7 (t : Fin cfg0.N) : (outsAt0 m c t.val t.isLt).2.1 = grid .bf16 512 1024 fun r j => rowGrad (dn G W R D) (normed P) (rstd P) (512 * t.val + r) j := by
  have e : truncf .bf16 (drV (dyV (iblk m c 0 t) (iblk m c 1 t) (iblk m c 2 t)) (iblk m c 3 t) (iblk m c 4 t) (iblk m c 5 t)) bitsLt_bf16_f32
      = grid .bf16 512 1024 fun r j => rowGrad (dn G W R D) (normed P) (rstd P) (512 * t.val + r) j := by
    rw [dr_blk A]
    exact eq_grid fun i j => by pointwise [grid_ix2]
  by_cases h : t.val % 8 = 0
  · rw [outsAt0_A m c t h]
    dsimp only
    rw [out_A7]
    exact e
  · rw [outsAt0_B m c t h]
    dsimp only
    rw [out_B7]
    exact e

/-- What the sums hold after a grid point. -/
theorem sums : ∀ (n : ℕ) (h : n < cfg0.N), (outsAt0 m c n h).2.2.1 = grid .f32 1 1024 (fun _ j => ∑ i ∈ range (512 * (n + 1)), dy W R D i j * normed P i j)
    ∧ (outsAt0 m c n h).2.2.2 = grid .f32 1 1024 (fun _ j => ∑ i ∈ range (512 * (n + 1)), dy W R D i j) := by
  intro n
  induction n with
  | zero =>
    intro h
    have e := outsAt0_A m c ⟨0, h⟩ rfl
    dsimp only at e
    rw [e]
    dsimp only
    rw [out_A8, out_A9, dy_blk A, blk3 A, zero4_grid, zero5_grid, gain_grid, shift_grid]
    simp only [zero_add, Nat.mul_zero, Nat.mul_one, and_self]
  | succ n ih =>
    intro h
    obtain ⟨i8, i9⟩ := ih (Nat.lt_of_succ_lt h)
    have hn : ¬(n + 1) % 8 = 0 := by
      have : n + 1 < 8 := h
      omega
    have e := outsAt0_B m c ⟨n + 1, h⟩ hn
    dsimp only at e
    rw [e]
    dsimp only [Nat.add_sub_cancel]
    rw [out_B8, out_B9, dy_blk A, blk3 A]
    refine ⟨(congrArg (k0_pay8 _ _) i8).trans ((gain_grid ..).trans (congrArg _ ?_)), (congrArg (k0_pay7 _) i9).trans ((shift_grid ..).trans (congrArg _ ?_))⟩
    · funext _ j
      exact (sum_range_add (fun i => dy W R D i j * normed P i j) (512 * (n + 1)) 512).symm
    · funext _ j
      exact (sum_range_add (fun i => dy W R D i j) (512 * (n + 1)) 512).symm

theorem final6 : (dats m 0 c).arrAt 6 cfg0.N = grid .f32 4096 1024 (rowGrad (dn G W R D) (normed P) (rstd P)) := by
  refine (dats m 0 c).arrAt_eq_of_covers 6 _ (by decide +kernel) fun t _ y => ?_
  blk_simp
  rw [after0_6, after6 A]
  obtain ⟨r, k, rfl⟩ : ∃ (r : Fin 512) (k : Fin 1024), y = ix2 r k := ⟨_, _, eq_ix2 y⟩
  rw [grid_ix2]
  change (rowGrad (dn G W R D) (normed P) (rstd P)) (512 * t.val + r.val) k.val = _
  refine congrArg₂ (rowGrad (dn G W R D) (normed P) (rstd P)) ?_ ?_ <;> blk_simp [idx t] <;> ring

theorem final7 : (dats m 0 c).arrAt 7 cfg0.N = grid .bf16 4096 1024 (rowGrad (dn G W R D) (normed P) (rstd P)) := by
  refine (dats m 0 c).arrAt_eq_of_covers 7 _ (by decide +kernel) fun t _ y => ?_
  blk_simp
  rw [after0_7, after7 A]
  obtain ⟨r, k, rfl⟩ : ∃ (r : Fin 512) (k : Fin 1024), y = ix2 r k := ⟨_, _, eq_ix2 y⟩
  rw [grid_ix2]
  change (rowGrad (dn G W R D) (normed P) (rstd P)) (512 * t.val + r.val) k.val = _
  refine congrArg₂ (rowGrad (dn G W R D) (normed P) (rstd P)) ?_ ?_ <;> blk_simp [idx t] <;> ring

theorem final8 : (dats m 0 c).arrAt 8 cfg0.N = grid .f32 1 1024 (fun _ => dg P W R D) := by
  refine (dats m 0 c).arrAt_eq_of_covers 8 _ (by decide +kernel) fun t ht y => ?_
  have h7 : t.val = 7 := by
    have h1 := (flush0_8 t).mp ht
    have h2 : t.val < 8 := t.isLt
    omega
  blk_simp
  rw [after0_8, (sums A t.val t.isLt).1, h7]
  obtain ⟨r, k, rfl⟩ : ∃ (r : Fin 1) (k : Fin 1024), y = ix2 r k := ⟨_, _, eq_ix2 y⟩
  rw [grid_ix2]
  change dg P W R D k.val = _
  refine congrArg (dg P W R D) ?_
  blk_simp [idx t]

theorem final9 : (dats m 0 c).arrAt 9 cfg0.N = grid .f32 1 1024 (fun _ => db W R D) := by
  refine (dats m 0 c).arrAt_eq_of_covers 9 _ (by decide +kernel) fun t ht y => ?_
  have h7 : t.val = 7 := by
    have h1 := (flush0_9 t).mp ht
    have h2 : t.val < 8 := t.isLt
    omega
  blk_simp
  rw [after0_9, (sums A t.val t.isLt).2, h7]
  obtain ⟨r, k, rfl⟩ : ∃ (r : Fin 1) (k : Fin 1024), y = ix2 r k := ⟨_, _, eq_ix2 y⟩
  rw [grid_ix2]
  change db W R D k.val = _
  refine congrArg (db W R D) ?_
  blk_simp [idx t]

end Cert.KernelNormIdeal.Own

namespace Cert.ReferenceNormIdeal.Own

open Cert.ReferenceNormIdeal Cert.ReferenceNormIdeal.Gen Cert.Lin Finset
open Idealize.ShloMosaic Idealize.ShloMosaic.TcCoe Idealize.SL.Sem
open Cert.KernelNormIdeal.Own (dy dn dg db)

/-- The means of the rows of an array. -/
def meanV (p : FVec Ideal S4096x1024 .f32) : FVec Ideal S4096x1 .f32 :=
  Host.divf (broadcastInDim S4096x1 ![0] bcast_S4096_S4096x1_0 (Host.reduceAdd p (constant S_ .f32 0x00000000#32) reducesTo_S4096x1024_S4096_d1 h_S_))
    (broadcastInDim S4096x1 ![] bcast_S_S4096x1 (constant S_ .f32 0x44800000#32))

def cenV (p : FVec Ideal S4096x1024 .f32) : FVec Ideal S4096x1024 .f32 :=
  subf p (broadcastInDim S4096x1024 ![0, 1] bcast_S4096x1_S4096x1024_0_1 (meanV p))

def spreadV (p : FVec Ideal S4096x1024 .f32) : FVec Ideal S4096x1 .f32 :=
  addf (meanV (mulf (cenV p) (cenV p))) (broadcastInDim S4096x1 ![] bcast_S_S4096x1 (constant S_ .f32 0x3727C5AC#32))

def rstdV (p : FVec Ideal S4096x1024 .f32) : FVec Ideal S4096x1 .f32 := Host.rsqrt (spreadV p)

def wideV (s : FVec Ideal S4096x1 .f32) : FVec Ideal S4096x1024 .f32 := broadcastInDim S4096x1024 ![0, 1] bcast_S4096x1_S4096x1024_0_1 s

def normedV (p : FVec Ideal S4096x1024 .f32) : FVec Ideal S4096x1024 .f32 := mulf (cenV p) (wideV (rstdV p))

/-- The sums of the rows of an array. -/
def sumV (p : FVec Ideal S4096x1024 .f32) : FVec Ideal S4096x1 .f32 :=
  shapeCast S4096x1 (Host.reduceAdd p (constant S_ .f32 0x00000000#32) reducesTo_S4096x1024_S4096_d1 h_S_) shapeCasts_S4096_S4096x1

/-- A column over the row width, on every entry of its row. -/
def perV (s : FVec Ideal S4096x1 .f32) : FVec Ideal S4096x1024 .f32 :=
  broadcastInDim S4096x1024 ![0] bcast_S4096_S4096x1024_0 (Host.reduceAdd (Host.divf s (broadcastInDim S4096x1 ![] bcast_S_S4096x1 (constant S_ .f32 0x44800000#32)))
    (constant S_ .f32 0x00000000#32) reducesTo_S4096x1_S4096_d1 h_S_)

def throughV (p d : FVec Ideal S4096x1024 .f32) : FVec Ideal S4096x1024 .f32 :=
  mulf (perV (mulf (sumV (mulf (cenV p) d)) (mulf (broadcastInDim S4096x1 ![] bcast_S_S4096x1 (constant S_ .f32 0xBF000000#32)) (Host.divf (rstdV p) (spreadV p)))))
    (mulf (broadcastInDim S4096x1024 ![] bcast_S_S4096x1024 (constant S_ .f32 0x40000000#32)) (cenV p))

def gradV (p d : FVec Ideal S4096x1024 .f32) : FVec Ideal S4096x1024 .f32 :=
  addf (addf (mulf d (wideV (rstdV p))) (throughV p d)) (perV (addf (sumV (Host.negf (mulf d (wideV (rstdV p))))) (sumV (Host.negf (throughV p d)))))

def dyV (w : FVec Ideal S1024x4096 .f32) (r : FVec Ideal S4096x1024 .f32) (d : FVec Ideal S4096x4096 .f32) : FVec Ideal S4096x1024 .f32 :=
  addf (Host.dotGeneral dot_S4096x4096_S1024x4096_S4096x1024_1_1_0_0_n_n none d w) (mulf (broadcastInDim S4096x1024 ![] bcast_S_S4096x1024 (constant S_ .f32 0x3FD744FD#32)) r)

def dnV (y : FVec Ideal S4096x1024 .f32) (g : FVec Ideal S4x1024 .f32) : FVec Ideal S4096x1024 .f32 :=
  mulf y (broadcastInDim S4096x1024 ![0, 1] bcast_S1x1024_S4096x1024_0_1 (broadcastInDim S1x1024 ![1] bcast_S1024_S1x1024_1
    (shapeCast S1024 (extractStridedSlice S1x1024 ![3, 0] g slices_S4x1024_S1x1024_3_0) shapeCasts_S1x1024_S1024)))

/-- The sums of the columns of an array. -/
def colV (p : FVec Ideal S4096x1024 .f32) : FVec Ideal S1x1024 .f32 :=
  broadcastInDim S1x1024 ![1] bcast_S1024_S1x1024_1 (Host.reduceAdd (shapeCast S1x1024 (Host.reduceAdd p (constant S_ .f32 0x00000000#32) reducesTo_S4096x1024_S1024_d0 h_S_)
    shapeCasts_S1024_S1x1024) (constant S_ .f32 0x00000000#32) reducesTo_S1x1024_S1024_d0 h_S_)

section vectors

variable (p d : ℕ → ℕ → EReal)

theorem meanV_grid : meanV (grid .f32 4096 1024 p) = grid .f32 4096 1 fun i _ => mean p i := by
  refine eq_grid fun i j => ?_
  unfold meanV
  pointwise [grid_ix2]
  rfl

theorem cenV_grid : cenV (grid .f32 4096 1024 p) = grid .f32 4096 1024 (cen p) := by
  refine eq_grid fun i j => ?_
  unfold cenV
  rw [meanV_grid]
  pointwise [grid_ix2]
  rfl

theorem spreadV_grid : spreadV (grid .f32 4096 1024 p) = grid .f32 4096 1 fun i _ => spread p i := by
  have e : mulf (grid .f32 4096 1024 (cen p) : FVec Ideal S4096x1024 .f32) (grid .f32 4096 1024 (cen p)) = grid .f32 4096 1024 fun i j => cen p i j * cen p i j :=
    eq_grid fun i j => by pointwise [grid_ix2]
  refine eq_grid fun i j => ?_
  unfold spreadV
  rw [cenV_grid, e, meanV_grid]
  pointwise [grid_ix2]
  rfl

theorem rstdV_grid : rstdV (grid .f32 4096 1024 p) = grid .f32 4096 1 fun i _ => rstd p i := by
  refine eq_grid fun i j => ?_
  unfold rstdV
  rw [spreadV_grid]
  pointwise [grid_ix2]
  rfl

theorem wideV_grid (s : ℕ → EReal) : wideV (grid .f32 4096 1 fun i _ => s i) = grid .f32 4096 1024 fun i _ => s i := by
  refine eq_grid fun i j => ?_
  unfold wideV
  pointwise [grid_ix2]

theorem normedV_grid : normedV (grid .f32 4096 1024 p) = grid .f32 4096 1024 (normed p) := by
  refine eq_grid fun i j => ?_
  unfold normedV
  rw [cenV_grid, rstdV_grid, wideV_grid]
  pointwise [grid_ix2]
  rfl

theorem sumV_grid : sumV (grid .f32 4096 1024 p) = grid .f32 4096 1 fun i _ => ∑ k : Fin 1024, p i k.val := by
  refine eq_grid fun i j => ?_
  unfold sumV
  pointwise [grid_ix2]

theorem perV_grid (s : ℕ → EReal) : perV (grid .f32 4096 1 fun i _ => s i) = grid .f32 4096 1024 fun i _ => Ideal.div (s i) (Ideal.ofBits .f32 0x44800000#32) := by
  refine eq_grid fun i j => ?_
  unfold perV
  pointwise [grid_ix2]
  exact Fin.sum_univ_one _

theorem mulV_grid (φ : FTy) (a b : ℕ) (p q : ℕ → ℕ → EReal) : mulf (grid φ a b p : FVec Ideal ⟨2, ![a, b]⟩ φ) (grid φ a b q) = grid φ a b fun i j => p i j * q i j :=
  eq_grid fun i j => by pointwise [grid_ix2]

theorem negV_grid (a b : ℕ) (p : ℕ → ℕ → EReal) : Host.negf (grid .f32 a b p : FVec Ideal ⟨2, ![a, b]⟩ .f32) = grid .f32 a b fun i j => -p i j :=
  eq_grid fun i j => by pointwise [grid_ix2]

theorem addV_grid (a b : ℕ) (p q : ℕ → ℕ → EReal) : addf (grid .f32 a b p : FVec Ideal ⟨2, ![a, b]⟩ .f32) (grid .f32 a b q) = grid .f32 a b fun i j => p i j + q i j :=
  eq_grid fun i j => by pointwise [grid_ix2]

theorem throughV_grid : throughV (grid .f32 4096 1024 p) (grid .f32 4096 1024 d) = grid .f32 4096 1024 (through p d) := by
  unfold throughV
  rw [cenV_grid, mulV_grid, sumV_grid, rstdV_grid, spreadV_grid]
  have e : (mulf (grid .f32 4096 1 fun i _ => ∑ k : Fin 1024, cen p i k.val * d i k.val : FVec Ideal S4096x1 .f32) (mulf (broadcastInDim S4096x1 ![] bcast_S_S4096x1 (constant S_ .f32 0xBF000000#32))
      (Host.divf (grid .f32 4096 1 fun i _ => rstd p i) (grid .f32 4096 1 fun i _ => spread p i))))
      = grid .f32 4096 1 fun i _ => (∑ k : Fin 1024, cen p i k.val * d i k.val) * (Ideal.ofBits .f32 0xBF000000#32 * Ideal.div (rstd p i) (spread p i)) :=
    eq_grid fun i j => by pointwise [grid_ix2]
  rw [e, perV_grid fun i => (∑ k : Fin 1024, cen p i k.val * d i k.val) * (Ideal.ofBits .f32 0xBF000000#32 * Ideal.div (rstd p i) (spread p i))]
  refine eq_grid fun i j => ?_
  pointwise [grid_ix2]
  rfl

theorem gradV_grid : gradV (grid .f32 4096 1024 p) (grid .f32 4096 1024 d) = grid .f32 4096 1024 (ruleGrad p d) := by
  unfold gradV
  rw [throughV_grid, rstdV_grid, wideV_grid, mulV_grid, negV_grid, negV_grid, sumV_grid, sumV_grid, addV_grid, addV_grid,
    perV_grid fun i => (∑ k : Fin 1024, -(d i k.val * rstd p i)) + ∑ k : Fin 1024, -through p d i k.val, addV_grid]
  rfl

theorem colV_grid : colV (grid .f32 4096 1024 p) = grid .f32 1 1024 fun _ j => ∑ i ∈ range 4096, p i j := by
  refine eq_grid fun i j => ?_
  unfold colV
  pointwise [grid_ix2]
  exact (Fin.sum_univ_one _).trans (sum_below fun k => p k j.val)

variable (W R D G : ℕ → ℕ → EReal)

theorem dyV_grid : dyV (grid .f32 1024 4096 W) (grid .f32 4096 1024 R) (grid .f32 4096 4096 D) = grid .f32 4096 1024 (dy W R D) := by
  refine eq_grid fun i j => ?_
  unfold dyV
  pointwise [grid_ix2]
  rw [sum_below fun k => D i.val k * W j.val k, add_comm]
  rfl

theorem dnV_grid (y : ℕ → ℕ → EReal) : dnV (grid .f32 4096 1024 y) (grid .f32 4 1024 G) = grid .f32 4096 1024 fun i j => y i j * G 3 j := by
  refine eq_grid fun i j => ?_
  unfold dnV
  pointwise [grid_ix2]

end vectors

variable (P G W R D : ℕ → ℕ → EReal)
variable (m : (ℓ : Loc nD τ sig) → Buf (Elt Ideal) ℓ) (c : Dev nD)

/-- The arguments that the results depend on. -/
structure Args : Prop where
  p : m ((c.tc : Thread nD τ).loc main_arg0) = grid .f32 4096 1024 P
  g : m ((c.tc : Thread nD τ).loc main_arg1) = grid .f32 4 1024 G
  w : m ((c.tc : Thread nD τ).loc main_arg3) = grid .f32 1024 4096 W
  r : m ((c.tc : Thread nD τ).loc main_arg4) = grid .f32 4096 1024 R
  d : m ((c.tc : Thread nD τ).loc main_arg5) = grid .f32 4096 4096 D

variable {m c P G W R D} (A : Args P G W R D m c)

include A

theorem out0 : gradV (m ((c.tc : Thread nD τ).loc main_arg0)) (dnV (dyV (m ((c.tc : Thread nD τ).loc main_arg3)) (m ((c.tc : Thread nD τ).loc main_arg4)) (m ((c.tc : Thread nD τ).loc main_arg5))) (m ((c.tc : Thread nD τ).loc main_arg1)))
    = grid .f32 4096 1024 (ruleGrad P (dn G W R D)) := by
  rw [A.p, A.w, A.r, A.d, A.g, dyV_grid, dnV_grid]
  exact gradV_grid P (dn G W R D)

theorem out1 : truncf .bf16 (gradV (m ((c.tc : Thread nD τ).loc main_arg0)) (dnV (dyV (m ((c.tc : Thread nD τ).loc main_arg3)) (m ((c.tc : Thread nD τ).loc main_arg4)) (m ((c.tc : Thread nD τ).loc main_arg5))) (m ((c.tc : Thread nD τ).loc main_arg1)))) bitsLt_bf16_f32
    = grid .bf16 4096 1024 (ruleGrad P (dn G W R D)) := by
  rw [out0 A]
  exact eq_grid fun i j => by pointwise [grid_ix2]

theorem out2 : colV (mulf (normedV (m ((c.tc : Thread nD τ).loc main_arg0))) (dyV (m ((c.tc : Thread nD τ).loc main_arg3)) (m ((c.tc : Thread nD τ).loc main_arg4)) (m ((c.tc : Thread nD τ).loc main_arg5))))
    = grid .f32 1 1024 fun _ => dg P W R D := by
  rw [A.p, A.w, A.r, A.d, dyV_grid, normedV_grid, mulV_grid, colV_grid]
  refine congrArg _ (funext fun _ => funext fun j => sum_congr rfl fun i _ => mul_comm _ _)

theorem out3 : colV (dyV (m ((c.tc : Thread nD τ).loc main_arg3)) (m ((c.tc : Thread nD τ).loc main_arg4)) (m ((c.tc : Thread nD τ).loc main_arg5)))
    = grid .f32 1 1024 fun _ => db W R D := by
  rw [A.w, A.r, A.d, dyV_grid, colV_grid]
  rfl

end Cert.ReferenceNormIdeal.Own

end
-- ==== Proof.Lin.Finite.lean ====
/- An array whose entries are all below infinity in absolute value is an array of reals. -/
module

public import proofs.«01_k».proof.Proof.Lin.Norm
public import proofs.«01_k».proof.Proof.Value.Mat
public import Idealize.ShloMosaic.Lib.ReduceAll

@[expose] public section

set_option maxRecDepth 16384

noncomputable section

namespace Cert.Lin

open Idealize.ShloMosaic Cert.Mat Finset

theorem both_one : ∀ x y : BitVec 1, IntOp.andi x y = 1#1 → x = 1#1 ∧ y = 1#1 := by decide

abbrev S0 : Shape := ⟨0, ![]⟩

/-- Each entry of an array is below infinity in absolute value. -/
def allReal {a b : ℕ} (hb : S0.BroadcastsInDim ⟨2, ![a, b]⟩ (![] : Fin 0 → Fin 2)) (hr : Shape.ReducesTo ⟨2, ![a, b]⟩ [0, 1] S0) (h0 : 0 < S0.numel)
    (x : FVec Ideal ⟨2, ![a, b]⟩ .f32) : IVec S0 1 :=
  Host.reduce IntOp.andi (cmpf .olt (Host.absf x) (broadcastInDim ⟨2, ![a, b]⟩ ![] hb (constant S0 .f32 0x7F800000#32))) (constantI S0 1 1#1) hr h0

theorem real_of_below (x : EReal) (h : max x (-x) < ⊤) : x = ((x.toReal : ℝ) : EReal) := by
  refine (EReal.coe_toReal ?_ ?_).symm
  · rintro rfl; simp at h
  · rintro rfl; simp at h

theorem real_of_all {a b : ℕ} {hb : S0.BroadcastsInDim ⟨2, ![a, b]⟩ (![] : Fin 0 → Fin 2)} {hr : Shape.ReducesTo ⟨2, ![a, b]⟩ [0, 1] S0} {h0 : 0 < S0.numel}
    {x : FVec Ideal ⟨2, ![a, b]⟩ .f32} {j : S0.Idx} (h : allReal hb hr h0 x j = 1#1) : ∃ f : ℕ → ℕ → ℝ, x = grid .f32 a b fun i j => ((f i j : ℝ) : EReal) := by
  refine ⟨fun r c => if e : r < a ∧ c < b then (x (ix2 ⟨r, e.1⟩ ⟨c, e.2⟩)).toReal else 0, eq_grid fun r c => ?_⟩
  beta_reduce
  rw [dif_pos ⟨r.isLt, c.isLt⟩]
  have e := Host.reduce_andi_all _ _ _ _ j h (ix2 r c)
  have t : Ideal.ofBits .f32 0x7F800000#32 = (⊤ : EReal) := by simp [Ideal.ofBits, Ideal.ieee]
  refine real_of_below _ ?_
  change BitVec.ofBool (decide (max (x (ix2 r c)) (-x (ix2 r c)) < Ideal.ofBits .f32 0x7F800000#32)) = 1#1 at e
  rw [t] at e
  by_contra hn
  rw [decide_eq_false hn] at e
  exact absurd e (by decide)

/-- A sum of products of reals is real. -/
theorem sum_mul_real (n : ℕ) (f g : ℕ → ℝ) : ∑ k ∈ range n, ((f k : ℝ) : EReal) * ((g k : ℝ) : EReal) = ((∑ k ∈ range n, f k * g k : ℝ) : EReal) := by
  simp only [← EReal.coe_mul]
  exact (sum_below fun k => ((f k * g k : ℝ) : EReal)).symm.trans (sum_coe fun k => f k * g k)

theorem bits_alpha : Ideal.ofBits .f32 0x3FD744FD#32 = ((14107901 / 8388608 : ℝ) : EReal) := by
  simp [Ideal.ofBits, Ideal.ieee]; rw [← EReal.coe_mul]; norm_num

end Cert.Lin

end
-- ==== Proof.Norm.Finite.lean ====
/- The precondition of the normalized gradient: arguments whose entries are all real. -/
module

public import proofs.«01_k».proof.Pre_finite_norm
public import proofs.«01_k».proof.Proof.Lin.Finite

@[expose] public section

set_option maxRecDepth 16384

noncomputable section

namespace Cert.Pre_finite_norm

open Idealize.ShloMosaic Cert.Lin

instance facts : Cert.Pre_finite_norm.Facts where
  bcast_S_S4096x1024 := by decide
  reducesTo_S4096x1024_S_d0_1 := by decide
  h_S_ := by decide
  bcast_S_S4x1024 := by decide
  reducesTo_S4x1024_S_d0_1 := by decide
  bcast_S_S1024x4096 := by decide
  reducesTo_S1024x4096_S_d0_1 := by decide
  bcast_S_S4096x4096 := by decide
  reducesTo_S4096x4096_S_d0_1 := by decide

open Facts

theorem reals {p r : FVec Ideal S4096x1024 .f32} {g b : FVec Ideal S4x1024 .f32} {w : FVec Ideal S1024x4096 .f32} {d : FVec Ideal S4096x4096 .f32}
    (h : fn (F := Ideal) p g b w r d = fun _ => 1#1) :
    (∃ f : ℕ → ℕ → ℝ, p = grid .f32 4096 1024 fun i j => ((f i j : ℝ) : EReal)) ∧ (∃ f : ℕ → ℕ → ℝ, g = grid .f32 4 1024 fun i j => ((f i j : ℝ) : EReal))
    ∧ (∃ f : ℕ → ℕ → ℝ, w = grid .f32 1024 4096 fun i j => ((f i j : ℝ) : EReal)) ∧ (∃ f : ℕ → ℕ → ℝ, r = grid .f32 4096 1024 fun i j => ((f i j : ℝ) : EReal))
    ∧ ∃ f : ℕ → ℕ → ℝ, d = grid .f32 4096 4096 fun i j => ((f i j : ℝ) : EReal) := by
  have e : IntOp.andi (IntOp.andi (IntOp.andi (IntOp.andi (allReal bcast_S_S4096x1024 reducesTo_S4096x1024_S_d0_1 h_S_ p ix0) (allReal bcast_S_S4x1024 reducesTo_S4x1024_S_d0_1 h_S_ g ix0))
      (allReal bcast_S_S1024x4096 reducesTo_S1024x4096_S_d0_1 h_S_ w ix0)) (allReal bcast_S_S4096x1024 reducesTo_S4096x1024_S_d0_1 h_S_ r ix0))
      (allReal bcast_S_S4096x4096 reducesTo_S4096x4096_S_d0_1 h_S_ d ix0) = 1#1 := congrFun h ix0
  obtain ⟨e, e5⟩ := both_one _ _ e
  obtain ⟨e, e4⟩ := both_one _ _ e
  obtain ⟨e, e3⟩ := both_one _ _ e
  obtain ⟨e0, e1⟩ := both_one _ _ e
  exact ⟨real_of_all e0, real_of_all e1, real_of_all e3, real_of_all e4, real_of_all e5⟩

end Cert.Pre_finite_norm

end
-- ==== Proof.Norm.Claims.lean ====
/- The claims about the gradient of the first product and of the normalization before it. -/
module

public import proofs.«01_k».proof.Defs
public import proofs.«01_k».proof.Proof.Norm.Value
public import proofs.«01_k».proof.Proof.Norm.Finite
public import proofs.«01_k».proof.Proof.Gen.KernelNorm.Frame
public import Idealize.ShloMosaic.Lib.Quiescent

@[expose] public section

noncomputable section

namespace Cert.Norm

open Idealize.ShloMosaic Idealize.SL.Sem

theorem frame : Cert.quiescent_KernelNorm := fun m ρ _ => KernelNorm.Gen.frame m ρ

theorem frame_ideal : Cert.quiescent_KernelNormIdeal := fun m ρ _ => KernelNormIdeal.Gen.frame m ρ

theorem frame_ideal_pre : Cert.quiescent_KernelNormIdeal_pre_finite_norm := fun m ρ _ => KernelNormIdeal.Gen.frame m ρ

theorem reference_frame : Cert.quiescent_ReferenceNormIdeal := fun m ρ _ =>
  (θ_run ReferenceNormIdeal.defs _ _).mono (fun r h => ⟨fun c => (h c).2.2.2.2, sem_eq_zero_of_no_sems (by decide) r.2⟩)
    (ReferenceNormIdeal.Value.run (F := Ideal) m ρ)

theorem reference_frame_pre : Cert.quiescent_ReferenceNormIdeal_pre_finite_norm := fun m ρ _ => reference_frame m ρ trivial

/-- With real arguments both forms of the gradient agree. -/
theorem grads (p g w r d : ℕ → ℕ → ℝ) :
    Cert.Lin.ruleGrad (fun i j => ((p i j : ℝ) : EReal)) (KernelNormIdeal.Own.dn (fun i j => ((g i j : ℝ) : EReal)) (fun i j => ((w i j : ℝ) : EReal)) (fun i j => ((r i j : ℝ) : EReal)) fun i j => ((d i j : ℝ) : EReal))
      = Cert.Lin.rowGrad (KernelNormIdeal.Own.dn (fun i j => ((g i j : ℝ) : EReal)) (fun i j => ((w i j : ℝ) : EReal)) (fun i j => ((r i j : ℝ) : EReal)) fun i j => ((d i j : ℝ) : EReal))
        (Cert.Lin.normed fun i j => ((p i j : ℝ) : EReal)) (Cert.Lin.rstd fun i j => ((p i j : ℝ) : EReal)) := by
  have e : KernelNormIdeal.Own.dn (fun i j => ((g i j : ℝ) : EReal)) (fun i j => ((w i j : ℝ) : EReal)) (fun i j => ((r i j : ℝ) : EReal)) (fun i j => ((d i j : ℝ) : EReal))
      = fun i j => (((14107901 / 8388608 * r i j + ∑ k ∈ Finset.range 4096, d i k * w j k) * g 3 j : ℝ) : EReal) := by
    funext i j
    unfold KernelNormIdeal.Own.dn KernelNormIdeal.Own.dy
    rw [Cert.Lin.bits_alpha, Cert.Lin.sum_mul_real, ← EReal.coe_mul, ← EReal.coe_add, ← EReal.coe_mul]
  rw [e]
  funext i j
  exact Cert.Lin.grad_eq p _ i j

theorem equal : Cert.algebraic_KernelNormIdeal_ReferenceNormIdeal_pre_finite_norm := by
  intro m g m' g' hpre hagree
  refine ⟨fun c => (KernelNormIdeal.Gen.dats m 0 c).arrAt 6 KernelNormIdeal.cfg0.N, fun c => (KernelNormIdeal.Gen.dats m 0 c).arrAt 7 KernelNormIdeal.cfg0.N,
    fun c => (KernelNormIdeal.Gen.dats m 0 c).arrAt 8 KernelNormIdeal.cfg0.N, fun c => (KernelNormIdeal.Gen.dats m 0 c).arrAt 9 KernelNormIdeal.cfg0.N,
    KernelNormIdeal.Value.run_blocks m g, ?_⟩
  refine (θ_run ReferenceNormIdeal.defs _ _).mono (fun r h c => ?_) (ReferenceNormIdeal.Value.run (F := Ideal) m' g')
  obtain ⟨h0, h1, h2, h3, hk⟩ := h c
  obtain ⟨a0, a1, _, a3, a4, a5⟩ := hagree c
  obtain ⟨⟨P, hP⟩, ⟨G, hG⟩, ⟨W, hW⟩, ⟨R, hR⟩, ⟨D, hD⟩⟩ := Cert.Pre_finite_norm.reals (hpre c)
  have A : KernelNormIdeal.Own.Args m c (fun i j => ((P i j : ℝ) : EReal)) (fun i j => ((G i j : ℝ) : EReal)) (fun i j => ((W i j : ℝ) : EReal))
      (fun i j => ((R i j : ℝ) : EReal)) (fun i j => ((D i j : ℝ) : EReal)) := ⟨hP, hG, hW, hR, hD⟩
  have A' : ReferenceNormIdeal.Own.Args (fun i j => ((P i j : ℝ) : EReal)) (fun i j => ((G i j : ℝ) : EReal)) (fun i j => ((W i j : ℝ) : EReal))
      (fun i j => ((R i j : ℝ) : EReal)) (fun i j => ((D i j : ℝ) : EReal)) m' c := ⟨a0.trans hP, a1.trans hG, a3.trans hW, a4.trans hR, a5.trans hD⟩
  exact ⟨h0.trans ((ReferenceNormIdeal.Own.out0 A').trans ((congrArg _ (grads P G W R D)).trans (KernelNormIdeal.Own.final6 A).symm)),
    h1.trans ((ReferenceNormIdeal.Own.out1 A').trans ((congrArg _ (grads P G W R D)).trans (KernelNormIdeal.Own.final7 A).symm)),
    h2.trans ((ReferenceNormIdeal.Own.out2 A').trans (KernelNormIdeal.Own.final8 A).symm), h3.trans ((ReferenceNormIdeal.Own.out3 A').trans (KernelNormIdeal.Own.final9 A).symm), hk⟩

end Cert.Norm

end
-- ==== Proof.NormIn.Value.lean ====
/- The gradient of the first product and of the normalization before it: what the kernel leaves and what the reference computes. -/
module

public import proofs.«01_k».proof.Proof.Norm.Value
public import proofs.«01_k».proof.Proof.Gen.KernelNormInIdeal.Value
public import proofs.«01_k».proof.Proof.Gen.ReferenceNormInIdeal.Run
public import Idealize.ShloMosaic.Lib.Pipeline.ValueKit

@[expose] public section

set_option maxRecDepth 16384

noncomputable section

namespace Cert.KernelNormInIdeal.Own

open Cert.KernelNormInIdeal Cert.KernelNormInIdeal.Gen Cert.Lin Finset
open Idealize.ShloMosaic Idealize.ShloMosaic.TcCoe
open Idealize.ShloMosaic.Pipeline (Dat)
open Cert.KernelNormIdeal.Own (normedV_grid rstdV_grid)

variable (m : (ℓ : Loc nD τ sig) → Buf (Elt Ideal) ℓ) (c : Dev nD) (P G W R D : ℕ → ℕ → EReal)

theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0] ∧ win0_5.index t = ![0, 0, 0] ∧ win0_6.index t = ![t.val, 0]
    ∧ win0_7.index t = ![t.val, 0] ∧ win0_8.index t = ![0, 0] ∧ win0_9.index t = ![0, 0] :=
  (by decide +kernel : ∀ t : Fin grid0.N, _)

/-- The arguments that the results depend on. -/
structure Args : Prop where
  p : m ((c : Thread nD τ).loc main_arg0) = grid .f32 4096 1024 P
  g : m ((c : Thread nD τ).loc main_arg1) = grid .f32 4 1024 G
  w : m ((c : Thread nD τ).loc main_arg3) = grid .f32 1024 2048 W
  r : m ((c : Thread nD τ).loc main_arg4) = grid .f32 4096 1024 R
  d : m ((c : Thread nD τ).loc main_arg5) = grid .f32 4096 2048 D

/-- The gradient of the scaled rows. -/
def dy (i j : ℕ) : EReal := Ideal.ofBits .f32 0x3FD744FD#32 * R i j + ∑ k ∈ range 2048, D i k * W j k

/-- The gradient of the normalized rows. -/
def dn (i j : ℕ) : EReal := dy W R D i j * G 0 j

/-- The gradient of the gains. -/
def dg (j : ℕ) : EReal := ∑ i ∈ range 4096, dy W R D i j * normed P i j

/-- The gradient of the shifts. -/
def db (j : ℕ) : EReal := ∑ i ∈ range 4096, dy W R D i j

section point

variable (f : ℕ → ℕ → EReal) (g : ℕ → ℕ → ℕ → EReal) (h : ℕ → ℕ → EReal) (u : ℕ → ℕ → ℕ → EReal)

/-- The gradient of a block's scaled rows, from its parts. -/
def dyV (x0 : Vec Ideal S512x2048 .bf16) (x1 : Vec Ideal S4x1024x512 .bf16) (x2 : Vec Ideal S512x1024 .f32) : FVec Ideal S512x1024 .f32 :=
  k0_pay3 (View.ld x0 (Rect.unit ![0, 0] ![512, 512] inb_S512x2048_S512x512_0_0))
    (View.ld x1 (Rect.unit ![0, 0, 0] ![1, 1024, 512] inb_S4x1024x512_S1x1024x512_0_0_0))
    (View.ld x0 (Rect.unit ![0, 512] ![512, 512] inb_S512x2048_S512x512_0_512))
    (View.ld x1 (Rect.unit ![1, 0, 0] ![1, 1024, 512] inb_S4x1024x512_S1x1024x512_1_0_0))
    (View.ld x0 (Rect.unit ![0, 1024] ![512, 512] inb_S512x2048_S512x512_0_1024))
    (View.ld x1 (Rect.unit ![2, 0, 0] ![1, 1024, 512] inb_S4x1024x512_S1x1024x512_2_0_0))
    (View.ld x0 (Rect.unit ![0, 1536] ![512, 512] inb_S512x2048_S512x512_0_1536))
    (View.ld x1 (Rect.unit ![3, 0, 0] ![1, 1024, 512] inb_S4x1024x512_S1x1024x512_3_0_0)) x2

/-- The gradient of a block's rows before the normalization. -/
def drV (y : FVec Ideal S512x1024 .f32) (x3 : Vec Ideal S512x1024 .f32) (x4 : Vec Ideal S512x1 .f32) (x5 : Vec Ideal S1x1x1024 .f32) : FVec Ideal S512x1024 .f32 :=
  k0_pay1 (k0_pay10 x4) (k0_pay11 y x5) (k0_pay12 y x3 x5)

/-- What a grid point takes for the gradient of its scaled rows. -/
def row (r c : ℕ) : EReal := Ideal.ofBits .f32 0x3FD744FD#32 * h r c + ((∑ k ∈ range 512, f r k * g 0 c k) + (∑ k ∈ range 512, f r (512 + k) * g 1 c k) + (∑ k ∈ range 512, f r (1024 + k) * g 2 c k) + (∑ k ∈ range 512, f r (1536 + k) * g 3 c k))

theorem dyV_grid : dyV (grid .bf16 512 2048 f) (slabs .bf16 4 1024 512 g) (grid .f32 512 1024 h) = grid .f32 512 1024 (row f g h) := by
  unfold dyV
  have p0 : (View.ld (Val := Elt Ideal) (e' := .bf16) (grid .bf16 512 2048 f) (Rect.unit ![0, 0] ![512, 512] inb_S512x2048_S512x512_0_0) : FVec Ideal S512x512 .bf16) = grid .bf16 512 512 fun r k => f (0 + r) (0 + k) := ld_grid f _ _
  have w0 : (View.ld (Val := Elt Ideal) (e' := .bf16) (slabs .bf16 4 1024 512 g) (Rect.unit ![0, 0, 0] ![1, 1024, 512] inb_S4x1024x512_S1x1024x512_0_0_0) : FVec Ideal S1x1024x512 .bf16) = slabs .bf16 1 1024 512 fun s r k => g (0 + s) (0 + r) (0 + k) := ld_slabs g _ _
  have p1 : (View.ld (Val := Elt Ideal) (e' := .bf16) (grid .bf16 512 2048 f) (Rect.unit ![0, 512] ![512, 512] inb_S512x2048_S512x512_0_512) : FVec Ideal S512x512 .bf16) = grid .bf16 512 512 fun r k => f (0 + r) (512 + k) := ld_grid f _ _
  have w1 : (View.ld (Val := Elt Ideal) (e' := .bf16) (slabs .bf16 4 1024 512 g) (Rect.unit ![1, 0, 0] ![1, 1024, 512] inb_S4x1024x512_S1x1024x512_1_0_0) : FVec Ideal S1x1024x512 .bf16) = slabs .bf16 1 1024 512 fun s r k => g (1 + s) (0 + r) (0 + k) := ld_slabs g _ _
  have p2 : (View.ld (Val := Elt Ideal) (e' := .bf16) (grid .bf16 512 2048 f) (Rect.unit ![0, 1024] ![512, 512] inb_S512x2048_S512x512_0_1024) : FVec Ideal S512x512 .bf16) = grid .bf16 512 512 fun r k => f (0 + r) (1024 + k) := ld_grid f _ _
  have w2 : (View.ld (Val := Elt Ideal) (e' := .bf16) (slabs .bf16 4 1024 512 g) (Rect.unit ![2, 0, 0] ![1, 1024, 512] inb_S4x1024x512_S1x1024x512_2_0_0) : FVec Ideal S1x1024x512 .bf16) = slabs .bf16 1 1024 512 fun s r k => g (2 + s) (0 + r) (0 + k) := ld_slabs g _ _
  have p3 : (View.ld (Val := Elt Ideal) (e' := .bf16) (grid .bf16 512 2048 f) (Rect.unit ![0, 1536] ![512, 512] inb_S512x2048_S512x512_0_1536) : FVec Ideal S512x512 .bf16) = grid .bf16 512 512 fun r k => f (0 + r) (1536 + k) := ld_grid f _ _
  have w3 : (View.ld (Val := Elt Ideal) (e' := .bf16) (slabs .bf16 4 1024 512 g) (Rect.unit ![3, 0, 0] ![1, 1024, 512] inb_S4x1024x512_S1x1024x512_3_0_0) : FVec Ideal S1x1024x512 .bf16) = slabs .bf16 1 1024 512 fun s r k => g (3 + s) (0 + r) (0 + k) := ld_slabs g _ _
  rw [p0, p1, p2, p3, w0, w1, w2, w3]
  refine eq_grid fun r c => ?_
  unfold k0_pay3
  pointwise [grid_ix2, slabs_ix3]
  rw [sum_below fun k => f r.val k * g 0 c.val k]
  rw [sum_below fun k => f r.val (512 + k) * g 1 c.val k]
  rw [sum_below fun k => f r.val (1024 + k) * g 2 c.val k]
  rw [sum_below fun k => f r.val (1536 + k) * g 3 c.val k]
  rfl

theorem drV_grid (y x s : ℕ → ℕ → EReal) : drV (grid .f32 512 1024 y) (grid .f32 512 1024 x) (grid .f32 512 1 s) (slabs .f32 1 1 1024 u)
    = grid .f32 512 1024 (rowGrad (fun r c => y r c * u 0 0 c) x (fun r => s r 0)) :=
  Cert.KernelNormIdeal.Own.drV_grid ..

theorem shift_grid (y a : ℕ → ℕ → EReal) : k0_pay7 (F := Ideal) (grid .f32 512 1024 y) (grid .f32 1 1024 a) = grid .f32 1 1024 fun r c => a r c + ∑ k ∈ range 512, y k c :=
  Cert.KernelNormIdeal.Own.shift_grid ..

theorem gain_grid (y x a : ℕ → ℕ → EReal) : k0_pay8 (F := Ideal) (grid .f32 512 1024 y) (grid .f32 512 1024 x) (grid .f32 1 1024 a)
    = grid .f32 1 1024 fun r c => a r c + ∑ k ∈ range 512, y k c * x k c :=
  Cert.KernelNormIdeal.Own.gain_grid ..

theorem zero4_grid : k0_pay4 (F := Ideal) = grid .f32 1 1024 fun _ _ => 0 :=
  Cert.KernelNormIdeal.Own.zero4_grid

theorem zero5_grid : k0_pay5 (F := Ideal) = grid .f32 1 1024 fun _ _ => 0 :=
  Cert.KernelNormIdeal.Own.zero5_grid

end point

section cases

variable (t : Fin cfg0.N) (x0 : Vec Ideal S512x2048 .bf16) (x1 : Vec Ideal S4x1024x512 .bf16) (x2 x3 : Vec Ideal S512x1024 .f32) (x4 : Vec Ideal S512x1 .f32) (x5 : Vec Ideal S1x1x1024 .f32)
  (x8 x9 : Vec Ideal S1x1024 .f32)

theorem out_A6 (h0) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5
      = drV (dyV x0 x1 x2) x3 x4 x5 := by
  frame_out
  rfl

theorem out_A7 (h0) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5
      = truncf .bf16 (drV (dyV x0 x1 x2) x3 x4 x5) bitsLt_bf16_f32 := by
  frame_out
  rfl

theorem out_A8 (h0) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5
      = k0_pay8 (dyV x0 x1 x2) x3 (k0_pay4 : FVec Ideal S1x1024 .f32) := by
  frame_out
  rfl

theorem out_A9 (h0) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5
      = k0_pay7 (dyV x0 x1 x2) (k0_pay5 : FVec Ideal S1x1024 .f32) := by
  frame_out
  rfl

theorem out_B6 (h0) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5 x8 x9
      = drV (dyV x0 x1 x2) x3 x4 x5 := by
  frame_out
  rfl

theorem out_B7 (h0) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5 x8 x9
      = truncf .bf16 (drV (dyV x0 x1 x2) x3 x4 x5) bitsLt_bf16_f32 := by
  frame_out
  rfl

theorem out_B8 (h0) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5 x8 x9
      = k0_pay8 (dyV x0 x1 x2) x3 x8 := by
  frame_out
  rfl

theorem out_B9 (h0) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 x0 x1 x2 x3 x4 x5 x8 x9
      = k0_pay7 (dyV x0 x1 x2) x9 := by
  frame_out
  rfl

end cases

variable {m c P G W R D} (A : Args m c P G W R D)

include A

theorem entry_n : V m c main_v17 = grid .f32 4096 1024 (normed P) := by
  unfold V
  simp only [hostOps0]
  after_results
  rw [A.p]
  exact normedV_grid P

theorem entry_s : V m c main_v13 = grid .f32 4096 1 fun i _ => rstd P i := by
  unfold V
  simp only [hostOps0]
  after_results
  rw [A.p]
  exact rstdV_grid P

theorem entry_d : V m c main_v21 = grid .bf16 4096 2048 D := by
  unfold V
  simp only [hostOps0]
  after_results
  refine eq_grid fun r c => ?_
  pointwise [A.d, grid_ix2]

theorem entry_w : V m c main_v20 = slabs .bf16 4 1024 512 fun s r k => W r (s * 512 + k) := by
  unfold V
  simp only [hostOps0]
  after_results
  refine eq_slabs fun s r k => ?_
  pointwise [A.w, grid_ix2]

theorem entry_g : V m c main_v22 = slabs .f32 4 1 1024 fun l _ k => G l k := by
  unfold V
  simp only [hostOps0]
  after_results
  refine eq_slabs fun s r k => ?_
  pointwise [A.g, grid_ix2]

theorem blk0 (t : Fin cfg0.N) : iblk m c 0 t = grid .bf16 512 2048 fun r k => D (512 * t.val + r) k := by
  funext y
  blk_simp [iblk]
  refine (congrFun (entry_d A) _).trans ?_
  refine congrArg₂ D ?_ ?_ <;> blk_simp [idx t] <;> ring

theorem blk1 (t : Fin cfg0.N) : iblk m c 1 t = slabs .bf16 4 1024 512 fun s r k => W r (s * 512 + k) := by
  funext y
  blk_simp [iblk]
  refine (congrFun (entry_w A) _).trans ?_
  refine congrArg₂ W ?_ ?_ <;> blk_simp [idx t] <;> ring

theorem blk2 (t : Fin cfg0.N) : iblk m c 2 t = grid .f32 512 1024 fun r k => R (512 * t.val + r) k := by
  funext y
  blk_simp [iblk]
  refine (congrFun ((V_main_arg4 m c).trans A.r) _).trans ?_
  refine congrArg₂ R ?_ ?_ <;> blk_simp [idx t] <;> ring

theorem blk3 (t : Fin cfg0.N) : iblk m c 3 t = grid .f32 512 1024 fun r k => normed P (512 * t.val + r) k := by
  funext y
  blk_simp [iblk]
  refine (congrFun (entry_n A) _).trans ?_
  refine congrArg₂ (normed P) ?_ ?_ <;> blk_simp [idx t] <;> ring

theorem blk4 (t : Fin cfg0.N) : iblk m c 4 t = grid .f32 512 1 fun r _ => rstd P (512 * t.val + r) := by
  funext y
  blk_simp [iblk]
  refine (congrFun (entry_s A) _).trans ?_
  refine congrArg (rstd P) ?_
  blk_simp [idx t]
  ring

theorem blk5 (t : Fin cfg0.N) : iblk m c 5 t = slabs .f32 1 1 1024 fun _ _ k => G 0 k := by
  funext y
  blk_simp [iblk]
  refine (congrFun (entry_g A) _).trans ?_
  have := (y 0).isLt
  refine congrArg₂ G ?_ ?_ <;> blk_simp [idx t] <;> simp

omit A in
/-- The rows of a grid point are rows of the whole. -/
theorem row_eq (t : ℕ) : (row (fun r k => D (512 * t + r) k) (fun s r k => W r (s * 512 + k)) fun r k => R (512 * t + r) k) = fun r j => dy W R D (512 * t + r) j := by
  funext r j
  unfold row
  simp only [Nat.zero_add, Nat.zero_mul, Nat.one_mul]
  exact congrArg (fun x : EReal => Ideal.ofBits .f32 0x3FD744FD#32 * R (512 * t + r) j + x) (sum_quarters 512 fun k => D (512 * t + r) k * W j k)

/-- The gradient of a grid point's scaled rows. -/
theorem dy_blk (t : Fin cfg0.N) : dyV (iblk m c 0 t) (iblk m c 1 t) (iblk m c 2 t) = grid .f32 512 1024 fun r j => dy W R D (512 * t.val + r) j := by
  rw [blk0 A, blk1 A, blk2 A]
  exact (dyV_grid ..).trans (congrArg _ (row_eq t.val))

/-- The gradient that a grid point leaves of its rows. -/
theorem dr_blk (t : Fin cfg0.N) : drV (dyV (iblk m c 0 t) (iblk m c 1 t) (iblk m c 2 t)) (iblk m c 3 t) (iblk m c 4 t) (iblk m c 5 t)
    = grid .f32 512 1024 fun r j => rowGrad (dn G W R D) (normed P) (rstd P) (512 * t.val + r) j := by
  rw [dy_blk A, blk3 A, blk4 A, blk5 A]
  exact drV_grid ..

theorem after6 (t : Fin cfg0.N) : (outsAt0 m c t.val t.isLt).1 = grid .f32 512 1024 fun r j => rowGrad (dn G W R D) (normed P) (rstd P) (512 * t.val + r) j := by
  by_cases h : t.val % 8 = 0
  · rw [outsAt0_A m c t h]
    dsimp only
    rw [out_A6]
    exact dr_blk A t
  · rw [outsAt0_B m c t h]
    dsimp only
    rw [out_B6]
    exact dr_blk A t

theorem after7 (t : Fin cfg0.N) : (outsAt0 m c t.val t.isLt).2.1 = grid .bf16 512 1024 fun r j => rowGrad (dn G W R D) (normed P) (rstd P) (512 * t.val + r) j := by
  have e : truncf .bf16 (drV (dyV (iblk m c 0 t) (iblk m c 1 t) (iblk m c 2 t)) (iblk m c 3 t) (iblk m c 4 t) (iblk m c 5 t)) bitsLt_bf16_f32
      = grid .bf16 512 1024 fun r j => rowGrad (dn G W R D) (normed P) (rstd P) (512 * t.val + r) j := by
    rw [dr_blk A]
    exact eq_grid fun i j => by pointwise [grid_ix2]
  by_cases h : t.val % 8 = 0
  · rw [outsAt0_A m c t h]
    dsimp only
    rw [out_A7]
    exact e
  · rw [outsAt0_B m c t h]
    dsimp only
    rw [out_B7]
    exact e

/-- What the sums hold after a grid point. -/
theorem sums : ∀ (n : ℕ) (h : n < cfg0.N), (outsAt0 m c n h).2.2.1 = grid .f32 1 1024 (fun _ j => ∑ i ∈ range (512 * (n + 1)), dy W R D i j * normed P i j)
    ∧ (outsAt0 m c n h).2.2.2 = grid .f32 1 1024 (fun _ j => ∑ i ∈ range (512 * (n + 1)), dy W R D i j) := by
  intro n
  induction n with
  | zero =>
    intro h
    have e := outsAt0_A m c ⟨0, h⟩ rfl
    dsimp only at e
    rw [e]
    dsimp only
    rw [out_A8, out_A9, dy_blk A, blk3 A, zero4_grid, zero5_grid, gain_grid, shift_grid]
    simp only [zero_add, Nat.mul_zero, Nat.mul_one, and_self]
  | succ n ih =>
    intro h
    obtain ⟨i8, i9⟩ := ih (Nat.lt_of_succ_lt h)
    have hn : ¬(n + 1) % 8 = 0 := by
      have : n + 1 < 8 := h
      omega
    have e := outsAt0_B m c ⟨n + 1, h⟩ hn
    dsimp only at e
    rw [e]
    dsimp only [Nat.add_sub_cancel]
    rw [out_B8, out_B9, dy_blk A, blk3 A]
    refine ⟨(congrArg (k0_pay8 _ _) i8).trans ((gain_grid ..).trans (congrArg _ ?_)), (congrArg (k0_pay7 _) i9).trans ((shift_grid ..).trans (congrArg _ ?_))⟩
    · funext _ j
      exact (sum_range_add (fun i => dy W R D i j * normed P i j) (512 * (n + 1)) 512).symm
    · funext _ j
      exact (sum_range_add (fun i => dy W R D i j) (512 * (n + 1)) 512).symm

theorem final6 : (dats m 0 c).arrAt 6 cfg0.N = grid .f32 4096 1024 (rowGrad (dn G W R D) (normed P) (rstd P)) := by
  refine (dats m 0 c).arrAt_eq_of_covers 6 _ (by decide +kernel) fun t _ y => ?_
  blk_simp
  rw [after0_6, after6 A]
  obtain ⟨r, k, rfl⟩ : ∃ (r : Fin 512) (k : Fin 1024), y = ix2 r k := ⟨_, _, eq_ix2 y⟩
  rw [grid_ix2]
  change (rowGrad (dn G W R D) (normed P) (rstd P)) (512 * t.val + r.val) k.val = _
  refine congrArg₂ (rowGrad (dn G W R D) (normed P) (rstd P)) ?_ ?_ <;> blk_simp [idx t] <;> ring

theorem final7 : (dats m 0 c).arrAt 7 cfg0.N = grid .bf16 4096 1024 (rowGrad (dn G W R D) (normed P) (rstd P)) := by
  refine (dats m 0 c).arrAt_eq_of_covers 7 _ (by decide +kernel) fun t _ y => ?_
  blk_simp
  rw [after0_7, after7 A]
  obtain ⟨r, k, rfl⟩ : ∃ (r : Fin 512) (k : Fin 1024), y = ix2 r k := ⟨_, _, eq_ix2 y⟩
  rw [grid_ix2]
  change (rowGrad (dn G W R D) (normed P) (rstd P)) (512 * t.val + r.val) k.val = _
  refine congrArg₂ (rowGrad (dn G W R D) (normed P) (rstd P)) ?_ ?_ <;> blk_simp [idx t] <;> ring

theorem final8 : (dats m 0 c).arrAt 8 cfg0.N = grid .f32 1 1024 (fun _ => dg P W R D) := by
  refine (dats m 0 c).arrAt_eq_of_covers 8 _ (by decide +kernel) fun t ht y => ?_
  have h7 : t.val = 7 := by
    have h1 := (flush0_8 t).mp ht
    have h2 : t.val < 8 := t.isLt
    omega
  blk_simp
  rw [after0_8, (sums A t.val t.isLt).1, h7]
  obtain ⟨r, k, rfl⟩ : ∃ (r : Fin 1) (k : Fin 1024), y = ix2 r k := ⟨_, _, eq_ix2 y⟩
  rw [grid_ix2]
  change dg P W R D k.val = _
  refine congrArg (dg P W R D) ?_
  blk_simp [idx t]

theorem final9 : (dats m 0 c).arrAt 9 cfg0.N = grid .f32 1 1024 (fun _ => db W R D) := by
  refine (dats m 0 c).arrAt_eq_of_covers 9 _ (by decide +kernel) fun t ht y => ?_
  have h7 : t.val = 7 := by
    have h1 := (flush0_9 t).mp ht
    have h2 : t.val < 8 := t.isLt
    omega
  blk_simp
  rw [after0_9, (sums A t.val t.isLt).2, h7]
  obtain ⟨r, k, rfl⟩ : ∃ (r : Fin 1) (k : Fin 1024), y = ix2 r k := ⟨_, _, eq_ix2 y⟩
  rw [grid_ix2]
  change db W R D k.val = _
  refine congrArg (db W R D) ?_
  blk_simp [idx t]

end Cert.KernelNormInIdeal.Own

namespace Cert.ReferenceNormInIdeal.Own

open Cert.ReferenceNormInIdeal Cert.ReferenceNormInIdeal.Gen Cert.Lin Finset
open Idealize.ShloMosaic Idealize.ShloMosaic.TcCoe Idealize.SL.Sem
open Cert.KernelNormInIdeal.Own (dy dn dg db)
open Cert.ReferenceNormIdeal.Own (normedV normedV_grid gradV gradV_grid colV colV_grid mulV_grid)

def dyV (w : FVec Ideal S1024x2048 .f32) (r : FVec Ideal S4096x1024 .f32) (d : FVec Ideal S4096x2048 .f32) : FVec Ideal S4096x1024 .f32 :=
  addf (Host.dotGeneral dot_S4096x2048_S1024x2048_S4096x1024_1_1_0_0_n_n none d w) (mulf (broadcastInDim S4096x1024 ![] bcast_S_S4096x1024 (constant S_ .f32 0x3FD744FD#32)) r)

def dnV (y : FVec Ideal S4096x1024 .f32) (g : FVec Ideal S4x1024 .f32) : FVec Ideal S4096x1024 .f32 :=
  mulf y (broadcastInDim S4096x1024 ![0, 1] bcast_S1x1024_S4096x1024_0_1 (broadcastInDim S1x1024 ![1] bcast_S1024_S1x1024_1
    (shapeCast S1024 (extractStridedSlice S1x1024 ![0, 0] g slices_S4x1024_S1x1024_0_0) shapeCasts_S1x1024_S1024)))

section vectors

variable (W R D G : ℕ → ℕ → EReal)

theorem dyV_grid : dyV (grid .f32 1024 2048 W) (grid .f32 4096 1024 R) (grid .f32 4096 2048 D) = grid .f32 4096 1024 (dy W R D) := by
  refine eq_grid fun i j => ?_
  unfold dyV
  pointwise [grid_ix2]
  rw [sum_below fun k => D i.val k * W j.val k, add_comm]
  rfl

theorem dnV_grid (y : ℕ → ℕ → EReal) : dnV (grid .f32 4096 1024 y) (grid .f32 4 1024 G) = grid .f32 4096 1024 fun i j => y i j * G 0 j := by
  refine eq_grid fun i j => ?_
  unfold dnV
  pointwise [grid_ix2]

end vectors

variable (P G W R D : ℕ → ℕ → EReal)
variable (m : (ℓ : Loc nD τ sig) → Buf (Elt Ideal) ℓ) (c : Dev nD)

/-- The arguments that the results depend on. -/
structure Args : Prop where
  p : m ((c.tc : Thread nD τ).loc main_arg0) = grid .f32 4096 1024 P
  g : m ((c.tc : Thread nD τ).loc main_arg1) = grid .f32 4 1024 G
  w : m ((c.tc : Thread nD τ).loc main_arg3) = grid .f32 1024 2048 W
  r : m ((c.tc : Thread nD τ).loc main_arg4) = grid .f32 4096 1024 R
  d : m ((c.tc : Thread nD τ).loc main_arg5) = grid .f32 4096 2048 D

variable {m c P G W R D} (A : Args P G W R D m c)

include A

theorem out0 : gradV (m ((c.tc : Thread nD τ).loc main_arg0)) (dnV (dyV (m ((c.tc : Thread nD τ).loc main_arg3)) (m ((c.tc : Thread nD τ).loc main_arg4)) (m ((c.tc : Thread nD τ).loc main_arg5))) (m ((c.tc : Thread nD τ).loc main_arg1)))
    = grid .f32 4096 1024 (ruleGrad P (dn G W R D)) := by
  rw [A.p, A.w, A.r, A.d, A.g, dyV_grid, dnV_grid]
  exact gradV_grid P (dn G W R D)

theorem out1 : truncf .bf16 (gradV (m ((c.tc : Thread nD τ).loc main_arg0)) (dnV (dyV (m ((c.tc : Thread nD τ).loc main_arg3)) (m ((c.tc : Thread nD τ).loc main_arg4)) (m ((c.tc : Thread nD τ).loc main_arg5))) (m ((c.tc : Thread nD τ).loc main_arg1)))) bitsLt_bf16_f32
    = grid .bf16 4096 1024 (ruleGrad P (dn G W R D)) := by
  rw [out0 A]
  exact eq_grid fun i j => by pointwise [grid_ix2]

theorem out2 : colV (mulf (normedV (m ((c.tc : Thread nD τ).loc main_arg0))) (dyV (m ((c.tc : Thread nD τ).loc main_arg3)) (m ((c.tc : Thread nD τ).loc main_arg4)) (m ((c.tc : Thread nD τ).loc main_arg5))))
    = grid .f32 1 1024 fun _ => dg P W R D := by
  rw [A.p, A.w, A.r, A.d, dyV_grid, normedV_grid, mulV_grid, colV_grid]
  refine congrArg _ (funext fun _ => funext fun j => sum_congr rfl fun i _ => mul_comm _ _)

theorem out3 : colV (dyV (m ((c.tc : Thread nD τ).loc main_arg3)) (m ((c.tc : Thread nD τ).loc main_arg4)) (m ((c.tc : Thread nD τ).loc main_arg5)))
    = grid .f32 1 1024 fun _ => db W R D := by
  rw [A.w, A.r, A.d, dyV_grid, colV_grid]
  rfl

end Cert.ReferenceNormInIdeal.Own

end
-- ==== Proof.NormIn.Finite.lean ====
/- The precondition of the normalized gradient: arguments whose entries are all real. -/
module

public import proofs.«01_k».proof.Pre_finite_norm_in
public import proofs.«01_k».proof.Proof.Lin.Finite

@[expose] public section

set_option maxRecDepth 16384

noncomputable section

namespace Cert.Pre_finite_norm_in

open Idealize.ShloMosaic Cert.Lin

instance facts : Cert.Pre_finite_norm_in.Facts where
  bcast_S_S4096x1024 := by decide
  reducesTo_S4096x1024_S_d0_1 := by decide
  h_S_ := by decide
  bcast_S_S4x1024 := by decide
  reducesTo_S4x1024_S_d0_1 := by decide
  bcast_S_S1024x2048 := by decide
  reducesTo_S1024x2048_S_d0_1 := by decide
  bcast_S_S4096x2048 := by decide
  reducesTo_S4096x2048_S_d0_1 := by decide

open Facts

theorem reals {p r : FVec Ideal S4096x1024 .f32} {g b : FVec Ideal S4x1024 .f32} {w : FVec Ideal S1024x2048 .f32} {d : FVec Ideal S4096x2048 .f32}
    (h : fn (F := Ideal) p g b w r d = fun _ => 1#1) :
    (∃ f : ℕ → ℕ → ℝ, p = grid .f32 4096 1024 fun i j => ((f i j : ℝ) : EReal)) ∧ (∃ f : ℕ → ℕ → ℝ, g = grid .f32 4 1024 fun i j => ((f i j : ℝ) : EReal))
    ∧ (∃ f : ℕ → ℕ → ℝ, w = grid .f32 1024 2048 fun i j => ((f i j : ℝ) : EReal)) ∧ (∃ f : ℕ → ℕ → ℝ, r = grid .f32 4096 1024 fun i j => ((f i j : ℝ) : EReal))
    ∧ ∃ f : ℕ → ℕ → ℝ, d = grid .f32 4096 2048 fun i j => ((f i j : ℝ) : EReal) := by
  have e : IntOp.andi (IntOp.andi (IntOp.andi (IntOp.andi (allReal bcast_S_S4096x1024 reducesTo_S4096x1024_S_d0_1 h_S_ p ix0) (allReal bcast_S_S4x1024 reducesTo_S4x1024_S_d0_1 h_S_ g ix0))
      (allReal bcast_S_S1024x2048 reducesTo_S1024x2048_S_d0_1 h_S_ w ix0)) (allReal bcast_S_S4096x1024 reducesTo_S4096x1024_S_d0_1 h_S_ r ix0))
      (allReal bcast_S_S4096x2048 reducesTo_S4096x2048_S_d0_1 h_S_ d ix0) = 1#1 := congrFun h ix0
  obtain ⟨e, e5⟩ := both_one _ _ e
  obtain ⟨e, e4⟩ := both_one _ _ e
  obtain ⟨e, e3⟩ := both_one _ _ e
  obtain ⟨e0, e1⟩ := both_one _ _ e
  exact ⟨real_of_all e0, real_of_all e1, real_of_all e3, real_of_all e4, real_of_all e5⟩

end Cert.Pre_finite_norm_in

end
-- ==== Proof.NormIn.Claims.lean ====
/- The claims about the gradient of the first product and of the normalization before it. -/
module

public import proofs.«01_k».proof.Defs
public import proofs.«01_k».proof.Proof.NormIn.Value
public import proofs.«01_k».proof.Proof.NormIn.Finite
public import proofs.«01_k».proof.Proof.Gen.KernelNormIn.Frame
public import Idealize.ShloMosaic.Lib.Quiescent

@[expose] public section

noncomputable section

namespace Cert.NormIn

open Idealize.ShloMosaic Idealize.SL.Sem

theorem frame : Cert.quiescent_KernelNormIn := fun m ρ _ => KernelNormIn.Gen.frame m ρ

theorem frame_ideal : Cert.quiescent_KernelNormInIdeal := fun m ρ _ => KernelNormInIdeal.Gen.frame m ρ

theorem frame_ideal_pre : Cert.quiescent_KernelNormInIdeal_pre_finite_norm_in := fun m ρ _ => KernelNormInIdeal.Gen.frame m ρ

theorem reference_frame : Cert.quiescent_ReferenceNormInIdeal := fun m ρ _ =>
  (θ_run ReferenceNormInIdeal.defs _ _).mono (fun r h => ⟨fun c => (h c).2.2.2.2, sem_eq_zero_of_no_sems (by decide) r.2⟩)
    (ReferenceNormInIdeal.Value.run (F := Ideal) m ρ)

theorem reference_frame_pre : Cert.quiescent_ReferenceNormInIdeal_pre_finite_norm_in := fun m ρ _ => reference_frame m ρ trivial

/-- With real arguments both forms of the gradient agree. -/
theorem grads (p g w r d : ℕ → ℕ → ℝ) :
    Cert.Lin.ruleGrad (fun i j => ((p i j : ℝ) : EReal)) (KernelNormInIdeal.Own.dn (fun i j => ((g i j : ℝ) : EReal)) (fun i j => ((w i j : ℝ) : EReal)) (fun i j => ((r i j : ℝ) : EReal)) fun i j => ((d i j : ℝ) : EReal))
      = Cert.Lin.rowGrad (KernelNormInIdeal.Own.dn (fun i j => ((g i j : ℝ) : EReal)) (fun i j => ((w i j : ℝ) : EReal)) (fun i j => ((r i j : ℝ) : EReal)) fun i j => ((d i j : ℝ) : EReal))
        (Cert.Lin.normed fun i j => ((p i j : ℝ) : EReal)) (Cert.Lin.rstd fun i j => ((p i j : ℝ) : EReal)) := by
  have e : KernelNormInIdeal.Own.dn (fun i j => ((g i j : ℝ) : EReal)) (fun i j => ((w i j : ℝ) : EReal)) (fun i j => ((r i j : ℝ) : EReal)) (fun i j => ((d i j : ℝ) : EReal))
      = fun i j => (((14107901 / 8388608 * r i j + ∑ k ∈ Finset.range 2048, d i k * w j k) * g 0 j : ℝ) : EReal) := by
    funext i j
    unfold KernelNormInIdeal.Own.dn KernelNormInIdeal.Own.dy
    rw [Cert.Lin.bits_alpha, Cert.Lin.sum_mul_real, ← EReal.coe_mul, ← EReal.coe_add, ← EReal.coe_mul]
  rw [e]
  funext i j
  exact Cert.Lin.grad_eq p _ i j

theorem equal : Cert.algebraic_KernelNormInIdeal_ReferenceNormInIdeal_pre_finite_norm_in := by
  intro m g m' g' hpre hagree
  refine ⟨fun c => (KernelNormInIdeal.Gen.dats m 0 c).arrAt 6 KernelNormInIdeal.cfg0.N, fun c => (KernelNormInIdeal.Gen.dats m 0 c).arrAt 7 KernelNormInIdeal.cfg0.N,
    fun c => (KernelNormInIdeal.Gen.dats m 0 c).arrAt 8 KernelNormInIdeal.cfg0.N, fun c => (KernelNormInIdeal.Gen.dats m 0 c).arrAt 9 KernelNormInIdeal.cfg0.N,
    KernelNormInIdeal.Value.run_blocks m g, ?_⟩
  refine (θ_run ReferenceNormInIdeal.defs _ _).mono (fun r h c => ?_) (ReferenceNormInIdeal.Value.run (F := Ideal) m' g')
  obtain ⟨h0, h1, h2, h3, hk⟩ := h c
  obtain ⟨a0, a1, _, a3, a4, a5⟩ := hagree c
  obtain ⟨⟨P, hP⟩, ⟨G, hG⟩, ⟨W, hW⟩, ⟨R, hR⟩, ⟨D, hD⟩⟩ := Cert.Pre_finite_norm_in.reals (hpre c)
  have A : KernelNormInIdeal.Own.Args m c (fun i j => ((P i j : ℝ) : EReal)) (fun i j => ((G i j : ℝ) : EReal)) (fun i j => ((W i j : ℝ) : EReal))
      (fun i j => ((R i j : ℝ) : EReal)) (fun i j => ((D i j : ℝ) : EReal)) := ⟨hP, hG, hW, hR, hD⟩
  have A' : ReferenceNormInIdeal.Own.Args (fun i j => ((P i j : ℝ) : EReal)) (fun i j => ((G i j : ℝ) : EReal)) (fun i j => ((W i j : ℝ) : EReal))
      (fun i j => ((R i j : ℝ) : EReal)) (fun i j => ((D i j : ℝ) : EReal)) m' c := ⟨a0.trans hP, a1.trans hG, a3.trans hW, a4.trans hR, a5.trans hD⟩
  exact ⟨h0.trans ((ReferenceNormInIdeal.Own.out0 A').trans ((congrArg _ (grads P G W R D)).trans (KernelNormInIdeal.Own.final6 A).symm)),
    h1.trans ((ReferenceNormInIdeal.Own.out1 A').trans ((congrArg _ (grads P G W R D)).trans (KernelNormInIdeal.Own.final7 A).symm)),
    h2.trans ((ReferenceNormInIdeal.Own.out2 A').trans (KernelNormInIdeal.Own.final8 A).symm), h3.trans ((ReferenceNormInIdeal.Own.out3 A').trans (KernelNormInIdeal.Own.final9 A).symm), hk⟩

end Cert.NormIn

end
-- ==== Proof.OutDx.Value.lean ====
/- The gradient of an output projection's rows: what the kernel leaves and what the reference computes. -/
module

public import proofs.«01_k».proof.Proof.Lin.Array
public import proofs.«01_k».proof.Proof.Gen.KernelOutDxIdeal.Value
public import proofs.«01_k».proof.Proof.Gen.ReferenceOutDxIdeal.Run
public import Idealize.ShloMosaic.Lib.Pipeline.ValueKit

@[expose] public section

set_option maxRecDepth 16384

noncomputable section

namespace Cert.KernelOutDxIdeal.Own

open Cert.KernelOutDxIdeal Cert.KernelOutDxIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (W D : ℕ → ℕ → EReal)

theorem idx : ∀ t : Fin cfg0.N, win0_0.index t = ![t.val / 4, 0] ∧ win0_1.index t = ![0, 0, 0]
    ∧ win0_2.index t = ![t.val / 4, t.val % 4] :=
  (by decide +kernel : ∀ t : Fin grid0.N, _)

theorem off : ∀ t : Fin cfg0.N, k0_off1 (grid0.coords t) = ![t.val % 4, 0, 0] := (by decide +kernel : ∀ t : Fin grid0.N, _)

/-- The arguments that the result depends on. -/
structure Args : Prop where
  w : m ((c : Thread nD τ).loc main_arg1) = grid .f32 1024 1024 W
  d : m ((c : Thread nD τ).loc main_arg2) = grid .f32 4096 1024 D

/-- The gradient at row `i` and column `j`. -/
def res (i j : ℕ) : EReal := ∑ k ∈ range 1024, D i k * W j k

/-- What a grid point leaves in its block of the result. -/
theorem out_eq (t : Fin cfg0.N) (f : ℕ → ℕ → ℕ → EReal) (x0 : Vec Ideal S1024x1024 .bf16) :
    out0_A_2 c (grid0.coords t) (ms0_0 t) (hs0_0 t) (ms0_1 t) (hs0_1 t) (ms0_2 t) (hs0_2 t) x0 (slabs .bf16 4 256 1024 f)
      = k0_pay1 (slabs .bf16 1 256 1024 fun _ => f (t.val % 4)) x0 := by
  have e : (View.ld (Val := Elt Ideal) (e' := .bf16) (slabs .bf16 4 256 1024 f) (Rect.unit (s := S4x256x1024) (k0_off1 (grid0.coords t)) S1x256x1024.size (k0_off1_inb _)) : FVec Ideal S1x256x1024 .bf16)
      = slabs .bf16 1 256 1024 fun _ => f (t.val % 4) := by
    refine (ld_slabs f _ _).trans (eq_slabs fun s r k => ?_)
    have := s.isLt
    refine congr (congrArg₂ f ?_ ?_) ?_ <;> dsimp only <;> rw [off t] <;> simp
  frame_out
  exact congrArg (fun v => k0_pay1 v x0) e

variable {m c W D} (A : Args m c W D)

include A

theorem entry_x : V m c main_v0 = grid .bf16 4096 1024 D := by
  unfold V
  simp only [hostOps0]
  after_results
  refine eq_grid fun r c => ?_
  pointwise [A.d, grid_ix2]

theorem entry_w : V m c main_v2 = slabs .bf16 4 256 1024 fun s r k => W (s * 256 + r) k := by
  unfold V
  simp only [hostOps0]
  after_results
  refine eq_slabs fun s r k => ?_
  pointwise [A.w, grid_ix2]

theorem blk0 (t : Fin cfg0.N) : iblk m c 0 t = grid .bf16 1024 1024 fun r k => D (1024 * (t.val / 4) + r) k := by
  funext y
  blk_simp [iblk]
  refine (congrFun (entry_x A) _).trans ?_
  refine congrArg₂ D ?_ ?_ <;> blk_simp [idx t] <;> ring

theorem blk1 (t : Fin cfg0.N) : iblk m c 1 t = slabs .bf16 4 256 1024 fun s r k => W (s * 256 + r) k := by
  funext y
  blk_simp [iblk]
  refine (congrFun (entry_w A) _).trans ?_
  refine congrArg₂ W ?_ ?_ <;> blk_simp [idx t] <;> ring

theorem final : (dats m 0 c).arrAt 2 cfg0.N = grid .f32 4096 1024 (res W D) := by
  refine (dats m 0 c).arrAt_eq_of_covers 2 _ (by decide +kernel) fun t _ y => ?_
  blk_simp
  rw [after0_2]
  unfold outsAt0
  rw [blk0 A, blk1 A, out_eq]
  obtain ⟨r, k, rfl⟩ : ∃ (r : Fin 1024) (k : Fin 256), y = ix2 r k := ⟨_, _, eq_ix2 y⟩
  unfold k0_pay1
  pointwise [grid_ix2, slabs_ix3]
  rw [sum_below fun k' => D (1024 * (t.val / 4) + r.val) k' * W (t.val % 4 * 256 + k.val) k']
  change res W D (1024 * (t.val / 4) + r.val) (t.val % 4 * 256 + k.val) = _
  refine congrArg₂ (res W D) ?_ ?_ <;> blk_simp [idx t] <;> ring

end Cert.KernelOutDxIdeal.Own

namespace Cert.ReferenceOutDxIdeal.Own

open Cert.ReferenceOutDxIdeal Cert.ReferenceOutDxIdeal.Gen Cert.Lin Finset
open Idealize.ShloMosaic Idealize.ShloMosaic.TcCoe

variable (W D : ℕ → ℕ → EReal)

theorem out :
    (Host.dotGeneral (F := Ideal) dot_S4096x1024_S1024x1024_S4096x1024_1_1_0_0_n_n none (grid .f32 4096 1024 D : FVec Ideal S4096x1024 .f32) (grid .f32 1024 1024 W : FVec Ideal S1024x1024 .f32) : FVec Ideal S4096x1024 .f32)
      = grid .f32 4096 1024 (Cert.KernelOutDxIdeal.Own.res W D) := by
  refine eq_grid fun i j => ?_
  pointwise [grid_ix2]
  rw [sum_below fun k => D i.val k * W j.val k]
  rfl

end Cert.ReferenceOutDxIdeal.Own

end
-- ==== Proof.OutDx.Claims.lean ====
/- The claims about the gradient of an output projection's rows. -/
module

public import proofs.«01_k».proof.Defs
public import proofs.«01_k».proof.Proof.OutDx.Value
public import proofs.«01_k».proof.Proof.Gen.KernelOutDx.Frame
public import Idealize.ShloMosaic.Lib.Quiescent

@[expose] public section

noncomputable section

namespace Cert.OutDx

open Idealize.ShloMosaic Idealize.SL.Sem

theorem frame : Cert.quiescent_KernelOutDx := fun m ρ _ => KernelOutDx.Gen.frame m ρ

theorem frame_ideal : Cert.quiescent_KernelOutDxIdeal := fun m ρ _ => KernelOutDxIdeal.Gen.frame m ρ

theorem reference_frame : Cert.quiescent_ReferenceOutDxIdeal := fun m ρ _ =>
  (θ_run ReferenceOutDxIdeal.defs _ _).mono (fun r h => ⟨fun c => (h c).2, sem_eq_zero_of_no_sems (by decide) r.2⟩)
    (ReferenceOutDxIdeal.Value.run (F := Ideal) m ρ)

theorem equal : Cert.algebraic_KernelOutDxIdeal_ReferenceOutDxIdeal := by
  intro m g m' g' _ hagree
  refine ⟨fun c => (KernelOutDxIdeal.Gen.dats m 0 c).arrAt 2 KernelOutDxIdeal.cfg0.N,
    KernelOutDxIdeal.Value.run_blocks m g, ?_⟩
  refine (θ_run ReferenceOutDxIdeal.defs _ _).mono (fun r h c => ⟨(h c).1.trans ?_, (h c).2⟩)
    (ReferenceOutDxIdeal.Value.run (F := Ideal) m' g')
  obtain ⟨-, a1, a2⟩ := hagree c
  obtain ⟨W, hW⟩ := Cert.Lin.exists_grid (φ := .f32) (m ((c.tc : Thread KernelOutDxIdeal.nD KernelOutDxIdeal.τ).loc KernelOutDxIdeal.main_arg1))
  obtain ⟨D, hD⟩ := Cert.Lin.exists_grid (φ := .f32) (m ((c.tc : Thread KernelOutDxIdeal.nD KernelOutDxIdeal.τ).loc KernelOutDxIdeal.main_arg2))
  have k := KernelOutDxIdeal.Own.final (m := m) (c := c) ⟨hW, hD⟩
  rw [a1.trans hW, a2.trans hD]
  exact (ReferenceOutDxIdeal.Own.out W D).trans k.symm

end Cert.OutDx

end
-- ==== Proof.OutDw.Value.lean ====
/- The gradient of an output projection's weights: what the kernel leaves and what the reference computes. -/
module

public import proofs.«01_k».proof.Proof.Lin.Array
public import proofs.«01_k».proof.Proof.Gen.KernelOutDwIdeal.Value
public import proofs.«01_k».proof.Proof.Gen.ReferenceOutDwIdeal.Run
public import Idealize.ShloMosaic.Lib.Pipeline.ValueKit

@[expose] public section

set_option maxRecDepth 16384

noncomputable section

namespace Cert.KernelOutDwIdeal.Own

open Cert.KernelOutDwIdeal Cert.KernelOutDwIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (X D : ℕ → ℕ → EReal)

theorem idx : ∀ t : Fin cfg0.N, win0_0.index t = ![t.val % 2, t.val / 2] ∧ win0_1.index t = ![t.val % 2, 0] ∧ win0_2.index t = ![t.val / 2, 0, 0] :=
  (by decide +kernel : ∀ t : Fin grid0.N, _)

/-- The arguments that the gradient depends on. -/
structure Args : Prop where
  x : m ((c : Thread nD τ).loc main_arg0) = grid .f32 4096 1024 X
  d : m ((c : Thread nD τ).loc main_arg2) = grid .f32 4096 1024 D

/-- The gradient's entry at row `j` and column `k`. -/
def dw (j k : ℕ) : EReal := ∑ t ∈ range 4096, X t j * D t k

/-- What a grid point adds: the product over its half of the rows. -/
theorem part_eq (p d : ℕ → ℕ → EReal) : k0_pay1 (F := Ideal) (grid .bf16 2048 1024 d) (grid .bf16 2048 256 p)
    = grid .f32 256 1024 fun r k => ∑ t ∈ range 2048, p t r * d t k := by
  refine eq_grid fun r k => ?_
  unfold k0_pay1
  pointwise [grid_ix2]
  exact sum_below fun t => p t r * d t k

theorem out_A (t : Fin cfg0.N) (h0 h1 h2) (x0 : Vec Ideal S2048x256 .bf16) (x1 : Vec Ideal S2048x1024 .bf16) :
    sout0_A_0 c (grid0.coords t) (ms0_0 t) (hs0_0 t) (ms0_1 t) (hs0_1 t) (ms0_2 t) (hs0_2 t) scM0_0 (Memref.isWhole_whole _) h0 h1 h2 x0 x1
      = k0_pay2 x1 x0 := by
  frame_out

theorem out_B (t : Fin cfg0.N) (h0 h1 h2) (x0 : Vec Ideal S2048x256 .bf16) (x1 : Vec Ideal S2048x1024 .bf16) (s : Vec Ideal S256x1024 .f32) :
    out0_B_2 c (grid0.coords t) (ms0_0 t) (hs0_0 t) (ms0_1 t) (hs0_1 t) (ms0_2 t) (hs0_2 t) scM0_0 (Memref.isWhole_whole _) h0 h1 h2 x0 x1 s
      = k0_pay4 x1 x0 s := by
  frame_out
  exact congrArg (k0_pay4 x1 x0) ((Memref.isWhole_whole cc0_scratch0).read_unread s)

variable {m c X D} (A : Args m c X D)

include A

theorem entry_x : V m c main_v0 = grid .bf16 4096 1024 X := by
  unfold V
  simp only [hostOps0]
  after_results
  refine eq_grid fun r c => ?_
  pointwise [A.x, grid_ix2]

theorem entry_d : V m c main_v1 = grid .bf16 4096 1024 D := by
  unfold V
  simp only [hostOps0]
  after_results
  refine eq_grid fun r c => ?_
  pointwise [A.d, grid_ix2]

theorem blk0 (t : Fin cfg0.N) : iblk m c 0 t = grid .bf16 2048 256 fun r k => X (2048 * (t.val % 2) + r) (t.val / 2 * 256 + k) := by
  funext y
  blk_simp [iblk]
  refine (congrFun (entry_x A) _).trans ?_
  refine congrArg₂ X ?_ ?_ <;> blk_simp [idx t] <;> ring

theorem blk1 (t : Fin cfg0.N) : iblk m c 1 t = grid .bf16 2048 1024 fun r k => D (2048 * (t.val % 2) + r) k := by
  funext y
  blk_simp [iblk]
  refine (congrFun (entry_d A) _).trans ?_
  refine congrArg₂ D ?_ ?_ <;> blk_simp [idx t] <;> ring

/-- After an odd point the block holds the sum over both halves of the rows. -/
theorem after_odd (t : Fin cfg0.N) (o : t.val % 2 = 1) :
    (outsAt0 m c t.val t.isLt).1 = slabs .f32 1 256 1024 fun _ r k => dw X D (t.val / 2 * 256 + r) k := by
  have e := outsAt0_A m c ⟨t.val - 1, Nat.lt_of_le_of_lt (Nat.sub_le _ _) t.isLt⟩ (by dsimp only; omega) (by dsimp only; omega)
  rw [outsAt0_B m c t (by omega) o]
  dsimp only at e ⊢
  rw [e]
  dsimp only
  rw [out_A, out_B, blk0 A, blk1 A, blk0 A, blk1 A]
  unfold k0_pay4 k0_pay2
  rw [part_eq, part_eq]
  dsimp only
  rw [show (t.val - 1) % 2 = 0 by omega, show (t.val - 1) / 2 = t.val / 2 by omega, o]
  refine eq_slabs fun s r k => ?_
  pointwise [grid_ix2]
  unfold dw
  exact sum_halves 2048 fun x => X x (t.val / 2 * 256 + r) * D x k

theorem final : (dats m 0 c).arrAt 2 cfg0.N = slabs .f32 4 256 1024 fun s r k => dw X D (s * 256 + r) k := by
  refine (dats m 0 c).arrAt_eq_of_covers 2 _ (by decide +kernel) fun t ht y => ?_
  blk_simp
  rw [after0_2, after_odd A t ((flush0_2 t).mp ht)]
  obtain ⟨s, r, k, rfl⟩ : ∃ (s : Fin 1) (r : Fin 256) (k : Fin 1024), y = ix3 s r k := ⟨_, _, _, eq_ix3 y⟩
  refine congrArg₂ (dw X D) ?_ ?_ <;> blk_simp [idx t] <;> simp

end Cert.KernelOutDwIdeal.Own

namespace Cert.ReferenceOutDwIdeal.Own

open Cert.ReferenceOutDwIdeal Cert.ReferenceOutDwIdeal.Gen Cert.Lin Finset
open Idealize.ShloMosaic Idealize.ShloMosaic.TcCoe

variable (X D : ℕ → ℕ → EReal)

theorem out :
    (shapeCast S4x256x1024 (transpose S1024x1024 [1, 0] (Host.dotGeneral (F := Ideal) dot_S4096x1024_S4096x1024_S1024x1024_0_0_1_1_n_n none
      (grid .f32 4096 1024 D : FVec Ideal S4096x1024 .f32)
      (grid .f32 4096 1024 X : FVec Ideal S4096x1024 .f32))
      transposes_S1024x1024_S1024x1024_1_0) shapeCasts_S1024x1024_S4x256x1024 : FVec Ideal S4x256x1024 .f32)
      = slabs .f32 4 256 1024 fun s r k => Cert.KernelOutDwIdeal.Own.dw X D (s * 256 + r) k := by
  refine eq_slabs fun s r k => ?_
  pointwise [grid_ix2]
  unfold Cert.KernelOutDwIdeal.Own.dw
  rw [← sum_below]
  exact Finset.sum_congr rfl fun x _ => mul_comm _ _

end Cert.ReferenceOutDwIdeal.Own

end
-- ==== Proof.OutDw.Claims.lean ====
/- The claims about the gradient of an output projection's weights. -/
module

public import proofs.«01_k».proof.Defs
public import proofs.«01_k».proof.Proof.OutDw.Value
public import proofs.«01_k».proof.Proof.Gen.KernelOutDw.Frame
public import Idealize.ShloMosaic.Lib.Quiescent

@[expose] public section

noncomputable section

namespace Cert.OutDw

open Idealize.ShloMosaic Idealize.SL.Sem

theorem frame : Cert.quiescent_KernelOutDw := fun m ρ _ => KernelOutDw.Gen.frame m ρ

theorem frame_ideal : Cert.quiescent_KernelOutDwIdeal := fun m ρ _ => KernelOutDwIdeal.Gen.frame m ρ

theorem reference_frame : Cert.quiescent_ReferenceOutDwIdeal := fun m ρ _ =>
  (θ_run ReferenceOutDwIdeal.defs _ _).mono (fun r h => ⟨fun c => (h c).2, sem_eq_zero_of_no_sems (by decide) r.2⟩)
    (ReferenceOutDwIdeal.Value.run (F := Ideal) m ρ)

theorem equal : Cert.algebraic_KernelOutDwIdeal_ReferenceOutDwIdeal := by
  intro m g m' g' _ hagree
  refine ⟨fun c => (KernelOutDwIdeal.Gen.dats m 0 c).arrAt 2 KernelOutDwIdeal.cfg0.N,
    KernelOutDwIdeal.Value.run_blocks m g, ?_⟩
  refine (θ_run ReferenceOutDwIdeal.defs _ _).mono (fun r h c => ⟨(h c).1.trans ?_, (h c).2⟩)
    (ReferenceOutDwIdeal.Value.run (F := Ideal) m' g')
  obtain ⟨a0, -, a2⟩ := hagree c
  obtain ⟨X, hX⟩ := Cert.Lin.exists_grid (φ := .f32) (m ((c.tc : Thread KernelOutDwIdeal.nD KernelOutDwIdeal.τ).loc KernelOutDwIdeal.main_arg0))
  obtain ⟨D, hD⟩ := Cert.Lin.exists_grid (φ := .f32) (m ((c.tc : Thread KernelOutDwIdeal.nD KernelOutDwIdeal.τ).loc KernelOutDwIdeal.main_arg2))
  have k := KernelOutDwIdeal.Own.final (m := m) (c := c) ⟨hX, hD⟩
  rw [a0.trans hX, a2.trans hD]
  exact (ReferenceOutDwIdeal.Own.out X D).trans k.symm

end Cert.OutDw

end
-- ==== Proof.KDw.Value.lean ====
/- The gradient of the keys' weights: what the kernel leaves and what the reference computes. -/
module

public import proofs.«01_k».proof.Proof.Lin.Array
public import proofs.«01_k».proof.Proof.Gen.KernelKDwIdeal.Value
public import proofs.«01_k».proof.Proof.Gen.ReferenceKDwIdeal.Run
public import Idealize.ShloMosaic.Lib.Pipeline.ValueKit

@[expose] public section

set_option maxRecDepth 16384

noncomputable section

namespace Cert.KernelKDwIdeal.Own

open Cert.KernelKDwIdeal Cert.KernelKDwIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (X D : ℕ → ℕ → EReal)

theorem idx : ∀ t : Fin cfg0.N, win0_0.index t = ![t.val % 2, t.val / 2] ∧ win0_1.index t = ![t.val % 2, 0] ∧ win0_2.index t = ![t.val / 2, 0, 0] :=
  (by decide +kernel : ∀ t : Fin grid0.N, _)

/-- The arguments that the gradient depends on. -/
structure Args : Prop where
  x : m ((c : Thread nD τ).loc main_arg0) = grid .f32 4096 1024 X
  d : m ((c : Thread nD τ).loc main_arg2) = grid .f32 4096 1024 D

/-- The gradient's entry at row `j` and column `k`. -/
def dw (j k : ℕ) : EReal := ∑ t ∈ range 4096, X t j * D t k

/-- What a grid point adds: the product over its half of the rows. -/
theorem part_eq (p d : ℕ → ℕ → EReal) : k0_pay1 (F := Ideal) (grid .f32 2048 1024 d) (grid .bf16 2048 256 p)
    = grid .f32 256 1024 fun r k => ∑ t ∈ range 2048, p t r * d t k := by
  refine eq_grid fun r k => ?_
  unfold k0_pay1
  pointwise [grid_ix2]
  exact sum_below fun t => p t r * d t k

theorem out_A (t : Fin cfg0.N) (h0 h1 h2) (x0 : Vec Ideal S2048x256 .bf16) (x1 : Vec Ideal S2048x1024 .f32) :
    sout0_A_0 c (grid0.coords t) (ms0_0 t) (hs0_0 t) (ms0_1 t) (hs0_1 t) (ms0_2 t) (hs0_2 t) scM0_0 (Memref.isWhole_whole _) h0 h1 h2 x0 x1
      = k0_pay2 x1 x0 := by
  frame_out

theorem out_B (t : Fin cfg0.N) (h0 h1 h2) (x0 : Vec Ideal S2048x256 .bf16) (x1 : Vec Ideal S2048x1024 .f32) (s : Vec Ideal S256x1024 .f32) :
    out0_B_2 c (grid0.coords t) (ms0_0 t) (hs0_0 t) (ms0_1 t) (hs0_1 t) (ms0_2 t) (hs0_2 t) scM0_0 (Memref.isWhole_whole _) h0 h1 h2 x0 x1 s
      = k0_pay4 x1 x0 s := by
  frame_out
  exact congrArg (k0_pay4 x1 x0) ((Memref.isWhole_whole cc0_scratch0).read_unread s)

variable {m c X D} (A : Args m c X D)

include A

theorem entry_x : V m c main_v0 = grid .bf16 4096 1024 X := by
  unfold V
  simp only [hostOps0]
  after_results
  refine eq_grid fun r c => ?_
  pointwise [A.x, grid_ix2]

theorem blk0 (t : Fin cfg0.N) : iblk m c 0 t = grid .bf16 2048 256 fun r k => X (2048 * (t.val % 2) + r) (t.val / 2 * 256 + k) := by
  funext y
  blk_simp [iblk]
  refine (congrFun (entry_x A) _).trans ?_
  refine congrArg₂ X ?_ ?_ <;> blk_simp [idx t] <;> ring

theorem blk1 (t : Fin cfg0.N) : iblk m c 1 t = grid .f32 2048 1024 fun r k => D (2048 * (t.val % 2) + r) k := by
  funext y
  blk_simp [iblk]
  refine (congrFun ((V_main_arg2 m c).trans A.d) _).trans ?_
  refine congrArg₂ D ?_ ?_ <;> blk_simp [idx t] <;> ring

/-- After an odd point the block holds the sum over both halves of the rows. -/
theorem after_odd (t : Fin cfg0.N) (o : t.val % 2 = 1) :
    (outsAt0 m c t.val t.isLt).1 = slabs .f32 1 256 1024 fun _ r k => dw X D (t.val / 2 * 256 + r) k := by
  have e := outsAt0_A m c ⟨t.val - 1, Nat.lt_of_le_of_lt (Nat.sub_le _ _) t.isLt⟩ (by dsimp only; omega) (by dsimp only; omega)
  rw [outsAt0_B m c t (by omega) o]
  dsimp only at e ⊢
  rw [e]
  dsimp only
  rw [out_A, out_B, blk0 A, blk1 A, blk0 A, blk1 A]
  unfold k0_pay4 k0_pay2
  rw [part_eq, part_eq]
  dsimp only
  rw [show (t.val - 1) % 2 = 0 by omega, show (t.val - 1) / 2 = t.val / 2 by omega, o]
  refine eq_slabs fun s r k => ?_
  pointwise [grid_ix2]
  unfold dw
  exact sum_halves 2048 fun x => X x (t.val / 2 * 256 + r) * D x k

theorem final : (dats m 0 c).arrAt 2 cfg0.N = slabs .f32 4 256 1024 fun s r k => dw X D (s * 256 + r) k := by
  refine (dats m 0 c).arrAt_eq_of_covers 2 _ (by decide +kernel) fun t ht y => ?_
  blk_simp
  rw [after0_2, after_odd A t ((flush0_2 t).mp ht)]
  obtain ⟨s, r, k, rfl⟩ : ∃ (s : Fin 1) (r : Fin 256) (k : Fin 1024), y = ix3 s r k := ⟨_, _, _, eq_ix3 y⟩
  refine congrArg₂ (dw X D) ?_ ?_ <;> blk_simp [idx t] <;> simp

end Cert.KernelKDwIdeal.Own

namespace Cert.ReferenceKDwIdeal.Own

open Cert.ReferenceKDwIdeal Cert.ReferenceKDwIdeal.Gen Cert.Lin Finset
open Idealize.ShloMosaic Idealize.ShloMosaic.TcCoe

variable (X D : ℕ → ℕ → EReal)

theorem out :
    (shapeCast S4x256x1024 (transpose S1024x1024 [1, 0] (Host.dotGeneral (F := Ideal) dot_S4096x1024_S4096x1024_S1024x1024_0_0_1_1_n_n none
      (grid .f32 4096 1024 D : FVec Ideal S4096x1024 .f32)
      (grid .f32 4096 1024 X : FVec Ideal S4096x1024 .f32))
      transposes_S1024x1024_S1024x1024_1_0) shapeCasts_S1024x1024_S4x256x1024 : FVec Ideal S4x256x1024 .f32)
      = slabs .f32 4 256 1024 fun s r k => Cert.KernelKDwIdeal.Own.dw X D (s * 256 + r) k := by
  refine eq_slabs fun s r k => ?_
  pointwise [grid_ix2]
  unfold Cert.KernelKDwIdeal.Own.dw
  rw [← sum_below]
  exact Finset.sum_congr rfl fun x _ => mul_comm _ _

end Cert.ReferenceKDwIdeal.Own

end
-- ==== Proof.KDw.Claims.lean ====
/- The claims about the gradient of the keys' weights. -/
module

public import proofs.«01_k».proof.Defs
public import proofs.«01_k».proof.Proof.KDw.Value
public import proofs.«01_k».proof.Proof.Gen.KernelKDw.Frame
public import Idealize.ShloMosaic.Lib.Quiescent

@[expose] public section

noncomputable section

namespace Cert.KDw

open Idealize.ShloMosaic Idealize.SL.Sem

theorem frame : Cert.quiescent_KernelKDw := fun m ρ _ => KernelKDw.Gen.frame m ρ

theorem frame_ideal : Cert.quiescent_KernelKDwIdeal := fun m ρ _ => KernelKDwIdeal.Gen.frame m ρ

theorem reference_frame : Cert.quiescent_ReferenceKDwIdeal := fun m ρ _ =>
  (θ_run ReferenceKDwIdeal.defs _ _).mono (fun r h => ⟨fun c => (h c).2, sem_eq_zero_of_no_sems (by decide) r.2⟩)
    (ReferenceKDwIdeal.Value.run (F := Ideal) m ρ)

theorem equal : Cert.algebraic_KernelKDwIdeal_ReferenceKDwIdeal := by
  intro m g m' g' _ hagree
  refine ⟨fun c => (KernelKDwIdeal.Gen.dats m 0 c).arrAt 2 KernelKDwIdeal.cfg0.N,
    KernelKDwIdeal.Value.run_blocks m g, ?_⟩
  refine (θ_run ReferenceKDwIdeal.defs _ _).mono (fun r h c => ⟨(h c).1.trans ?_, (h c).2⟩)
    (ReferenceKDwIdeal.Value.run (F := Ideal) m' g')
  obtain ⟨a0, -, a2⟩ := hagree c
  obtain ⟨X, hX⟩ := Cert.Lin.exists_grid (φ := .f32) (m ((c.tc : Thread KernelKDwIdeal.nD KernelKDwIdeal.τ).loc KernelKDwIdeal.main_arg0))
  obtain ⟨D, hD⟩ := Cert.Lin.exists_grid (φ := .f32) (m ((c.tc : Thread KernelKDwIdeal.nD KernelKDwIdeal.τ).loc KernelKDwIdeal.main_arg2))
  have k := KernelKDwIdeal.Own.final (m := m) (c := c) ⟨hX, hD⟩
  rw [a0.trans hX, a2.trans hD]
  exact (ReferenceKDwIdeal.Own.out X D).trans k.symm

end Cert.KDw

end
-- ==== Proof.InDw.Value.lean ====
/- The gradient of the gated mixer's first weights: what the kernel leaves and what the reference computes. -/
module

public import proofs.«01_k».proof.Proof.Lin.Array
public import proofs.«01_k».proof.Proof.Gen.KernelInDwIdeal.Value
public import proofs.«01_k».proof.Proof.Gen.ReferenceInDwIdeal.Run
public import Idealize.ShloMosaic.Lib.Pipeline.ValueKit

@[expose] public section

set_option maxRecDepth 16384

noncomputable section

namespace Cert.KernelInDwIdeal.Own

open Cert.KernelInDwIdeal Cert.KernelInDwIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (X D : ℕ → ℕ → EReal)

theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The arguments that the gradient depends on. -/
structure Args : Prop where
  x : m ((c : Thread nD τ).loc main_arg0) = grid .f32 4096 1024 X
  d : m ((c : Thread nD τ).loc main_arg2) = grid .f32 4096 2048 D

/-- The gradient's entry at row `j` and column `k`. -/
def dw (j k : ℕ) : EReal := ∑ t ∈ range 4096, X t j * D t k

/-- What a grid point adds: the product over its half of the rows. -/
theorem part_eq (p d : ℕ → ℕ → EReal) : k0_pay1 (F := Ideal) (grid .bf16 2048 512 d) (grid .bf16 2048 1024 p)
    = grid .f32 1024 512 fun r k => ∑ t ∈ range 2048, p t r * d t k := by
  refine eq_grid fun r k => ?_
  unfold k0_pay1
  pointwise [grid_ix2]
  exact sum_below fun t => p t r * d t k

theorem out_A (t : Fin cfg0.N) (h0 h1 h2) (x0 : Vec Ideal S2048x1024 .bf16) (x1 : Vec Ideal S2048x512 .bf16) :
    sout0_A_0 c (grid0.coords t) (ms0_0 t) (hs0_0 t) (ms0_1 t) (hs0_1 t) (ms0_2 t) (hs0_2 t) scM0_0 (Memref.isWhole_whole _) h0 h1 h2 x0 x1
      = k0_pay2 x1 x0 := by
  frame_out

theorem out_B (t : Fin cfg0.N) (h0 h1 h2) (x0 : Vec Ideal S2048x1024 .bf16) (x1 : Vec Ideal S2048x512 .bf16) (s : Vec Ideal S1024x512 .f32) :
    out0_B_2 c (grid0.coords t) (ms0_0 t) (hs0_0 t) (ms0_1 t) (hs0_1 t) (ms0_2 t) (hs0_2 t) scM0_0 (Memref.isWhole_whole _) h0 h1 h2 x0 x1 s
      = k0_pay4 x1 x0 s := by
  frame_out
  exact congrArg (k0_pay4 x1 x0) ((Memref.isWhole_whole cc0_scratch0).read_unread s)

variable {m c X D} (A : Args m c X D)

include A

theorem entry_x : V m c main_v0 = grid .bf16 4096 1024 X := by
  unfold V
  simp only [hostOps0]
  after_results
  refine eq_grid fun r c => ?_
  pointwise [A.x, grid_ix2]

theorem entry_d : V m c main_v1 = grid .bf16 4096 2048 D := by
  unfold V
  simp only [hostOps0]
  after_results
  refine eq_grid fun r c => ?_
  pointwise [A.d, grid_ix2]

theorem blk0 (t : Fin cfg0.N) : iblk m c 0 t = grid .bf16 2048 1024 fun r k => X (2048 * (t.val % 2) + r) k := by
  funext y
  blk_simp [iblk]
  refine (congrFun (entry_x A) _).trans ?_
  refine congrArg₂ X ?_ ?_ <;> blk_simp [idx t] <;> ring

theorem blk1 (t : Fin cfg0.N) : iblk m c 1 t = grid .bf16 2048 512 fun r k => D (2048 * (t.val % 2) + r) (t.val / 2 * 512 + k) := by
  funext y
  blk_simp [iblk]
  refine (congrFun (entry_d A) _).trans ?_
  refine congrArg₂ D ?_ ?_ <;> blk_simp [idx t] <;> ring

/-- After an odd point the block holds the sum over both halves of the rows. -/
theorem after_odd (t : Fin cfg0.N) (o : t.val % 2 = 1) :
    (outsAt0 m c t.val t.isLt).1 = slabs .f32 1 1024 512 fun _ r k => dw X D r (t.val / 2 * 512 + k) := by
  have e := outsAt0_A m c ⟨t.val - 1, Nat.lt_of_le_of_lt (Nat.sub_le _ _) t.isLt⟩ (by dsimp only; omega) (by dsimp only; omega)
  rw [outsAt0_B m c t (by omega) o]
  dsimp only at e ⊢
  rw [e]
  dsimp only
  rw [out_A, out_B, blk0 A, blk1 A, blk0 A, blk1 A]
  unfold k0_pay4 k0_pay2
  rw [part_eq, part_eq]
  dsimp only
  rw [show (t.val - 1) % 2 = 0 by omega, show (t.val - 1) / 2 = t.val / 2 by omega, o]
  refine eq_slabs fun s r k => ?_
  pointwise [grid_ix2]
  unfold dw
  exact sum_halves 2048 fun x => X x r * D x (t.val / 2 * 512 + k)

theorem final : (dats m 0 c).arrAt 2 cfg0.N = slabs .f32 4 1024 512 fun s r k => dw X D r (s * 512 + k) := by
  refine (dats m 0 c).arrAt_eq_of_covers 2 _ (by decide +kernel) fun t ht y => ?_
  blk_simp
  rw [after0_2, after_odd A t ((flush0_2 t).mp ht)]
  obtain ⟨s, r, k, rfl⟩ : ∃ (s : Fin 1) (r : Fin 1024) (k : Fin 512), y = ix3 s r k := ⟨_, _, _, eq_ix3 y⟩
  refine congrArg₂ (dw X D) ?_ ?_ <;> blk_simp [idx t] <;> simp

end Cert.KernelInDwIdeal.Own

namespace Cert.ReferenceInDwIdeal.Own

open Cert.ReferenceInDwIdeal Cert.ReferenceInDwIdeal.Gen Cert.Lin Finset
open Idealize.ShloMosaic Idealize.ShloMosaic.TcCoe

variable (X D : ℕ → ℕ → EReal)

theorem out :
    (transpose S4x1024x512 [1, 0, 2] (shapeCast S1024x4x512 (transpose S1024x2048 [1, 0] (Host.dotGeneral (F := Ideal) dot_S4096x2048_S4096x1024_S2048x1024_0_0_1_1_n_n none
      (grid .f32 4096 2048 D : FVec Ideal S4096x2048 .f32) (grid .f32 4096 1024 X : FVec Ideal S4096x1024 .f32))
      transposes_S2048x1024_S1024x2048_1_0) shapeCasts_S1024x2048_S1024x4x512) transposes_S1024x4x512_S4x1024x512_1_0_2 : FVec Ideal S4x1024x512 .f32)
      = slabs .f32 4 1024 512 fun s r k => Cert.KernelInDwIdeal.Own.dw X D r (s * 512 + k) := by
  refine eq_slabs fun s r k => ?_
  pointwise [grid_ix2]
  unfold Cert.KernelInDwIdeal.Own.dw
  rw [← sum_below]
  exact Finset.sum_congr rfl fun x _ => mul_comm _ _

end Cert.ReferenceInDwIdeal.Own

end
-- ==== Proof.InDw.Claims.lean ====
/- The claims about the gradient of the gated mixer's first weights. -/
module

public import proofs.«01_k».proof.Defs
public import proofs.«01_k».proof.Proof.InDw.Value
public import proofs.«01_k».proof.Proof.Gen.KernelInDw.Frame
public import Idealize.ShloMosaic.Lib.Quiescent

@[expose] public section

noncomputable section

namespace Cert.InDw

open Idealize.ShloMosaic Idealize.SL.Sem

theorem frame : Cert.quiescent_KernelInDw := fun m ρ _ => KernelInDw.Gen.frame m ρ

theorem frame_ideal : Cert.quiescent_KernelInDwIdeal := fun m ρ _ => KernelInDwIdeal.Gen.frame m ρ

theorem reference_frame : Cert.quiescent_ReferenceInDwIdeal := fun m ρ _ =>
  (θ_run ReferenceInDwIdeal.defs _ _).mono (fun r h => ⟨fun c => (h c).2, sem_eq_zero_of_no_sems (by decide) r.2⟩)
    (ReferenceInDwIdeal.Value.run (F := Ideal) m ρ)

theorem equal : Cert.algebraic_KernelInDwIdeal_ReferenceInDwIdeal := by
  intro m g m' g' _ hagree
  refine ⟨fun c => (KernelInDwIdeal.Gen.dats m 0 c).arrAt 2 KernelInDwIdeal.cfg0.N,
    KernelInDwIdeal.Value.run_blocks m g, ?_⟩
  refine (θ_run ReferenceInDwIdeal.defs _ _).mono (fun r h c => ⟨(h c).1.trans ?_, (h c).2⟩)
    (ReferenceInDwIdeal.Value.run (F := Ideal) m' g')
  obtain ⟨a0, -, a2⟩ := hagree c
  obtain ⟨X, hX⟩ := Cert.Lin.exists_grid (φ := .f32) (m ((c.tc : Thread KernelInDwIdeal.nD KernelInDwIdeal.τ).loc KernelInDwIdeal.main_arg0))
  obtain ⟨D, hD⟩ := Cert.Lin.exists_grid (φ := .f32) (m ((c.tc : Thread KernelInDwIdeal.nD KernelInDwIdeal.τ).loc KernelInDwIdeal.main_arg2))
  have k := KernelInDwIdeal.Own.final (m := m) (c := c) ⟨hX, hD⟩
  rw [a0.trans hX, a2.trans hD]
  exact (ReferenceInDwIdeal.Own.out X D).trans k.symm

end Cert.InDw

end
-- ==== Proof.QDx.Value.lean ====
/- The gradient of the queries' rows with the residual's: what the kernel leaves and what the reference computes. -/
module

public import proofs.«01_k».proof.Proof.Lin.Array
public import proofs.«01_k».proof.Proof.Gen.KernelQDxIdeal.Value
public import proofs.«01_k».proof.Proof.Gen.ReferenceQDxIdeal.Run
public import Idealize.ShloMosaic.Lib.Pipeline.ValueKit

@[expose] public section

set_option maxRecDepth 16384

noncomputable section

namespace Cert.KernelQDxIdeal.Own

open Cert.KernelQDxIdeal Cert.KernelQDxIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (W R D : ℕ → ℕ → EReal)

theorem idx : ∀ t : Fin cfg0.N, win0_0.index t = ![t.val / 4, 0] ∧ win0_1.index t = ![0, 0, 0]
    ∧ win0_2.index t = ![t.val / 4, t.val % 4] ∧ win0_3.index t = ![t.val / 4, t.val % 4] :=
  (by decide +kernel : ∀ t : Fin grid0.N, _)

theorem off : ∀ t : Fin cfg0.N, k0_off1 (grid0.coords t) = ![t.val % 4, 0, 0] := (by decide +kernel : ∀ t : Fin grid0.N, _)

/-- The arguments that the result depends on. -/
structure Args : Prop where
  w : m ((c : Thread nD τ).loc main_arg1) = grid .f32 1024 1024 W
  r : m ((c : Thread nD τ).loc main_arg2) = grid .f32 4096 1024 R
  d : m ((c : Thread nD τ).loc main_arg3) = grid .f32 4096 1024 D

/-- The gradient at row `i` and column `j`. -/
def res (i j : ℕ) : EReal := Ideal.ofBits .f32 0x3FD744FD#32 * R i j + ∑ k ∈ range 1024, D i k * W j k

/-- What a grid point leaves in its block of the result. -/
theorem out_eq (t : Fin cfg0.N) (f : ℕ → ℕ → ℕ → EReal) (x0 : Vec Ideal S1024x1024 .bf16) (x2 : Vec Ideal S1024x256 .f32) :
    out0_A_3 c (grid0.coords t) (ms0_0 t) (hs0_0 t) (ms0_1 t) (hs0_1 t) (ms0_2 t) (hs0_2 t) (ms0_3 t) (hs0_3 t) x0 (slabs .bf16 4 256 1024 f) x2
      = k0_pay1 (slabs .bf16 1 256 1024 fun _ => f (t.val % 4)) x0 x2 := by
  have e : (View.ld (Val := Elt Ideal) (e' := .bf16) (slabs .bf16 4 256 1024 f) (Rect.unit (s := S4x256x1024) (k0_off1 (grid0.coords t)) S1x256x1024.size (k0_off1_inb _)) : FVec Ideal S1x256x1024 .bf16)
      = slabs .bf16 1 256 1024 fun _ => f (t.val % 4) := by
    refine (ld_slabs f _ _).trans (eq_slabs fun s r k => ?_)
    have := s.isLt
    refine congr (congrArg₂ f ?_ ?_) ?_ <;> dsimp only <;> rw [off t] <;> simp
  frame_out
  exact congrArg (fun v => k0_pay1 v x0 x2) e

variable {m c W R D} (A : Args m c W R D)

include A

theorem entry_x : V m c main_v0 = grid .bf16 4096 1024 D := by
  unfold V
  simp only [hostOps0]
  after_results
  refine eq_grid fun r c => ?_
  pointwise [A.d, grid_ix2]

theorem entry_w : V m c main_v2 = slabs .bf16 4 256 1024 fun s r k => W (s * 256 + r) k := by
  unfold V
  simp only [hostOps0]
  after_results
  refine eq_slabs fun s r k => ?_
  pointwise [A.w, grid_ix2]

theorem blk0 (t : Fin cfg0.N) : iblk m c 0 t = grid .bf16 1024 1024 fun r k => D (1024 * (t.val / 4) + r) k := by
  funext y
  blk_simp [iblk]
  refine (congrFun (entry_x A) _).trans ?_
  refine congrArg₂ D ?_ ?_ <;> blk_simp [idx t] <;> ring

theorem blk1 (t : Fin cfg0.N) : iblk m c 1 t = slabs .bf16 4 256 1024 fun s r k => W (s * 256 + r) k := by
  funext y
  blk_simp [iblk]
  refine (congrFun (entry_w A) _).trans ?_
  refine congrArg₂ W ?_ ?_ <;> blk_simp [idx t] <;> ring

theorem blk2 (t : Fin cfg0.N) : iblk m c 2 t = grid .f32 1024 256 fun r k => R (1024 * (t.val / 4) + r) (t.val % 4 * 256 + k) := by
  funext y
  blk_simp [iblk]
  refine (congrFun ((V_main_arg2 m c).trans A.r) _).trans ?_
  refine congrArg₂ R ?_ ?_ <;> blk_simp [idx t] <;> ring

theorem final : (dats m 0 c).arrAt 3 cfg0.N = grid .f32 4096 1024 (res W R D) := by
  refine (dats m 0 c).arrAt_eq_of_covers 3 _ (by decide +kernel) fun t _ y => ?_
  blk_simp
  rw [after0_3]
  unfold outsAt0
  rw [blk0 A, blk1 A, blk2 A, out_eq]
  obtain ⟨r, k, rfl⟩ : ∃ (r : Fin 1024) (k : Fin 256), y = ix2 r k := ⟨_, _, eq_ix2 y⟩
  unfold k0_pay1
  pointwise [grid_ix2, slabs_ix3]
  rw [sum_below fun k' => D (1024 * (t.val / 4) + r.val) k' * W (t.val % 4 * 256 + k.val) k']
  change res W R D (1024 * (t.val / 4) + r.val) (t.val % 4 * 256 + k.val) = _
  refine congrArg₂ (res W R D) ?_ ?_ <;> blk_simp [idx t] <;> ring

end Cert.KernelQDxIdeal.Own

namespace Cert.ReferenceQDxIdeal.Own

open Cert.ReferenceQDxIdeal Cert.ReferenceQDxIdeal.Gen Cert.Lin Finset
open Idealize.ShloMosaic Idealize.ShloMosaic.TcCoe

variable (W R D : ℕ → ℕ → EReal)

theorem out :
    (addf (Host.dotGeneral (F := Ideal) dot_S4096x1024_S1024x1024_S4096x1024_1_1_0_0_n_n none (grid .f32 4096 1024 D : FVec Ideal S4096x1024 .f32) (grid .f32 1024 1024 W : FVec Ideal S1024x1024 .f32)) (mulf (broadcastInDim S4096x1024 ![] bcast_S_S4096x1024 (constant S_ .f32 0x3FD744FD#32)) (grid .f32 4096 1024 R : FVec Ideal S4096x1024 .f32)) : FVec Ideal S4096x1024 .f32)
      = grid .f32 4096 1024 (Cert.KernelQDxIdeal.Own.res W R D) := by
  refine eq_grid fun i j => ?_
  pointwise [grid_ix2]
  rw [sum_below fun k => D i.val k * W j.val k]
  exact add_comm _ _

end Cert.ReferenceQDxIdeal.Own

end
-- ==== Proof.QDx.Claims.lean ====
/- The claims about the gradient of the queries' rows with the residual's. -/
module

public import proofs.«01_k».proof.Defs
public import proofs.«01_k».proof.Proof.QDx.Value
public import proofs.«01_k».proof.Proof.Gen.KernelQDx.Frame
public import Idealize.ShloMosaic.Lib.Quiescent

@[expose] public section

noncomputable section

namespace Cert.QDx

open Idealize.ShloMosaic Idealize.SL.Sem

theorem frame : Cert.quiescent_KernelQDx := fun m ρ _ => KernelQDx.Gen.frame m ρ

theorem frame_ideal : Cert.quiescent_KernelQDxIdeal := fun m ρ _ => KernelQDxIdeal.Gen.frame m ρ

theorem reference_frame : Cert.quiescent_ReferenceQDxIdeal := fun m ρ _ =>
  (θ_run ReferenceQDxIdeal.defs _ _).mono (fun r h => ⟨fun c => (h c).2, sem_eq_zero_of_no_sems (by decide) r.2⟩)
    (ReferenceQDxIdeal.Value.run (F := Ideal) m ρ)

theorem equal : Cert.algebraic_KernelQDxIdeal_ReferenceQDxIdeal := by
  intro m g m' g' _ hagree
  refine ⟨fun c => (KernelQDxIdeal.Gen.dats m 0 c).arrAt 3 KernelQDxIdeal.cfg0.N,
    KernelQDxIdeal.Value.run_blocks m g, ?_⟩
  refine (θ_run ReferenceQDxIdeal.defs _ _).mono (fun r h c => ⟨(h c).1.trans ?_, (h c).2⟩)
    (ReferenceQDxIdeal.Value.run (F := Ideal) m' g')
  obtain ⟨-, a1, a2, a3⟩ := hagree c
  obtain ⟨W, hW⟩ := Cert.Lin.exists_grid (φ := .f32) (m ((c.tc : Thread KernelQDxIdeal.nD KernelQDxIdeal.τ).loc KernelQDxIdeal.main_arg1))
  obtain ⟨R, hR⟩ := Cert.Lin.exists_grid (φ := .f32) (m ((c.tc : Thread KernelQDxIdeal.nD KernelQDxIdeal.τ).loc KernelQDxIdeal.main_arg2))
  obtain ⟨D, hD⟩ := Cert.Lin.exists_grid (φ := .f32) (m ((c.tc : Thread KernelQDxIdeal.nD KernelQDxIdeal.τ).loc KernelQDxIdeal.main_arg3))
  have k := KernelQDxIdeal.Own.final (m := m) (c := c) ⟨hW, hR, hD⟩
  rw [a1.trans hW, a2.trans hR, a3.trans hD]
  exact (ReferenceQDxIdeal.Own.out W R D).trans k.symm

end Cert.QDx

end
-- ==== Proof.KDx.Value.lean ====
/- The gradient of the keys' rows, added to another: what the kernel leaves and what the reference computes. -/
module

public import proofs.«01_k».proof.Proof.Lin.Array
public import proofs.«01_k».proof.Proof.Gen.KernelKDxIdeal.Value
public import proofs.«01_k».proof.Proof.Gen.ReferenceKDxIdeal.Run
public import Idealize.ShloMosaic.Lib.Pipeline.ValueKit

@[expose] public section

set_option maxRecDepth 16384

noncomputable section

namespace Cert.KernelKDxIdeal.Own

open Cert.KernelKDxIdeal Cert.KernelKDxIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (W R D : ℕ → ℕ → EReal)

theorem idx : ∀ t : Fin cfg0.N, win0_0.index t = ![t.val / 4, 0] ∧ win0_1.index t = ![0, 0, 0]
    ∧ win0_2.index t = ![t.val / 4, t.val % 4] ∧ win0_3.index t = ![t.val / 4, t.val % 4] :=
  (by decide +kernel : ∀ t : Fin grid0.N, _)

theorem off : ∀ t : Fin cfg0.N, k0_off1 (grid0.coords t) = ![t.val % 4, 0, 0] := (by decide +kernel : ∀ t : Fin grid0.N, _)

/-- The arguments that the result depends on. -/
structure Args : Prop where
  w : m ((c : Thread nD τ).loc main_arg1) = grid .f32 1024 1024 W
  r : m ((c : Thread nD τ).loc main_arg2) = grid .f32 4096 1024 R
  d : m ((c : Thread nD τ).loc main_arg3) = grid .f32 4096 1024 D

/-- The gradient at row `i` and column `j`. -/
def res (i j : ℕ) : EReal := R i j + ∑ k ∈ range 1024, D i k * W j k

/-- What a grid point leaves in its block of the result. -/
theorem out_eq (t : Fin cfg0.N) (f : ℕ → ℕ → ℕ → EReal) (x0 : Vec Ideal S1024x1024 .f32) (x2 : Vec Ideal S1024x256 .f32) :
    out0_A_3 c (grid0.coords t) (ms0_0 t) (hs0_0 t) (ms0_1 t) (hs0_1 t) (ms0_2 t) (hs0_2 t) (ms0_3 t) (hs0_3 t) x0 (slabs .bf16 4 256 1024 f) x2
      = k0_pay1 (slabs .bf16 1 256 1024 fun _ => f (t.val % 4)) x0 x2 := by
  have e : (View.ld (Val := Elt Ideal) (e' := .bf16) (slabs .bf16 4 256 1024 f) (Rect.unit (s := S4x256x1024) (k0_off1 (grid0.coords t)) S1x256x1024.size (k0_off1_inb _)) : FVec Ideal S1x256x1024 .bf16)
      = slabs .bf16 1 256 1024 fun _ => f (t.val % 4) := by
    refine (ld_slabs f _ _).trans (eq_slabs fun s r k => ?_)
    have := s.isLt
    refine congr (congrArg₂ f ?_ ?_) ?_ <;> dsimp only <;> rw [off t] <;> simp
  frame_out
  exact congrArg (fun v => k0_pay1 v x0 x2) e

variable {m c W R D} (A : Args m c W R D)

include A

theorem entry_w : V m c main_v1 = slabs .bf16 4 256 1024 fun s r k => W (s * 256 + r) k := by
  unfold V
  simp only [hostOps0]
  after_results
  refine eq_slabs fun s r k => ?_
  pointwise [A.w, grid_ix2]

theorem blk0 (t : Fin cfg0.N) : iblk m c 0 t = grid .f32 1024 1024 fun r k => D (1024 * (t.val / 4) + r) k := by
  funext y
  blk_simp [iblk]
  refine (congrFun ((V_main_arg3 m c).trans A.d) _).trans ?_
  refine congrArg₂ D ?_ ?_ <;> blk_simp [idx t] <;> ring

theorem blk1 (t : Fin cfg0.N) : iblk m c 1 t = slabs .bf16 4 256 1024 fun s r k => W (s * 256 + r) k := by
  funext y
  blk_simp [iblk]
  refine (congrFun (entry_w A) _).trans ?_
  refine congrArg₂ W ?_ ?_ <;> blk_simp [idx t] <;> ring

theorem blk2 (t : Fin cfg0.N) : iblk m c 2 t = grid .f32 1024 256 fun r k => R (1024 * (t.val / 4) + r) (t.val % 4 * 256 + k) := by
  funext y
  blk_simp [iblk]
  refine (congrFun ((V_main_arg2 m c).trans A.r) _).trans ?_
  refine congrArg₂ R ?_ ?_ <;> blk_simp [idx t] <;> ring

theorem final : (dats m 0 c).arrAt 3 cfg0.N = grid .f32 4096 1024 (res W R D) := by
  refine (dats m 0 c).arrAt_eq_of_covers 3 _ (by decide +kernel) fun t _ y => ?_
  blk_simp
  rw [after0_3]
  unfold outsAt0
  rw [blk0 A, blk1 A, blk2 A, out_eq]
  obtain ⟨r, k, rfl⟩ : ∃ (r : Fin 1024) (k : Fin 256), y = ix2 r k := ⟨_, _, eq_ix2 y⟩
  unfold k0_pay1
  pointwise [grid_ix2, slabs_ix3]
  rw [sum_below fun k' => D (1024 * (t.val / 4) + r.val) k' * W (t.val % 4 * 256 + k.val) k']
  change res W R D (1024 * (t.val / 4) + r.val) (t.val % 4 * 256 + k.val) = _
  refine congrArg₂ (res W R D) ?_ ?_ <;> blk_simp [idx t] <;> ring

end Cert.KernelKDxIdeal.Own

namespace Cert.ReferenceKDxIdeal.Own

open Cert.ReferenceKDxIdeal Cert.ReferenceKDxIdeal.Gen Cert.Lin Finset
open Idealize.ShloMosaic Idealize.ShloMosaic.TcCoe

variable (W R D : ℕ → ℕ → EReal)

theorem out :
    (addf (grid .f32 4096 1024 R : FVec Ideal S4096x1024 .f32) (Host.dotGeneral (F := Ideal) dot_S4096x1024_S1024x1024_S4096x1024_1_1_0_0_n_n none (grid .f32 4096 1024 D : FVec Ideal S4096x1024 .f32) (grid .f32 1024 1024 W : FVec Ideal S1024x1024 .f32)) : FVec Ideal S4096x1024 .f32)
      = grid .f32 4096 1024 (Cert.KernelKDxIdeal.Own.res W R D) := by
  refine eq_grid fun i j => ?_
  pointwise [grid_ix2]
  rw [sum_below fun k => D i.val k * W j.val k]
  rfl

end Cert.ReferenceKDxIdeal.Own

end
-- ==== Proof.KDx.Claims.lean ====
/- The claims about the gradient of the keys' rows, added to another. -/
module

public import proofs.«01_k».proof.Defs
public import proofs.«01_k».proof.Proof.KDx.Value
public import proofs.«01_k».proof.Proof.Gen.KernelKDx.Frame
public import Idealize.ShloMosaic.Lib.Quiescent

@[expose] public section

noncomputable section

namespace Cert.KDx

open Idealize.ShloMosaic Idealize.SL.Sem

theorem frame : Cert.quiescent_KernelKDx := fun m ρ _ => KernelKDx.Gen.frame m ρ

theorem frame_ideal : Cert.quiescent_KernelKDxIdeal := fun m ρ _ => KernelKDxIdeal.Gen.frame m ρ

theorem reference_frame : Cert.quiescent_ReferenceKDxIdeal := fun m ρ _ =>
  (θ_run ReferenceKDxIdeal.defs _ _).mono (fun r h => ⟨fun c => (h c).2, sem_eq_zero_of_no_sems (by decide) r.2⟩)
    (ReferenceKDxIdeal.Value.run (F := Ideal) m ρ)

theorem equal : Cert.algebraic_KernelKDxIdeal_ReferenceKDxIdeal := by
  intro m g m' g' _ hagree
  refine ⟨fun c => (KernelKDxIdeal.Gen.dats m 0 c).arrAt 3 KernelKDxIdeal.cfg0.N,
    KernelKDxIdeal.Value.run_blocks m g, ?_⟩
  refine (θ_run ReferenceKDxIdeal.defs _ _).mono (fun r h c => ⟨(h c).1.trans ?_, (h c).2⟩)
    (ReferenceKDxIdeal.Value.run (F := Ideal) m' g')
  obtain ⟨-, a1, a2, a3⟩ := hagree c
  obtain ⟨W, hW⟩ := Cert.Lin.exists_grid (φ := .f32) (m ((c.tc : Thread KernelKDxIdeal.nD KernelKDxIdeal.τ).loc KernelKDxIdeal.main_arg1))
  obtain ⟨R, hR⟩ := Cert.Lin.exists_grid (φ := .f32) (m ((c.tc : Thread KernelKDxIdeal.nD KernelKDxIdeal.τ).loc KernelKDxIdeal.main_arg2))
  obtain ⟨D, hD⟩ := Cert.Lin.exists_grid (φ := .f32) (m ((c.tc : Thread KernelKDxIdeal.nD KernelKDxIdeal.τ).loc KernelKDxIdeal.main_arg3))
  have k := KernelKDxIdeal.Own.final (m := m) (c := c) ⟨hW, hR, hD⟩
  rw [a1.trans hW, a2.trans hR, a3.trans hD]
  exact (ReferenceKDxIdeal.Own.out W R D).trans k.symm

end Cert.KDx

end
-- ==== Proof.InDx.Value.lean ====
/- The gradient of the gated mixer's rows with the residual's: what the kernel leaves and what the reference computes. -/
module

public import proofs.«01_k».proof.Proof.Lin.Array
public import proofs.«01_k».proof.Proof.Gen.KernelInDxIdeal.Value
public import proofs.«01_k».proof.Proof.Gen.ReferenceInDxIdeal.Run
public import Idealize.ShloMosaic.Lib.Pipeline.ValueKit

@[expose] public section

set_option maxRecDepth 16384

noncomputable section

namespace Cert.KernelInDxIdeal.Own

open Cert.KernelInDxIdeal Cert.KernelInDxIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (W R D : ℕ → ℕ → EReal)

theorem idx : ∀ t : Fin cfg0.N, win0_0.index t = ![t.val, 0] ∧ win0_1.index t = ![0, 0, 0]
    ∧ win0_2.index t = ![t.val, 0] ∧ win0_3.index t = ![t.val, 0] :=
  (by decide +kernel : ∀ t : Fin grid0.N, _)

/-- The arguments that the result depends on. -/
structure Args : Prop where
  w : m ((c : Thread nD τ).loc main_arg1) = grid .f32 1024 2048 W
  r : m ((c : Thread nD τ).loc main_arg2) = grid .f32 4096 1024 R
  d : m ((c : Thread nD τ).loc main_arg3) = grid .f32 4096 2048 D

/-- The gradient at row `i` and column `j`. -/
def res (i j : ℕ) : EReal := Ideal.ofBits .f32 0x3FD744FD#32 * R i j + ∑ k ∈ range 2048, D i k * W j k

/-- What a grid point leaves in its block of the result. -/
theorem out_eq (f : ℕ → ℕ → EReal) (g : ℕ → ℕ → ℕ → EReal) (h : ℕ → ℕ → EReal) :
    (out0_3 (F := Ideal) (grid .bf16 512 2048 f) (slabs .bf16 4 1024 512 g) (grid .f32 512 1024 h) : FVec Ideal S512x1024 .f32)
      = grid .f32 512 1024 fun r c => Ideal.ofBits .f32 0x3FD744FD#32 * h r c + ((∑ k ∈ range 512, f r (k) * g 0 c k) + (∑ k ∈ range 512, f r ((512 + k)) * g 1 c k) + (∑ k ∈ range 512, f r ((1024 + k)) * g 2 c k) + (∑ k ∈ range 512, f r ((1536 + k)) * g 3 c k)) := by
  unfold out0_3
  have p0 : (View.ld (Val := Elt Ideal) (e' := .bf16) (grid .bf16 512 2048 f) r0_0 : FVec Ideal S512x512 .bf16) = grid .bf16 512 512 fun r k => f (0 + r) (0 + k) := ld_grid f _ _
  have w0 : (View.ld (Val := Elt Ideal) (e' := .bf16) (slabs .bf16 4 1024 512 g) r0_1 : FVec Ideal S1x1024x512 .bf16) = slabs .bf16 1 1024 512 fun s r k => g (0 + s) (0 + r) (0 + k) := ld_slabs g _ _
  have p1 : (View.ld (Val := Elt Ideal) (e' := .bf16) (grid .bf16 512 2048 f) r0_2 : FVec Ideal S512x512 .bf16) = grid .bf16 512 512 fun r k => f (0 + r) (512 + k) := ld_grid f _ _
  have w1 : (View.ld (Val := Elt Ideal) (e' := .bf16) (slabs .bf16 4 1024 512 g) r0_3 : FVec Ideal S1x1024x512 .bf16) = slabs .bf16 1 1024 512 fun s r k => g (1 + s) (0 + r) (0 + k) := ld_slabs g _ _
  have p2 : (View.ld (Val := Elt Ideal) (e' := .bf16) (grid .bf16 512 2048 f) r0_4 : FVec Ideal S512x512 .bf16) = grid .bf16 512 512 fun r k => f (0 + r) (1024 + k) := ld_grid f _ _
  have w2 : (View.ld (Val := Elt Ideal) (e' := .bf16) (slabs .bf16 4 1024 512 g) r0_5 : FVec Ideal S1x1024x512 .bf16) = slabs .bf16 1 1024 512 fun s r k => g (2 + s) (0 + r) (0 + k) := ld_slabs g _ _
  have p3 : (View.ld (Val := Elt Ideal) (e' := .bf16) (grid .bf16 512 2048 f) r0_6 : FVec Ideal S512x512 .bf16) = grid .bf16 512 512 fun r k => f (0 + r) (1536 + k) := ld_grid f _ _
  have w3 : (View.ld (Val := Elt Ideal) (e' := .bf16) (slabs .bf16 4 1024 512 g) r0_7 : FVec Ideal S1x1024x512 .bf16) = slabs .bf16 1 1024 512 fun s r k => g (3 + s) (0 + r) (0 + k) := ld_slabs g _ _
  rw [p0, p1, p2, p3, w0, w1, w2, w3]
  have e : (View.ld (Val := Elt Ideal) (e' := .f32) (grid .f32 512 1024 h) r0_8 : FVec Ideal S512x1024 .f32) = grid .f32 512 1024 h := View.ld_unit_lit _ _ (by decide)
  rw [e]
  refine (View.canon_cons_unit_lit _ _ [] (by decide)).trans (eq_grid fun r c => ?_)
  unfold k0_pay1
  pointwise [grid_ix2, slabs_ix3]
  rw [sum_below fun k => f r.val (k) * g 0 c.val k]
  rw [sum_below fun k => f r.val ((512 + k)) * g 1 c.val k]
  rw [sum_below fun k => f r.val ((1024 + k)) * g 2 c.val k]
  rw [sum_below fun k => f r.val ((1536 + k)) * g 3 c.val k]

variable {m c W R D} (A : Args m c W R D)

include A

theorem entry_x : V m c main_v3 = grid .bf16 4096 2048 D := by
  unfold V
  simp only [hostOps0]
  after_results
  refine eq_grid fun r c => ?_
  pointwise [A.d, grid_ix2]

theorem entry_w : V m c main_v2 = slabs .bf16 4 1024 512 fun s r k => W r (s * 512 + k) := by
  unfold V
  simp only [hostOps0]
  after_results
  refine eq_slabs fun s r k => ?_
  pointwise [A.w, grid_ix2]

theorem blk0 (t : Fin cfg0.N) : iblk m c 0 t = grid .bf16 512 2048 fun r k => D (512 * t.val + r) k := by
  funext y
  blk_simp [iblk]
  refine (congrFun (entry_x A) _).trans ?_
  refine congrArg₂ D ?_ ?_ <;> blk_simp [idx t] <;> ring

theorem blk1 (t : Fin cfg0.N) : iblk m c 1 t = slabs .bf16 4 1024 512 fun s r k => W r (s * 512 + k) := by
  funext y
  blk_simp [iblk]
  refine (congrFun (entry_w A) _).trans ?_
  refine congrArg₂ W ?_ ?_ <;> blk_simp [idx t] <;> ring

theorem blk2 (t : Fin cfg0.N) : iblk m c 2 t = grid .f32 512 1024 fun r k => R (512 * t.val + r) k := by
  funext y
  blk_simp [iblk]
  refine (congrFun ((V_main_arg2 m c).trans A.r) _).trans ?_
  refine congrArg₂ R ?_ ?_ <;> blk_simp [idx t] <;> ring

theorem final : (dats m 0 c).arrAt 3 cfg0.N = grid .f32 4096 1024 (res W R D) := by
  refine (dats m 0 c).arrAt_eq_of_covers 3 _ (by decide +kernel) fun t _ y => ?_
  blk_simp
  rw [after0_3, blk0 A, blk1 A, blk2 A, out_eq]
  obtain ⟨r, k, rfl⟩ : ∃ (r : Fin 512) (k : Fin 1024), y = ix2 r k := ⟨_, _, eq_ix2 y⟩
  rw [grid_ix2]
  refine Eq.trans ?_ (congrArg₂ (res W R D) (?_ : 512 * t.val + r.val = _) (?_ : k.val = _))
  · simp only [Nat.zero_add, Nat.zero_mul, Nat.one_mul]
    exact congrArg (fun x : EReal => Ideal.ofBits .f32 0x3FD744FD#32 * R (512 * t.val + r.val) k.val + x) (sum_quarters 512 fun k' => D (512 * t.val + r.val) k' * W k.val k')
  · blk_simp [idx t]
    ring
  · blk_simp [idx t]

end Cert.KernelInDxIdeal.Own

namespace Cert.ReferenceInDxIdeal.Own

open Cert.ReferenceInDxIdeal Cert.ReferenceInDxIdeal.Gen Cert.Lin Finset
open Idealize.ShloMosaic Idealize.ShloMosaic.TcCoe

variable (W R D : ℕ → ℕ → EReal)

theorem out :
    (addf (Host.dotGeneral (F := Ideal) dot_S4096x2048_S1024x2048_S4096x1024_1_1_0_0_n_n none (grid .f32 4096 2048 D : FVec Ideal S4096x2048 .f32) (grid .f32 1024 2048 W : FVec Ideal S1024x2048 .f32)) (mulf (broadcastInDim S4096x1024 ![] bcast_S_S4096x1024 (constant S_ .f32 0x3FD744FD#32)) (grid .f32 4096 1024 R : FVec Ideal S4096x1024 .f32)) : FVec Ideal S4096x1024 .f32)
      = grid .f32 4096 1024 (Cert.KernelInDxIdeal.Own.res W R D) := by
  refine eq_grid fun i j => ?_
  pointwise [grid_ix2]
  rw [sum_below fun k => D i.val k * W j.val k]
  exact add_comm _ _

end Cert.ReferenceInDxIdeal.Own

end
-- ==== Proof.InDx.Claims.lean ====
/- The claims about the gradient of the gated mixer's rows with the residual's. -/
module

public import proofs.«01_k».proof.Defs
public import proofs.«01_k».proof.Proof.InDx.Value
public import proofs.«01_k».proof.Proof.Gen.KernelInDx.Frame
public import Idealize.ShloMosaic.Lib.Quiescent

@[expose] public section

noncomputable section

namespace Cert.InDx

open Idealize.ShloMosaic Idealize.SL.Sem

theorem frame : Cert.quiescent_KernelInDx := fun m ρ _ => KernelInDx.Gen.frame m ρ

theorem frame_ideal : Cert.quiescent_KernelInDxIdeal := fun m ρ _ => KernelInDxIdeal.Gen.frame m ρ

theorem reference_frame : Cert.quiescent_ReferenceInDxIdeal := fun m ρ _ =>
  (θ_run ReferenceInDxIdeal.defs _ _).mono (fun r h => ⟨fun c => (h c).2, sem_eq_zero_of_no_sems (by decide) r.2⟩)
    (ReferenceInDxIdeal.Value.run (F := Ideal) m ρ)

theorem equal : Cert.algebraic_KernelInDxIdeal_ReferenceInDxIdeal := by
  intro m g m' g' _ hagree
  refine ⟨fun c => (KernelInDxIdeal.Gen.dats m 0 c).arrAt 3 KernelInDxIdeal.cfg0.N,
    KernelInDxIdeal.Value.run_blocks m g, ?_⟩
  refine (θ_run ReferenceInDxIdeal.defs _ _).mono (fun r h c => ⟨(h c).1.trans ?_, (h c).2⟩)
    (ReferenceInDxIdeal.Value.run (F := Ideal) m' g')
  obtain ⟨-, a1, a2, a3⟩ := hagree c
  obtain ⟨W, hW⟩ := Cert.Lin.exists_grid (φ := .f32) (m ((c.tc : Thread KernelInDxIdeal.nD KernelInDxIdeal.τ).loc KernelInDxIdeal.main_arg1))
  obtain ⟨R, hR⟩ := Cert.Lin.exists_grid (φ := .f32) (m ((c.tc : Thread KernelInDxIdeal.nD KernelInDxIdeal.τ).loc KernelInDxIdeal.main_arg2))
  obtain ⟨D, hD⟩ := Cert.Lin.exists_grid (φ := .f32) (m ((c.tc : Thread KernelInDxIdeal.nD KernelInDxIdeal.τ).loc KernelInDxIdeal.main_arg3))
  have k := KernelInDxIdeal.Own.final (m := m) (c := c) ⟨hW, hR, hD⟩
  rw [a1.trans hW, a2.trans hR, a3.trans hD]
  exact (ReferenceInDxIdeal.Own.out W R D).trans k.symm

end Cert.InDx

end
-- ==== Proof.Hidden.Value.lean ====
/- The rectified product: what the kernel leaves and what the reference computes. -/
module

public import proofs.«01_k».proof.Proof.Lin.Array
public import proofs.«01_k».proof.Proof.Gen.KernelHiddenIdeal.Value
public import proofs.«01_k».proof.Proof.Gen.ReferenceHiddenIdeal.Run
public import Idealize.ShloMosaic.Lib.Pipeline.ValueKit

@[expose] public section

set_option maxRecDepth 16384

noncomputable section

namespace Cert.KernelHiddenIdeal.Own

open Cert.KernelHiddenIdeal Cert.KernelHiddenIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (X W : ℕ → ℕ → EReal)

theorem idx : ∀ t : Fin cfg0.N, win0_0.index t = ![t.val / 4, 0] ∧ win0_1.index t = ![0, 0, 0]
    ∧ win0_2.index t = ![t.val / 4, t.val % 4] :=
  (by decide +kernel : ∀ t : Fin grid0.N, _)

theorem off : ∀ t : Fin cfg0.N, k0_off1 (grid0.coords t) = ![t.val % 4, 0, 0] := (by decide +kernel : ∀ t : Fin grid0.N, _)

/-- The arguments that the result depends on. -/
structure Args : Prop where
  x : m ((c : Thread nD τ).loc main_arg0) = grid .f32 4096 1024 X
  w : m ((c : Thread nD τ).loc main_arg1) = grid .f32 1024 4096 W

/-- The entry at row `i` and column `j`. -/
def res (i j : ℕ) : EReal := max (∑ k ∈ range 1024, X i k * W k j) 0

/-- What a grid point leaves in its block of the result. -/
theorem out_eq (t : Fin cfg0.N) (f : ℕ → ℕ → ℕ → EReal) (x0 : Vec Ideal S1024x1024 .bf16) :
    out0_A_2 c (grid0.coords t) (ms0_0 t) (hs0_0 t) (ms0_1 t) (hs0_1 t) (ms0_2 t) (hs0_2 t) x0 (slabs .bf16 4 1024 1024 f)
      = k0_pay1 (slabs .bf16 1 1024 1024 fun _ => f (t.val % 4)) x0 := by
  have e : (View.ld (Val := Elt Ideal) (e' := .bf16) (slabs .bf16 4 1024 1024 f) (Rect.unit (s := S4x1024x1024) (k0_off1 (grid0.coords t)) S1x1024x1024.size (k0_off1_inb _)) : FVec Ideal S1x1024x1024 .bf16)
      = slabs .bf16 1 1024 1024 fun _ => f (t.val % 4) := by
    refine (ld_slabs f _ _).trans (eq_slabs fun s r k => ?_)
    have := s.isLt
    refine congr (congrArg₂ f ?_ ?_) ?_ <;> dsimp only <;> rw [off t] <;> simp
  frame_out
  exact congrArg (fun v => k0_pay1 v x0) e

variable {m c X W} (A : Args m c X W)

include A

theorem entry_x : V m c main_v3 = grid .bf16 4096 1024 X := by
  unfold V
  simp only [hostOps0]
  after_results
  refine eq_grid fun r c => ?_
  pointwise [A.x, grid_ix2]

theorem entry_w : V m c main_v2 = slabs .bf16 4 1024 1024 fun s r k => W r (s * 1024 + k) := by
  unfold V
  simp only [hostOps0]
  after_results
  refine eq_slabs fun s r k => ?_
  pointwise [A.w, grid_ix2]

theorem blk0 (t : Fin cfg0.N) : iblk m c 0 t = grid .bf16 1024 1024 fun r k => X (1024 * (t.val / 4) + r) k := by
  funext y
  blk_simp [iblk]
  refine (congrFun (entry_x A) _).trans ?_
  refine congrArg₂ X ?_ ?_ <;> blk_simp [idx t] <;> ring

theorem blk1 (t : Fin cfg0.N) : iblk m c 1 t = slabs .bf16 4 1024 1024 fun s r k => W r (s * 1024 + k) := by
  funext y
  blk_simp [iblk]
  refine (congrFun (entry_w A) _).trans ?_
  refine congrArg₂ W ?_ ?_ <;> blk_simp [idx t] <;> ring

theorem final : (dats m 0 c).arrAt 2 cfg0.N = grid .bf16 4096 4096 (res X W) := by
  refine (dats m 0 c).arrAt_eq_of_covers 2 _ (by decide +kernel) fun t _ y => ?_
  blk_simp
  rw [after0_2]
  unfold outsAt0
  rw [blk0 A, blk1 A, out_eq]
  obtain ⟨r, k, rfl⟩ : ∃ (r : Fin 1024) (k : Fin 1024), y = ix2 r k := ⟨_, _, eq_ix2 y⟩
  unfold k0_pay1
  pointwise [grid_ix2, slabs_ix3]
  rw [sum_below fun k' => X (1024 * (t.val / 4) + r.val) k' * W k' (t.val % 4 * 1024 + k.val)]
  change res X W (1024 * (t.val / 4) + r.val) (t.val % 4 * 1024 + k.val) = _
  refine congrArg₂ (res X W) ?_ ?_ <;> blk_simp [idx t] <;> ring

end Cert.KernelHiddenIdeal.Own

namespace Cert.ReferenceHiddenIdeal.Own

open Cert.ReferenceHiddenIdeal Cert.ReferenceHiddenIdeal.Gen Cert.Lin Finset
open Idealize.ShloMosaic Idealize.ShloMosaic.TcCoe

variable (X W : ℕ → ℕ → EReal)

theorem out :
    (truncf .bf16 (maximumf (Host.dotGeneral (F := Ideal) dot_S4096x1024_S1024x4096_S4096x4096_1_0_0_1_n_n none (grid .f32 4096 1024 X : FVec Ideal S4096x1024 .f32) (grid .f32 1024 4096 W : FVec Ideal S1024x4096 .f32)) (broadcastInDim S4096x4096 ![] bcast_S_S4096x4096 (constant S_ .f32 0x00000000#32))) bitsLt_bf16_f32 : FVec Ideal S4096x4096 .bf16)
      = grid .bf16 4096 4096 (Cert.KernelHiddenIdeal.Own.res X W) := by
  refine eq_grid fun i j => ?_
  pointwise [grid_ix2]
  rw [sum_below fun k => X i.val k * W k j.val]
  rfl

end Cert.ReferenceHiddenIdeal.Own

end
-- ==== Proof.Hidden.Claims.lean ====
/- The claims about the rectified product. -/
module

public import proofs.«01_k».proof.Defs
public import proofs.«01_k».proof.Proof.Hidden.Value
public import proofs.«01_k».proof.Proof.Gen.KernelHidden.Frame
public import Idealize.ShloMosaic.Lib.Quiescent

@[expose] public section

noncomputable section

namespace Cert.Hidden

open Idealize.ShloMosaic Idealize.SL.Sem

theorem frame : Cert.quiescent_KernelHidden := fun m ρ _ => KernelHidden.Gen.frame m ρ

theorem frame_ideal : Cert.quiescent_KernelHiddenIdeal := fun m ρ _ => KernelHiddenIdeal.Gen.frame m ρ

theorem reference_frame : Cert.quiescent_ReferenceHiddenIdeal := fun m ρ _ =>
  (θ_run ReferenceHiddenIdeal.defs _ _).mono (fun r h => ⟨fun c => (h c).2, sem_eq_zero_of_no_sems (by decide) r.2⟩)
    (ReferenceHiddenIdeal.Value.run (F := Ideal) m ρ)

theorem equal : Cert.algebraic_KernelHiddenIdeal_ReferenceHiddenIdeal := by
  intro m g m' g' _ hagree
  refine ⟨fun c => (KernelHiddenIdeal.Gen.dats m 0 c).arrAt 2 KernelHiddenIdeal.cfg0.N,
    KernelHiddenIdeal.Value.run_blocks m g, ?_⟩
  refine (θ_run ReferenceHiddenIdeal.defs _ _).mono (fun r h c => ⟨(h c).1.trans ?_, (h c).2⟩)
    (ReferenceHiddenIdeal.Value.run (F := Ideal) m' g')
  obtain ⟨a0, a1⟩ := hagree c
  obtain ⟨X, hX⟩ := Cert.Lin.exists_grid (φ := .f32) (m ((c.tc : Thread KernelHiddenIdeal.nD KernelHiddenIdeal.τ).loc KernelHiddenIdeal.main_arg0))
  obtain ⟨W, hW⟩ := Cert.Lin.exists_grid (φ := .f32) (m ((c.tc : Thread KernelHiddenIdeal.nD KernelHiddenIdeal.τ).loc KernelHiddenIdeal.main_arg1))
  have k := KernelHiddenIdeal.Own.final (m := m) (c := c) ⟨hX, hW⟩
  rw [a0.trans hX, a1.trans hW]
  exact (ReferenceHiddenIdeal.Own.out X W).trans k.symm

end Cert.Hidden

end
-- ==== Proof.In.Value.lean ====
/- The gated mixer's first product: what the kernel leaves and what the reference computes. -/
module

public import proofs.«01_k».proof.Proof.Lin.Array
public import proofs.«01_k».proof.Proof.Gen.KernelInIdeal.Value
public import proofs.«01_k».proof.Proof.Gen.ReferenceInIdeal.Run
public import Idealize.ShloMosaic.Lib.Pipeline.ValueKit

@[expose] public section

set_option maxRecDepth 16384

noncomputable section

namespace Cert.KernelInIdeal.Own

open Cert.KernelInIdeal Cert.KernelInIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (X W : ℕ → ℕ → EReal)

theorem idx : ∀ t : Fin cfg0.N, win0_0.index t = ![t.val / 4, 0] ∧ win0_1.index t = ![0, 0, 0]
    ∧ win0_2.index t = ![t.val / 4, t.val % 4] :=
  (by decide +kernel : ∀ t : Fin grid0.N, _)

theorem off : ∀ t : Fin cfg0.N, k0_off1 (grid0.coords t) = ![t.val % 4, 0, 0] := (by decide +kernel : ∀ t : Fin grid0.N, _)

/-- The arguments that the result depends on. -/
structure Args : Prop where
  x : m ((c : Thread nD τ).loc main_arg0) = grid .f32 4096 1024 X
  w : m ((c : Thread nD τ).loc main_arg1) = grid .f32 1024 2048 W

/-- The entry at row `i` and column `j`. -/
def res (i j : ℕ) : EReal := ∑ k ∈ range 1024, X i k * W k j

/-- What a grid point leaves in its block of the result. -/
theorem out_eq (t : Fin cfg0.N) (f : ℕ → ℕ → ℕ → EReal) (x0 : Vec Ideal S1024x1024 .bf16) :
    out0_A_2 c (grid0.coords t) (ms0_0 t) (hs0_0 t) (ms0_1 t) (hs0_1 t) (ms0_2 t) (hs0_2 t) x0 (slabs .bf16 4 1024 512 f)
      = k0_pay1 (slabs .bf16 1 1024 512 fun _ => f (t.val % 4)) x0 := by
  have e : (View.ld (Val := Elt Ideal) (e' := .bf16) (slabs .bf16 4 1024 512 f) (Rect.unit (s := S4x1024x512) (k0_off1 (grid0.coords t)) S1x1024x512.size (k0_off1_inb _)) : FVec Ideal S1x1024x512 .bf16)
      = slabs .bf16 1 1024 512 fun _ => f (t.val % 4) := by
    refine (ld_slabs f _ _).trans (eq_slabs fun s r k => ?_)
    have := s.isLt
    refine congr (congrArg₂ f ?_ ?_) ?_ <;> dsimp only <;> rw [off t] <;> simp
  frame_out
  exact congrArg (fun v => k0_pay1 v x0) e

variable {m c X W} (A : Args m c X W)

include A

theorem entry_x : V m c main_v3 = grid .bf16 4096 1024 X := by
  unfold V
  simp only [hostOps0]
  after_results
  refine eq_grid fun r c => ?_
  pointwise [A.x, grid_ix2]

theorem entry_w : V m c main_v2 = slabs .bf16 4 1024 512 fun s r k => W r (s * 512 + k) := by
  unfold V
  simp only [hostOps0]
  after_results
  refine eq_slabs fun s r k => ?_
  pointwise [A.w, grid_ix2]

theorem blk0 (t : Fin cfg0.N) : iblk m c 0 t = grid .bf16 1024 1024 fun r k => X (1024 * (t.val / 4) + r) k := by
  funext y
  blk_simp [iblk]
  refine (congrFun (entry_x A) _).trans ?_
  refine congrArg₂ X ?_ ?_ <;> blk_simp [idx t] <;> ring

theorem blk1 (t : Fin cfg0.N) : iblk m c 1 t = slabs .bf16 4 1024 512 fun s r k => W r (s * 512 + k) := by
  funext y
  blk_simp [iblk]
  refine (congrFun (entry_w A) _).trans ?_
  refine congrArg₂ W ?_ ?_ <;> blk_simp [idx t] <;> ring

theorem final : (dats m 0 c).arrAt 2 cfg0.N = grid .f32 4096 2048 (res X W) := by
  refine (dats m 0 c).arrAt_eq_of_covers 2 _ (by decide +kernel) fun t _ y => ?_
  blk_simp
  rw [after0_2]
  unfold outsAt0
  rw [blk0 A, blk1 A, out_eq]
  obtain ⟨r, k, rfl⟩ : ∃ (r : Fin 1024) (k : Fin 512), y = ix2 r k := ⟨_, _, eq_ix2 y⟩
  unfold k0_pay1
  pointwise [grid_ix2, slabs_ix3]
  rw [sum_below fun k' => X (1024 * (t.val / 4) + r.val) k' * W k' (t.val % 4 * 512 + k.val)]
  change res X W (1024 * (t.val / 4) + r.val) (t.val % 4 * 512 + k.val) = _
  refine congrArg₂ (res X W) ?_ ?_ <;> blk_simp [idx t] <;> ring

end Cert.KernelInIdeal.Own

namespace Cert.ReferenceInIdeal.Own

open Cert.ReferenceInIdeal Cert.ReferenceInIdeal.Gen Cert.Lin Finset
open Idealize.ShloMosaic Idealize.ShloMosaic.TcCoe

variable (X W : ℕ → ℕ → EReal)

theorem out :
    (Host.dotGeneral (F := Ideal) dot_S4096x1024_S1024x2048_S4096x2048_1_0_0_1_n_n none (grid .f32 4096 1024 X : FVec Ideal S4096x1024 .f32) (grid .f32 1024 2048 W : FVec Ideal S1024x2048 .f32) : FVec Ideal S4096x2048 .f32)
      = grid .f32 4096 2048 (Cert.KernelInIdeal.Own.res X W) := by
  refine eq_grid fun i j => ?_
  pointwise [grid_ix2]
  rw [sum_below fun k => X i.val k * W k j.val]
  rfl

end Cert.ReferenceInIdeal.Own

end
-- ==== Proof.In.Claims.lean ====
/- The claims about the gated mixer's first product. -/
module

public import proofs.«01_k».proof.Defs
public import proofs.«01_k».proof.Proof.In.Value
public import proofs.«01_k».proof.Proof.Gen.KernelIn.Frame
public import Idealize.ShloMosaic.Lib.Quiescent

@[expose] public section

noncomputable section

namespace Cert.In

open Idealize.ShloMosaic Idealize.SL.Sem

theorem frame : Cert.quiescent_KernelIn := fun m ρ _ => KernelIn.Gen.frame m ρ

theorem frame_ideal : Cert.quiescent_KernelInIdeal := fun m ρ _ => KernelInIdeal.Gen.frame m ρ

theorem reference_frame : Cert.quiescent_ReferenceInIdeal := fun m ρ _ =>
  (θ_run ReferenceInIdeal.defs _ _).mono (fun r h => ⟨fun c => (h c).2, sem_eq_zero_of_no_sems (by decide) r.2⟩)
    (ReferenceInIdeal.Value.run (F := Ideal) m ρ)

theorem equal : Cert.algebraic_KernelInIdeal_ReferenceInIdeal := by
  intro m g m' g' _ hagree
  refine ⟨fun c => (KernelInIdeal.Gen.dats m 0 c).arrAt 2 KernelInIdeal.cfg0.N,
    KernelInIdeal.Value.run_blocks m g, ?_⟩
  refine (θ_run ReferenceInIdeal.defs _ _).mono (fun r h c => ⟨(h c).1.trans ?_, (h c).2⟩)
    (ReferenceInIdeal.Value.run (F := Ideal) m' g')
  obtain ⟨a0, a1⟩ := hagree c
  obtain ⟨X, hX⟩ := Cert.Lin.exists_grid (φ := .f32) (m ((c.tc : Thread KernelInIdeal.nD KernelInIdeal.τ).loc KernelInIdeal.main_arg0))
  obtain ⟨W, hW⟩ := Cert.Lin.exists_grid (φ := .f32) (m ((c.tc : Thread KernelInIdeal.nD KernelInIdeal.τ).loc KernelInIdeal.main_arg1))
  have k := KernelInIdeal.Own.final (m := m) (c := c) ⟨hX, hW⟩
  rw [a0.trans hX, a1.trans hW]
  exact (ReferenceInIdeal.Own.out X W).trans k.symm

end Cert.In

end
-- ==== Proof.Q.Value.lean ====
/- The scaled queries: what the kernel leaves and what the reference computes. -/
module

public import proofs.«01_k».proof.Proof.Lin.Array
public import proofs.«01_k».proof.Proof.Gen.KernelQIdeal.Value
public import proofs.«01_k».proof.Proof.Gen.ReferenceQIdeal.Run
public import Idealize.ShloMosaic.Lib.Pipeline.ValueKit

@[expose] public section

set_option maxRecDepth 16384

noncomputable section

namespace Cert.KernelQIdeal.Own

open Cert.KernelQIdeal Cert.KernelQIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (X W : ℕ → ℕ → EReal)

theorem idx : ∀ t : Fin cfg0.N, win0_0.index t = ![t.val, 0] ∧ win0_1.index t = ![0, 0, 0]
    ∧ win0_2.index t = ![t.val, 0] :=
  (by decide +kernel : ∀ t : Fin grid0.N, _)

/-- The arguments that the result depends on. -/
structure Args : Prop where
  x : m ((c : Thread nD τ).loc main_arg0) = grid .f32 4096 1024 X
  w : m ((c : Thread nD τ).loc main_arg1) = grid .f32 1024 1024 W

/-- The entry at row `i` and column `j`. -/
def res (i j : ℕ) : EReal := (∑ k ∈ range 1024, X i k * W k j) * Ideal.ofBits .f32 0x3E000000#32

/-- What a grid point leaves in its block of the result. -/
theorem out_eq (f : ℕ → ℕ → EReal) (g : ℕ → ℕ → ℕ → EReal) :
    (out0_2 (F := Ideal) (grid .bf16 512 1024 f) (slabs .bf16 4 256 1024 g) : FVec Ideal S512x1024 .bf16)
      = grid .bf16 512 1024 fun r c => ((∑ k ∈ range 256, f r (k) * g 0 k c) + (∑ k ∈ range 256, f r ((256 + k)) * g 1 k c) + (∑ k ∈ range 256, f r ((512 + k)) * g 2 k c) + (∑ k ∈ range 256, f r ((768 + k)) * g 3 k c)) * Ideal.ofBits .f32 0x3E000000#32 := by
  unfold out0_2
  have p0 : (View.ld (Val := Elt Ideal) (e' := .bf16) (grid .bf16 512 1024 f) r0_0 : FVec Ideal S512x256 .bf16) = grid .bf16 512 256 fun r k => f (0 + r) (0 + k) := ld_grid f _ _
  have w0 : (View.ld (Val := Elt Ideal) (e' := .bf16) (slabs .bf16 4 256 1024 g) r0_1 : FVec Ideal S1x256x1024 .bf16) = slabs .bf16 1 256 1024 fun s r k => g (0 + s) (0 + r) (0 + k) := ld_slabs g _ _
  have p1 : (View.ld (Val := Elt Ideal) (e' := .bf16) (grid .bf16 512 1024 f) r0_2 : FVec Ideal S512x256 .bf16) = grid .bf16 512 256 fun r k => f (0 + r) (256 + k) := ld_grid f _ _
  have w1 : (View.ld (Val := Elt Ideal) (e' := .bf16) (slabs .bf16 4 256 1024 g) r0_3 : FVec Ideal S1x256x1024 .bf16) = slabs .bf16 1 256 1024 fun s r k => g (1 + s) (0 + r) (0 + k) := ld_slabs g _ _
  have p2 : (View.ld (Val := Elt Ideal) (e' := .bf16) (grid .bf16 512 1024 f) r0_4 : FVec Ideal S512x256 .bf16) = grid .bf16 512 256 fun r k => f (0 + r) (512 + k) := ld_grid f _ _
  have w2 : (View.ld (Val := Elt Ideal) (e' := .bf16) (slabs .bf16 4 256 1024 g) r0_5 : FVec Ideal S1x256x1024 .bf16) = slabs .bf16 1 256 1024 fun s r k => g (2 + s) (0 + r) (0 + k) := ld_slabs g _ _
  have p3 : (View.ld (Val := Elt Ideal) (e' := .bf16) (grid .bf16 512 1024 f) r0_6 : FVec Ideal S512x256 .bf16) = grid .bf16 512 256 fun r k => f (0 + r) (768 + k) := ld_grid f _ _
  have w3 : (View.ld (Val := Elt Ideal) (e' := .bf16) (slabs .bf16 4 256 1024 g) r0_7 : FVec Ideal S1x256x1024 .bf16) = slabs .bf16 1 256 1024 fun s r k => g (3 + s) (0 + r) (0 + k) := ld_slabs g _ _
  rw [p0, p1, p2, p3, w0, w1, w2, w3]
  refine (View.canon_cons_unit_lit _ _ [] (by decide)).trans (eq_grid fun r c => ?_)
  unfold k0_pay1
  pointwise [grid_ix2, slabs_ix3]
  rw [sum_below fun k => f r.val (k) * g 0 k c.val]
  rw [sum_below fun k => f r.val ((256 + k)) * g 1 k c.val]
  rw [sum_below fun k => f r.val ((512 + k)) * g 2 k c.val]
  rw [sum_below fun k => f r.val ((768 + k)) * g 3 k c.val]

variable {m c X W} (A : Args m c X W)

include A

theorem entry_x : V m c main_v0 = grid .bf16 4096 1024 X := by
  unfold V
  simp only [hostOps0]
  after_results
  refine eq_grid fun r c => ?_
  pointwise [A.x, grid_ix2]

theorem entry_w : V m c main_v2 = slabs .bf16 4 256 1024 fun s r k => W (s * 256 + r) k := by
  unfold V
  simp only [hostOps0]
  after_results
  refine eq_slabs fun s r k => ?_
  pointwise [A.w, grid_ix2]

theorem blk0 (t : Fin cfg0.N) : iblk m c 0 t = grid .bf16 512 1024 fun r k => X (512 * t.val + r) k := by
  funext y
  blk_simp [iblk]
  refine (congrFun (entry_x A) _).trans ?_
  refine congrArg₂ X ?_ ?_ <;> blk_simp [idx t] <;> ring

theorem blk1 (t : Fin cfg0.N) : iblk m c 1 t = slabs .bf16 4 256 1024 fun s r k => W (s * 256 + r) k := by
  funext y
  blk_simp [iblk]
  refine (congrFun (entry_w A) _).trans ?_
  refine congrArg₂ W ?_ ?_ <;> blk_simp [idx t] <;> ring

theorem final : (dats m 0 c).arrAt 2 cfg0.N = grid .bf16 4096 1024 (res X W) := by
  refine (dats m 0 c).arrAt_eq_of_covers 2 _ (by decide +kernel) fun t _ y => ?_
  blk_simp
  rw [after0_2, blk0 A, blk1 A, out_eq]
  obtain ⟨r, k, rfl⟩ : ∃ (r : Fin 512) (k : Fin 1024), y = ix2 r k := ⟨_, _, eq_ix2 y⟩
  rw [grid_ix2]
  refine Eq.trans ?_ (congrArg₂ (res X W) (?_ : 512 * t.val + r.val = _) (?_ : k.val = _))
  · simp only [Nat.zero_add, Nat.zero_mul, Nat.one_mul]
    exact congrArg (fun x : EReal => x * Ideal.ofBits .f32 0x3E000000#32) (sum_quarters 256 fun k' => X (512 * t.val + r.val) k' * W k' k.val)
  · blk_simp [idx t]
    ring
  · blk_simp [idx t]

end Cert.KernelQIdeal.Own

namespace Cert.ReferenceQIdeal.Own

open Cert.ReferenceQIdeal Cert.ReferenceQIdeal.Gen Cert.Lin Finset
open Idealize.ShloMosaic Idealize.ShloMosaic.TcCoe

variable (X W : ℕ → ℕ → EReal)

theorem out :
    (truncf .bf16 (mulf (Host.dotGeneral (F := Ideal) dot_S4096x1024_S1024x1024_S4096x1024_1_0_0_1_n_n none (grid .f32 4096 1024 X : FVec Ideal S4096x1024 .f32) (grid .f32 1024 1024 W : FVec Ideal S1024x1024 .f32)) (broadcastInDim S4096x1024 ![] bcast_S_S4096x1024 (constant S_ .f32 0x3E000000#32))) bitsLt_bf16_f32 : FVec Ideal S4096x1024 .bf16)
      = grid .bf16 4096 1024 (Cert.KernelQIdeal.Own.res X W) := by
  refine eq_grid fun i j => ?_
  pointwise [grid_ix2]
  rw [sum_below fun k => X i.val k * W k j.val]
  rfl

end Cert.ReferenceQIdeal.Own

end
-- ==== Proof.Q.Claims.lean ====
/- The claims about the scaled queries. -/
module

public import proofs.«01_k».proof.Defs
public import proofs.«01_k».proof.Proof.Q.Value
public import proofs.«01_k».proof.Proof.Gen.KernelQ.Frame
public import Idealize.ShloMosaic.Lib.Quiescent

@[expose] public section

noncomputable section

namespace Cert.Q

open Idealize.ShloMosaic Idealize.SL.Sem

theorem frame : Cert.quiescent_KernelQ := fun m ρ _ => KernelQ.Gen.frame m ρ

theorem frame_ideal : Cert.quiescent_KernelQIdeal := fun m ρ _ => KernelQIdeal.Gen.frame m ρ

theorem reference_frame : Cert.quiescent_ReferenceQIdeal := fun m ρ _ =>
  (θ_run ReferenceQIdeal.defs _ _).mono (fun r h => ⟨fun c => (h c).2, sem_eq_zero_of_no_sems (by decide) r.2⟩)
    (ReferenceQIdeal.Value.run (F := Ideal) m ρ)

theorem equal : Cert.algebraic_KernelQIdeal_ReferenceQIdeal := by
  intro m g m' g' _ hagree
  refine ⟨fun c => (KernelQIdeal.Gen.dats m 0 c).arrAt 2 KernelQIdeal.cfg0.N,
    KernelQIdeal.Value.run_blocks m g, ?_⟩
  refine (θ_run ReferenceQIdeal.defs _ _).mono (fun r h c => ⟨(h c).1.trans ?_, (h c).2⟩)
    (ReferenceQIdeal.Value.run (F := Ideal) m' g')
  obtain ⟨a0, a1⟩ := hagree c
  obtain ⟨X, hX⟩ := Cert.Lin.exists_grid (φ := .f32) (m ((c.tc : Thread KernelQIdeal.nD KernelQIdeal.τ).loc KernelQIdeal.main_arg0))
  obtain ⟨W, hW⟩ := Cert.Lin.exists_grid (φ := .f32) (m ((c.tc : Thread KernelQIdeal.nD KernelQIdeal.τ).loc KernelQIdeal.main_arg1))
  have k := KernelQIdeal.Own.final (m := m) (c := c) ⟨hX, hW⟩
  rw [a0.trans hX, a1.trans hW]
  exact (ReferenceQIdeal.Own.out X W).trans k.symm

end Cert.Q

end
-- ==== Proof.V.Value.lean ====
/- A product with a square matrix: what the kernel leaves and what the reference computes. -/
module

public import proofs.«01_k».proof.Proof.Lin.Array
public import proofs.«01_k».proof.Proof.Gen.KernelVIdeal.Value
public import proofs.«01_k».proof.Proof.Gen.ReferenceVIdeal.Run
public import Idealize.ShloMosaic.Lib.Pipeline.ValueKit

@[expose] public section

set_option maxRecDepth 16384

noncomputable section

namespace Cert.KernelVIdeal.Own

open Cert.KernelVIdeal Cert.KernelVIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (X W : ℕ → ℕ → EReal)

theorem idx : ∀ t : Fin cfg0.N, win0_0.index t = ![t.val, 0] ∧ win0_1.index t = ![0, 0, 0]
    ∧ win0_2.index t = ![t.val, 0] :=
  (by decide +kernel : ∀ t : Fin grid0.N, _)

/-- The arguments that the result depends on. -/
structure Args : Prop where
  x : m ((c : Thread nD τ).loc main_arg0) = grid .f32 4096 1024 X
  w : m ((c : Thread nD τ).loc main_arg1) = grid .f32 1024 1024 W

/-- The entry at row `i` and column `j`. -/
def res (i j : ℕ) : EReal := ∑ k ∈ range 1024, X i k * W k j

/-- What a grid point leaves in its block of the result. -/
theorem out_eq (f : ℕ → ℕ → EReal) (g : ℕ → ℕ → ℕ → EReal) :
    (out0_2 (F := Ideal) (grid .bf16 512 1024 f) (slabs .bf16 4 256 1024 g) : FVec Ideal S512x1024 .bf16)
      = grid .bf16 512 1024 fun r c => (∑ k ∈ range 256, f r (k) * g 0 k c) + (∑ k ∈ range 256, f r ((256 + k)) * g 1 k c) + (∑ k ∈ range 256, f r ((512 + k)) * g 2 k c) + (∑ k ∈ range 256, f r ((768 + k)) * g 3 k c) := by
  unfold out0_2
  have p0 : (View.ld (Val := Elt Ideal) (e' := .bf16) (grid .bf16 512 1024 f) r0_0 : FVec Ideal S512x256 .bf16) = grid .bf16 512 256 fun r k => f (0 + r) (0 + k) := ld_grid f _ _
  have w0 : (View.ld (Val := Elt Ideal) (e' := .bf16) (slabs .bf16 4 256 1024 g) r0_1 : FVec Ideal S1x256x1024 .bf16) = slabs .bf16 1 256 1024 fun s r k => g (0 + s) (0 + r) (0 + k) := ld_slabs g _ _
  have p1 : (View.ld (Val := Elt Ideal) (e' := .bf16) (grid .bf16 512 1024 f) r0_2 : FVec Ideal S512x256 .bf16) = grid .bf16 512 256 fun r k => f (0 + r) (256 + k) := ld_grid f _ _
  have w1 : (View.ld (Val := Elt Ideal) (e' := .bf16) (slabs .bf16 4 256 1024 g) r0_3 : FVec Ideal S1x256x1024 .bf16) = slabs .bf16 1 256 1024 fun s r k => g (1 + s) (0 + r) (0 + k) := ld_slabs g _ _
  have p2 : (View.ld (Val := Elt Ideal) (e' := .bf16) (grid .bf16 512 1024 f) r0_4 : FVec Ideal S512x256 .bf16) = grid .bf16 512 256 fun r k => f (0 + r) (512 + k) := ld_grid f _ _
  have w2 : (View.ld (Val := Elt Ideal) (e' := .bf16) (slabs .bf16 4 256 1024 g) r0_5 : FVec Ideal S1x256x1024 .bf16) = slabs .bf16 1 256 1024 fun s r k => g (2 + s) (0 + r) (0 + k) := ld_slabs g _ _
  have p3 : (View.ld (Val := Elt Ideal) (e' := .bf16) (grid .bf16 512 1024 f) r0_6 : FVec Ideal S512x256 .bf16) = grid .bf16 512 256 fun r k => f (0 + r) (768 + k) := ld_grid f _ _
  have w3 : (View.ld (Val := Elt Ideal) (e' := .bf16) (slabs .bf16 4 256 1024 g) r0_7 : FVec Ideal S1x256x1024 .bf16) = slabs .bf16 1 256 1024 fun s r k => g (3 + s) (0 + r) (0 + k) := ld_slabs g _ _
  rw [p0, p1, p2, p3, w0, w1, w2, w3]
  refine (View.canon_cons_unit_lit _ _ [] (by decide)).trans (eq_grid fun r c => ?_)
  unfold k0_pay1
  pointwise [grid_ix2, slabs_ix3]
  rw [sum_below fun k => f r.val (k) * g 0 k c.val]
  rw [sum_below fun k => f r.val ((256 + k)) * g 1 k c.val]
  rw [sum_below fun k => f r.val ((512 + k)) * g 2 k c.val]
  rw [sum_below fun k => f r.val ((768 + k)) * g 3 k c.val]

variable {m c X W} (A : Args m c X W)

include A

theorem entry_x : V m c main_v0 = grid .bf16 4096 1024 X := by
  unfold V
  simp only [hostOps0]
  after_results
  refine eq_grid fun r c => ?_
  pointwise [A.x, grid_ix2]

theorem entry_w : V m c main_v2 = slabs .bf16 4 256 1024 fun s r k => W (s * 256 + r) k := by
  unfold V
  simp only [hostOps0]
  after_results
  refine eq_slabs fun s r k => ?_
  pointwise [A.w, grid_ix2]

theorem blk0 (t : Fin cfg0.N) : iblk m c 0 t = grid .bf16 512 1024 fun r k => X (512 * t.val + r) k := by
  funext y
  blk_simp [iblk]
  refine (congrFun (entry_x A) _).trans ?_
  refine congrArg₂ X ?_ ?_ <;> blk_simp [idx t] <;> ring

theorem blk1 (t : Fin cfg0.N) : iblk m c 1 t = slabs .bf16 4 256 1024 fun s r k => W (s * 256 + r) k := by
  funext y
  blk_simp [iblk]
  refine (congrFun (entry_w A) _).trans ?_
  refine congrArg₂ W ?_ ?_ <;> blk_simp [idx t] <;> ring

theorem final : (dats m 0 c).arrAt 2 cfg0.N = grid .bf16 4096 1024 (res X W) := by
  refine (dats m 0 c).arrAt_eq_of_covers 2 _ (by decide +kernel) fun t _ y => ?_
  blk_simp
  rw [after0_2, blk0 A, blk1 A, out_eq]
  obtain ⟨r, k, rfl⟩ : ∃ (r : Fin 512) (k : Fin 1024), y = ix2 r k := ⟨_, _, eq_ix2 y⟩
  rw [grid_ix2]
  refine Eq.trans ?_ (congrArg₂ (res X W) (?_ : 512 * t.val + r.val = _) (?_ : k.val = _))
  · simp only [Nat.zero_add, Nat.zero_mul, Nat.one_mul]
    exact congrArg (fun x : EReal => x) (sum_quarters 256 fun k' => X (512 * t.val + r.val) k' * W k' k.val)
  · blk_simp [idx t]
    ring
  · blk_simp [idx t]

end Cert.KernelVIdeal.Own

namespace Cert.ReferenceVIdeal.Own

open Cert.ReferenceVIdeal Cert.ReferenceVIdeal.Gen Cert.Lin Finset
open Idealize.ShloMosaic Idealize.ShloMosaic.TcCoe

variable (X W : ℕ → ℕ → EReal)

theorem out :
    (truncf .bf16 (Host.dotGeneral (F := Ideal) dot_S4096x1024_S1024x1024_S4096x1024_1_0_0_1_n_n none (grid .f32 4096 1024 X : FVec Ideal S4096x1024 .f32) (grid .f32 1024 1024 W : FVec Ideal S1024x1024 .f32)) bitsLt_bf16_f32 : FVec Ideal S4096x1024 .bf16)
      = grid .bf16 4096 1024 (Cert.KernelVIdeal.Own.res X W) := by
  refine eq_grid fun i j => ?_
  pointwise [grid_ix2]
  rw [sum_below fun k => X i.val k * W k j.val]
  rfl

end Cert.ReferenceVIdeal.Own

end
-- ==== Proof.V.Claims.lean ====
/- The claims about a product with a square matrix. -/
module

public import proofs.«01_k».proof.Defs
public import proofs.«01_k».proof.Proof.V.Value
public import proofs.«01_k».proof.Proof.Gen.KernelV.Frame
public import Idealize.ShloMosaic.Lib.Quiescent

@[expose] public section

noncomputable section

namespace Cert.V

open Idealize.ShloMosaic Idealize.SL.Sem

theorem frame : Cert.quiescent_KernelV := fun m ρ _ => KernelV.Gen.frame m ρ

theorem frame_ideal : Cert.quiescent_KernelVIdeal := fun m ρ _ => KernelVIdeal.Gen.frame m ρ

theorem reference_frame : Cert.quiescent_ReferenceVIdeal := fun m ρ _ =>
  (θ_run ReferenceVIdeal.defs _ _).mono (fun r h => ⟨fun c => (h c).2, sem_eq_zero_of_no_sems (by decide) r.2⟩)
    (ReferenceVIdeal.Value.run (F := Ideal) m ρ)

theorem equal : Cert.algebraic_KernelVIdeal_ReferenceVIdeal := by
  intro m g m' g' _ hagree
  refine ⟨fun c => (KernelVIdeal.Gen.dats m 0 c).arrAt 2 KernelVIdeal.cfg0.N,
    KernelVIdeal.Value.run_blocks m g, ?_⟩
  refine (θ_run ReferenceVIdeal.defs _ _).mono (fun r h c => ⟨(h c).1.trans ?_, (h c).2⟩)
    (ReferenceVIdeal.Value.run (F := Ideal) m' g')
  obtain ⟨a0, a1⟩ := hagree c
  obtain ⟨X, hX⟩ := Cert.Lin.exists_grid (φ := .f32) (m ((c.tc : Thread KernelVIdeal.nD KernelVIdeal.τ).loc KernelVIdeal.main_arg0))
  obtain ⟨W, hW⟩ := Cert.Lin.exists_grid (φ := .f32) (m ((c.tc : Thread KernelVIdeal.nD KernelVIdeal.τ).loc KernelVIdeal.main_arg1))
  have k := KernelVIdeal.Own.final (m := m) (c := c) ⟨hX, hW⟩
  rw [a0.trans hX, a1.trans hW]
  exact (ReferenceVIdeal.Own.out X W).trans k.symm

end Cert.V

end
-- ==== Proof.Ffn.Value.lean ====
/- The second product of the feed-forward network, normalized: what the kernel leaves and what the reference computes. -/
module

public import proofs.«01_k».proof.Proof.Lin.Norm
public import proofs.«01_k».proof.Proof.Gen.KernelFfnIdeal.Value
public import proofs.«01_k».proof.Proof.Gen.ReferenceFfnIdeal.Run
public import Idealize.ShloMosaic.Lib.Pipeline.ValueKit

@[expose] public section

set_option maxRecDepth 16384

noncomputable section

namespace Cert.KernelFfnIdeal.Own

open Cert.KernelFfnIdeal Cert.KernelFfnIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (X W R G B : ℕ → ℕ → EReal)

theorem idx : ∀ t : Fin cfg0.N, win0_0.index t = ![t.val, 0] ∧ win0_1.index t = ![0, 0, 0] ∧ win0_2.index t = ![t.val, 0]
    ∧ win0_3.index t = ![3, 0, 0] ∧ win0_4.index t = ![3, 0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The arguments that the results depend on. -/
structure Args : Prop where
  x : m ((c : Thread nD τ).loc main_arg0) = grid .f32 4096 4096 X
  w : m ((c : Thread nD τ).loc main_arg1) = grid .f32 4096 1024 W
  r : m ((c : Thread nD τ).loc main_arg2) = grid .f32 4096 1024 R
  g : m ((c : Thread nD τ).loc main_arg3) = grid .f32 4 1024 G
  b : m ((c : Thread nD τ).loc main_arg4) = grid .f32 4 1024 B

/-- What is normalized: the product and the residual. -/
def pre (i j : ℕ) : EReal := Ideal.ofBits .f32 0x3FD744FD#32 * R i j + ∑ k ∈ range 4096, max (X i k) 0 * max (X i k) 0 * W k j

section point

variable (f : ℕ → ℕ → EReal) (g : ℕ → ℕ → ℕ → EReal) (h : ℕ → ℕ → EReal) (u v : ℕ → ℕ → ℕ → EReal)

/-- What a grid point normalizes. -/
def row (r c : ℕ) : EReal := Ideal.ofBits .f32 0x3FD744FD#32 * h r c + ((∑ k ∈ range 1024, f r k * f r k * g 0 k c) + (∑ k ∈ range 1024, f r (1024 + k) * f r (1024 + k) * g 1 k c) + (∑ k ∈ range 1024, f r (2048 + k) * f r (2048 + k) * g 2 k c) + (∑ k ∈ range 1024, f r (3072 + k) * f r (3072 + k) * g 3 k c))

theorem sum_eq : k0_pay8 (F := Ideal) (grid .bf16 512 4096 f) (slabs .bf16 4 1024 1024 g) (grid .f32 512 1024 h) (slabs .f32 1 1 1024 u) (slabs .f32 1 1 1024 v) = grid .f32 512 1024 fun r c => (∑ k ∈ range 1024, f r k * f r k * g 0 k c) + (∑ k ∈ range 1024, f r (1024 + k) * f r (1024 + k) * g 1 k c) + (∑ k ∈ range 1024, f r (2048 + k) * f r (2048 + k) * g 2 k c) + (∑ k ∈ range 1024, f r (3072 + k) * f r (3072 + k) * g 3 k c) := by
  unfold k0_pay8
  have p0 : (View.ld (Val := Elt Ideal) (e' := .bf16) (grid .bf16 512 4096 f) r0_0 : FVec Ideal S512x1024 .bf16) = grid .bf16 512 1024 fun r k => f (0 + r) (0 + k) := ld_grid f _ _
  have w0 : (View.ld (Val := Elt Ideal) (e' := .bf16) (slabs .bf16 4 1024 1024 g) r0_1 : FVec Ideal S1x1024x1024 .bf16) = slabs .bf16 1 1024 1024 fun s r k => g (0 + s) (0 + r) (0 + k) := ld_slabs g _ _
  have p1 : (View.ld (Val := Elt Ideal) (e' := .bf16) (grid .bf16 512 4096 f) r0_2 : FVec Ideal S512x1024 .bf16) = grid .bf16 512 1024 fun r k => f (0 + r) (1024 + k) := ld_grid f _ _
  have w1 : (View.ld (Val := Elt Ideal) (e' := .bf16) (slabs .bf16 4 1024 1024 g) r0_3 : FVec Ideal S1x1024x1024 .bf16) = slabs .bf16 1 1024 1024 fun s r k => g (1 + s) (0 + r) (0 + k) := ld_slabs g _ _
  have p2 : (View.ld (Val := Elt Ideal) (e' := .bf16) (grid .bf16 512 4096 f) r0_4 : FVec Ideal S512x1024 .bf16) = grid .bf16 512 1024 fun r k => f (0 + r) (2048 + k) := ld_grid f _ _
  have w2 : (View.ld (Val := Elt Ideal) (e' := .bf16) (slabs .bf16 4 1024 1024 g) r0_5 : FVec Ideal S1x1024x1024 .bf16) = slabs .bf16 1 1024 1024 fun s r k => g (2 + s) (0 + r) (0 + k) := ld_slabs g _ _
  have p3 : (View.ld (Val := Elt Ideal) (e' := .bf16) (grid .bf16 512 4096 f) r0_6 : FVec Ideal S512x1024 .bf16) = grid .bf16 512 1024 fun r k => f (0 + r) (3072 + k) := ld_grid f _ _
  have w3 : (View.ld (Val := Elt Ideal) (e' := .bf16) (slabs .bf16 4 1024 1024 g) r0_7 : FVec Ideal S1x1024x1024 .bf16) = slabs .bf16 1 1024 1024 fun s r k => g (3 + s) (0 + r) (0 + k) := ld_slabs g _ _
  rw [p0, p1, p2, p3, w0, w1, w2, w3]
  refine eq_grid fun r c => ?_
  unfold k0_pay6
  pointwise [grid_ix2, slabs_ix3]
  rw [sum_below fun k => f r.val k * f r.val k * g 0 k c.val]
  rw [sum_below fun k => f r.val (1024 + k) * f r.val (1024 + k) * g 1 k c.val]
  rw [sum_below fun k => f r.val (2048 + k) * f r.val (2048 + k) * g 2 k c.val]
  rw [sum_below fun k => f r.val (3072 + k) * f r.val (3072 + k) * g 3 k c.val]

theorem res_eq : k0_pay9 (F := Ideal) (grid .bf16 512 4096 f) (slabs .bf16 4 1024 1024 g) (grid .f32 512 1024 h) (slabs .f32 1 1 1024 u) (slabs .f32 1 1 1024 v) = grid .f32 512 1024 fun r c => Ideal.ofBits .f32 0x3FD744FD#32 * h r c := by
  unfold k0_pay9
  have e : (View.ld (Val := Elt Ideal) (e' := .f32) (grid .f32 512 1024 h) r0_8 : FVec Ideal S512x1024 .f32) = grid .f32 512 1024 h := View.ld_unit_lit _ _ (by decide)
  rw [e]
  refine eq_grid fun r c => ?_
  unfold k0_pay7
  pointwise [grid_ix2]

theorem cen_eq (a b : ℕ → ℕ → EReal) : k0_pay1 (F := Ideal) (grid .f32 512 1024 b) (grid .f32 512 1024 a) = grid .f32 512 1024 (cen fun r c => a r c + b r c) := by
  refine eq_grid fun r c => ?_
  unfold k0_pay1
  pointwise [grid_ix2]
  rfl

theorem rstd_eq (a b : ℕ → ℕ → EReal) : k0_pay2 (F := Ideal) (grid .f32 512 1024 b) (grid .f32 512 1024 a) = grid .f32 512 1 fun r _ => rstd (fun r c => a r c + b r c) r := by
  refine eq_grid fun r c => ?_
  unfold k0_pay2
  rw [cen_eq]
  pointwise [grid_ix2]
  rfl

theorem normed_eq (a b : ℕ → ℕ → EReal) : k0_pay3 (F := Ideal) (grid .f32 512 1024 b) (grid .f32 512 1024 a) = grid .f32 512 1024 (normed fun r c => a r c + b r c) := by
  refine eq_grid fun r c => ?_
  unfold k0_pay3
  rw [cen_eq, rstd_eq]
  pointwise [grid_ix2]
  rfl

theorem scaled_eq (a b : ℕ → ℕ → EReal) : k0_pay4 (F := Ideal) (grid .f32 512 1024 b) (grid .f32 512 1024 a) (slabs .f32 1 1 1024 u) (slabs .f32 1 1 1024 v)
    = grid .f32 512 1024 (scaled (fun r c => a r c + b r c) (u 0 0) (v 0 0)) := by
  refine eq_grid fun r c => ?_
  unfold k0_pay4
  rw [normed_eq]
  pointwise [grid_ix2, slabs_ix3]
  rfl

theorem out5 : (out0_5 (F := Ideal) (grid .bf16 512 4096 f) (slabs .bf16 4 1024 1024 g) (grid .f32 512 1024 h) (slabs .f32 1 1 1024 u) (slabs .f32 1 1 1024 v) : FVec Ideal S512x1024 .f32) = grid .f32 512 1024 (scaled (row f g h) (u 0 0) (v 0 0)) := by
  unfold out0_5
  have e3 : (View.ld (Val := Elt Ideal) (e' := .f32) (slabs .f32 1 1 1024 u) r0_9 : FVec Ideal S1x1x1024 .f32) = slabs .f32 1 1 1024 u := View.ld_unit_lit _ _ (by decide)
  have e4 : (View.ld (Val := Elt Ideal) (e' := .f32) (slabs .f32 1 1 1024 v) r0_9 : FVec Ideal S1x1x1024 .f32) = slabs .f32 1 1 1024 v := View.ld_unit_lit _ _ (by decide)
  rw [sum_eq, res_eq, e3, e4]
  exact (View.canon_cons_unit_lit _ _ [] (by decide)).trans (scaled_eq ..)

theorem out6 : (out0_6 (F := Ideal) (grid .bf16 512 4096 f) (slabs .bf16 4 1024 1024 g) (grid .f32 512 1024 h) (slabs .f32 1 1 1024 u) (slabs .f32 1 1 1024 v) : FVec Ideal S512x1024 .bf16) = grid .bf16 512 1024 (scaled (row f g h) (u 0 0) (v 0 0)) := by
  unfold out0_6
  have e3 : (View.ld (Val := Elt Ideal) (e' := .f32) (slabs .f32 1 1 1024 u) r0_9 : FVec Ideal S1x1x1024 .f32) = slabs .f32 1 1 1024 u := View.ld_unit_lit _ _ (by decide)
  have e4 : (View.ld (Val := Elt Ideal) (e' := .f32) (slabs .f32 1 1 1024 v) r0_9 : FVec Ideal S1x1x1024 .f32) = slabs .f32 1 1 1024 v := View.ld_unit_lit _ _ (by decide)
  rw [sum_eq, res_eq, e3, e4]
  refine (View.canon_cons_unit_lit _ _ [] (by decide)).trans (eq_grid fun r c => ?_)
  unfold k0_pay5
  rw [scaled_eq]
  pointwise [grid_ix2]
  rfl

theorem out7 : (out0_7 (F := Ideal) (grid .bf16 512 4096 f) (slabs .bf16 4 1024 1024 g) (grid .f32 512 1024 h) (slabs .f32 1 1 1024 u) (slabs .f32 1 1 1024 v) : FVec Ideal S512x1024 .f32) = grid .f32 512 1024 (normed (row f g h)) := by
  unfold out0_7
  rw [sum_eq, res_eq]
  exact (View.canon_cons_unit_lit _ _ [] (by decide)).trans (normed_eq ..)

theorem out8 : (out0_8 (F := Ideal) (grid .bf16 512 4096 f) (slabs .bf16 4 1024 1024 g) (grid .f32 512 1024 h) (slabs .f32 1 1 1024 u) (slabs .f32 1 1 1024 v) : FVec Ideal S512x1 .f32) = grid .f32 512 1 fun r _ => rstd (row f g h) r := by
  unfold out0_8
  rw [sum_eq, res_eq]
  exact (View.canon_cons_unit_lit _ _ [] (by decide)).trans (rstd_eq ..)

end point

variable {m c X W R G B} (A : Args m c X W R G B)

include A

theorem entry_x : V m c main_v2 = grid .bf16 4096 4096 (fun r k => max (X r k) 0) := by
  unfold V
  simp only [hostOps0]
  after_results
  refine eq_grid fun r c => ?_
  pointwise [A.x, grid_ix2]
  try rfl

theorem entry_w : V m c main_v4 = slabs .bf16 4 1024 1024 fun s r k => W (s * 1024 + r) k := by
  unfold V
  simp only [hostOps0]
  after_results
  refine eq_slabs fun s r k => ?_
  pointwise [A.w, grid_ix2]

theorem entry_g : V m c main_v5 = slabs .f32 4 1 1024 fun l _ k => G l k := by
  unfold V
  simp only [hostOps0]
  after_results
  refine eq_slabs fun s r k => ?_
  pointwise [A.g, grid_ix2]

theorem entry_b : V m c main_v6 = slabs .f32 4 1 1024 fun l _ k => B l k := by
  unfold V
  simp only [hostOps0]
  after_results
  refine eq_slabs fun s r k => ?_
  pointwise [A.b, grid_ix2]

theorem blk0 (t : Fin cfg0.N) : iblk m c 0 t = grid .bf16 512 4096 fun r k => max (X (512 * t.val + r) k) 0 := by
  funext y
  blk_simp [iblk]
  refine (congrFun (entry_x A) _).trans ?_
  refine congrArg (fun x : EReal => max x 0) (congrArg₂ X ?_ ?_) <;> blk_simp [idx t] <;> ring

theorem blk1 (t : Fin cfg0.N) : iblk m c 1 t = slabs .bf16 4 1024 1024 fun s r k => W (s * 1024 + r) k := by
  funext y
  blk_simp [iblk]
  refine (congrFun (entry_w A) _).trans ?_
  refine congrArg₂ W ?_ ?_ <;> blk_simp [idx t] <;> ring

theorem blk2 (t : Fin cfg0.N) : iblk m c 2 t = grid .f32 512 1024 fun r k => R (512 * t.val + r) k := by
  funext y
  blk_simp [iblk]
  refine (congrFun ((V_main_arg2 m c).trans A.r) _).trans ?_
  refine congrArg₂ R ?_ ?_ <;> blk_simp [idx t] <;> ring

theorem blk3 (t : Fin cfg0.N) : iblk m c 3 t = slabs .f32 1 1 1024 fun _ _ k => G 3 k := by
  funext y
  blk_simp [iblk]
  refine (congrFun (entry_g A) _).trans ?_
  have := (y 0).isLt
  refine congrArg₂ G ?_ ?_ <;> blk_simp [idx t] <;> simp

theorem blk4 (t : Fin cfg0.N) : iblk m c 4 t = slabs .f32 1 1 1024 fun _ _ k => B 3 k := by
  funext y
  blk_simp [iblk]
  refine (congrFun (entry_b A) _).trans ?_
  have := (y 0).isLt
  refine congrArg₂ B ?_ ?_ <;> blk_simp [idx t] <;> simp

omit A in
/-- The rows of a grid point are rows of the whole. -/
theorem row_eq (t : ℕ) : (row (fun r k => max (X (512 * t + r) k) 0) (fun s r k => W (s * 1024 + r) k) fun r k => R (512 * t + r) k) = fun r j => pre X W R (512 * t + r) j := by
  funext r j
  unfold row
  simp only [Nat.zero_add, Nat.zero_mul, Nat.one_mul]
  exact congrArg (fun x : EReal => Ideal.ofBits .f32 0x3FD744FD#32 * R (512 * t + r) j + x) (sum_quarters 1024 fun k => max (X (512 * t + r) k) 0 * max (X (512 * t + r) k) 0 * W k j)

theorem final5 : (dats m 0 c).arrAt 5 cfg0.N = grid .f32 4096 1024 (scaled (pre X W R) (G 3) (B 3)) := by
  refine (dats m 0 c).arrAt_eq_of_covers 5 _ (by decide +kernel) fun t _ y => ?_
  blk_simp
  rw [after0_5, blk0 A, blk1 A, blk2 A, blk3 A, blk4 A, out5, row_eq]
  obtain ⟨r, k, rfl⟩ : ∃ (r : Fin 512) (k : Fin 1024), y = ix2 r k := ⟨_, _, eq_ix2 y⟩
  rw [grid_ix2]
  change (scaled (pre X W R) (G 3) (B 3)) (512 * t.val + r.val) k.val = _
  refine congrArg₂ (scaled (pre X W R) (G 3) (B 3)) ?_ ?_ <;> blk_simp [idx t] <;> ring

theorem final6 : (dats m 0 c).arrAt 6 cfg0.N = grid .bf16 4096 1024 (scaled (pre X W R) (G 3) (B 3)) := by
  refine (dats m 0 c).arrAt_eq_of_covers 6 _ (by decide +kernel) fun t _ y => ?_
  blk_simp
  rw [after0_6, blk0 A, blk1 A, blk2 A, blk3 A, blk4 A, out6, row_eq]
  obtain ⟨r, k, rfl⟩ : ∃ (r : Fin 512) (k : Fin 1024), y = ix2 r k := ⟨_, _, eq_ix2 y⟩
  rw [grid_ix2]
  change (scaled (pre X W R) (G 3) (B 3)) (512 * t.val + r.val) k.val = _
  refine congrArg₂ (scaled (pre X W R) (G 3) (B 3)) ?_ ?_ <;> blk_simp [idx t] <;> ring

theorem final7 : (dats m 0 c).arrAt 7 cfg0.N = grid .f32 4096 1024 (normed (pre X W R)) := by
  refine (dats m 0 c).arrAt_eq_of_covers 7 _ (by decide +kernel) fun t _ y => ?_
  blk_simp
  rw [after0_7, blk0 A, blk1 A, blk2 A, blk3 A, blk4 A, out7, row_eq]
  obtain ⟨r, k, rfl⟩ : ∃ (r : Fin 512) (k : Fin 1024), y = ix2 r k := ⟨_, _, eq_ix2 y⟩
  rw [grid_ix2]
  change (normed (pre X W R)) (512 * t.val + r.val) k.val = _
  refine congrArg₂ (normed (pre X W R)) ?_ ?_ <;> blk_simp [idx t] <;> ring

theorem final8 : (dats m 0 c).arrAt 8 cfg0.N = grid .f32 4096 1 (fun i _ => rstd (pre X W R) i) := by
  refine (dats m 0 c).arrAt_eq_of_covers 8 _ (by decide +kernel) fun t _ y => ?_
  blk_simp
  rw [after0_8, blk0 A, blk1 A, blk2 A, blk3 A, blk4 A, out8, row_eq]
  obtain ⟨r, k, rfl⟩ : ∃ (r : Fin 512) (k : Fin 1), y = ix2 r k := ⟨_, _, eq_ix2 y⟩
  rw [grid_ix2]
  change rstd (pre X W R) (512 * t.val + r.val) = _
  refine congrArg (rstd (pre X W R)) ?_
  blk_simp [idx t]
  ring

end Cert.KernelFfnIdeal.Own

namespace Cert.ReferenceFfnIdeal.Own

open Cert.ReferenceFfnIdeal Cert.ReferenceFfnIdeal.Gen Cert.Lin Finset
open Idealize.ShloMosaic Idealize.ShloMosaic.TcCoe Idealize.SL.Sem

/-- The means of the rows of an array. -/
def meanV (p : FVec Ideal S4096x1024 .f32) : FVec Ideal S4096x1 .f32 :=
  Host.divf (broadcastInDim S4096x1 ![0] bcast_S4096_S4096x1_0 (Host.reduceAdd p (constant S_ .f32 0x00000000#32) reducesTo_S4096x1024_S4096_d1 h_S_))
    (broadcastInDim S4096x1 ![] bcast_S_S4096x1 (constant S_ .f32 0x44800000#32))

def cenV (p : FVec Ideal S4096x1024 .f32) : FVec Ideal S4096x1024 .f32 :=
  subf p (broadcastInDim S4096x1024 ![0, 1] bcast_S4096x1_S4096x1024_0_1 (meanV p))

def rstdV (p : FVec Ideal S4096x1024 .f32) : FVec Ideal S4096x1 .f32 :=
  Host.rsqrt (addf (meanV (mulf (cenV p) (cenV p))) (broadcastInDim S4096x1 ![] bcast_S_S4096x1 (constant S_ .f32 0x3727C5AC#32)))

def normedV (p : FVec Ideal S4096x1024 .f32) : FVec Ideal S4096x1024 .f32 :=
  mulf (cenV p) (broadcastInDim S4096x1024 ![0, 1] bcast_S4096x1_S4096x1024_0_1 (rstdV p))

theorem meanV_grid (p : ℕ → ℕ → EReal) : meanV (grid .f32 4096 1024 p) = grid .f32 4096 1 fun i _ => mean p i := by
  refine eq_grid fun i j => ?_
  unfold meanV
  pointwise [grid_ix2]
  rfl

theorem cenV_grid (p : ℕ → ℕ → EReal) : cenV (grid .f32 4096 1024 p) = grid .f32 4096 1024 (cen p) := by
  refine eq_grid fun i j => ?_
  unfold cenV
  rw [meanV_grid]
  pointwise [grid_ix2]
  rfl

theorem rstdV_grid (p : ℕ → ℕ → EReal) : rstdV (grid .f32 4096 1024 p) = grid .f32 4096 1 fun i _ => rstd p i := by
  have e : mulf (grid .f32 4096 1024 (cen p) : FVec Ideal S4096x1024 .f32) (grid .f32 4096 1024 (cen p)) = grid .f32 4096 1024 fun i j => cen p i j * cen p i j :=
    eq_grid fun i j => by pointwise [grid_ix2]
  refine eq_grid fun i j => ?_
  unfold rstdV
  rw [cenV_grid, e, meanV_grid]
  pointwise [grid_ix2]
  rfl

theorem normedV_grid (p : ℕ → ℕ → EReal) : normedV (grid .f32 4096 1024 p) = grid .f32 4096 1024 (normed p) := by
  refine eq_grid fun i j => ?_
  unfold normedV
  rw [cenV_grid, rstdV_grid]
  pointwise [grid_ix2]
  rfl

def preV (x : FVec Ideal S4096x4096 .f32) (w : FVec Ideal S4096x1024 .f32) (r : FVec Ideal S4096x1024 .f32) : FVec Ideal S4096x1024 .f32 :=
  addf (mulf (broadcastInDim S4096x1024 ![] bcast_S_S4096x1024 (constant S_ .f32 0x3FD744FD#32)) r)
    (Host.dotGeneral dot_S4096x4096_S4096x1024_S4096x1024_1_0_0_1_n_n none (mulf (maximumf x (broadcastInDim S4096x4096 ![] bcast_S_S4096x4096 (constant S_ .f32 0x00000000#32)))
      (maximumf x (broadcastInDim S4096x4096 ![] bcast_S_S4096x4096 (constant S_ .f32 0x00000000#32)))) w)

/-- The last of the four rows of an array, on every row. -/
def lastV (g : FVec Ideal S4x1024 .f32) : FVec Ideal S4096x1024 .f32 :=
  broadcastInDim S4096x1024 ![0, 1] bcast_S1x1024_S4096x1024_0_1 (broadcastInDim S1x1024 ![1] bcast_S1024_S1x1024_1
    (shapeCast S1024 (extractStridedSlice S1x1024 ![3, 0] g slices_S4x1024_S1x1024_3_0) shapeCasts_S1x1024_S1024))

def scaledV (p : FVec Ideal S4096x1024 .f32) (g b : FVec Ideal S4x1024 .f32) : FVec Ideal S4096x1024 .f32 :=
  addf (mulf (normedV p) (lastV g)) (lastV b)

variable (X W R G B : ℕ → ℕ → EReal)

theorem preV_grid : preV (grid .f32 4096 4096 X) (grid .f32 4096 1024 W) (grid .f32 4096 1024 R) = grid .f32 4096 1024 (Cert.KernelFfnIdeal.Own.pre X W R) := by
  refine eq_grid fun i j => ?_
  unfold preV
  pointwise [grid_ix2]
  rw [sum_below fun k => max (X i.val k) 0 * max (X i.val k) 0 * W k j.val]
  rfl

theorem lastV_grid : lastV (grid .f32 4 1024 G) = grid .f32 4096 1024 fun _ j => G 3 j := by
  refine eq_grid fun i j => ?_
  unfold lastV
  pointwise [grid_ix2]

theorem scaledV_grid (p : ℕ → ℕ → EReal) : scaledV (grid .f32 4096 1024 p) (grid .f32 4 1024 G) (grid .f32 4 1024 B) = grid .f32 4096 1024 (scaled p (G 3) (B 3)) := by
  refine eq_grid fun i j => ?_
  unfold scaledV
  rw [normedV_grid, lastV_grid, lastV_grid]
  pointwise [grid_ix2]
  rfl

variable (m : (ℓ : Loc nD τ sig) → Buf (Elt Ideal) ℓ) (c : Dev nD)

/-- The arguments that the results depend on. -/
structure Args : Prop where
  x : m ((c.tc : Thread nD τ).loc main_arg0) = grid .f32 4096 4096 X
  w : m ((c.tc : Thread nD τ).loc main_arg1) = grid .f32 4096 1024 W
  r : m ((c.tc : Thread nD τ).loc main_arg2) = grid .f32 4096 1024 R
  g : m ((c.tc : Thread nD τ).loc main_arg3) = grid .f32 4 1024 G
  b : m ((c.tc : Thread nD τ).loc main_arg4) = grid .f32 4 1024 B

variable {m c X W R G B} (A : Args X W R G B m c)

include A

theorem out5 : scaledV (preV (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))
    = grid .f32 4096 1024 (scaled (Cert.KernelFfnIdeal.Own.pre X W R) (G 3) (B 3)) := by
  rw [A.x, A.w, A.r, A.g, A.b, preV_grid, scaledV_grid]

theorem out6 : truncf .bf16 (scaledV (preV (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) bitsLt_bf16_f32
    = grid .bf16 4096 1024 (scaled (Cert.KernelFfnIdeal.Own.pre X W R) (G 3) (B 3)) := by
  rw [out5 A]
  exact eq_grid fun i j => by pointwise [grid_ix2]

theorem out7 : normedV (preV (m ((c.tc : Thread nD τ).loc main_arg0)) (m ((c.tc : Thread nD τ).loc main_arg1)) (m ((c.tc : Thread nD τ).loc main_arg2)))
    = grid .f32 4096 1024 (normed (Cert.KernelFfnIdeal.Own.pre X W R)) := by
  rw [A.x, A.w, A.r, preV_grid, normedV_grid]

theorem out8 : rstdV (preV (m ((c.tc : Thread nD τ).loc main_arg0)) (m ((c.tc : Thread nD τ).loc main_arg1)) (m ((c.tc : Thread nD τ).loc main_arg2)))
    = grid .f32 4096 1 fun i _ => rstd (Cert.KernelFfnIdeal.Own.pre X W R) i := by
  rw [A.x, A.w, A.r, preV_grid, rstdV_grid]

end Cert.ReferenceFfnIdeal.Own

end
-- ==== Proof.Ffn.Claims.lean ====
/- The claims about the second product of the feed-forward network, normalized. -/
module

public import proofs.«01_k».proof.Defs
public import proofs.«01_k».proof.Proof.Ffn.Value
public import proofs.«01_k».proof.Proof.Gen.KernelFfn.Frame
public import Idealize.ShloMosaic.Lib.Quiescent

@[expose] public section

noncomputable section

namespace Cert.Ffn

open Idealize.ShloMosaic Idealize.SL.Sem

theorem frame : Cert.quiescent_KernelFfn := fun m ρ _ => KernelFfn.Gen.frame m ρ

theorem frame_ideal : Cert.quiescent_KernelFfnIdeal := fun m ρ _ => KernelFfnIdeal.Gen.frame m ρ

theorem reference_frame : Cert.quiescent_ReferenceFfnIdeal := fun m ρ _ =>
  (θ_run ReferenceFfnIdeal.defs _ _).mono (fun r h => ⟨fun c => (h c).2.2.2.2, sem_eq_zero_of_no_sems (by decide) r.2⟩)
    (ReferenceFfnIdeal.Value.run (F := Ideal) m ρ)

theorem equal : Cert.algebraic_KernelFfnIdeal_ReferenceFfnIdeal := by
  intro m g m' g' _ hagree
  refine ⟨fun c => (KernelFfnIdeal.Gen.dats m 0 c).arrAt 5 KernelFfnIdeal.cfg0.N, fun c => (KernelFfnIdeal.Gen.dats m 0 c).arrAt 6 KernelFfnIdeal.cfg0.N,
    fun c => (KernelFfnIdeal.Gen.dats m 0 c).arrAt 7 KernelFfnIdeal.cfg0.N, fun c => (KernelFfnIdeal.Gen.dats m 0 c).arrAt 8 KernelFfnIdeal.cfg0.N,
    KernelFfnIdeal.Value.run_blocks m g, ?_⟩
  refine (θ_run ReferenceFfnIdeal.defs _ _).mono (fun r h c => ?_) (ReferenceFfnIdeal.Value.run (F := Ideal) m' g')
  obtain ⟨h0, h1, h2, h3, hk⟩ := h c
  obtain ⟨a0, a1, a2, a3, a4⟩ := hagree c
  obtain ⟨X, hX⟩ := Cert.Lin.exists_grid (φ := .f32) (m ((c.tc : Thread KernelFfnIdeal.nD KernelFfnIdeal.τ).loc KernelFfnIdeal.main_arg0))
  obtain ⟨W, hW⟩ := Cert.Lin.exists_grid (φ := .f32) (m ((c.tc : Thread KernelFfnIdeal.nD KernelFfnIdeal.τ).loc KernelFfnIdeal.main_arg1))
  obtain ⟨R, hR⟩ := Cert.Lin.exists_grid (φ := .f32) (m ((c.tc : Thread KernelFfnIdeal.nD KernelFfnIdeal.τ).loc KernelFfnIdeal.main_arg2))
  obtain ⟨G, hG⟩ := Cert.Lin.exists_grid (φ := .f32) (m ((c.tc : Thread KernelFfnIdeal.nD KernelFfnIdeal.τ).loc KernelFfnIdeal.main_arg3))
  obtain ⟨B, hB⟩ := Cert.Lin.exists_grid (φ := .f32) (m ((c.tc : Thread KernelFfnIdeal.nD KernelFfnIdeal.τ).loc KernelFfnIdeal.main_arg4))
  have A : KernelFfnIdeal.Own.Args m c X W R G B := ⟨hX, hW, hR, hG, hB⟩
  have A' : ReferenceFfnIdeal.Own.Args X W R G B m' c := ⟨a0.trans hX, a1.trans hW, a2.trans hR, a3.trans hG, a4.trans hB⟩
  exact ⟨h0.trans ((ReferenceFfnIdeal.Own.out5 A').trans (KernelFfnIdeal.Own.final5 A).symm), h1.trans ((ReferenceFfnIdeal.Own.out6 A').trans (KernelFfnIdeal.Own.final6 A).symm),
    h2.trans ((ReferenceFfnIdeal.Own.out7 A').trans (KernelFfnIdeal.Own.final7 A).symm), h3.trans ((ReferenceFfnIdeal.Own.out8 A').trans (KernelFfnIdeal.Own.final8 A).symm), hk⟩

end Cert.Ffn

end
-- ==== Proof.Out.Value.lean ====
/- An output projection, normalized: what the kernel leaves and what the reference computes. -/
module

public import proofs.«01_k».proof.Proof.Lin.Norm
public import proofs.«01_k».proof.Proof.Gen.KernelOutIdeal.Value
public import proofs.«01_k».proof.Proof.Gen.ReferenceOutIdeal.Run
public import Idealize.ShloMosaic.Lib.Pipeline.ValueKit

@[expose] public section

set_option maxRecDepth 16384

noncomputable section

namespace Cert.KernelOutIdeal.Own

open Cert.KernelOutIdeal Cert.KernelOutIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (X W R G B : ℕ → ℕ → EReal)

theorem idx : ∀ t : Fin cfg0.N, win0_0.index t = ![t.val, 0] ∧ win0_1.index t = ![0, 0, 0] ∧ win0_2.index t = ![t.val, 0]
    ∧ win0_3.index t = ![3, 0, 0] ∧ win0_4.index t = ![3, 0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The arguments that the results depend on. -/
structure Args : Prop where
  x : m ((c : Thread nD τ).loc main_arg0) = grid .f32 4096 1024 X
  w : m ((c : Thread nD τ).loc main_arg1) = grid .f32 1024 1024 W
  r : m ((c : Thread nD τ).loc main_arg2) = grid .f32 4096 1024 R
  g : m ((c : Thread nD τ).loc main_arg3) = grid .f32 4 1024 G
  b : m ((c : Thread nD τ).loc main_arg4) = grid .f32 4 1024 B

/-- What is normalized: the product and the residual. -/
def pre (i j : ℕ) : EReal := Ideal.ofBits .f32 0x3FD744FD#32 * R i j + ∑ k ∈ range 1024, X i k * W k j

section point

variable (f : ℕ → ℕ → EReal) (g : ℕ → ℕ → ℕ → EReal) (h : ℕ → ℕ → EReal) (u v : ℕ → ℕ → ℕ → EReal)

/-- What a grid point normalizes. -/
def row (r c : ℕ) : EReal := Ideal.ofBits .f32 0x3FD744FD#32 * h r c + ((∑ k ∈ range 256, f r k * g 0 k c) + (∑ k ∈ range 256, f r (256 + k) * g 1 k c) + (∑ k ∈ range 256, f r (512 + k) * g 2 k c) + (∑ k ∈ range 256, f r (768 + k) * g 3 k c))

theorem sum_eq : k0_pay8 (F := Ideal) (grid .bf16 512 1024 f) (slabs .bf16 4 256 1024 g) (grid .f32 512 1024 h) (slabs .f32 1 1 1024 u) (slabs .f32 1 1 1024 v) = grid .f32 512 1024 (row f g h) := by
  unfold k0_pay8
  have p0 : (View.ld (Val := Elt Ideal) (e' := .bf16) (grid .bf16 512 1024 f) r0_0 : FVec Ideal S512x256 .bf16) = grid .bf16 512 256 fun r k => f (0 + r) (0 + k) := ld_grid f _ _
  have w0 : (View.ld (Val := Elt Ideal) (e' := .bf16) (slabs .bf16 4 256 1024 g) r0_1 : FVec Ideal S1x256x1024 .bf16) = slabs .bf16 1 256 1024 fun s r k => g (0 + s) (0 + r) (0 + k) := ld_slabs g _ _
  have p1 : (View.ld (Val := Elt Ideal) (e' := .bf16) (grid .bf16 512 1024 f) r0_2 : FVec Ideal S512x256 .bf16) = grid .bf16 512 256 fun r k => f (0 + r) (256 + k) := ld_grid f _ _
  have w1 : (View.ld (Val := Elt Ideal) (e' := .bf16) (slabs .bf16 4 256 1024 g) r0_3 : FVec Ideal S1x256x1024 .bf16) = slabs .bf16 1 256 1024 fun s r k => g (1 + s) (0 + r) (0 + k) := ld_slabs g _ _
  have p2 : (View.ld (Val := Elt Ideal) (e' := .bf16) (grid .bf16 512 1024 f) r0_4 : FVec Ideal S512x256 .bf16) = grid .bf16 512 256 fun r k => f (0 + r) (512 + k) := ld_grid f _ _
  have w2 : (View.ld (Val := Elt Ideal) (e' := .bf16) (slabs .bf16 4 256 1024 g) r0_5 : FVec Ideal S1x256x1024 .bf16) = slabs .bf16 1 256 1024 fun s r k => g (2 + s) (0 + r) (0 + k) := ld_slabs g _ _
  have p3 : (View.ld (Val := Elt Ideal) (e' := .bf16) (grid .bf16 512 1024 f) r0_6 : FVec Ideal S512x256 .bf16) = grid .bf16 512 256 fun r k => f (0 + r) (768 + k) := ld_grid f _ _
  have w3 : (View.ld (Val := Elt Ideal) (e' := .bf16) (slabs .bf16 4 256 1024 g) r0_7 : FVec Ideal S1x256x1024 .bf16) = slabs .bf16 1 256 1024 fun s r k => g (3 + s) (0 + r) (0 + k) := ld_slabs g _ _
  rw [p0, p1, p2, p3, w0, w1, w2, w3]
  have e : (View.ld (Val := Elt Ideal) (e' := .f32) (grid .f32 512 1024 h) r0_8 : FVec Ideal S512x1024 .f32) = grid .f32 512 1024 h := View.ld_unit_lit _ _ (by decide)
  rw [e]
  refine eq_grid fun r c => ?_
  unfold k0_pay6
  pointwise [grid_ix2, slabs_ix3]
  rw [sum_below fun k => f r.val k * g 0 k c.val]
  rw [sum_below fun k => f r.val (256 + k) * g 1 k c.val]
  rw [sum_below fun k => f r.val (512 + k) * g 2 k c.val]
  rw [sum_below fun k => f r.val (768 + k) * g 3 k c.val]
  rfl

theorem total_eq : k0_pay9 (F := Ideal) (grid .bf16 512 1024 f) (slabs .bf16 4 256 1024 g) (grid .f32 512 1024 h) (slabs .f32 1 1 1024 u) (slabs .f32 1 1 1024 v) = grid .f32 512 1 fun r _ => ∑ k : Fin 1024, row f g h r k.val := by
  have e8 := sum_eq f g h u v
  unfold k0_pay8 at e8
  unfold k0_pay9 k0_pay7
  rw [e8]
  refine eq_grid fun r c => ?_
  pointwise [grid_ix2]

theorem cen_eq (p : ℕ → ℕ → EReal) : k0_pay1 (F := Ideal) (grid .f32 512 1024 p) (grid .f32 512 1 fun r _ => ∑ k : Fin 1024, p r k.val) = grid .f32 512 1024 (cen p) := by
  refine eq_grid fun r c => ?_
  unfold k0_pay1
  pointwise [grid_ix2]
  rfl

theorem rstd_eq (p : ℕ → ℕ → EReal) : k0_pay2 (F := Ideal) (grid .f32 512 1024 p) (grid .f32 512 1 fun r _ => ∑ k : Fin 1024, p r k.val) = grid .f32 512 1 fun r _ => rstd p r := by
  refine eq_grid fun r c => ?_
  unfold k0_pay2
  rw [cen_eq]
  pointwise [grid_ix2]
  rfl

theorem normed_eq (p : ℕ → ℕ → EReal) : k0_pay3 (F := Ideal) (grid .f32 512 1024 p) (grid .f32 512 1 fun r _ => ∑ k : Fin 1024, p r k.val) = grid .f32 512 1024 (normed p) := by
  refine eq_grid fun r c => ?_
  unfold k0_pay3
  rw [cen_eq, rstd_eq]
  pointwise [grid_ix2]
  rfl

theorem scaled_eq (p : ℕ → ℕ → EReal) : k0_pay4 (F := Ideal) (grid .f32 512 1024 p) (grid .f32 512 1 fun r _ => ∑ k : Fin 1024, p r k.val) (slabs .f32 1 1 1024 u) (slabs .f32 1 1 1024 v)
    = grid .f32 512 1024 (scaled p (u 0 0) (v 0 0)) := by
  refine eq_grid fun r c => ?_
  unfold k0_pay4
  rw [normed_eq]
  pointwise [grid_ix2, slabs_ix3]
  rfl

theorem out5 : (out0_5 (F := Ideal) (grid .bf16 512 1024 f) (slabs .bf16 4 256 1024 g) (grid .f32 512 1024 h) (slabs .f32 1 1 1024 u) (slabs .f32 1 1 1024 v) : FVec Ideal S512x1024 .f32) = grid .f32 512 1024 (scaled (row f g h) (u 0 0) (v 0 0)) := by
  unfold out0_5
  have e3 : (View.ld (Val := Elt Ideal) (e' := .f32) (slabs .f32 1 1 1024 u) r0_9 : FVec Ideal S1x1x1024 .f32) = slabs .f32 1 1 1024 u := View.ld_unit_lit _ _ (by decide)
  have e4 : (View.ld (Val := Elt Ideal) (e' := .f32) (slabs .f32 1 1 1024 v) r0_9 : FVec Ideal S1x1x1024 .f32) = slabs .f32 1 1 1024 v := View.ld_unit_lit _ _ (by decide)
  rw [sum_eq, total_eq, e3, e4]
  exact (View.canon_cons_unit_lit _ _ [] (by decide)).trans (scaled_eq ..)

theorem out6 : (out0_6 (F := Ideal) (grid .bf16 512 1024 f) (slabs .bf16 4 256 1024 g) (grid .f32 512 1024 h) (slabs .f32 1 1 1024 u) (slabs .f32 1 1 1024 v) : FVec Ideal S512x1024 .bf16) = grid .bf16 512 1024 (scaled (row f g h) (u 0 0) (v 0 0)) := by
  unfold out0_6
  have e3 : (View.ld (Val := Elt Ideal) (e' := .f32) (slabs .f32 1 1 1024 u) r0_9 : FVec Ideal S1x1x1024 .f32) = slabs .f32 1 1 1024 u := View.ld_unit_lit _ _ (by decide)
  have e4 : (View.ld (Val := Elt Ideal) (e' := .f32) (slabs .f32 1 1 1024 v) r0_9 : FVec Ideal S1x1x1024 .f32) = slabs .f32 1 1 1024 v := View.ld_unit_lit _ _ (by decide)
  rw [sum_eq, total_eq, e3, e4]
  refine (View.canon_cons_unit_lit _ _ [] (by decide)).trans (eq_grid fun r c => ?_)
  unfold k0_pay5
  rw [scaled_eq]
  pointwise [grid_ix2]

theorem out7 : (out0_7 (F := Ideal) (grid .bf16 512 1024 f) (slabs .bf16 4 256 1024 g) (grid .f32 512 1024 h) (slabs .f32 1 1 1024 u) (slabs .f32 1 1 1024 v) : FVec Ideal S512x1024 .f32) = grid .f32 512 1024 (normed (row f g h)) := by
  unfold out0_7
  rw [sum_eq, total_eq]
  exact (View.canon_cons_unit_lit _ _ [] (by decide)).trans (normed_eq ..)

theorem out8 : (out0_8 (F := Ideal) (grid .bf16 512 1024 f) (slabs .bf16 4 256 1024 g) (grid .f32 512 1024 h) (slabs .f32 1 1 1024 u) (slabs .f32 1 1 1024 v) : FVec Ideal S512x1 .f32) = grid .f32 512 1 fun r _ => rstd (row f g h) r := by
  unfold out0_8
  rw [sum_eq, total_eq]
  exact (View.canon_cons_unit_lit _ _ [] (by decide)).trans (rstd_eq ..)

end point

variable {m c X W R G B} (A : Args m c X W R G B)

include A

theorem entry_x : V m c main_v0 = grid .bf16 4096 1024 X := by
  unfold V
  simp only [hostOps0]
  after_results
  refine eq_grid fun r c => ?_
  pointwise [A.x, grid_ix2]

theorem entry_w : V m c main_v2 = slabs .bf16 4 256 1024 fun s r k => W (s * 256 + r) k := by
  unfold V
  simp only [hostOps0]
  after_results
  refine eq_slabs fun s r k => ?_
  pointwise [A.w, grid_ix2]

theorem entry_g : V m c main_v3 = slabs .f32 4 1 1024 fun l _ k => G l k := by
  unfold V
  simp only [hostOps0]
  after_results
  refine eq_slabs fun s r k => ?_
  pointwise [A.g, grid_ix2]

theorem entry_b : V m c main_v4 = slabs .f32 4 1 1024 fun l _ k => B l k := by
  unfold V
  simp only [hostOps0]
  after_results
  refine eq_slabs fun s r k => ?_
  pointwise [A.b, grid_ix2]

theorem blk0 (t : Fin cfg0.N) : iblk m c 0 t = grid .bf16 512 1024 fun r k => X (512 * t.val + r) k := by
  funext y
  blk_simp [iblk]
  refine (congrFun (entry_x A) _).trans ?_
  refine congrArg₂ X ?_ ?_ <;> blk_simp [idx t] <;> ring

theorem blk1 (t : Fin cfg0.N) : iblk m c 1 t = slabs .bf16 4 256 1024 fun s r k => W (s * 256 + r) k := by
  funext y
  blk_simp [iblk]
  refine (congrFun (entry_w A) _).trans ?_
  refine congrArg₂ W ?_ ?_ <;> blk_simp [idx t] <;> ring

theorem blk2 (t : Fin cfg0.N) : iblk m c 2 t = grid .f32 512 1024 fun r k => R (512 * t.val + r) k := by
  funext y
  blk_simp [iblk]
  refine (congrFun ((V_main_arg2 m c).trans A.r) _).trans ?_
  refine congrArg₂ R ?_ ?_ <;> blk_simp [idx t] <;> ring

theorem blk3 (t : Fin cfg0.N) : iblk m c 3 t = slabs .f32 1 1 1024 fun _ _ k => G 3 k := by
  funext y
  blk_simp [iblk]
  refine (congrFun (entry_g A) _).trans ?_
  have := (y 0).isLt
  refine congrArg₂ G ?_ ?_ <;> blk_simp [idx t] <;> simp

theorem blk4 (t : Fin cfg0.N) : iblk m c 4 t = slabs .f32 1 1 1024 fun _ _ k => B 3 k := by
  funext y
  blk_simp [iblk]
  refine (congrFun (entry_b A) _).trans ?_
  have := (y 0).isLt
  refine congrArg₂ B ?_ ?_ <;> blk_simp [idx t] <;> simp

omit A in
/-- The rows of a grid point are rows of the whole. -/
theorem row_eq (t : ℕ) : (row (fun r k => X (512 * t + r) k) (fun s r k => W (s * 256 + r) k) fun r k => R (512 * t + r) k) = fun r j => pre X W R (512 * t + r) j := by
  funext r j
  unfold row
  simp only [Nat.zero_add, Nat.zero_mul, Nat.one_mul]
  exact congrArg (fun x : EReal => Ideal.ofBits .f32 0x3FD744FD#32 * R (512 * t + r) j + x) (sum_quarters 256 fun k => X (512 * t + r) k * W k j)

theorem final5 : (dats m 0 c).arrAt 5 cfg0.N = grid .f32 4096 1024 (scaled (pre X W R) (G 3) (B 3)) := by
  refine (dats m 0 c).arrAt_eq_of_covers 5 _ (by decide +kernel) fun t _ y => ?_
  blk_simp
  rw [after0_5, blk0 A, blk1 A, blk2 A, blk3 A, blk4 A, out5, row_eq]
  obtain ⟨r, k, rfl⟩ : ∃ (r : Fin 512) (k : Fin 1024), y = ix2 r k := ⟨_, _, eq_ix2 y⟩
  rw [grid_ix2]
  change (scaled (pre X W R) (G 3) (B 3)) (512 * t.val + r.val) k.val = _
  refine congrArg₂ (scaled (pre X W R) (G 3) (B 3)) ?_ ?_ <;> blk_simp [idx t] <;> ring

theorem final6 : (dats m 0 c).arrAt 6 cfg0.N = grid .bf16 4096 1024 (scaled (pre X W R) (G 3) (B 3)) := by
  refine (dats m 0 c).arrAt_eq_of_covers 6 _ (by decide +kernel) fun t _ y => ?_
  blk_simp
  rw [after0_6, blk0 A, blk1 A, blk2 A, blk3 A, blk4 A, out6, row_eq]
  obtain ⟨r, k, rfl⟩ : ∃ (r : Fin 512) (k : Fin 1024), y = ix2 r k := ⟨_, _, eq_ix2 y⟩
  rw [grid_ix2]
  change (scaled (pre X W R) (G 3) (B 3)) (512 * t.val + r.val) k.val = _
  refine congrArg₂ (scaled (pre X W R) (G 3) (B 3)) ?_ ?_ <;> blk_simp [idx t] <;> ring

theorem final7 : (dats m 0 c).arrAt 7 cfg0.N = grid .f32 4096 1024 (normed (pre X W R)) := by
  refine (dats m 0 c).arrAt_eq_of_covers 7 _ (by decide +kernel) fun t _ y => ?_
  blk_simp
  rw [after0_7, blk0 A, blk1 A, blk2 A, blk3 A, blk4 A, out7, row_eq]
  obtain ⟨r, k, rfl⟩ : ∃ (r : Fin 512) (k : Fin 1024), y = ix2 r k := ⟨_, _, eq_ix2 y⟩
  rw [grid_ix2]
  change (normed (pre X W R)) (512 * t.val + r.val) k.val = _
  refine congrArg₂ (normed (pre X W R)) ?_ ?_ <;> blk_simp [idx t] <;> ring

theorem final8 : (dats m 0 c).arrAt 8 cfg0.N = grid .f32 4096 1 (fun i _ => rstd (pre X W R) i) := by
  refine (dats m 0 c).arrAt_eq_of_covers 8 _ (by decide +kernel) fun t _ y => ?_
  blk_simp
  rw [after0_8, blk0 A, blk1 A, blk2 A, blk3 A, blk4 A, out8, row_eq]
  obtain ⟨r, k, rfl⟩ : ∃ (r : Fin 512) (k : Fin 1), y = ix2 r k := ⟨_, _, eq_ix2 y⟩
  rw [grid_ix2]
  change rstd (pre X W R) (512 * t.val + r.val) = _
  refine congrArg (rstd (pre X W R)) ?_
  blk_simp [idx t]
  ring

end Cert.KernelOutIdeal.Own

namespace Cert.ReferenceOutIdeal.Own

open Cert.ReferenceOutIdeal Cert.ReferenceOutIdeal.Gen Cert.Lin Finset
open Idealize.ShloMosaic Idealize.ShloMosaic.TcCoe Idealize.SL.Sem

/-- The means of the rows of an array. -/
def meanV (p : FVec Ideal S4096x1024 .f32) : FVec Ideal S4096x1 .f32 :=
  Host.divf (broadcastInDim S4096x1 ![0] bcast_S4096_S4096x1_0 (Host.reduceAdd p (constant S_ .f32 0x00000000#32) reducesTo_S4096x1024_S4096_d1 h_S_))
    (broadcastInDim S4096x1 ![] bcast_S_S4096x1 (constant S_ .f32 0x44800000#32))

def cenV (p : FVec Ideal S4096x1024 .f32) : FVec Ideal S4096x1024 .f32 :=
  subf p (broadcastInDim S4096x1024 ![0, 1] bcast_S4096x1_S4096x1024_0_1 (meanV p))

def rstdV (p : FVec Ideal S4096x1024 .f32) : FVec Ideal S4096x1 .f32 :=
  Host.rsqrt (addf (meanV (mulf (cenV p) (cenV p))) (broadcastInDim S4096x1 ![] bcast_S_S4096x1 (constant S_ .f32 0x3727C5AC#32)))

def normedV (p : FVec Ideal S4096x1024 .f32) : FVec Ideal S4096x1024 .f32 :=
  mulf (cenV p) (broadcastInDim S4096x1024 ![0, 1] bcast_S4096x1_S4096x1024_0_1 (rstdV p))

theorem meanV_grid (p : ℕ → ℕ → EReal) : meanV (grid .f32 4096 1024 p) = grid .f32 4096 1 fun i _ => mean p i := by
  refine eq_grid fun i j => ?_
  unfold meanV
  pointwise [grid_ix2]
  rfl

theorem cenV_grid (p : ℕ → ℕ → EReal) : cenV (grid .f32 4096 1024 p) = grid .f32 4096 1024 (cen p) := by
  refine eq_grid fun i j => ?_
  unfold cenV
  rw [meanV_grid]
  pointwise [grid_ix2]
  rfl

theorem rstdV_grid (p : ℕ → ℕ → EReal) : rstdV (grid .f32 4096 1024 p) = grid .f32 4096 1 fun i _ => rstd p i := by
  have e : mulf (grid .f32 4096 1024 (cen p) : FVec Ideal S4096x1024 .f32) (grid .f32 4096 1024 (cen p)) = grid .f32 4096 1024 fun i j => cen p i j * cen p i j :=
    eq_grid fun i j => by pointwise [grid_ix2]
  refine eq_grid fun i j => ?_
  unfold rstdV
  rw [cenV_grid, e, meanV_grid]
  pointwise [grid_ix2]
  rfl

theorem normedV_grid (p : ℕ → ℕ → EReal) : normedV (grid .f32 4096 1024 p) = grid .f32 4096 1024 (normed p) := by
  refine eq_grid fun i j => ?_
  unfold normedV
  rw [cenV_grid, rstdV_grid]
  pointwise [grid_ix2]
  rfl

def preV (x : FVec Ideal S4096x1024 .f32) (w : FVec Ideal S1024x1024 .f32) (r : FVec Ideal S4096x1024 .f32) : FVec Ideal S4096x1024 .f32 :=
  addf (mulf (broadcastInDim S4096x1024 ![] bcast_S_S4096x1024 (constant S_ .f32 0x3FD744FD#32)) r)
    (Host.dotGeneral dot_S4096x1024_S1024x1024_S4096x1024_1_0_0_1_n_n none x w)

/-- The last of the four rows of an array, on every row. -/
def lastV (g : FVec Ideal S4x1024 .f32) : FVec Ideal S4096x1024 .f32 :=
  broadcastInDim S4096x1024 ![0, 1] bcast_S1x1024_S4096x1024_0_1 (broadcastInDim S1x1024 ![1] bcast_S1024_S1x1024_1
    (shapeCast S1024 (extractStridedSlice S1x1024 ![3, 0] g slices_S4x1024_S1x1024_3_0) shapeCasts_S1x1024_S1024))

def scaledV (p : FVec Ideal S4096x1024 .f32) (g b : FVec Ideal S4x1024 .f32) : FVec Ideal S4096x1024 .f32 :=
  addf (mulf (normedV p) (lastV g)) (lastV b)

variable (X W R G B : ℕ → ℕ → EReal)

theorem preV_grid : preV (grid .f32 4096 1024 X) (grid .f32 1024 1024 W) (grid .f32 4096 1024 R) = grid .f32 4096 1024 (Cert.KernelOutIdeal.Own.pre X W R) := by
  refine eq_grid fun i j => ?_
  unfold preV
  pointwise [grid_ix2]
  rw [sum_below fun k => X i.val k * W k j.val]
  rfl

theorem lastV_grid : lastV (grid .f32 4 1024 G) = grid .f32 4096 1024 fun _ j => G 3 j := by
  refine eq_grid fun i j => ?_
  unfold lastV
  pointwise [grid_ix2]

theorem scaledV_grid (p : ℕ → ℕ → EReal) : scaledV (grid .f32 4096 1024 p) (grid .f32 4 1024 G) (grid .f32 4 1024 B) = grid .f32 4096 1024 (scaled p (G 3) (B 3)) := by
  refine eq_grid fun i j => ?_
  unfold scaledV
  rw [normedV_grid, lastV_grid, lastV_grid]
  pointwise [grid_ix2]
  rfl

variable (m : (ℓ : Loc nD τ sig) → Buf (Elt Ideal) ℓ) (c : Dev nD)

/-- The arguments that the results depend on. -/
structure Args : Prop where
  x : m ((c.tc : Thread nD τ).loc main_arg0) = grid .f32 4096 1024 X
  w : m ((c.tc : Thread nD τ).loc main_arg1) = grid .f32 1024 1024 W
  r : m ((c.tc : Thread nD τ).loc main_arg2) = grid .f32 4096 1024 R
  g : m ((c.tc : Thread nD τ).loc main_arg3) = grid .f32 4 1024 G
  b : m ((c.tc : Thread nD τ).loc main_arg4) = grid .f32 4 1024 B

variable {m c X W R G B} (A : Args X W R G B m c)

include A

theorem out5 : scaledV (preV (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))
    = grid .f32 4096 1024 (scaled (Cert.KernelOutIdeal.Own.pre X W R) (G 3) (B 3)) := by
  rw [A.x, A.w, A.r, A.g, A.b, preV_grid, scaledV_grid]

theorem out6 : truncf .bf16 (scaledV (preV (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) bitsLt_bf16_f32
    = grid .bf16 4096 1024 (scaled (Cert.KernelOutIdeal.Own.pre X W R) (G 3) (B 3)) := by
  rw [out5 A]
  exact eq_grid fun i j => by pointwise [grid_ix2]

theorem out7 : normedV (preV (m ((c.tc : Thread nD τ).loc main_arg0)) (m ((c.tc : Thread nD τ).loc main_arg1)) (m ((c.tc : Thread nD τ).loc main_arg2)))
    = grid .f32 4096 1024 (normed (Cert.KernelOutIdeal.Own.pre X W R)) := by
  rw [A.x, A.w, A.r, preV_grid, normedV_grid]

theorem out8 : rstdV (preV (m ((c.tc : Thread nD τ).loc main_arg0)) (m ((c.tc : Thread nD τ).loc main_arg1)) (m ((c.tc : Thread nD τ).loc main_arg2)))
    = grid .f32 4096 1 fun i _ => rstd (Cert.KernelOutIdeal.Own.pre X W R) i := by
  rw [A.x, A.w, A.r, preV_grid, rstdV_grid]

end Cert.ReferenceOutIdeal.Own

end
-- ==== Proof.Out.Claims.lean ====
/- The claims about an output projection, normalized. -/
module

public import proofs.«01_k».proof.Defs
public import proofs.«01_k».proof.Proof.Out.Value
public import proofs.«01_k».proof.Proof.Gen.KernelOut.Frame
public import Idealize.ShloMosaic.Lib.Quiescent

@[expose] public section

noncomputable section

namespace Cert.Out

open Idealize.ShloMosaic Idealize.SL.Sem

theorem frame : Cert.quiescent_KernelOut := fun m ρ _ => KernelOut.Gen.frame m ρ

theorem frame_ideal : Cert.quiescent_KernelOutIdeal := fun m ρ _ => KernelOutIdeal.Gen.frame m ρ

theorem reference_frame : Cert.quiescent_ReferenceOutIdeal := fun m ρ _ =>
  (θ_run ReferenceOutIdeal.defs _ _).mono (fun r h => ⟨fun c => (h c).2.2.2.2, sem_eq_zero_of_no_sems (by decide) r.2⟩)
    (ReferenceOutIdeal.Value.run (F := Ideal) m ρ)

theorem equal : Cert.algebraic_KernelOutIdeal_ReferenceOutIdeal := by
  intro m g m' g' _ hagree
  refine ⟨fun c => (KernelOutIdeal.Gen.dats m 0 c).arrAt 5 KernelOutIdeal.cfg0.N, fun c => (KernelOutIdeal.Gen.dats m 0 c).arrAt 6 KernelOutIdeal.cfg0.N,
    fun c => (KernelOutIdeal.Gen.dats m 0 c).arrAt 7 KernelOutIdeal.cfg0.N, fun c => (KernelOutIdeal.Gen.dats m 0 c).arrAt 8 KernelOutIdeal.cfg0.N,
    KernelOutIdeal.Value.run_blocks m g, ?_⟩
  refine (θ_run ReferenceOutIdeal.defs _ _).mono (fun r h c => ?_) (ReferenceOutIdeal.Value.run (F := Ideal) m' g')
  obtain ⟨h0, h1, h2, h3, hk⟩ := h c
  obtain ⟨a0, a1, a2, a3, a4⟩ := hagree c
  obtain ⟨X, hX⟩ := Cert.Lin.exists_grid (φ := .f32) (m ((c.tc : Thread KernelOutIdeal.nD KernelOutIdeal.τ).loc KernelOutIdeal.main_arg0))
  obtain ⟨W, hW⟩ := Cert.Lin.exists_grid (φ := .f32) (m ((c.tc : Thread KernelOutIdeal.nD KernelOutIdeal.τ).loc KernelOutIdeal.main_arg1))
  obtain ⟨R, hR⟩ := Cert.Lin.exists_grid (φ := .f32) (m ((c.tc : Thread KernelOutIdeal.nD KernelOutIdeal.τ).loc KernelOutIdeal.main_arg2))
  obtain ⟨G, hG⟩ := Cert.Lin.exists_grid (φ := .f32) (m ((c.tc : Thread KernelOutIdeal.nD KernelOutIdeal.τ).loc KernelOutIdeal.main_arg3))
  obtain ⟨B, hB⟩ := Cert.Lin.exists_grid (φ := .f32) (m ((c.tc : Thread KernelOutIdeal.nD KernelOutIdeal.τ).loc KernelOutIdeal.main_arg4))
  have A : KernelOutIdeal.Own.Args m c X W R G B := ⟨hX, hW, hR, hG, hB⟩
  have A' : ReferenceOutIdeal.Own.Args X W R G B m' c := ⟨a0.trans hX, a1.trans hW, a2.trans hR, a3.trans hG, a4.trans hB⟩
  exact ⟨h0.trans ((ReferenceOutIdeal.Own.out5 A').trans (KernelOutIdeal.Own.final5 A).symm), h1.trans ((ReferenceOutIdeal.Own.out6 A').trans (KernelOutIdeal.Own.final6 A).symm),
    h2.trans ((ReferenceOutIdeal.Own.out7 A').trans (KernelOutIdeal.Own.final7 A).symm), h3.trans ((ReferenceOutIdeal.Own.out8 A').trans (KernelOutIdeal.Own.final8 A).symm), hk⟩

end Cert.Out

end
-- ==== Proof.Ln.Value.lean ====
/- The gradient of a normalization whose scaled rows' gradient is given: what the kernel leaves and what the reference computes. -/
module

public import proofs.«01_k».proof.Proof.Norm.Value
public import proofs.«01_k».proof.Proof.Gen.KernelLnIdeal.Value
public import proofs.«01_k».proof.Proof.Gen.ReferenceLnIdeal.Run

@[expose] public section

set_option maxRecDepth 16384

noncomputable section

namespace Cert.KernelLnIdeal.Own

open Cert.KernelLnIdeal Cert.KernelLnIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (P G Y : ℕ → ℕ → EReal)

theorem idx : ∀ t : Fin cfg0.N, win0_0.index t = ![t.val, 0] ∧ win0_1.index t = ![t.val, 0] ∧ win0_2.index t = ![t.val, 0]
    ∧ win0_3.index t = ![2, 0, 0] ∧ win0_4.index t = ![t.val, 0] ∧ win0_5.index t = ![t.val, 0] ∧ win0_6.index t = ![0, 0] ∧ win0_7.index t = ![0, 0] :=
  (by decide +kernel : ∀ t : Fin grid0.N, _)

/-- The arguments that the results depend on. -/
structure Args : Prop where
  p : m ((c : Thread nD τ).loc main_arg0) = grid .f32 4096 1024 P
  g : m ((c : Thread nD τ).loc main_arg1) = grid .f32 4 1024 G
  y : m ((c : Thread nD τ).loc main_arg3) = grid .f32 4096 1024 Y

/-- The gradient of the normalized rows. -/
def dn (i j : ℕ) : EReal := Y i j * G 2 j

/-- The gradient of the gains. -/
def dg (j : ℕ) : EReal := ∑ i ∈ range 4096, Y i j * normed P i j

/-- The gradient of the shifts. -/
def db (j : ℕ) : EReal := ∑ i ∈ range 4096, Y i j

section point

/-- The gradient of a block's rows before the normalization. -/
def drV (y : FVec Ideal S512x1024 .f32) (x1 : Vec Ideal S512x1024 .f32) (x2 : Vec Ideal S512x1 .f32) (x3 : Vec Ideal S1x1x1024 .f32) : FVec Ideal S512x1024 .f32 :=
  k0_pay1 (k0_pay5 x1) (k0_pay8 y x3) (k0_pay9 y x3) (k0_pay10 y x1 x3) x2

variable (u : ℕ → ℕ → ℕ → EReal) (y x s a : ℕ → ℕ → EReal)

theorem scaled_grid : k0_pay8 (F := Ideal) (grid .f32 512 1024 y) (slabs .f32 1 1 1024 u) = grid .f32 512 1024 fun r c => y r c * u 0 0 c :=
  Cert.KernelNormIdeal.Own.scaled_grid ..

theorem kept_grid : k0_pay5 (F := Ideal) (grid .f32 512 1024 x) = grid .f32 512 1024 x := by
  refine eq_grid fun r c => ?_
  unfold k0_pay5
  pointwise [grid_ix2]

theorem drV_grid : drV (grid .f32 512 1024 y) (grid .f32 512 1024 x) (grid .f32 512 1 s) (slabs .f32 1 1 1024 u)
    = grid .f32 512 1024 (rowGrad (fun r c => y r c * u 0 0 c) x (fun r => s r 0)) := by
  have e9 : k0_pay9 (F := Ideal) (grid .f32 512 1024 y) (slabs .f32 1 1 1024 u) = grid .f32 512 1 fun r _ => mean (fun r c => y r c * u 0 0 c) r := by
    refine eq_grid fun r c => ?_
    unfold k0_pay9
    rw [scaled_grid]
    pointwise [grid_ix2]
    rfl
  have e10 : k0_pay10 (F := Ideal) (grid .f32 512 1024 y) (grid .f32 512 1024 x) (slabs .f32 1 1 1024 u)
      = grid .f32 512 1 fun r _ => mean (fun r c => y r c * u 0 0 c * x r c) r := by
    refine eq_grid fun r c => ?_
    unfold k0_pay10
    rw [scaled_grid, kept_grid]
    pointwise [grid_ix2]
    rfl
  unfold drV
  rw [scaled_grid, kept_grid, e9, e10]
  refine eq_grid fun r c => ?_
  unfold k0_pay1
  pointwise [grid_ix2]
  rfl

theorem shift_grid : k0_pay6 (F := Ideal) (grid .f32 512 1024 y) (grid .f32 1 1024 a) = grid .f32 1 1024 fun r c => a r c + ∑ k ∈ range 512, y k c :=
  Cert.KernelNormIdeal.Own.shift_grid ..

theorem gain_grid : k0_pay7 (F := Ideal) (grid .f32 512 1024 y) (grid .f32 512 1024 x) (grid .f32 1 1024 a)
    = grid .f32 1 1024 fun r c => a r c + ∑ k ∈ range 512, y k c * x k c := by
  refine eq_grid fun r c => ?_
  unfold k0_pay7
  rw [kept_grid]
  pointwise [grid_ix2]
  rw [sum_below fun k => y k c.val * x k c.val]

theorem zero3_grid : k0_pay3 (F := Ideal) = grid .f32 1 1024 fun _ _ => 0 :=
  Cert.KernelNormIdeal.Own.zero4_grid

theorem zero4_grid : k0_pay4 (F := Ideal) = grid .f32 1 1024 fun _ _ => 0 :=
  Cert.KernelNormIdeal.Own.zero5_grid

end point

section cases

variable (t : Fin cfg0.N) (x0 x1 : Vec Ideal S512x1024 .f32) (x2 : Vec Ideal S512x1 .f32) (x3 : Vec Ideal S1x1x1024 .f32) (x6 x7 : Vec Ideal S1x1024 .f32)

theorem out_A4 (h0) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h0 x0 x1 x2 x3
      = drV x0 x1 x2 x3 := by
  frame_out <;> rfl

theorem out_A5 (h0) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h0 x0 x1 x2 x3
      = truncf .bf16 (drV x0 x1 x2 x3) bitsLt_bf16_f32 := by
  frame_out <;> rfl

theorem out_A6 (h0) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h0 x0 x1 x2 x3
      = k0_pay7 x0 x1 (k0_pay3 : FVec Ideal S1x1024 .f32) := by
  frame_out <;> rfl

theorem out_A7 (h0) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h0 x0 x1 x2 x3
      = k0_pay6 x0 (k0_pay4 : FVec Ideal S1x1024 .f32) := by
  frame_out <;> rfl

theorem out_B4 (h0) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h0 x0 x1 x2 x3 x6 x7
      = drV x0 x1 x2 x3 := by
  frame_out <;> rfl

theorem out_B5 (h0) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h0 x0 x1 x2 x3 x6 x7
      = truncf .bf16 (drV x0 x1 x2 x3) bitsLt_bf16_f32 := by
  frame_out <;> rfl

theorem out_B6 (h0) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h0 x0 x1 x2 x3 x6 x7
      = k0_pay7 x0 x1 x6 := by
  frame_out <;> rfl

theorem out_B7 (h0) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) h0 x0 x1 x2 x3 x6 x7
      = k0_pay6 x0 x7 := by
  frame_out <;> rfl

end cases

variable {m c P G Y} (A : Args m c P G Y)

include A

theorem entry_n : V m c main_v17 = grid .f32 4096 1024 (normed P) := by
  unfold V
  simp only [hostOps0]
  after_results
  rw [A.p]
  exact Cert.KernelNormIdeal.Own.normedV_grid P

theorem entry_s : V m c main_v13 = grid .f32 4096 1 fun i _ => rstd P i := by
  unfold V
  simp only [hostOps0]
  after_results
  rw [A.p]
  exact Cert.KernelNormIdeal.Own.rstdV_grid P

theorem entry_g : V m c main_v18 = slabs .f32 4 1 1024 fun l _ k => G l k := by
  unfold V
  simp only [hostOps0]
  after_results
  refine eq_slabs fun s r k => ?_
  pointwise [A.g, grid_ix2]

theorem blk0 (t : Fin cfg0.N) : iblk m c 0 t = grid .f32 512 1024 fun r k => Y (512 * t.val + r) k := by
  funext y
  blk_simp [iblk]
  refine (congrFun ((V_main_arg3 m c).trans A.y) _).trans ?_
  refine congrArg₂ Y ?_ ?_ <;> blk_simp [idx t] <;> ring

theorem blk1 (t : Fin cfg0.N) : iblk m c 1 t = grid .f32 512 1024 fun r k => normed P (512 * t.val + r) k := by
  funext y
  blk_simp [iblk]
  refine (congrFun (entry_n A) _).trans ?_
  refine congrArg₂ (normed P) ?_ ?_ <;> blk_simp [idx t] <;> ring

theorem blk2 (t : Fin cfg0.N) : iblk m c 2 t = grid .f32 512 1 fun r _ => rstd P (512 * t.val + r) := by
  funext y
  blk_simp [iblk]
  refine (congrFun (entry_s A) _).trans ?_
  refine congrArg (rstd P) ?_
  blk_simp [idx t]
  ring

theorem blk3 (t : Fin cfg0.N) : iblk m c 3 t = slabs .f32 1 1 1024 fun _ _ k => G 2 k := by
  funext y
  blk_simp [iblk]
  refine (congrFun (entry_g A) _).trans ?_
  have := (y 0).isLt
  refine congrArg₂ G ?_ ?_ <;> blk_simp [idx t] <;> simp

/-- The gradient that a grid point leaves of its rows. -/
theorem dr_blk (t : Fin cfg0.N) : drV (iblk m c 0 t) (iblk m c 1 t) (iblk m c 2 t) (iblk m c 3 t)
    = grid .f32 512 1024 fun r j => rowGrad (dn G Y) (normed P) (rstd P) (512 * t.val + r) j := by
  rw [blk0 A, blk1 A, blk2 A, blk3 A]
  exact drV_grid ..

theorem after4 (t : Fin cfg0.N) : (outsAt0 m c t.val t.isLt).1 = grid .f32 512 1024 fun r j => rowGrad (dn G Y) (normed P) (rstd P) (512 * t.val + r) j := by
  by_cases h : t.val % 8 = 0
  · rw [outsAt0_A m c t h]
    dsimp only
    rw [out_A4]
    exact dr_blk A t
  · rw [outsAt0_B m c t h]
    dsimp only
    rw [out_B4]
    exact dr_blk A t

theorem after5 (t : Fin cfg0.N) : (outsAt0 m c t.val t.isLt).2.1 = grid .bf16 512 1024 fun r j => rowGrad (dn G Y) (normed P) (rstd P) (512 * t.val + r) j := by
  have e : truncf .bf16 (drV (iblk m c 0 t) (iblk m c 1 t) (iblk m c 2 t) (iblk m c 3 t)) bitsLt_bf16_f32
      = grid .bf16 512 1024 fun r j => rowGrad (dn G Y) (normed P) (rstd P) (512 * t.val + r) j := by
    rw [dr_blk A]
    exact eq_grid fun i j => by pointwise [grid_ix2]
  by_cases h : t.val % 8 = 0
  · rw [outsAt0_A m c t h]
    dsimp only
    rw [out_A5]
    exact e
  · rw [outsAt0_B m c t h]
    dsimp only
    rw [out_B5]
    exact e

/-- What the sums hold after a grid point. -/
theorem sums : ∀ (n : ℕ) (h : n < cfg0.N), (outsAt0 m c n h).2.2.1 = grid .f32 1 1024 (fun _ j => ∑ i ∈ range (512 * (n + 1)), Y i j * normed P i j)
    ∧ (outsAt0 m c n h).2.2.2 = grid .f32 1 1024 (fun _ j => ∑ i ∈ range (512 * (n + 1)), Y i j) := by
  intro n
  induction n with
  | zero =>
    intro h
    have e := outsAt0_A m c ⟨0, h⟩ rfl
    dsimp only at e
    rw [e]
    dsimp only
    rw [out_A6, out_A7, blk0 A, blk1 A, zero3_grid, zero4_grid, gain_grid, shift_grid]
    simp only [zero_add, Nat.mul_zero, Nat.mul_one, and_self]
  | succ n ih =>
    intro h
    obtain ⟨i6, i7⟩ := ih (Nat.lt_of_succ_lt h)
    have hn : ¬(n + 1) % 8 = 0 := by
      have : n + 1 < 8 := h
      omega
    have e := outsAt0_B m c ⟨n + 1, h⟩ hn
    dsimp only at e
    rw [e]
    dsimp only [Nat.add_sub_cancel]
    rw [out_B6, out_B7, blk0 A, blk1 A]
    refine ⟨(congrArg (k0_pay7 _ _) i6).trans ((gain_grid ..).trans (congrArg _ ?_)), (congrArg (k0_pay6 _) i7).trans ((shift_grid ..).trans (congrArg _ ?_))⟩
    · funext _ j
      exact (sum_range_add (fun i => Y i j * normed P i j) (512 * (n + 1)) 512).symm
    · funext _ j
      exact (sum_range_add (fun i => Y i j) (512 * (n + 1)) 512).symm

theorem final4 : (dats m 0 c).arrAt 4 cfg0.N = grid .f32 4096 1024 (rowGrad (dn G Y) (normed P) (rstd P)) := by
  refine (dats m 0 c).arrAt_eq_of_covers 4 _ (by decide +kernel) fun t _ y => ?_
  blk_simp
  rw [after0_4, after4 A]
  obtain ⟨r, k, rfl⟩ : ∃ (r : Fin 512) (k : Fin 1024), y = ix2 r k := ⟨_, _, eq_ix2 y⟩
  rw [grid_ix2]
  change (rowGrad (dn G Y) (normed P) (rstd P)) (512 * t.val + r.val) k.val = _
  refine congrArg₂ (rowGrad (dn G Y) (normed P) (rstd P)) ?_ ?_ <;> blk_simp [idx t] <;> ring

theorem final5 : (dats m 0 c).arrAt 5 cfg0.N = grid .bf16 4096 1024 (rowGrad (dn G Y) (normed P) (rstd P)) := by
  refine (dats m 0 c).arrAt_eq_of_covers 5 _ (by decide +kernel) fun t _ y => ?_
  blk_simp
  rw [after0_5, after5 A]
  obtain ⟨r, k, rfl⟩ : ∃ (r : Fin 512) (k : Fin 1024), y = ix2 r k := ⟨_, _, eq_ix2 y⟩
  rw [grid_ix2]
  change (rowGrad (dn G Y) (normed P) (rstd P)) (512 * t.val + r.val) k.val = _
  refine congrArg₂ (rowGrad (dn G Y) (normed P) (rstd P)) ?_ ?_ <;> blk_simp [idx t] <;> ring

theorem final6 : (dats m 0 c).arrAt 6 cfg0.N = grid .f32 1 1024 (fun _ => dg P Y) := by
  refine (dats m 0 c).arrAt_eq_of_covers 6 _ (by decide +kernel) fun t ht y => ?_
  have h7 : t.val = 7 := by
    have h1 := (flush0_6 t).mp ht
    have h2 : t.val < 8 := t.isLt
    omega
  blk_simp
  rw [after0_6, (sums A t.val t.isLt).1, h7]
  obtain ⟨r, k, rfl⟩ : ∃ (r : Fin 1) (k : Fin 1024), y = ix2 r k := ⟨_, _, eq_ix2 y⟩
  rw [grid_ix2]
  change dg P Y k.val = _
  refine congrArg (dg P Y) ?_
  blk_simp [idx t]

theorem final7 : (dats m 0 c).arrAt 7 cfg0.N = grid .f32 1 1024 (fun _ => db Y) := by
  refine (dats m 0 c).arrAt_eq_of_covers 7 _ (by decide +kernel) fun t ht y => ?_
  have h7 : t.val = 7 := by
    have h1 := (flush0_7 t).mp ht
    have h2 : t.val < 8 := t.isLt
    omega
  blk_simp
  rw [after0_7, (sums A t.val t.isLt).2, h7]
  obtain ⟨r, k, rfl⟩ : ∃ (r : Fin 1) (k : Fin 1024), y = ix2 r k := ⟨_, _, eq_ix2 y⟩
  rw [grid_ix2]
  change db Y k.val = _
  refine congrArg (db Y) ?_
  blk_simp [idx t]

end Cert.KernelLnIdeal.Own

namespace Cert.ReferenceLnIdeal.Own

open Cert.ReferenceLnIdeal Cert.ReferenceLnIdeal.Gen Cert.Lin Finset
open Idealize.ShloMosaic Idealize.ShloMosaic.TcCoe Idealize.SL.Sem
open Cert.KernelLnIdeal.Own (dn dg db)
open Cert.ReferenceNormIdeal.Own (gradV gradV_grid normedV normedV_grid colV colV_grid mulV_grid)

def yV (y : FVec Ideal S4096x1024 .f32) : FVec Ideal S4096x1024 .f32 := shapeCast S4096x1024 y shapeCasts_S4096x1024_S4096x1024

def dnV (y : FVec Ideal S4096x1024 .f32) (g : FVec Ideal S4x1024 .f32) : FVec Ideal S4096x1024 .f32 :=
  mulf y (broadcastInDim S4096x1024 ![0, 1] bcast_S1x1024_S4096x1024_0_1 (broadcastInDim S1x1024 ![1] bcast_S1024_S1x1024_1
    (shapeCast S1024 (extractStridedSlice S1x1024 ![2, 0] g slices_S4x1024_S1x1024_2_0) shapeCasts_S1x1024_S1024)))

theorem yV_grid (y : ℕ → ℕ → EReal) : yV (grid .f32 4096 1024 y) = grid .f32 4096 1024 y := by
  refine eq_grid fun i j => ?_
  unfold yV
  pointwise [grid_ix2]

theorem dnV_grid (y G : ℕ → ℕ → EReal) : dnV (grid .f32 4096 1024 y) (grid .f32 4 1024 G) = grid .f32 4096 1024 fun i j => y i j * G 2 j := by
  refine eq_grid fun i j => ?_
  unfold dnV
  pointwise [grid_ix2]

variable (P G Y : ℕ → ℕ → EReal)
variable (m : (ℓ : Loc nD τ sig) → Buf (Elt Ideal) ℓ) (c : Dev nD)

/-- The arguments that the results depend on. -/
structure Args : Prop where
  p : m ((c.tc : Thread nD τ).loc main_arg0) = grid .f32 4096 1024 P
  g : m ((c.tc : Thread nD τ).loc main_arg1) = grid .f32 4 1024 G
  y : m ((c.tc : Thread nD τ).loc main_arg3) = grid .f32 4096 1024 Y

variable {m c P G Y} (A : Args P G Y m c)

include A

theorem out0 : gradV (m ((c.tc : Thread nD τ).loc main_arg0)) (dnV (yV (m ((c.tc : Thread nD τ).loc main_arg3))) (m ((c.tc : Thread nD τ).loc main_arg1)))
    = grid .f32 4096 1024 (ruleGrad P (dn G Y)) := by
  rw [A.p, A.y, A.g, yV_grid, dnV_grid]
  exact gradV_grid P (dn G Y)

theorem out1 : truncf .bf16 (gradV (m ((c.tc : Thread nD τ).loc main_arg0)) (dnV (yV (m ((c.tc : Thread nD τ).loc main_arg3))) (m ((c.tc : Thread nD τ).loc main_arg1)))) bitsLt_bf16_f32
    = grid .bf16 4096 1024 (ruleGrad P (dn G Y)) := by
  rw [out0 A]
  exact eq_grid fun i j => by pointwise [grid_ix2]

theorem out2 : colV (mulf (normedV (m ((c.tc : Thread nD τ).loc main_arg0))) (yV (m ((c.tc : Thread nD τ).loc main_arg3))))
    = grid .f32 1 1024 fun _ => dg P Y := by
  rw [A.p, A.y, yV_grid, normedV_grid, mulV_grid, colV_grid]
  refine congrArg _ (funext fun _ => funext fun j => sum_congr rfl fun i _ => mul_comm _ _)

theorem out3 : colV (m ((c.tc : Thread nD τ).loc main_arg3)) = grid .f32 1 1024 fun _ => db Y := by
  rw [A.y, colV_grid]
  rfl

end Cert.ReferenceLnIdeal.Own

end
-- ==== Proof.Ln.Finite.lean ====
/- The precondition of a normalization's gradient: arguments whose entries are all real. -/
module

public import proofs.«01_k».proof.Pre_finite_ln
public import proofs.«01_k».proof.Proof.Lin.Finite

@[expose] public section

set_option maxRecDepth 16384

noncomputable section

namespace Cert.Pre_finite_ln

open Idealize.ShloMosaic Cert.Lin

instance facts : Cert.Pre_finite_ln.Facts where
  bcast_S_S4096x1024 := by decide
  reducesTo_S4096x1024_S_d0_1 := by decide
  h_S_ := by decide
  bcast_S_S4x1024 := by decide
  reducesTo_S4x1024_S_d0_1 := by decide

open Facts

theorem reals {p y : FVec Ideal S4096x1024 .f32} {g b : FVec Ideal S4x1024 .f32} (h : fn (F := Ideal) p g b y = fun _ => 1#1) :
    (∃ f : ℕ → ℕ → ℝ, p = grid .f32 4096 1024 fun i j => ((f i j : ℝ) : EReal)) ∧ (∃ f : ℕ → ℕ → ℝ, g = grid .f32 4 1024 fun i j => ((f i j : ℝ) : EReal))
    ∧ ∃ f : ℕ → ℕ → ℝ, y = grid .f32 4096 1024 fun i j => ((f i j : ℝ) : EReal) := by
  have e : IntOp.andi (IntOp.andi (allReal bcast_S_S4096x1024 reducesTo_S4096x1024_S_d0_1 h_S_ p ix0) (allReal bcast_S_S4x1024 reducesTo_S4x1024_S_d0_1 h_S_ g ix0))
      (allReal bcast_S_S4096x1024 reducesTo_S4096x1024_S_d0_1 h_S_ y ix0) = 1#1 := congrFun h ix0
  obtain ⟨e, e3⟩ := both_one _ _ e
  obtain ⟨e0, e1⟩ := both_one _ _ e
  exact ⟨real_of_all e0, real_of_all e1, real_of_all e3⟩

end Cert.Pre_finite_ln

end
-- ==== Proof.Ln.Claims.lean ====
/- The claims about a normalization's gradient. -/
module

public import proofs.«01_k».proof.Defs
public import proofs.«01_k».proof.Proof.Ln.Value
public import proofs.«01_k».proof.Proof.Ln.Finite
public import proofs.«01_k».proof.Proof.Gen.KernelLn.Frame
public import Idealize.ShloMosaic.Lib.Quiescent

@[expose] public section

noncomputable section

namespace Cert.Ln

open Idealize.ShloMosaic Idealize.SL.Sem

theorem frame : Cert.quiescent_KernelLn := fun m ρ _ => KernelLn.Gen.frame m ρ

theorem frame_ideal : Cert.quiescent_KernelLnIdeal := fun m ρ _ => KernelLnIdeal.Gen.frame m ρ

theorem frame_ideal_pre : Cert.quiescent_KernelLnIdeal_pre_finite_ln := fun m ρ _ => KernelLnIdeal.Gen.frame m ρ

theorem reference_frame : Cert.quiescent_ReferenceLnIdeal := fun m ρ _ =>
  (θ_run ReferenceLnIdeal.defs _ _).mono (fun r h => ⟨fun c => (h c).2.2.2.2, sem_eq_zero_of_no_sems (by decide) r.2⟩)
    (ReferenceLnIdeal.Value.run (F := Ideal) m ρ)

theorem reference_frame_pre : Cert.quiescent_ReferenceLnIdeal_pre_finite_ln := fun m ρ _ => reference_frame m ρ trivial

/-- With real arguments both forms of the gradient agree. -/
theorem grads (p g y : ℕ → ℕ → ℝ) :
    Cert.Lin.ruleGrad (fun i j => ((p i j : ℝ) : EReal)) (KernelLnIdeal.Own.dn (fun i j => ((g i j : ℝ) : EReal)) fun i j => ((y i j : ℝ) : EReal))
      = Cert.Lin.rowGrad (KernelLnIdeal.Own.dn (fun i j => ((g i j : ℝ) : EReal)) fun i j => ((y i j : ℝ) : EReal))
        (Cert.Lin.normed fun i j => ((p i j : ℝ) : EReal)) (Cert.Lin.rstd fun i j => ((p i j : ℝ) : EReal)) := by
  have e : KernelLnIdeal.Own.dn (fun i j => ((g i j : ℝ) : EReal)) (fun i j => ((y i j : ℝ) : EReal)) = fun i j => ((y i j * g 2 j : ℝ) : EReal) := by
    funext i j
    unfold KernelLnIdeal.Own.dn
    rw [← EReal.coe_mul]
  rw [e]
  funext i j
  exact Cert.Lin.grad_eq p _ i j

theorem equal : Cert.algebraic_KernelLnIdeal_ReferenceLnIdeal_pre_finite_ln := by
  intro m g m' g' hpre hagree
  refine ⟨fun c => (KernelLnIdeal.Gen.dats m 0 c).arrAt 4 KernelLnIdeal.cfg0.N, fun c => (KernelLnIdeal.Gen.dats m 0 c).arrAt 5 KernelLnIdeal.cfg0.N,
    fun c => (KernelLnIdeal.Gen.dats m 0 c).arrAt 6 KernelLnIdeal.cfg0.N, fun c => (KernelLnIdeal.Gen.dats m 0 c).arrAt 7 KernelLnIdeal.cfg0.N,
    KernelLnIdeal.Value.run_blocks m g, ?_⟩
  refine (θ_run ReferenceLnIdeal.defs _ _).mono (fun r h c => ?_) (ReferenceLnIdeal.Value.run (F := Ideal) m' g')
  obtain ⟨h0, h1, h2, h3, hk⟩ := h c
  obtain ⟨ap, ag, _, ay⟩ := hagree c
  obtain ⟨⟨P, hP⟩, ⟨G, hG⟩, ⟨Y, hY⟩⟩ := Cert.Pre_finite_ln.reals (hpre c)
  have A : KernelLnIdeal.Own.Args m c (fun i j => ((P i j : ℝ) : EReal)) (fun i j => ((G i j : ℝ) : EReal)) (fun i j => ((Y i j : ℝ) : EReal)) :=
    ⟨hP, hG, hY⟩
  have A' : ReferenceLnIdeal.Own.Args (fun i j => ((P i j : ℝ) : EReal)) (fun i j => ((G i j : ℝ) : EReal)) (fun i j => ((Y i j : ℝ) : EReal)) m' c :=
    ⟨ap.trans hP, ag.trans hG, ay.trans hY⟩
  exact ⟨h0.trans ((ReferenceLnIdeal.Own.out0 A').trans ((congrArg _ (grads P G Y)).trans (KernelLnIdeal.Own.final4 A).symm)),
    h1.trans ((ReferenceLnIdeal.Own.out1 A').trans ((congrArg _ (grads P G Y)).trans (KernelLnIdeal.Own.final5 A).symm)),
    h2.trans ((ReferenceLnIdeal.Own.out2 A').trans (KernelLnIdeal.Own.final6 A).symm),
    h3.trans ((ReferenceLnIdeal.Own.out3 A').trans (KernelLnIdeal.Own.final7 A).symm), hk⟩

end Cert.Ln

end
-- ==== Proof.Head.Value.lean ====
/- The squared error of the last normalization and its gradient: what the kernel leaves and what the reference computes. -/
module

public import proofs.«01_k».proof.Proof.Norm.Value
public import proofs.«01_k».proof.Proof.Gen.KernelHeadIdeal.Value
public import proofs.«01_k».proof.Proof.Gen.ReferenceHeadIdeal.Run

@[expose] public section

set_option maxRecDepth 16384

noncomputable section

namespace Cert.KernelHeadIdeal.Own

open Cert.KernelHeadIdeal Cert.KernelHeadIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (P G B T : ℕ → ℕ → EReal)

theorem idx : ∀ t : Fin cfg0.N, win0_0.index t = ![t.val, 0] ∧ win0_1.index t = ![t.val, 0] ∧ win0_2.index t = ![t.val, 0]
    ∧ win0_3.index t = ![3, 0, 0] ∧ win0_4.index t = ![t.val, 0] ∧ win0_5.index t = ![t.val, 0] ∧ win0_6.index t = ![t.val, 0] ∧ win0_7.index t = ![0, 0]
    ∧ win0_8.index t = ![0, 0] ∧ win0_9.index t = ![0, 0] :=
  (by decide +kernel : ∀ t : Fin grid0.N, _)

/-- The arguments that the results depend on. -/
structure Args : Prop where
  p : m ((c : Thread nD τ).loc main_arg0) = grid .f32 4096 1024 P
  g : m ((c : Thread nD τ).loc main_arg1) = grid .f32 4 1024 G
  b : m ((c : Thread nD τ).loc main_arg2) = grid .f32 4 1024 B
  t : m ((c : Thread nD τ).loc main_arg3) = grid .f32 4096 1024 T

/-- The normalized rows, scaled and shifted. -/
def yh (i j : ℕ) : EReal := normed P i j * G 3 j + B 3 j

/-- What the rows differ by from the target. -/
def er (i j : ℕ) : EReal := yh P G B i j - T i j

/-- The gradient of the scaled rows. -/
def dy (i j : ℕ) : EReal := er P G B T i j * Ideal.ofBits .f32 0x3A800000#32

/-- The gradient of the normalized rows. -/
def dn (i j : ℕ) : EReal := dy P G B T i j * G 3 j

/-- The gradient of the gains. -/
def dg (j : ℕ) : EReal := ∑ i ∈ range 4096, dy P G B T i j * normed P i j

/-- The gradient of the shifts. -/
def db (j : ℕ) : EReal := ∑ i ∈ range 4096, dy P G B T i j

/-- The sum of the squared errors of a row. -/
def sq (i : ℕ) : EReal := ∑ j ∈ range 1024, er P G B T i j * er P G B T i j

/-- Row 3 of an array, on every row. -/
def rowV (g : FVec Ideal S4x1024 .f32) : FVec Ideal S4096x1024 .f32 :=
  broadcastInDim S4096x1024 ![0, 1] bcast_S1x1024_S4096x1024_0_1 (broadcastInDim S1x1024 ![1] bcast_S1024_S1x1024_1
    (shapeCast S1024 (extractStridedSlice S1x1024 ![3, 0] g slices_S4x1024_S1x1024_3_0) shapeCasts_S1x1024_S1024))

theorem rowV_grid (G : ℕ → ℕ → EReal) : rowV (grid .f32 4 1024 G) = grid .f32 4096 1024 fun _ j => G 3 j := by
  refine eq_grid fun i j => ?_
  unfold rowV
  pointwise [grid_ix2]

section point

/-- The gradient of a block's rows before the normalization. -/
def drV (x0 x4 x1 : Vec Ideal S512x1024 .f32) (x2 : Vec Ideal S512x1 .f32) (x3 : Vec Ideal S1x1x1024 .f32) : FVec Ideal S512x1024 .f32 :=
  k0_pay2 (k0_pay7 x0 x4) (k0_pay10 x1) x3 x2

variable (u : ℕ → ℕ → ℕ → EReal) (y x s a e : ℕ → ℕ → EReal)

theorem less_grid : k0_pay5 (F := Ideal) (grid .f32 512 1024 y) (grid .f32 512 1024 e) = grid .f32 512 1024 fun r c => y r c - e r c := by
  refine eq_grid fun r c => ?_
  unfold k0_pay5
  pointwise [grid_ix2]

theorem part_grid : k0_pay7 (F := Ideal) (grid .f32 512 1024 y) (grid .f32 512 1024 e) = grid .f32 512 1024 fun r c => (y r c - e r c) * Ideal.ofBits .f32 0x3A800000#32 := by
  refine eq_grid fun r c => ?_
  unfold k0_pay7
  rw [less_grid]
  pointwise [grid_ix2]

theorem kept_grid : k0_pay10 (F := Ideal) (grid .f32 512 1024 x) = grid .f32 512 1024 x := by
  refine eq_grid fun r c => ?_
  unfold k0_pay10
  pointwise [grid_ix2]

theorem drV_grid : drV (grid .f32 512 1024 y) (grid .f32 512 1024 e) (grid .f32 512 1024 x) (grid .f32 512 1 s) (slabs .f32 1 1 1024 u)
    = grid .f32 512 1024 (rowGrad (fun r c => (y r c - e r c) * Ideal.ofBits .f32 0x3A800000#32 * u 0 0 c) x (fun r => s r 0)) := by
  unfold drV
  rw [part_grid, kept_grid]
  refine eq_grid fun r c => ?_
  unfold k0_pay2
  pointwise [grid_ix2, slabs_ix3]
  rfl

theorem shift_grid : k0_pay11 (F := Ideal) (grid .f32 512 1024 y) (grid .f32 512 1024 e) (grid .f32 1 1024 a)
    = grid .f32 1 1024 fun r c => a r c + ∑ k ∈ range 512, (y k c - e k c) * Ideal.ofBits .f32 0x3A800000#32 := by
  refine eq_grid fun r c => ?_
  unfold k0_pay11
  rw [part_grid]
  pointwise [grid_ix2]
  rw [sum_below fun k => (y k c.val - e k c.val) * Ideal.ofBits .f32 0x3A800000#32]

theorem gain_grid : k0_pay1 (F := Ideal) (k0_pay12 (grid .f32 1 1024 a)) (k0_pay13 (grid .f32 512 1024 y) (grid .f32 512 1024 e) (grid .f32 512 1024 x))
    = grid .f32 1 1024 fun r c => a r c + ∑ k ∈ range 512, (y k c - e k c) * Ideal.ofBits .f32 0x3A800000#32 * x k c := by
  refine eq_grid fun r c => ?_
  unfold k0_pay1 k0_pay12 k0_pay13
  rw [part_grid, kept_grid]
  pointwise [grid_ix2]
  rw [sum_below fun k => (y k c.val - e k c.val) * Ideal.ofBits .f32 0x3A800000#32 * x k c.val]

theorem square_grid : k0_pay6 (F := Ideal) (grid .f32 512 1024 y) (grid .f32 512 1024 e) (grid .f32 1 1 a)
    = grid .f32 1 1 fun r c => a r c + ∑ k ∈ range 512, ∑ j ∈ range 1024, (y k j - e k j) * (y k j - e k j) := by
  refine eq_grid fun r c => ?_
  unfold k0_pay6
  rw [less_grid]
  pointwise [grid_ix2]
  rw [sum_below fun k => ∑ j : Fin 1024, (y k j.val - e k j.val) * (y k j.val - e k j.val)]
  refine congrArg _ (sum_congr rfl fun k _ => sum_below fun j => (y k j - e k j) * (y k j - e k j))

theorem zero4_grid : k0_pay4 (F := Ideal) = grid .f32 1 1 fun _ _ => 0 := by
  refine eq_grid fun r c => ?_
  unfold k0_pay4
  pointwise [grid_ix2]

theorem zero8_grid : k0_pay8 (F := Ideal) = grid .f32 1 1024 fun _ _ => 0 :=
  Cert.KernelNormIdeal.Own.zero4_grid

theorem zero9_grid : k0_pay9 (F := Ideal) = grid .f32 1 1024 fun _ _ => 0 :=
  Cert.KernelNormIdeal.Own.zero5_grid

end point

section cases

variable (t : Fin cfg0.N) (x0 x1 x4 : Vec Ideal S512x1024 .f32) (x2 : Vec Ideal S512x1 .f32) (x3 : Vec Ideal S1x1x1024 .f32) (x7 x8 : Vec Ideal S1x1024 .f32) (x9 : Vec Ideal S1x1 .f32)

theorem out_A5 (h0 h1) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 h1 x0 x1 x2 x3 x4
      = drV x0 x4 x1 x2 x3 := by
  frame_out <;> rfl

theorem out_A6 (h0 h1) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 h1 x0 x1 x2 x3 x4
      = truncf .bf16 (drV x0 x4 x1 x2 x3) bitsLt_bf16_f32 := by
  frame_out <;> rfl

theorem out_A7 (h0 h1) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 h1 x0 x1 x2 x3 x4
      = k0_pay1 (k0_pay12 (k0_pay8 : FVec Ideal S1x1024 .f32)) (k0_pay13 x0 x4 x1) := by
  frame_out <;> rfl

theorem out_A8 (h0 h1) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 h1 x0 x1 x2 x3 x4
      = k0_pay11 x0 x4 (k0_pay9 : FVec Ideal S1x1024 .f32) := by
  frame_out <;> rfl

theorem out_A9 (h0 h1) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 h1 x0 x1 x2 x3 x4
      = k0_pay6 x0 x4 (k0_pay4 : FVec Ideal S1x1 .f32) := by
  frame_out <;> rfl

theorem out_B5 (h0 h1) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 h1 x0 x1 x2 x3 x4 x7 x8 x9
      = drV x0 x4 x1 x2 x3 := by
  frame_out <;> rfl

theorem out_B6 (h0 h1) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 h1 x0 x1 x2 x3 x4 x7 x8 x9
      = truncf .bf16 (drV x0 x4 x1 x2 x3) bitsLt_bf16_f32 := by
  frame_out <;> rfl

theorem out_B7 (h0 h1) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 h1 x0 x1 x2 x3 x4 x7 x8 x9
      = k0_pay1 (k0_pay12 x7) (k0_pay13 x0 x4 x1) := by
  frame_out <;> rfl

theorem out_B8 (h0 h1) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 h1 x0 x1 x2 x3 x4 x7 x8 x9
      = k0_pay11 x0 x4 x8 := by
  frame_out <;> rfl

theorem out_B9 (h0 h1) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h0 h1 x0 x1 x2 x3 x4 x7 x8 x9
      = k0_pay6 x0 x4 x9 := by
  frame_out <;> rfl

end cases

variable {m c P G B T} (A : Args m c P G B T)

include A

theorem entry_n : V m c main_v17 = grid .f32 4096 1024 (normed P) := by
  unfold V
  simp only [hostOps0]
  after_results
  rw [A.p]
  exact Cert.KernelNormIdeal.Own.normedV_grid P

theorem entry_s : V m c main_v13 = grid .f32 4096 1 fun i _ => rstd P i := by
  unfold V
  simp only [hostOps0]
  after_results
  rw [A.p]
  exact Cert.KernelNormIdeal.Own.rstdV_grid P

theorem entry_y : V m c main_v27 = grid .f32 4096 1024 (yh P G B) := by
  unfold V
  simp only [hostOps0]
  after_results
  rw [A.p, A.g, A.b]
  have e : addf (mulf (Cert.KernelNormIdeal.Own.normedV (grid .f32 4096 1024 P)) (rowV (grid .f32 4 1024 G))) (rowV (grid .f32 4 1024 B)) = grid .f32 4096 1024 (yh P G B) := by
    rw [Cert.KernelNormIdeal.Own.normedV_grid, rowV_grid, rowV_grid]
    refine eq_grid fun i j => ?_
    pointwise [grid_ix2]
    rfl
  exact e

theorem entry_g : V m c main_v28 = slabs .f32 4 1 1024 fun l _ k => G l k := by
  unfold V
  simp only [hostOps0]
  after_results
  refine eq_slabs fun s r k => ?_
  pointwise [A.g, grid_ix2]

theorem blk0 (t : Fin cfg0.N) : iblk m c 0 t = grid .f32 512 1024 fun r k => yh P G B (512 * t.val + r) k := by
  funext y
  blk_simp [iblk]
  refine (congrFun (entry_y A) _).trans ?_
  refine congrArg₂ (yh P G B) ?_ ?_ <;> blk_simp [idx t] <;> ring

theorem blk4 (t : Fin cfg0.N) : iblk m c 4 t = grid .f32 512 1024 fun r k => T (512 * t.val + r) k := by
  funext y
  blk_simp [iblk]
  refine (congrFun ((V_main_arg3 m c).trans A.t) _).trans ?_
  refine congrArg₂ T ?_ ?_ <;> blk_simp [idx t] <;> ring

theorem blk1 (t : Fin cfg0.N) : iblk m c 1 t = grid .f32 512 1024 fun r k => normed P (512 * t.val + r) k := by
  funext y
  blk_simp [iblk]
  refine (congrFun (entry_n A) _).trans ?_
  refine congrArg₂ (normed P) ?_ ?_ <;> blk_simp [idx t] <;> ring

theorem blk2 (t : Fin cfg0.N) : iblk m c 2 t = grid .f32 512 1 fun r _ => rstd P (512 * t.val + r) := by
  funext y
  blk_simp [iblk]
  refine (congrFun (entry_s A) _).trans ?_
  refine congrArg (rstd P) ?_
  blk_simp [idx t]
  ring

theorem blk3 (t : Fin cfg0.N) : iblk m c 3 t = slabs .f32 1 1 1024 fun _ _ k => G 3 k := by
  funext y
  blk_simp [iblk]
  refine (congrFun (entry_g A) _).trans ?_
  have := (y 0).isLt
  refine congrArg₂ G ?_ ?_ <;> blk_simp [idx t] <;> simp

/-- The gradient that a grid point leaves of its rows. -/
theorem dr_blk (t : Fin cfg0.N) : drV (iblk m c 0 t) (iblk m c 4 t) (iblk m c 1 t) (iblk m c 2 t) (iblk m c 3 t)
    = grid .f32 512 1024 fun r j => rowGrad (dn P G B T) (normed P) (rstd P) (512 * t.val + r) j := by
  rw [blk0 A, blk1 A, blk2 A, blk3 A, blk4 A]
  exact drV_grid ..

theorem after5 (t : Fin cfg0.N) : (outsAt0 m c t.val t.isLt).1 = grid .f32 512 1024 fun r j => rowGrad (dn P G B T) (normed P) (rstd P) (512 * t.val + r) j := by
  by_cases h : t.val % 8 = 0
  · rw [outsAt0_A m c t h h]
    dsimp only
    rw [out_A5]
    exact dr_blk A t
  · rw [outsAt0_B m c t h h]
    dsimp only
    rw [out_B5]
    exact dr_blk A t

theorem after6 (t : Fin cfg0.N) : (outsAt0 m c t.val t.isLt).2.1 = grid .bf16 512 1024 fun r j => rowGrad (dn P G B T) (normed P) (rstd P) (512 * t.val + r) j := by
  have e : truncf .bf16 (drV (iblk m c 0 t) (iblk m c 4 t) (iblk m c 1 t) (iblk m c 2 t) (iblk m c 3 t)) bitsLt_bf16_f32
      = grid .bf16 512 1024 fun r j => rowGrad (dn P G B T) (normed P) (rstd P) (512 * t.val + r) j := by
    rw [dr_blk A]
    exact eq_grid fun i j => by pointwise [grid_ix2]
  by_cases h : t.val % 8 = 0
  · rw [outsAt0_A m c t h h]
    dsimp only
    rw [out_A6]
    exact e
  · rw [outsAt0_B m c t h h]
    dsimp only
    rw [out_B6]
    exact e

/-- What the sums hold after a grid point. -/
theorem sums : ∀ (n : ℕ) (h : n < cfg0.N), (outsAt0 m c n h).2.2.1 = grid .f32 1 1024 (fun _ j => ∑ i ∈ range (512 * (n + 1)), dy P G B T i j * normed P i j)
    ∧ (outsAt0 m c n h).2.2.2.1 = grid .f32 1 1024 (fun _ j => ∑ i ∈ range (512 * (n + 1)), dy P G B T i j)
    ∧ (outsAt0 m c n h).2.2.2.2 = grid .f32 1 1 (fun _ _ => ∑ i ∈ range (512 * (n + 1)), sq P G B T i) := by
  intro n
  induction n with
  | zero =>
    intro h
    have e := outsAt0_A m c ⟨0, h⟩ rfl rfl
    dsimp only at e
    rw [e]
    dsimp only
    rw [out_A7, out_A8, out_A9, blk0 A, blk1 A, blk4 A, zero4_grid, zero8_grid, zero9_grid, gain_grid, shift_grid, square_grid]
    simp only [zero_add, Nat.mul_zero, Nat.mul_one]
    exact ⟨rfl, rfl, rfl⟩
  | succ n ih =>
    intro h
    obtain ⟨i7, i8, i9⟩ := ih (Nat.lt_of_succ_lt h)
    have hn : ¬(n + 1) % 8 = 0 := by
      have : n + 1 < 8 := h
      omega
    have e := outsAt0_B m c ⟨n + 1, h⟩ hn hn
    dsimp only at e
    rw [e]
    dsimp only [Nat.add_sub_cancel]
    rw [out_B7, out_B8, out_B9, blk0 A, blk1 A, blk4 A]
    refine ⟨(congrArg (fun x => k0_pay1 (k0_pay12 x) _) i7).trans ((gain_grid ..).trans (congrArg _ ?_)), (congrArg (k0_pay11 _ _) i8).trans ((shift_grid ..).trans (congrArg _ ?_)),
      (congrArg (k0_pay6 _ _) i9).trans ((square_grid ..).trans (congrArg _ ?_))⟩
    · funext _ j
      exact (sum_range_add (fun i => dy P G B T i j * normed P i j) (512 * (n + 1)) 512).symm
    · funext _ j
      exact (sum_range_add (fun i => dy P G B T i j) (512 * (n + 1)) 512).symm
    · funext _ _
      exact (sum_range_add (fun i => sq P G B T i) (512 * (n + 1)) 512).symm

theorem final5 : (dats m 0 c).arrAt 5 cfg0.N = grid .f32 4096 1024 (rowGrad (dn P G B T) (normed P) (rstd P)) := by
  refine (dats m 0 c).arrAt_eq_of_covers 5 _ (by decide +kernel) fun t _ y => ?_
  blk_simp
  rw [after0_5, after5 A]
  obtain ⟨r, k, rfl⟩ : ∃ (r : Fin 512) (k : Fin 1024), y = ix2 r k := ⟨_, _, eq_ix2 y⟩
  rw [grid_ix2]
  change (rowGrad (dn P G B T) (normed P) (rstd P)) (512 * t.val + r.val) k.val = _
  refine congrArg₂ (rowGrad (dn P G B T) (normed P) (rstd P)) ?_ ?_ <;> blk_simp [idx t] <;> ring

theorem final6 : (dats m 0 c).arrAt 6 cfg0.N = grid .bf16 4096 1024 (rowGrad (dn P G B T) (normed P) (rstd P)) := by
  refine (dats m 0 c).arrAt_eq_of_covers 6 _ (by decide +kernel) fun t _ y => ?_
  blk_simp
  rw [after0_6, after6 A]
  obtain ⟨r, k, rfl⟩ : ∃ (r : Fin 512) (k : Fin 1024), y = ix2 r k := ⟨_, _, eq_ix2 y⟩
  rw [grid_ix2]
  change (rowGrad (dn P G B T) (normed P) (rstd P)) (512 * t.val + r.val) k.val = _
  refine congrArg₂ (rowGrad (dn P G B T) (normed P) (rstd P)) ?_ ?_ <;> blk_simp [idx t] <;> ring

theorem final7 : (dats m 0 c).arrAt 7 cfg0.N = grid .f32 1 1024 (fun _ => dg P G B T) := by
  refine (dats m 0 c).arrAt_eq_of_covers 7 _ (by decide +kernel) fun t ht y => ?_
  have h7 : t.val = 7 := by
    have h1 := (flush0_7 t).mp ht
    have h2 : t.val < 8 := t.isLt
    omega
  blk_simp
  rw [after0_7, (sums A t.val t.isLt).1, h7]
  obtain ⟨r, k, rfl⟩ : ∃ (r : Fin 1) (k : Fin 1024), y = ix2 r k := ⟨_, _, eq_ix2 y⟩
  rw [grid_ix2]
  change dg P G B T k.val = _
  refine congrArg (dg P G B T) ?_
  blk_simp [idx t]

theorem final8 : (dats m 0 c).arrAt 8 cfg0.N = grid .f32 1 1024 (fun _ => db P G B T) := by
  refine (dats m 0 c).arrAt_eq_of_covers 8 _ (by decide +kernel) fun t ht y => ?_
  have h7 : t.val = 7 := by
    have h1 := (flush0_8 t).mp ht
    have h2 : t.val < 8 := t.isLt
    omega
  blk_simp
  rw [after0_8, (sums A t.val t.isLt).2.1, h7]
  obtain ⟨r, k, rfl⟩ : ∃ (r : Fin 1) (k : Fin 1024), y = ix2 r k := ⟨_, _, eq_ix2 y⟩
  rw [grid_ix2]
  change db P G B T k.val = _
  refine congrArg (db P G B T) ?_
  blk_simp [idx t]

theorem final9 : (dats m 0 c).arrAt 9 cfg0.N = grid .f32 1 1 (fun _ _ => ∑ i ∈ range 4096, sq P G B T i) := by
  refine (dats m 0 c).arrAt_eq_of_covers 9 _ (by decide +kernel) fun t ht y => ?_
  have h7 : t.val = 7 := by
    have h1 := (flush0_9 t).mp ht
    have h2 : t.val < 8 := t.isLt
    omega
  blk_simp
  rw [after0_9, (sums A t.val t.isLt).2.2, h7]
  obtain ⟨r, k, rfl⟩ : ∃ (r : Fin 1) (k : Fin 1), y = ix2 r k := ⟨_, _, eq_ix2 y⟩
  rw [grid_ix2]
  rfl

end Cert.KernelHeadIdeal.Own

namespace Cert.ReferenceHeadIdeal.Own

open Cert.ReferenceHeadIdeal Cert.ReferenceHeadIdeal.Gen Cert.Lin Finset
open Idealize.ShloMosaic Idealize.ShloMosaic.TcCoe Idealize.SL.Sem
open Cert.KernelHeadIdeal.Own (rowV rowV_grid yh er dy dn dg db sq)
open Cert.ReferenceNormIdeal.Own (gradV gradV_grid normedV normedV_grid colV colV_grid mulV_grid dnV dnV_grid)

def erV (p : FVec Ideal S4096x1024 .f32) (g b : FVec Ideal S4x1024 .f32) (t : FVec Ideal S4096x1024 .f32) : FVec Ideal S4096x1024 .f32 :=
  subf (addf (mulf (normedV p) (rowV g)) (rowV b)) t

def dyV (e : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32)))
    (broadcastInDim S4096 ![] bcast_S_S4096 (constant S_ .f32 0x44800000#32)))) (mulf (broadcastInDim S4096x1024 ![] bcast_S_S4096x1024 (constant S_ .f32 0x40000000#32)) e)

def sqV (e : FVec Ideal S4096x1024 .f32) : FVec Ideal S1x1 .f32 :=
  broadcastInDim S1x1 ![] bcast_S_S1x1 (Host.reduceAdd (mulf e e) (constant S_ .f32 0x00000000#32) reducesTo_S4096x1024_S_d0_1 h_S_)

theorem bits_part : Ideal.ofBits .f32 0x3A800000#32 = ((1 / 1024 : ℝ) : EReal) := by
  simp [Ideal.ofBits, Ideal.ieee]; rw [← EReal.coe_mul]; norm_num

theorem bits_half : Ideal.ofBits .f32 0x3F000000#32 = ((1 / 2 : ℝ) : EReal) := by
  simp [Ideal.ofBits, Ideal.ieee]; rw [← EReal.coe_mul]; norm_num

variable (P G B T : ℕ → ℕ → EReal)

theorem erV_grid : erV (grid .f32 4096 1024 P) (grid .f32 4 1024 G) (grid .f32 4 1024 B) (grid .f32 4096 1024 T) = grid .f32 4096 1024 (er P G B T) := by
  unfold erV
  rw [normedV_grid, rowV_grid, rowV_grid]
  refine eq_grid fun i j => ?_
  pointwise [grid_ix2]
  rfl

theorem dyV_grid : dyV (grid .f32 4096 1024 (er P G B T)) = grid .f32 4096 1024 (dy P G B T) := by
  refine eq_grid fun i j => ?_
  unfold dyV
  pointwise [grid_ix2]
  unfold dy
  rw [bits_half, bits_width, bits_two, bits_part, Cert.Mat.div_real _ (by norm_num), ← mul_assoc, ← EReal.coe_mul, mul_comm]
  refine congrArg _ (congrArg _ ?_)
  norm_num

theorem sqV_grid : sqV (grid .f32 4096 1024 (er P G B T)) = grid .f32 1 1 fun _ _ => ∑ i ∈ range 4096, sq P G B T i := by
  refine eq_grid fun i j => ?_
  unfold sqV
  rw [mulV_grid]
  pointwise [grid_ix2]
  refine (sum_congr rfl fun (k : Fin 4096) _ => sum_below fun j => er P G B T k.val j * er P G B T k.val j).trans ?_
  exact sum_below fun k => sq P G B T k

variable (m : (ℓ : Loc nD τ sig) → Buf (Elt Ideal) ℓ) (c : Dev nD)

/-- The arguments that the results depend on. -/
structure Args : Prop where
  p : m ((c.tc : Thread nD τ).loc main_arg0) = grid .f32 4096 1024 P
  g : m ((c.tc : Thread nD τ).loc main_arg1) = grid .f32 4 1024 G
  b : m ((c.tc : Thread nD τ).loc main_arg2) = grid .f32 4 1024 B
  t : m ((c.tc : Thread nD τ).loc main_arg3) = grid .f32 4096 1024 T

variable {m c P G B T} (A : Args P G B T m c)

include A

/-- The errors. -/
theorem err : erV (m ((c.tc : Thread nD τ).loc main_arg0)) (m ((c.tc : Thread nD τ).loc main_arg1)) (m ((c.tc : Thread nD τ).loc main_arg2)) (m ((c.tc : Thread nD τ).loc main_arg3))
    = grid .f32 4096 1024 (er P G B T) := by
  rw [A.p, A.g, A.b, A.t, erV_grid]

theorem out0 : gradV (m ((c.tc : Thread nD τ).loc main_arg0)) (dnV (dyV (erV (m ((c.tc : Thread nD τ).loc main_arg0)) (m ((c.tc : Thread nD τ).loc main_arg1)) (m ((c.tc : Thread nD τ).loc main_arg2))
      (m ((c.tc : Thread nD τ).loc main_arg3)))) (m ((c.tc : Thread nD τ).loc main_arg1)))
    = grid .f32 4096 1024 (ruleGrad P (dn P G B T)) := by
  rw [err A, A.p, A.g, dyV_grid, dnV_grid]
  exact gradV_grid P (dn P G B T)

theorem out1 : truncf .bf16 (gradV (m ((c.tc : Thread nD τ).loc main_arg0)) (dnV (dyV (erV (m ((c.tc : Thread nD τ).loc main_arg0)) (m ((c.tc : Thread nD τ).loc main_arg1)) (m ((c.tc : Thread nD τ).loc main_arg2))
      (m ((c.tc : Thread nD τ).loc main_arg3)))) (m ((c.tc : Thread nD τ).loc main_arg1)))) bitsLt_bf16_f32
    = grid .bf16 4096 1024 (ruleGrad P (dn P G B T)) := by
  rw [out0 A]
  exact eq_grid fun i j => by pointwise [grid_ix2]

theorem out2 : colV (mulf (normedV (m ((c.tc : Thread nD τ).loc main_arg0))) (dyV (erV (m ((c.tc : Thread nD τ).loc main_arg0)) (m ((c.tc : Thread nD τ).loc main_arg1)) (m ((c.tc : Thread nD τ).loc main_arg2))
      (m ((c.tc : Thread nD τ).loc main_arg3)))))
    = grid .f32 1 1024 fun _ => dg P G B T := by
  rw [err A, A.p, dyV_grid, normedV_grid, mulV_grid, colV_grid]
  refine congrArg _ (funext fun _ => funext fun j => sum_congr rfl fun i _ => mul_comm _ _)

theorem out3 : colV (dyV (erV (m ((c.tc : Thread nD τ).loc main_arg0)) (m ((c.tc : Thread nD τ).loc main_arg1)) (m ((c.tc : Thread nD τ).loc main_arg2)) (m ((c.tc : Thread nD τ).loc main_arg3))))
    = grid .f32 1 1024 fun _ => db P G B T := by
  rw [err A, dyV_grid, colV_grid]
  rfl

theorem out4 : sqV (erV (m ((c.tc : Thread nD τ).loc main_arg0)) (m ((c.tc : Thread nD τ).loc main_arg1)) (m ((c.tc : Thread nD τ).loc main_arg2)) (m ((c.tc : Thread nD τ).loc main_arg3)))
    = grid .f32 1 1 fun _ _ => ∑ i ∈ range 4096, sq P G B T i := by
  rw [err A, sqV_grid]

end Cert.ReferenceHeadIdeal.Own

end
-- ==== Proof.Head.Finite.lean ====
/- The precondition of the squared error's gradient: arguments whose entries are all real. -/
module

public import proofs.«01_k».proof.Pre_finite_head
public import proofs.«01_k».proof.Proof.Lin.Finite

@[expose] public section

set_option maxRecDepth 16384

noncomputable section

namespace Cert.Pre_finite_head

open Idealize.ShloMosaic Cert.Lin

instance facts : Cert.Pre_finite_head.Facts where
  bcast_S_S4096x1024 := by decide
  reducesTo_S4096x1024_S_d0_1 := by decide
  h_S_ := by decide
  bcast_S_S4x1024 := by decide
  reducesTo_S4x1024_S_d0_1 := by decide

open Facts

theorem reals {p y : FVec Ideal S4096x1024 .f32} {g b : FVec Ideal S4x1024 .f32} (h : fn (F := Ideal) p g b y = fun _ => 1#1) :
    (∃ f : ℕ → ℕ → ℝ, p = grid .f32 4096 1024 fun i j => ((f i j : ℝ) : EReal)) ∧ (∃ f : ℕ → ℕ → ℝ, g = grid .f32 4 1024 fun i j => ((f i j : ℝ) : EReal))
    ∧ (∃ f : ℕ → ℕ → ℝ, b = grid .f32 4 1024 fun i j => ((f i j : ℝ) : EReal)) ∧ ∃ f : ℕ → ℕ → ℝ, y = grid .f32 4096 1024 fun i j => ((f i j : ℝ) : EReal) := by
  have e : IntOp.andi (IntOp.andi (IntOp.andi (allReal bcast_S_S4096x1024 reducesTo_S4096x1024_S_d0_1 h_S_ p ix0) (allReal bcast_S_S4x1024 reducesTo_S4x1024_S_d0_1 h_S_ g ix0))
      (allReal bcast_S_S4x1024 reducesTo_S4x1024_S_d0_1 h_S_ b ix0)) (allReal bcast_S_S4096x1024 reducesTo_S4096x1024_S_d0_1 h_S_ y ix0) = 1#1 := congrFun h ix0
  obtain ⟨e, e3⟩ := both_one _ _ e
  obtain ⟨e, e2⟩ := both_one _ _ e
  obtain ⟨e0, e1⟩ := both_one _ _ e
  exact ⟨real_of_all e0, real_of_all e1, real_of_all e2, real_of_all e3⟩

end Cert.Pre_finite_head

end
-- ==== Proof.Head.Claims.lean ====
/- The claims about the squared error's gradient. -/
module

public import proofs.«01_k».proof.Defs
public import proofs.«01_k».proof.Proof.Head.Value
public import proofs.«01_k».proof.Proof.Head.Finite
public import proofs.«01_k».proof.Proof.Gen.KernelHead.Frame
public import Idealize.ShloMosaic.Lib.Quiescent

@[expose] public section

noncomputable section

namespace Cert.Head

open Idealize.ShloMosaic Idealize.SL.Sem

theorem frame : Cert.quiescent_KernelHead := fun m ρ _ => KernelHead.Gen.frame m ρ

theorem frame_ideal : Cert.quiescent_KernelHeadIdeal := fun m ρ _ => KernelHeadIdeal.Gen.frame m ρ

theorem frame_ideal_pre : Cert.quiescent_KernelHeadIdeal_pre_finite_head := fun m ρ _ => KernelHeadIdeal.Gen.frame m ρ

theorem reference_frame : Cert.quiescent_ReferenceHeadIdeal := fun m ρ _ =>
  (θ_run ReferenceHeadIdeal.defs _ _).mono (fun r h => ⟨fun c => (h c).2.2.2.2.2, sem_eq_zero_of_no_sems (by decide) r.2⟩)
    (ReferenceHeadIdeal.Value.run (F := Ideal) m ρ)

theorem reference_frame_pre : Cert.quiescent_ReferenceHeadIdeal_pre_finite_head := fun m ρ _ => reference_frame m ρ trivial

/-- With real arguments both forms of the gradient agree. -/
theorem grads (p g b t : ℕ → ℕ → ℝ) :
    Cert.Lin.ruleGrad (fun i j => ((p i j : ℝ) : EReal)) (KernelHeadIdeal.Own.dn (fun i j => ((p i j : ℝ) : EReal)) (fun i j => ((g i j : ℝ) : EReal)) (fun i j => ((b i j : ℝ) : EReal)) fun i j => ((t i j : ℝ) : EReal))
      = Cert.Lin.rowGrad (KernelHeadIdeal.Own.dn (fun i j => ((p i j : ℝ) : EReal)) (fun i j => ((g i j : ℝ) : EReal)) (fun i j => ((b i j : ℝ) : EReal)) fun i j => ((t i j : ℝ) : EReal))
        (Cert.Lin.normed fun i j => ((p i j : ℝ) : EReal)) (Cert.Lin.rstd fun i j => ((p i j : ℝ) : EReal)) := by
  choose v s hv hs ev es using fun i => Cert.Lin.spread_real p i
  have e : KernelHeadIdeal.Own.dn (fun i j => ((p i j : ℝ) : EReal)) (fun i j => ((g i j : ℝ) : EReal)) (fun i j => ((b i j : ℝ) : EReal)) (fun i j => ((t i j : ℝ) : EReal))
      = fun i j => (((Cert.Lin.cenR p i j * s i * g 3 j + b 3 j - t i j) * (1 / 1024) * g 3 j : ℝ) : EReal) := by
    funext i j
    unfold KernelHeadIdeal.Own.dn KernelHeadIdeal.Own.dy KernelHeadIdeal.Own.er KernelHeadIdeal.Own.yh Cert.Lin.normed
    rw [Cert.Lin.cen_real, es, ReferenceHeadIdeal.Own.bits_part]
    simp only [← EReal.coe_mul, ← EReal.coe_add, ← EReal.coe_sub]
  rw [e]
  funext i j
  exact Cert.Lin.grad_eq p _ i j

theorem equal : Cert.algebraic_KernelHeadIdeal_ReferenceHeadIdeal_pre_finite_head := by
  intro m g m' g' hpre hagree
  refine ⟨fun c => (KernelHeadIdeal.Gen.dats m 0 c).arrAt 5 KernelHeadIdeal.cfg0.N, fun c => (KernelHeadIdeal.Gen.dats m 0 c).arrAt 6 KernelHeadIdeal.cfg0.N,
    fun c => (KernelHeadIdeal.Gen.dats m 0 c).arrAt 7 KernelHeadIdeal.cfg0.N, fun c => (KernelHeadIdeal.Gen.dats m 0 c).arrAt 8 KernelHeadIdeal.cfg0.N, fun c => (KernelHeadIdeal.Gen.dats m 0 c).arrAt 9 KernelHeadIdeal.cfg0.N,
    KernelHeadIdeal.Value.run_blocks m g, ?_⟩
  refine (θ_run ReferenceHeadIdeal.defs _ _).mono (fun r h c => ?_) (ReferenceHeadIdeal.Value.run (F := Ideal) m' g')
  obtain ⟨h0, h1, h2, h3, h4, hk⟩ := h c
  obtain ⟨ap, ag, ab, at'⟩ := hagree c
  obtain ⟨⟨P, hP⟩, ⟨G, hG⟩, ⟨B, hB⟩, ⟨T, hT⟩⟩ := Cert.Pre_finite_head.reals (hpre c)
  have A : KernelHeadIdeal.Own.Args m c (fun i j => ((P i j : ℝ) : EReal)) (fun i j => ((G i j : ℝ) : EReal)) (fun i j => ((B i j : ℝ) : EReal)) (fun i j => ((T i j : ℝ) : EReal)) :=
    ⟨hP, hG, hB, hT⟩
  have A' : ReferenceHeadIdeal.Own.Args (fun i j => ((P i j : ℝ) : EReal)) (fun i j => ((G i j : ℝ) : EReal)) (fun i j => ((B i j : ℝ) : EReal)) (fun i j => ((T i j : ℝ) : EReal)) m' c :=
    ⟨ap.trans hP, ag.trans hG, ab.trans hB, at'.trans hT⟩
  exact ⟨h0.trans ((ReferenceHeadIdeal.Own.out0 A').trans ((congrArg _ (grads P G B T)).trans (KernelHeadIdeal.Own.final5 A).symm)),
    h1.trans ((ReferenceHeadIdeal.Own.out1 A').trans ((congrArg _ (grads P G B T)).trans (KernelHeadIdeal.Own.final6 A).symm)),
    h2.trans ((ReferenceHeadIdeal.Own.out2 A').trans (KernelHeadIdeal.Own.final7 A).symm),
    h3.trans ((ReferenceHeadIdeal.Own.out3 A').trans (KernelHeadIdeal.Own.final8 A).symm),
    h4.trans ((ReferenceHeadIdeal.Own.out4 A').trans (KernelHeadIdeal.Own.final9 A).symm), hk⟩

end Cert.Head

end
-- ==== Proof.GateNorm.Value.lean ====
/- The normalization of the gate's half of the hidden layer: what the kernel leaves and what the reference computes. -/
module

public import proofs.«01_k».proof.Proof.Norm.Value
public import proofs.«01_k».proof.Proof.Gen.KernelGateNormIdeal.Value
public import proofs.«01_k».proof.Proof.Gen.ReferenceGateNormIdeal.Run

@[expose] public section

set_option maxRecDepth 16384

noncomputable section

namespace Cert.KernelGateNormIdeal.Own

open Cert.KernelGateNormIdeal Cert.KernelGateNormIdeal.Gen Cert.Lin Finset
open Idealize.ShloMosaic Idealize.ShloMosaic.TcCoe
open Idealize.ShloMosaic.Pipeline (Dat)

variable (m : (ℓ : Loc nD τ sig) → Buf (Elt Ideal) ℓ) (c : Dev nD) (H G B : ℕ → ℕ → EReal)

theorem idx : ∀ t : Fin cfg0.N, win0_0.index t = ![t.val, 1] ∧ win0_1.index t = ![1, 0, 0] ∧ win0_2.index t = ![1, 0, 0] ∧ win0_3.index t = ![t.val, 0] :=
  (by decide +kernel : ∀ t : Fin grid0.N, _)

/-- The arguments that the results depend on. -/
structure Args : Prop where
  h : m ((c : Thread nD τ).loc main_arg0) = grid .f32 4096 2048 H
  g : m ((c : Thread nD τ).loc main_arg1) = grid .f32 2 1024 G
  b : m ((c : Thread nD τ).loc main_arg2) = grid .f32 2 1024 B

/-- The activation. -/
def gelu (x : EReal) : EReal :=
  x * (Ideal.ofBits .f32 0x3F000000#32 * (Ideal.ofBits .f32 0x3F800000#32 + Ideal.tanh (Ideal.ofBits .f32 0x3F4C422A#32 * (x + Ideal.ofBits .f32 0x3D372713#32 * (x * (x * x))))))

section point

variable (f : ℕ → ℕ → EReal) (u v : ℕ → ℕ → ℕ → EReal)

def geluB (x : FVec Ideal S512x1024 .f32) : FVec Ideal S512x1024 .f32 :=
  mulf x (mulf (broadcast S512x1024 (Scalar.ofBits .f32 0x3F000000#32)) (addf (broadcast S512x1024 (Scalar.ofBits .f32 0x3F800000#32))
    (tanh (mulf (broadcast S512x1024 (Scalar.ofBits .f32 0x3F4C422A#32)) (addf x (mulf (broadcast S512x1024 (Scalar.ofBits .f32 0x3D372713#32)) (mulf x (mulf x x))))))))

def meanB (x : FVec Ideal S512x1024 .f32) : FVec Ideal S512x1 .f32 :=
  divf (shapeCast S512x1 (multiReduction .add [1] S512 x 0x00000000#32 reduces_S512x1024_S512 (.inl rfl) rfl : FVec Ideal S512 .f32) shapeCasts_S512_S512x1) (broadcast S512x1 (Scalar.ofBits .f32 0x44800000#32))

def cenB (x : FVec Ideal S512x1024 .f32) : FVec Ideal S512x1024 .f32 := subf x (broadcastTo S512x1024 (meanB x) broadcasts_S512x1_S512x1024)

def rstdB (x : FVec Ideal S512x1024 .f32) : FVec Ideal S512x1 .f32 := rsqrt (addf (meanB (mulf (cenB x) (cenB x))) (broadcast S512x1 (Scalar.ofBits .f32 0x3727C5AC#32)))

def normedB (x : FVec Ideal S512x1024 .f32) : FVec Ideal S512x1024 .f32 := mulf (cenB x) (broadcastTo S512x1024 (rstdB x) broadcasts_S512x1_S512x1024)

theorem geluB_grid : geluB (grid .f32 512 1024 f) = grid .f32 512 1024 fun r c => gelu (f r c) := by
  refine eq_grid fun r c => ?_
  unfold geluB gelu
  pointwise [grid_ix2]
  try rfl

theorem meanB_grid : meanB (grid .f32 512 1024 f) = grid .f32 512 1 fun r _ => mean f r := by
  refine eq_grid fun r c => ?_
  unfold meanB
  pointwise [grid_ix2]
  rfl

theorem cenB_grid : cenB (grid .f32 512 1024 f) = grid .f32 512 1024 (cen f) := by
  refine eq_grid fun r c => ?_
  unfold cenB
  rw [meanB_grid]
  pointwise [grid_ix2]
  rfl

theorem rstdB_grid : rstdB (grid .f32 512 1024 f) = grid .f32 512 1 fun r _ => rstd f r := by
  have e : mulf (grid .f32 512 1024 (cen f) : FVec Ideal S512x1024 .f32) (grid .f32 512 1024 (cen f)) = grid .f32 512 1024 fun i j => cen f i j * cen f i j :=
    eq_grid fun i j => by pointwise [grid_ix2]
  refine eq_grid fun r c => ?_
  unfold rstdB
  rw [cenB_grid, e, meanB_grid]
  pointwise [grid_ix2]
  rfl

theorem normedB_grid : normedB (grid .f32 512 1024 f) = grid .f32 512 1024 (normed f) := by
  refine eq_grid fun r c => ?_
  unfold normedB
  rw [cenB_grid, rstdB_grid]
  pointwise [grid_ix2]
  rfl

theorem out3 : (out0_3 (F := Ideal) (grid .f32 512 1024 f) (slabs .f32 1 1 1024 u) (slabs .f32 1 1 1024 v) : FVec Ideal S512x1024 .bf16)
    = grid .bf16 512 1024 (scaled (fun r c => gelu (f r c)) (u 0 0) (v 0 0)) := by
  unfold out0_3
  have e0 : (View.ld (Val := Elt Ideal) (e' := .f32) (grid .f32 512 1024 f) r0_0 : FVec Ideal S512x1024 .f32) = grid .f32 512 1024 f := View.ld_unit_lit _ _ (by decide)
  have e1 : (View.ld (Val := Elt Ideal) (e' := .f32) (slabs .f32 1 1 1024 u) r0_1 : FVec Ideal S1x1x1024 .f32) = slabs .f32 1 1 1024 u := View.ld_unit_lit _ _ (by decide)
  have e2 : (View.ld (Val := Elt Ideal) (e' := .f32) (slabs .f32 1 1 1024 v) r0_1 : FVec Ideal S1x1x1024 .f32) = slabs .f32 1 1 1024 v := View.ld_unit_lit _ _ (by decide)
  rw [e0, e1, e2]
  refine (View.canon_cons_unit_lit _ _ [] (by decide)).trans ?_
  have e : k0_pay1 (F := Ideal) (grid .f32 512 1024 f) (slabs .f32 1 1 1024 u) (slabs .f32 1 1 1024 v)
      = truncf .bf16 (addf (mulf (normedB (geluB (grid .f32 512 1024 f))) (broadcastTo S512x1024 (shapeCast S1x1024 (slabs .f32 1 1 1024 u : FVec Ideal S1x1x1024 .f32) shapeCasts_S1x1x1024_S1x1024) broadcasts_S1x1024_S512x1024))
        (broadcastTo S512x1024 (shapeCast S1x1024 (slabs .f32 1 1 1024 v : FVec Ideal S1x1x1024 .f32) shapeCasts_S1x1x1024_S1x1024) broadcasts_S1x1024_S512x1024)) bitsLt_bf16_f32 := rfl
  rw [e, geluB_grid, normedB_grid]
  refine eq_grid fun r c => ?_
  pointwise [grid_ix2, slabs_ix3]
  rfl

end point

variable {m c H G B} (A : Args m c H G B)

include A

theorem entry_g : V m c main_v0 = slabs .f32 2 1 1024 fun l _ k => G l k := by
  unfold V
  simp only [hostOps0]
  after_results
  refine eq_slabs fun s r k => ?_
  pointwise [A.g, grid_ix2]

theorem entry_b : V m c main_v1 = slabs .f32 2 1 1024 fun l _ k => B l k := by
  unfold V
  simp only [hostOps0]
  after_results
  refine eq_slabs fun s r k => ?_
  pointwise [A.b, grid_ix2]

theorem blk0 (t : Fin cfg0.N) : iblk m c 0 t = grid .f32 512 1024 fun r k => H (512 * t.val + r) (1024 + k) := by
  funext y
  blk_simp [iblk]
  refine (congrFun ((V_main_arg0 m c).trans A.h) _).trans ?_
  refine congrArg₂ H ?_ ?_ <;> blk_simp [idx t] <;> ring

theorem blk1 (t : Fin cfg0.N) : iblk m c 1 t = slabs .f32 1 1 1024 fun _ _ k => G 1 k := by
  funext y
  blk_simp [iblk]
  refine (congrFun (entry_g A) _).trans ?_
  have := (y 0).isLt
  refine congrArg₂ G ?_ ?_ <;> blk_simp [idx t] <;> simp

theorem blk2 (t : Fin cfg0.N) : iblk m c 2 t = slabs .f32 1 1 1024 fun _ _ k => B 1 k := by
  funext y
  blk_simp [iblk]
  refine (congrFun (entry_b A) _).trans ?_
  have := (y 0).isLt
  refine congrArg₂ B ?_ ?_ <;> blk_simp [idx t] <;> simp

theorem final3 : (dats m 0 c).arrAt 3 cfg0.N = grid .bf16 4096 1024 (scaled (fun i j => gelu (H i (1024 + j))) (G 1) (B 1)) := by
  refine (dats m 0 c).arrAt_eq_of_covers 3 _ (by decide +kernel) fun t _ y => ?_
  blk_simp
  rw [after0_3, blk0 A, blk1 A, blk2 A, out3]
  obtain ⟨r, k, rfl⟩ : ∃ (r : Fin 512) (k : Fin 1024), y = ix2 r k := ⟨_, _, eq_ix2 y⟩
  rw [grid_ix2]
  change (scaled (fun i j => gelu (H i (1024 + j))) (G 1) (B 1)) (512 * t.val + r.val) k.val = _
  refine congrArg₂ (scaled (fun i j => gelu (H i (1024 + j))) (G 1) (B 1)) ?_ ?_ <;> blk_simp [idx t] <;> ring

end Cert.KernelGateNormIdeal.Own

namespace Cert.ReferenceGateNormIdeal.Own

open Cert.ReferenceGateNormIdeal Cert.ReferenceGateNormIdeal.Gen Cert.Lin Finset
open Idealize.ShloMosaic Idealize.ShloMosaic.TcCoe Idealize.SL.Sem
open Cert.ReferenceNormIdeal.Own (normedV normedV_grid)

def geluV (x : FVec Ideal S4096x1024 .f32) : FVec Ideal S4096x1024 .f32 :=
  mulf x (mulf (broadcastInDim S4096x1024 ![] bcast_S_S4096x1024 (constant S_ .f32 0x3F000000#32)) (addf (broadcastInDim S4096x1024 ![] bcast_S_S4096x1024 (constant S_ .f32 0x3F800000#32))
    (Host.tanh (mulf (broadcastInDim S4096x1024 ![] bcast_S_S4096x1024 (constant S_ .f32 0x3F4C422A#32)) (addf x (mulf (broadcastInDim S4096x1024 ![] bcast_S_S4096x1024 (constant S_ .f32 0x3D372713#32)) (mulf (mulf x x) x)))))))

/-- The second of the two rows of an array, on every row. -/
def rowV (g : FVec Ideal S2x1024 .f32) : FVec Ideal S4096x1024 .f32 :=
  broadcastInDim S4096x1024 ![0, 1] bcast_S1x1024_S4096x1024_0_1 (broadcastInDim S1x1024 ![1] bcast_S1024_S1x1024_1
    (shapeCast S1024 (extractStridedSlice S1x1024 ![1, 0] g slices_S2x1024_S1x1024_1_0) shapeCasts_S1x1024_S1024))

def rightV (h : FVec Ideal S4096x2048 .f32) : FVec Ideal S4096x1024 .f32 := extractStridedSlice S4096x1024 ![0, 1024] h slices_S4096x2048_S4096x1024_0_1024

def allV (h : FVec Ideal S4096x2048 .f32) (g b : FVec Ideal S2x1024 .f32) : FVec Ideal S4096x1024 .bf16 :=
  truncf .bf16 (addf (mulf (normedV (geluV (rightV h))) (rowV g)) (rowV b)) bitsLt_bf16_f32

variable (H G B : ℕ → ℕ → EReal)

theorem geluV_grid (p : ℕ → ℕ → EReal) : geluV (grid .f32 4096 1024 p) = grid .f32 4096 1024 fun i j => Cert.KernelGateNormIdeal.Own.gelu (p i j) := by
  refine eq_grid fun i j => ?_
  unfold geluV Cert.KernelGateNormIdeal.Own.gelu
  rw [mul_comm (p i.val j.val) (p i.val j.val * p i.val j.val)]
  pointwise [grid_ix2]
  try rfl

theorem rowV_grid : rowV (grid .f32 2 1024 G) = grid .f32 4096 1024 fun _ j => G 1 j := by
  refine eq_grid fun i j => ?_
  unfold rowV
  pointwise [grid_ix2]

theorem rightV_grid : rightV (grid .f32 4096 2048 H) = grid .f32 4096 1024 fun i j => H i (1024 + j) := by
  refine eq_grid fun i j => ?_
  unfold rightV
  pointwise [grid_ix2]

variable (m : (ℓ : Loc nD τ sig) → Buf (Elt Ideal) ℓ) (c : Dev nD)

/-- The arguments that the results depend on. -/
structure Args : Prop where
  h : m ((c.tc : Thread nD τ).loc main_arg0) = grid .f32 4096 2048 H
  g : m ((c.tc : Thread nD τ).loc main_arg1) = grid .f32 2 1024 G
  b : m ((c.tc : Thread nD τ).loc main_arg2) = grid .f32 2 1024 B

variable {m c H G B} (A : Args H G B m c)

include A

theorem out3 : allV (m ((c.tc : Thread nD τ).loc main_arg0)) (m ((c.tc : Thread nD τ).loc main_arg1)) (m ((c.tc : Thread nD τ).loc main_arg2))
    = grid .bf16 4096 1024 (scaled (fun i j => Cert.KernelGateNormIdeal.Own.gelu (H i (1024 + j))) (G 1) (B 1)) := by
  unfold allV
  rw [A.h, A.g, A.b, rightV_grid, geluV_grid, normedV_grid, rowV_grid, rowV_grid]
  refine eq_grid fun i j => ?_
  pointwise [grid_ix2]
  rfl

end Cert.ReferenceGateNormIdeal.Own

end
-- ==== Proof.GateNorm.Claims.lean ====
/- The claims about the normalization of the gate's half. -/
module

public import proofs.«01_k».proof.Defs
public import proofs.«01_k».proof.Proof.GateNorm.Value
public import proofs.«01_k».proof.Proof.Gen.KernelGateNorm.Frame
public import Idealize.ShloMosaic.Lib.Quiescent

@[expose] public section

noncomputable section

namespace Cert.GateNorm

open Idealize.ShloMosaic Idealize.SL.Sem

theorem frame : Cert.quiescent_KernelGateNorm := fun m ρ _ => KernelGateNorm.Gen.frame m ρ

theorem frame_ideal : Cert.quiescent_KernelGateNormIdeal := fun m ρ _ => KernelGateNormIdeal.Gen.frame m ρ

theorem reference_frame : Cert.quiescent_ReferenceGateNormIdeal := fun m ρ _ =>
  (θ_run ReferenceGateNormIdeal.defs _ _).mono (fun r h => ⟨fun c => (h c).2, sem_eq_zero_of_no_sems (by decide) r.2⟩)
    (ReferenceGateNormIdeal.Value.run (F := Ideal) m ρ)

theorem equal : Cert.algebraic_KernelGateNormIdeal_ReferenceGateNormIdeal := by
  intro m g m' g' _ hagree
  refine ⟨fun c => (KernelGateNormIdeal.Gen.dats m 0 c).arrAt 3 KernelGateNormIdeal.cfg0.N, KernelGateNormIdeal.Value.run_blocks m g, ?_⟩
  refine (θ_run ReferenceGateNormIdeal.defs _ _).mono (fun r h c => ?_) (ReferenceGateNormIdeal.Value.run (F := Ideal) m' g')
  obtain ⟨h0, hk⟩ := h c
  obtain ⟨a0, a1, a2⟩ := hagree c
  obtain ⟨H, hH⟩ := Cert.Lin.exists_grid (φ := .f32) (m ((c.tc : Thread KernelGateNormIdeal.nD KernelGateNormIdeal.τ).loc KernelGateNormIdeal.main_arg0))
  obtain ⟨G, hG⟩ := Cert.Lin.exists_grid (φ := .f32) (m ((c.tc : Thread KernelGateNormIdeal.nD KernelGateNormIdeal.τ).loc KernelGateNormIdeal.main_arg1))
  obtain ⟨B, hB⟩ := Cert.Lin.exists_grid (φ := .f32) (m ((c.tc : Thread KernelGateNormIdeal.nD KernelGateNormIdeal.τ).loc KernelGateNormIdeal.main_arg2))
  have A : KernelGateNormIdeal.Own.Args m c H G B := ⟨hH, hG, hB⟩
  have A' : ReferenceGateNormIdeal.Own.Args H G B m' c := ⟨a0.trans hH, a1.trans hG, a2.trans hB⟩
  exact ⟨h0.trans ((ReferenceGateNormIdeal.Own.out3 A').trans (KernelGateNormIdeal.Own.final3 A).symm), hk⟩

end Cert.GateNorm

end
-- ==== Proof.Prev.Words.lean ====
/- The words of the key loop of the attention gradient with earlier sums: they are those of the call without, read there. -/
module

public import proofs.«01_k».proof.Proof.Ideal.Words
public import proofs.«01_k».proof.Proof.Gen.KernelPrevIdeal.Loops

@[expose] public section

namespace Cert.KernelPrevIdeal.Own

open Cert.KernelPrevIdeal Cert.KernelPrevIdeal.Gen
open Cert.KernelIdeal.Own (row_lt start)
open Idealize.ShloMosaic

theorem loop1_ok (i : grid0.Coords) (w : BitVec 32) : (k0_t1_loop i w).OK :=
  Cert.KernelIdeal.Own.loop1_ok i w

theorem loop1_trips (i : grid0.Coords) (w : BitVec 32) : (k0_t1_loop i w).trips = (i 1).val - start i w :=
  Cert.KernelIdeal.Own.loop1_trips i w

theorem loop2_ok (i : grid0.Coords) (w : BitVec 32) : (k0_t2_loop i w).OK :=
  Cert.KernelIdeal.Own.loop2_ok i w

theorem loop2_trips (i : grid0.Coords) (w : BitVec 32) : (k0_t2_loop i w).trips = 0 :=
  Cert.KernelIdeal.Own.loop2_trips i w

theorem block_lt (i : grid0.Coords) (w : BitVec 32) (k : Fin (k0_t1_loop i w).trips) : start i w + k.val < (i 1).val :=
  Cert.KernelIdeal.Own.block_lt i w k

theorem off1_eq (i : grid0.Coords) (w : BitVec 32) (k : Fin (k0_t1_loop i w).trips) :
    k0_off1 i w k = ![256 * (start i w + k.val), 0] :=
  Cert.KernelIdeal.Own.off1_eq i w k

theorem off2_eq (i : grid0.Coords) (w : BitVec 32) (k : Fin (k0_t1_loop i w).trips) :
    k0_off2 i w k = ![0, 256 * (start i w + k.val)] :=
  Cert.KernelIdeal.Own.off2_eq i w k

theorem chk1 (i : grid0.Coords) (w : BitVec 32) : k0_chk1 i w :=
  Cert.KernelIdeal.Own.chk1 i w

theorem off5_eq (i : grid0.Coords) : k0_off5 i = ![256 * (i 1).val, 0] :=
  Cert.KernelIdeal.Own.off5_eq i

theorem off6_eq (i : grid0.Coords) : k0_off6 i = ![0, 256 * (i 1).val] :=
  Cert.KernelIdeal.Own.off6_eq i

end Cert.KernelPrevIdeal.Own
-- ==== Proof.Prev.Trip.lean ====
/- One trip of the key loop of the attention gradient with earlier sums: what it does is what a trip of the call without them does. -/
module

public import proofs.«01_k».proof.Proof.Prev.Words
public import proofs.«01_k».proof.Proof.Ideal.Body
public import proofs.«01_k».proof.Proof.Gen.KernelPrevIdeal.Frame
public import Idealize.ShloMosaic.Lib.VecWindow

@[expose] public section

set_option maxRecDepth 16384

noncomputable section

namespace Cert.KernelPrevIdeal.Own

open Cert.KernelPrevIdeal
open Cert.KernelPrevIdeal.Gen
open Cert.KernelIdeal.Own (row_lt start Fixed St rows cols trip trips trips_succ)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Loop

variable (c : Dev nD) (i : grid0.Coords)
  (arg2 : Memref sig .tc .vmem S256x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S256x128 .f32) (harg5 : arg5.IsWhole)
  (arg6 : Memref sig .tc .vmem S256x128 .f32) (harg6 : arg6.IsWhole) (arg7 : Memref sig .tc .vmem S512x256 .bf16) (harg7 : arg7.IsWhole)
  (arg8 : Memref sig .tc .vmem S4096x128 .f32) (harg8 : arg8.IsWhole) (arg9 : Memref sig .tc .vmem S4096x128 .f32) (harg9 : arg9.IsWhole)
  (arg10 : Memref sig .tc .vmem S256x128 .bf16) (harg10 : arg10.IsWhole) (arg11 : Memref sig .tc .vmem S4096x128 .f32) (harg11 : arg11.IsWhole)
  (arg12 : Memref sig .tc .vmem S4096x128 .f32) (harg12 : arg12.IsWhole) (arg13 : Memref sig .tc .vmem S256x128 .f32) (harg13 : arg13.IsWhole)
  (arg14 : Memref sig .tc .vmem S256x128 .f32) (harg14 : arg14.IsWhole) (arg15 : Memref sig .tc .vmem S256x1 .f32) (harg15 : arg15.IsWhole)
  (arg16 : Memref sig .tc .vmem S256x1 .f32) (harg16 : arg16.IsWhole) (arg17 : Memref sig .tc .vmem S256x1 .f32) (harg17 : arg17.IsWhole)
  (arg18 : Memref sig .tc .vmem S256x1 .f32) (harg18 : arg18.IsWhole) (arg19 : Memref sig .tc .vmem S128x4096 .f32) (harg19 : arg19.IsWhole)
  (arg20 : Memref sig .tc .vmem S128x4096 .f32) (harg20 : arg20.IsWhole)

/-- The buffers a trip touches, the keys and values and the eight it updates, at their contents. -/
def Held (ks vs : FVec F S4096x128 .bf16) (s : St F) : sProp 𝕄 :=
  iprop(owns (c : Thread nD τ) arg3 fullShare ks ∗ owns (c : Thread nD τ) arg4 fullShare vs
    ∗ owns (c : Thread nD τ) arg13 fullShare s.accA ∗ owns (c : Thread nD τ) arg14 fullShare s.accB
    ∗ owns (c : Thread nD τ) arg15 fullShare s.preA ∗ owns (c : Thread nD τ) arg16 fullShare s.preB
    ∗ owns (c : Thread nD τ) arg17 fullShare s.gpA ∗ owns (c : Thread nD τ) arg18 fullShare s.gpB
    ∗ owns (c : Thread nD τ) arg19 fullShare s.dkt ∗ owns (c : Thread nD τ) arg20 fullShare s.dvt)

set_option maxHeartbeats 4000000 in
/-- ONE TRIP of the printed loop is `trip`. -/
theorem wp_trip (p : Fixed F) (ks vs : FVec F S4096x128 .bf16) (s : St F) (arg1 : BitVec 32) (v58 : FVec F S256x128 .f32)
    (v60 v79 : FVec F S256x1 .f32) (v88 : BitVec 32) (hw : k0_chk1 i v88) (v90 : BitVec 32) (k : Fin (k0_t1_loop i v88).trips) (acc : Unit)
    (h : start i v88 + k.val < 16) :
    Held c arg3 arg4 arg13 arg14 arg15 arg16 arg17 arg18 arg19 arg20 ks vs s
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12
            arg13 harg13 arg14 harg14 arg15 harg15 arg16 harg16 arg17 harg17 arg18 harg18 arg19 harg19 arg20 harg20 arg1
            p.tri p.qa p.qb p.da p.db p.qta p.qtb p.dta p.dtb v58 v60 v79 v88 hw v90 k acc)
          (fun _ => Held c arg3 arg4 arg13 arg14 arg15 arg16 arg17 arg18 arg19 arg20 ks vs (trip p ks vs (start i v88 + k.val) h s)) := by
  have e3 (f : arg3.view.ty.Contents (Elt F)) (hf : arg3.view.read (Elt F) f = ks) :
      arg3.view.readAt (Elt F) (Rect.unit (s := S4096x128) (k0_off1 i v88 k) S256x128.size (k0_off1_inb i v88 hw k)).toLoadRect f
        = rows ks (start i v88 + k.val) h := by
    rw [View.readAt_unit _ _ _ (off1_eq i v88 k), hf]; rfl
  have e4 (f : arg4.view.ty.Contents (Elt F)) (hf : arg4.view.read (Elt F) f = vs) :
      arg4.view.readAt (Elt F) (Rect.unit (s := S4096x128) (k0_off1 i v88 k) S256x128.size (k0_off1_inb i v88 hw k)).toLoadRect f
        = rows vs (start i v88 + k.val) h := by
    rw [View.readAt_unit _ _ _ (off1_eq i v88 k), hf]; rfl
  have e17 (f : arg19.view.ty.Contents (Elt F)) (hf : arg19.view.read (Elt F) f = s.dkt) :
      arg19.view.readAt (Elt F) (Rect.unit (s := S128x4096) (k0_off2 i v88 k) S128x256.size (k0_off2_inb i v88 hw k)).toLoadRect f
        = cols s.dkt (start i v88 + k.val) h := by
    rw [View.readAt_unit _ _ _ (off2_eq i v88 k), hf]; rfl
  have e18 (f : arg20.view.ty.Contents (Elt F)) (hf : arg20.view.read (Elt F) f = s.dvt) :
      arg20.view.readAt (Elt F) (Rect.unit (s := S128x4096) (k0_off2 i v88 k) S128x256.size (k0_off2_inb i v88 hw k)).toLoadRect f
        = cols s.dvt (start i v88 + k.val) h := by
    rw [View.readAt_unit _ _ _ (off2_eq i v88 k), hf]; rfl
  have e11 (f : arg13.view.ty.Contents (Elt F)) (hf : arg13.view.read (Elt F) f = s.accA) :
      arg13.view.readAt (Elt F) (Rect.unit (s := S256x128) ![0, 0] S256x128.size inb_S256x128_S256x128_0_0).toLoadRect f = s.accA := by
    rw [View.readAt_full, hf]
  have e12 (f : arg14.view.ty.Contents (Elt F)) (hf : arg14.view.read (Elt F) f = s.accB) :
      arg14.view.readAt (Elt F) (Rect.unit (s := S256x128) ![0, 0] S256x128.size inb_S256x128_S256x128_0_0).toLoadRect f = s.accB := by
    rw [View.readAt_full, hf]
  have e13 (f : arg15.view.ty.Contents (Elt F)) (hf : arg15.view.read (Elt F) f = s.preA) :
      arg15.view.readAt (Elt F) (Rect.unit (s := S256x1) ![0, 0] S256x1.size inb_S256x1_S256x1_0_0).toLoadRect f = s.preA := by
    rw [View.readAt_full, hf]
  have e14 (f : arg16.view.ty.Contents (Elt F)) (hf : arg16.view.read (Elt F) f = s.preB) :
      arg16.view.readAt (Elt F) (Rect.unit (s := S256x1) ![0, 0] S256x1.size inb_S256x1_S256x1_0_0).toLoadRect f = s.preB := by
    rw [View.readAt_full, hf]
  have e15 (f : arg17.view.ty.Contents (Elt F)) (hf : arg17.view.read (Elt F) f = s.gpA) :
      arg17.view.readAt (Elt F) (Rect.unit (s := S256x1) ![0, 0] S256x1.size inb_S256x1_S256x1_0_0).toLoadRect f = s.gpA := by
    rw [View.readAt_full, hf]
  have e16 (f : arg18.view.ty.Contents (Elt F)) (hf : arg18.view.read (Elt F) f = s.gpB) :
      arg18.view.readAt (Elt F) (Rect.unit (s := S256x1) ![0, 0] S256x1.size inb_S256x1_S256x1_0_0).toLoadRect f = s.gpB := by
    rw [View.readAt_full, hf]
  unfold k0_t1_body Held owns
  simp only [k0_part1_eq_skeleton, k0_part2_eq_skeleton, k0_part3_eq_skeleton, k0_part4_eq_skeleton]
  unfold k0_part1_skel k0_part2_skel k0_part3_skel k0_part4_skel
  iintro ⟨⟨%f3, %h3, H3⟩, ⟨%f4, %h4, H4⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩
  sl_exec
  sl_step
  isplitl [H3]
  · iexists _; isplitr; swap; (iexact H3); ipureintro; exact h3
  isplitl [H4]
  · iexists _; isplitr; swap; (iexact H4); ipureintro; exact h4
  isplitl [H11]
  · iexists _; isplitr; swap; (iexact H11); ipureintro
    refine (View.read_writes_full _ _ _ _ _).trans ?_
    simp only [e3 _ h3, e4 _ h4, e11 _ h11, e12 _ h12, e13 _ h13, e14 _ h14, e15 _ h15, e16 _ h16]
    rfl
  isplitl [H12]
  · iexists _; isplitr; swap; (iexact H12); ipureintro
    refine (View.read_writes_full _ _ _ _ _).trans ?_
    simp only [e3 _ h3, e4 _ h4, e11 _ h11, e12 _ h12, e13 _ h13, e14 _ h14, e15 _ h15, e16 _ h16]
    rfl
  isplitl [H13]
  · iexists _; isplitr; swap; (iexact H13); ipureintro
    refine (View.read_writes_full _ _ _ _ _).trans ?_
    simp only [e3 _ h3, e4 _ h4, e11 _ h11, e12 _ h12, e13 _ h13, e14 _ h14, e15 _ h15, e16 _ h16]
    rfl
  isplitl [H14]
  · iexists _; isplitr; swap; (iexact H14); ipureintro
    refine (View.read_writes_full _ _ _ _ _).trans ?_
    simp only [e3 _ h3, e4 _ h4, e11 _ h11, e12 _ h12, e13 _ h13, e14 _ h14, e15 _ h15, e16 _ h16]
    rfl
  isplitl [H15]
  · iexists _; isplitr; swap; (iexact H15); ipureintro
    refine (View.read_writes_full _ _ _ _ _).trans ?_
    simp only [e3 _ h3, e4 _ h4, e11 _ h11, e12 _ h12, e13 _ h13, e14 _ h14, e15 _ h15, e16 _ h16]
    rfl
  isplitl [H16]
  · iexists _; isplitr; swap; (iexact H16); ipureintro
    refine (View.read_writes_full _ _ _ _ _).trans ?_
    simp only [e3 _ h3, e4 _ h4, e11 _ h11, e12 _ h12, e13 _ h13, e14 _ h14, e15 _ h15, e16 _ h16]
    rfl
  isplitl [H17]
  · iexists _; isplitr; swap; (iexact H17); ipureintro
    refine (View.read_writes_cons_put _ _ _ _ _ (off2_eq i v88 k)).trans ?_
    rw [View.writes_nil, h17]
    simp only [e3 _ h3, e4 _ h4, e13 _ h13, e14 _ h14, e15 _ h15, e16 _ h16, e17 _ h17]
    rfl
  · iexists _; isplitr; swap; (iexact H18); ipureintro
    refine (View.read_writes_cons_put _ _ _ _ _ (off2_eq i v88 k)).trans ?_
    rw [View.writes_nil, h18]
    simp only [e3 _ h3, e4 _ h4, e13 _ h13, e14 _ h14, e18 _ h18]
    rfl

/-- The printed loop's invariant: before trip `k` the buffers hold what `k` trips leave. -/
@[instance_reducible] def loopInv (p : Fixed F) (ks vs : FVec F S4096x128 .bf16) (s : St F) (arg1 : BitVec 32) (v58 : FVec F S256x128 .f32)
    (v60 v79 : FVec F S256x1 .f32) (v88 : BitVec 32) (hw : k0_chk1 i v88) (v90 : BitVec 32) :
    LoopInvTy_k0_t1 (F := F) Unit ℕ (UR sig nD τ) ℕ Variants.none c none Set.univ i arg2 harg2 arg3 harg3 arg4 harg4 arg5 harg5 arg6 harg6
      arg7 harg7 arg8 harg8 arg9 harg9 arg10 harg10 arg11 harg11 arg12 harg12 arg13 harg13 arg14 harg14 arg15 harg15 arg16 harg16 arg17 harg17 arg18 harg18 arg19 harg19
      arg20 harg20 arg1 p.tri p.qa p.qb p.da p.db p.qta p.qtb p.dta p.dtb v58 v60 v79 v88 hw v90 where
  inv k _ := Held c arg3 arg4 arg13 arg14 arg15 arg16 arg17 arg18 arg19 arg20 ks vs (trips p ks vs (start i v88) s k)
  step k acc := by
    have h : start i v88 + k.val < 16 := (block_lt i v88 k).trans (row_lt i)
    rw [trips_succ p ks vs (start i v88) s k.val h]
    exact wp_trip c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 p ks vs _ arg1 v58 v60 v79 v88 hw v90 k acc h

end Loop

end Cert.KernelPrevIdeal.Own

end
-- ==== Proof.Prev.Body.lean ====
/- The body of the attention gradient with earlier sums at one grid point. It is that of the call without them, but that the sums are added to the
   gradients of the keys and values where a row's last point writes them. -/
module

public import proofs.«01_k».proof.Proof.Prev.Trip
public import Idealize.ShloMosaic.Lib.LoopRemainder

@[expose] public section

set_option maxRecDepth 16384

noncomputable section

namespace Cert.KernelPrevIdeal.Own

open Cert.KernelPrevIdeal
open Cert.KernelPrevIdeal.Gen hiding k0_pay1 k0_pay116 k0_pay117 k0_pay118 k0_pay119 k0_pay120 k0_pay123 k0_pay124 k0_pay125 k0_pay126 k0_pay127
    k0_pay128 k0_pay129 k0_pay130 k0_pay131 k0_pay132 k0_pay133 k0_pay134 k0_pay135 k0_pay136 k0_pay137 k0_pay138 k0_pay139 k0_pay140 k0_pay141
    k0_pay142 k0_pay145 k0_pay147 k0_pay148 k0_pay149 k0_pay150 k0_pay151 k0_pay152 k0_pay153 k0_pay154 k0_pay157 k0_pay158 k0_pay159 k0_pay160
    k0_pay161 k0_pay163 k0_pay164 k0_pay165 k0_pay167 k0_pay168 k0_pay169 k0_pay171 k0_pay172 k0_pay173 k0_pay174 k0_pay175 k0_pay176 k0_pay177
    k0_pay178 k0_pay179 k0_pay180 k0_pay181 k0_pay182
open Cert.KernelIdeal.Gen (k0_pay1 k0_pay116 k0_pay117 k0_pay118 k0_pay119 k0_pay120 k0_pay123 k0_pay124 k0_pay125 k0_pay126 k0_pay127 k0_pay128
    k0_pay129 k0_pay130 k0_pay131 k0_pay132 k0_pay133 k0_pay134 k0_pay135 k0_pay136 k0_pay137 k0_pay138 k0_pay139 k0_pay140 k0_pay141 k0_pay142
    k0_pay145 k0_pay147 k0_pay148 k0_pay149 k0_pay150 k0_pay151 k0_pay152 k0_pay153 k0_pay154 k0_pay157 k0_pay158 k0_pay159 k0_pay160 k0_pay161
    k0_pay163 k0_pay164 k0_pay165 k0_pay167 k0_pay168 k0_pay169 k0_pay171 k0_pay172 k0_pay173 k0_pay174 k0_pay175 k0_pay176 k0_pay177 k0_pay178
    k0_pay179 k0_pay180 k0_pay181 k0_pay182)
open Cert.KernelIdeal.Own (row_lt start Fixed St zeroF rows cols setCols trips fixedOf diagSumA diagExpA diagSumB diagGB diagDzA diagDzB diag
    looped point outQ upright First Last pointOf)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A load of a whole buffer reads the buffer. -/
theorem load_row {e : EltTy} (a : Memref sig .tc .vmem S256x128 e) (f : a.view.ty.Contents (Elt F)) :
    a.view.readAt (Elt F) (Rect.unit (s := S256x128) ![0, 0] S256x128.size inb_S256x128_S256x128_0_0).toLoadRect f = a.view.read (Elt F) f := by
  rw [View.readAt_full]

theorem load_col {e : EltTy} (a : Memref sig .tc .vmem S256x1 e) (f : a.view.ty.Contents (Elt F)) :
    a.view.readAt (Elt F) (Rect.unit (s := S256x1) ![0, 0] S256x1.size inb_S256x1_S256x1_0_0).toLoadRect f = a.view.read (Elt F) f := by
  rw [View.readAt_full]

theorem load_tri {e : EltTy} (a : Memref sig .tc .vmem S512x256 e) (f : a.view.ty.Contents (Elt F)) :
    a.view.readAt (Elt F) (Rect.unit (s := S512x256) ![0, 0] S512x256.size inb_S512x256_S512x256_0_0).toLoadRect f = a.view.read (Elt F) f := by
  rw [View.readAt_full]

section Body

variable (c : Dev nD) (i : grid0.Coords)
  (arg2 : Memref sig .tc .vmem S256x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S256x128 .f32) (harg5 : arg5.IsWhole)
  (arg6 : Memref sig .tc .vmem S256x128 .f32) (harg6 : arg6.IsWhole) (arg7 : Memref sig .tc .vmem S512x256 .bf16) (harg7 : arg7.IsWhole)
  (arg8 : Memref sig .tc .vmem S4096x128 .f32) (harg8 : arg8.IsWhole) (arg9 : Memref sig .tc .vmem S4096x128 .f32) (harg9 : arg9.IsWhole)
  (arg10 : Memref sig .tc .vmem S256x128 .bf16) (harg10 : arg10.IsWhole) (arg11 : Memref sig .tc .vmem S4096x128 .f32) (harg11 : arg11.IsWhole)
  (arg12 : Memref sig .tc .vmem S4096x128 .f32) (harg12 : arg12.IsWhole) (arg13 : Memref sig .tc .vmem S256x128 .f32) (harg13 : arg13.IsWhole)
  (arg14 : Memref sig .tc .vmem S256x128 .f32) (harg14 : arg14.IsWhole) (arg15 : Memref sig .tc .vmem S256x1 .f32) (harg15 : arg15.IsWhole)
  (arg16 : Memref sig .tc .vmem S256x1 .f32) (harg16 : arg16.IsWhole) (arg17 : Memref sig .tc .vmem S256x1 .f32) (harg17 : arg17.IsWhole)
  (arg18 : Memref sig .tc .vmem S256x1 .f32) (harg18 : arg18.IsWhole) (arg19 : Memref sig .tc .vmem S128x4096 .f32) (harg19 : arg19.IsWhole)
  (arg20 : Memref sig .tc .vmem S128x4096 .f32) (harg20 : arg20.IsWhole)

set_option maxHeartbeats 4000000 in
/-- The first part at a row's first point. -/
theorem wp_part15_first (q : FVec F S256x128 .bf16) (dO : FVec F S256x128 .f32) (tri : FVec F S512x256 .bf16) (dkt dvt : FVec F S128x4096 .f32) (hi : First i) :
    (iprop(owns (c : Thread nD τ) arg2 fullShare q
      ∗ owns (c : Thread nD τ) arg5 fullShare dO
      ∗ owns (c : Thread nD τ) arg7 fullShare tri
      ∗ owns (c : Thread nD τ) arg19 fullShare dkt
      ∗ owns (c : Thread nD τ) arg20 fullShare dvt) : sProp 𝕄)
      ⊢ wp frame (wpE (defs₀ (F := F)) Variants.none (c : Thread nD τ) none) Set.univ
          (k0_part15 (F := F) i arg2 harg2 arg3 harg3 arg4 harg4 arg5 harg5 arg6 harg6 arg7 harg7 arg8 harg8 arg9 harg9 arg10 harg10 arg11 harg11 arg12 harg12 arg13
            harg13 arg14 harg14 arg15 harg15 arg16 harg16 arg17 harg17 arg18 harg18 arg19 harg19 arg20 harg20)
          (fun r => iprop(⌜r = ⟨BitVec.ofNat 32 (i 1).val, k0_pay118 tri, k0_pay119, k0_pay120, k0_pay123 q, k0_pay124 q, k0_pay125 dO,
              k0_pay126 dO, k0_pay127, k0_pay128 q, k0_pay129 dO, k0_pay130 q, zeroF⟩⌝
            ∗ owns (c : Thread nD τ) arg2 fullShare q
            ∗ owns (c : Thread nD τ) arg5 fullShare dO
            ∗ owns (c : Thread nD τ) arg7 fullShare tri
            ∗ owns (c : Thread nD τ) arg19 fullShare k0_pay116
            ∗ owns (c : Thread nD τ) arg20 fullShare k0_pay117)) := by
  rw [k0_part15_eq_skeleton]
  unfold k0_part15_skel owns
  iintro ⟨⟨%f2, %h2, H2⟩, ⟨%f5, %h5, H5⟩, ⟨%f7, %h7, H7⟩, ⟨%f17, %h17, H17⟩, ⟨%f18, %h18, H18⟩⟩
  sl_exec
  sl_step
  isplitr
  · ipureintro
    simp only [↓load_row, ↓load_col, ↓load_tri, h2, h5, h7, h17, h18] <;> rfl
  isplitl [H2]
  · iexists _; isplitr; swap; (iexact H2); ipureintro; exact h2
  isplitl [H5]
  · iexists _; isplitr; swap; (iexact H5); ipureintro; exact h5
  isplitl [H7]
  · iexists _; isplitr; swap; (iexact H7); ipureintro; exact h7
  isplitl [H17]
  · iexists _; isplitr; swap; (iexact H17); ipureintro
    refine (View.read_writes_full _ _ _ _ _).trans ?_
    first | rfl | (rw [load_row, h17]; rfl) | (rw [load_col, h17]; rfl)
  · iexists _; isplitr; swap; (iexact H18); ipureintro
    refine (View.read_writes_full _ _ _ _ _).trans ?_
    first | rfl | (rw [load_row, h18]; rfl) | (rw [load_col, h18]; rfl)

set_option maxHeartbeats 4000000 in
/-- The first part at another point. -/
theorem wp_part15_other (q : FVec F S256x128 .bf16) (dO : FVec F S256x128 .f32) (tri : FVec F S512x256 .bf16) (dkt dvt : FVec F S128x4096 .f32) (hi : ¬ First i) :
    (iprop(owns (c : Thread nD τ) arg2 fullShare q
      ∗ owns (c : Thread nD τ) arg5 fullShare dO
      ∗ owns (c : Thread nD τ) arg7 fullShare tri
      ∗ owns (c : Thread nD τ) arg19 fullShare dkt
      ∗ owns (c : Thread nD τ) arg20 fullShare dvt) : sProp 𝕄)
      ⊢ wp frame (wpE (defs₀ (F := F)) Variants.none (c : Thread nD τ) none) Set.univ
          (k0_part15 (F := F) i arg2 harg2 arg3 harg3 arg4 harg4 arg5 harg5 arg6 harg6 arg7 harg7 arg8 harg8 arg9 harg9 arg10 harg10 arg11 harg11 arg12 harg12 arg13
            harg13 arg14 harg14 arg15 harg15 arg16 harg16 arg17 harg17 arg18 harg18 arg19 harg19 arg20 harg20)
          (fun r => iprop(⌜r = ⟨BitVec.ofNat 32 (i 1).val, k0_pay118 tri, k0_pay119, k0_pay120, k0_pay123 q, k0_pay124 q, k0_pay125 dO,
              k0_pay126 dO, k0_pay127, k0_pay128 q, k0_pay129 dO, k0_pay130 q, zeroF⟩⌝
            ∗ owns (c : Thread nD τ) arg2 fullShare q
            ∗ owns (c : Thread nD τ) arg5 fullShare dO
            ∗ owns (c : Thread nD τ) arg7 fullShare tri
            ∗ owns (c : Thread nD τ) arg19 fullShare dkt
            ∗ owns (c : Thread nD τ) arg20 fullShare dvt)) := by
  rw [k0_part15_eq_skeleton]
  unfold k0_part15_skel owns
  iintro ⟨⟨%f2, %h2, H2⟩, ⟨%f5, %h5, H5⟩, ⟨%f7, %h7, H7⟩, ⟨%f17, %h17, H17⟩, ⟨%f18, %h18, H18⟩⟩
  sl_exec
  sl_step
  isplitr
  · ipureintro
    simp only [↓load_row, ↓load_col, ↓load_tri, h2, h5, h7, h17, h18] <;> rfl
  isplitl [H2]
  · iexists _; isplitr; swap; (iexact H2); ipureintro; exact h2
  isplitl [H5]
  · iexists _; isplitr; swap; (iexact H5); ipureintro; exact h5
  isplitl [H7]
  · iexists _; isplitr; swap; (iexact H7); ipureintro; exact h7
  isplitl [H17]
  · iexists _; isplitr; swap; (iexact H17); ipureintro; exact h17
  · iexists _; isplitr; swap; (iexact H18); ipureintro; exact h18

/-- The first part: the gradients of keys and values start from nothing at a row's first point. -/
theorem wp_part15 (q : FVec F S256x128 .bf16) (dO : FVec F S256x128 .f32) (tri : FVec F S512x256 .bf16) (dkt dvt : FVec F S128x4096 .f32) :
    (iprop(owns (c : Thread nD τ) arg2 fullShare q
      ∗ owns (c : Thread nD τ) arg5 fullShare dO
      ∗ owns (c : Thread nD τ) arg7 fullShare tri
      ∗ owns (c : Thread nD τ) arg19 fullShare dkt
      ∗ owns (c : Thread nD τ) arg20 fullShare dvt) : sProp 𝕄)
      ⊢ wp frame (wpE (defs₀ (F := F)) Variants.none (c : Thread nD τ) none) Set.univ
          (k0_part15 (F := F) i arg2 harg2 arg3 harg3 arg4 harg4 arg5 harg5 arg6 harg6 arg7 harg7 arg8 harg8 arg9 harg9 arg10 harg10 arg11 harg11 arg12 harg12 arg13
            harg13 arg14 harg14 arg15 harg15 arg16 harg16 arg17 harg17 arg18 harg18 arg19 harg19 arg20 harg20)
          (fun r => iprop(⌜r = ⟨BitVec.ofNat 32 (i 1).val, k0_pay118 tri, k0_pay119, k0_pay120, k0_pay123 q, k0_pay124 q, k0_pay125 dO,
              k0_pay126 dO, k0_pay127, k0_pay128 q, k0_pay129 dO, k0_pay130 q, zeroF⟩⌝
            ∗ owns (c : Thread nD τ) arg2 fullShare q
            ∗ owns (c : Thread nD τ) arg5 fullShare dO
            ∗ owns (c : Thread nD τ) arg7 fullShare tri
            ∗ owns (c : Thread nD τ) arg19 fullShare (if First i then k0_pay116 else dkt)
            ∗ owns (c : Thread nD τ) arg20 fullShare (if First i then k0_pay117 else dvt))) := by
  by_cases hi : First i
  · rw [if_pos hi, if_pos hi]
    exact wp_part15_first c i arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 q dO tri dkt dvt hi
  · rw [if_neg hi, if_neg hi]
    exact wp_part15_other c i arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20 q dO tri dkt dvt hi

set_option maxHeartbeats 4000000 in
/-- The second part clears the accumulators. -/
theorem wp_part16 (v33 : IVec S128x1 1) (v35 v36 : FVec F S128x256 .f32) (cst_10 : F .f32) (ls x11 x12 : FVec F S256x128 .f32)
    (x13 x15 x16 : FVec F S256x1 .f32) :
    (iprop(owns (c : Thread nD τ) arg6 fullShare ls
      ∗ owns (c : Thread nD τ) arg13 fullShare x11
      ∗ owns (c : Thread nD τ) arg14 fullShare x12
      ∗ owns (c : Thread nD τ) arg15 fullShare x13
      ∗ owns (c : Thread nD τ) arg17 fullShare x15
      ∗ owns (c : Thread nD τ) arg18 fullShare x16) : sProp 𝕄)
      ⊢ wp frame (wpE (defs₀ (F := F)) Variants.none (c : Thread nD τ) none) Set.univ
          (k0_part16 (F := F) i arg2 harg2 arg3 harg3 arg4 harg4 arg5 harg5 arg6 harg6 arg7 harg7 arg8 harg8 arg9 harg9 arg10 harg10 arg11 harg11 arg12 harg12 arg13
            harg13 arg14 harg14 arg15 harg15 arg16 harg16 arg17 harg17 arg18 harg18 arg19 harg19 arg20 harg20 v33 v35 v36 cst_10)
          (fun r => iprop(⌜r = ⟨k0_pay131 v33 v35 cst_10, k0_pay132 v33 v36, k0_pay133 v33 v36, k0_pay134 ls, k0_pay135 ls, k0_pay140 ls⟩⌝
            ∗ owns (c : Thread nD τ) arg6 fullShare ls
            ∗ owns (c : Thread nD τ) arg13 fullShare k0_pay136
            ∗ owns (c : Thread nD τ) arg14 fullShare k0_pay137
            ∗ owns (c : Thread nD τ) arg15 fullShare x13
            ∗ owns (c : Thread nD τ) arg17 fullShare k0_pay138
            ∗ owns (c : Thread nD τ) arg18 fullShare k0_pay139)) := by
  rw [k0_part16_eq_skeleton]
  unfold k0_part16_skel owns
  iintro ⟨⟨%f6, %h6, H6⟩, ⟨%f11, %h11, H11⟩, ⟨%f12, %h12, H12⟩, ⟨%f13, %h13, H13⟩, ⟨%f15, %h15, H15⟩, ⟨%f16, %h16, H16⟩⟩
  sl_exec
  sl_step
  isplitr
  · ipureintro
    simp only [↓load_row, ↓load_col, ↓load_tri, h6, h11, h12, h13, h15, h16] <;> rfl
  isplitl [H6]
  · iexists _; isplitr; swap; (iexact H6); ipureintro; exact h6
  isplitl [H11]
  · iexists _; isplitr; swap; (iexact H11); ipureintro
    refine (View.read_writes_full _ _ _ _ _).trans ?_
    first | rfl | (rw [load_row, h11]; rfl) | (rw [load_col, h11]; rfl)
  isplitl [H12]
  · iexists _; isplitr; swap; (iexact H12); ipureintro
    refine (View.read_writes_full _ _ _ _ _).trans ?_
    first | rfl | (rw [load_row, h12]; rfl) | (rw [load_col, h12]; rfl)
  isplitl [H13]
  · iexists _; isplitr; swap; (iexact H13); ipureintro; exact h13
  isplitl [H15]
  · iexists _; isplitr; swap; (iexact H15); ipureintro
    refine (View.read_writes_full _ _ _ _ _).trans ?_
    first | rfl | (rw [load_row, h15]; rfl) | (rw [load_col, h15]; rfl)
  · iexists _; isplitr; swap; (iexact H16); ipureintro
    refine (View.read_writes_full _ _ _ _ _).trans ?_
    first | rfl | (rw [load_row, h16]; rfl) | (rw [load_col, h16]; rfl)

/-- What the third part finds when it has set the log-sums. -/
def Ready (accA accB : FVec F S256x128 .f32) (v60 v79 gpA gpB : FVec F S256x1 .f32) (dkt dvt : FVec F S128x4096 .f32) : St F where
  accA := accA
  accB := accB
  preA := v79
  preB := k0_pay141 v60
  gpA := gpA
  gpB := gpB
  dkt := dkt
  dvt := dvt

/-- The printed key loop, from any contents: it leaves what its trips leave. -/
theorem wp_loop (p : Fixed F) (ks vs : FVec F S4096x128 .bf16) (s : St F) (arg1 : BitVec 32) (v58 : FVec F S256x128 .f32)
    (v60 v79 : FVec F S256x1 .f32) (v88 : BitVec 32) (hw : k0_chk1 i v88) (v90 : BitVec 32) {β : Type}
    (kk : Unit → Prog (TpuEff nD τ sig (Elt F) Λ₀ .tc) β) (Q : β → sProp 𝕄) :
    Held c arg3 arg4 arg13 arg14 arg15 arg16 arg17 arg18 arg19 arg20 ks vs s
      ⊢ iprop((∀ acc, Held c arg3 arg4 arg13 arg14 arg15 arg16 arg17 arg18 arg19 arg20 ks vs
              (trips p ks vs (start i v88) s ((i 1).val - start i v88))
            -∗ wp frame (wpE (defs₀ (F := F)) Variants.none (c : Thread nD τ) none) Set.univ (kk acc) Q)
          -∗ wp frame (wpE (defs₀ (F := F)) Variants.none (c : Thread nD τ) none) Set.univ
              (Scf.Loop.for (k0_t1_loop i v88) (k0_t1_ok i v88 hw) ()
                (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
                  arg1 p.tri p.qa p.qb p.da p.db p.qta p.qtb p.dta p.dtb v58 v60 v79 v88 hw v90) >>= kk) Q) := by
  rw [← loop1_trips i v88]
  exact exec_loop frame (wpE (defs₀ (F := F)) Variants.none (c : Thread nD τ) none) Set.univ _ _ _ _ _ _
    (loopInv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
      p ks vs s arg1 v58 v60 v79 v88 hw v90)

set_option maxHeartbeats 4000000 in
/-- The third part: the key loop over the blocks before the query's own, then that block's logits. -/
theorem wp_part17 (p : Fixed F) (ks vs : FVec F S4096x128 .bf16) (v58 : FVec F S256x128 .f32) (v60 v79 : FVec F S256x1 .f32)
    (accA accB : FVec F S256x128 .f32) (x13 x14 gpA gpB : FVec F S256x1 .f32) (dkt dvt : FVec F S128x4096 .f32) :
    (iprop(owns (c : Thread nD τ) arg3 fullShare ks ∗ owns (c : Thread nD τ) arg4 fullShare vs
      ∗ owns (c : Thread nD τ) arg13 fullShare accA ∗ owns (c : Thread nD τ) arg14 fullShare accB
      ∗ owns (c : Thread nD τ) arg15 fullShare x13 ∗ owns (c : Thread nD τ) arg16 fullShare x14
      ∗ owns (c : Thread nD τ) arg17 fullShare gpA ∗ owns (c : Thread nD τ) arg18 fullShare gpB
      ∗ owns (c : Thread nD τ) arg19 fullShare dkt ∗ owns (c : Thread nD τ) arg20 fullShare dvt) : sProp 𝕄)
      ⊢ wp frame (wpE (defs₀ (F := F)) Variants.none (c : Thread nD τ) none) Set.univ
          (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
            (BitVec.ofNat 32 (i 1).val) p.tri p.qa p.qb p.da p.db p.qta p.qtb p.dta p.dtb v58 v60 v79)
          (fun r => iprop(⌜r = ⟨k0_pay145 (rows ks (i 1).val (row_lt i)), k0_pay147, k0_pay148, k0_pay149 p.qa (rows ks (i 1).val (row_lt i)),
              k0_pay150 p.qb (rows ks (i 1).val (row_lt i)), k0_pay151 p.da (rows vs (i 1).val (row_lt i)),
              k0_pay152 p.db (rows vs (i 1).val (row_lt i)), k0_pay153 p.qa (rows ks (i 1).val (row_lt i)),
              k0_pay154 p.qa (rows ks (i 1).val (row_lt i))⟩⌝
            ∗ Held c arg3 arg4 arg13 arg14 arg15 arg16 arg17 arg18 arg19 arg20 ks vs
                (trips p ks vs (start i (Scalar.fptosi 32 (k0_pay142 v58))) (Ready accA accB v60 v79 gpA gpB dkt dvt)
                  ((i 1).val - start i (Scalar.fptosi 32 (k0_pay142 v58)))))) := by
  have e3 (f : arg3.view.ty.Contents (Elt F)) (hf : arg3.view.read (Elt F) f = ks) :
      arg3.view.readAt (Elt F) (Rect.unit (s := S4096x128) (k0_off5 i) S256x128.size (k0_off5_inb i)).toLoadRect f
        = rows ks (i 1).val (row_lt i) := by
    rw [View.readAt_unit _ _ _ (off5_eq i), hf]; rfl
  have e4 (f : arg4.view.ty.Contents (Elt F)) (hf : arg4.view.read (Elt F) f = vs) :
      arg4.view.readAt (Elt F) (Rect.unit (s := S4096x128) (k0_off5 i) S256x128.size (k0_off5_inb i)).toLoadRect f
        = rows vs (i 1).val (row_lt i) := by
    rw [View.readAt_unit _ _ _ (off5_eq i), hf]; rfl
  have hck := chk1 i (Scalar.fptosi 32 (k0_pay142 v58))
  have htr := loop2_trips i (Scalar.fptosi 32 (k0_pay142 v58))
  have hn := loop1_trips i (Scalar.fptosi 32 (k0_pay142 v58))
  rw [k0_part17_eq_skeleton]
  unfold k0_part17_skel
  unfold owns
  iintro ⟨H3, H4, H11, H12, ⟨%f13, %h13, H13⟩, ⟨%f14, %h14, H14⟩, H15, H16, H17, H18⟩
  sl_exec
  ihave HL : (Held c arg3 arg4 arg13 arg14 arg15 arg16 arg17 arg18 arg19 arg20 ks vs (Ready accA accB v60 v79 gpA gpB dkt dvt)) $$ [H3 H4 H11 H12 H13 H14 H15 H16 H17 H18]
  · unfold Held owns
    isplitl [H3]; · iexact H3
    isplitl [H4]; · iexact H4
    isplitl [H11]; · iexact H11
    isplitl [H12]; · iexact H12
    isplitl [H13]
    · iexists _; isplitr; swap; (iexact H13); ipureintro
      exact View.read_writes_full _ _ _ _ _
    isplitl [H14]
    · iexists _; isplitr; swap; (iexact H14); ipureintro
      exact View.read_writes_full _ _ _ _ _
    isplitl [H15]; · iexact H15
    isplitl [H16]; · iexact H16
    isplitl [H17]; · iexact H17
    iexact H18
  iapply (wp_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
    p ks vs (Ready accA accB v60 v79 gpA gpB dkt dvt) (BitVec.ofNat 32 (i 1).val) v58 v60 v79 (Scalar.fptosi 32 (k0_pay142 v58)) hck
    (Scalar.minsi (BitVec.ofNat 32 (i 1).val) (Scalar.maxsi 0#32 (Scalar.fptosi 32 (k0_pay142 v58))))) $$ [HL]
  · iexact HL
  iintro %acc HH
  unfold Held owns
  icases HH with ⟨⟨%f3, %h3, H3⟩, ⟨%f4, %h4, H4⟩, H11, H12, H13, H14, H15, H16, H17, H18⟩
  sl_exec
  sl_step
  isplitr
  · ipureintro
    rw [e3 _ h3, e4 _ h4]; rfl
  isplitl [H3]; · iexists _; isplitr; swap; (iexact H3); ipureintro; exact h3
  isplitl [H4]; · iexists _; isplitr; swap; (iexact H4); ipureintro; exact h4
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

set_option maxHeartbeats 4000000 in
/-- The fourth part: the logits of the query's own block. -/
theorem wp_part18 (v4 : FVec F S512x256 .bf16) (v7 : IVec S256x256 1) (v107 v111 v115 : FVec F S256x256 .f32) (preA : FVec F S256x1 .f32) :
    (iprop(owns (c : Thread nD τ) arg15 fullShare preA) : sProp 𝕄)
      ⊢ wp frame (wpE (defs₀ (F := F)) Variants.none (c : Thread nD τ) none) Set.univ
          (k0_part18 (F := F) i arg2 harg2 arg3 harg3 arg4 harg4 arg5 harg5 arg6 harg6 arg7 harg7 arg8 harg8 arg9 harg9 arg10 harg10 arg11 harg11 arg12 harg12 arg13
            harg13 arg14 harg14 arg15 harg15 arg16 harg16 arg17 harg17 arg18 harg18 arg19 harg19 arg20 harg20 v4 v7 v107 v111 v115)
          (fun r => iprop(⌜r = ⟨k0_pay157 v107, k0_pay158 v107, k0_pay159 v4 v7 v111 v115, k0_pay160 v4 v7 v107, k0_pay161 v4 v7 v111 v115 preA, zeroF⟩⌝
            ∗ owns (c : Thread nD τ) arg15 fullShare preA)) := by
  rw [k0_part18_eq_skeleton]
  unfold k0_part18_skel owns
  iintro ⟨⟨%f13, %h13, H13⟩⟩
  sl_exec
  sl_step
  isplitr
  · ipureintro
    simp only [↓load_row, ↓load_col, ↓load_tri, h13] <;> rfl
  · iexists _; isplitr; swap; (iexact H13); ipureintro; exact h13

set_option maxHeartbeats 4000000 in
/-- The fifth part: the attention weights and what they carry. -/
theorem wp_part19 (v4 : FVec F S512x256 .bf16) (v7 : IVec S256x256 1) (v108 v109 v140 v149 v155 v160 : FVec F S256x256 .f32) (cst : F .f32)
    (preA preB gpA : FVec F S256x1 .f32) :
    (iprop(owns (c : Thread nD τ) arg15 fullShare preA
      ∗ owns (c : Thread nD τ) arg16 fullShare preB
      ∗ owns (c : Thread nD τ) arg17 fullShare gpA) : sProp 𝕄)
      ⊢ wp frame (wpE (defs₀ (F := F)) Variants.none (c : Thread nD τ) none) Set.univ
          (k0_part19 (F := F) i arg2 harg2 arg3 harg3 arg4 harg4 arg5 harg5 arg6 harg6 arg7 harg7 arg8 harg8 arg9 harg9 arg10 harg10 arg11 harg11 arg12 harg12 arg13
            harg13 arg14 harg14 arg15 harg15 arg16 harg16 arg17 harg17 arg18 harg18 arg19 harg19 arg20 harg20 v4 v7 v108 v109 v140 v149 v155
            v160 cst)
          (fun r => iprop(⌜r = ⟨k0_pay164 v7 v108 v160 cst, k0_pay165 v7 v160 cst, k0_pay168 v7 v109 v140 v155 preB, k0_pay169 v7 v140 v155 preB,
              k0_pay171 v4 v7 v109 v140 v155 preB, k0_pay172 v4 v7 v108 v160 cst gpA, k0_pay173 v4 v7 v108 v160 cst gpA, gpA⟩⌝
            ∗ owns (c : Thread nD τ) arg15 fullShare (k0_pay163 v149 preA)
            ∗ owns (c : Thread nD τ) arg16 fullShare (k0_pay167 v155 preB)
            ∗ owns (c : Thread nD τ) arg17 fullShare gpA)) := by
  rw [k0_part19_eq_skeleton]
  unfold k0_part19_skel owns
  iintro ⟨⟨%f13, %h13, H13⟩, ⟨%f14, %h14, H14⟩, ⟨%f15, %h15, H15⟩⟩
  sl_exec
  sl_step
  isplitr
  · ipureintro
    simp only [↓load_row, ↓load_col, ↓load_tri, h13, h14, h15] <;> rfl
  isplitl [H13]
  · iexists _; isplitr; swap; (iexact H13); ipureintro
    refine (View.read_writes_full _ _ _ _ _).trans ?_
    first | rfl | (rw [load_row, h13]; rfl) | (rw [load_col, h13]; rfl)
  isplitl [H14]
  · iexists _; isplitr; swap; (iexact H14); ipureintro
    refine (View.read_writes_full _ _ _ _ _).trans ?_
    first | rfl | (rw [load_row, h14]; rfl) | (rw [load_col, h14]; rfl)
  · iexists _; isplitr; swap; (iexact H15); ipureintro; exact h15

set_option maxHeartbeats 4000000 in
/-- The sixth part: the gradients of the logits. -/
theorem wp_part20 (v7 : IVec S256x256 1) (v51 : FVec F S128x256 .bf16) (v105 : FVec F S128x256 .f32) (v106 v107 v115 v132 v169 : FVec F S256x256 .f32)
    (v170 : FVec F S256x256 .bf16) (v184 v191 v195 : FVec F S256x256 .f32) (v198 v199 : FVec F S256x1 .f32) (x15 gpB : FVec F S256x1 .f32) :
    (iprop(owns (c : Thread nD τ) arg17 fullShare x15
      ∗ owns (c : Thread nD τ) arg18 fullShare gpB) : sProp 𝕄)
      ⊢ wp frame (wpE (defs₀ (F := F)) Variants.none (c : Thread nD τ) none) Set.univ
          (k0_part20 (F := F) i arg2 harg2 arg3 harg3 arg4 harg4 arg5 harg5 arg6 harg6 arg7 harg7 arg8 harg8 arg9 harg9 arg10 harg10 arg11 harg11 arg12 harg12 arg13
            harg13 arg14 harg14 arg15 harg15 arg16 harg16 arg17 harg17 arg18 harg18 arg19 harg19 arg20 harg20 v7 v51 v105 v106 v107 v115
            v132 v169 v170 v184 v191 v195 v198 v199)
          (fun r => iprop(⌜r = ⟨k0_pay175 v7 v106 v115 v169 v195, k0_pay177 v7 v107 v132 v184 v191 gpB, k0_pay178 v51 v105 v170, constant S128x256 .f32 0x00000000#32⟩⌝
            ∗ owns (c : Thread nD τ) arg17 fullShare (k0_pay174 v198)
            ∗ owns (c : Thread nD τ) arg18 fullShare (k0_pay176 v191 gpB))) := by
  rw [k0_part20_eq_skeleton]
  unfold k0_part20_skel owns
  iintro ⟨⟨%f15, %h15, H15⟩, ⟨%f16, %h16, H16⟩⟩
  sl_exec
  sl_step
  isplitr
  · ipureintro
    simp only [↓load_row, ↓load_col, ↓load_tri, h15, h16] <;> rfl
  isplitl [H15]
  · iexists _; isplitr; swap; (iexact H15); ipureintro
    refine (View.read_writes_full _ _ _ _ _).trans ?_
    first | rfl | (rw [load_row, h15]; rfl) | (rw [load_col, h15]; rfl)
  · iexists _; isplitr; swap; (iexact H16); ipureintro
    refine (View.read_writes_full _ _ _ _ _).trans ?_
    first | rfl | (rw [load_row, h16]; rfl) | (rw [load_col, h16]; rfl)

set_option maxHeartbeats 4000000 in
/-- The seventh part: what that block adds to the four gradients. -/
theorem wp_part21 (arg1 : BitVec 32) (v41 v46 v56 : FVec F S128x256 .bf16) (v100 : FVec F S256x128 .bf16) (v104 : FVec F S128x256 .f32)
    (v185 v215 v239 : FVec F S256x256 .bf16) (v241 cst : FVec F S128x256 .f32) (accA accB : FVec F S256x128 .f32) (dkt dvt : FVec F S128x4096 .f32) :
    (iprop(owns (c : Thread nD τ) arg13 fullShare accA
      ∗ owns (c : Thread nD τ) arg14 fullShare accB
      ∗ owns (c : Thread nD τ) arg19 fullShare dkt
      ∗ owns (c : Thread nD τ) arg20 fullShare dvt) : sProp 𝕄)
      ⊢ wp frame (wpE (defs₀ (F := F)) Variants.none (c : Thread nD τ) none) Set.univ
          (k0_part21 (F := F) i arg2 harg2 arg3 harg3 arg4 harg4 arg5 harg5 arg6 harg6 arg7 harg7 arg8 harg8 arg9 harg9 arg10 harg10 arg11 harg11 arg12 harg12 arg13
            harg13 arg14 harg14 arg15 harg15 arg16 harg16 arg17 harg17 arg18 harg18 arg19 harg19 arg20 harg20 arg1 v41 v46 v56 v100 v104
            v185 v215 v239 v241 cst)
          (fun r => iprop(⌜r = k0_pay179 v100 v215 accA⌝
            ∗ owns (c : Thread nD τ) arg13 fullShare (k0_pay179 v100 v215 accA)
            ∗ owns (c : Thread nD τ) arg14 fullShare (k0_pay180 v100 v239 accB)
            ∗ owns (c : Thread nD τ) arg19 fullShare (setCols dkt (i 1).val (k0_pay181 v41 v46 v104 v215 v239 cst (cols dkt (i 1).val (row_lt i))))
            ∗ owns (c : Thread nD τ) arg20 fullShare (setCols dvt (i 1).val (k0_pay182 v56 v185 v241 (cols dvt (i 1).val (row_lt i)))))) := by
  have e17 (f : arg19.view.ty.Contents (Elt F)) (hf : arg19.view.read (Elt F) f = dkt) :
      arg19.view.readAt (Elt F) (Rect.unit (s := S128x4096) (k0_off6 i) S128x256.size (k0_off6_inb i)).toLoadRect f
        = cols dkt (i 1).val (row_lt i) := by
    rw [View.readAt_unit _ _ _ (off6_eq i), hf]; rfl
  have e18 (f : arg20.view.ty.Contents (Elt F)) (hf : arg20.view.read (Elt F) f = dvt) :
      arg20.view.readAt (Elt F) (Rect.unit (s := S128x4096) (k0_off6 i) S128x256.size (k0_off6_inb i)).toLoadRect f
        = cols dvt (i 1).val (row_lt i) := by
    rw [View.readAt_unit _ _ _ (off6_eq i), hf]; rfl
  rw [k0_part21_eq_skeleton]
  unfold k0_part21_skel owns
  iintro ⟨⟨%f11, %h11, H11⟩, ⟨%f12, %h12, H12⟩, ⟨%f17, %h17, H17⟩, ⟨%f18, %h18, H18⟩⟩
  sl_exec
  sl_step
  isplitr
  · ipureintro
    exact (View.readCov_full _ _ _ _ _).trans (by (rw [load_row, h11]; rfl))
  isplitl [H11]
  · iexists _; isplitr; swap; (iexact H11); ipureintro
    refine (View.read_writes_full _ _ _ _ _).trans ?_
    first | rfl | (rw [load_row, h11]; rfl) | (rw [load_col, h11]; rfl)
  isplitl [H12]
  · iexists _; isplitr; swap; (iexact H12); ipureintro
    refine (View.read_writes_full _ _ _ _ _).trans ?_
    first | rfl | (rw [load_row, h12]; rfl) | (rw [load_col, h12]; rfl)
  isplitl [H17]
  · iexists _; isplitr; swap; (iexact H17); ipureintro
    refine (View.read_writes_cons_put _ _ _ _ _ (off6_eq i)).trans ?_
    rw [View.writes_nil, h17]
    simp only [↓load_row, ↓load_col, ↓load_tri, h11, h12, h17, h18, e17 _ h17, e18 _ h18]
    rfl
  · iexists _; isplitr; swap; (iexact H18); ipureintro
    refine (View.read_writes_cons_put _ _ _ _ _ (off6_eq i)).trans ?_
    rw [View.writes_nil, h18]
    simp only [↓load_row, ↓load_col, ↓load_tri, h11, h12, h17, h18, e17 _ h17, e18 _ h18]
    rfl

/-- A block of the upright gradient is the transpose of the same block of the other. -/
theorem upright_block (a : Memref sig .tc .vmem S128x4096 .f32) (f : a.view.ty.Contents (Elt F)) (n : ℕ)
    (inb : ∀ b, (![0, n] : Fin 2 → ℕ) b + S128x256.size b ≤ S128x4096.size b)
    (inb' : ∀ b, (![n, 0] : Fin 2 → ℕ) b + S256x128.size b ≤ S4096x128.size b) (x : S256x128.Idx) :
    transpose S256x128 [1, 0] (a.view.readAt (Elt F) (Rect.unit (s := S128x4096) ![0, n] S128x256.size inb).toLoadRect f) transposes_S128x256_p1_0_S256x128 x
      = upright (a.view.read (Elt F) f) ((Rect.unit (s := S4096x128) ![n, 0] S256x128.size inb').emb x) := by
  unfold upright
  rw [View.readAt_unit _ _ _ (rfl : ![0, n] = ![0, n])]
  · refine congrArg (a.view.read (Elt F) f) ?_
    funext b
    fin_cases b <;> rfl
  · exact inb

/-- A block of the written gradient: the transpose of the same block of the other, and the same block of the earlier sum. -/
theorem sum_block (a : Memref sig .tc .vmem S128x4096 .f32) (f : a.view.ty.Contents (Elt F)) (b : Memref sig .tc .vmem S4096x128 .f32)
    (g : b.view.ty.Contents (Elt F)) (n : ℕ)
    (inb : ∀ b, (![0, n] : Fin 2 → ℕ) b + S128x256.size b ≤ S128x4096.size b)
    (inb' : ∀ b, (![n, 0] : Fin 2 → ℕ) b + S256x128.size b ≤ S4096x128.size b) (x : S256x128.Idx) :
    addf (transpose S256x128 [1, 0] (a.view.readAt (Elt F) (Rect.unit (s := S128x4096) ![0, n] S128x256.size inb).toLoadRect f)
        transposes_S128x256_p1_0_S256x128)
      (b.view.readAt (Elt F) (Rect.unit (s := S4096x128) ![n, 0] S256x128.size inb').toLoadRect g) x
      = addf (upright (a.view.read (Elt F) f)) (b.view.read (Elt F) g) ((Rect.unit (s := S4096x128) ![n, 0] S256x128.size inb').emb x) :=
  congrArg₂ (FloatOps.addf (F := F) (φ := .f32)) (upright_block a f n inb inb' x) (by
    rw [View.readAt_unit _ _ _ (rfl : ![n, 0] = ![n, 0])]
    rfl)

/-- What one grid point does, all its buffers at their contents: the query gradient is written, the gradients of keys and values are carried on, and
    at a row's last point they are written out. -/
def PointPre (q : FVec F S256x128 .bf16) (ks vs : FVec F S4096x128 .bf16) (dO ls : FVec F S256x128 .f32) (tri : FVec F S512x256 .bf16) (pk pv : FVec F S4096x128 .f32)
    (x8 : FVec F S256x128 .bf16) (x9 x10 : FVec F S4096x128 .f32) (x11 x12 : FVec F S256x128 .f32) (x13 x14 x15 x16 : FVec F S256x1 .f32)
    (dkt dvt : FVec F S128x4096 .f32) : sProp 𝕄 :=
  iprop(owns (c : Thread nD τ) arg2 fullShare q ∗ owns (c : Thread nD τ) arg3 fullShare ks ∗ owns (c : Thread nD τ) arg4 fullShare vs
    ∗ owns (c : Thread nD τ) arg5 fullShare dO ∗ owns (c : Thread nD τ) arg6 fullShare ls ∗ owns (c : Thread nD τ) arg7 fullShare tri
    ∗ owns (c : Thread nD τ) arg8 fullShare pk ∗ owns (c : Thread nD τ) arg9 fullShare pv
    ∗ owns (c : Thread nD τ) arg10 fullShare x8 ∗ owns (c : Thread nD τ) arg11 fullShare x9 ∗ owns (c : Thread nD τ) arg12 fullShare x10
    ∗ owns (c : Thread nD τ) arg13 fullShare x11 ∗ owns (c : Thread nD τ) arg14 fullShare x12
    ∗ owns (c : Thread nD τ) arg15 fullShare x13 ∗ owns (c : Thread nD τ) arg16 fullShare x14
    ∗ owns (c : Thread nD τ) arg17 fullShare x15 ∗ owns (c : Thread nD τ) arg18 fullShare x16
    ∗ owns (c : Thread nD τ) arg19 fullShare dkt ∗ owns (c : Thread nD τ) arg20 fullShare dvt)

set_option maxHeartbeats 16000000 in
/-- THE BODY at one grid point is `point`. -/
theorem wp_body (q : FVec F S256x128 .bf16) (ks vs : FVec F S4096x128 .bf16) (dO ls : FVec F S256x128 .f32)
    (tri : FVec F S512x256 .bf16) (pk pv : FVec F S4096x128 .f32) (x8 : FVec F S256x128 .bf16) (x9 x10 : FVec F S4096x128 .f32) (x11 x12 : FVec F S256x128 .f32)
    (x13 x14 x15 x16 : FVec F S256x1 .f32) (dkt dvt : FVec F S128x4096 .f32) :
    PointPre c arg2 arg3 arg4 arg5 arg6 arg7 arg8 arg9 arg10 arg11 arg12 arg13 arg14 arg15 arg16 arg17 arg18 arg19 arg20
        q ks vs dO ls tri pk pv x8 x9 x10 x11 x12 x13 x14 x15 x16 dkt dvt
      ⊢ wp frame (wpE (defs₀ (F := F)) Variants.none (c : Thread nD τ) none) Set.univ
          (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => PointPre c arg2 arg3 arg4 arg5 arg6 arg7 arg8 arg9 arg10 arg11 arg12 arg13 arg14 arg15 arg16 arg17 arg18 arg19 arg20
            q ks vs dO ls tri pk pv (outQ (pointOf i q ks vs dO ls tri dkt dvt))
            (if Last i then addf (upright (pointOf i q ks vs dO ls tri dkt dvt).dkt) pk else x9)
            (if Last i then addf (upright (pointOf i q ks vs dO ls tri dkt dvt).dvt) pv else x10)
            (pointOf i q ks vs dO ls tri dkt dvt).accA (pointOf i q ks vs dO ls tri dkt dvt).accB
            (pointOf i q ks vs dO ls tri dkt dvt).preA (pointOf i q ks vs dO ls tri dkt dvt).preB
            (pointOf i q ks vs dO ls tri dkt dvt).gpA (pointOf i q ks vs dO ls tri dkt dvt).gpB
            (pointOf i q ks vs dO ls tri dkt dvt).dkt (pointOf i q ks vs dO ls tri dkt dvt).dvt) := by
  have hloop : Held c arg3 arg4 arg13 arg14 arg15 arg16 arg17 arg18 arg19 arg20 ks vs
        (trips (fixedOf q dO tri) ks vs (start i (Scalar.fptosi 32 (k0_pay142 (k0_pay134 ls))))
          (Ready k0_pay136 k0_pay137 (k0_pay135 ls) (k0_pay140 ls) k0_pay138 k0_pay139 (if First i then k0_pay116 else dkt)
            (if First i then k0_pay117 else dvt)) ((i 1).val - start i (Scalar.fptosi 32 (k0_pay142 (k0_pay134 ls)))))
      ⊢ Held c arg3 arg4 arg13 arg14 arg15 arg16 arg17 arg18 arg19 arg20 ks vs
        (looped i q ks vs dO ls tri (if First i then k0_pay116 else dkt) (if First i then k0_pay117 else dvt)) := .rfl
  rw [cc0_attn_bwd_eq_skeleton]
  unfold cc0_attn_bwd_skel PointPre
  iintro ⟨H2, H3, H4, H5, H6, H7, P8, P9, H8, H9, H10, H11, H12, H13, H14, H15, H16, H17, H18⟩
  iapply (exec_cut _ _ _ (wp_part15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
    q dO tri dkt dvt)) $$ [H2 H5 H7 H17 H18]
  · isplitl [H2]; · iexact H2
    isplitl [H5]; · iexact H5
    isplitl [H7]; · iexact H7
    isplitl [H17]; · iexact H17
    iexact H18
  iintro %r ⟨%hr, H2, H5, H7, H17, H18⟩
  subst hr
  dsimp only
  iapply (exec_cut _ _ _ (wp_part16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
    k0_pay127 (k0_pay128 q) (k0_pay129 dO) zeroF ls x11 x12 x13 x15 x16)) $$ [H6 H11 H12 H13 H15 H16]
  · isplitl [H6]; · iexact H6
    isplitl [H11]; · iexact H11
    isplitl [H12]; · iexact H12
    isplitl [H13]; · iexact H13
    isplitl [H15]; · iexact H15
    iexact H16
  iintro %r ⟨%hr, H6, H11, H12, H13, H15, H16⟩
  subst hr
  dsimp only
  iapply (exec_cut _ _ _ (wp_part17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
    (fixedOf q dO tri) ks vs (k0_pay134 ls) (k0_pay135 ls) (k0_pay140 ls) k0_pay136 k0_pay137 x13 x14 k0_pay138 k0_pay139
    (if First i then k0_pay116 else dkt) (if First i then k0_pay117 else dvt))) $$ [H3 H4 H11 H12 H13 H14 H15 H16 H17 H18]
  · isplitl [H3]; · iexact H3
    isplitl [H4]; · iexact H4
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iintro %r ⟨%hr, HH⟩
  subst hr
  dsimp only
  ihave HL := hloop $$ HH
  generalize hL : (looped i q ks vs dO ls tri (if First i then k0_pay116 else dkt) (if First i then k0_pay117 else dvt)) = L
  unfold Held
  icases HL with ⟨H3, H4, H11, H12, H13, H14, H15, H16, H17, H18⟩
  iapply (exec_cut _ _ _ (wp_part18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
    (k0_pay118 tri) k0_pay119 (k0_pay150 (fixedOf q dO tri).qb (rows ks (i 1).val (row_lt i))) (k0_pay153 (fixedOf q dO tri).qa (rows ks (i 1).val (row_lt i)))
    (k0_pay154 (fixedOf q dO tri).qa (rows ks (i 1).val (row_lt i))) L.preA)) $$ [H13]
  · iexact H13
  iintro %r ⟨%hr, H13⟩
  subst hr
  dsimp only
  iapply (exec_cut _ _ _ (wp_part19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
    (k0_pay118 tri) k0_pay119 (k0_pay151 (fixedOf q dO tri).da (rows vs (i 1).val (row_lt i))) (k0_pay152 (fixedOf q dO tri).db (rows vs (i 1).val (row_lt i)))
    (k0_pay158 (k0_pay150 (fixedOf q dO tri).qb (rows ks (i 1).val (row_lt i)))) (diagSumA (fixedOf q dO tri) (rows ks (i 1).val (row_lt i))) (diagSumB (fixedOf q dO tri) (rows ks (i 1).val (row_lt i)))
    (diagExpA (fixedOf q dO tri) (rows ks (i 1).val (row_lt i)) L) zeroF L.preA L.preB L.gpA)) $$ [H13 H14 H15]
  · isplitl [H13]; · iexact H13
    isplitl [H14]; · iexact H14
    iexact H15
  iintro %r ⟨%hr, H13, H14, H15⟩
  subst hr
  dsimp only
  iapply (exec_cut _ _ _ (wp_part20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
    k0_pay119 (fixedOf q dO tri).dta k0_pay148 (k0_pay149 (fixedOf q dO tri).qa (rows ks (i 1).val (row_lt i))) (k0_pay150 (fixedOf q dO tri).qb (rows ks (i 1).val (row_lt i))) (k0_pay154 (fixedOf q dO tri).qa (rows ks (i 1).val (row_lt i)))
    (k0_pay157 (k0_pay150 (fixedOf q dO tri).qb (rows ks (i 1).val (row_lt i))))
    (k0_pay164 k0_pay119 (k0_pay151 (fixedOf q dO tri).da (rows vs (i 1).val (row_lt i))) (diagExpA (fixedOf q dO tri) (rows ks (i 1).val (row_lt i)) L) zeroF)
    (k0_pay165 k0_pay119 (diagExpA (fixedOf q dO tri) (rows ks (i 1).val (row_lt i)) L) zeroF)
    (k0_pay168 k0_pay119 (k0_pay152 (fixedOf q dO tri).db (rows vs (i 1).val (row_lt i))) (k0_pay158 (k0_pay150 (fixedOf q dO tri).qb (rows ks (i 1).val (row_lt i)))) (diagSumB (fixedOf q dO tri) (rows ks (i 1).val (row_lt i))) L.preB)
    (diagGB (fixedOf q dO tri) (rows ks (i 1).val (row_lt i)) (rows vs (i 1).val (row_lt i)) L)
    (k0_pay172 (k0_pay118 tri) k0_pay119 (k0_pay151 (fixedOf q dO tri).da (rows vs (i 1).val (row_lt i))) (diagExpA (fixedOf q dO tri) (rows ks (i 1).val (row_lt i)) L) zeroF L.gpA)
    (k0_pay173 (k0_pay118 tri) k0_pay119 (k0_pay151 (fixedOf q dO tri).da (rows vs (i 1).val (row_lt i))) (diagExpA (fixedOf q dO tri) (rows ks (i 1).val (row_lt i)) L) zeroF L.gpA) L.gpA L.gpA L.gpB)) $$ [H15 H16]
  · isplitl [H15]; · iexact H15
    iexact H16
  iintro %r ⟨%hr, H15, H16⟩
  subst hr
  dsimp only
  iapply (exec_cut _ _ _ (wp_part21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
    (BitVec.ofNat 32 (i 1).val) (fixedOf q dO tri).qta (fixedOf q dO tri).qtb (fixedOf q dO tri).dtb (k0_pay145 (rows ks (i 1).val (row_lt i))) k0_pay147
    (k0_pay169 k0_pay119 (k0_pay158 (k0_pay150 (fixedOf q dO tri).qb (rows ks (i 1).val (row_lt i)))) (diagSumB (fixedOf q dO tri) (rows ks (i 1).val (row_lt i))) L.preB)
    (diagDzA (fixedOf q dO tri) (rows ks (i 1).val (row_lt i)) (rows vs (i 1).val (row_lt i)) L) (diagDzB (fixedOf q dO tri) (rows ks (i 1).val (row_lt i)) (rows vs (i 1).val (row_lt i)) L)
    (k0_pay178 (fixedOf q dO tri).dta k0_pay148 (k0_pay165 k0_pay119 (diagExpA (fixedOf q dO tri) (rows ks (i 1).val (row_lt i)) L) zeroF)) (constant S128x256 .f32 0x00000000#32)
    L.accA L.accB L.dkt L.dvt)) $$ [H11 H12 H17 H18]
  · isplitl [H11]; · iexact H11
    isplitl [H12]; · iexact H12
    isplitl [H17]; · iexact H17
    iexact H18
  iintro %r ⟨%hr, H11, H12, H17, H18⟩
  subst hr
  dsimp only
  have hS : pointOf i q ks vs dO ls tri dkt dvt
      = diag (fixedOf q dO tri) (rows ks (i 1).val (row_lt i)) (rows vs (i 1).val (row_lt i)) (i 1).val (row_lt i) L := by
    rw [← hL]; rfl
  rw [hS]
  unfold owns
  icases H8 with ⟨%f8, %h8, H8⟩
  icases H12 with ⟨%f12, %h12, H12⟩
  by_cases hl : Last i
  · rw [if_pos hl, if_pos hl]
    icases H9 with ⟨%f9, %h9, H9⟩
    icases H10 with ⟨%f10, %h10, H10⟩
    icases P8 with ⟨%p8, %g8, P8⟩
    icases P9 with ⟨%p9, %g9, P9⟩
    icases H17 with ⟨%f17, %h17, H17⟩
    icases H18 with ⟨%f18, %h18, H18⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [P8]; · iexists _; isplitr; swap; (iexact P8); ipureintro; exact g8
    isplitl [P9]; · iexists _; isplitr; swap; (iexact P9); ipureintro; exact g9
    isplitl [H8]
    · iexists _; isplitr; swap; (iexact H8); ipureintro
      refine (View.read_writes_full _ _ _ _ _).trans ?_
      exact congrArg (k0_pay1 k0_pay120 _) ((View.readAt_full _ _ _).trans h12)
    isplitl [H9]
    · iexists _; isplitr; swap; (iexact H9); ipureintro
      funext y
      refine (View.read_writes_apply_of_pieces _ _ (addf (upright (arg19.view.read (Elt F) f17)) (arg8.view.read (Elt F) p8)) _ ?_ y
        (View.cover_of_tiledL (s := S4096x128) _ ![256, 128] (by sl_kernel_rfl) y)).trans (by rw [h17, g8]; rfl)
      exact List.forall_mem_cons.mpr ⟨fun x => sum_block arg19 f17 arg8 p8 3840 _ inb_S4096x128_S256x128_3840_0 x,
        List.forall_mem_cons.mpr ⟨fun x => sum_block arg19 f17 arg8 p8 3584 _ inb_S4096x128_S256x128_3584_0 x,
        List.forall_mem_cons.mpr ⟨fun x => sum_block arg19 f17 arg8 p8 3328 _ inb_S4096x128_S256x128_3328_0 x,
        List.forall_mem_cons.mpr ⟨fun x => sum_block arg19 f17 arg8 p8 3072 _ inb_S4096x128_S256x128_3072_0 x,
        List.forall_mem_cons.mpr ⟨fun x => sum_block arg19 f17 arg8 p8 2816 _ inb_S4096x128_S256x128_2816_0 x,
        List.forall_mem_cons.mpr ⟨fun x => sum_block arg19 f17 arg8 p8 2560 _ inb_S4096x128_S256x128_2560_0 x,
        List.forall_mem_cons.mpr ⟨fun x => sum_block arg19 f17 arg8 p8 2304 _ inb_S4096x128_S256x128_2304_0 x,
        List.forall_mem_cons.mpr ⟨fun x => sum_block arg19 f17 arg8 p8 2048 _ inb_S4096x128_S256x128_2048_0 x,
        List.forall_mem_cons.mpr ⟨fun x => sum_block arg19 f17 arg8 p8 1792 _ inb_S4096x128_S256x128_1792_0 x,
        List.forall_mem_cons.mpr ⟨fun x => sum_block arg19 f17 arg8 p8 1536 _ inb_S4096x128_S256x128_1536_0 x,
        List.forall_mem_cons.mpr ⟨fun x => sum_block arg19 f17 arg8 p8 1280 _ inb_S4096x128_S256x128_1280_0 x,
        List.forall_mem_cons.mpr ⟨fun x => sum_block arg19 f17 arg8 p8 1024 _ inb_S4096x128_S256x128_1024_0 x,
        List.forall_mem_cons.mpr ⟨fun x => sum_block arg19 f17 arg8 p8 768 _ inb_S4096x128_S256x128_768_0 x,
        List.forall_mem_cons.mpr ⟨fun x => sum_block arg19 f17 arg8 p8 512 _ inb_S4096x128_S256x128_512_0 x,
        List.forall_mem_cons.mpr ⟨fun x => sum_block arg19 f17 arg8 p8 256 _ inb_S4096x128_S256x128_256_0 x,
        List.forall_mem_cons.mpr ⟨fun x => sum_block arg19 f17 arg8 p8 0 _ inb_S4096x128_S256x128_0_0 x,
        fun _ h => absurd h List.not_mem_nil⟩⟩⟩⟩⟩⟩⟩⟩⟩⟩⟩⟩⟩⟩⟩⟩
    isplitl [H10]
    · iexists _; isplitr; swap; (iexact H10); ipureintro
      funext y
      refine (View.read_writes_apply_of_pieces _ _ (addf (upright (arg20.view.read (Elt F) f18)) (arg9.view.read (Elt F) p9)) _ ?_ y
        (View.cover_of_tiledL (s := S4096x128) _ ![256, 128] (by sl_kernel_rfl) y)).trans (by rw [h18, g9]; rfl)
      exact List.forall_mem_cons.mpr ⟨fun x => sum_block arg20 f18 arg9 p9 3840 _ inb_S4096x128_S256x128_3840_0 x,
        List.forall_mem_cons.mpr ⟨fun x => sum_block arg20 f18 arg9 p9 3584 _ inb_S4096x128_S256x128_3584_0 x,
        List.forall_mem_cons.mpr ⟨fun x => sum_block arg20 f18 arg9 p9 3328 _ inb_S4096x128_S256x128_3328_0 x,
        List.forall_mem_cons.mpr ⟨fun x => sum_block arg20 f18 arg9 p9 3072 _ inb_S4096x128_S256x128_3072_0 x,
        List.forall_mem_cons.mpr ⟨fun x => sum_block arg20 f18 arg9 p9 2816 _ inb_S4096x128_S256x128_2816_0 x,
        List.forall_mem_cons.mpr ⟨fun x => sum_block arg20 f18 arg9 p9 2560 _ inb_S4096x128_S256x128_2560_0 x,
        List.forall_mem_cons.mpr ⟨fun x => sum_block arg20 f18 arg9 p9 2304 _ inb_S4096x128_S256x128_2304_0 x,
        List.forall_mem_cons.mpr ⟨fun x => sum_block arg20 f18 arg9 p9 2048 _ inb_S4096x128_S256x128_2048_0 x,
        List.forall_mem_cons.mpr ⟨fun x => sum_block arg20 f18 arg9 p9 1792 _ inb_S4096x128_S256x128_1792_0 x,
        List.forall_mem_cons.mpr ⟨fun x => sum_block arg20 f18 arg9 p9 1536 _ inb_S4096x128_S256x128_1536_0 x,
        List.forall_mem_cons.mpr ⟨fun x => sum_block arg20 f18 arg9 p9 1280 _ inb_S4096x128_S256x128_1280_0 x,
        List.forall_mem_cons.mpr ⟨fun x => sum_block arg20 f18 arg9 p9 1024 _ inb_S4096x128_S256x128_1024_0 x,
        List.forall_mem_cons.mpr ⟨fun x => sum_block arg20 f18 arg9 p9 768 _ inb_S4096x128_S256x128_768_0 x,
        List.forall_mem_cons.mpr ⟨fun x => sum_block arg20 f18 arg9 p9 512 _ inb_S4096x128_S256x128_512_0 x,
        List.forall_mem_cons.mpr ⟨fun x => sum_block arg20 f18 arg9 p9 256 _ inb_S4096x128_S256x128_256_0 x,
        List.forall_mem_cons.mpr ⟨fun x => sum_block arg20 f18 arg9 p9 0 _ inb_S4096x128_S256x128_0_0 x,
        fun _ h => absurd h List.not_mem_nil⟩⟩⟩⟩⟩⟩⟩⟩⟩⟩⟩⟩⟩⟩⟩⟩
    isplitl [H11]; · iexact H11
    isplitl [H12]
    · iexists _; isplitr; swap; (iexact H12); ipureintro; exact h12
    isplitl [H13]; · iexact H13
    isplitl [H14]; · iexact H14
    isplitl [H15]; · iexact H15
    isplitl [H16]; · iexact H16
    isplitl [H17]
    · iexists _; isplitr; swap; (iexact H17); ipureintro; exact h17
    iexists _; isplitr; swap; (iexact H18); ipureintro; exact h18
  · rw [if_neg hl, if_neg hl]
    sl_exec
    sl_step
    isplitl [H2]; · iexact H2
    isplitl [H3]; · iexact H3
    isplitl [H4]; · iexact H4
    isplitl [H5]; · iexact H5
    isplitl [H6]; · iexact H6
    isplitl [H7]; · iexact H7
    isplitl [P8]; · iexact P8
    isplitl [P9]; · iexact P9
    isplitl [H8]
    · iexists _; isplitr; swap; (iexact H8); ipureintro
      refine (View.read_writes_full _ _ _ _ _).trans ?_
      exact congrArg (k0_pay1 k0_pay120 _) ((View.readAt_full _ _ _).trans h12)
    isplitl [H9]; · iexact H9
    isplitl [H10]; · iexact H10
    isplitl [H11]; · iexact H11
    isplitl [H12]
    · iexists _; isplitr; swap; (iexact H12); ipureintro; exact h12
    isplitl [H13]; · iexact H13
    isplitl [H14]; · iexact H14
    isplitl [H15]; · iexact H15
    isplitl [H16]; · iexact H16
    isplitl [H17]; · iexact H17
    iexact H18
end Body

end Cert.KernelPrevIdeal.Own

end
-- ==== Proof.Prev.Frame.lean ====
/- The launch of the attention gradient with earlier sums: what every buffer holds after each grid point, the body's obligation at any point, the
   run of the whole program, and its frame. The points carry what those of the call without the sums carry. -/
module

public import proofs.«01_k».proof.Proof.Ideal.Frame
public import proofs.«01_k».proof.Proof.Prev.Body
public import proofs.«01_k».proof.Proof.Gen.KernelPrevIdeal.Frame
public import proofs.«01_k».proof.Proof.Gen.KernelPrevIdeal.Points
public import Idealize.ShloMosaic.Lib.Claim

@[expose] public section

set_option maxRecDepth 16384

noncomputable section

namespace Cert.KernelPrevIdeal.Own

open Cert.KernelPrevIdeal
open Cert.KernelPrevIdeal.Gen hiding k0_pay116 k0_pay117
open Cert.KernelIdeal.Gen (k0_pay116 k0_pay117)
open Cert.KernelIdeal.Own (First Last St outQ upright pointOf)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points -/

/-- The first point of a row, in closed form. -/
theorem first_iff : ∀ t : Fin cfg0.N, First (grid0.coords t) ↔ t.val % 16 = 0 := Cert.KernelIdeal.Own.first_iff

/-- The last point of a row. -/
theorem last_iff : ∀ t : Fin cfg0.N, Last (grid0.coords t) ↔ t.val % 16 = 15 := Cert.KernelIdeal.Own.last_iff

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
/-- The window of result 1 is idle away from a row's last point, where it is not written back, -/
theorem idle_9 (t : Fin cfg0.N) (h : ¬Last (grid0.coords t)) : cfg0.idle 9 (grid0.coords t) = true := by
  change (!(Cert.KernelIdeal.k0_cond2 (grid0.coords t) == 1#1)) = true
  simpa using h
theorem noFlush_9 (t : Fin cfg0.N) (h : ¬Last (grid0.coords t)) : (cfg0.win 9).flush t = false :=
  Bool.eq_false_iff.mpr fun hf => h ((last_iff t).mpr ((flush0_9 t).mp hf))
/-- and live at it. -/
theorem live_9 (t : Fin cfg0.N) (h : Last (grid0.coords t)) : cfg0.idle 9 (grid0.coords t) = false := by
  change (!(Cert.KernelIdeal.k0_cond2 (grid0.coords t) == 1#1)) = false
  simpa using h
/-- The window of result 2 is idle away from a row's last point, where it is not written back, -/
theorem idle_10 (t : Fin cfg0.N) (h : ¬Last (grid0.coords t)) : cfg0.idle 10 (grid0.coords t) = true := by
  change (!(Cert.KernelIdeal.k0_cond2 (grid0.coords t) == 1#1)) = true
  simpa using h
theorem noFlush_10 (t : Fin cfg0.N) (h : ¬Last (grid0.coords t)) : (cfg0.win 10).flush t = false :=
  Bool.eq_false_iff.mpr fun hf => h ((last_iff t).mpr ((flush0_10 t).mp hf))
/-- and live at it. -/
theorem live_10 (t : Fin cfg0.N) (h : Last (grid0.coords t)) : cfg0.idle 10 (grid0.coords t) = false := by
  change (!(Cert.KernelIdeal.k0_cond2 (grid0.coords t) == 1#1)) = false
  simpa using h

/-! ## The memrefs -/

abbrev ms0 (t : Fin cfg0.N) : Memref sig .tc .vmem S256x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S4096x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S4096x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S4096x128 .f32 := win0_10.stage (cfg0.slots t 10)
abbrev hs10 (t : Fin cfg0.N) : (ms10 t).IsWhole := hstage0_10 ((cfg0.slots t 10).cast nbuf0_10)
abbrev sc0 : Memref sig .tc .vmem S256x128 .f32 := Memref.whole cc0_scratch0
abbrev sc1 : Memref sig .tc .vmem S256x128 .f32 := Memref.whole cc0_scratch1
abbrev sc2 : Memref sig .tc .vmem S256x1 .f32 := Memref.whole cc0_scratch2
abbrev sc3 : Memref sig .tc .vmem S256x1 .f32 := Memref.whole cc0_scratch3
abbrev sc4 : Memref sig .tc .vmem S256x1 .f32 := Memref.whole cc0_scratch4
abbrev sc5 : Memref sig .tc .vmem S256x1 .f32 := Memref.whole cc0_scratch5
abbrev sc6 : Memref sig .tc .vmem S128x4096 .f32 := Memref.whole cc0_scratch6
abbrev sc7 : Memref sig .tc .vmem S128x4096 .f32 := Memref.whole cc0_scratch7

/-- The scratch buffers that no point hands to the next, each at some contents. -/
def Scratch (c : Dev nD) : sProp 𝕄 :=
  iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d))

/-- The launch's invariant, the scratch buffers as memrefs. -/
theorem scratch_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)
          ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

/-! ## What the buffers hold after each point -/

/-- What point `t` leaves when it finds the gradients `dkt` and `dvt`. -/
def stepAt (c : Dev nD) (t : Fin cfg0.N) (dkt dvt : FVec F S128x4096 .f32) : St F :=
  pointOf (grid0.coords t) (iblk m c 0 t) (iblk m c 1 t) (iblk m c 2 t) (iblk m c 3 t) (iblk m c 4 t) (iblk m c 5 t) dkt dvt

/-- A row's first point does not look at what it finds. -/
theorem stepAt_first (c : Dev nD) (t : Fin cfg0.N) (h : First (grid0.coords t)) (a b a' b' : FVec F S128x4096 .f32) :
    stepAt m c t a b = stepAt m c t a' b' := by
  unfold stepAt pointOf
  rw [if_pos h, if_pos h, if_pos h, if_pos h]

/-- What the point at position `n` leaves. -/
def carry (c : Dev nD) : (n : ℕ) → n < cfg0.N → St F
  | 0, h => stepAt m c ⟨0, h⟩ k0_pay116 k0_pay117
  | n + 1, h => stepAt m c ⟨n + 1, h⟩ (carry c n (Nat.lt_of_succ_lt h)).dkt (carry c n (Nat.lt_of_succ_lt h)).dvt

/-- The region's invariant before position `n`: the scratch, and the gradients of keys and values where the point before left them. -/
def PhiS (c : Dev nD) : (n : ℕ) → n ≤ cfg0.N → sProp 𝕄
  | 0, _ => Pipeline.ΦA spec0 c
  | n + 1, hn => iprop(Scratch c ∗ owns (c : Thread nD τ) sc6 fullShare (carry m c n hn).dkt
      ∗ owns (c : Thread nD τ) sc7 fullShare (carry m c n hn).dvt ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outQ (carry m c t.val t.isLt)
    | ⟨9, _⟩ => addf (upright (carry m c t.val t.isLt).dkt) (iblk m c 6 t)
    | ⟨10, _⟩ => addf (upright (carry m c t.val t.isLt).dvt) (iblk m c 7 t)
  Φ t := PhiS m c t.val (Nat.le_of_lt_succ t.isLt)
  q _ := fullShare
  owed _ := 0

/-- The arrays are those that the region finds. -/
theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outQ (carry m c t.val t.isLt) := by dsimp only [dats]
theorem after_9 (c : Dev nD) (t : Fin cfg0.N) : (dats m 0 c).after 9 t = addf (upright (carry m c t.val t.isLt).dkt) (iblk m c 6 t) := by dsimp only [dats]
theorem after_10 (c : Dev nD) (t : Fin cfg0.N) : (dats m 0 c).after 10 t = addf (upright (carry m c t.val t.isLt).dvt) (iblk m c 7 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body's obligation -/

/-- Before any point: the scratch, and gradients `a` and `b` from which the point makes what `carry` says. -/
theorem Phi_open (c : Dev nD) (t : Fin cfg0.N) :
    PhiS m c t.val (Nat.le_of_lt t.isLt) ⊢ iprop(∃ a b, ⌜stepAt m c t a b = carry m c t.val t.isLt⌝ ∗ Scratch c
      ∗ owns (c : Thread nD τ) sc6 fullShare a ∗ owns (c : Thread nD τ) sc7 fullShare b ∗ (∃ r, prngReg c r)) := by
  obtain ⟨n, hn⟩ := t
  cases n with
  | zero =>
    rw [show PhiS m c (⟨0, hn⟩ : Fin cfg0.N).val (Nat.le_of_lt hn) = Pipeline.ΦA spec0 c from rfl, scratch_eq]
    unfold Scratch
    iintro ⟨⟨H0, H1, H2, H3, H4, H5, ⟨%a, H6⟩, ⟨%b, H7⟩⟩, Hg⟩
    iexists a, b
    isplitr
    · ipureintro
      exact stepAt_first m c _ ((first_iff _).mpr rfl) _ _ _ _
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    iexact Hg
  | succ n =>
    rw [show PhiS m c (⟨n + 1, hn⟩ : Fin cfg0.N).val (Nat.le_of_lt hn) = iprop(Scratch c
      ∗ owns (c : Thread nD τ) sc6 fullShare (carry m c n (Nat.lt_of_succ_lt hn)).dkt
      ∗ owns (c : Thread nD τ) sc7 fullShare (carry m c n (Nat.lt_of_succ_lt hn)).dvt ∗ (∃ r, prngReg c r)) from rfl]
    iintro ⟨HS, H6, H7, Hg⟩
    iexists _, _
    isplitr
    · ipureintro; rfl
    isplitl [HS]; · iexact HS
    isplitl [H6]; · iexact H6
    isplitl [H7]; · iexact H7
    iexact Hg

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = iprop(Scratch c ∗ owns (c : Thread nD τ) sc6 fullShare (carry m c t.val t.isLt).dkt
      ∗ owns (c : Thread nD τ) sc7 fullShare (carry m c t.val t.isLt).dvt ∗ (∃ r, prngReg c r)) from rfl, PhiS_castSucc m c t]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HΦ' := Phi_open m c t $$ HΦ
  icases HΦ' with ⟨%a, %b, %hab, HS, K6, K7, Hg⟩
  unfold Scratch
  icases HS with ⟨⟨%x0, K0⟩, ⟨%x1, K1⟩, ⟨%x2, K2⟩, ⟨%x3, K3⟩, ⟨%x4, K4⟩, ⟨%x5, K5⟩⟩
  unfold stepAt at hab
  have hb := wp_body c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _)
    (iblk m c 0 t) (iblk m c 1 t) (iblk m c 2 t) (iblk m c 3 t) (iblk m c 4 t) (iblk m c 5 t) (iblk m c 6 t) (iblk m c 7 t)
    ((dats m 0 c).before 8 t d8) ((dats m 0 c).before 9 t d9) ((dats m 0 c).before 10 t d10) x0 x1 x2 x3 x4 x5 a b
  rw [hab] at hb
  unfold PointPre at hb
  iapply (exec_cut_last _ _ _ hb) $$ [H0 H1 H2 H3 H4 H5 H6 H7 H8 H9 H10 K0 K1 K2 K3 K4 K5 K6 K7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  iintro %_ ⟨H0, H1, H2, H3, H4, H5, H6, H7, H8, H9, H10, K0, K1, K2, K3, K4, K5, K6, K7⟩
  isplitl [K0 K1 K2 K3 K4 K5 K6 K7 Hg]
  · isplitl [K0 K1 K2 K3 K4 K5]
    · isplitl [K0]; · iexists _; iexact K0
      isplitl [K1]; · iexists _; iexact K1
      isplitl [K2]; · iexists _; iexact K2
      isplitl [K3]; · iexists _; iexact K3
      isplitl [K4]; · iexists _; iexact K4
      iexists _; iexact K5
    isplitl [K6]; · iexact K6
    isplitl [K7]; · iexact K7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  by_cases h : Last (grid0.coords t)
  · rw [if_pos h, if_pos h]
    rw [show (dats m 0 c).leavesExact 9 t = owns (c : Thread nD τ) (ms9 t) fullShare ((dats m 0 c).after 9 t) from by
      unfold Dat.leavesExact; rw [live_9 t h], after_9]
    rw [show (dats m 0 c).leavesExact 10 t = owns (c : Thread nD τ) (ms10 t) fullShare ((dats m 0 c).after 10 t) from by
      unfold Dat.leavesExact; rw [live_10 t h], after_10]
    isplitl [H9]; · iexact H9
    iexact H10
  · rw [if_neg h, if_neg h]
    rw [Dat.leavesExact_idle (dats m 0 c) 9 t (idle_9 t h) (noFlush_9 t h), Dat.leavesExact_idle (dats m 0 c) 10 t (idle_10 t h) (noFlush_10 t h)]
    isplitl [H9]; · iexists _; iexact H9
    iexists _; iexact H10

/-- The body table's row at point `t`'s slots. -/
theorem defs₀_row (t : Fin cfg0.N) : defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = Pipeline.ΦA spec0 c from rfl]

/-- After the last point the invariant gives it back. -/
theorem hout (c : Dev nD) : (dats m 0 c).Φ (Fin.last cfg0.N) ⊢ Pipeline.ΦA spec0 c := by
  have hN : cfg0.N = 127 + 1 := N_0
  have key : ∀ (n : ℕ) (h : n ≤ cfg0.N) (h0 : n ≠ 0), PhiS m c n h ⊢ Pipeline.ΦA spec0 c := by
    intro n h h0
    cases n with
    | zero => exact absurd rfl h0
    | succ n =>
      rw [show PhiS m c (n + 1) h = iprop(Scratch c ∗ owns (c : Thread nD τ) sc6 fullShare (carry m c n h).dkt
        ∗ owns (c : Thread nD τ) sc7 fullShare (carry m c n h).dvt ∗ (∃ r, prngReg c r)) from rfl, scratch_eq]
      unfold Scratch
      iintro ⟨⟨H0, H1, H2, H3, H4, H5⟩, H6, H7, Hg⟩
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      iexact Hg
  exact key (Fin.last cfg0.N).val (Nat.le_of_lt_succ (Fin.last cfg0.N).isLt) (by rw [Fin.val_last, hN]; exact Nat.succ_ne_zero _)

/-! ## The run and the frame -/

set_option backward.isDefEq.respectTransparency.types false in
/-- THE RUN: every execution ends with each array at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelPrevIdeal.Own

end
-- ==== Proof.Prev.Bits.lean ====
/- The frame of the attention gradient with earlier sums over its own constants. -/
module

public import proofs.«01_k».proof.Defs
public import proofs.«01_k».proof.Proof.Prev.Frame
public import proofs.«01_k».proof.Proof.Gen.KernelPrev

@[expose] public section

set_option maxRecDepth 65536
set_option maxHeartbeats 4000000

noncomputable section

namespace Cert.KernelPrev.Own

open Idealize.ShloMosaic

/-- The named constants, each the number that its bits denote. -/
@[reducible] def plain : Named Bits := ⟨fun _ _ φ b => Scalar.ofBits φ b⟩

local instance : Named Bits := plain

/-- The two texts differ in the named constant alone, and that is the number its bits denote. -/
theorem body_eq : Cert.KernelPrev.cc0_attn_bwd (F := Bits) = Cert.KernelPrevIdeal.cc0_attn_bwd (F := Bits) := rfl

theorem defs0_eq : Cert.KernelPrev.defs₀ (F := Bits) = Cert.KernelPrevIdeal.defs₀ (F := Bits) := by
  unfold Cert.KernelPrev.defs₀ Cert.KernelPrevIdeal.defs₀
  rw [body_eq]
  refine congrArg Defs.onTc (funext fun l => funext fun x => ?_)
  obtain ⟨n, h⟩ := l
  cases n with
  | zero => rfl
  | succ n => exact absurd h (Nat.not_lt.2 (Nat.le_add_left _ _))
theorem defs_eq : Cert.KernelPrev.defs (F := Bits) = Cert.KernelPrevIdeal.defs (F := Bits) :=
  congrArg (Pipeline.defs (Cert.KernelPrevIdeal.pcfgs (F := Bits))) defs0_eq

theorem main_eq : Cert.KernelPrev.main (F := Bits) = Cert.KernelPrevIdeal.main (F := Bits) := rfl

variable (m : (ℓ : Loc nD τ sig) → Buf (Elt Bits) ℓ) (ρ : Dev nD → PrngReg)

theorem frame : θ_run (Cert.KernelPrev.defs (F := Bits)) (onTc (τ := τ) (Cert.KernelPrev.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq, main_eq]
  exact Cert.KernelPrevIdeal.Own.frame m ρ

end Cert.KernelPrev.Own

end
-- ==== Proof.Prev.Grid.lean ====
/- The result arrays of the attention gradient with earlier sums after the whole grid, on real arrays: the real gradients, to the keys' and values'
   of which the sums are added. The sums may be anything. -/
module

public import proofs.«01_k».proof.Proof.Value.Grid
public import proofs.«01_k».proof.Proof.Prev.Frame
public import Idealize.ShloMosaic.Lib.Pipeline.ValueKit

@[expose] public section

set_option maxRecDepth 16384

noncomputable section

namespace Cert.KernelPrevIdeal.Own

open Cert.KernelPrevIdeal Cert.KernelPrevIdeal.Gen Cert.KernelIdeal.Own Cert.Mat Cert.Real Finset
open Idealize.ShloMosaic Idealize.ShloMosaic.TcCoe
open Idealize.ShloMosaic.Pipeline (Dat)

variable (m : (ℓ : Loc nD τ sig) → Buf (Elt Ideal) ℓ) (c : Dev nD) (X K W D : ℕ → ℕ → ℝ)

theorem idx : ∀ t : Fin cfg0.N, win0_0.index t = ![t.val % 16, t.val / 16] ∧ win0_1.index t = ![0, t.val / 16] ∧ win0_2.index t = ![0, t.val / 16]
    ∧ win0_3.index t = ![t.val % 16, t.val / 16] ∧ win0_4.index t = ![t.val % 16, t.val / 16] ∧ win0_5.index t = ![0, 0]
    ∧ win0_6.index t = ![0, t.val / 16] ∧ win0_7.index t = ![0, t.val / 16]
    ∧ win0_8.index t = ![t.val % 16, t.val / 16] ∧ win0_9.index t = ![0, t.val / 16] ∧ win0_10.index t = ![0, t.val / 16] :=
  (by decide +kernel : ∀ t : Fin grid0.N, _)

theorem coord1 : ∀ t : Fin cfg0.N, (grid0.coords t 1).val = t.val % 16 := (by decide +kernel : ∀ t : Fin grid0.N, _)

/-- What the region finds, all real. -/
structure Entry : Prop where
  q : V m c main_v32 = mat .bf16 4096 1024 X
  k : V m c main_v33 = mat .bf16 4096 1024 K
  v : V m c main_v34 = mat .bf16 4096 1024 W
  o : V m c main_arg3 = mat .f32 4096 1024 D
  l : V m c main_v31 = mat .f32 4096 1024 (LS X K)
  t : V m c main_v40 = mat .bf16 512 256 triR

variable {m c X K W D} (E : Entry m c X K W D)

/-! ## The blocks -/

section

include E

theorem blk0 (t : Fin cfg0.N) : iblk m c 0 t = blkR .bf16 X (t.val / 16) (t.val % 16) := by
  funext y
  blk_simp [iblk]
  refine (congrFun E.q _).trans ?_
  refine congrArg _ (congrArg₂ X ?_ ?_) <;> blk_simp [idx t] <;> ring

theorem blk1 (t : Fin cfg0.N) : iblk m c 1 t = keysR K (t.val / 16) := by
  funext y
  blk_simp [iblk]
  refine (congrFun E.k _).trans ?_
  refine congrArg _ (congrArg₂ K ?_ ?_) <;> blk_simp [idx t] <;> ring

theorem blk2 (t : Fin cfg0.N) : iblk m c 2 t = keysR W (t.val / 16) := by
  funext y
  blk_simp [iblk]
  refine (congrFun E.v _).trans ?_
  refine congrArg _ (congrArg₂ W ?_ ?_) <;> blk_simp [idx t] <;> ring

theorem blk3 (t : Fin cfg0.N) : iblk m c 3 t = blkR .f32 D (t.val / 16) (t.val % 16) := by
  funext y
  blk_simp [iblk]
  refine (congrFun E.o _).trans ?_
  refine congrArg _ (congrArg₂ D ?_ ?_) <;> blk_simp [idx t] <;> ring

theorem blk4 (t : Fin cfg0.N) : iblk m c 4 t = blkR .f32 (LS X K) (t.val / 16) (t.val % 16) := by
  funext y
  blk_simp [iblk]
  refine (congrFun E.l _).trans ?_
  refine congrArg _ (congrArg₂ (LS X K) ?_ ?_) <;> blk_simp [idx t] <;> ring

theorem blk5 (t : Fin cfg0.N) : iblk m c 5 t = mat .bf16 512 256 triR := by
  funext y
  blk_simp [iblk]
  refine (congrFun E.t _).trans ?_
  refine congrArg (mat .bf16 512 256 triR) ?_
  blk_ext [idx t]

/-- A point that finds the shares of the queries before its block leaves those of its block too. -/
theorem stepAt_real (t : Fin cfg0.N) (dkt dvt : FVec Ideal S128x4096 .f32)
    (h : t.val % 16 ≠ 0 → dkt = mat .f32 128 4096 (part (t.val % 16) (wk X K W D (t.val / 16)) 0)
      ∧ dvt = mat .f32 128 4096 (part (t.val % 16) (wv X K D (t.val / 16)) 0)) :
    stepAt m c t dkt dvt = stR X K W D (t.val / 16) (t.val % 16) (t.val % 16 + 1) := by
  have e1 : (if First (grid0.coords t) then Cert.KernelIdeal.Gen.k0_pay116 else dkt) = mat .f32 128 4096 (part (t.val % 16) (wk X K W D (t.val / 16)) 0) := by
    by_cases hf : t.val % 16 = 0
    · rw [if_pos ((first_iff t).mpr hf), hf]
      refine eq_mat fun r c => ?_
      pointwise [Cert.KernelIdeal.Gen.k0_pay116]
      simp [part]
    · rw [if_neg fun h' => hf ((first_iff t).mp h'), (h hf).1]
  have e2 : (if First (grid0.coords t) then Cert.KernelIdeal.Gen.k0_pay117 else dvt) = mat .f32 128 4096 (part (t.val % 16) (wv X K D (t.val / 16)) 0) := by
    by_cases hf : t.val % 16 = 0
    · rw [if_pos ((first_iff t).mpr hf), hf]
      refine eq_mat fun r c => ?_
      pointwise [Cert.KernelIdeal.Gen.k0_pay117]
      simp [part]
    · rw [if_neg fun h' => hf ((first_iff t).mp h'), (h hf).2]
  have P := point_real X K W D (t.val / 16) (grid0.coords t)
  rw [coord1 t] at P
  unfold stepAt pointOf
  rw [blk0 E, blk1 E, blk2 E, blk3 E, blk4 E, blk5 E, e1, e2, P]

/-- THE GRID: what each point leaves. -/
theorem carry_real (n : ℕ) (h : n < cfg0.N) : carry m c n h = stR X K W D (n / 16) (n % 16) (n % 16 + 1) := by
  induction n with
  | zero => exact stepAt_real E ⟨0, h⟩ _ _ fun h0 => absurd rfl h0
  | succ n ih =>
    refine stepAt_real E ⟨n + 1, h⟩ _ _ fun hn => ?_
    rw [ih (Nat.lt_of_succ_lt h)]
    have hq : (n + 1) / 16 = n / 16 := by simp only at hn; omega
    have hr : (n + 1) % 16 = n % 16 + 1 := by simp only at hn; omega
    simp only [stR]
    rw [hq, hr, part_next _ _ (wk_zero X K W D _), part_next _ _ (wv_zero X K D _)]
    exact ⟨rfl, rfl⟩

end

/-! ## The results -/

/-- A block of the earlier sum, at the place of the same block of the result. -/
theorem blk6 {x : FVec Ideal S4096x1024 .f32} (hx : V m c main_arg4 = x) (t : Fin cfg0.N) (y : S4096x128.Idx) :
    iblk m c 6 t y = x ((win0_9.blk t).view.emb y) := by
  blk_simp [iblk]
  refine (congrFun hx _).trans (congrArg x ?_)
  blk_ext [idx t]

/-- A block of the earlier sum, at the place of the same block of the result. -/
theorem blk7 {x : FVec Ideal S4096x1024 .f32} (hx : V m c main_arg5 = x) (t : Fin cfg0.N) (y : S4096x128.Idx) :
    iblk m c 7 t y = x ((win0_10.blk t).view.emb y) := by
  blk_simp [iblk]
  refine (congrFun hx _).trans (congrArg x ?_)
  blk_ext [idx t]

include E

theorem final8 : (dats m 0 c).arrAt 8 cfg0.N = mat .bf16 4096 1024 (DQ X K W D) := by
  refine (dats m 0 c).arrAt_eq_of_covers 8 _ (by decide +kernel) fun t _ y => ?_
  blk_simp
  rw [after_8]
  rw [carry_real E, outQ_DQ X K W D _ _ (Nat.mod_lt _ (by norm_num))]
  have e0 : 256 * (t.val % 16) + (y 0).val = (((win0_8.blk t).view.emb y) 0).val := by blk_simp [idx t]; ring
  have e1 : 128 * (t.val / 16) + (y 1).val = (((win0_8.blk t).view.emb y) 1).val := by blk_simp [idx t]; ring
  exact congrArg (fun x : ℝ => (x : EReal)) (congrArg₂ (DQ X K W D) e0 e1)

theorem final9 {x : FVec Ideal S4096x1024 .f32} (hx : V m c main_arg4 = x) : (dats m 0 c).arrAt 9 cfg0.N = addf (mat .f32 4096 1024 (DK X K W D)) x := by
  refine (dats m 0 c).arrAt_eq_of_covers 9 _ (by decide +kernel) fun t ht y => ?_
  blk_simp
  have h15 := (flush0_9 t).mp ht
  rw [after_9, carry_real E, h15]
  simp only [stR]
  rw [upright_mat]
  refine congrArg₂ (fun x y : EReal => x + y) ?_ ?_
  · refine congrArg (fun x : ℝ => (x : EReal)) ((dk_lane X K W D _ _ _ (y 1).isLt).trans (congrArg₂ (DK X K W D) ?_ ?_)) <;> blk_simp [idx t] <;> ring
  · exact blk6 hx t y

theorem final10 {x : FVec Ideal S4096x1024 .f32} (hx : V m c main_arg5 = x) : (dats m 0 c).arrAt 10 cfg0.N = addf (mat .f32 4096 1024 (DV X K D)) x := by
  refine (dats m 0 c).arrAt_eq_of_covers 10 _ (by decide +kernel) fun t ht y => ?_
  blk_simp
  have h15 := (flush0_10 t).mp ht
  rw [after_10, carry_real E, h15]
  simp only [stR]
  rw [upright_mat]
  refine congrArg₂ (fun x y : EReal => x + y) ?_ ?_
  · refine congrArg (fun x : ℝ => (x : EReal)) ((dv_lane X K D _ _ _ (y 1).isLt).trans (congrArg₂ (DV X K D) ?_ ?_)) <;> blk_simp [idx t] <;> ring
  · exact blk7 hx t y

end Cert.KernelPrevIdeal.Own
-- ==== Proof.Prev.Host.lean ====
/- What the operations before the attention gradient with earlier sums leave for it, on real arguments. -/
module

public import proofs.«01_k».proof.Proof.Prev.Grid
public import proofs.«01_k».proof.Proof.Value.Host
public import Idealize.ShloMosaic.Lib.Claim

@[expose] public section

set_option maxRecDepth 16384

noncomputable section

namespace Cert.KernelPrevIdeal.Own

open Cert.KernelPrevIdeal Cert.KernelPrevIdeal.Gen Cert.KernelIdeal.Own Cert.Mat Cert.Real Finset
open Idealize.ShloMosaic Idealize.ShloMosaic.TcCoe

variable (m : (ℓ : Loc nD τ sig) → Buf (Elt Ideal) ℓ) (c : Dev nD) (Q K W D : ℕ → ℕ → ℝ)

/-- The arguments, all real. -/
structure Args : Prop where
  q : m ((c : Thread nD τ).loc main_arg0) = mat .f32 4096 1024 Q
  k : m ((c : Thread nD τ).loc main_arg1) = mat .f32 4096 1024 K
  v : m ((c : Thread nD τ).loc main_arg2) = mat .f32 4096 1024 W
  o : m ((c : Thread nD τ).loc main_arg3) = mat .f32 4096 1024 D

variable {m c Q K W D} (A : Args m c Q K W D)

include A

theorem entry_q : V m c main_v32 = mat .bf16 4096 1024 (scaled Q) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  refine eq_mat fun r c => ?_
  pointwise [A.q]
  rw [mat_ix2, eighth, ← EReal.coe_mul]; rfl

theorem entry_k : V m c main_v33 = mat .bf16 4096 1024 K := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  refine eq_mat fun r c => ?_
  pointwise [A.k, mat_ix2]

theorem entry_v : V m c main_v34 = mat .bf16 4096 1024 W := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  refine eq_mat fun r c => ?_
  pointwise [A.v, mat_ix2]

theorem entry_t : V m c main_v40 = mat .bf16 512 256 triR := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.ofBuf_toBuf, StableHlo.TRef.ofBuf, StableHlo.TRef.toBuf, id_eq, cast_cast, cast_eq]
  refine eq_mat fun r c => ?_
  pointwise []
  have hw := row_word r
  unfold rowWord at hw
  rw [hw]
  have hr := r.isLt; have hc := c.isLt
  unfold triR
  rw [apply_ite (fun x : ℝ => (x : EReal)), EReal.coe_one, EReal.coe_zero]
  word_cmp

theorem entry_l : V m c main_v31 = mat .f32 4096 1024 (LS (scaled Q) K) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.ofBuf_toBuf, StableHlo.TRef.ofBuf, StableHlo.TRef.toBuf, id_eq, cast_cast, cast_eq]
  refine eq_mat fun r c => ?_
  pointwise [A.q, A.k]
  simp only [z_scalar, neg_neg, coe_ne_self, if_false, soft_scalar, select_before, ← EReal.coe_neg]
  have e : ∀ x : Fin 4096, (if x.val < r.val then ((lsig (-z (fun t j => Q t j * (1 / 8)) K (c.val / 128 * 2 + c.val % 128 / 64) r.val x.val) : ℝ) : EReal) else 0)
      = ((lm (scaled Q) K (c.val / 64) r.val x.val : ℝ) : EReal) := by
    intro x
    rw [show c.val / 128 * 2 + c.val % 128 / 64 = c.val / 64 by omega, lm, apply_ite (fun x : ℝ => (x : EReal)), EReal.coe_zero]
    rfl
  simp only [e]
  rw [sum_coe (fun s => lm (scaled Q) K (c.val / 64) r.val s), two_bits, log_real (by norm_num), div_real _ log2_pos.ne', LS,
    apply_ite (fun x : ℝ => (x : EReal)), EReal.coe_zero, div_eq_mul_inv]
  have hc := c.isLt
  change Scalar.select _ 0 (((P (scaled Q) K (c.val / 64) r.val 4096 * L : ℝ) : EReal)) = _
  word_cmp

theorem entry : Entry m c (scaled Q) K W D where
  q := entry_q A
  k := entry_k A
  v := entry_v A
  o := (V_main_arg3 m c).trans A.o
  l := entry_l A
  t := entry_t A

end Cert.KernelPrevIdeal.Own
-- ==== Proof.Prev.Ref.lean ====
/- What the reference of the attention gradient with earlier sums computes, on real arguments. -/
module

public import proofs.«01_k».proof.Proof.Value.Scalar
public import proofs.«01_k».proof.Proof.Value.Ref
public import proofs.«01_k».proof.Proof.Gen.ReferencePrevIdeal.Run

@[expose] public section

set_option maxRecDepth 16384

noncomputable section

namespace Cert.ReferencePrevIdeal.Own

open Cert.ReferencePrevIdeal Cert.ReferencePrevIdeal.Gen Cert.ReferenceIdeal.Own Cert.Mat Cert.Real Finset
open Idealize.ShloMosaic Idealize.ShloMosaic.TcCoe

variable (m : (ℓ : Loc nD τ sig) → Buf (Elt Ideal) ℓ) (c : Dev nD) (Q K W D : ℕ → ℕ → ℝ)

/-- The arguments but the earlier sums, all real. -/
structure Args : Prop where
  q : m ((c.tc : Thread nD τ).loc main_arg0) = mat .f32 4096 1024 Q
  k : m ((c.tc : Thread nD τ).loc main_arg1) = mat .f32 4096 1024 K
  v : m ((c.tc : Thread nD τ).loc main_arg2) = mat .f32 4096 1024 W
  o : m ((c.tc : Thread nD τ).loc main_arg3) = mat .f32 4096 1024 D

variable {m c Q K W D} (A : Args m c Q K W D)

/-- Some memory of the reference without earlier sums holds the same arrays as its arguments. -/
theorem other (c' : Dev Cert.ReferenceIdeal.nD) : ∃ m', Cert.ReferenceIdeal.Own.Args m' c' Q K W D :=
  let l (r : Ref Cert.ReferenceIdeal.sig .tc) := (c'.tc : Thread Cert.ReferenceIdeal.nD Cert.ReferenceIdeal.τ).loc r
  have ne {i j : Fin _} (h : i ≠ j) : l ⟨.hbm, i, rfl⟩ ≠ l ⟨.hbm, j, rfl⟩ := fun e => h (by cases e; rfl)
  ⟨Function.update (Function.update (Function.update (Function.update (fun _ _ => (Elt.inhabited Ideal _).default)
      (l Cert.ReferenceIdeal.main_arg0) (mat .f32 4096 1024 Q)) (l Cert.ReferenceIdeal.main_arg1) (mat .f32 4096 1024 K))
      (l Cert.ReferenceIdeal.main_arg2) (mat .f32 4096 1024 W)) (l Cert.ReferenceIdeal.main_arg3) (mat .f32 4096 1024 D),
    by rw [Function.update_of_ne (ne (by decide)), Function.update_of_ne (ne (by decide)), Function.update_of_ne (ne (by decide)),
      Function.update_self],
    by rw [Function.update_of_ne (ne (by decide)), Function.update_of_ne (ne (by decide)), Function.update_self],
    by rw [Function.update_of_ne (ne (by decide)), Function.update_self],
    by rw [Function.update_self]⟩

include A

/-- The value gradient. -/
theorem out2 : Value.res_main_v49 (F := Ideal) m c
    = addf (m ((c.tc : Thread nD τ).loc main_arg5)) (mat .f32 4096 1024 (DV (scaled Q) K D)) := by
  obtain ⟨m', B⟩ := other (Q := Q) (K := K) (W := W) (D := D) c
  rw [← Cert.ReferenceIdeal.Own.out2 B]
  unfold Value.res_main_v49 Cert.ReferenceIdeal.Value.res_main_v48
  rw [A.q, A.k, A.o, B.q, B.k, B.o]
  rfl

/-- The key gradient. -/
theorem out1 : Value.res_main_v52 (F := Ideal) m c
    = addf (m ((c.tc : Thread nD τ).loc main_arg4)) (mat .f32 4096 1024 (DK (scaled Q) K W D)) := by
  obtain ⟨m', B⟩ := other (Q := Q) (K := K) (W := W) (D := D) c
  rw [← Cert.ReferenceIdeal.Own.out1 B]
  unfold Value.res_main_v52 Cert.ReferenceIdeal.Value.res_main_v50
  rw [A.q, A.k, A.v, A.o, B.q, B.k, B.v, B.o]
  rfl

/-- The query gradient. -/
theorem out0 : Value.res_main_v55 (F := Ideal) m c = mat .bf16 4096 1024 (DQ (scaled Q) K W D) := by
  obtain ⟨m', B⟩ := other (Q := Q) (K := K) (W := W) (D := D) c
  rw [← Cert.ReferenceIdeal.Own.out0 B]
  unfold Value.res_main_v55 Cert.ReferenceIdeal.Value.res_main_v53
  rw [A.q, A.k, A.v, A.o, B.q, B.k, B.v, B.o]
  rfl

end Cert.ReferencePrevIdeal.Own

end
-- ==== Proof.Prev.Finite.lean ====
/- The precondition of the attention gradient with earlier sums: the four arrays of the attention are real. -/
module

public import proofs.«01_k».proof.Pre_finite_prev
public import proofs.«01_k».proof.Proof.Value.Finite

@[expose] public section

set_option maxRecDepth 16384

noncomputable section

namespace Cert.Pre_finite_prev

open Idealize.ShloMosaic Cert.Mat
open Cert.Pre_finite (allReal and_one real_of_all)

instance facts : Cert.Pre_finite_prev.Facts where
  bcast_S_S4096x1024 := by decide
  reducesTo_S4096x1024_S_d0_1 := by decide
  h_S_ := by decide

theorem real_of_finite {x0 x1 x2 x3 x4 x5 : FVec Ideal S4096x1024 .f32} (h : fn (F := Ideal) x0 x1 x2 x3 x4 x5 = fun _ => 1#1) :
    (∃ f, x0 = mat .f32 4096 1024 f) ∧ (∃ f, x1 = mat .f32 4096 1024 f) ∧ (∃ f, x2 = mat .f32 4096 1024 f) ∧ ∃ f, x3 = mat .f32 4096 1024 f := by
  have e : IntOp.andi (IntOp.andi (IntOp.andi (allReal x0 ix0) (allReal x1 ix0)) (allReal x2 ix0)) (allReal x3 ix0) = 1#1 := congrFun h ix0
  obtain ⟨e, e3⟩ := and_one _ _ e
  obtain ⟨e, e2⟩ := and_one _ _ e
  obtain ⟨e0, e1⟩ := and_one _ _ e
  exact ⟨real_of_all e0, real_of_all e1, real_of_all e2, real_of_all e3⟩

end Cert.Pre_finite_prev

end
-- ==== Proof.Prev.Claims.lean ====
/- The claims about the attention gradient with earlier sums. -/
module

public import proofs.«01_k».proof.Defs
public import proofs.«01_k».proof.Proof.Prev.Bits
public import proofs.«01_k».proof.Proof.Prev.Host
public import proofs.«01_k».proof.Proof.Prev.Ref
public import proofs.«01_k».proof.Proof.Prev.Finite
public import Idealize.ShloMosaic.Lib.Quiescent

@[expose] public section

noncomputable section

namespace Cert.Prev

open Idealize.ShloMosaic Idealize.SL.Sem

theorem frame : Cert.quiescent_KernelPrev := fun m ρ _ => KernelPrev.Own.frame m ρ

theorem frame_ideal : Cert.quiescent_KernelPrevIdeal := fun m ρ _ => KernelPrevIdeal.Own.frame m ρ

theorem frame_ideal_pre : Cert.quiescent_KernelPrevIdeal_pre_finite_prev := fun m ρ _ => KernelPrevIdeal.Own.frame m ρ

theorem reference_frame : Cert.quiescent_ReferencePrevIdeal := fun m ρ _ =>
  (θ_run ReferencePrevIdeal.defs _ _).mono (fun r h => ⟨fun c => (h c).2.2.2, sem_eq_zero_of_no_sems (by decide) r.2⟩)
    (ReferencePrevIdeal.Value.run (F := Ideal) m ρ)

theorem reference_frame_pre : Cert.quiescent_ReferencePrevIdeal_pre_finite_prev := fun m ρ _ => reference_frame m ρ trivial

/-- At the extended reals the constant named `log2e` is the reciprocal of log 2. -/
theorem preserved : Cert.preserves_KernelPrev_KernelPrevIdeal :=
  IdealRules.named_const.statement KernelPrevIdeal.κ "log2e" .f32 0x3FB8AA3B#32 _ rfl

/-- The order in which a sum is added does not matter. -/
theorem add_swap {s : Shape} {φ : FTy} (x y : FVec Ideal s φ) : addf x y = addf y x :=
  funext fun i => add_comm (x i : EReal) (y i)

/-- On real arguments, whatever the earlier sums, the kernel and the reference compute the same three arrays. -/
theorem equal : Cert.algebraic_KernelPrevIdeal_ReferencePrevIdeal_pre_finite_prev := by
  intro m g m' g' hpre hagree
  refine ⟨fun c => ReferencePrevIdeal.Value.res_main_v55 m' c, fun c => ReferencePrevIdeal.Value.res_main_v52 m' c,
    fun c => ReferencePrevIdeal.Value.res_main_v49 m' c, ?_, ReferencePrevIdeal.Value.run (F := Ideal) m' g'⟩
  refine (θ_run KernelPrevIdeal.defs _ _).mono (fun r h c => ?_) (θ_run_and (KernelPrevIdeal.Own.run_main m g) (KernelPrevIdeal.Own.frame m g))
  obtain ⟨⟨Q, hQ⟩, ⟨K, hK⟩, ⟨W, hW⟩, ⟨D, hD⟩⟩ := Cert.Pre_finite_prev.real_of_finite (hpre c)
  obtain ⟨a0, a1, a2, a3, a4, a5⟩ := hagree c
  have E := KernelPrevIdeal.Own.entry (m := m) (c := c) ⟨hQ, hK, hW, hD⟩
  have R : ReferencePrevIdeal.Own.Args m' c Q K W D := ⟨a0.trans hQ, a1.trans hK, a2.trans hW, a3.trans hD⟩
  have k0 : r.2.mem ((c.tc : Thread KernelPrevIdeal.nD KernelPrevIdeal.τ).loc KernelPrevIdeal.main_v41_0)
    = (KernelPrevIdeal.Own.dats m 0 c).arrAt 8 KernelPrevIdeal.cfg0.N := (h.1 c).1 8
  have k1 : r.2.mem ((c.tc : Thread KernelPrevIdeal.nD KernelPrevIdeal.τ).loc KernelPrevIdeal.main_v41_1)
    = (KernelPrevIdeal.Own.dats m 0 c).arrAt 9 KernelPrevIdeal.cfg0.N := (h.1 c).1 9
  have k2 : r.2.mem ((c.tc : Thread KernelPrevIdeal.nD KernelPrevIdeal.τ).loc KernelPrevIdeal.main_v41_2)
    = (KernelPrevIdeal.Own.dats m 0 c).arrAt 10 KernelPrevIdeal.cfg0.N := (h.1 c).1 10
  refine ⟨?_, ?_, ?_, h.2.1 c⟩
  · rw [k0, KernelPrevIdeal.Own.final8 E]
    exact (ReferencePrevIdeal.Own.out0 R).symm
  · rw [k1, KernelPrevIdeal.Own.final9 E (KernelPrevIdeal.Gen.V_main_arg4 m c)]
    refine Eq.trans ?_ (ReferencePrevIdeal.Own.out1 R).symm
    rw [a4]
    exact add_swap _ _
  · rw [k2, KernelPrevIdeal.Own.final10 E (KernelPrevIdeal.Gen.V_main_arg5 m c)]
    refine Eq.trans ?_ (ReferencePrevIdeal.Own.out2 R).symm
    rw [a5]
    exact add_swap _ _

end Cert.Prev

end
-- ==== Proof.Adam.Value.lean ====
/- The optimiser's step: what the kernel leaves and what the reference computes. -/
module

public import proofs.«01_k».proof.Proof.Lin.Array
public import proofs.«01_k».proof.Proof.Gen.KernelAdamIdeal.Value
public import proofs.«01_k».proof.Proof.Gen.ReferenceAdamIdeal.Run

@[expose] public section

set_option maxRecDepth 16384

noncomputable section

namespace Cert.KernelAdamIdeal.Own

open Cert.KernelAdamIdeal Cert.KernelAdamIdeal.Gen Cert.Lin
open Idealize.ShloMosaic Idealize.ShloMosaic.TcCoe
open Idealize.ShloMosaic.Pipeline (Dat)

/-- The new first moment, of the gradient and the old one. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of a weight. -/
def delta (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

variable (m : (ℓ : Loc nD τ sig) → Buf (Elt Ideal) ℓ) (c : Dev nD) (W G M U : ℕ → ℕ → EReal)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The arguments that the results depend on. -/
structure Args : Prop where
  w : m ((c : Thread nD τ).loc main_arg0) = grid .f32 4096 1024 W
  g : m ((c : Thread nD τ).loc main_arg1) = grid .f32 4096 1024 G
  p : m ((c : Thread nD τ).loc main_arg2) = grid .f32 4096 1024 M
  u : m ((c : Thread nD τ).loc main_arg3) = grid .f32 4096 1024 U

section point

variable (w g p u : ℕ → ℕ → EReal)

theorem ld (f : ℕ → ℕ → EReal) : (View.ld (Val := Elt Ideal) (e' := .f32) (grid .f32 512 1024 f) r0_0 : FVec Ideal S512x1024 .f32) = grid .f32 512 1024 f :=
  View.ld_unit_lit _ _ (by decide)

theorem out4 : (out0_4 (F := Ideal) (grid .f32 512 1024 w) (grid .f32 512 1024 g) (grid .f32 512 1024 p) (grid .f32 512 1024 u) : FVec Ideal S512x1024 .f32)
    = grid .f32 512 1024 fun i j => delta (w i j) (g i j) (p i j) (u i j) := by
  unfold out0_4
  rw [ld, ld, ld, ld]
  refine (View.canon_cons_unit_lit _ _ [] (by decide)).trans (eq_grid fun i j => ?_)
  unfold k0_pay3 k0_pay1 k0_pay2
  pointwise [grid_ix2]
  rfl

theorem out5 : (out0_5 (F := Ideal) (grid .f32 512 1024 w) (grid .f32 512 1024 g) (grid .f32 512 1024 p) (grid .f32 512 1024 u) : FVec Ideal S512x1024 .f32)
    = grid .f32 512 1024 fun i j => first (g i j) (p i j) := by
  unfold out0_5
  rw [ld, ld]
  refine (View.canon_cons_unit_lit _ _ [] (by decide)).trans (eq_grid fun i j => ?_)
  unfold k0_pay1
  pointwise [grid_ix2]
  rfl

theorem out6 : (out0_6 (F := Ideal) (grid .f32 512 1024 w) (grid .f32 512 1024 g) (grid .f32 512 1024 p) (grid .f32 512 1024 u) : FVec Ideal S512x1024 .f32)
    = grid .f32 512 1024 fun i j => second (g i j) (u i j) := by
  unfold out0_6
  rw [ld, ld]
  refine (View.canon_cons_unit_lit _ _ [] (by decide)).trans (eq_grid fun i j => ?_)
  unfold k0_pay2
  pointwise [grid_ix2]
  rfl

theorem out7 : (out0_7 (F := Ideal) (grid .f32 512 1024 w) (grid .f32 512 1024 g) (grid .f32 512 1024 p) (grid .f32 512 1024 u) : FVec Ideal S512x1024 .f32)
    = grid .f32 512 1024 g := by
  unfold out0_7
  rw [ld]
  exact View.canon_cons_unit_lit _ _ [] (by decide)

end point

variable {m c W G M U} (A : Args m c W G M U)

include A

theorem blk0 (t : Fin cfg0.N) : iblk m c 0 t = grid .f32 512 1024 fun r k => W (512 * t.val + r) k := by
  funext y
  blk_simp [iblk]
  refine (congrFun ((V_main_arg0 m c).trans A.w) _).trans ?_
  refine congrArg₂ W ?_ ?_ <;> blk_simp [idx t] <;> ring

theorem blk1 (t : Fin cfg0.N) : iblk m c 1 t = grid .f32 512 1024 fun r k => G (512 * t.val + r) k := by
  funext y
  blk_simp [iblk]
  refine (congrFun ((V_main_arg1 m c).trans A.g) _).trans ?_
  refine congrArg₂ G ?_ ?_ <;> blk_simp [idx t] <;> ring

theorem blk2 (t : Fin cfg0.N) : iblk m c 2 t = grid .f32 512 1024 fun r k => M (512 * t.val + r) k := by
  funext y
  blk_simp [iblk]
  refine (congrFun ((V_main_arg2 m c).trans A.p) _).trans ?_
  refine congrArg₂ M ?_ ?_ <;> blk_simp [idx t] <;> ring

theorem blk3 (t : Fin cfg0.N) : iblk m c 3 t = grid .f32 512 1024 fun r k => U (512 * t.val + r) k := by
  funext y
  blk_simp [iblk]
  refine (congrFun ((V_main_arg3 m c).trans A.u) _).trans ?_
  refine congrArg₂ U ?_ ?_ <;> blk_simp [idx t] <;> ring

theorem final4 : (dats m 0 c).arrAt 4 cfg0.N = grid .f32 4096 1024 fun i j => delta (W i j) (G i j) (M i j) (U i j) := by
  refine (dats m 0 c).arrAt_eq_of_covers 4 _ (by decide +kernel) fun t _ y => ?_
  blk_simp
  rw [after0_4, blk0 A, blk1 A, blk2 A, blk3 A, out4]
  obtain ⟨r, k, rfl⟩ : ∃ (r : Fin 512) (k : Fin 1024), y = ix2 r k := ⟨_, _, eq_ix2 y⟩
  rw [grid_ix2]
  change (fun i j => delta (W i j) (G i j) (M i j) (U i j)) (512 * t.val + r.val) k.val = _
  refine congrArg₂ (fun i j => delta (W i j) (G i j) (M i j) (U i j)) ?_ ?_ <;> blk_simp [idx t] <;> ring

theorem final5 : (dats m 0 c).arrAt 5 cfg0.N = grid .f32 4096 1024 fun i j => first (G i j) (M i j) := by
  refine (dats m 0 c).arrAt_eq_of_covers 5 _ (by decide +kernel) fun t _ y => ?_
  blk_simp
  rw [after0_5, blk0 A, blk1 A, blk2 A, blk3 A, out5]
  obtain ⟨r, k, rfl⟩ : ∃ (r : Fin 512) (k : Fin 1024), y = ix2 r k := ⟨_, _, eq_ix2 y⟩
  rw [grid_ix2]
  change (fun i j => first (G i j) (M i j)) (512 * t.val + r.val) k.val = _
  refine congrArg₂ (fun i j => first (G i j) (M i j)) ?_ ?_ <;> blk_simp [idx t] <;> ring

theorem final6 : (dats m 0 c).arrAt 6 cfg0.N = grid .f32 4096 1024 fun i j => second (G i j) (U i j) := by
  refine (dats m 0 c).arrAt_eq_of_covers 6 _ (by decide +kernel) fun t _ y => ?_
  blk_simp
  rw [after0_6, blk0 A, blk1 A, blk2 A, blk3 A, out6]
  obtain ⟨r, k, rfl⟩ : ∃ (r : Fin 512) (k : Fin 1024), y = ix2 r k := ⟨_, _, eq_ix2 y⟩
  rw [grid_ix2]
  change (fun i j => second (G i j) (U i j)) (512 * t.val + r.val) k.val = _
  refine congrArg₂ (fun i j => second (G i j) (U i j)) ?_ ?_ <;> blk_simp [idx t] <;> ring

theorem final7 : (dats m 0 c).arrAt 7 cfg0.N = grid .f32 4096 1024 G := by
  refine (dats m 0 c).arrAt_eq_of_covers 7 _ (by decide +kernel) fun t _ y => ?_
  blk_simp
  rw [after0_7, blk0 A, blk1 A, blk2 A, blk3 A, out7]
  obtain ⟨r, k, rfl⟩ : ∃ (r : Fin 512) (k : Fin 1024), y = ix2 r k := ⟨_, _, eq_ix2 y⟩
  rw [grid_ix2]
  change G (512 * t.val + r.val) k.val = _
  refine congrArg₂ G ?_ ?_ <;> blk_simp [idx t] <;> ring

end Cert.KernelAdamIdeal.Own

namespace Cert.ReferenceAdamIdeal.Own

open Cert.ReferenceAdamIdeal Cert.ReferenceAdamIdeal.Gen Cert.Lin
open Idealize.ShloMosaic
open Cert.KernelAdamIdeal.Own (first second delta)

def every (b : BitVec 32) : FVec Ideal S4096x1024 .f32 := broadcastInDim S4096x1024 ![] bcast_S_S4096x1024 (constant S_ .f32 b)

def firstV (g m : FVec Ideal S4096x1024 .f32) : FVec Ideal S4096x1024 .f32 := addf (mulf (every 0x3F666666#32) m) (mulf (every 0x3DCCCCCD#32) g)

def secondV (g v : FVec Ideal S4096x1024 .f32) : FVec Ideal S4096x1024 .f32 := addf (mulf (every 0x3F7FBE77#32) v) (mulf (every 0x3A83126F#32) (mulf g g))

def deltaV (w g m v : FVec Ideal S4096x1024 .f32) : FVec Ideal S4096x1024 .f32 :=
  mulf (every 0xBA83126F#32) (addf (Host.divf (Host.divf (firstV g m) (every 0x3F26BD02#32))
    (addf (Host.sqrt (Host.divf (secondV g v) (every 0x3C231ACC#32))) (every 0x322BCC77#32))) (mulf (every 0x3C23D70A#32) w))

variable (w g m v : ℕ → ℕ → EReal)

theorem firstV_grid : firstV (grid .f32 4096 1024 g) (grid .f32 4096 1024 m) = grid .f32 4096 1024 fun i j => first (g i j) (m i j) := by
  refine eq_grid fun i j => ?_
  unfold firstV every
  pointwise [grid_ix2]
  rfl

theorem secondV_grid : secondV (grid .f32 4096 1024 g) (grid .f32 4096 1024 v) = grid .f32 4096 1024 fun i j => second (g i j) (v i j) := by
  refine eq_grid fun i j => ?_
  unfold secondV every
  pointwise [grid_ix2]
  rfl

theorem deltaV_grid : deltaV (grid .f32 4096 1024 w) (grid .f32 4096 1024 g) (grid .f32 4096 1024 m) (grid .f32 4096 1024 v)
    = grid .f32 4096 1024 fun i j => delta (w i j) (g i j) (m i j) (v i j) := by
  refine eq_grid fun i j => ?_
  unfold deltaV
  rw [firstV_grid, secondV_grid]
  unfold every
  pointwise [grid_ix2]
  rfl

end Cert.ReferenceAdamIdeal.Own

end
-- ==== Proof.Adam.Claims.lean ====
/- The claims about the optimiser's step. -/
module

public import proofs.«01_k».proof.Defs
public import proofs.«01_k».proof.Proof.Adam.Value
public import proofs.«01_k».proof.Proof.Gen.KernelAdam.Frame
public import Idealize.ShloMosaic.Lib.Quiescent

@[expose] public section

noncomputable section

namespace Cert.Adam

open Idealize.ShloMosaic Idealize.SL.Sem

theorem frame : Cert.quiescent_KernelAdam := fun m ρ _ => KernelAdam.Gen.frame m ρ

theorem frame_ideal : Cert.quiescent_KernelAdamIdeal := fun m ρ _ => KernelAdamIdeal.Gen.frame m ρ

theorem reference_frame : Cert.quiescent_ReferenceAdamIdeal := fun m ρ _ =>
  (θ_run ReferenceAdamIdeal.defs _ _).mono (fun r h => ⟨fun c => (h c).2.2.2.2, sem_eq_zero_of_no_sems (by decide) r.2⟩)
    (ReferenceAdamIdeal.Value.run (F := Ideal) m ρ)

theorem equal : Cert.algebraic_KernelAdamIdeal_ReferenceAdamIdeal := by
  intro m g m' g' _ hagree
  refine ⟨fun c => (KernelAdamIdeal.Gen.dats m 0 c).arrAt 4 KernelAdamIdeal.cfg0.N, fun c => (KernelAdamIdeal.Gen.dats m 0 c).arrAt 5 KernelAdamIdeal.cfg0.N,
    fun c => (KernelAdamIdeal.Gen.dats m 0 c).arrAt 6 KernelAdamIdeal.cfg0.N, fun c => (KernelAdamIdeal.Gen.dats m 0 c).arrAt 7 KernelAdamIdeal.cfg0.N,
    KernelAdamIdeal.Value.run_blocks m g, ?_⟩
  refine (θ_run ReferenceAdamIdeal.defs _ _).mono (fun r h c => ?_) (ReferenceAdamIdeal.Value.run (F := Ideal) m' g')
  obtain ⟨h0, h1, h2, h3, hk⟩ := h c
  obtain ⟨a0, a1, a2, a3⟩ := hagree c
  obtain ⟨W, hW⟩ := Cert.Lin.exists_grid (φ := .f32) (m ((c.tc : Thread KernelAdamIdeal.nD KernelAdamIdeal.τ).loc KernelAdamIdeal.main_arg0))
  obtain ⟨G, hG⟩ := Cert.Lin.exists_grid (φ := .f32) (m ((c.tc : Thread KernelAdamIdeal.nD KernelAdamIdeal.τ).loc KernelAdamIdeal.main_arg1))
  obtain ⟨M, hM⟩ := Cert.Lin.exists_grid (φ := .f32) (m ((c.tc : Thread KernelAdamIdeal.nD KernelAdamIdeal.τ).loc KernelAdamIdeal.main_arg2))
  obtain ⟨U, hU⟩ := Cert.Lin.exists_grid (φ := .f32) (m ((c.tc : Thread KernelAdamIdeal.nD KernelAdamIdeal.τ).loc KernelAdamIdeal.main_arg3))
  have A : KernelAdamIdeal.Own.Args m c W G M U := ⟨hW, hG, hM, hU⟩
  have e0 := a0.trans hW
  have e1 := a1.trans hG
  have e2 := a2.trans hM
  have e3 := a3.trans hU
  rw [e0, e1, e2, e3] at h0
  rw [e1, e2] at h1
  rw [e1, e3] at h2
  exact ⟨h0.trans ((ReferenceAdamIdeal.Own.deltaV_grid W G M U).trans (KernelAdamIdeal.Own.final4 A).symm),
    h1.trans ((ReferenceAdamIdeal.Own.firstV_grid G M).trans (KernelAdamIdeal.Own.final5 A).symm),
    h2.trans ((ReferenceAdamIdeal.Own.secondV_grid G U).trans (KernelAdamIdeal.Own.final6 A).symm),
    (h3.trans e1).trans (KernelAdamIdeal.Own.final7 A).symm, hk⟩

end Cert.Adam

end
-- ==== Proof.Gate.Value.lean ====
/- The gate's mixing of the rows of a block: what the kernel leaves and what the reference computes. -/
module

public import proofs.«01_k».proof.Proof.GateNorm.Value
public import proofs.«01_k».proof.Proof.Gen.KernelGateIdeal.Value
public import proofs.«01_k».proof.Proof.Gen.ReferenceGateIdeal.Run
public import Idealize.ShloMosaic.Lib.Pipeline.ReadBack

@[expose] public section

set_option maxRecDepth 16384

noncomputable section

namespace Cert.Lin

open Idealize.ShloMosaic

theorem exists_slabs {a b c : ℕ} {φ : FTy} (x : FVec Ideal ⟨3, ![a, b, c]⟩ φ) : ∃ f, x = slabs φ a b c f := by
  refine ⟨fun h r s => if e : h < a ∧ r < b ∧ s < c then x (ix3 ⟨h, e.1⟩ ⟨r, e.2.1⟩ ⟨s, e.2.2⟩) else 0, eq_slabs fun h r s => ?_⟩
  rw [dif_pos ⟨h.isLt, r.isLt, s.isLt⟩]

end Cert.Lin

namespace Cert.KernelGateIdeal.Own

open Cert.KernelGateIdeal Cert.KernelGateIdeal.Gen Cert.Lin Finset
open Idealize.ShloMosaic Idealize.ShloMosaic.TcCoe
open Idealize.ShloMosaic.Pipeline (Dat)
open Cert.KernelGateNormIdeal.Own (gelu)

/-- A weight of the mixing where the mask keeps it. -/
def kept (S : ℕ → ℕ → ℕ → EReal) (g t s : ℕ) : EReal := if s / 64 ≤ t / 64 then S g t s else 0

/-- The activation times the mixed rows. -/
def gated (X Y : ℕ → ℕ → EReal) (S : ℕ → ℕ → ℕ → EReal) (B : ℕ → ℕ → EReal) (r k : ℕ) : EReal :=
  gelu (X r k) * ((∑ s ∈ range 128, kept S (k / 128) (r % 128) s * Y (128 * (r / 128) + s) k) + B (k / 128) (r % 128))

/-- The comparison of two halves. -/
theorem sle_half (a b : ℕ) (ha : a < 128) (hb : b < 128) :
    BitVec.sle (BitVec.ofNat 32 (a / 64)) (BitVec.ofNat 32 (b / 64)) = decide (a / 64 ≤ b / 64) :=
  (by decide +kernel : ∀ x y : Fin 2, BitVec.sle (BitVec.ofNat 32 x.val) (BitVec.ofNat 32 y.val) = decide (x.val ≤ y.val))
    ⟨a / 64, by omega⟩ ⟨b / 64, by omega⟩

section point

variable (X Y : ℕ → ℕ → EReal) (S : ℕ → ℕ → ℕ → EReal) (B : ℕ → ℕ → EReal)

def mask : IVec S128x128 1 := k0_pay6 k0_pay2 k0_pay3 k0_pay4 k0_pay5

theorem mask_col : ∀ t s : Fin 128, k0_pay2 (ix2 t s) = BitVec.ofNat 32 (s.val / 64) := fun t s =>
  (by decide +kernel : ∀ s : Fin 128, k0_pay2 (ix2 0 s) = BitVec.ofNat 32 (s.val / 64)) s

def row : IVec S128x128 32 := select (andi k0_pay4 k0_pay5) (subi k0_pay3 (broadcast S128x128 1#32)) k0_pay3

theorem mask_row : ∀ t s : Fin 128, row (ix2 t s) = BitVec.ofNat 32 (t.val / 64) := fun t s =>
  (by decide +kernel : ∀ t : Fin 128, row (ix2 t 0) = BitVec.ofNat 32 (t.val / 64)) t

theorem mask_ix2 (t s : Fin 128) : mask (ix2 t s) = BitVec.ofBool (decide (s.val / 64 ≤ t.val / 64)) := by
  have e : mask (ix2 t s) = BitVec.ofBool (BitVec.sle (k0_pay2 (ix2 t s)) (row (ix2 t s))) := rfl
  rw [e, mask_col, mask_row, sle_half _ _ s.isLt t.isLt]

def masked (w : FVec Ideal S1x128x128 .f32) : FVec Ideal S128x128 .bf16 :=
  truncf .bf16 (select mask (shapeCast S128x128 w shapeCasts_S1x128x128_S128x128) (broadcast S128x128 (Scalar.ofBits .f32 0x00000000#32))) bitsLt_bf16_f32

theorem masked_slabs (u : ℕ → ℕ → ℕ → EReal) : masked (slabs .f32 1 128 128 u) = grid .bf16 128 128 (kept u 0) := by
  refine eq_grid fun t s => ?_
  unfold masked kept
  pointwise [slabs_ix3, mask_ix2]

def geluT (x : FVec Ideal S128x128 .f32) : FVec Ideal S128x128 .f32 :=
  mulf x (mulf (broadcast S128x128 (Scalar.ofBits .f32 0x3F000000#32)) (addf (broadcast S128x128 (Scalar.ofBits .f32 0x3F800000#32))
    (tanh (mulf (broadcast S128x128 (Scalar.ofBits .f32 0x3F4C422A#32)) (addf x (mulf (broadcast S128x128 (Scalar.ofBits .f32 0x3D372713#32)) (mulf x (mulf x x))))))))

theorem geluT_grid (f : ℕ → ℕ → EReal) : geluT (grid .f32 128 128 f) = grid .f32 128 128 fun r c => gelu (f r c) := by
  refine eq_grid fun r c => ?_
  unfold geluT gelu
  pointwise [grid_ix2]

/-- One tile of the result, of its weights, its shifts, its rows and its half of the hidden layer. -/
def tile (w : FVec Ideal S1x128x128 .f32) (b : FVec Ideal S128x1 .f32) (v : FVec Ideal S128x128 .bf16) (h : FVec Ideal S128x128 .f32) : FVec Ideal S128x128 .bf16 :=
  truncf .bf16 (mulf (geluT h) (addf (matmul dot_S128x128_S128x128_S128x128_1_0_0_1_n_n none (masked w) (shapeCast S128x128 v shapeCasts_S128x128_S128x128) (constant S128x128 .f32 0x00000000#32))
    (broadcastTo S128x128 (shapeCast S128x1 b shapeCasts_S128x1_S128x1) broadcasts_S128x1_S128x128))) bitsLt_bf16_f32

theorem tile_grid (u : ℕ → ℕ → ℕ → EReal) (b v h : ℕ → ℕ → EReal) :
    tile (slabs .f32 1 128 128 u) (grid .f32 128 1 b) (grid .bf16 128 128 v) (grid .f32 128 128 h)
      = grid .bf16 128 128 fun r k => gelu (h r k) * ((∑ s ∈ range 128, kept u 0 r s * v s k) + b r 0) := by
  refine eq_grid fun r k => ?_
  unfold tile
  rw [masked_slabs, geluT_grid]
  pointwise [grid_ix2]
  rw [← sum_below fun s => kept u 0 r.val s * v s k.val]

theorem tile_ld {a b g : ℕ} (ha : a % 128 = 0) (hb : b = 128 * g) (h2 h3 h1 h) :
    tile (View.ld (Val := Elt Ideal) (e' := .f32) (slabs .f32 8 128 128 S) (Rect.unit (s := S8x128x128) ![g, 0, 0] S1x128x128.size h2))
      (View.ld (Val := Elt Ideal) (e' := .f32) (grid .f32 128 8 fun t g => B g t) (Rect.unit (s := S128x8) ![0, g] S128x1.size h3))
      (View.ld (Val := Elt Ideal) (e' := .bf16) (grid .bf16 512 1024 Y) (Rect.unit (s := S512x1024) ![a, b] S128x128.size h1))
      (View.ld (Val := Elt Ideal) (e' := .f32) (grid .f32 512 1024 X) (Rect.unit (s := S512x1024) ![a, b] S128x128.size h1))
      = View.ld (Val := Elt Ideal) (e' := .bf16) (grid .bf16 512 1024 (gated X Y S B)) (Rect.unit (s := S512x1024) ![a, b] S128x128.size h) := by
  have e2 : (View.ld (Val := Elt Ideal) (e' := .f32) (slabs .f32 8 128 128 S) (Rect.unit (s := S8x128x128) ![g, 0, 0] S1x128x128.size h2) : FVec Ideal S1x128x128 .f32)
      = slabs .f32 1 128 128 fun z t s => S (g + z) (0 + t) (0 + s) := by
    refine eq_slabs fun s r k => ?_
    refine congr (congrArg₂ S ?_ ?_) ?_ <;> simp only [Rect.idx_unit_val] <;> simp
  have e3 : (View.ld (Val := Elt Ideal) (e' := .f32) (grid .f32 128 8 fun t g => B g t) (Rect.unit (s := S128x8) ![0, g] S128x1.size h3) : FVec Ideal S128x1 .f32)
      = grid .f32 128 1 fun t z => B (g + z) (0 + t) := by
    refine eq_grid fun r k => ?_
    refine congrArg₂ B ?_ ?_ <;> simp only [Rect.idx_unit_val] <;> simp
  have e0 : (View.ld (Val := Elt Ideal) (e' := .f32) (grid .f32 512 1024 X) (Rect.unit (s := S512x1024) ![a, b] S128x128.size h1) : FVec Ideal S128x128 .f32)
      = grid .f32 128 128 fun r k => X (a + r) (b + k) := by
    refine eq_grid fun r k => ?_
    refine congrArg₂ X ?_ ?_ <;> simp only [Rect.idx_unit_val] <;> simp
  rw [e2, e3, e0]
  refine (congrArg (fun v => tile _ _ v _) (ld_grid Y ![a, b] h1)).trans ((tile_grid _ _ _ _).trans ((eq_grid fun r k => ?_).trans (ld_grid (gated X Y S B) ![a, b] h).symm))
  rw [grid_ix2]
  have a0 := r.isLt
  have a1 := k.isLt
  have a2 : (a + r.val) % 128 = r.val := by omega
  have a3 : 128 * ((a + r.val) / 128) = a := by omega
  have a4 : (b + k.val) / 128 = g := by omega
  show _ = gated X Y S B (a + r.val) (b + k.val)
  unfold gated
  rw [a2, a3, a4]
  simp [kept]

theorem piece {s : Shape} {G : FVec Ideal s .bf16} {r : Rect s} {w : FVec Ideal r.shape .bf16} {L : List (View.Piece (Elt Ideal) s .bf16)}
    (e : w = View.ld (Val := Elt Ideal) (e' := .bf16) G r) (h : View.PiecesOf (Val := Elt Ideal) (e := .bf16) G L) :
    View.PiecesOf (Val := Elt Ideal) (e := .bf16) G (⟨r, w⟩ :: L) :=
  ⟨fun x => congrFun e x, h⟩

theorem out4 : (out0_4 (F := Ideal) (grid .f32 512 1024 X) (grid .bf16 512 1024 Y) (slabs .f32 8 128 128 S) (grid .f32 128 8 fun t g => B g t) : FVec Ideal S512x1024 .bf16)
    = grid .bf16 512 1024 (gated X Y S B) := by
  unfold out0_4
  funext y
  refine (congrArg (View.canon (Val := Elt Ideal) · y) (List.append_nil _).symm).trans (View.canon_append_of_piecesOf (Val := Elt Ideal) (e := .bf16) (grid .bf16 512 1024 (gated X Y S B)) [] _ ?_ y
    (cover0_4 _ _ _ _ _ _ _ _ _ _ _ _ _ _ _ _ _ _ _ _ _ _ _ _ _ _ _ _ _ _ _ _ y))
  iterate 32 refine piece (tile_ld X Y S B (by decide) (by decide) _ _ _ _) ?_
  exact trivial

end point

variable (m : (ℓ : Loc nD τ sig) → Buf (Elt Ideal) ℓ) (c : Dev nD) (H Y : ℕ → ℕ → EReal) (S : ℕ → ℕ → ℕ → EReal) (B : ℕ → ℕ → EReal)

theorem idx : ∀ t : Fin cfg0.N, win0_0.index t = ![t.val, 0] ∧ win0_1.index t = ![t.val, 0] ∧ win0_2.index t = ![0, 0, 0] ∧ win0_3.index t = ![0, 0] ∧ win0_4.index t = ![t.val, 0] :=
  (by decide +kernel : ∀ t : Fin grid0.N, _)

/-- The arguments that the results depend on. -/
structure Args : Prop where
  h : m ((c : Thread nD τ).loc main_arg0) = grid .f32 4096 2048 H
  y : m ((c : Thread nD τ).loc main_arg1) = grid .f32 4096 1024 Y
  s : m ((c : Thread nD τ).loc main_arg2) = slabs .f32 8 128 128 S
  b : m ((c : Thread nD τ).loc main_arg3) = grid .f32 8 128 B

variable {m c H Y S B} (A : Args m c H Y S B)

include A

theorem entry_y : V m c main_v0 = grid .bf16 4096 1024 Y := by
  unfold V
  simp only [hostOps0]
  after_results
  refine eq_grid fun r k => ?_
  pointwise [A.y, grid_ix2]

theorem entry_b : V m c main_v1 = grid .f32 128 8 fun t g => B g t := by
  unfold V
  simp only [hostOps0]
  after_results
  refine eq_grid fun r k => ?_
  pointwise [A.b, grid_ix2]

theorem blk0 (t : Fin cfg0.N) : iblk m c 0 t = grid .f32 512 1024 fun r k => H (512 * t.val + r) k := by
  funext y
  blk_simp [iblk]
  refine (congrFun ((V_main_arg0 m c).trans A.h) _).trans ?_
  refine congrArg₂ H ?_ ?_ <;> blk_simp [idx t] <;> ring

theorem blk1 (t : Fin cfg0.N) : iblk m c 1 t = grid .bf16 512 1024 fun r k => Y (512 * t.val + r) k := by
  funext y
  blk_simp [iblk]
  refine (congrFun (entry_y A) _).trans ?_
  refine congrArg₂ Y ?_ ?_ <;> blk_simp [idx t] <;> ring

theorem blk2 (t : Fin cfg0.N) : iblk m c 2 t = slabs .f32 8 128 128 S := by
  funext y
  blk_simp [iblk]
  refine (congrFun ((V_main_arg2 m c).trans A.s) _).trans ?_
  show S _ _ _ = S _ _ _
  refine congr (congrArg₂ S ?_ ?_) ?_ <;> blk_simp [idx t] <;> simp

theorem blk3 (t : Fin cfg0.N) : iblk m c 3 t = grid .f32 128 8 fun t g => B g t := by
  funext y
  blk_simp [iblk]
  refine (congrFun (entry_b A) _).trans ?_
  refine congrArg₂ (fun t g => B g t) ?_ ?_ <;> blk_simp [idx t] <;> simp

omit A in
theorem gated_block (t r k : ℕ) : gated (fun i j => H (512 * t + i) j) (fun i j => Y (512 * t + i) j) S B r k = gated H Y S B (512 * t + r) k := by
  unfold gated
  have a0 : (512 * t + r) % 128 = r % 128 := by omega
  have a1 : ∀ s, 128 * ((512 * t + r) / 128) + s = 512 * t + (128 * (r / 128) + s) := fun s => by omega
  simp only [a0, a1]

theorem final4 : (dats m 0 c).arrAt 4 cfg0.N = grid .bf16 4096 1024 (gated H Y S B) := by
  refine (dats m 0 c).arrAt_eq_of_covers 4 _ (by decide +kernel) fun t _ y => ?_
  blk_simp
  rw [after0_4, blk0 A, blk1 A, blk2 A, blk3 A, out4]
  obtain ⟨r, k, rfl⟩ : ∃ (r : Fin 512) (k : Fin 1024), y = ix2 r k := ⟨_, _, eq_ix2 y⟩
  rw [grid_ix2, gated_block]
  refine congrArg₂ (gated H Y S B) ?_ ?_ <;> blk_simp [idx t] <;> ring

end Cert.KernelGateIdeal.Own

namespace Cert.ReferenceGateIdeal.Own

open Cert.ReferenceGateIdeal Cert.ReferenceGateIdeal.Gen Cert.Lin Finset
open Idealize.ShloMosaic Idealize.ShloMosaic.TcCoe Idealize.SL.Sem
open Cert.ReferenceGateNormIdeal.Own (geluV geluV_grid)
open Cert.KernelGateIdeal.Own (kept gated sle_half)

def colV : IVec S1x128 32 :=
  select (andi (cmpi .ne (signi (broadcastInDim S1x128 ![1] bcast_S128_S1x128_1 (iotaInDim S128 32 0))) (broadcastInDim S1x128 ![] bcast_S_S1x128 (signi (id (constantI S_ 32 64#32))))) (cmpi .ne (Host.remsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 0#32)))) (subi (Host.divsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 1#32))) (Host.divsi (broadcastInDim S1x128 ![1] bcast_S128_S1x128_1 (iotaInDim S128 32 0)) (broadcastInDim S1x128 ![] bcast_S_S1x128 (id (constantI S_ 32 64#32))))

def rowV : IVec S128x1 32 :=
  select (andi (cmpi .ne (signi (broadcastInDim S128x1 ![0] bcast_S128_S128x1_0 (iotaInDim S128 32 0))) (broadcastInDim S128x1 ![] bcast_S_S128x1 (signi (id (constantI S_ 32 64#32))))) (cmpi .ne (Host.remsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 0#32)))) (subi (Host.divsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 1#32))) (Host.divsi (broadcastInDim S128x1 ![0] bcast_S128_S128x1_0 (iotaInDim S128 32 0)) (broadcastInDim S128x1 ![] bcast_S_S128x1 (id (constantI S_ 32 64#32))))

theorem colV_ix2 : ∀ s : Fin 128, colV (ix2 0 s) = BitVec.ofNat 32 (s.val / 64) := by decide +kernel

theorem rowV_ix2 : ∀ t : Fin 128, rowV (ix2 t 0) = BitVec.ofNat 32 (t.val / 64) := by decide +kernel

def maskV : IVec S128x128 1 := cmpi .sle (broadcastInDim S128x128 ![0, 1] bcast_S1x128_S128x128_0_1 colV) (broadcastInDim S128x128 ![0, 1] bcast_S128x1_S128x128_0_1 rowV)

theorem maskV_ix2 (t s : Fin 128) : maskV (ix2 t s) = BitVec.ofBool (decide (s.val / 64 ≤ t.val / 64)) := by
  have e : maskV (ix2 t s) = BitVec.ofBool (BitVec.sle (colV (ix2 0 s)) (rowV (ix2 t 0))) := by
    unfold maskV
    pointwise
    rfl
  rw [e, colV_ix2, rowV_ix2, sle_half _ _ s.isLt t.isLt]

def keptV (w : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 maskV)) w
    (broadcastInDim S8x128x128 ![] bcast_S_S8x128x128 (constant S_ .f32 0x00000000#32))

/-- The mixed rows. -/
def mixV (v : FVec Ideal S4096x1024 .f32) (w : FVec Ideal S8x128x128 .f32) (b : FVec Ideal S8x128 .f32) : FVec Ideal S4096x1024 .f32 :=
  shapeCast S4096x1024 (addf (transpose S1x32x128x8x128 [1, 2, 4, 0, 3] (Host.dotGeneral dot_S1x32x128x8x128_S8x128x128_S8x1x32x128x128_2_2_014_1_3_0 none (shapeCast S1x32x128x8x128 v shapeCasts_S4096x1024_S1x32x128x8x128) (keptV w)) transposes_S8x1x32x128x128_S1x32x128x8x128_1_2_4_0_3)
    (broadcastInDim S1x32x128x8x128 ![0, 1, 2, 3, 4] bcast_S1x1x128x8x1_S1x32x128x8x128_0_1_2_3_4 (broadcastInDim S1x1x128x8x1 ![2, 3] bcast_S128x8_S1x1x128x8x1_2_3 (transpose S128x8 [1, 0] b transposes_S8x128_S128x8_1_0)))) shapeCasts_S1x32x128x8x128_S4096x1024

def leftV (h : FVec Ideal S4096x2048 .f32) : FVec Ideal S4096x1024 .f32 := extractStridedSlice S4096x1024 ![0, 0] h slices_S4096x2048_S4096x1024_0_0

def allV (h : FVec Ideal S4096x2048 .f32) (v : FVec Ideal S4096x1024 .f32) (w : FVec Ideal S8x128x128 .f32) (b : FVec Ideal S8x128 .f32) : FVec Ideal S4096x1024 .bf16 :=
  truncf .bf16 (mulf (geluV (leftV h)) (mixV v w b)) bitsLt_bf16_f32

variable (H Y : ℕ → ℕ → EReal) (S : ℕ → ℕ → ℕ → EReal) (B : ℕ → ℕ → EReal)

theorem leftV_grid : leftV (grid .f32 4096 2048 H) = grid .f32 4096 1024 H := by
  refine eq_grid fun i j => ?_
  unfold leftV
  pointwise [grid_ix2]

theorem keptV_slabs : keptV (slabs .f32 8 128 128 S) = slabs .f32 8 128 128 (kept S) := by
  refine eq_slabs fun g t s => ?_
  unfold keptV kept
  pointwise [slabs_ix3, maskV_ix2]

theorem mixV_grid : mixV (grid .f32 4096 1024 Y) (slabs .f32 8 128 128 S) (grid .f32 8 128 B)
    = grid .f32 4096 1024 fun r k => (∑ s ∈ range 128, kept S (k / 128) (r % 128) s * Y (128 * (r / 128) + s) k) + B (k / 128) (r % 128) := by
  refine eq_grid fun i j => ?_
  unfold mixV
  rw [keptV_slabs]
  pointwise [grid_ix2, slabs_ix3]
  rw [← sum_below fun s => kept S (j.val / 128) (i.val % 128) s * Y (128 * (i.val / 128) + s) j.val]
  refine congrArg (· + _) (sum_congr rfl fun s _ => ?_)
  rw [mul_comm, mul_comm 128]

theorem allV_grid : allV (grid .f32 4096 2048 H) (grid .f32 4096 1024 Y) (slabs .f32 8 128 128 S) (grid .f32 8 128 B) = grid .bf16 4096 1024 (gated H Y S B) := by
  unfold allV
  rw [leftV_grid, geluV_grid, mixV_grid]
  refine eq_grid fun i j => ?_
  pointwise [grid_ix2]
  rfl

end Cert.ReferenceGateIdeal.Own

end
-- ==== Proof.Gate.Claims.lean ====
/- The claims about the gate's mixing of the rows of a block. -/
module

public import proofs.«01_k».proof.Defs
public import proofs.«01_k».proof.Proof.Gate.Value
public import proofs.«01_k».proof.Proof.Gen.KernelGate.Frame
public import Idealize.ShloMosaic.Lib.Quiescent

@[expose] public section

noncomputable section

namespace Cert.Gate

open Idealize.ShloMosaic Idealize.SL.Sem

theorem frame : Cert.quiescent_KernelGate := fun m ρ _ => KernelGate.Gen.frame m ρ

theorem frame_ideal : Cert.quiescent_KernelGateIdeal := fun m ρ _ => KernelGateIdeal.Gen.frame m ρ

theorem reference_frame : Cert.quiescent_ReferenceGateIdeal := fun m ρ _ =>
  (θ_run ReferenceGateIdeal.defs _ _).mono (fun r h => ⟨fun c => (h c).2, sem_eq_zero_of_no_sems (by decide) r.2⟩)
    (ReferenceGateIdeal.Value.run (F := Ideal) m ρ)

theorem equal : Cert.algebraic_KernelGateIdeal_ReferenceGateIdeal := by
  intro m g m' g' _ hagree
  refine ⟨fun c => (KernelGateIdeal.Gen.dats m 0 c).arrAt 4 KernelGateIdeal.cfg0.N, KernelGateIdeal.Value.run_blocks m g, ?_⟩
  refine (θ_run ReferenceGateIdeal.defs _ _).mono (fun r h c => ?_) (ReferenceGateIdeal.Value.run (F := Ideal) m' g')
  obtain ⟨h0, hk⟩ := h c
  obtain ⟨a0, a1, a2, a3⟩ := hagree c
  obtain ⟨H, hH⟩ := Cert.Lin.exists_grid (φ := .f32) (m ((c.tc : Thread KernelGateIdeal.nD KernelGateIdeal.τ).loc KernelGateIdeal.main_arg0))
  obtain ⟨Y, hY⟩ := Cert.Lin.exists_grid (φ := .f32) (m ((c.tc : Thread KernelGateIdeal.nD KernelGateIdeal.τ).loc KernelGateIdeal.main_arg1))
  obtain ⟨S, hS⟩ := Cert.Lin.exists_slabs (φ := .f32) (m ((c.tc : Thread KernelGateIdeal.nD KernelGateIdeal.τ).loc KernelGateIdeal.main_arg2))
  obtain ⟨B, hB⟩ := Cert.Lin.exists_grid (φ := .f32) (m ((c.tc : Thread KernelGateIdeal.nD KernelGateIdeal.τ).loc KernelGateIdeal.main_arg3))
  rw [a0.trans hH, a1.trans hY, a2.trans hS, a3.trans hB] at h0
  exact ⟨h0.trans ((ReferenceGateIdeal.Own.allV_grid H Y S B).trans (KernelGateIdeal.Own.final4 ⟨hH, hY, hS, hB⟩).symm), hk⟩

end Cert.Gate

end
-- ==== Proof.Mix.Value.lean ====
/- The gradient of the gate's mixing weights: what the kernel leaves. -/
module

public import proofs.«01_k».proof.Proof.Gate.Value
public import proofs.«01_k».proof.Proof.Gen.KernelMixIdeal.Value
public import Idealize.ShloMosaic.Lib.Pipeline.ReadBack

@[expose] public section

set_option maxRecDepth 16384

noncomputable section

namespace Cert.KernelMixIdeal.Own

open Cert.KernelMixIdeal Cert.KernelMixIdeal.Gen Cert.Lin Finset
open Idealize.ShloMosaic Idealize.ShloMosaic.TcCoe
open Idealize.ShloMosaic.Pipeline (Dat)
open Cert.KernelGateNormIdeal.Own (gelu)
open Cert.KernelGateIdeal.Own (kept geluT geluT_grid mask mask_ix2)

/-- What one block of 128 rows adds to the gradient of a weight. -/
def one (D H Y : ℕ → ℕ → EReal) (g t s b : ℕ) : EReal :=
  ∑ k ∈ range 128, D (128 * b + t) (128 * g + k) * gelu (H (128 * b + t) (128 * g + k)) * Y (128 * b + s) (128 * g + k)

/-- The gradient of a weight before the mask. -/
def upto (D H Y : ℕ → ℕ → EReal) (n g t s : ℕ) : EReal := ∑ b ∈ range n, one D H Y g t s b

section point

variable (D H Y : ℕ → ℕ → EReal) (U : ℕ → ℕ → ℕ → EReal)

/-- The product of one block's gradients with its rows. -/
def part (d h : FVec Ideal S128x128 .f32) (v : FVec Ideal S128x128 .bf16) : FVec Ideal S128x128 .f32 :=
  matmul dot_S128x128_S128x128_S128x128_1_1_0_0_n_n none (truncf .bf16 (mulf d (geluT h)) bitsLt_bf16_f32) (shapeCast S128x128 v shapeCasts_S128x128_S128x128)
    (constant S128x128 .f32 0x00000000#32)

theorem part_grid (d h v : ℕ → ℕ → EReal) : part (grid .f32 128 128 d) (grid .f32 128 128 h) (grid .bf16 128 128 v)
    = grid .f32 128 128 fun t s => ∑ k ∈ range 128, d t k * gelu (h t k) * v s k := by
  refine eq_grid fun t s => ?_
  unfold part
  rw [geluT_grid]
  pointwise [grid_ix2]
  rw [← sum_below fun k => d t.val k * gelu (h t.val k) * v s.val k]

/-- One block's columns of the three arrays, multiplied. -/
theorem part_ld {a b g i : ℕ} (ha : a = 128 * i) (hb : b = 128 * g) (h0 h1 h2) :
    part (View.ld (Val := Elt Ideal) (e' := .f32) (grid .f32 512 1024 D) (Rect.unit (s := S512x1024) ![a, b] S128x128.size h0))
      (View.ld (Val := Elt Ideal) (e' := .f32) (grid .f32 512 2048 H) (Rect.unit (s := S512x2048) ![a, b] S128x128.size h1))
      (View.ld (Val := Elt Ideal) (e' := .bf16) (grid .bf16 512 1024 Y) (Rect.unit (s := S512x1024) ![a, b] S128x128.size h2))
      = grid .f32 128 128 fun t s => one D H Y g t s i := by
  subst ha hb
  have e0 : (View.ld (Val := Elt Ideal) (e' := .f32) (grid .f32 512 1024 D) (Rect.unit (s := S512x1024) ![128 * i, 128 * g] S128x128.size h0) : FVec Ideal S128x128 .f32)
      = grid .f32 128 128 fun r k => D (128 * i + r) (128 * g + k) := by
    refine eq_grid fun r k => ?_
    refine congrArg₂ D ?_ ?_ <;> simp only [Rect.idx_unit_val] <;> simp
  have e1 : (View.ld (Val := Elt Ideal) (e' := .f32) (grid .f32 512 2048 H) (Rect.unit (s := S512x2048) ![128 * i, 128 * g] S128x128.size h1) : FVec Ideal S128x128 .f32)
      = grid .f32 128 128 fun r k => H (128 * i + r) (128 * g + k) := by
    refine eq_grid fun r k => ?_
    refine congrArg₂ H ?_ ?_ <;> simp only [Rect.idx_unit_val] <;> simp
  rw [e0, e1]
  exact (congrArg (part _ _) (ld_grid Y ![128 * i, 128 * g] h2)).trans (part_grid _ _ _)

/-- A head's weights' gradient after four more blocks. -/
def added (w : FVec Ideal S1x128x128 .f32) (p0 p1 p2 p3 : FVec Ideal S128x128 .f32) : FVec Ideal S1x128x128 .f32 :=
  shapeCast S1x128x128 (addf (shapeCast S128x128 w shapeCasts_S1x128x128_S128x128)
    (addf (addf (addf (addf (broadcast S128x128 (Scalar.ofBits .f32 0x00000000#32)) p0) p1) p2) p3)) shapeCasts_S128x128_S1x128x128

theorem added_ld {g : ℕ} {p0 p1 p2 p3 : FVec Ideal S128x128 .f32} (e0 : p0 = grid .f32 128 128 fun t s => one D H Y g t s 0) (e1 : p1 = grid .f32 128 128 fun t s => one D H Y g t s 1)
    (e2 : p2 = grid .f32 128 128 fun t s => one D H Y g t s 2) (e3 : p3 = grid .f32 128 128 fun t s => one D H Y g t s 3) (h) :
    added (View.ld (Val := Elt Ideal) (e' := .f32) (slabs .f32 8 128 128 U) (Rect.unit (s := S8x128x128) ![g, 0, 0] S1x128x128.size h)) p0 p1 p2 p3
      = View.ld (Val := Elt Ideal) (e' := .f32) (slabs .f32 8 128 128 fun g t s => U g t s + upto D H Y 4 g t s) (Rect.unit (s := S8x128x128) ![g, 0, 0] S1x128x128.size h) := by
  have el : ∀ V : ℕ → ℕ → ℕ → EReal, (View.ld (Val := Elt Ideal) (e' := .f32) (slabs .f32 8 128 128 V) (Rect.unit (s := S8x128x128) ![g, 0, 0] S1x128x128.size h) : FVec Ideal S1x128x128 .f32)
      = slabs .f32 1 128 128 fun z t s => V (g + z) t s := fun V => by
    refine eq_slabs fun s r k => ?_
    refine congr (congrArg₂ V ?_ ?_) ?_ <;> simp only [Rect.idx_unit_val] <;> simp
  refine Eq.trans ?_ (el _).symm
  rw [el, e0, e1, e2, e3]
  refine eq_slabs fun z t s => ?_
  unfold added
  have hz : z.val = 0 := by omega
  pointwise [grid_ix2, slabs_ix3]
  simp only [hz, Nat.add_zero, upto, sum_range_succ, range_zero, sum_empty, zero_add]

theorem added_first {g : ℕ} {p0 p1 p2 p3 : FVec Ideal S128x128 .f32} (e0 : p0 = grid .f32 128 128 fun t s => one D H Y g t s 0) (e1 : p1 = grid .f32 128 128 fun t s => one D H Y g t s 1)
    (e2 : p2 = grid .f32 128 128 fun t s => one D H Y g t s 2) (e3 : p3 = grid .f32 128 128 fun t s => one D H Y g t s 3) (h) :
    added (View.ld (Val := Elt Ideal) (e' := .f32) (k0_pay18 (F := Ideal)) (Rect.unit (s := S8x128x128) ![g, 0, 0] S1x128x128.size h)) p0 p1 p2 p3
      = View.ld (Val := Elt Ideal) (e' := .f32) (slabs .f32 8 128 128 (upto D H Y 4)) (Rect.unit (s := S8x128x128) ![g, 0, 0] S1x128x128.size h) := by
  have e : k0_pay18 (F := Ideal) = slabs .f32 8 128 128 fun _ _ _ => 0 := eq_slabs fun g t s => by
    unfold k0_pay18
    pointwise
  rw [e]
  refine (added_ld D H Y (fun _ _ _ => 0) e0 e1 e2 e3 h).trans ?_
  simp only [zero_add]

/-- A head's weights' gradient where the mask keeps it. -/
def maskedS (k : IVec S128x128 1) (w : FVec Ideal S1x128x128 .f32) : FVec Ideal S1x128x128 .f32 :=
  shapeCast S1x128x128 (select k (shapeCast S128x128 w shapeCasts_S1x128x128_S128x128) (broadcast S128x128 (Scalar.ofBits .f32 0x00000000#32))) shapeCasts_S128x128_S1x128x128

theorem maskedS_ld {g : ℕ} {w : FVec Ideal S1x128x128 .f32} {h}
    (e : w = View.ld (Val := Elt Ideal) (e' := .f32) (slabs .f32 8 128 128 U) (Rect.unit (s := S8x128x128) ![g, 0, 0] S1x128x128.size h)) :
    maskedS mask w = View.ld (Val := Elt Ideal) (e' := .f32) (slabs .f32 8 128 128 (kept U)) (Rect.unit (s := S8x128x128) ![g, 0, 0] S1x128x128.size h) := by
  have el : ∀ V : ℕ → ℕ → ℕ → EReal, (View.ld (Val := Elt Ideal) (e' := .f32) (slabs .f32 8 128 128 V) (Rect.unit (s := S8x128x128) ![g, 0, 0] S1x128x128.size h) : FVec Ideal S1x128x128 .f32)
      = slabs .f32 1 128 128 fun z t s => V (g + z) t s := fun V => by
    refine eq_slabs fun s r k => ?_
    refine congr (congrArg₂ V ?_ ?_) ?_ <;> simp only [Rect.idx_unit_val] <;> simp
  refine Eq.trans ?_ (el _).symm
  rw [e, el]
  refine eq_slabs fun z t s => ?_
  unfold maskedS kept
  have hz : z.val = 0 := by omega
  pointwise [slabs_ix3, mask_ix2]

/-- Eight heads, stored one after the other over any earlier stores. -/
theorem canon_eight {G : FVec Ideal S8x128x128 .f32} {w0 w1 w2 w3 w4 w5 w6 w7 : FVec Ideal S1x128x128 .f32} {h0 h1 h2 h3 h4 h5 h6 h7} (L : List (View.Piece (Elt Ideal) S8x128x128 .f32))
    (e7 : w7 = View.ld (Val := Elt Ideal) (e' := .f32) G (Rect.unit (s := S8x128x128) ![7, 0, 0] S1x128x128.size h7))
    (e6 : w6 = View.ld (Val := Elt Ideal) (e' := .f32) G (Rect.unit (s := S8x128x128) ![6, 0, 0] S1x128x128.size h6))
    (e5 : w5 = View.ld (Val := Elt Ideal) (e' := .f32) G (Rect.unit (s := S8x128x128) ![5, 0, 0] S1x128x128.size h5))
    (e4 : w4 = View.ld (Val := Elt Ideal) (e' := .f32) G (Rect.unit (s := S8x128x128) ![4, 0, 0] S1x128x128.size h4))
    (e3 : w3 = View.ld (Val := Elt Ideal) (e' := .f32) G (Rect.unit (s := S8x128x128) ![3, 0, 0] S1x128x128.size h3))
    (e2 : w2 = View.ld (Val := Elt Ideal) (e' := .f32) G (Rect.unit (s := S8x128x128) ![2, 0, 0] S1x128x128.size h2))
    (e1 : w1 = View.ld (Val := Elt Ideal) (e' := .f32) G (Rect.unit (s := S8x128x128) ![1, 0, 0] S1x128x128.size h1))
    (e0 : w0 = View.ld (Val := Elt Ideal) (e' := .f32) G (Rect.unit (s := S8x128x128) ![0, 0, 0] S1x128x128.size h0)) :
    View.canon (Val := Elt Ideal) (e := .f32) (⟨Rect.unit (s := S8x128x128) ![7, 0, 0] S1x128x128.size h7, w7⟩ :: ⟨Rect.unit (s := S8x128x128) ![6, 0, 0] S1x128x128.size h6, w6⟩
      :: ⟨Rect.unit (s := S8x128x128) ![5, 0, 0] S1x128x128.size h5, w5⟩ :: ⟨Rect.unit (s := S8x128x128) ![4, 0, 0] S1x128x128.size h4, w4⟩
      :: ⟨Rect.unit (s := S8x128x128) ![3, 0, 0] S1x128x128.size h3, w3⟩ :: ⟨Rect.unit (s := S8x128x128) ![2, 0, 0] S1x128x128.size h2, w2⟩
      :: ⟨Rect.unit (s := S8x128x128) ![1, 0, 0] S1x128x128.size h1, w1⟩ :: ⟨Rect.unit (s := S8x128x128) ![0, 0, 0] S1x128x128.size h0, w0⟩ :: L) = G := by
  funext y
  refine View.canon_append_of_piecesOf (Val := Elt Ideal) (e := .f32) G L [_, _, _, _, _, _, _, _]
    ⟨congrFun e7, congrFun e6, congrFun e5, congrFun e4, congrFun e3, congrFun e2, congrFun e1, congrFun e0, trivial⟩ y ?_
  exact View.cover_of_tiledL (s := S8x128x128) _ S1x128x128.size (by sl_kernel_rfl) y

end point

section cases

variable (c : Dev nD) (t : Fin cfg0.N) (x3 : Vec Ideal S8x128x128 .f32) (x4 : Vec Ideal S128x8 .f32) (x5 : Vec Ideal S1x1x1024 .f32) (x9 x10 : Vec Ideal S1x1024 .f32) (s : Vec Ideal S128x1024 .f32)
  (D H Y : ℕ → ℕ → EReal) (U : ℕ → ℕ → ℕ → EReal)

theorem out_A7 (h0 h1) :
    (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) h0 h1
      (grid .f32 512 1024 D) (grid .f32 512 2048 H) (grid .bf16 512 1024 Y) x3 x4 x5 : FVec Ideal S8x128x128 .f32) = slabs .f32 8 128 128 (upto D H Y 4) := by
  frame_open
  simp (disch := decide) only [↓View.readCov_skip, ↓View.readCov_fill, ↓View.readCov_cons_toLoadRect, View.read_writes_junk_eq_canon, View.readAt_eq_ld, Memref.IsWhole.read_unread]
  refine canon_eight _ ?_ ?_ ?_ ?_ ?_ ?_ ?_ ?_ <;> exact (added_first D H Y (part_ld D H Y rfl rfl _ _ _) (part_ld D H Y rfl rfl _ _ _) (part_ld D H Y rfl rfl _ _ _) (part_ld D H Y rfl rfl _ _ _) _)

theorem out_B7 (h0 h1) :
    (out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) h0 h1
      (grid .f32 512 1024 D) (grid .f32 512 2048 H) (grid .bf16 512 1024 Y) x3 x4 x5 (slabs .f32 8 128 128 U) x9 x10 s : FVec Ideal S8x128x128 .f32) = slabs .f32 8 128 128 (fun g t s => U g t s + upto D H Y 4 g t s) := by
  frame_open
  simp (disch := decide) only [↓View.readCov_skip, ↓View.readCov_fill, ↓View.readCov_cons_toLoadRect, View.read_writes_junk_eq_canon, View.readAt_eq_ld, Memref.IsWhole.read_unread]
  refine canon_eight _ ?_ ?_ ?_ ?_ ?_ ?_ ?_ ?_ <;> exact (added_ld D H Y U (part_ld D H Y rfl rfl _ _ _) (part_ld D H Y rfl rfl _ _ _) (part_ld D H Y rfl rfl _ _ _) (part_ld D H Y rfl rfl _ _ _) _)

theorem out_C7 (h0 h1) :
    (out0_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) h0 h1
      (grid .f32 512 1024 D) (grid .f32 512 2048 H) (grid .bf16 512 1024 Y) x3 x4 x5 (slabs .f32 8 128 128 U) x9 x10 s : FVec Ideal S8x128x128 .f32) = slabs .f32 8 128 128 (kept fun g t s => U g t s + upto D H Y 4 g t s) := by
  frame_open
  simp (disch := decide) only [↓View.readCov_skip, ↓View.readCov_fill, ↓View.readCov_cons_toLoadRect, View.read_writes_junk_eq_canon, View.readAt_eq_ld, Memref.IsWhole.read_unread]
  refine canon_eight _ ?_ ?_ ?_ ?_ ?_ ?_ ?_ ?_ <;> exact maskedS_ld _ (added_ld D H Y U (part_ld D H Y rfl rfl _ _ _) (part_ld D H Y rfl rfl _ _ _) (part_ld D H Y rfl rfl _ _ _) (part_ld D H Y rfl rfl _ _ _) _)

end cases

theorem upto_block (D H Y : ℕ → ℕ → EReal) (n g t s : ℕ) :
    upto D H Y (4 * n) g t s + upto (fun i j => D (512 * n + i) j) (fun i j => H (512 * n + i) j) (fun i j => Y (512 * n + i) j) 4 g t s = upto D H Y (4 * (n + 1)) g t s := by
  have e : ∀ b, one (fun i j => D (512 * n + i) j) (fun i j => H (512 * n + i) j) (fun i j => Y (512 * n + i) j) g t s b = one D H Y g t s (4 * n + b) := fun b => by
    have a : ∀ i, 512 * n + (128 * b + i) = 128 * (4 * n + b) + i := fun i => by ring
    simp only [one, a]
  simp only [upto, e]
  exact (sum_range_add (fun b => one D H Y g t s b) (4 * n) 4).symm

variable (m : (ℓ : Loc nD τ sig) → Buf (Elt Ideal) ℓ) (c : Dev nD) (D H Y : ℕ → ℕ → EReal)

theorem idx : ∀ t : Fin cfg0.N, win0_0.index t = ![t.val, 0] ∧ win0_1.index t = ![t.val, 0] ∧ win0_2.index t = ![t.val, 0] ∧ win0_7.index t = ![0, 0, 0] :=
  (by decide +kernel : ∀ t : Fin grid0.N, _)

/-- The arguments that the result depends on. -/
structure Args : Prop where
  d : m ((c : Thread nD τ).loc main_arg0) = grid .f32 4096 1024 D
  h : m ((c : Thread nD τ).loc main_arg1) = grid .f32 4096 2048 H
  y : m ((c : Thread nD τ).loc main_arg2) = grid .f32 4096 1024 Y

variable {m c D H Y} (A : Args m c D H Y)

include A

theorem entry_y : V m c main_v0 = grid .bf16 4096 1024 Y := by
  unfold V
  simp only [hostOps0]
  after_results
  refine eq_grid fun r k => ?_
  pointwise [A.y, grid_ix2]

theorem blk0 (t : Fin cfg0.N) : iblk m c 0 t = grid .f32 512 1024 fun r k => D (512 * t.val + r) k := by
  funext y
  blk_simp [iblk]
  refine (congrFun ((V_main_arg0 m c).trans A.d) _).trans ?_
  refine congrArg₂ D ?_ ?_ <;> blk_simp [idx t] <;> ring

theorem blk1 (t : Fin cfg0.N) : iblk m c 1 t = grid .f32 512 2048 fun r k => H (512 * t.val + r) k := by
  funext y
  blk_simp [iblk]
  refine (congrFun ((V_main_arg1 m c).trans A.h) _).trans ?_
  refine congrArg₂ H ?_ ?_ <;> blk_simp [idx t] <;> ring

theorem blk2 (t : Fin cfg0.N) : iblk m c 2 t = grid .bf16 512 1024 fun r k => Y (512 * t.val + r) k := by
  funext y
  blk_simp [iblk]
  refine (congrFun (entry_y A) _).trans ?_
  refine congrArg₂ Y ?_ ?_ <;> blk_simp [idx t] <;> ring

/-- What the weights' gradient holds after a grid point that is not the last. -/
theorem sums : ∀ (n : ℕ) (h : n < cfg0.N), n < 7 → (outsAt0 m c n h).2.1 = slabs .f32 8 128 128 (upto D H Y (4 * (n + 1))) := by
  intro n
  induction n with
  | zero =>
    intro h _
    have e := outsAt0_A m c ⟨0, h⟩ rfl (by dsimp only; omega)
    dsimp only at e
    rw [e]
    dsimp only
    rw [blk0 A, blk1 A, blk2 A, out_A7]
    simp only [Nat.mul_zero, zero_add, Nat.mul_one]
  | succ n ih =>
    intro h hn
    have i7 : (outsAt0 m c (n + 1 - 1) (Nat.lt_of_le_of_lt (Nat.sub_le _ _) h)).2.1 = _ := ih (Nat.lt_of_succ_lt h) (by omega)
    have e := outsAt0_B m c ⟨n + 1, h⟩ (by dsimp only; omega) (by dsimp only; omega)
    dsimp only at e
    rw [e]
    dsimp only
    rw [blk0 A, blk1 A, blk2 A, i7, out_B7]
    refine congrArg _ (funext fun g => funext fun t => funext fun s => ?_)
    exact upto_block D H Y (n + 1) g t s

theorem last (n : ℕ) (h : n < cfg0.N) (hn : n = 7) : (outsAt0 m c n h).2.1 = slabs .f32 8 128 128 (kept (upto D H Y 32)) := by
  have i7 : (outsAt0 m c (n - 1) (Nat.lt_of_le_of_lt (Nat.sub_le _ _) h)).2.1 = slabs .f32 8 128 128 (upto D H Y (4 * (n - 1 + 1))) := sums A (n - 1) _ (by omega)
  have e := outsAt0_C m c ⟨n, h⟩ (by dsimp only; omega) (by dsimp only; omega)
  dsimp only at e
  rw [e]
  dsimp only
  rw [blk0 A, blk1 A, blk2 A, i7, out_C7]
  subst hn
  refine congrArg (fun U => slabs .f32 8 128 128 (kept U)) (funext fun g => funext fun t => funext fun s => ?_)
  exact upto_block D H Y 7 g t s

theorem final7 : (dats m 0 c).arrAt 7 cfg0.N = slabs .f32 8 128 128 (kept (upto D H Y 32)) := by
  refine (dats m 0 c).arrAt_eq_of_covers 7 _ (by decide +kernel) fun t ht y => ?_
  have h7 : t.val = 7 := by
    have h1 := (flush0_7 t).mp ht
    have h2 : t.val < 8 := t.isLt
    omega
  blk_simp
  rw [after0_7, last A t.val t.isLt h7]
  show kept (upto D H Y 32) _ _ _ = kept (upto D H Y 32) _ _ _
  refine congr (congrArg₂ (kept (upto D H Y 32)) ?_ ?_) ?_ <;> blk_simp [idx t] <;> simp

end Cert.KernelMixIdeal.Own

end
-- ==== Proof.Mix.Bias.lean ====
/- The gradient of the gate's biases: what the kernel leaves. -/
module

public import proofs.«01_k».proof.Proof.Mix.Value

@[expose] public section

set_option maxRecDepth 16384

noncomputable section

namespace Cert.KernelMixIdeal.Own

open Cert.KernelMixIdeal Cert.KernelMixIdeal.Gen Cert.Lin Finset
open Idealize.ShloMosaic Idealize.ShloMosaic.TcCoe
open Idealize.ShloMosaic.Pipeline (Dat)
open Cert.KernelGateNormIdeal.Own (gelu)
open Cert.KernelGateIdeal.Own (geluT geluT_grid)

/-- The gradient of the mixed rows at one row of a block, summed over the blocks. -/
def total (D H : ℕ → ℕ → EReal) (n t j : ℕ) : EReal := ∑ b ∈ range n, D (128 * b + t) j * gelu (H (128 * b + t) j)

/-- The sum of a head's columns. -/
def across (T : ℕ → ℕ → EReal) (g t : ℕ) : EReal := ∑ k ∈ range 128, T t (128 * g + k)

section point

variable (D H S : ℕ → ℕ → EReal)

/-- The gradient of one block's mixed rows. -/
def scaled (d h : FVec Ideal S128x128 .f32) : FVec Ideal S128x128 .f32 := mulf d (geluT h)

theorem scaled_ld {a b g i : ℕ} (ha : a = 128 * i) (hb : b = 128 * g) (h0 h1) :
    scaled (View.ld (Val := Elt Ideal) (e' := .f32) (grid .f32 512 1024 D) (Rect.unit (s := S512x1024) ![a, b] S128x128.size h0))
      (View.ld (Val := Elt Ideal) (e' := .f32) (grid .f32 512 2048 H) (Rect.unit (s := S512x2048) ![a, b] S128x128.size h1))
      = grid .f32 128 128 fun r k => D (128 * i + r) (128 * g + k) * gelu (H (128 * i + r) (128 * g + k)) := by
  subst ha hb
  have e0 : (View.ld (Val := Elt Ideal) (e' := .f32) (grid .f32 512 1024 D) (Rect.unit (s := S512x1024) ![128 * i, 128 * g] S128x128.size h0) : FVec Ideal S128x128 .f32)
      = grid .f32 128 128 fun r k => D (128 * i + r) (128 * g + k) := by
    refine eq_grid fun r k => ?_
    refine congrArg₂ D ?_ ?_ <;> simp only [Rect.idx_unit_val] <;> simp
  have e1 : (View.ld (Val := Elt Ideal) (e' := .f32) (grid .f32 512 2048 H) (Rect.unit (s := S512x2048) ![128 * i, 128 * g] S128x128.size h1) : FVec Ideal S128x128 .f32)
      = grid .f32 128 128 fun r k => H (128 * i + r) (128 * g + k) := by
    refine eq_grid fun r k => ?_
    refine congrArg₂ H ?_ ?_ <;> simp only [Rect.idx_unit_val] <;> simp
  rw [e0, e1]
  unfold scaled
  rw [geluT_grid]
  exact eq_grid fun r k => by pointwise [grid_ix2]

theorem cols_ld {g b : ℕ} (hb : b = 128 * g) (h) : (View.ld (Val := Elt Ideal) (e' := .f32) (grid .f32 128 1024 S) (Rect.unit (s := S128x1024) ![0, b] S128x128.size h) : FVec Ideal S128x128 .f32)
    = grid .f32 128 128 fun t k => S t (128 * g + k) := by
  subst hb
  refine eq_grid fun t k => ?_
  refine congrArg₂ S ?_ ?_ <;> simp only [Rect.idx_unit_val] <;> simp

/-- A head's columns after four more blocks. -/
def more (w p0 p1 p2 p3 : FVec Ideal S128x128 .f32) : FVec Ideal S128x128 .f32 :=
  shapeCast S128x128 (addf w (addf (addf (addf (addf (broadcast S128x128 (Scalar.ofBits .f32 0x00000000#32)) p0) p1) p2) p3)) shapeCasts_S128x128_S128x128

theorem more_ld {g b : ℕ} (hb : b = 128 * g) {p0 p1 p2 p3 : FVec Ideal S128x128 .f32} (e0 : p0 = grid .f32 128 128 fun r k => D (128 * 0 + r) (128 * g + k) * gelu (H (128 * 0 + r) (128 * g + k))) (e1 : p1 = grid .f32 128 128 fun r k => D (128 * 1 + r) (128 * g + k) * gelu (H (128 * 1 + r) (128 * g + k))) (e2 : p2 = grid .f32 128 128 fun r k => D (128 * 2 + r) (128 * g + k) * gelu (H (128 * 2 + r) (128 * g + k))) (e3 : p3 = grid .f32 128 128 fun r k => D (128 * 3 + r) (128 * g + k) * gelu (H (128 * 3 + r) (128 * g + k))) (h) :
    more (View.ld (Val := Elt Ideal) (e' := .f32) (grid .f32 128 1024 S) (Rect.unit (s := S128x1024) ![0, b] S128x128.size h)) p0 p1 p2 p3
      = View.ld (Val := Elt Ideal) (e' := .f32) (grid .f32 128 1024 fun t j => S t j + total D H 4 t j) (Rect.unit (s := S128x1024) ![0, b] S128x128.size h) := by
  refine Eq.trans ?_ (cols_ld _ hb h).symm
  rw [cols_ld S hb h, e0, e1, e2, e3]
  refine eq_grid fun t k => ?_
  unfold more
  pointwise [grid_ix2]
  simp only [total, sum_range_succ, range_zero, sum_empty, Nat.reduceMul, Nat.mul_zero, zero_add]

theorem more_first {g b : ℕ} (hb : b = 128 * g) {p0 p1 p2 p3 : FVec Ideal S128x128 .f32} (e0 : p0 = grid .f32 128 128 fun r k => D (128 * 0 + r) (128 * g + k) * gelu (H (128 * 0 + r) (128 * g + k))) (e1 : p1 = grid .f32 128 128 fun r k => D (128 * 1 + r) (128 * g + k) * gelu (H (128 * 1 + r) (128 * g + k))) (e2 : p2 = grid .f32 128 128 fun r k => D (128 * 2 + r) (128 * g + k) * gelu (H (128 * 2 + r) (128 * g + k))) (e3 : p3 = grid .f32 128 128 fun r k => D (128 * 3 + r) (128 * g + k) * gelu (H (128 * 3 + r) (128 * g + k))) (h) :
    more (View.ld (Val := Elt Ideal) (e' := .f32) (k0_pay19 (F := Ideal)) (Rect.unit (s := S128x1024) ![0, b] S128x128.size h)) p0 p1 p2 p3
      = View.ld (Val := Elt Ideal) (e' := .f32) (grid .f32 128 1024 (total D H 4)) (Rect.unit (s := S128x1024) ![0, b] S128x128.size h) := by
  have e : k0_pay19 (F := Ideal) = grid .f32 128 1024 fun _ _ => 0 := eq_grid fun t j => by
    unfold k0_pay19
    pointwise
  rw [e]
  refine (more_ld D H (fun _ _ => 0) hb e0 e1 e2 e3 h).trans ?_
  simp only [zero_add]

/-- A head's sums of its columns, on every lane. -/
def lanes (w : FVec Ideal S128x128 .f32) : FVec Ideal S1x128x128 .f32 :=
  shapeCast S1x128x128 (broadcastTo S128x128 (shapeCast S128x1 (shapeCast S128x1
    (multiReduction .add [1] S128 w 0x00000000#32 reduces_S128x128_S128 (.inl rfl) rfl : FVec Ideal S128 .f32) shapeCasts_S128_S128x1) shapeCasts_S128x1_S128x1)
    broadcasts_S128x1_S128x128) shapeCasts_S128x128_S1x128x128

theorem lanes_ld {g b : ℕ} (hb : b = 128 * g) {w : FVec Ideal S128x128 .f32} {h} (e : w = View.ld (Val := Elt Ideal) (e' := .f32) (grid .f32 128 1024 S) (Rect.unit (s := S128x1024) ![0, b] S128x128.size h)) (h') :
    lanes w = View.ld (Val := Elt Ideal) (e' := .f32) (slabs .f32 8 128 128 fun g t _ => across S g t) (Rect.unit (s := S8x128x128) ![g, 0, 0] S1x128x128.size h') := by
  have el : ∀ V : ℕ → ℕ → ℕ → EReal, (View.ld (Val := Elt Ideal) (e' := .f32) (slabs .f32 8 128 128 V) (Rect.unit (s := S8x128x128) ![g, 0, 0] S1x128x128.size h') : FVec Ideal S1x128x128 .f32)
      = slabs .f32 1 128 128 fun z t s => V (g + z) t s := fun V => by
    refine eq_slabs fun s r k => ?_
    refine congr (congrArg₂ V ?_ ?_) ?_ <;> simp only [Rect.idx_unit_val] <;> simp
  refine Eq.trans ?_ (el _).symm
  rw [e, cols_ld S hb h]
  refine eq_slabs fun z t s => ?_
  unfold lanes
  have hz : z.val = 0 := by omega
  pointwise [grid_ix2]
  simp only [hz, Nat.add_zero, across]
  exact sum_below fun k => S t.val (128 * g + k)

/-- Eight heads' columns, stored one after the other over any earlier stores. -/
theorem canon_cols {G : FVec Ideal S128x1024 .f32} {w0 w1 w2 w3 w4 w5 w6 w7 : FVec Ideal S128x128 .f32} {h0 h1 h2 h3 h4 h5 h6 h7} (L : List (View.Piece (Elt Ideal) S128x1024 .f32))
    (e7 : w7 = View.ld (Val := Elt Ideal) (e' := .f32) G (Rect.unit (s := S128x1024) ![0, 896] S128x128.size h7))
    (e6 : w6 = View.ld (Val := Elt Ideal) (e' := .f32) G (Rect.unit (s := S128x1024) ![0, 768] S128x128.size h6))
    (e5 : w5 = View.ld (Val := Elt Ideal) (e' := .f32) G (Rect.unit (s := S128x1024) ![0, 640] S128x128.size h5))
    (e4 : w4 = View.ld (Val := Elt Ideal) (e' := .f32) G (Rect.unit (s := S128x1024) ![0, 512] S128x128.size h4))
    (e3 : w3 = View.ld (Val := Elt Ideal) (e' := .f32) G (Rect.unit (s := S128x1024) ![0, 384] S128x128.size h3))
    (e2 : w2 = View.ld (Val := Elt Ideal) (e' := .f32) G (Rect.unit (s := S128x1024) ![0, 256] S128x128.size h2))
    (e1 : w1 = View.ld (Val := Elt Ideal) (e' := .f32) G (Rect.unit (s := S128x1024) ![0, 128] S128x128.size h1))
    (e0 : w0 = View.ld (Val := Elt Ideal) (e' := .f32) G (Rect.unit (s := S128x1024) ![0, 0] S128x128.size h0)) :
    View.canon (Val := Elt Ideal) (e := .f32) (⟨(Rect.unit (s := S128x1024) ![0, 896] S128x128.size h7), w7⟩ :: ⟨(Rect.unit (s := S128x1024) ![0, 768] S128x128.size h6), w6⟩ :: ⟨(Rect.unit (s := S128x1024) ![0, 640] S128x128.size h5), w5⟩ :: ⟨(Rect.unit (s := S128x1024) ![0, 512] S128x128.size h4), w4⟩ :: ⟨(Rect.unit (s := S128x1024) ![0, 384] S128x128.size h3), w3⟩ :: ⟨(Rect.unit (s := S128x1024) ![0, 256] S128x128.size h2), w2⟩ :: ⟨(Rect.unit (s := S128x1024) ![0, 128] S128x128.size h1), w1⟩ :: ⟨(Rect.unit (s := S128x1024) ![0, 0] S128x128.size h0), w0⟩ :: L) = G := by
  funext y
  refine View.canon_append_of_piecesOf (Val := Elt Ideal) (e := .f32) G L [_, _, _, _, _, _, _, _]
    ⟨congrFun e7, congrFun e6, congrFun e5, congrFun e4, congrFun e3, congrFun e2, congrFun e1, congrFun e0, trivial⟩ y ?_
  exact View.cover_of_tiledL (s := S128x1024) _ S128x128.size (by sl_kernel_rfl) y

end point

section cases

variable (c : Dev nD) (t : Fin cfg0.N) (x3 x7 : Vec Ideal S8x128x128 .f32) (x4 : Vec Ideal S128x8 .f32) (x5 : Vec Ideal S1x1x1024 .f32) (x9 x10 : Vec Ideal S1x1024 .f32)
  (D H Y S : ℕ → ℕ → EReal)

theorem scratch_A (h0 h1) :
    (sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) h0 h1
      (grid .f32 512 1024 D) (grid .f32 512 2048 H) (grid .bf16 512 1024 Y) x3 x4 x5 : FVec Ideal S128x1024 .f32) = grid .f32 128 1024 (total D H 4) := by
  frame_open
  simp (disch := decide) only [↓View.readCov_skip, ↓View.readCov_fill, ↓View.readCov_cons_toLoadRect, View.read_writes_junk_eq_canon, View.readAt_eq_ld, Memref.IsWhole.read_unread, read_unread_whole]
  refine canon_cols _ ?_ ?_ ?_ ?_ ?_ ?_ ?_ ?_
  · exact more_first D H (g := 7) rfl (scaled_ld D H rfl rfl _ _) (scaled_ld D H rfl rfl _ _) (scaled_ld D H rfl rfl _ _) (scaled_ld D H rfl rfl _ _) _
  · exact more_first D H (g := 6) rfl (scaled_ld D H rfl rfl _ _) (scaled_ld D H rfl rfl _ _) (scaled_ld D H rfl rfl _ _) (scaled_ld D H rfl rfl _ _) _
  · exact more_first D H (g := 5) rfl (scaled_ld D H rfl rfl _ _) (scaled_ld D H rfl rfl _ _) (scaled_ld D H rfl rfl _ _) (scaled_ld D H rfl rfl _ _) _
  · exact more_first D H (g := 4) rfl (scaled_ld D H rfl rfl _ _) (scaled_ld D H rfl rfl _ _) (scaled_ld D H rfl rfl _ _) (scaled_ld D H rfl rfl _ _) _
  · exact more_first D H (g := 3) rfl (scaled_ld D H rfl rfl _ _) (scaled_ld D H rfl rfl _ _) (scaled_ld D H rfl rfl _ _) (scaled_ld D H rfl rfl _ _) _
  · exact more_first D H (g := 2) rfl (scaled_ld D H rfl rfl _ _) (scaled_ld D H rfl rfl _ _) (scaled_ld D H rfl rfl _ _) (scaled_ld D H rfl rfl _ _) _
  · exact more_first D H (g := 1) rfl (scaled_ld D H rfl rfl _ _) (scaled_ld D H rfl rfl _ _) (scaled_ld D H rfl rfl _ _) (scaled_ld D H rfl rfl _ _) _
  · exact more_first D H (g := 0) rfl (scaled_ld D H rfl rfl _ _) (scaled_ld D H rfl rfl _ _) (scaled_ld D H rfl rfl _ _) (scaled_ld D H rfl rfl _ _) _

theorem scratch_B (h0 h1) :
    (sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) h0 h1
      (grid .f32 512 1024 D) (grid .f32 512 2048 H) (grid .bf16 512 1024 Y) x3 x4 x5 x7 x9 x10 (grid .f32 128 1024 S) : FVec Ideal S128x1024 .f32) = grid .f32 128 1024 (fun t j => S t j + total D H 4 t j) := by
  frame_open
  simp (disch := decide) only [↓View.readCov_skip, ↓View.readCov_fill, ↓View.readCov_cons_toLoadRect, View.read_writes_junk_eq_canon, View.readAt_eq_ld, Memref.IsWhole.read_unread, read_unread_whole]
  refine canon_cols _ ?_ ?_ ?_ ?_ ?_ ?_ ?_ ?_
  · exact more_ld D H S (g := 7) rfl (scaled_ld D H rfl rfl _ _) (scaled_ld D H rfl rfl _ _) (scaled_ld D H rfl rfl _ _) (scaled_ld D H rfl rfl _ _) _
  · exact more_ld D H S (g := 6) rfl (scaled_ld D H rfl rfl _ _) (scaled_ld D H rfl rfl _ _) (scaled_ld D H rfl rfl _ _) (scaled_ld D H rfl rfl _ _) _
  · exact more_ld D H S (g := 5) rfl (scaled_ld D H rfl rfl _ _) (scaled_ld D H rfl rfl _ _) (scaled_ld D H rfl rfl _ _) (scaled_ld D H rfl rfl _ _) _
  · exact more_ld D H S (g := 4) rfl (scaled_ld D H rfl rfl _ _) (scaled_ld D H rfl rfl _ _) (scaled_ld D H rfl rfl _ _) (scaled_ld D H rfl rfl _ _) _
  · exact more_ld D H S (g := 3) rfl (scaled_ld D H rfl rfl _ _) (scaled_ld D H rfl rfl _ _) (scaled_ld D H rfl rfl _ _) (scaled_ld D H rfl rfl _ _) _
  · exact more_ld D H S (g := 2) rfl (scaled_ld D H rfl rfl _ _) (scaled_ld D H rfl rfl _ _) (scaled_ld D H rfl rfl _ _) (scaled_ld D H rfl rfl _ _) _
  · exact more_ld D H S (g := 1) rfl (scaled_ld D H rfl rfl _ _) (scaled_ld D H rfl rfl _ _) (scaled_ld D H rfl rfl _ _) (scaled_ld D H rfl rfl _ _) _
  · exact more_ld D H S (g := 0) rfl (scaled_ld D H rfl rfl _ _) (scaled_ld D H rfl rfl _ _) (scaled_ld D H rfl rfl _ _) (scaled_ld D H rfl rfl _ _) _

theorem out_C8 (h0 h1) :
    (out0_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) h0 h1
      (grid .f32 512 1024 D) (grid .f32 512 2048 H) (grid .bf16 512 1024 Y) x3 x4 x5 x7 x9 x10 (grid .f32 128 1024 S) : FVec Ideal S8x128x128 .f32) = slabs .f32 8 128 128 (fun g t _ => across (fun t j => S t j + total D H 4 t j) g t) := by
  frame_open
  simp (disch := decide) only [↓View.readCov_skip, ↓View.readCov_fill, ↓View.readCov_cons_toLoadRect, View.read_writes_junk_eq_canon, View.readAt_eq_ld, Memref.IsWhole.read_unread, read_unread_whole]
  refine canon_eight _ ?_ ?_ ?_ ?_ ?_ ?_ ?_ ?_
  · exact lanes_ld _ (g := 7) rfl (more_ld D H S (g := 7) rfl (scaled_ld D H rfl rfl _ _) (scaled_ld D H rfl rfl _ _) (scaled_ld D H rfl rfl _ _) (scaled_ld D H rfl rfl _ _) _) _
  · exact lanes_ld _ (g := 6) rfl (more_ld D H S (g := 6) rfl (scaled_ld D H rfl rfl _ _) (scaled_ld D H rfl rfl _ _) (scaled_ld D H rfl rfl _ _) (scaled_ld D H rfl rfl _ _) _) _
  · exact lanes_ld _ (g := 5) rfl (more_ld D H S (g := 5) rfl (scaled_ld D H rfl rfl _ _) (scaled_ld D H rfl rfl _ _) (scaled_ld D H rfl rfl _ _) (scaled_ld D H rfl rfl _ _) _) _
  · exact lanes_ld _ (g := 4) rfl (more_ld D H S (g := 4) rfl (scaled_ld D H rfl rfl _ _) (scaled_ld D H rfl rfl _ _) (scaled_ld D H rfl rfl _ _) (scaled_ld D H rfl rfl _ _) _) _
  · exact lanes_ld _ (g := 3) rfl (more_ld D H S (g := 3) rfl (scaled_ld D H rfl rfl _ _) (scaled_ld D H rfl rfl _ _) (scaled_ld D H rfl rfl _ _) (scaled_ld D H rfl rfl _ _) _) _
  · exact lanes_ld _ (g := 2) rfl (more_ld D H S (g := 2) rfl (scaled_ld D H rfl rfl _ _) (scaled_ld D H rfl rfl _ _) (scaled_ld D H rfl rfl _ _) (scaled_ld D H rfl rfl _ _) _) _
  · exact lanes_ld _ (g := 1) rfl (more_ld D H S (g := 1) rfl (scaled_ld D H rfl rfl _ _) (scaled_ld D H rfl rfl _ _) (scaled_ld D H rfl rfl _ _) (scaled_ld D H rfl rfl _ _) _) _
  · exact lanes_ld _ (g := 0) rfl (more_ld D H S (g := 0) rfl (scaled_ld D H rfl rfl _ _) (scaled_ld D H rfl rfl _ _) (scaled_ld D H rfl rfl _ _) (scaled_ld D H rfl rfl _ _) _) _

end cases

theorem total_block (D H : ℕ → ℕ → EReal) (n t j : ℕ) :
    total D H (4 * n) t j + total (fun i j => D (512 * n + i) j) (fun i j => H (512 * n + i) j) 4 t j = total D H (4 * (n + 1)) t j := by
  have a : ∀ b, 512 * n + (128 * b + t) = 128 * (4 * n + b) + t := fun b => by ring
  simp only [total, a]
  exact (sum_range_add (fun b => D (128 * b + t) j * gelu (H (128 * b + t) j)) (4 * n) 4).symm

variable {m : (ℓ : Loc nD τ sig) → Buf (Elt Ideal) ℓ} {c : Dev nD} {D H Y : ℕ → ℕ → EReal} (A : Args m c D H Y)

include A

/-- What the scratch holds after a grid point that is not the last. -/
theorem totals : ∀ (n : ℕ) (h : n < cfg0.N), n < 7 → (outsAt0 m c n h).2.2.2.2.2 = grid .f32 128 1024 (total D H (4 * (n + 1))) := by
  intro n
  induction n with
  | zero =>
    intro h _
    have e := outsAt0_A m c ⟨0, h⟩ rfl (by dsimp only; omega)
    dsimp only at e
    rw [e]
    dsimp only
    rw [blk0 A, blk1 A, blk2 A, scratch_A]
    simp only [Nat.mul_zero, zero_add, Nat.mul_one]
  | succ n ih =>
    intro h hn
    have i7 : (outsAt0 m c (n + 1 - 1) (Nat.lt_of_le_of_lt (Nat.sub_le _ _) h)).2.2.2.2.2 = _ := ih (Nat.lt_of_succ_lt h) (by omega)
    have e := outsAt0_B m c ⟨n + 1, h⟩ (by dsimp only; omega) (by dsimp only; omega)
    dsimp only at e
    rw [e]
    dsimp only
    rw [blk0 A, blk1 A, blk2 A, i7, scratch_B]
    refine congrArg _ (funext fun t => funext fun j => ?_)
    exact total_block D H (n + 1) t j

theorem last8 (n : ℕ) (h : n < cfg0.N) (hn : n = 7) : (outsAt0 m c n h).2.2.1 = slabs .f32 8 128 128 (fun g t _ => across (total D H 32) g t) := by
  have i7 : (outsAt0 m c (n - 1) (Nat.lt_of_le_of_lt (Nat.sub_le _ _) h)).2.2.2.2.2 = grid .f32 128 1024 (total D H (4 * (n - 1 + 1))) := totals A (n - 1) _ (by omega)
  have e := outsAt0_C m c ⟨n, h⟩ (by dsimp only; omega) (by dsimp only; omega)
  dsimp only at e
  rw [e]
  dsimp only
  rw [blk0 A, blk1 A, blk2 A, i7, out_C8]
  subst hn
  refine congrArg (fun T => slabs .f32 8 128 128 (fun g t _ => across T g t)) (funext fun t => funext fun j => ?_)
  exact total_block D H 7 t j

omit A in
theorem idx8 : ∀ t : Fin cfg0.N, win0_8.index t = ![0, 0, 0] := (by decide +kernel : ∀ t : Fin grid0.N, _)

theorem final8 : (dats m 0 c).arrAt 8 cfg0.N = slabs .f32 8 128 128 (fun g t _ => across (total D H 32) g t) := by
  refine (dats m 0 c).arrAt_eq_of_covers 8 _ (by decide +kernel) fun t ht y => ?_
  have h7 : t.val = 7 := by
    have h1 := (flush0_8 t).mp ht
    have h2 : t.val < 8 := t.isLt
    omega
  blk_simp
  rw [after0_8, last8 A t.val t.isLt h7]
  show across (total D H 32) _ _ = across (total D H 32) _ _
  refine congrArg₂ (across (total D H 32)) ?_ ?_ <;> blk_simp [idx8 t] <;> simp

end Cert.KernelMixIdeal.Own

end
-- ==== Proof.Mix.Reference.lean ====
/- The gradient of the gate's mixing weights: what the reference computes. -/
module

public import proofs.«01_k».proof.Proof.Mix.Value
public import proofs.«01_k».proof.Proof.Gen.ReferenceMixIdeal.Run
public import Idealize.ShloMosaic.Lib.TwoAxisContraction

@[expose] public section

set_option maxRecDepth 16384

noncomputable section

namespace Cert.ReferenceMixIdeal.Own

open Cert.ReferenceMixIdeal Cert.ReferenceMixIdeal.Gen Cert.Lin Finset
open Idealize.ShloMosaic Idealize.ShloMosaic.TcCoe Idealize.SL.Sem
open Cert.ReferenceGateNormIdeal.Own (geluV geluV_grid)
open Cert.ReferenceGateIdeal.Own (keptV keptV_slabs leftV leftV_grid)
open Cert.KernelGateNormIdeal.Own (gelu)
open Cert.KernelGateIdeal.Own (kept)
open Cert.KernelMixIdeal.Own (one upto)

/-- The contraction over the blocks and the columns of a head. -/
theorem dot_apply (l : FVec Ideal S8x1x32x128x128 .f32) (r : FVec Ideal S1x32x128x8x128 .f32) (g : Fin 8) (t s : Fin 128) :
    Host.dotGeneral dot_S8x1x32x128x128_S1x32x128x8x128_S8x128x128_123_014_4_2_0_3 none l r (ix3 g t s)
      = ∑ b : Fin 32, ∑ k : Fin 128, l (ix5 g 0 b k t) * r (ix5 0 b s g k) := by
  show FloatOps.dotGeneral _ none _ l r (ix3 g t s) = _
  rw [Ideal.dotGeneral_apply]
  let e : (dot_S8x1x32x128x128_S1x32x128x8x128_S8x128x128_123_014_4_2_0_3).contr.Idx ≃ Fin 32 × Fin 128 :=
    { toFun := fun q => (q ⟨1, by decide⟩, q ⟨2, by decide⟩)
      invFun := fun p a => match a with
        | ⟨0, _⟩ => (0 : Fin 1)
        | ⟨1, _⟩ => (p.1 : Fin 32)
        | ⟨2, _⟩ => (p.2 : Fin 128)
      left_inv := fun q => by
        funext a
        apply Fin.ext
        match a with
        | ⟨0, _⟩ =>
          have h : (q ⟨0, by decide⟩).val < 1 := (q ⟨0, by decide⟩).isLt
          show 0 = (q ⟨0, by decide⟩).val
          omega
        | ⟨1, _⟩ => rfl
        | ⟨2, _⟩ => rfl
      right_inv := fun _ => rfl }
  rw [← Equiv.sum_comp e.symm, Fintype.sum_prod_type]
  refine sum_congr rfl fun b _ => sum_congr rfl fun k _ => ?_
  refine congrArg₂ (fun x y => l x * r y) ?_ ?_
  · funext a
    apply Fin.ext
    match a with
    | ⟨0, _⟩ => rfl
    | ⟨1, _⟩ => rfl
    | ⟨2, _⟩ => rfl
    | ⟨3, _⟩ => rfl
    | ⟨4, _⟩ => rfl
  · funext a
    apply Fin.ext
    match a with
    | ⟨0, _⟩ => rfl
    | ⟨1, _⟩ => rfl
    | ⟨2, _⟩ => rfl
    | ⟨3, _⟩ => rfl
    | ⟨4, _⟩ => rfl

def allV (d : FVec Ideal S4096x1024 .f32) (h : FVec Ideal S4096x2048 .f32) (v : FVec Ideal S4096x1024 .f32) : FVec Ideal S8x128x128 .f32 :=
  keptV (Host.dotGeneral dot_S8x1x32x128x128_S1x32x128x8x128_S8x128x128_123_014_4_2_0_3 none
    (transpose S8x1x32x128x128 [3, 0, 1, 4, 2] (shapeCast S1x32x128x8x128 (mulf (geluV (leftV h)) d) shapeCasts_S4096x1024_S1x32x128x8x128) transposes_S1x32x128x8x128_S8x1x32x128x128_3_0_1_4_2)
    (shapeCast S1x32x128x8x128 v shapeCasts_S4096x1024_S1x32x128x8x128))

variable (D H Y : ℕ → ℕ → EReal)

theorem allV_slabs : allV (grid .f32 4096 1024 D) (grid .f32 4096 2048 H) (grid .f32 4096 1024 Y) = slabs .f32 8 128 128 (kept (upto D H Y 32)) := by
  unfold allV
  rw [leftV_grid, geluV_grid]
  refine Eq.trans (congrArg keptV (eq_slabs fun g t s => ?_)) (keptV_slabs (upto D H Y 32))
  rw [dot_apply]
  unfold upto one
  rw [← sum_below fun b => ∑ k ∈ range 128, D (128 * b + t.val) (128 * g.val + k) * gelu (H (128 * b + t.val) (128 * g.val + k)) * Y (128 * b + s.val) (128 * g.val + k)]
  refine sum_congr rfl fun b _ => ?_
  rw [← sum_below fun k => D (128 * b.val + t.val) (128 * g.val + k) * gelu (H (128 * b.val + t.val) (128 * g.val + k)) * Y (128 * b.val + s.val) (128 * g.val + k)]
  refine sum_congr rfl fun k _ => ?_
  pointwise [grid_ix2]
  rw [mul_comm b.val, mul_comm g.val, mul_comm (gelu _)]

end Cert.ReferenceMixIdeal.Own

end
-- ==== Proof.Mix.BiasReference.lean ====
/- The gradient of the gate's biases: what the reference computes. -/
module

public import proofs.«01_k».proof.Proof.Mix.Bias
public import proofs.«01_k».proof.Proof.Mix.Reference

@[expose] public section

set_option maxRecDepth 16384

noncomputable section

namespace Cert.ReferenceMixIdeal.Own

open Cert.ReferenceMixIdeal Cert.ReferenceMixIdeal.Gen Cert.Lin Finset
open Idealize.ShloMosaic Idealize.ShloMosaic.TcCoe Idealize.SL.Sem
open Cert.ReferenceGateNormIdeal.Own (geluV geluV_grid)
open Cert.ReferenceGateIdeal.Own (leftV leftV_grid)
open Cert.KernelGateNormIdeal.Own (gelu)
open Cert.KernelMixIdeal.Own (total across)

/-- The sum over the blocks and the columns of a head. -/
theorem blocks_apply (x : FVec Ideal S1x32x128x8x128 .f32) (t : Fin 128) (g : Fin 8) :
    Host.reduceAdd x (constant S_ .f32 0x00000000#32) reducesTo_S1x32x128x8x128_S1x128x8_d1_4 h_S_ (ix3 0 t g)
      = ∑ b : Fin 32, ∑ k : Fin 128, x (ix5 0 b t g k) := by
  have hz : (constant S_ .f32 0x00000000#32 : FVec Ideal S_ .f32) (Shape.Idx.first h_S_) = 0 := by pointwise
  rw [Host.reduceAdd_apply, Ideal.hostReduceAdd_def, hz]
  unfold Ideal.hostReduceAdd
  rw [zero_add]
  refine (Finset.sum_filter_eq_sum_of_fiber _ (fun p : Fin 32 × Fin 128 => (ix5 0 p.1 t g p.2 : S1x32x128x8x128.Idx))
    (fun _ _ e => Prod.ext (congrFun e 1) (congrFun e 4)) (fun i => ?_) x).trans (Fintype.sum_prod_type _)
  constructor
  · intro e
    refine ⟨(i 1, i 4), ?_⟩
    funext a
    apply Fin.ext
    match a with
    | ⟨0, _⟩ => exact (congrArg Fin.val (congrFun e ⟨0, by decide⟩)).symm
    | ⟨1, _⟩ => rfl
    | ⟨2, _⟩ => exact (congrArg Fin.val (congrFun e ⟨1, by decide⟩)).symm
    | ⟨3, _⟩ => exact (congrArg Fin.val (congrFun e ⟨2, by decide⟩)).symm
    | ⟨4, _⟩ => rfl
  · rintro ⟨p, rfl⟩
    funext a
    apply Fin.ext
    match a with
    | ⟨0, _⟩ => rfl
    | ⟨1, _⟩ => rfl
    | ⟨2, _⟩ => rfl

/-- The sum over three axes of one entry each. -/
theorem single_apply (x : FVec Ideal S1x1x128x8x1 .f32) (t : Fin 128) (g : Fin 8) :
    Host.reduceAdd x (constant S_ .f32 0x00000000#32) reducesTo_S1x1x128x8x1_S128x8_d0_1_4 h_S_ (ix2 t g) = x (ix5 0 0 t g 0) := by
  have hz : (constant S_ .f32 0x00000000#32 : FVec Ideal S_ .f32) (Shape.Idx.first h_S_) = 0 := by pointwise
  rw [Host.reduceAdd_apply, Ideal.hostReduceAdd_def, hz]
  unfold Ideal.hostReduceAdd
  rw [zero_add]
  refine (Finset.sum_filter_eq_sum_of_fiber _ (fun _ : Fin 1 => (ix5 0 0 t g 0 : S1x1x128x8x1.Idx))
    (fun _ _ _ => Subsingleton.elim _ _) (fun i => ?_) x).trans (Fintype.sum_unique _)
  constructor
  · intro e
    refine ⟨0, ?_⟩
    have h0 : (i 0).val < 1 := (i 0).isLt
    have h1 : (i 1).val < 1 := (i 1).isLt
    have h4 : (i 4).val < 1 := (i 4).isLt
    funext a
    apply Fin.ext
    match a with
    | ⟨0, _⟩ => show 0 = (i 0).val; omega
    | ⟨1, _⟩ => show 0 = (i 1).val; omega
    | ⟨2, _⟩ => exact (congrArg Fin.val (congrFun e ⟨0, by decide⟩)).symm
    | ⟨3, _⟩ => exact (congrArg Fin.val (congrFun e ⟨1, by decide⟩)).symm
    | ⟨4, _⟩ => show 0 = (i 4).val; omega
  · rintro ⟨p, rfl⟩
    funext a
    apply Fin.ext
    match a with
    | ⟨0, _⟩ => rfl
    | ⟨1, _⟩ => rfl

/-- The sums of the gradient of the mixed rows. -/
def sumsV (d : FVec Ideal S4096x1024 .f32) (h : FVec Ideal S4096x2048 .f32) : FVec Ideal S128x8 .f32 :=
  Host.reduceAdd (shapeCast S1x1x128x8x1 (Host.reduceAdd (shapeCast S1x32x128x8x128 (mulf (geluV (leftV h)) d) shapeCasts_S4096x1024_S1x32x128x8x128)
    (constant S_ .f32 0x00000000#32) reducesTo_S1x32x128x8x128_S1x128x8_d1_4 h_S_) shapeCasts_S1x128x8_S1x1x128x8x1)
    (constant S_ .f32 0x00000000#32) reducesTo_S1x1x128x8x1_S128x8_d0_1_4 h_S_

/-- The sums on every lane. -/
def lanesV (d : FVec Ideal S4096x1024 .f32) (h : FVec Ideal S4096x2048 .f32) : FVec Ideal S8x128x128 .f32 :=
  broadcastInDim S8x128x128 ![0, 1, 2] bcast_S8x128x1_S8x128x128_0_1_2 (broadcastInDim S8x128x1 ![0, 1] bcast_S8x128_S8x128x1_0_1
    (transpose S8x128 [1, 0] (sumsV d h) transposes_S128x8_S8x128_1_0))

variable (D H : ℕ → ℕ → EReal)

theorem sumsV_grid : sumsV (grid .f32 4096 1024 D) (grid .f32 4096 2048 H) = grid .f32 128 8 fun t g => across (total D H 32) g t := by
  unfold sumsV
  rw [leftV_grid, geluV_grid]
  refine eq_grid fun t g => ?_
  rw [single_apply]
  have e : ∀ x : FVec Ideal S1x128x8 .f32, (shapeCast S1x1x128x8x1 x shapeCasts_S1x128x8_S1x1x128x8x1 : FVec Ideal S1x1x128x8x1 .f32) (ix5 0 0 t g 0) = x (ix3 0 t g) := fun x => by
    pointwise
  rw [e, blocks_apply, sum_comm]
  unfold across
  rw [← sum_below fun k => total D H 32 t.val (128 * g.val + k)]
  refine sum_congr rfl fun k _ => ?_
  unfold total
  rw [← sum_below fun b => D (128 * b + t.val) (128 * g.val + k.val) * gelu (H (128 * b + t.val) (128 * g.val + k.val))]
  refine sum_congr rfl fun b _ => ?_
  pointwise [grid_ix2]
  rw [mul_comm b.val, mul_comm g.val, mul_comm (gelu _)]

theorem lanesV_slabs : lanesV (grid .f32 4096 1024 D) (grid .f32 4096 2048 H) = slabs .f32 8 128 128 (fun g t _ => across (total D H 32) g t) := by
  unfold lanesV
  rw [sumsV_grid]
  refine eq_slabs fun g t s => ?_
  pointwise [grid_ix2]

end Cert.ReferenceMixIdeal.Own

end
-- ==== Proof.Mix.Claims.lean ====
/- The claims about the gradients of the gate's mixing weights and biases. -/
module

public import proofs.«01_k».proof.Defs
public import proofs.«01_k».proof.Proof.Mix.BiasReference
public import proofs.«01_k».proof.Proof.Gen.KernelMix.Frame
public import Idealize.ShloMosaic.Lib.Quiescent

@[expose] public section

noncomputable section

namespace Cert.Mix

open Idealize.ShloMosaic Idealize.SL.Sem

theorem frame : Cert.quiescent_KernelMix := fun m ρ _ => KernelMix.Gen.frame m ρ

theorem frame_ideal : Cert.quiescent_KernelMixIdeal := fun m ρ _ => KernelMixIdeal.Gen.frame m ρ

theorem reference_frame : Cert.quiescent_ReferenceMixIdeal := fun m ρ _ =>
  (θ_run ReferenceMixIdeal.defs _ _).mono (fun r h => ⟨fun c => (h c).2.2, sem_eq_zero_of_no_sems (by decide) r.2⟩)
    (ReferenceMixIdeal.Value.run (F := Ideal) m ρ)

theorem equal : Cert.algebraic_KernelMixIdeal_ReferenceMixIdeal := by
  intro m g m' g' _ hagree
  refine ⟨fun c => (KernelMixIdeal.Gen.dats m 0 c).arrAt 7 KernelMixIdeal.cfg0.N, fun c => (KernelMixIdeal.Gen.dats m 0 c).arrAt 8 KernelMixIdeal.cfg0.N,
    (θ_run KernelMixIdeal.defs _ _).mono (fun r h c => ⟨(h c).2.1, (h c).2.2.1, (h c).2.2.2.2.2⟩) (KernelMixIdeal.Value.run_blocks m g), ?_⟩
  refine (θ_run ReferenceMixIdeal.defs _ _).mono (fun r h c => ?_) (ReferenceMixIdeal.Value.run (F := Ideal) m' g')
  obtain ⟨h0, h1, hk⟩ := h c
  obtain ⟨a0, a1, a2, a3⟩ := hagree c
  obtain ⟨D, hD⟩ := Cert.Lin.exists_grid (φ := .f32) (m ((c.tc : Thread KernelMixIdeal.nD KernelMixIdeal.τ).loc KernelMixIdeal.main_arg0))
  obtain ⟨H, hH⟩ := Cert.Lin.exists_grid (φ := .f32) (m ((c.tc : Thread KernelMixIdeal.nD KernelMixIdeal.τ).loc KernelMixIdeal.main_arg1))
  obtain ⟨Y, hY⟩ := Cert.Lin.exists_grid (φ := .f32) (m ((c.tc : Thread KernelMixIdeal.nD KernelMixIdeal.τ).loc KernelMixIdeal.main_arg2))
  rw [a0.trans hD, a1.trans hH, a2.trans hY] at h0
  rw [a0.trans hD, a1.trans hH] at h1
  exact ⟨h0.trans ((ReferenceMixIdeal.Own.allV_slabs D H Y).trans (KernelMixIdeal.Own.final7 ⟨hD, hH, hY⟩).symm),
    h1.trans ((ReferenceMixIdeal.Own.lanesV_slabs D H).trans (KernelMixIdeal.Own.final8 ⟨hD, hH, hY⟩).symm), hk⟩

end Cert.Mix

end
-- ==== Proof.lean ====
/- The proof of the certificate's claims. The kernel's run is in Proof/Ideal (the same program over the unnamed constants is taken from it in
   Proof/Bits), its values and the reference's on real arguments in Proof/Value. Each further call has a directory of its own, and Proof/Lin what they share. -/
module

public import proofs.«01_k».proof.Defs
public import proofs.«01_k».proof.Proof.Ideal.Frame
public import proofs.«01_k».proof.Proof.Bits.Frame
public import proofs.«01_k».proof.Proof.Value.Finite
public import proofs.«01_k».proof.Proof.Value.Host
public import proofs.«01_k».proof.Proof.Value.Ref
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import proofs.«01_k».proof.Proof.Relu.Claims
public import proofs.«01_k».proof.Proof.Gen.KernelRelu.Frame
public import proofs.«01_k».proof.Proof.Gen.KernelReluIdeal.Value
public import proofs.«01_k».proof.Proof.Gen.ReferenceReluIdeal.Run
public import proofs.«01_k».proof.Proof.W2.Claims
public import proofs.«01_k».proof.Proof.Gen.KernelW2.Frame
public import proofs.«01_k».proof.Proof.Gen.KernelW2Ideal.Value
public import proofs.«01_k».proof.Proof.Gen.ReferenceW2Ideal.Run
public import proofs.«01_k».proof.Proof.W1.Claims
public import proofs.«01_k».proof.Proof.Gen.KernelW1.Frame
public import proofs.«01_k».proof.Proof.Gen.KernelW1Ideal.Value
public import proofs.«01_k».proof.Proof.Gen.ReferenceW1Ideal.Run
public import proofs.«01_k».proof.Proof.Norm.Claims
public import proofs.«01_k».proof.Proof.Gen.KernelNorm.Frame
public import proofs.«01_k».proof.Proof.Gen.KernelNormIdeal.Value
public import proofs.«01_k».proof.Proof.Gen.ReferenceNormIdeal.Run
public import proofs.«01_k».proof.Proof.NormIn.Claims
public import proofs.«01_k».proof.Proof.Gen.KernelNormIn.Frame
public import proofs.«01_k».proof.Proof.Gen.KernelNormInIdeal.Value
public import proofs.«01_k».proof.Proof.Gen.ReferenceNormInIdeal.Run
public import proofs.«01_k».proof.Proof.OutDx.Claims
public import proofs.«01_k».proof.Proof.Gen.KernelOutDx.Frame
public import proofs.«01_k».proof.Proof.Gen.KernelOutDxIdeal.Value
public import proofs.«01_k».proof.Proof.Gen.ReferenceOutDxIdeal.Run
public import proofs.«01_k».proof.Proof.OutDw.Claims
public import proofs.«01_k».proof.Proof.Gen.KernelOutDw.Frame
public import proofs.«01_k».proof.Proof.Gen.KernelOutDwIdeal.Value
public import proofs.«01_k».proof.Proof.Gen.ReferenceOutDwIdeal.Run
public import proofs.«01_k».proof.Proof.KDw.Claims
public import proofs.«01_k».proof.Proof.Gen.KernelKDw.Frame
public import proofs.«01_k».proof.Proof.Gen.KernelKDwIdeal.Value
public import proofs.«01_k».proof.Proof.Gen.ReferenceKDwIdeal.Run
public import proofs.«01_k».proof.Proof.InDw.Claims
public import proofs.«01_k».proof.Proof.Gen.KernelInDw.Frame
public import proofs.«01_k».proof.Proof.Gen.KernelInDwIdeal.Value
public import proofs.«01_k».proof.Proof.Gen.ReferenceInDwIdeal.Run
public import proofs.«01_k».proof.Proof.QDx.Claims
public import proofs.«01_k».proof.Proof.Gen.KernelQDx.Frame
public import proofs.«01_k».proof.Proof.Gen.KernelQDxIdeal.Value
public import proofs.«01_k».proof.Proof.Gen.ReferenceQDxIdeal.Run
public import proofs.«01_k».proof.Proof.KDx.Claims
public import proofs.«01_k».proof.Proof.Gen.KernelKDx.Frame
public import proofs.«01_k».proof.Proof.Gen.KernelKDxIdeal.Value
public import proofs.«01_k».proof.Proof.Gen.ReferenceKDxIdeal.Run
public import proofs.«01_k».proof.Proof.InDx.Claims
public import proofs.«01_k».proof.Proof.Gen.KernelInDx.Frame
public import proofs.«01_k».proof.Proof.Gen.KernelInDxIdeal.Value
public import proofs.«01_k».proof.Proof.Gen.ReferenceInDxIdeal.Run
public import proofs.«01_k».proof.Proof.Hidden.Claims
public import proofs.«01_k».proof.Proof.Gen.KernelHidden.Frame
public import proofs.«01_k».proof.Proof.Gen.KernelHiddenIdeal.Value
public import proofs.«01_k».proof.Proof.Gen.ReferenceHiddenIdeal.Run
public import proofs.«01_k».proof.Proof.In.Claims
public import proofs.«01_k».proof.Proof.Gen.KernelIn.Frame
public import proofs.«01_k».proof.Proof.Gen.KernelInIdeal.Value
public import proofs.«01_k».proof.Proof.Gen.ReferenceInIdeal.Run
public import proofs.«01_k».proof.Proof.Q.Claims
public import proofs.«01_k».proof.Proof.Gen.KernelQ.Frame
public import proofs.«01_k».proof.Proof.Gen.KernelQIdeal.Value
public import proofs.«01_k».proof.Proof.Gen.ReferenceQIdeal.Run
public import proofs.«01_k».proof.Proof.V.Claims
public import proofs.«01_k».proof.Proof.Gen.KernelV.Frame
public import proofs.«01_k».proof.Proof.Gen.KernelVIdeal.Value
public import proofs.«01_k».proof.Proof.Gen.ReferenceVIdeal.Run
public import proofs.«01_k».proof.Proof.Ffn.Claims
public import proofs.«01_k».proof.Proof.Gen.KernelFfn.Frame
public import proofs.«01_k».proof.Proof.Gen.KernelFfnIdeal.Value
public import proofs.«01_k».proof.Proof.Gen.ReferenceFfnIdeal.Run
public import proofs.«01_k».proof.Proof.Out.Claims
public import proofs.«01_k».proof.Proof.Ln.Claims
public import proofs.«01_k».proof.Proof.Head.Claims
public import proofs.«01_k».proof.Proof.GateNorm.Claims
public import proofs.«01_k».proof.Proof.Prev.Claims
public import proofs.«01_k».proof.Proof.Adam.Claims
public import proofs.«01_k».proof.Proof.Gate.Claims
public import proofs.«01_k».proof.Proof.Mix.Claims
public import proofs.«01_k».proof.Proof.Gen.KernelOut.Frame
public import proofs.«01_k».proof.Proof.Gen.KernelOutIdeal.Value
public import proofs.«01_k».proof.Proof.Gen.ReferenceOutIdeal.Run
public import proofs.«01_k».proof.Proof.Gen.KernelLn.Frame
public import proofs.«01_k».proof.Proof.Gen.KernelLnIdeal.Value
public import proofs.«01_k».proof.Proof.Gen.ReferenceLnIdeal.Run
public import proofs.«01_k».proof.Proof.Gen.KernelHead.Frame
public import proofs.«01_k».proof.Proof.Gen.KernelHeadIdeal.Value
public import proofs.«01_k».proof.Proof.Gen.ReferenceHeadIdeal.Run
public import proofs.«01_k».proof.Proof.Gen.KernelGateNorm.Frame
public import proofs.«01_k».proof.Proof.Gen.KernelGateNormIdeal.Value
public import proofs.«01_k».proof.Proof.Gen.ReferenceGateNormIdeal.Run
public import proofs.«01_k».proof.Proof.Gen.KernelAdam.Frame
public import proofs.«01_k».proof.Proof.Gen.KernelAdamIdeal.Value
public import proofs.«01_k».proof.Proof.Gen.ReferenceAdamIdeal.Run
public import proofs.«01_k».proof.Proof.Gen.KernelGate.Frame
public import proofs.«01_k».proof.Proof.Gen.KernelGateIdeal.Value
public import proofs.«01_k».proof.Proof.Gen.ReferenceGateIdeal.Run
public import proofs.«01_k».proof.Proof.Gen.KernelMix.Frame
public import proofs.«01_k».proof.Proof.Gen.KernelMixIdeal.Value
public import proofs.«01_k».proof.Proof.Gen.ReferenceMixIdeal.Run
public import proofs.«01_k».proof.Proof.Gen.KernelPrev
public import proofs.«01_k».proof.Proof.Gen.KernelPrevIdeal.Frame
public import proofs.«01_k».proof.Proof.Gen.KernelPrevIdeal.Loops
public import proofs.«01_k».proof.Proof.Gen.KernelPrevIdeal.Points
public import proofs.«01_k».proof.Proof.Gen.ReferencePrevIdeal.Run

@[expose] public section

noncomputable section

namespace Cert.Proof

open Idealize.ShloMosaic Idealize.SL.Sem

/-- At the extended reals the constant named `log2e` is the reciprocal of log 2. -/
theorem preserved : Cert.preserves_Kernel_KernelIdeal :=
  IdealRules.named_const.statement Cert.KernelIdeal.κ "log2e" .f32 0x3FB8AA3B#32 _ rfl

theorem reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- On real arguments the kernel and the reference compute the same three gradients. -/
theorem equal : Cert.algebraic_KernelIdeal_ReferenceIdeal_pre_finite := by
  intro m g m' g' hpre hagree
  refine ⟨fun c => Cert.ReferenceIdeal.Value.res_main_v53 m' c, fun c => Cert.ReferenceIdeal.Value.res_main_v50 m' c,
    fun c => Cert.ReferenceIdeal.Value.res_main_v48 m' c, ?_, Cert.ReferenceIdeal.Value.run (F := Ideal) m' g'⟩
  refine (θ_run Cert.KernelIdeal.defs _ _).mono (fun r h c => ?_) (θ_run_and (Cert.KernelIdeal.Own.run_main m g) (Cert.KernelIdeal.Own.frame m g))
  obtain ⟨⟨Q, hQ⟩, ⟨K, hK⟩, ⟨W, hW⟩, ⟨D, hD⟩⟩ := Cert.Pre_finite.real_of_finite (hpre c)
  obtain ⟨a0, a1, a2, a3⟩ := hagree c
  have E := Cert.KernelIdeal.Own.entry (m := m) (c := c) ⟨hQ, hK, hW, hD⟩
  have R : Cert.ReferenceIdeal.Own.Args m' c Q K W D := ⟨a0.trans hQ, a1.trans hK, a2.trans hW, a3.trans hD⟩
  have k0 : r.2.mem ((c.tc : Thread Cert.KernelIdeal.nD Cert.KernelIdeal.τ).loc Cert.KernelIdeal.main_v41_0)
    = (Cert.KernelIdeal.Own.dats m 0 c).arrAt 6 Cert.KernelIdeal.cfg0.N := (h.1 c).1 6
  have k1 : r.2.mem ((c.tc : Thread Cert.KernelIdeal.nD Cert.KernelIdeal.τ).loc Cert.KernelIdeal.main_v41_1)
    = (Cert.KernelIdeal.Own.dats m 0 c).arrAt 7 Cert.KernelIdeal.cfg0.N := (h.1 c).1 7
  have k2 : r.2.mem ((c.tc : Thread Cert.KernelIdeal.nD Cert.KernelIdeal.τ).loc Cert.KernelIdeal.main_v41_2)
    = (Cert.KernelIdeal.Own.dats m 0 c).arrAt 8 Cert.KernelIdeal.cfg0.N := (h.1 c).1 8
  refine ⟨?_, ?_, ?_, h.2.1 c⟩
  · rw [k0, Cert.KernelIdeal.Own.final6 E]
    exact (Cert.ReferenceIdeal.Own.out0 R).symm
  · rw [k1, Cert.KernelIdeal.Own.final7 E]
    exact (Cert.ReferenceIdeal.Own.out1 R).symm
  · rw [k2, Cert.KernelIdeal.Own.final8 E]
    exact (Cert.ReferenceIdeal.Own.out2 R).symm

theorem claim : Cert.Claim := ⟨Cert.Kernel.Gen.facts, Cert.KernelIdeal.Gen.facts, Cert.ReferenceIdeal.Gen.facts,
  Cert.KernelRelu.Gen.facts, Cert.KernelReluIdeal.Gen.facts, Cert.ReferenceReluIdeal.Gen.facts,
  Cert.KernelW2.Gen.facts, Cert.KernelW2Ideal.Gen.facts, Cert.ReferenceW2Ideal.Gen.facts,
  Cert.KernelW1.Gen.facts, Cert.KernelW1Ideal.Gen.facts, Cert.ReferenceW1Ideal.Gen.facts,
  Cert.KernelNorm.Gen.facts, Cert.KernelNormIdeal.Gen.facts, Cert.ReferenceNormIdeal.Gen.facts,
  Cert.KernelNormIn.Gen.facts, Cert.KernelNormInIdeal.Gen.facts, Cert.ReferenceNormInIdeal.Gen.facts,
  Cert.KernelOutDx.Gen.facts, Cert.KernelOutDxIdeal.Gen.facts, Cert.ReferenceOutDxIdeal.Gen.facts,
  Cert.KernelOutDw.Gen.facts, Cert.KernelOutDwIdeal.Gen.facts, Cert.ReferenceOutDwIdeal.Gen.facts,
  Cert.KernelKDw.Gen.facts, Cert.KernelKDwIdeal.Gen.facts, Cert.ReferenceKDwIdeal.Gen.facts,
  Cert.KernelInDw.Gen.facts, Cert.KernelInDwIdeal.Gen.facts, Cert.ReferenceInDwIdeal.Gen.facts,
  Cert.KernelQDx.Gen.facts, Cert.KernelQDxIdeal.Gen.facts, Cert.ReferenceQDxIdeal.Gen.facts,
  Cert.KernelKDx.Gen.facts, Cert.KernelKDxIdeal.Gen.facts, Cert.ReferenceKDxIdeal.Gen.facts,
  Cert.KernelInDx.Gen.facts, Cert.KernelInDxIdeal.Gen.facts, Cert.ReferenceInDxIdeal.Gen.facts,
  Cert.KernelHidden.Gen.facts, Cert.KernelHiddenIdeal.Gen.facts, Cert.ReferenceHiddenIdeal.Gen.facts,
  Cert.KernelIn.Gen.facts, Cert.KernelInIdeal.Gen.facts, Cert.ReferenceInIdeal.Gen.facts,
  Cert.KernelQ.Gen.facts, Cert.KernelQIdeal.Gen.facts, Cert.ReferenceQIdeal.Gen.facts,
  Cert.KernelV.Gen.facts, Cert.KernelVIdeal.Gen.facts, Cert.ReferenceVIdeal.Gen.facts,
  Cert.KernelFfn.Gen.facts, Cert.KernelFfnIdeal.Gen.facts, Cert.ReferenceFfnIdeal.Gen.facts,
  Cert.KernelOut.Gen.facts, Cert.KernelOutIdeal.Gen.facts, Cert.ReferenceOutIdeal.Gen.facts,
  Cert.KernelLn.Gen.facts, Cert.KernelLnIdeal.Gen.facts, Cert.ReferenceLnIdeal.Gen.facts,
  Cert.KernelHead.Gen.facts, Cert.KernelHeadIdeal.Gen.facts, Cert.ReferenceHeadIdeal.Gen.facts,
  Cert.KernelGateNorm.Gen.facts, Cert.KernelGateNormIdeal.Gen.facts, Cert.ReferenceGateNormIdeal.Gen.facts,
  Cert.KernelPrev.Gen.facts, Cert.KernelPrevIdeal.Gen.facts, Cert.ReferencePrevIdeal.Gen.facts,
  Cert.KernelAdam.Gen.facts, Cert.KernelAdamIdeal.Gen.facts, Cert.ReferenceAdamIdeal.Gen.facts,
  Cert.KernelGate.Gen.facts, Cert.KernelGateIdeal.Gen.facts, Cert.ReferenceGateIdeal.Gen.facts,
  Cert.KernelMix.Gen.facts, Cert.KernelMixIdeal.Gen.facts, Cert.ReferenceMixIdeal.Gen.facts,
  Cert.Pre_finite.facts, Cert.Pre_finite_norm.facts, Cert.Pre_finite_norm_in.facts, Cert.Pre_finite_ln.facts, Cert.Pre_finite_head.facts,
  Cert.Pre_finite_prev.facts,
  fun m ρ _ => Cert.Kernel.Own.frame m ρ, fun m ρ _ => Cert.KernelIdeal.Own.frame m ρ, fun m ρ _ => Cert.KernelIdeal.Own.frame m ρ,
  reference_frame, fun m ρ _ => reference_frame m ρ trivial,
  Cert.Relu.frame, Cert.Relu.frame_ideal, Cert.Relu.reference_frame,
  Cert.W2.frame, Cert.W2.frame_ideal, Cert.W2.reference_frame,
  Cert.W1.frame, Cert.W1.frame_ideal, Cert.W1.reference_frame,
  Cert.Norm.frame, Cert.Norm.frame_ideal, Cert.Norm.frame_ideal_pre, Cert.Norm.reference_frame, Cert.Norm.reference_frame_pre,
  Cert.NormIn.frame, Cert.NormIn.frame_ideal, Cert.NormIn.frame_ideal_pre, Cert.NormIn.reference_frame, Cert.NormIn.reference_frame_pre,
  Cert.OutDx.frame, Cert.OutDx.frame_ideal, Cert.OutDx.reference_frame,
  Cert.OutDw.frame, Cert.OutDw.frame_ideal, Cert.OutDw.reference_frame,
  Cert.KDw.frame, Cert.KDw.frame_ideal, Cert.KDw.reference_frame,
  Cert.InDw.frame, Cert.InDw.frame_ideal, Cert.InDw.reference_frame,
  Cert.QDx.frame, Cert.QDx.frame_ideal, Cert.QDx.reference_frame,
  Cert.KDx.frame, Cert.KDx.frame_ideal, Cert.KDx.reference_frame,
  Cert.InDx.frame, Cert.InDx.frame_ideal, Cert.InDx.reference_frame,
  Cert.Hidden.frame, Cert.Hidden.frame_ideal, Cert.Hidden.reference_frame,
  Cert.In.frame, Cert.In.frame_ideal, Cert.In.reference_frame,
  Cert.Q.frame, Cert.Q.frame_ideal, Cert.Q.reference_frame,
  Cert.V.frame, Cert.V.frame_ideal, Cert.V.reference_frame,
  Cert.Ffn.frame, Cert.Ffn.frame_ideal, Cert.Ffn.reference_frame,
  Cert.Out.frame, Cert.Out.frame_ideal, Cert.Out.reference_frame,
  Cert.Ln.frame, Cert.Ln.frame_ideal, Cert.Ln.frame_ideal_pre, Cert.Ln.reference_frame, Cert.Ln.reference_frame_pre,
  Cert.Head.frame, Cert.Head.frame_ideal, Cert.Head.frame_ideal_pre, Cert.Head.reference_frame, Cert.Head.reference_frame_pre,
  Cert.GateNorm.frame, Cert.GateNorm.frame_ideal, Cert.GateNorm.reference_frame,
  Cert.Prev.frame, Cert.Prev.frame_ideal, Cert.Prev.frame_ideal_pre, Cert.Prev.reference_frame, Cert.Prev.reference_frame_pre,
  Cert.Adam.frame, Cert.Adam.frame_ideal, Cert.Adam.reference_frame,
  Cert.Gate.frame, Cert.Gate.frame_ideal, Cert.Gate.reference_frame,
  Cert.Mix.frame, Cert.Mix.frame_ideal, Cert.Mix.reference_frame,
  preserved, equal,
  trivial, Cert.Relu.equal, trivial, Cert.W2.equal, trivial, Cert.W1.equal, trivial, Cert.Norm.equal,
  trivial, Cert.NormIn.equal, trivial, Cert.OutDx.equal, trivial, Cert.OutDw.equal, trivial, Cert.KDw.equal,
  trivial, Cert.InDw.equal, trivial, Cert.QDx.equal, trivial, Cert.KDx.equal, trivial, Cert.InDx.equal,
  trivial, Cert.Hidden.equal, trivial, Cert.In.equal, trivial, Cert.Q.equal, trivial, Cert.V.equal,
  trivial, Cert.Ffn.equal, trivial, Cert.Out.equal,
  trivial, Cert.Ln.equal, trivial, Cert.Head.equal, trivial, Cert.GateNorm.equal, Cert.Prev.preserved, Cert.Prev.equal,
  trivial, Cert.Adam.equal, trivial, Cert.Gate.equal, trivial, Cert.Mix.equal⟩

end Cert.Proof

end
